-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inputs [hPre_finite_inputs : Cert.Pre_finite_inputs.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).1 = (fun _ => 1#1)
    ∧ (Cert.Pre_finite_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.1 = (fun _ => 1#1)
    ∧ (Cert.Pre_finite_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.1 = (fun _ => 1#1)
    ∧ (Cert.Pre_finite_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inputs [hPre_finite_inputs : Cert.Pre_finite_inputs.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).1 = (fun _ => 1#1)
    ∧ (Cert.Pre_finite_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.1 = (fun _ => 1#1)
    ∧ (Cert.Pre_finite_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.1 = (fun _ => 1#1)
    ∧ (Cert.Pre_finite_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_finite_inputs [hKernel3Ideal : Cert.Kernel3Ideal.Facts] [hPre_finite_inputs : Cert.Pre_finite_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inputs m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_finite_inputs [hReference3Ideal : Cert.Reference3Ideal.Facts] [hPre_finite_inputs : Cert.Pre_finite_inputs.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inputs m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v122) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "qk_scale" .f32 0x3E38AA3B#32 (((1 / 8) * (Real.log 2)⁻¹ : ℝ) : EReal)
  ∧ IdealRules.named_const.Statement Cert.Kernel3Ideal.κ "masked" .f32 0xF149F2CA#32 ⊥
  ∧ IdealRules.named_const.Statement Cert.Kernel3Ideal.κ "log2e" .f32 0x3FB8AA3B#32 (((Real.log 2)⁻¹ : ℝ) : EReal)

def algebraic_Kernel3Ideal_Reference3Ideal_pre_finite_inputs [hKernel3Ideal : Cert.Kernel3Ideal.Facts] [hReference3Ideal : Cert.Reference3Ideal.Facts] [hPre_finite_inputs : Cert.Pre_finite_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inputs m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)) (v2 : (c : Dev Cert.Kernel3Ideal.nD) → Buf (Elt Ideal) ((c.tc : Thread Cert.Kernel3Ideal.nD Cert.Kernel3Ideal.τ).loc Cert.Kernel3Ideal.main_v32_2)) (v3 : (c : Dev Cert.Kernel3Ideal.nD) → Buf (Elt Ideal) ((c.tc : Thread Cert.Kernel3Ideal.nD Cert.Kernel3Ideal.τ).loc Cert.Kernel3Ideal.main_v32_3)) (v4 : (c : Dev Cert.Kernel3Ideal.nD) → Buf (Elt Ideal) ((c.tc : Thread Cert.Kernel3Ideal.nD Cert.Kernel3Ideal.τ).loc Cert.Kernel3Ideal.main_v32_4)) (v5 : (c : Dev Cert.Kernel3Ideal.nD) → Buf (Elt Ideal) ((c.tc : Thread Cert.Kernel3Ideal.nD Cert.Kernel3Ideal.τ).loc Cert.Kernel3Ideal.main_v32_5)) (v6 : (c : Dev Cert.Kernel3Ideal.nD) → Buf (Elt Ideal) ((c.tc : Thread Cert.Kernel3Ideal.nD Cert.Kernel3Ideal.τ).loc Cert.Kernel3Ideal.main_v32_6)) (v7 : (c : Dev Cert.Kernel3Ideal.nD) → Buf (Elt Ideal) ((c.tc : Thread Cert.Kernel3Ideal.nD Cert.Kernel3Ideal.τ).loc Cert.Kernel3Ideal.main_v32_7)) (v8 : (c : Dev Cert.Kernel3Ideal.nD) → Buf (Elt Ideal) ((c.tc : Thread Cert.Kernel3Ideal.nD Cert.Kernel3Ideal.τ).loc Cert.Kernel3Ideal.main_v32_8)) (v9 : (c : Dev Cert.Kernel3Ideal.nD) → Buf (Elt Ideal) ((c.tc : Thread Cert.Kernel3Ideal.nD Cert.Kernel3Ideal.τ).loc Cert.Kernel3Ideal.main_v32_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_v32_2) = v2 c
          ∧ r.2.mem ((c.tc : Thread Cert.Kernel3Ideal.nD Cert.Kernel3Ideal.τ).loc Cert.Kernel3Ideal.main_v32_3) = v3 c
          ∧ r.2.mem ((c.tc : Thread Cert.Kernel3Ideal.nD Cert.Kernel3Ideal.τ).loc Cert.Kernel3Ideal.main_v32_4) = v4 c
          ∧ r.2.mem ((c.tc : Thread Cert.Kernel3Ideal.nD Cert.Kernel3Ideal.τ).loc Cert.Kernel3Ideal.main_v32_5) = v5 c
          ∧ r.2.mem ((c.tc : Thread Cert.Kernel3Ideal.nD Cert.Kernel3Ideal.τ).loc Cert.Kernel3Ideal.main_v32_6) = v6 c
          ∧ r.2.mem ((c.tc : Thread Cert.Kernel3Ideal.nD Cert.Kernel3Ideal.τ).loc Cert.Kernel3Ideal.main_v32_7) = v7 c
          ∧ r.2.mem ((c.tc : Thread Cert.Kernel3Ideal.nD Cert.Kernel3Ideal.τ).loc Cert.Kernel3Ideal.main_v32_8) = v8 c
          ∧ r.2.mem ((c.tc : Thread Cert.Kernel3Ideal.nD Cert.Kernel3Ideal.τ).loc Cert.Kernel3Ideal.main_v32_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v294) = v0 c
          ∧ r.2.mem ((c.tc : Thread Cert.Reference3Ideal.nD Cert.Reference3Ideal.τ).loc Cert.Reference3Ideal.main_v297) = v1 c
          ∧ r.2.mem ((c.tc : Thread Cert.Reference3Ideal.nD Cert.Reference3Ideal.τ).loc Cert.Reference3Ideal.main_v299) = v2 c
          ∧ r.2.mem ((c.tc : Thread Cert.Reference3Ideal.nD Cert.Reference3Ideal.τ).loc Cert.Reference3Ideal.main_v202) = v3 c
          ∧ r.2.mem ((c.tc : Thread Cert.Reference3Ideal.nD Cert.Reference3Ideal.τ).loc Cert.Reference3Ideal.main_v303) = v4 c
          ∧ r.2.mem ((c.tc : Thread Cert.Reference3Ideal.nD Cert.Reference3Ideal.τ).loc Cert.Reference3Ideal.main_v307) = v5 c
          ∧ r.2.mem ((c.tc : Thread Cert.Reference3Ideal.nD Cert.Reference3Ideal.τ).loc Cert.Reference3Ideal.main_v308) = v6 c
          ∧ r.2.mem ((c.tc : Thread Cert.Reference3Ideal.nD Cert.Reference3Ideal.τ).loc Cert.Reference3Ideal.main_v309) = v7 c
          ∧ r.2.mem ((c.tc : Thread Cert.Reference3Ideal.nD Cert.Reference3Ideal.τ).loc Cert.Reference3Ideal.main_v310) = v8 c
          ∧ r.2.mem ((c.tc : Thread Cert.Reference3Ideal.nD Cert.Reference3Ideal.τ).loc Cert.Reference3Ideal.main_v311) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_inputs (hKernel3Ideal := hKernel3Ideal) (hPre_finite_inputs := hPre_finite_inputs)
    ∧ quiescent_Reference3Ideal (hReference3Ideal := hReference3Ideal)
    ∧ quiescent_Reference3Ideal_pre_finite_inputs (hReference3Ideal := hReference3Ideal) (hPre_finite_inputs := hPre_finite_inputs)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_inputs (hKernel3Ideal := hKernel3Ideal) (hReference3Ideal := hReference3Ideal) (hPre_finite_inputs := hPre_finite_inputs)
-- ==== Pre_finite_inputs.lean ====
abbrev S2x8192x1024 : Shape := ⟨3, ![2, 8192, 1024]⟩
abbrev S1x1024 : Shape := ⟨2, ![1, 1024]⟩
abbrev S1024x4096 : Shape := ⟨2, ![1024, 4096]⟩
abbrev S4x128x128 : Shape := ⟨3, ![4, 128, 128]⟩
abbrev S1x512 : Shape := ⟨2, ![1, 512]⟩
abbrev S16 : Shape := ⟨1, ![16]⟩
abbrev S512x1024 : Shape := ⟨2, ![512, 1024]⟩
abbrev S1024x1024 : Shape := ⟨2, ![1024, 1024]⟩
abbrev S256x128 : Shape := ⟨2, ![256, 128]⟩
abbrev S128x256x128 : Shape := ⟨3, ![128, 256, 128]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩

class Facts : Prop where
  bcast_S_S2x8192x1024 : S_.BroadcastsInDim S2x8192x1024 (![] : Fin 0 → Fin S2x8192x1024.rank)
  bcast_S_S1x1024 : S_.BroadcastsInDim S1x1024 (![] : Fin 0 → Fin S1x1024.rank)
  bitsLt_bf16_f32 : FTy.bits .bf16 < FTy.bits .f32
  bcast_S_S1024x4096 : S_.BroadcastsInDim S1024x4096 (![] : Fin 0 → Fin S1024x4096.rank)
  bcast_S_S16 : S_.BroadcastsInDim S16 (![] : Fin 0 → Fin S16.rank)

variable [Facts]

def fn {F : FTy → Type} [FloatOps F] (main_arg0 : FVec F S2x8192x1024 .f32) (main_arg1 : FVec F S1x1024 .f32) (main_arg2 : FVec F S1024x4096 .bf16) (main_arg3 : FVec F S4x128x128 .bf16) (main_arg4 : FVec F S1x512 .f32) (main_arg5 : FVec F S16 .f32) (main_arg6 : FVec F S512x1024 .bf16) (main_arg7 : FVec F S1024x1024 .bf16) (main_arg8 : FVec F S1024x1024 .bf16) (main_arg9 : FVec F S256x128 .f32) (main_arg10 : FVec F S256x128 .f32) (main_arg11 : FVec F S128x256x128 .f32) (main_arg12 : FVec F S128x256x128 .f32) (main_arg13 : FVec F S1024x5632 .f32) (main_arg14 : FVec F S2816x1024 .f32) (main_arg15 : FVec F S256x1024 .f32) (main_arg16 : FVec F S1024x1024 .f32) : IVec S2x8192x1024 1 × IVec S1x1024 1 × IVec S1024x4096 1 × IVec S16 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := (extf .f32 · bitsLt_bf16_f32) main_arg2
  let main_v7 : FVec F S1024x4096 .f32 := Host.absf main_v6
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_v10 : FVec F S16 .f32 := Host.absf main_arg5
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  (main_v2, main_v5, main_v9, main_v12)
-- ==== Pre_finite_scores.lean ====
abbrev S128x16x64 : Shape := ⟨3, ![128, 16, 64]⟩
abbrev S128x256 : Shape := ⟨2, ![128, 256]⟩
abbrev S1x128x128x4x64 : Shape := ⟨5, ![1, 128, 128, 4, 64]⟩
abbrev S1x16 : Shape := ⟨2, ![1, 16]⟩
abbrev S1x1024x4096 : Shape := ⟨3, ![1, 1024, 4096]⟩
abbrev S1x4x128x128 : Shape := ⟨4, ![1, 4, 128, 128]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S128x16x64 : S_.BroadcastsInDim S128x16x64 (![] : Fin 0 → Fin S128x16x64.rank)
  bcast_S_S128x256 : S_.BroadcastsInDim S128x256 (![] : Fin 0 → Fin S128x256.rank)
  bcast_S_S1x128x128x4x64 : S_.BroadcastsInDim S1x128x128x4x64 (![] : Fin 0 → Fin S1x128x128x4x64.rank)
  bcast_S_S1x16 : S_.BroadcastsInDim S1x16 (![] : Fin 0 → Fin S1x16.rank)

variable [Facts]

def fn {F : FTy → Type} [FloatOps F] (main_arg0 : FVec F S128x16x64 .f32) (main_arg1 : FVec F S128x256 .f32) (main_arg2 : FVec F S128x256 .f32) (main_arg3 : FVec F S1x128x128x4x64 .f32) (main_arg4 : FVec F S1x128x128x4x64 .f32) (main_arg5 : FVec F S1x16 .f32) (main_arg6 : FVec F S1x1024x4096 .f32) (main_arg7 : FVec F S1x4x128x128 .f32) (main_arg8 : FVec F S1x512x1024 .f32) (main_arg9 : FVec F S1x1024x1024 .f32) (main_arg10 : FVec F S1x1024x1024 .f32) : IVec S128x16x64 1 × IVec S128x256 1 × IVec S1x128x128x4x64 1 × IVec S1x16 1 :=
  let main_v0 : FVec F S128x16x64 .f32 := Host.absf main_arg0
  let main_cst : FVec F S_ .f32 := constant S_ .f32 0x7F800000#32
  let main_v1 : FVec F S128x16x64 .f32 := broadcastInDim S128x16x64 ![] bcast_S_S128x16x64 main_cst
  let main_v2 : IVec S128x16x64 1 := cmpf .olt main_v0 main_v1
  let main_v3 : FVec F S128x256 .f32 := Host.absf main_arg1
  let main_cst_0 : FVec F S_ .f32 := constant S_ .f32 0x7F800000#32
  let main_v4 : FVec F S128x256 .f32 := broadcastInDim S128x256 ![] bcast_S_S128x256 main_cst_0
  let main_v5 : IVec S128x256 1 := cmpf .olt main_v3 main_v4
  let main_v6 : FVec F S1x128x128x4x64 .f32 := Host.absf main_arg3
  let main_cst_1 : FVec F S_ .f32 := constant S_ .f32 0x7F800000#32
  let main_v7 : FVec F S1x128x128x4x64 .f32 := broadcastInDim S1x128x128x4x64 ![] bcast_S_S1x128x128x4x64 main_cst_1
  let main_v8 : IVec S1x128x128x4x64 1 := cmpf .olt main_v6 main_v7
  let main_v9 : FVec F S1x16 .f32 := Host.absf main_arg5
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  (main_v2, main_v5, main_v8, main_v11)
-- ==== Kernel.lean ====
abbrev S128x16x64 : Shape := ⟨3, ![128, 16, 64]⟩
abbrev S128x256 : Shape := ⟨2, ![128, 256]⟩
abbrev S1x128x128x4x64 : Shape := ⟨5, ![1, 128, 128, 4, 64]⟩
abbrev S1x16 : Shape := ⟨2, ![1, 16]⟩
abbrev S1x1024x4096 : Shape := ⟨3, ![1, 1024, 4096]⟩
abbrev S1x4x128x128 : Shape := ⟨4, ![1, 4, 128, 128]⟩
abbrev S1x512x1024 : Shape := ⟨3, ![1, 512, 1024]⟩
abbrev S1x1024x1024 : Shape := ⟨3, ![1, 1024, 1024]⟩
abbrev S128x128x4x64 : Shape := ⟨4, ![128, 128, 4, 64]⟩
abbrev S128x4x64x128 : Shape := ⟨4, ![128, 4, 64, 128]⟩
abbrev S128x256x128 : Shape := ⟨3, ![128, 256, 128]⟩
abbrev S16 : Shape := ⟨1, ![16]⟩
abbrev S16x1 : Shape := ⟨2, ![16, 1]⟩
abbrev S_ : Shape := ⟨0, ![]⟩
abbrev S4 : Shape := ⟨1, ![4]⟩
abbrev S1x4 : Shape := ⟨2, ![1, 4]⟩
abbrev S16x4 : Shape := ⟨2, ![16, 4]⟩
abbrev S1x16x4x1 : Shape := ⟨4, ![1, 16, 4, 1]⟩
abbrev S128x16x1x64 : Shape := ⟨4, ![128, 16, 1, 64]⟩
abbrev S128x16x4x64 : Shape := ⟨4, ![128, 16, 4, 64]⟩
abbrev S2048x2x128 : Shape := ⟨3, ![2048, 2, 128]⟩
abbrev S2x2048x128 : Shape := ⟨3, ![2, 2048, 128]⟩
abbrev S1024x4096 : Shape := ⟨2, ![1024, 4096]⟩
abbrev S4x128x128 : Shape := ⟨3, ![4, 128, 128]⟩
abbrev S512x128 : Shape := ⟨2, ![512, 128]⟩
abbrev S512x1024 : Shape := ⟨2, ![512, 1024]⟩
abbrev S1024x1024 : Shape := ⟨2, ![1024, 1024]⟩
abbrev S2x256x128 : Shape := ⟨3, ![2, 256, 128]⟩
abbrev S16x256 : Shape := ⟨2, ![16, 256]⟩
abbrev S16x256x128 : Shape := ⟨3, ![16, 256, 128]⟩
abbrev S128x4096 : Shape := ⟨2, ![128, 4096]⟩
abbrev S64x128 : Shape := ⟨2, ![64, 128]⟩
abbrev S64x1024 : Shape := ⟨2, ![64, 1024]⟩
abbrev S128x1024 : Shape := ⟨2, ![128, 1024]⟩
abbrev S1x128 : Shape := ⟨2, ![1, 128]⟩
abbrev S1x16x128 : Shape := ⟨3, ![1, 16, 128]⟩
abbrev S16x128 : Shape := ⟨2, ![16, 128]⟩
abbrev S1x256x128 : Shape := ⟨3, ![1, 256, 128]⟩
abbrev S256x128 : Shape := ⟨2, ![256, 128]⟩
abbrev S1x256 : Shape := ⟨2, ![1, 256]⟩

abbrev nBuf : Space → Nat
  | .hbm => 66
  | .vmem => 33
  | .smem => 0
  | _ => 0

abbrev bufTy : (tb : Table) → Fin (tcTables nBuf tb) → BufTy
  | .hbm, ⟨0, _⟩ => ⟨S128x16x64, .f32⟩
  | .hbm, ⟨1, _⟩ => ⟨S128x256, .f32⟩
  | .hbm, ⟨2, _⟩ => ⟨S128x256, .f32⟩
  | .hbm, ⟨3, _⟩ => ⟨S1x128x128x4x64, .f32⟩
  | .hbm, ⟨4, _⟩ => ⟨S1x128x128x4x64, .f32⟩
  | .hbm, ⟨5, _⟩ => ⟨S1x16, .f32⟩
  | .hbm, ⟨6, _⟩ => ⟨S1x1024x4096, .f32⟩
  | .hbm, ⟨7, _⟩ => ⟨S1x4x128x128, .f32⟩
  | .hbm, ⟨8, _⟩ => ⟨S1x512x1024, .f32⟩
  | .hbm, ⟨9, _⟩ => ⟨S1x1024x1024, .f32⟩
  | .hbm, ⟨10, _⟩ => ⟨S1x1024x1024, .f32⟩
  | .hbm, ⟨11, _⟩ => ⟨S128x128x4x64, .f32⟩
  | .hbm, ⟨12, _⟩ => ⟨S128x4x64x128, .f32⟩
  | .hbm, ⟨13, _⟩ => ⟨S128x256x128, .f32⟩
  | .hbm, ⟨14, _⟩ => ⟨S128x128x4x64, .f32⟩
  | .hbm, ⟨15, _⟩ => ⟨S128x4x64x128, .f32⟩
  | .hbm, ⟨16, _⟩ => ⟨S128x256x128, .f32⟩
  | .hbm, ⟨17, _⟩ => ⟨S16, .i32⟩
  | .hbm, ⟨18, _⟩ => ⟨S16x1, .i32⟩
  | .hbm, ⟨19, _⟩ => ⟨S_, .i32⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i1⟩
  | .hbm, ⟨27, _⟩ => ⟨S16x1, .i32⟩
  | .hbm, ⟨28, _⟩ => ⟨S16x1, .i32⟩
  | .hbm, ⟨29, _⟩ => ⟨S_, .i32⟩
  | .hbm, ⟨30, _⟩ => ⟨S16x1, .i32⟩
  | .hbm, ⟨31, _⟩ => ⟨S16x1, .i1⟩
  | .hbm, ⟨32, _⟩ => ⟨S16x1, .i1⟩
  | .hbm, ⟨33, _⟩ => ⟨S_, .i32⟩
  | .hbm, ⟨34, _⟩ => ⟨S16x1, .i32⟩
  | .hbm, ⟨35, _⟩ => ⟨S16x1, .i32⟩
  | .hbm, ⟨36, _⟩ => ⟨S16x1, .i32⟩
  | .hbm, ⟨37, _⟩ => ⟨S4, .i32⟩
  | .hbm, ⟨38, _⟩ => ⟨S1x4, .i32⟩
  | .hbm, ⟨39, _⟩ => ⟨S16x4, .i32⟩
  | .hbm, ⟨40, _⟩ => ⟨S16x4, .i32⟩
  | .hbm, ⟨41, _⟩ => ⟨S16x4, .i1⟩
  | .hbm, ⟨42, _⟩ => ⟨S1x16x4x1, .i1⟩
  | .hbm, ⟨43, _⟩ => ⟨S128x16x1x64, .f32⟩
  | .hbm, ⟨44, _⟩ => ⟨S_, .f32⟩
  | .hbm, ⟨45, _⟩ => ⟨S_, .f32⟩
  | .hbm, ⟨46, _⟩ => ⟨S128x16x4x64, .i1⟩
  | .hbm, ⟨47, _⟩ => ⟨S128x16x4x64, .f32⟩
  | .hbm, ⟨48, _⟩ => ⟨S128x16x4x64, .f32⟩
  | .hbm, ⟨49, _⟩ => ⟨S128x16x4x64, .f32⟩
  | .hbm, ⟨50, _⟩ => ⟨S2048x2x128, .f32⟩
  | .hbm, ⟨51, _⟩ => ⟨S2x2048x128, .f32⟩
  | .hbm, ⟨52, _⟩ => ⟨S16, .f32⟩
  | .hbm, ⟨53, _⟩ => ⟨S16x1, .f32⟩
  | .hbm, ⟨54, _⟩ => ⟨S1024x4096, .f32⟩
  | .hbm, ⟨55, _⟩ => ⟨S4x128x128, .f32⟩
  | .hbm, ⟨56, _⟩ => ⟨S512x128, .f32⟩
  | .hbm, ⟨57, _⟩ => ⟨S512x1024, .f32⟩
  | .hbm, ⟨58, _⟩ => ⟨S1024x1024, .f32⟩
  | .hbm, ⟨59, _⟩ => ⟨S1024x1024, .f32⟩
  | .hbm, ⟨60, _⟩ => ⟨S2x2048x128, .f32⟩
  | .hbm, ⟨61, _⟩ => ⟨S1024x4096, .bf16⟩
  | .hbm, ⟨62, _⟩ => ⟨S512x128, .bf16⟩
  | .hbm, ⟨63, _⟩ => ⟨S512x1024, .bf16⟩
  | .hbm, ⟨64, _⟩ => ⟨S1024x1024, .bf16⟩
  | .hbm, ⟨65, _⟩ => ⟨S1024x1024, .bf16⟩
  | .local _ .vmem, ⟨0, _⟩ => ⟨S2x256x128, .f32⟩
  | .local _ .vmem, ⟨1, _⟩ => ⟨S2x256x128, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256x128, .f32⟩
  | .local _ .vmem, ⟨7, _⟩ => ⟨S16x256x128, .f32⟩
  | .local _ .vmem, ⟨8, _⟩ => ⟨S16x256x128, .f32⟩
  | .local _ .vmem, ⟨9, _⟩ => ⟨S16x256x128, .f32⟩
  | .local _ .vmem, ⟨10, _⟩ => ⟨S16x1, .f32⟩
  | .local _ .vmem, ⟨11, _⟩ => ⟨S128x4096, .f32⟩
  | .local _ .vmem, ⟨12, _⟩ => ⟨S128x4096, .f32⟩
  | .local _ .vmem, ⟨13, _⟩ => ⟨S64x128, .f32⟩
  | .local _ .vmem, ⟨14, _⟩ => ⟨S64x128, .f32⟩
  | .local _ .vmem, ⟨15, _⟩ => ⟨S64x1024, .f32⟩
  | .local _ .vmem, ⟨16, _⟩ => ⟨S64x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S2x256x128, .f32⟩
  | .local _ .vmem, ⟨22, _⟩ => ⟨S2x256x128, .f32⟩
  | .local _ .vmem, ⟨23, _⟩ => ⟨S128x4096, .bf16⟩
  | .local _ .vmem, ⟨24, _⟩ => ⟨S128x4096, .bf16⟩
  | .local _ .vmem, ⟨25, _⟩ => ⟨S64x128, .bf16⟩
  | .local _ .vmem, ⟨26, _⟩ => ⟨S64x128, .bf16⟩
  | .local _ .vmem, ⟨27, _⟩ => ⟨S64x1024, .bf16⟩
  | .local _ .vmem, ⟨28, _⟩ => ⟨S64x1024, .bf16⟩
  | .local _ .vmem, ⟨29, _⟩ => ⟨S128x1024, .bf16⟩
  | .local _ .vmem, ⟨30, _⟩ => ⟨S128x1024, .bf16⟩
  | .local _ .vmem, ⟨31, _⟩ => ⟨S128x1024, .bf16⟩
  | .local _ .vmem, ⟨32, _⟩ => ⟨S128x1024, .bf16⟩
  | _, _ => ⟨S128x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27_0 : Ref sig .tc := ⟨.hbm, 60, rfl⟩
abbrev main_v27_1 : Ref sig .tc := ⟨.hbm, 61, rfl⟩
abbrev main_v27_2 : Ref sig .tc := ⟨.hbm, 62, rfl⟩
abbrev main_v27_3 : Ref sig .tc := ⟨.hbm, 63, rfl⟩
abbrev main_v27_4 : Ref sig .tc := ⟨.hbm, 64, rfl⟩
abbrev main_v27_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S2x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S128x16x64 : Shape := ⟨3, ![128, 16, 64]⟩
abbrev S128x256 : Shape := ⟨2, ![128, 256]⟩
abbrev S1x128x128x4x64 : Shape := ⟨5, ![1, 128, 128, 4, 64]⟩
abbrev S1x16 : Shape := ⟨2, ![1, 16]⟩
abbrev S1x1024x4096 : Shape := ⟨3, ![1, 1024, 4096]⟩
abbrev S1x4x128x128 : Shape := ⟨4, ![1, 4, 128, 128]⟩
abbrev S1x512x1024 : Shape := ⟨3, ![1, 512, 1024]⟩
abbrev S1x1024x1024 : Shape := ⟨3, ![1, 1024, 1024]⟩
abbrev S128x128x4x64 : Shape := ⟨4, ![128, 128, 4, 64]⟩
abbrev S128x1x4x64 : Shape := ⟨4, ![128, 1, 4, 64]⟩
abbrev S128x129x4x64 : Shape := ⟨4, ![128, 129, 4, 64]⟩
abbrev S129 : Shape := ⟨1, ![129]⟩
abbrev S_ : Shape := ⟨0, ![]⟩
abbrev S128x4x4x64 : Shape := ⟨4, ![128, 4, 4, 64]⟩
abbrev S128x4x4x129 : Shape := ⟨4, ![128, 4, 4, 129]⟩
abbrev S16 : Shape := ⟨1, ![16]⟩
abbrev S1x4x4x1 : Shape := ⟨4, ![1, 4, 4, 1]⟩
abbrev S128x4x4x1 : Shape := ⟨4, ![128, 4, 4, 1]⟩
abbrev S128x4x4x130 : Shape := ⟨4, ![128, 4, 4, 130]⟩
abbrev S128x4x4 : Shape := ⟨3, ![128, 4, 4]⟩
abbrev S128x4x4x4x64 : Shape := ⟨5, ![128, 4, 4, 4, 64]⟩
abbrev S2048x2x128 : Shape := ⟨3, ![2048, 2, 128]⟩
abbrev S2x2048x128 : Shape := ⟨3, ![2, 2048, 128]⟩
abbrev S1024x4096 : Shape := ⟨2, ![1024, 4096]⟩
abbrev S4x128x128 : Shape := ⟨3, ![4, 128, 128]⟩
abbrev S512x128 : Shape := ⟨2, ![512, 128]⟩
abbrev S512x1024 : Shape := ⟨2, ![512, 1024]⟩
abbrev S1024x1024 : Shape := ⟨2, ![1024, 1024]⟩

abbrev nBuf : Space → Nat
  | .hbm => 70
  | .vmem => 0
  | .smem => 0
  | _ => 0

abbrev bufTy : (tb : Table) → Fin (tcTables nBuf tb) → BufTy
  | .hbm, ⟨0, _⟩ => ⟨S128x16x64, .f32⟩
  | .hbm, ⟨1, _⟩ => ⟨S128x256, .f32⟩
  | .hbm, ⟨2, _⟩ => ⟨S128x256, .f32⟩
  | .hbm, ⟨3, _⟩ => ⟨S1x128x128x4x64, .f32⟩
  | .hbm, ⟨4, _⟩ => ⟨S1x128x128x4x64, .f32⟩
  | .hbm, ⟨5, _⟩ => ⟨S1x16, .f32⟩
  | .hbm, ⟨6, _⟩ => ⟨S1x1024x4096, .f32⟩
  | .hbm, ⟨7, _⟩ => ⟨S1x4x128x128, .f32⟩
  | .hbm, ⟨8, _⟩ => ⟨S1x512x1024, .f32⟩
  | .hbm, ⟨9, _⟩ => ⟨S1x1024x1024, .f32⟩
  | .hbm, ⟨10, _⟩ => ⟨S1x1024x1024, .f32⟩
  | .hbm, ⟨11, _⟩ => ⟨S128x128x4x64, .f32⟩
  | .hbm, ⟨12, _⟩ => ⟨S128x1x4x64, .f32⟩
  | .hbm, ⟨13, _⟩ => ⟨S128x129x4x64, .f32⟩
  | .hbm, ⟨14, _⟩ => ⟨S128x128x4x64, .f32⟩
  | .hbm, ⟨15, _⟩ => ⟨S128x1x4x64, .f32⟩
  | .hbm, ⟨16, _⟩ => ⟨S128x129x4x64, .f32⟩
  | .hbm, ⟨17, _⟩ => ⟨S129, .i32⟩
  | .hbm, ⟨18, _⟩ => ⟨S_, .i32⟩
  | .hbm, ⟨19, _⟩ => ⟨S129, .i32⟩
  | .hbm, ⟨20, _⟩ => ⟨S129, .i32⟩
  | .hbm, ⟨21, _⟩ => ⟨S_, .i32⟩
  | .hbm, ⟨22, _⟩ => ⟨S129, .i32⟩
  | .hbm, ⟨23, _⟩ => ⟨S129, .i32⟩
  | .hbm, ⟨24, _⟩ => ⟨S_, .i32⟩
  | .hbm, ⟨25, _⟩ => ⟨S129, .i32⟩
  | .hbm, ⟨26, _⟩ => ⟨S129, .i1⟩
  | .hbm, ⟨27, _⟩ => ⟨S_, .i32⟩
  | .hbm, ⟨28, _⟩ => ⟨S129, .i32⟩
  | .hbm, ⟨29, _⟩ => ⟨S129, .i1⟩
  | .hbm, ⟨30, _⟩ => ⟨S129, .i1⟩
  | .hbm, ⟨31, _⟩ => ⟨S128x4x4x64, .f32⟩
  | .hbm, ⟨32, _⟩ => ⟨S128x4x4x129, .f32⟩
  | .hbm, ⟨33, _⟩ => ⟨S_, .f32⟩
  | .hbm, ⟨34, _⟩ => ⟨S128x4x4x129, .i1⟩
  | .hbm, ⟨35, _⟩ => ⟨S128x4x4x129, .f32⟩
  | .hbm, ⟨36, _⟩ => ⟨S128x4x4x129, .f32⟩
  | .hbm, ⟨37, _⟩ => ⟨S16, .f32⟩
  | .hbm, ⟨38, _⟩ => ⟨S1x4x4x1, .f32⟩
  | .hbm, ⟨39, _⟩ => ⟨S128x4x4x1, .f32⟩
  | .hbm, ⟨40, _⟩ => ⟨S128x4x4x130, .f32⟩
  | .hbm, ⟨41, _⟩ => ⟨S_, .f32⟩
  | .hbm, ⟨42, _⟩ => ⟨S128x4x4, .f32⟩
  | .hbm, ⟨43, _⟩ => ⟨S_, .f32⟩
  | .hbm, ⟨44, _⟩ => ⟨S128x4x4, .f32⟩
  | .hbm, ⟨45, _⟩ => ⟨S128x4x4, .f32⟩
  | .hbm, ⟨46, _⟩ => ⟨S128x4x4x1, .f32⟩
  | .hbm, ⟨47, _⟩ => ⟨S128x4x4x130, .f32⟩
  | .hbm, ⟨48, _⟩ => ⟨S128x4x4x130, .f32⟩
  | .hbm, ⟨49, _⟩ => ⟨S128x4x4x130, .f32⟩
  | .hbm, ⟨50, _⟩ => ⟨S_, .f32⟩
  | .hbm, ⟨51, _⟩ => ⟨S128x4x4, .f32⟩
  | .hbm, ⟨52, _⟩ => ⟨S128x4x4x1, .f32⟩
  | .hbm, ⟨53, _⟩ => ⟨S128x4x4x130, .f32⟩
  | .hbm, ⟨54, _⟩ => ⟨S128x4x4x130, .f32⟩
  | .hbm, ⟨55, _⟩ => ⟨S128x4x4x129, .f32⟩
  | .hbm, ⟨56, _⟩ => ⟨S128x4x4x4x64, .f32⟩
  | .hbm, ⟨57, _⟩ => ⟨S2048x2x128, .f32⟩
  | .hbm, ⟨58, _⟩ => ⟨S2x2048x128, .f32⟩
  | .hbm, ⟨59, _⟩ => ⟨S1024x4096, .f32⟩
  | .hbm, ⟨60, _⟩ => ⟨S1024x4096, .bf16⟩
  | .hbm, ⟨61, _⟩ => ⟨S4x128x128, .f32⟩
  | .hbm, ⟨62, _⟩ => ⟨S512x128, .f32⟩
  | .hbm, ⟨63, _⟩ => ⟨S512x128, .bf16⟩
  | .hbm, ⟨64, _⟩ => ⟨S512x1024, .f32⟩
  | .hbm, ⟨65, _⟩ => ⟨S512x1024, .bf16⟩
  | .hbm, ⟨66, _⟩ => ⟨S1024x1024, .f32⟩
  | .hbm, ⟨67, _⟩ => ⟨S1024x1024, .bf16⟩
  | .hbm, ⟨68, _⟩ => ⟨S1024x1024, .f32⟩
  | .hbm, ⟨69, _⟩ => ⟨S1024x1024, .bf16⟩
  | _, _ => ⟨S128x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x2x8192x256 : Shape := ⟨4, ![1, 2, 8192, 256]⟩
abbrev S128x1024 : Shape := ⟨2, ![128, 1024]⟩
abbrev S1x128x1x256 : Shape := ⟨4, ![1, 128, 1, 256]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S16384x1024 : Shape := ⟨2, ![16384, 1024]⟩
abbrev S2x8192x256 : Shape := ⟨3, ![2, 8192, 256]⟩
abbrev S16384x256 : Shape := ⟨2, ![16384, 256]⟩
abbrev S128x1x256 : Shape := ⟨3, ![128, 1, 256]⟩
abbrev S128x1x1024 : Shape := ⟨3, ![128, 1, 1024]⟩
abbrev S1024x256 : Shape := ⟨2, ![1024, 256]⟩
abbrev S8x1024 : Shape := ⟨2, ![8, 1024]⟩
abbrev S8x1x256 : Shape := ⟨3, ![8, 1, 256]⟩
abbrev S8x1x1024 : Shape := ⟨3, ![8, 1, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S512x256 : Shape := ⟨2, ![512, 256]⟩
abbrev S528x1024 : Shape := ⟨2, ![528, 1024]⟩
abbrev S528 : Shape := ⟨1, ![528]⟩
abbrev S528x1 : Shape := ⟨2, ![528, 1]⟩
abbrev S768x1024 : Shape := ⟨2, ![768, 1024]⟩
abbrev S528x768 : Shape := ⟨2, ![528, 768]⟩
abbrev S8x256 : Shape := ⟨2, ![8, 256]⟩
abbrev S528x256 : Shape := ⟨2, ![528, 256]⟩

abbrev nBuf : Space → Nat
  | .hbm => 22
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1x2x8192x256, .f32⟩
  | .hbm, ⟨2, _⟩ => ⟨S128x1024, .f32⟩
  | .hbm, ⟨3, _⟩ => ⟨S1x128x1x256, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S256x1024, .bf16⟩
  | .hbm, ⟨8, _⟩ => ⟨S1x1024, .f32⟩
  | .hbm, ⟨9, _⟩ => ⟨S1024x1024, .bf16⟩
  | .hbm, ⟨10, _⟩ => ⟨S1024, .f32⟩
  | .hbm, ⟨11, _⟩ => ⟨S16384x1024, .f32⟩
  | .hbm, ⟨12, _⟩ => ⟨S2x8192x256, .f32⟩
  | .hbm, ⟨13, _⟩ => ⟨S16384x256, .f32⟩
  | .hbm, ⟨14, _⟩ => ⟨S128x1x256, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S16384x1024, .f32⟩
  | .hbm, ⟨21, _⟩ => ⟨S128x1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S8x1024, .f32⟩
  | .local _ .vmem, ⟨5, _⟩ => ⟨S8x1024, .f32⟩
  | .local _ .vmem, ⟨6, _⟩ => ⟨S8x1x256, .f32⟩
  | .local _ .vmem, ⟨7, _⟩ => ⟨S8x1x256, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S8x1x1024, .f32⟩
  | .local _ .vmem, ⟨18, _⟩ => ⟨S8x1x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S1x2x8192x256 : Shape := ⟨4, ![1, 2, 8192, 256]⟩
abbrev S128x1024 : Shape := ⟨2, ![128, 1024]⟩
abbrev S1x128x1x256 : Shape := ⟨4, ![1, 128, 1, 256]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S1024x1024 : Shape := ⟨2, ![1024, 1024]⟩
abbrev S1024 : Shape := ⟨1, ![1024]⟩
abbrev S16384x1024 : Shape := ⟨2, ![16384, 1024]⟩
abbrev S2x8192x256 : Shape := ⟨3, ![2, 8192, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S128x1x1024 : Shape := ⟨3, ![128, 1, 1024]⟩
abbrev S128x1x256 : Shape := ⟨3, ![128, 1, 256]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩

abbrev nBuf : Space → Nat
  | .hbm => 172
  | .vmem => 0
  | .smem => 0
  | _ => 0

abbrev hbmTy0_0 (i : Nat) : BufTy := match i % 128 with
  | 0 => ⟨S2x8192x1024, .f32⟩
  | 1 => ⟨S1x2x8192x256, .f32⟩
  | 2 => ⟨S128x1024, .f32⟩
  | 3 => ⟨S1x128x1x256, .f32⟩
  | 4 => ⟨S1x1024, .f32⟩
  | 5 => ⟨S1024x5632, .bf16⟩
  | 6 => ⟨S2816x1024, .bf16⟩
  | 7 => ⟨S256x1024, .bf16⟩
  | 8 => ⟨S1x1024, .f32⟩
  | 9 => ⟨S1024x1024, .bf16⟩
  | 10 => ⟨S1024, .f32⟩
  | 11 => ⟨S1024, .f32⟩
  | 12 => ⟨S1024x5632, .f32⟩
  | 13 => ⟨S2816x1024, .f32⟩
  | 14 => ⟨S256x1024, .f32⟩
  | 15 => ⟨S1024, .f32⟩
  | 16 => ⟨S1024x1024, .f32⟩
  | 17 => ⟨S16384x1024, .f32⟩
  | 18 => ⟨S2x8192x256, .f32⟩
  | 19 => ⟨S16384x256, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | 36 => ⟨S16384x5632, .f32⟩
  | 37 => ⟨S16384x2816, .f32⟩
  | 38 => ⟨S16384x2816, .f32⟩
  | 39 => ⟨S16384x2816, .f32⟩
  | 40 => ⟨S16384x2816, .f32⟩
  | 41 => ⟨S_, .f32⟩
  | 42 => ⟨S16384x2816, .f32⟩
  | 43 => ⟨S16384x2816, .f32⟩
  | 44 => ⟨S_, .f32⟩
  | 45 => ⟨S16384x2816, .f32⟩
  | 46 => ⟨S16384x2816, .f32⟩
  | 47 => ⟨S16384x2816, .f32⟩
  | 48 => ⟨S16384x2816, .f32⟩
  | 49 => ⟨S16384x1024, .f32⟩
  | 50 => ⟨S16384x1024, .f32⟩
  | 51 => ⟨S16384x1024, .f32⟩
  | 52 => ⟨S16384x1024, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384x1, .f32⟩
  | 88 => ⟨S16384x1, .f32⟩
  | 89 => ⟨S16384x1, .f32⟩
  | 90 => ⟨S16384x1024, .f32⟩
  | 91 => ⟨S16384x1024, .f32⟩
  | 92 => ⟨S1x1024, .f32⟩
  | 93 => ⟨S16384x1024, .f32⟩
  | 94 => ⟨S16384x1024, .f32⟩
  | 95 => ⟨S128x1x1024, .f32⟩
  | 96 => ⟨S128x1x256, .f32⟩
  | 97 => ⟨S128x1x1024, .f32⟩
  | 98 => ⟨S_, .f32⟩
  | 99 => ⟨S128x1, .f32⟩
  | 100 => ⟨S128x1x1, .f32⟩
  | 101 => ⟨S_, .f32⟩
  | 102 => ⟨S128x1x1, .f32⟩
  | 103 => ⟨S128x1x1, .f32⟩
  | 104 => ⟨S_, .f32⟩
  | 105 => ⟨S128x1x1, .f32⟩
  | 106 => ⟨S128x1x1, .f32⟩
  | 107 => ⟨S128x1x1, .f32⟩
  | 108 => ⟨S128x1x1024, .f32⟩
  | 109 => ⟨S128x1x1024, .f32⟩
  | 110 => ⟨S1x1x1024, .f32⟩
  | 111 => ⟨S128x1x1024, .f32⟩
  | 112 => ⟨S128x1x1024, .f32⟩
  | 113 => ⟨S128x1x5632, .f32⟩
  | 114 => ⟨S128x1x2816, .f32⟩
  | 115 => ⟨S128x1x2816, .f32⟩
  | 116 => ⟨S128x1x2816, .f32⟩
  | 117 => ⟨S128x1x2816, .f32⟩
  | 118 => ⟨S_, .f32⟩
  | 119 => ⟨S128x1x2816, .f32⟩
  | 120 => ⟨S128x1x2816, .f32⟩
  | 121 => ⟨S_, .f32⟩
  | 122 => ⟨S128x1x2816, .f32⟩
  | 123 => ⟨S128x1x2816, .f32⟩
  | 124 => ⟨S128x1x2816, .f32⟩
  | 125 => ⟨S128x1x2816, .f32⟩
  | 126 => ⟨S128x1x1024, .f32⟩
  | 127 => ⟨S128x1x1024, .f32⟩
  | _ => ⟨S2x8192x1024, .f32⟩

abbrev hbmTy0_1 (i : Nat) : BufTy := match i % 128 with
  | 0 => ⟨S128x1x1024, .f32⟩
  | 1 => ⟨S128x1x1024, .f32⟩
  | 2 => ⟨S_, .f32⟩
  | 3 => ⟨S128x1, .f32⟩
  | 4 => ⟨S128x1x1, .f32⟩
  | 5 => ⟨S_, .f32⟩
  | 6 => ⟨S128x1x1, .f32⟩
  | 7 => ⟨S128x1x1, .f32⟩
  | 8 => ⟨S_, .f32⟩
  | 9 => ⟨S128x1x1, .f32⟩
  | 10 => ⟨S128x1x1, .f32⟩
  | 11 => ⟨S128x1x1, .f32⟩
  | 12 => ⟨S128x1x1024, .f32⟩
  | 13 => ⟨S128x1x1024, .f32⟩
  | 14 => ⟨S1x1x1024, .f32⟩
  | 15 => ⟨S128x1x1024, .f32⟩
  | 16 => ⟨S128x1x1024, .f32⟩
  | 17 => ⟨S128x1x1024, .f32⟩
  | 18 => ⟨S128x1x1024, .f32⟩
  | 19 => ⟨S128x1x1024, .f32⟩
  | 20 => ⟨S_, .f32⟩
  | 21 => ⟨S128x1x1024, .f32⟩
  | 22 => ⟨S128x1x1024, .f32⟩
  | 23 => ⟨S_, .f32⟩
  | 24 => ⟨S128x1x1024, .f32⟩
  | 25 => ⟨S128x1x1024, .f32⟩
  | 26 => ⟨S128x1x1024, .f32⟩
  | 27 => ⟨S128x1x1024, .f32⟩
  | 28 => ⟨S128x1x1024, .f32⟩
  | 29 => ⟨S_, .f32⟩
  | 30 => ⟨S128x1, .f32⟩
  | 31 => ⟨S128x1x1, .f32⟩
  | 32 => ⟨S_, .f32⟩
  | 33 => ⟨S128x1x1, .f32⟩
  | 34 => ⟨S128x1x1, .f32⟩
  | 35 => ⟨S_, .f32⟩
  | 36 => ⟨S128x1x1, .f32⟩
  | 37 => ⟨S128x1x1, .f32⟩
  | 38 => ⟨S128x1x1, .f32⟩
  | 39 => ⟨S128x1x1024, .f32⟩
  | 40 => ⟨S128x1x1024, .f32⟩
  | 41 => ⟨S1x1x1024, .f32⟩
  | 42 => ⟨S128x1x1024, .f32⟩
  | 43 => ⟨S128x1x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_13 : Ref sig .tc := ⟨.hbm, 130, rfl⟩
abbrev main_v89 : Ref sig .tc := ⟨.hbm, 131, rfl⟩
abbrev main_v90 : Ref sig .tc := ⟨.hbm, 132, rfl⟩
abbrev main_cst_14 : Ref sig .tc := ⟨.hbm, 133, rfl⟩
abbrev main_v91 : Ref sig .tc := ⟨.hbm, 134, rfl⟩
abbrev main_v92 : Ref sig .tc := ⟨.hbm, 135, rfl⟩
abbrev main_cst_15 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_16 : Ref sig .tc := ⟨.hbm, 148, rfl⟩
abbrev main_v104 : Ref sig .tc := ⟨.hbm, 149, rfl⟩
abbrev main_v105 : Ref sig .tc := ⟨.hbm, 150, rfl⟩
abbrev main_cst_17 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_18 : Ref sig .tc := ⟨.hbm, 157, rfl⟩
abbrev main_v111 : Ref sig .tc := ⟨.hbm, 158, rfl⟩
abbrev main_v112 : Ref sig .tc := ⟨.hbm, 159, rfl⟩
abbrev main_cst_19 : Ref sig .tc := ⟨.hbm, 160, rfl⟩
abbrev main_v113 : Ref sig .tc := ⟨.hbm, 161, rfl⟩
abbrev main_v114 : Ref sig .tc := ⟨.hbm, 162, rfl⟩
abbrev main_cst_20 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1024x4096 : Shape := ⟨2, ![1024, 4096]⟩
abbrev S4x128x128 : Shape := ⟨3, ![4, 128, 128]⟩
abbrev S1x512 : Shape := ⟨2, ![1, 512]⟩
abbrev S16 : Shape := ⟨1, ![16]⟩
abbrev S512x1024 : Shape := ⟨2, ![512, 1024]⟩
abbrev S1024x1024 : Shape := ⟨2, ![1024, 1024]⟩
abbrev S256x128 : Shape := ⟨2, ![256, 128]⟩
abbrev S128x256x128 : Shape := ⟨3, ![128, 256, 128]⟩
abbrev S1024x5632 : Shape := ⟨2, ![1024, 5632]⟩
abbrev S2816x1024 : Shape := ⟨2, ![2816, 1024]⟩
abbrev S256x1024 : Shape := ⟨2, ![256, 1024]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x256x128 : Shape := ⟨3, ![2, 256, 128]⟩
abbrev S2x15x512 : Shape := ⟨3, ![2, 15, 512]⟩
abbrev S1x512x1024 : Shape := ⟨3, ![1, 512, 1024]⟩
abbrev S512x128 : Shape := ⟨2, ![512, 128]⟩
abbrev S4x256x128 : Shape := ⟨3, ![4, 256, 128]⟩
abbrev S32x5632 : Shape := ⟨2, ![32, 5632]⟩
abbrev S128x1024 : Shape := ⟨2, ![128, 1024]⟩
abbrev S16x1024 : Shape := ⟨2, ![16, 1024]⟩
abbrev S32x1024 : Shape := ⟨2, ![32, 1024]⟩
abbrev S1x256x128 : Shape := ⟨3, ![1, 256, 128]⟩
abbrev S1x15x512 : Shape := ⟨3, ![1, 15, 512]⟩
abbrev S4x640x128 : Shape := ⟨3, ![4, 640, 128]⟩
abbrev S536x512 : Shape := ⟨2, ![536, 512]⟩
abbrev S4x536x128 : Shape := ⟨3, ![4, 536, 128]⟩
abbrev S16x256x256 : Shape := ⟨3, ![16, 256, 256]⟩
abbrev S512x2048 : Shape := ⟨2, ![512, 2048]⟩
abbrev S1x128 : Shape := ⟨2, ![1, 128]⟩
abbrev S24x512 : Shape := ⟨2, ![24, 512]⟩
abbrev S4x8x128 : Shape := ⟨3, ![4, 8, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S1x512x128 : Shape := ⟨3, ![1, 512, 128]⟩
abbrev S128x128 : Shape := ⟨2, ![128, 128]⟩
abbrev S256x512 : Shape := ⟨2, ![256, 512]⟩
abbrev S128x256 : Shape := ⟨2, ![128, 256]⟩
abbrev S1x128x128 : Shape := ⟨3, ![1, 128, 128]⟩
abbrev S1 : Shape := ⟨1, ![1]⟩
abbrev S128 : Shape := ⟨1, ![128]⟩
abbrev S128x1 : Shape := ⟨2, ![128, 1]⟩
abbrev S128x512 : Shape := ⟨2, ![128, 512]⟩
abbrev S256x256 : Shape := ⟨2, ![256, 256]⟩
abbrev S15x512 : Shape := ⟨2, ![15, 512]⟩
abbrev S528x128 : Shape := ⟨2, ![528, 128]⟩
abbrev S1x528x128 : Shape := ⟨3, ![1, 528, 128]⟩
abbrev S1x536x128 : Shape := ⟨3, ![1, 536, 128]⟩
abbrev S536x128 : Shape := ⟨2, ![536, 128]⟩
abbrev S256x1 : Shape := ⟨2, ![256, 1]⟩

abbrev nBuf : Space → Nat
  | .hbm => 66
  | .vmem => 57
  | .smem => 1
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x4096, .bf16⟩
  | .hbm, ⟨3, _⟩ => ⟨S4x128x128, .bf16⟩
  | .hbm, ⟨4, _⟩ => ⟨S1x512, .f32⟩
  | .hbm, ⟨5, _⟩ => ⟨S16, .f32⟩
  | .hbm, ⟨6, _⟩ => ⟨S512x1024, .bf16⟩
  | .hbm, ⟨7, _⟩ => ⟨S1024x1024, .bf16⟩
  | .hbm, ⟨8, _⟩ => ⟨S1024x1024, .bf16⟩
  | .hbm, ⟨9, _⟩ => ⟨S256x128, .f32⟩
  | .hbm, ⟨10, _⟩ => ⟨S256x128, .f32⟩
  | .hbm, ⟨11, _⟩ => ⟨S128x256x128, .f32⟩
  | .hbm, ⟨12, _⟩ => ⟨S128x256x128, .f32⟩
  | .hbm, ⟨13, _⟩ => ⟨S1024x5632, .f32⟩
  | .hbm, ⟨14, _⟩ => ⟨S2816x1024, .f32⟩
  | .hbm, ⟨15, _⟩ => ⟨S256x1024, .f32⟩
  | .hbm, ⟨16, _⟩ => ⟨S1024x1024, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .f32⟩
  | .hbm, ⟨36, _⟩ => ⟨S8192x1, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S_, .f32⟩
  | .hbm, ⟨44, _⟩ => ⟨S8192x48, .f32⟩
  | .hbm, ⟨45, _⟩ => ⟨S8192x64, .f32⟩
  | .hbm, ⟨46, _⟩ => ⟨S8192x8, .f32⟩
  | .hbm, ⟨47, _⟩ => ⟨S_, .f32⟩
  | .hbm, ⟨48, _⟩ => ⟨S8192x48, .f32⟩
  | .hbm, ⟨49, _⟩ => ⟨S8192x64, .f32⟩
  | .hbm, ⟨50, _⟩ => ⟨S1x8192x1x64, .f32⟩
  | .hbm, ⟨51, _⟩ => ⟨S1x8192x2x64, .f32⟩
  | .hbm, ⟨52, _⟩ => ⟨S8192x128, .f32⟩
  | .hbm, ⟨53, _⟩ => ⟨S1x8192x1x64, .f32⟩
  | .hbm, ⟨54, _⟩ => ⟨S1x8192x2x64, .f32⟩
  | .hbm, ⟨55, _⟩ => ⟨S8192x128, .f32⟩
  | .hbm, ⟨56, _⟩ => ⟨S2x8192x1024, .f32⟩
  | .hbm, ⟨57, _⟩ => ⟨S2x256x128, .f32⟩
  | .hbm, ⟨58, _⟩ => ⟨S2x256x128, .f32⟩
  | .hbm, ⟨59, _⟩ => ⟨S2x15x512, .f32⟩
  | .hbm, ⟨60, _⟩ => ⟨S128x256x128, .f32⟩
  | .hbm, ⟨61, _⟩ => ⟨S128x256x128, .f32⟩
  | .hbm, ⟨62, _⟩ => ⟨S1024x5632, .bf16⟩
  | .hbm, ⟨63, _⟩ => ⟨S2816x1024, .bf16⟩
  | .hbm, ⟨64, _⟩ => ⟨S256x1024, .bf16⟩
  | .hbm, ⟨65, _⟩ => ⟨S1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x4096, .bf16⟩
  | .local _ .vmem, ⟨8, _⟩ => ⟨S4x128x128, .bf16⟩
  | .local _ .vmem, ⟨9, _⟩ => ⟨S1x512, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x128, .f32⟩
  | .local _ .vmem, ⟨14, _⟩ => ⟨S256x128, .f32⟩
  | .local _ .vmem, ⟨15, _⟩ => ⟨S4x256x128, .f32⟩
  | .local _ .vmem, ⟨16, _⟩ => ⟨S4x256x128, .f32⟩
  | .local _ .vmem, ⟨17, _⟩ => ⟨S4x256x128, .f32⟩
  | .local _ .vmem, ⟨18, _⟩ => ⟨S4x256x128, .f32⟩
  | .local _ .vmem, ⟨19, _⟩ => ⟨S32x5632, .f32⟩
  | .local _ .vmem, ⟨20, _⟩ => ⟨S32x5632, .f32⟩
  | .local _ .vmem, ⟨21, _⟩ => ⟨S128x1024, .f32⟩
  | .local _ .vmem, ⟨22, _⟩ => ⟨S128x1024, .f32⟩
  | .local _ .vmem, ⟨23, _⟩ => ⟨S16x1024, .f32⟩
  | .local _ .vmem, ⟨24, _⟩ => ⟨S16x1024, .f32⟩
  | .local _ .vmem, ⟨25, _⟩ => ⟨S32x1024, .f32⟩
  | .local _ .vmem, ⟨26, _⟩ => ⟨S32x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x256x128, .f32⟩
  | .local _ .vmem, ⟨33, _⟩ => ⟨S1x15x512, .f32⟩
  | .local _ .vmem, ⟨34, _⟩ => ⟨S1x15x512, .f32⟩
  | .local _ .vmem, ⟨35, _⟩ => ⟨S4x256x128, .f32⟩
  | .local _ .vmem, ⟨36, _⟩ => ⟨S4x256x128, .f32⟩
  | .local _ .vmem, ⟨37, _⟩ => ⟨S4x256x128, .f32⟩
  | .local _ .vmem, ⟨38, _⟩ => ⟨S4x256x128, .f32⟩
  | .local _ .vmem, ⟨39, _⟩ => ⟨S32x5632, .bf16⟩
  | .local _ .vmem, ⟨40, _⟩ => ⟨S32x5632, .bf16⟩
  | .local _ .vmem, ⟨41, _⟩ => ⟨S128x1024, .bf16⟩
  | .local _ .vmem, ⟨42, _⟩ => ⟨S128x1024, .bf16⟩
  | .local _ .vmem, ⟨43, _⟩ => ⟨S16x1024, .bf16⟩
  | .local _ .vmem, ⟨44, _⟩ => ⟨S16x1024, .bf16⟩
  | .local _ .vmem, ⟨45, _⟩ => ⟨S32x1024, .bf16⟩
  | .local _ .vmem, ⟨46, _⟩ => ⟨S32x1024, .bf16⟩
  | .local _ .vmem, ⟨47, _⟩ => ⟨S4x640x128, .bf16⟩
  | .local _ .vmem, ⟨48, _⟩ => ⟨S4x640x128, .bf16⟩
  | .local _ .vmem, ⟨49, _⟩ => ⟨S4x640x128, .bf16⟩
  | .local _ .vmem, ⟨50, _⟩ => ⟨S4x640x128, .bf16⟩
  | .local _ .vmem, ⟨51, _⟩ => ⟨S536x512, .f32⟩
  | .local _ .vmem, ⟨52, _⟩ => ⟨S4x536x128, .f32⟩
  | .local _ .vmem, ⟨53, _⟩ => ⟨S512x1024, .bf16⟩
  | .local _ .vmem, ⟨54, _⟩ => ⟨S512x1024, .bf16⟩
  | .local _ .vmem, ⟨55, _⟩ => ⟨S16x256x256, .f32⟩
  | .local _ .vmem, ⟨56, _⟩ => ⟨S512x2048, .f32⟩
  | .local _ .smem, ⟨0, _⟩ => ⟨S16, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .smem, ⟨0, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev main_v32_3 : Ref sig .tc := ⟨.hbm, 59, rfl⟩
abbrev main_v32_4 : Ref sig .tc := ⟨.hbm, 60, rfl⟩
abbrev main_v32_5 : Ref sig .tc := ⟨.hbm, 61, rfl⟩
abbrev main_v32_6 : Ref sig .tc := ⟨.hbm, 62, rfl⟩
abbrev main_v32_7 : Ref sig .tc := ⟨.hbm, 63, rfl⟩
abbrev main_v32_8 : Ref sig .tc := ⟨.hbm, 64, rfl⟩
abbrev main_v32_9 : Ref sig .tc := ⟨.hbm, 65, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg28_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_scratch9 : Ref sig .tc := ⟨.vmem, 56, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_26 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_27 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_28 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x5632 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x15x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S4x256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S4x256x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S32x5632 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S128x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S16x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S32x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== Kernel3Ideal.lean ====
variable {F : FTy → Type} [FloatOps F] [Named F]
def κ : String → Option EReal := fun
  | "log2e" => some (((Real.log 2)⁻¹ : ℝ) : EReal)
  | "masked" => some ⊥
  | "qk_scale" => some (((1 / 8) * (Real.log 2)⁻¹ : ℝ) : EReal)
  | _ => none
-- ==== Reference3Ideal.lean ====
abbrev S2x8192x1024 : Shape := ⟨3, ![2, 8192, 1024]⟩
abbrev S1x1024 : Shape := ⟨2, ![1, 1024]⟩
abbrev S1024x4096 : Shape := ⟨2, ![1024, 4096]⟩
abbrev S4x128x128 : Shape := ⟨3, ![4, 128, 128]⟩
abbrev S1x512 : Shape := ⟨2, ![1, 512]⟩
abbrev S16 : Shape := ⟨1, ![16]⟩
abbrev S512x1024 : Shape := ⟨2, ![512, 1024]⟩
abbrev S1024x1024 : Shape := ⟨2, ![1024, 1024]⟩
abbrev S256x128 : Shape := ⟨2, ![256, 128]⟩
abbrev S128x256x128 : Shape := ⟨3, ![128, 256, 128]⟩
abbrev S1024x5632 : Shape := ⟨2, ![1024, 5632]⟩
abbrev S2816x1024 : Shape := ⟨2, ![2816, 1024]⟩
abbrev S256x1024 : Shape := ⟨2, ![256, 1024]⟩
abbrev S8192 : Shape := ⟨1, ![8192]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x8192x512 : Shape := ⟨3, ![2, 8192, 512]⟩
abbrev S2x8192x256 : Shape := ⟨3, ![2, 8192, 256]⟩
abbrev S2x8192x16x64 : Shape := ⟨4, ![2, 8192, 16, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x16x8 : Shape := ⟨4, ![2, 8192, 16, 8]⟩
abbrev S2x8192x16x48 : Shape := ⟨4, ![2, 8192, 16, 48]⟩
abbrev S2x8192x4x64 : Shape := ⟨4, ![2, 8192, 4, 64]⟩
abbrev S2x8192x4x8 : Shape := ⟨4, ![2, 8192, 4, 8]⟩
abbrev S2x8192x4x48 : Shape := ⟨4, ![2, 8192, 4, 48]⟩
abbrev S512 : Shape := ⟨1, ![512]⟩
abbrev S2x15x512 : Shape := ⟨3, ![2, 15, 512]⟩
abbrev S2x8207x512 : Shape := ⟨3, ![2, 8207, 512]⟩
abbrev S2x8192x128 : Shape := ⟨3, ![2, 8192, 128]⟩
abbrev S1x8192x1 : Shape := ⟨3, ![1, 8192, 1]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x64x128x4x4x64 : Shape := ⟨6, ![2, 64, 128, 4, 4, 64]⟩
abbrev S2x64x128x4x64 : Shape := ⟨5, ![2, 64, 128, 4, 64]⟩
abbrev S2x1x128x4x64 : Shape := ⟨5, ![2, 1, 128, 4, 64]⟩
abbrev S2x63x128x4x64 : Shape := ⟨5, ![2, 63, 128, 4, 64]⟩
abbrev S2x64x256x4x64 : Shape := ⟨5, ![2, 64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x64x4x256x128x4 : Shape := ⟨6, ![2, 64, 4, 256, 128, 4]⟩
abbrev S2x64x4x4x128x256 : Shape := ⟨6, ![2, 64, 4, 4, 128, 256]⟩
abbrev S64x1x1x128x256 : Shape := ⟨5, ![64, 1, 1, 128, 256]⟩
abbrev S4x4 : Shape := ⟨2, ![4, 4]⟩
abbrev S4x4x1x1 : Shape := ⟨4, ![4, 4, 1, 1]⟩
abbrev S2x64x4x4x128x1 : Shape := ⟨6, ![2, 64, 4, 4, 128, 1]⟩
abbrev S2x64x4x4x128x257 : Shape := ⟨6, ![2, 64, 4, 4, 128, 257]⟩
abbrev S2x64x4x4x128 : Shape := ⟨5, ![2, 64, 4, 4, 128]⟩
abbrev S2x64x4x64x4x128 : Shape := ⟨6, ![2, 64, 4, 64, 4, 128]⟩
abbrev S2x128x256 : Shape := ⟨3, ![2, 128, 256]⟩
abbrev S2x256x128 : Shape := ⟨3, ![2, 256, 128]⟩
abbrev S128x256x127 : Shape := ⟨3, ![128, 256, 127]⟩
abbrev S128x256x1 : Shape := ⟨3, ![128, 256, 1]⟩

abbrev nBuf : Space → Nat
  | .hbm => 373
  | .vmem => 0
  | .smem => 0
  | _ => 0

abbrev hbmTy0_0 (i : Nat) : BufTy := match i % 128 with
  | 0 => ⟨S2x8192x1024, .f32⟩
  | 1 => ⟨S1x1024, .f32⟩
  | 2 => ⟨S1024x4096, .bf16⟩
  | 3 => ⟨S4x128x128, .bf16⟩
  | 4 => ⟨S1x512, .f32⟩
  | 5 => ⟨S16, .f32⟩
  | 6 => ⟨S512x1024, .bf16⟩
  | 7 => ⟨S1024x1024, .bf16⟩
  | 8 => ⟨S1024x1024, .bf16⟩
  | 9 => ⟨S256x128, .f32⟩
  | 10 => ⟨S256x128, .f32⟩
  | 11 => ⟨S128x256x128, .f32⟩
  | 12 => ⟨S128x256x128, .f32⟩
  | 13 => ⟨S1024x5632, .f32⟩
  | 14 => ⟨S2816x1024, .f32⟩
  | 15 => ⟨S256x1024, .f32⟩
  | 16 => ⟨S1024x1024, .f32⟩
  | 17 => ⟨S8192, .i32⟩
  | 18 => ⟨S1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S1024x4096, .f32⟩
  | 36 => ⟨S2x8192x4096, .f32⟩
  | 37 => ⟨S2x8192x512, .f32⟩
  | 38 => ⟨S2x8192x1024, .f32⟩
  | 39 => ⟨S2x8192x256, .f32⟩
  | 40 => ⟨S2x8192x256, .f32⟩
  | 41 => ⟨S2x8192x1024, .f32⟩
  | 42 => ⟨S2x8192x1024, .f32⟩
  | 43 => ⟨S2x8192x16x64, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S8192, .f32⟩
  | 59 => ⟨S8192x1, .f32⟩
  | 60 => ⟨S1x8, .f32⟩
  | 61 => ⟨S8192x8, .f32⟩
  | 62 => ⟨S8192x8, .f32⟩
  | 63 => ⟨S8192x8, .f32⟩
  | 64 => ⟨S8192x8, .f32⟩
  | 65 => ⟨S1x8192x1x8, .f32⟩
  | 66 => ⟨S8192x8, .f32⟩
  | 67 => ⟨S1x8192x1x8, .f32⟩
  | 68 => ⟨S2x8192x16x8, .f32⟩
  | 69 => ⟨S2x8192x16x8, .f32⟩
  | 70 => ⟨S2x8192x16x8, .f32⟩
  | 71 => ⟨S2x8192x16x8, .f32⟩
  | 72 => ⟨S2x8192x16x8, .f32⟩
  | 73 => ⟨S2x8192x16x8, .f32⟩
  | 74 => ⟨S2x8192x16x8, .f32⟩
  | 75 => ⟨S2x8192x16x8, .f32⟩
  | 76 => ⟨S2x8192x16x8, .f32⟩
  | 77 => ⟨S2x8192x16x8, .f32⟩
  | 78 => ⟨S2x8192x16x8, .f32⟩
  | 79 => ⟨S2x8192x16x8, .f32⟩
  | 80 => ⟨S2x8192x16x48, .f32⟩
  | 81 => ⟨S2x8192x16x64, .f32⟩
  | 82 => ⟨S2x8192x4x64, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S_, .f32⟩
  | 95 => ⟨S8, .f32⟩
  | 96 => ⟨S8, .f32⟩
  | 97 => ⟨S8192, .f32⟩
  | 98 => ⟨S8192x1, .f32⟩
  | 99 => ⟨S1x8, .f32⟩
  | 100 => ⟨S8192x8, .f32⟩
  | 101 => ⟨S8192x8, .f32⟩
  | 102 => ⟨S8192x8, .f32⟩
  | 103 => ⟨S8192x8, .f32⟩
  | 104 => ⟨S1x8192x1x8, .f32⟩
  | 105 => ⟨S8192x8, .f32⟩
  | 106 => ⟨S1x8192x1x8, .f32⟩
  | 107 => ⟨S2x8192x4x8, .f32⟩
  | 108 => ⟨S2x8192x4x8, .f32⟩
  | 109 => ⟨S2x8192x4x8, .f32⟩
  | 110 => ⟨S2x8192x4x8, .f32⟩
  | 111 => ⟨S2x8192x4x8, .f32⟩
  | 112 => ⟨S2x8192x4x8, .f32⟩
  | 113 => ⟨S2x8192x4x8, .f32⟩
  | 114 => ⟨S2x8192x4x8, .f32⟩
  | 115 => ⟨S2x8192x4x8, .f32⟩
  | 116 => ⟨S2x8192x4x8, .f32⟩
  | 117 => ⟨S2x8192x4x8, .f32⟩
  | 118 => ⟨S2x8192x4x8, .f32⟩
  | 119 => ⟨S2x8192x4x48, .f32⟩
  | 120 => ⟨S2x8192x4x64, .f32⟩
  | 121 => ⟨S4x128x128, .f32⟩
  | 122 => ⟨S512, .f32⟩
  | 123 => ⟨S_, .f32⟩
  | 124 => ⟨S2x15x512, .f32⟩
  | 125 => ⟨S2x8207x512, .f32⟩
  | 126 => ⟨S2x8192x128, .f32⟩
  | 127 => ⟨S_, .f32⟩
  | _ => ⟨S2x8192x1024, .f32⟩

abbrev hbmTy0_1 (i : Nat) : BufTy := match i % 128 with
  | 0 => ⟨S2x8192x128, .f32⟩
  | 1 => ⟨S2x8192x128, .f32⟩
  | 2 => ⟨S2x8192x128, .f32⟩
  | 3 => ⟨S2x8192x128, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .f32⟩
  | 11 => ⟨S1x8192x1, .f32⟩
  | 12 => ⟨S2x8192x128, .f32⟩
  | 13 => ⟨S2x8192x128, .f32⟩
  | 14 => ⟨S2x8192x128, .f32⟩
  | 15 => ⟨S_, .f32⟩
  | 16 => ⟨S2x8192x128, .f32⟩
  | 17 => ⟨S2x8192x128, .f32⟩
  | 18 => ⟨S2x8192x128, .f32⟩
  | 19 => ⟨S2x8192x128, .f32⟩
  | 20 => ⟨S2x8192x128, .f32⟩
  | 21 => ⟨S2x8192x128, .f32⟩
  | 22 => ⟨S2x8192x128, .f32⟩
  | 23 => ⟨S2x8192x128, .f32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S8192, .f32⟩
  | 31 => ⟨S1x8192x1, .f32⟩
  | 32 => ⟨S2x8192x128, .f32⟩
  | 33 => ⟨S2x8192x128, .f32⟩
  | 34 => ⟨S2x8192x128, .f32⟩
  | 35 => ⟨S_, .f32⟩
  | 36 => ⟨S2x8192x128, .f32⟩
  | 37 => ⟨S2x8192x128, .f32⟩
  | 38 => ⟨S2x8192x128, .f32⟩
  | 39 => ⟨S2x8192x128, .f32⟩
  | 40 => ⟨S2x8192x128, .f32⟩
  | 41 => ⟨S2x8192x128, .f32⟩
  | 42 => ⟨S2x8192x128, .f32⟩
  | 43 => ⟨S2x8192x128, .f32⟩
  | 44 => ⟨S2x8192x128, .f32⟩
  | 45 => ⟨S2x8192x128, .f32⟩
  | 46 => ⟨S2x8192x128, .f32⟩
  | 47 => ⟨S2x8192x128, .f32⟩
  | 48 => ⟨S2x8192x128, .f32⟩
  | 49 => ⟨S2x8192x128, .f32⟩
  | 50 => ⟨S2x8192x128, .f32⟩
  | 51 => ⟨S2x8192x128, .f32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192, .f32⟩
  | 59 => ⟨S1x8192x1, .f32⟩
  | 60 => ⟨S2x8192x128, .f32⟩
  | 61 => ⟨S2x8192x128, .f32⟩
  | 62 => ⟨S2x8192x128, .f32⟩
  | 63 => ⟨S_, .f32⟩
  | 64 => ⟨S2x8192x128, .f32⟩
  | 65 => ⟨S2x8192x128, .f32⟩
  | 66 => ⟨S2x8192x128, .f32⟩
  | 67 => ⟨S2x8192x128, .f32⟩
  | 68 => ⟨S2x8192x128, .f32⟩
  | 69 => ⟨S2x8192x128, .f32⟩
  | 70 => ⟨S2x8192x128, .f32⟩
  | 71 => ⟨S2x8192x128, .f32⟩
  | 72 => ⟨S2x8192x128, .f32⟩
  | 73 => ⟨S2x8192x128, .f32⟩
  | 74 => ⟨S2x8192x128, .f32⟩
  | 75 => ⟨S2x8192x128, .f32⟩
  | 76 => ⟨S2x8192x128, .f32⟩
  | 77 => ⟨S2x8192x128, .f32⟩
  | 78 => ⟨S2x8192x128, .f32⟩
  | 79 => ⟨S2x8192x128, .f32⟩
  | 80 => ⟨S2x8192x128, .f32⟩
  | 81 => ⟨S2x8192x128, .f32⟩
  | 82 => ⟨S2x8192x128, .f32⟩
  | 83 => ⟨S2x8192x128, .f32⟩
  | 84 => ⟨S2x8192x128, .f32⟩
  | 85 => ⟨S2x8192x128, .f32⟩
  | 86 => ⟨S2x8192x128, .f32⟩
  | 87 => ⟨S2x8192x128, .f32⟩
  | 88 => ⟨S2x8192x128, .f32⟩
  | 89 => ⟨S2x8192x128, .f32⟩
  | 90 => ⟨S2x8192x128, .f32⟩
  | 91 => ⟨S2x8192x128, .f32⟩
  | 92 => ⟨S2x8192x128, .f32⟩
  | 93 => ⟨S2x8192x128, .f32⟩
  | 94 => ⟨S2x8192x128, .f32⟩
  | 95 => ⟨S2x8192x128, .f32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .f32⟩
  | 103 => ⟨S1x8192x1, .f32⟩
  | 104 => ⟨S2x8192x128, .f32⟩
  | 105 => ⟨S2x8192x128, .f32⟩
  | 106 => ⟨S2x8192x512, .f32⟩
  | 107 => ⟨S2x8192x512, .f32⟩
  | 108 => ⟨S2x8192x4x128, .f32⟩
  | 109 => ⟨S4x128x2x8192, .f32⟩
  | 110 => ⟨S2x8192x4x128, .f32⟩
  | 111 => ⟨S2x8192x512, .f32⟩
  | 112 => ⟨S1x1x512, .f32⟩
  | 113 => ⟨S2x8192x512, .f32⟩
  | 114 => ⟨S2x8192x512, .f32⟩
  | 115 => ⟨S2x15x512, .f32⟩
  | 116 => ⟨S2x8192x4x64, .f32⟩
  | 117 => ⟨S2x64x128x4x4x64, .f32⟩
  | 118 => ⟨S2x64x128x4x64, .f32⟩
  | 119 => ⟨S2x64x128x4x64, .f32⟩
  | 120 => ⟨S2x1x128x4x64, .f32⟩
  | 121 => ⟨S_, .f32⟩
  | 122 => ⟨S2x1x128x4x64, .f32⟩
  | 123 => ⟨S2x63x128x4x64, .f32⟩
  | 124 => ⟨S2x64x128x4x64, .f32⟩
  | 125 => ⟨S2x64x256x4x64, .f32⟩
  | 126 => ⟨S2x1x128x4x64, .f32⟩
  | 127 => ⟨S_, .f32⟩
  | _ => ⟨S2x8192x1024, .f32⟩

abbrev hbmTy0_2 (i : Nat) : BufTy := match i % 128 with
  | 0 => ⟨S2x1x128x4x64, .f32⟩
  | 1 => ⟨S2x63x128x4x64, .f32⟩
  | 2 => ⟨S2x64x128x4x64, .f32⟩
  | 3 => ⟨S2x64x256x4x64, .f32⟩
  | 4 => ⟨S128, .i32⟩
  | 5 => ⟨S128x1, .i32⟩
  | 6 => ⟨S256, .i32⟩
  | 7 => ⟨S1x256, .i32⟩
  | 8 => ⟨S_, .i32⟩
  | 9 => ⟨S128x1, .i32⟩
  | 10 => ⟨S128x1, .i32⟩
  | 11 => ⟨S128x256, .i32⟩
  | 12 => ⟨S128x256, .i32⟩
  | 13 => ⟨S128x256, .i32⟩
  | 14 => ⟨S64, .i32⟩
  | 15 => ⟨S64x1x1, .i32⟩
  | 16 => ⟨S_, .i32⟩
  | 17 => ⟨S64x1x1, .i32⟩
  | 18 => ⟨S64x1x1, .i32⟩
  | 19 => ⟨S_, .i32⟩
  | 20 => ⟨S64x1x1, .i32⟩
  | 21 => ⟨S64x1x1, .i32⟩
  | 22 => ⟨S1x1x256, .i32⟩
  | 23 => ⟨S64x1x256, .i32⟩
  | 24 => ⟨S64x1x256, .i32⟩
  | 25 => ⟨S64x1x256, .i32⟩
  | 26 => ⟨S_, .i32⟩
  | 27 => ⟨S128x256, .i32⟩
  | 28 => ⟨S128x256, .i1⟩
  | 29 => ⟨S1x128x256, .i1⟩
  | 30 => ⟨S_, .i32⟩
  | 31 => ⟨S128x256, .i32⟩
  | 32 => ⟨S128x256, .i1⟩
  | 33 => ⟨S1x128x256, .i1⟩
  | 34 => ⟨S1x128x256, .i1⟩
  | 35 => ⟨S_, .i32⟩
  | 36 => ⟨S64x1x256, .i32⟩
  | 37 => ⟨S64x1x256, .i1⟩
  | 38 => ⟨S64x128x256, .i1⟩
  | 39 => ⟨S64x128x256, .i1⟩
  | 40 => ⟨S64x128x256, .i1⟩
  | 41 => ⟨S2x64x4x256x128x4, .f32⟩
  | 42 => ⟨S2x64x4x4x128x256, .f32⟩
  | 43 => ⟨S_, .f32⟩
  | 44 => ⟨S2x64x4x4x128x256, .f32⟩
  | 45 => ⟨S2x64x4x4x128x256, .f32⟩
  | 46 => ⟨S64x1x1x128x256, .i1⟩
  | 47 => ⟨S_, .f32⟩
  | 48 => ⟨S_, .f32⟩
  | 49 => ⟨S2x64x4x4x128x256, .i1⟩
  | 50 => ⟨S2x64x4x4x128x256, .f32⟩
  | 51 => ⟨S2x64x4x4x128x256, .f32⟩
  | 52 => ⟨S4x4, .f32⟩
  | 53 => ⟨S4x4x1x1, .f32⟩
  | 54 => ⟨S2x64x4x4x128x1, .f32⟩
  | 55 => ⟨S2x64x4x4x128x257, .f32⟩
  | 56 => ⟨S_, .f32⟩
  | 57 => ⟨S2x64x4x4x128, .f32⟩
  | 58 => ⟨S_, .f32⟩
  | 59 => ⟨S2x64x4x4x128, .f32⟩
  | 60 => ⟨S2x64x4x4x128, .f32⟩
  | 61 => ⟨S2x64x4x4x128x1, .f32⟩
  | 62 => ⟨S2x64x4x4x128x257, .f32⟩
  | 63 => ⟨S2x64x4x4x128x257, .f32⟩
  | 64 => ⟨S2x64x4x4x128x257, .f32⟩
  | 65 => ⟨S_, .f32⟩
  | 66 => ⟨S2x64x4x4x128, .f32⟩
  | 67 => ⟨S2x64x4x4x128x1, .f32⟩
  | 68 => ⟨S2x64x4x4x128x257, .f32⟩
  | 69 => ⟨S2x64x4x4x128x257, .f32⟩
  | 70 => ⟨S2x64x4x4x128x256, .f32⟩
  | 71 => ⟨S2x64x4x64x4x128, .f32⟩
  | 72 => ⟨S2x64x128x4x4x64, .f32⟩
  | 73 => ⟨S2x8192x1024, .f32⟩
  | 74 => ⟨S2x8192x1024, .f32⟩
  | 75 => ⟨S2x8192x1024, .f32⟩
  | 76 => ⟨S_, .f32⟩
  | 77 => ⟨S2x8192x1024, .f32⟩
  | 78 => ⟨S2x8192x1024, .f32⟩
  | 79 => ⟨S_, .f32⟩
  | 80 => ⟨S2x8192x1024, .f32⟩
  | 81 => ⟨S2x8192x1024, .f32⟩
  | 82 => ⟨S512x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S_, .f32⟩
  | 88 => ⟨S2x8192x1024, .f32⟩
  | 89 => ⟨S2x8192x1024, .f32⟩
  | 90 => ⟨S_, .f32⟩
  | 91 => ⟨S2x8192x1024, .f32⟩
  | 92 => ⟨S2x8192x1024, .f32⟩
  | 93 => ⟨S1024x1024, .f32⟩
  | 94 => ⟨S2x8192x1024, .f32⟩
  | 95 => ⟨S2x8192x1024, .f32⟩
  | 96 => ⟨S2x8192x1024, .f32⟩
  | 97 => ⟨S1024x1024, .f32⟩
  | 98 => ⟨S2x8192x1024, .f32⟩
  | 99 => ⟨S2x8192x1024, .f32⟩
  | 100 => ⟨S2x8192x256, .f32⟩
  | 101 => ⟨S2x128x256, .f32⟩
  | 102 => ⟨S2x256x128, .f32⟩
  | 103 => ⟨S2x128x256, .f32⟩
  | 104 => ⟨S2x256x128, .f32⟩
  | 105 => ⟨S128x256x127, .f32⟩
  | 106 => ⟨S128x256, .f32⟩
  | 107 => ⟨S128x256x1, .f32⟩
  | 108 => ⟨S128x256x128, .f32⟩
  | 109 => ⟨S128x256x127, .f32⟩
  | 110 => ⟨S128x256, .f32⟩
  | 111 => ⟨S128x256x1, .f32⟩
  | 112 => ⟨S128x256x128, .f32⟩
  | 113 => ⟨S1024x5632, .bf16⟩
  | 114 => ⟨S2816x1024, .bf16⟩
  | 115 => ⟨S256x1024, .bf16⟩
  | 116 => ⟨S1024x1024, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_6 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_10 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_11 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_c : Ref sig .tc := ⟨.hbm, 132, rfl⟩
abbrev main_v102 : Ref sig .tc := ⟨.hbm, 133, rfl⟩
abbrev main_v103 : Ref sig .tc := ⟨.hbm, 134, rfl⟩
abbrev main_c_12 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_13 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_14 : Ref sig .tc := ⟨.hbm, 152, rfl⟩
abbrev main_v119 : Ref sig .tc := ⟨.hbm, 153, rfl⟩
abbrev main_v120 : Ref sig .tc := ⟨.hbm, 154, rfl⟩
abbrev main_c_15 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_16 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_c_17 : Ref sig .tc := ⟨.hbm, 180, rfl⟩
abbrev main_v144 : Ref sig .tc := ⟨.hbm, 181, rfl⟩
abbrev main_v145 : Ref sig .tc := ⟨.hbm, 182, rfl⟩
abbrev main_c_18 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_19 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_c_20 : Ref sig .tc := ⟨.hbm, 224, rfl⟩
abbrev main_v185 : Ref sig .tc := ⟨.hbm, 225, rfl⟩
abbrev main_v186 : Ref sig .tc := ⟨.hbm, 226, rfl⟩
abbrev main_c_21 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_cst_22 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_cst_23 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_c_24 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_c_25 : Ref sig .tc := ⟨.hbm, 272, rfl⟩
abbrev main_v228 : Ref sig .tc := ⟨.hbm, 273, rfl⟩
abbrev main_v229 : Ref sig .tc := ⟨.hbm, 274, rfl⟩
abbrev main_c_26 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_c_27 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_c_28 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_c_29 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_cst_30 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_cst_31 : Ref sig .tc := ⟨.hbm, 303, rfl⟩
abbrev main_call0_v0 : Ref sig .tc := ⟨.hbm, 304, rfl⟩
abbrev main_call0_v1 : Ref sig .tc := ⟨.hbm, 305, rfl⟩
abbrev main_call0_v2 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_cst_32 : Ref sig .tc := ⟨.hbm, 312, rfl⟩
abbrev main_v258 : Ref sig .tc := ⟨.hbm, 313, rfl⟩
abbrev main_cst_33 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_cst_34 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_cst_35 : Ref sig .tc := ⟨.hbm, 332, rfl⟩
abbrev main_v275 : Ref sig .tc := ⟨.hbm, 333, rfl⟩
abbrev main_v276 : Ref sig .tc := ⟨.hbm, 334, rfl⟩
abbrev main_cst_36 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_cst_37 : Ref sig .tc := ⟨.hbm, 343, rfl⟩
abbrev main_v284 : Ref sig .tc := ⟨.hbm, 344, rfl⟩
abbrev main_v285 : Ref sig .tc := ⟨.hbm, 345, rfl⟩
abbrev main_cst_38 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩

abbrev nD : Nat := 1
abbrev τ : Topo := Topo.v7x

variable {F : FTy → Type} [FloatOps F]
-- ==== Proof.Ffn.Row.lean ====
/-
  One token through the feed-forward layer, the per-layer embedding and the final norm, on the extended reals: the
  function both the kernel's blocks and the reference's whole arrays are shown to compute, row by row.
  Beside it the two scalar facts the kernel's own spelling needs: `0.5 * tanh (0.5 x) + 0.5` is the logistic function
  at every extended real, and a sum over the 2816 hidden units is the sum of its three runs.
-/
module

public import Idealize.ShloMosaic.Lib.Pointwise
public import Idealize.ShloMosaic.Lib.IdealHost

@[expose] public section

noncomputable section

namespace Cert.Ffn

open Idealize.ShloMosaic

/-- The row `x` over the root of its mean square, times the gains `g`. -/
def rms (x g : Fin 1024 → EReal) (l : Fin 1024) : EReal :=
  x l * Ideal.rsqrt (Ideal.div (∑ k, x k * x k) (Ideal.ofBits .f32 0x44800000#32) + Ideal.ofBits .f32 0x358637BD#32) * g l

/-- The weights of the layer, read as functions of their indices. -/
structure Weights where
  ln2 : Fin 1024 → EReal
  w1 : Fin 1024 → Fin 5632 → EReal
  w2 : Fin 2816 → Fin 1024 → EReal
  wpp : Fin 256 → Fin 1024 → EReal
  pn : Fin 1024 → EReal
  wpg : Fin 1024 → Fin 1024 → EReal
  fn : Fin 1024 → EReal

variable (W : Weights) (h : Fin 1024 → EReal) (p : Fin 256 → EReal)

/-- The normed row times column `j` of the first weight. -/
def up (j : Fin 5632) : EReal := ∑ k, rms h W.ln2 k * W.w1 k j

/-- Hidden unit `j`: the gate, its logistic, and the linear half. -/
def act (j : Fin 2816) : EReal :=
  up W h ⟨j, by omega⟩ * Ideal.logistic (up W h ⟨j, by omega⟩) * up W h ⟨2816 + j, by omega⟩

/-- The row after the feed-forward layer. -/
def mid (l : Fin 1024) : EReal := h l + ∑ j, act W h j * W.w2 j l

/-- The token's embedding, projected and normed. -/
def emb (l : Fin 1024) : EReal := rms (fun l => ∑ k, p k * W.wpp k l) W.pn l

/-- The gate of the embedding. -/
def gate (l : Fin 1024) : EReal := ∑ k, mid W h k * W.wpg k l

/-- The row the layer gives back. -/
def out (l : Fin 1024) : EReal :=
  rms (fun l => mid W h l + Ideal.logistic (gate W h l) * emb W p l) W.fn l

theorem ofBits_half : Ideal.ofBits .f32 0x3F000000#32 = (((1 : ℝ) / 2 : ℝ) : EReal) := by
  simp [Ideal.ofBits, Ideal.ieee, -EReal.coe_mul]; norm_num

/-- Half the hyperbolic tangent of half, plus a half, is the logistic function, at the infinities too. -/
theorem half_tanh (x : EReal) :
    Ideal.ofBits .f32 0x3F000000#32 * Ideal.tanh (Ideal.ofBits .f32 0x3F000000#32 * x) + Ideal.ofBits .f32 0x3F000000#32
      = Ideal.logistic x := by
  rw [ofBits_half]
  induction x using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [show (1 : EReal) = ((1 : ℝ) : EReal) by norm_cast, ← EReal.coe_mul, ← EReal.coe_add]
    norm_num
  | coe r =>
    rw [← EReal.coe_mul, Ideal.tanh_coe, ← EReal.coe_mul, ← EReal.coe_add, Ideal.logistic_coe]
    congr 1
    have h2 : Real.exp (-r) = Real.exp (-(1 / 2 * r)) * Real.exp (-(1 / 2 * r)) := by
      rw [← Real.exp_add]; ring_nf
    have hp := Real.exp_pos (1 / 2 * r)
    have hi : Real.exp (-(1 / 2 * r)) = (Real.exp (1 / 2 * r))⁻¹ := Real.exp_neg _
    rw [Real.tanh_eq_sinh_div_cosh, Real.sinh_eq, Real.cosh_eq, h2, hi]
    have hp2 : 0 < Real.exp (1 / 2 * r) * Real.exp (1 / 2 * r) + 1 := by positivity
    field_simp
    ring

/-- A quotient of one over one plus the exponential of the negation is the logistic function. -/
theorem div_exp (x : EReal) : Ideal.div 1 (1 + Ideal.exp (-x)) = Ideal.logistic x := rfl

/-- The 2816 hidden units in three runs, of 1024, 1024 and 768. -/
theorem sum_runs (f : Fin 2816 → EReal) :
    ∑ j, f j = (∑ j : Fin 1024, f ⟨j, by omega⟩) + (∑ j : Fin 1024, f ⟨1024 + j, by omega⟩)
      + ∑ j : Fin 768, f ⟨2048 + j, by omega⟩ := by
  rw [show (∑ j, f j) = ∑ j : Fin (1024 + 1024 + 768), f j from rfl, Fin.sum_univ_add, Fin.sum_univ_add]
  rfl

end Cert.Ffn

end
end
-- ==== Proof.Ffn.Block.lean ====
/-
  What one grid point of the feed-forward call stores, row by row: the first 512 rows of its block of the prompt, its
  second 512 rows, and its 8 rows of the sample, each the function `out` of the row of states and the row of embeddings
  that came in. The kernel works the hidden units in three runs and spells the logistic function by the tangent.
-/
module

public import proofs.«01_k».proof.Proof.Ffn.Row
public import proofs.«01_k».proof.Proof.Gen.Kernel2Ideal.Frame

@[expose] public section

noncomputable section

namespace Cert.Ffn

open Idealize.ShloMosaic Cert.Kernel2Ideal Cert.Kernel2Ideal.Gen

/-- The weights as the kernel's blocks hold them. -/
def blkW (x4 : Vec Ideal S1x1024 .f32) (x5 : Vec Ideal S1024x5632 .bf16) (x6 : Vec Ideal S2816x1024 .bf16)
    (x7 : Vec Ideal S256x1024 .bf16) (x8 : Vec Ideal S1x1024 .f32) (x9 : Vec Ideal S1024x1024 .bf16)
    (x10 : Vec Ideal S1x1024 .f32) : Weights where
  ln2 k := x4 (ix2 0 k)
  w1 k j := x5 (ix2 k j)
  w2 j l := x6 (ix2 j l)
  wpp k l := x7 (ix2 k l)
  pn k := x8 (ix2 0 k)
  wpg k l := x9 (ix2 k l)
  fn k := x10 (ix2 0 k)

section

variable (x0 : Vec Ideal S1024x1024 .f32) (x1 : Vec Ideal S1024x256 .f32) (x2 : Vec Ideal S8x1024 .f32)
  (x3 : Vec Ideal S8x1x256 .f32) (x4 : Vec Ideal S1x1024 .f32) (x5 : Vec Ideal S1024x5632 .bf16)
  (x6 : Vec Ideal S2816x1024 .bf16) (x7 : Vec Ideal S256x1024 .bf16) (x8 : Vec Ideal S1x1024 .f32)
  (x9 : Vec Ideal S1024x1024 .bf16) (x10 : Vec Ideal S1x1024 .f32)

/-! ## The first 512 rows -/

/-- Row `r` of the first half of the block of states. -/
def lo (r : Fin 512) (k : Fin 1024) : EReal := x0 (ix2 ⟨r, by omega⟩ k)

theorem pay5_row (v0 : Vec Ideal S512x1024 .f32) (v2 : Vec Ideal S1x1024 .f32) (r : Fin 512) (l : Fin 1024) :
    k0_pay5 v0 v2 (ix2 r l) = rms (fun k => v0 (ix2 r k)) (fun k => v2 (ix2 0 k)) l := by
  pointwise [k0_pay5, k0_pay4]
  rfl

/-- The rows after the feed-forward layer, the first two runs of hidden units taken in, and the third run's sum. -/
theorem mid_lo (r : Fin 512) (l : Fin 1024) :
    k0_pay36 x0 x1 x2 x3 x4 x5 x6 x7 x8 x9 x10 (ix2 r l) + k0_pay38 x0 x1 x2 x3 x4 x5 x6 x7 x8 x9 x10 (ix2 r l)
      = mid (blkW x4 x5 x6 x7 x8 x9 x10) (lo x0 r) l := by
  pointwise [k0_pay36, k0_pay14, k0_pay9, k0_pay4, k0_pay8, k0_pay13, k0_pay6, k0_pay7, half_tanh, pay5_row,
    k0_pay38, k0_pay19, k0_pay10, k0_pay11, k0_pay34]
  unfold mid
  rw [sum_runs]
  unfold act up blkW lo
  simp only [add_assoc, ← Nat.add_assoc, Nat.reduceAdd]

/-- The embeddings of the first half, projected and normed. -/
theorem emb_lo (r : Fin 512) (l : Fin 1024) :
    k0_pay35 x0 x1 x2 x3 x4 x5 x6 x7 x8 x9 x10 (ix2 r l)
      = emb (blkW x4 x5 x6 x7 x8 x9 x10) (fun k => x1 (ix2 ⟨r, by omega⟩ k)) l := by
  pointwise [k0_pay35, k0_pay12]
  rfl

/-- The gated sum of the two. -/
theorem sum_lo (r : Fin 512) (l : Fin 1024) :
    k0_pay23 (k0_pay35 x0 x1 x2 x3 x4 x5 x6 x7 x8 x9 x10) (k0_pay36 x0 x1 x2 x3 x4 x5 x6 x7 x8 x9 x10)
        (k0_pay38 x0 x1 x2 x3 x4 x5 x6 x7 x8 x9 x10) (View.ld x9 r0_15) (ix2 r l)
      = mid (blkW x4 x5 x6 x7 x8 x9 x10) (lo x0 r) l
        + Ideal.logistic (gate (blkW x4 x5 x6 x7 x8 x9 x10) (lo x0 r) l)
          * emb (blkW x4 x5 x6 x7 x8 x9 x10) (fun k => x1 (ix2 ⟨r, by omega⟩ k)) l := by
  pointwise [k0_pay23, half_tanh, mid_lo, emb_lo]
  rfl

/-- The store of the first half, at a row and a column. -/
theorem out_lo (r : Fin 512) (l : Fin 1024) :
    k0_pay26 (k0_pay23 (k0_pay35 x0 x1 x2 x3 x4 x5 x6 x7 x8 x9 x10) (k0_pay36 x0 x1 x2 x3 x4 x5 x6 x7 x8 x9 x10)
          (k0_pay38 x0 x1 x2 x3 x4 x5 x6 x7 x8 x9 x10) (View.ld x9 r0_15))
        (k0_pay24 (View.ld x10 r0_1))
        (k0_pay25 (k0_pay35 x0 x1 x2 x3 x4 x5 x6 x7 x8 x9 x10) (k0_pay36 x0 x1 x2 x3 x4 x5 x6 x7 x8 x9 x10)
          (k0_pay38 x0 x1 x2 x3 x4 x5 x6 x7 x8 x9 x10) (View.ld x9 r0_15))
        (Scalar.ofBits .f32 0x358637BD#32) (ix2 r l)
      = out (blkW x4 x5 x6 x7 x8 x9 x10) (lo x0 r) (fun k => x1 (ix2 ⟨r, by omega⟩ k)) l := by
  pointwise [k0_pay26, k0_pay24, k0_pay25, sum_lo]
  rfl

/-! ## The second 512 rows, with the sample's 8 rows and 8 rows of zeros behind them -/

/-- Row `r` of the second half of the states, the sample's rows and the zero rows behind it. -/
def hi (r : Fin 528) (k : Fin 1024) : EReal := k0_pay15 (View.ld x2 r0_12) (View.ld x0 r0_13) (ix2 r k)

/-- The same of the embeddings. -/
def hiP (r : Fin 528) (k : Fin 256) : EReal :=
  if h : r.val < 512 then x1 (ix2 ⟨512 + r, by omega⟩ k)
  else if h : r.val - 512 < 8 then x3 (ix3 ⟨r - 512, h⟩ 0 k) else 0

theorem pay16_row (v74 : Vec Ideal S8x1024 .f32) (v75 : Vec Ideal S512x1024 .f32) (v79 : Vec Ideal S1x1024 .f32)
    (r : Fin 528) (l : Fin 1024) :
    k0_pay16 v74 v75 v79 (ix2 r l) = rms (fun k => k0_pay15 v74 v75 (ix2 r k)) (fun k => v79 (ix2 0 k)) l := by
  pointwise [k0_pay16]
  rfl

theorem emb_hi (r : Fin 528) (l : Fin 1024) :
    k0_pay44 x0 x1 x2 x3 x4 x5 x6 x7 x8 x9 x10 (ix2 r l) = emb (blkW x4 x5 x6 x7 x8 x9 x10) (hiP x1 x3 r) l := by
  pointwise [k0_pay44, k0_pay29]
  rfl

/-- The sum before the last norm, over the rows of the feed-forward layer. -/
theorem sum_hi (r : Fin 528) (l : Fin 1024) :
    k0_pay46 x0 x1 x2 x3 x4 x5 x6 x7 x8 x9 x10 (ix2 r l)
      = mid (blkW x4 x5 x6 x7 x8 x9 x10) (hi x0 x2 r) l
        + Ideal.logistic (gate (blkW x4 x5 x6 x7 x8 x9 x10) (hi x0 x2 r) l)
          * emb (blkW x4 x5 x6 x7 x8 x9 x10) (hiP x1 x3 r) l := by
  have hm : ∀ l, mid (blkW x4 x5 x6 x7 x8 x9 x10) (hi x0 x2 r) l = _ := fun l => by
    unfold mid; rw [sum_runs]
  unfold gate
  simp only [hm]
  pointwise [k0_pay46, k0_pay31, half_tanh, emb_hi, k0_pay45, k0_pay30, k0_pay39, k0_pay20, k0_pay40, k0_pay21, k0_pay37,
    k0_pay41, k0_pay22, k0_pay17, k0_pay18, k0_pay42, k0_pay27, k0_pay43, k0_pay28, pay16_row]
  unfold act up blkW hi
  simp only [add_assoc, ← Nat.add_assoc, Nat.reduceAdd]

/-- The store of the second half, at a row and a column. -/
theorem out_hi (r : Fin 512) (l : Fin 1024) :
    k0_pay2 (k0_pay46 x0 x1 x2 x3 x4 x5 x6 x7 x8 x9 x10) (k0_pay47 x0 x1 x2 x3 x4 x5 x6 x7 x8 x9 x10)
        (k0_pay48 x0 x1 x2 x3 x4 x5 x6 x7 x8 x9 x10) (ix2 r l)
      = out (blkW x4 x5 x6 x7 x8 x9 x10) (fun k => x0 (ix2 ⟨512 + r, by omega⟩ k))
          (fun k => x1 (ix2 ⟨512 + r, by omega⟩ k)) l := by
  have hh : (fun k => x0 (ix2 ⟨512 + r, by omega⟩ k)) = hi x0 x2 ⟨r, by omega⟩ := by
    funext k
    pointwise [hi, k0_pay15]
  have hp : (fun k => x1 (ix2 ⟨512 + r, by omega⟩ k)) = hiP x1 x3 ⟨r, by omega⟩ := by
    funext k
    simp [hiP]
  rw [hh, hp]
  pointwise [k0_pay2, k0_pay1, k0_pay47, k0_pay32, k0_pay48, k0_pay33]
  have e : k0_pay31 (k0_pay39 x0 x1 x2 x3 x4 x5 x6 x7 x8 x9 x10) (k0_pay40 x0 x1 x2 x3 x4 x5 x6 x7 x8 x9 x10)
      (k0_pay41 x0 x1 x2 x3 x4 x5 x6 x7 x8 x9 x10) (k0_pay42 x0 x1 x2 x3 x4 x5 x6 x7 x8 x9 x10)
      (k0_pay43 x0 x1 x2 x3 x4 x5 x6 x7 x8 x9 x10) (k0_pay44 x0 x1 x2 x3 x4 x5 x6 x7 x8 x9 x10)
      (k0_pay45 x0 x1 x2 x3 x4 x5 x6 x7 x8 x9 x10) (View.ld x6 r0_11) (View.ld x6 r0_14) (View.ld x9 r0_15)
      = k0_pay46 x0 x1 x2 x3 x4 x5 x6 x7 x8 x9 x10 := rfl
  simp only [e, sum_hi]
  rfl

/-- The store of the sample's rows, at a row and a column. -/
theorem out_sample (r : Fin 8) (l : Fin 1024) :
    k0_pay3 (k0_pay46 x0 x1 x2 x3 x4 x5 x6 x7 x8 x9 x10) (k0_pay47 x0 x1 x2 x3 x4 x5 x6 x7 x8 x9 x10)
        (k0_pay48 x0 x1 x2 x3 x4 x5 x6 x7 x8 x9 x10) (ix3 r 0 l)
      = out (blkW x4 x5 x6 x7 x8 x9 x10) (fun k => x2 (ix2 r k)) (fun k => x3 (ix3 r 0 k)) l := by
  have hh : (fun k => x2 (ix2 r k)) = hi x0 x2 ⟨512 + r, by omega⟩ := by
    funext k
    pointwise [hi, k0_pay15]
  have hp : (fun k => x3 (ix3 r 0 k)) = hiP x1 x3 ⟨512 + r, by omega⟩ := by
    funext k
    simp [hiP]
  rw [hh, hp]
  pointwise [k0_pay3, k0_pay1, k0_pay47, k0_pay32, k0_pay48, k0_pay33]
  have e : k0_pay31 (k0_pay39 x0 x1 x2 x3 x4 x5 x6 x7 x8 x9 x10) (k0_pay40 x0 x1 x2 x3 x4 x5 x6 x7 x8 x9 x10)
      (k0_pay41 x0 x1 x2 x3 x4 x5 x6 x7 x8 x9 x10) (k0_pay42 x0 x1 x2 x3 x4 x5 x6 x7 x8 x9 x10)
      (k0_pay43 x0 x1 x2 x3 x4 x5 x6 x7 x8 x9 x10) (k0_pay44 x0 x1 x2 x3 x4 x5 x6 x7 x8 x9 x10)
      (k0_pay45 x0 x1 x2 x3 x4 x5 x6 x7 x8 x9 x10) (View.ld x6 r0_11) (View.ld x6 r0_14) (View.ld x9 r0_15)
      = k0_pay46 x0 x1 x2 x3 x4 x5 x6 x7 x8 x9 x10 := rfl
  simp only [e, sum_hi]
  rfl

end

end Cert.Ffn

end
end
-- ==== Proof.Ffn.Arrays.lean ====
/-
  The two result arrays of the feed-forward call after its 16 points: row `n` of the first is the function `out` of row
  `n` of the prompt's states and of its embeddings, row `n` of the second the same of the sample's. Point `t` takes rows
  `1024 t` to `1024 t + 1023` of the prompt and rows `8 t` to `8 t + 7` of the sample, and the weights whole.
-/
module

public import proofs.«01_k».proof.Proof.Ffn.Block
public import Idealize.ShloMosaic.Lib.Pipeline.Value
public import Idealize.ShloMosaic.Lib.StableHlo.ReadAt

@[expose] public section

noncomputable section

namespace Cert.Ffn

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-! ## The arguments, read as functions of their indices -/

/-- The weights the arguments hold. -/
def argW (c : Dev nD) : Weights where
  ln2 k := m (c, Proc.tc.devRef main_arg4) (ix2 0 k)
  w1 k j := m (c, Proc.tc.devRef main_arg5) (ix2 k j)
  w2 j l := m (c, Proc.tc.devRef main_arg6) (ix2 j l)
  wpp k l := m (c, Proc.tc.devRef main_arg7) (ix2 k l)
  pn k := m (c, Proc.tc.devRef main_arg8) (ix2 0 k)
  wpg k l := m (c, Proc.tc.devRef main_arg9) (ix2 k l)
  fn k := m (c, Proc.tc.devRef main_arg10) (ix1 k)

/-- Token `n` of the prompt, the two batches one after the other: its state, -/
def hRow (c : Dev nD) (n : Fin 16384) (k : Fin 1024) : EReal :=
  m (c, Proc.tc.devRef main_arg0) (ix3 ⟨n / 8192, by omega⟩ ⟨n % 8192, by omega⟩ k)

/-- and its embedding. -/
def pRow (c : Dev nD) (n : Fin 16384) (k : Fin 256) : EReal :=
  m (c, Proc.tc.devRef main_arg1) (ix4 0 ⟨n / 8192, by omega⟩ ⟨n % 8192, by omega⟩ k)

/-- Token `n` of the sample: its state, -/
def hsRow (c : Dev nD) (n : Fin 128) (k : Fin 1024) : EReal := m (c, Proc.tc.devRef main_arg2) (ix2 n k)

/-- and its embedding. -/
def psRow (c : Dev nD) (n : Fin 128) (k : Fin 256) : EReal := m (c, Proc.tc.devRef main_arg3) (ix4 0 n 0 k)

/-! ## What the host lays out before the call -/

theorem V_h (c : Dev nD) (r : Fin 16384) (k : Fin 1024) : V m c main_v0 (ix2 r k) = hRow m c r k := by
  unfold V
  after_reads_at
  rfl

theorem V_p (c : Dev nD) (r : Fin 16384) (k : Fin 256) : V m c main_v2 (ix2 r k) = pRow m c r k := by
  unfold V
  after_reads_at
  rfl

theorem V_ps (c : Dev nD) (r : Fin 128) (k : Fin 256) : V m c main_v3 (ix3 r 0 k) = psRow m c r k := by
  unfold V
  after_reads_at
  rfl

theorem V_ln2 (c : Dev nD) (k : Fin 1024) : V m c main_v5 (ix2 0 k) = (argW m c).ln2 k := by
  unfold V
  after_reads_at
  rfl

theorem V_pn (c : Dev nD) (k : Fin 1024) : V m c main_v7 (ix2 0 k) = (argW m c).pn k := by
  unfold V
  after_reads_at
  rfl

theorem V_fn (c : Dev nD) (k : Fin 1024) : V m c main_v8 (ix2 0 k) = (argW m c).fn k := by
  unfold V
  after_reads_at
  rfl

/-! ## The blocks of a point -/

theorem lt_pts (t : Fin cfg0.N) : t.val < 16 := lt_of_lt_of_eq t.isLt N_0

theorem index_prompt : ∀ t : Fin cfg0.N, (win0_0.index t 0 = t.val ∧ win0_0.index t 1 = 0)
    ∧ (win0_1.index t 0 = t.val ∧ win0_1.index t 1 = 0) ∧ (win0_11.index t 0 = t.val ∧ win0_11.index t 1 = 0) := by
  decide +kernel

theorem index_sample : ∀ t : Fin cfg0.N, (win0_2.index t 0 = t.val ∧ win0_2.index t 1 = 0)
    ∧ (win0_3.index t 0 = t.val ∧ win0_3.index t 1 = 0 ∧ win0_3.index t 2 = 0)
    ∧ (win0_12.index t 0 = t.val ∧ win0_12.index t 1 = 0 ∧ win0_12.index t 2 = 0) := by
  decide +kernel

theorem index_weights : ∀ t : Fin cfg0.N, (∀ a, win0_4.index t a = 0) ∧ (∀ a, win0_5.index t a = 0)
    ∧ (∀ a, win0_6.index t a = 0) ∧ (∀ a, win0_7.index t a = 0) ∧ (∀ a, win0_8.index t a = 0)
    ∧ (∀ a, win0_9.index t a = 0) ∧ (∀ a, win0_10.index t a = 0) := by
  decide +kernel

theorem blk_h (c : Dev nD) (t : Fin cfg0.N) (r : Fin 1024) (k : Fin 1024) :
    iblk m c 0 t (ix2 r k) = hRow m c ⟨1024 * t.val + r.val, by have := lt_pts t; omega⟩ k := by
  rw [← V_h]
  show V m c main_v0 ((win0_0.rect t).emb (ix2 r k)) = _
  congr 1
  funext a
  apply Fin.ext
  match a with
  | ⟨0, _⟩ =>
    show win0_0.index t 0 * 1024 + 1 * r.val = 1024 * t.val + r.val
    rw [(index_prompt t).1.1]; omega
  | ⟨1, _⟩ =>
    show win0_0.index t 1 * 1024 + 1 * k.val = k.val
    rw [(index_prompt t).1.2]; omega

theorem blk_p (c : Dev nD) (t : Fin cfg0.N) (r : Fin 1024) (k : Fin 256) :
    iblk m c 1 t (ix2 r k) = pRow m c ⟨1024 * t.val + r.val, by have := lt_pts t; omega⟩ k := by
  rw [← V_p]
  show V m c main_v2 ((win0_1.rect t).emb (ix2 r k)) = _
  congr 1
  funext a
  apply Fin.ext
  match a with
  | ⟨0, _⟩ =>
    show win0_1.index t 0 * 1024 + 1 * r.val = 1024 * t.val + r.val
    rw [(index_prompt t).2.1.1]; omega
  | ⟨1, _⟩ =>
    show win0_1.index t 1 * 256 + 1 * k.val = k.val
    rw [(index_prompt t).2.1.2]; omega

theorem blk_hs (c : Dev nD) (t : Fin cfg0.N) (r : Fin 8) (k : Fin 1024) :
    iblk m c 2 t (ix2 r k) = hsRow m c ⟨8 * t.val + r.val, by have := lt_pts t; omega⟩ k := by
  unfold hsRow
  rw [← show V m c main_arg2 = m (c, Proc.tc.devRef main_arg2) from V_main_arg2 m c]
  show V m c main_arg2 ((win0_2.rect t).emb (ix2 r k)) = _
  congr 1
  funext a
  apply Fin.ext
  match a with
  | ⟨0, _⟩ =>
    show win0_2.index t 0 * 8 + 1 * r.val = 8 * t.val + r.val
    rw [(index_sample t).1.1]; omega
  | ⟨1, _⟩ =>
    show win0_2.index t 1 * 1024 + 1 * k.val = k.val
    rw [(index_sample t).1.2]; omega

theorem blk_ps (c : Dev nD) (t : Fin cfg0.N) (r : Fin 8) (k : Fin 256) :
    iblk m c 3 t (ix3 r 0 k) = psRow m c ⟨8 * t.val + r.val, by have := lt_pts t; omega⟩ k := by
  rw [← V_ps]
  show V m c main_v3 ((win0_3.rect t).emb (ix3 r 0 k)) = _
  congr 1
  funext a
  apply Fin.ext
  match a with
  | ⟨0, _⟩ =>
    show win0_3.index t 0 * 8 + 1 * r.val = 8 * t.val + r.val
    rw [(index_sample t).2.1.1]; omega
  | ⟨1, _⟩ =>
    show win0_3.index t 1 * 1 + 1 * 0 = 0
    rw [(index_sample t).2.1.2.1]
  | ⟨2, _⟩ =>
    show win0_3.index t 2 * 256 + 1 * k.val = k.val
    rw [(index_sample t).2.1.2.2]; omega

/-- A block at index zero in both coordinates is read where it is. -/
theorem ix2_at {n k : Nat} {e : (⟨2, ![n, k]⟩ : Shape).Idx} {i : Fin n} {j : Fin k} (h0 : (e 0).val = i.val)
    (h1 : (e 1).val = j.val) : e = ix2 i j := by
  funext a
  apply Fin.ext
  match a with
  | ⟨0, _⟩ => exact h0
  | ⟨1, _⟩ => exact h1

/-- The weights a point finds are the arguments'. -/
theorem blk_W (c : Dev nD) (t : Fin cfg0.N) :
    blkW (iblk m c 4 t) (iblk m c 5 t) (iblk m c 6 t) (iblk m c 7 t) (iblk m c 8 t) (iblk m c 9 t) (iblk m c 10 t)
      = argW m c := by
  obtain ⟨h4, h5, h6, h7, h8, h9, h10⟩ := index_weights t
  have e4 : ∀ k, iblk m c 4 t (ix2 0 k) = (argW m c).ln2 k := fun k => by
    rw [← V_ln2]
    exact congrArg (V m c main_v5) (ix2_at (show win0_4.index t 0 * 1 + 1 * 0 = 0 by rw [h4])
      (show win0_4.index t 1 * 1024 + 1 * k.val = k.val by rw [h4]; omega))
  have e5 : ∀ k j, iblk m c 5 t (ix2 k j) = (argW m c).w1 k j := fun k j => by
    show _ = m (c, Proc.tc.devRef main_arg5) (ix2 k j)
    rw [← show V m c main_arg5 = m (c, Proc.tc.devRef main_arg5) from V_main_arg5 m c]
    exact congrArg (V m c main_arg5) (ix2_at (show win0_5.index t 0 * 1024 + 1 * k.val = k.val by rw [h5]; omega)
      (show win0_5.index t 1 * 5632 + 1 * j.val = j.val by rw [h5]; omega))
  have e6 : ∀ k j, iblk m c 6 t (ix2 k j) = (argW m c).w2 k j := fun k j => by
    show _ = m (c, Proc.tc.devRef main_arg6) (ix2 k j)
    rw [← show V m c main_arg6 = m (c, Proc.tc.devRef main_arg6) from V_main_arg6 m c]
    exact congrArg (V m c main_arg6) (ix2_at (show win0_6.index t 0 * 2816 + 1 * k.val = k.val by rw [h6]; omega)
      (show win0_6.index t 1 * 1024 + 1 * j.val = j.val by rw [h6]; omega))
  have e7 : ∀ k j, iblk m c 7 t (ix2 k j) = (argW m c).wpp k j := fun k j => by
    show _ = m (c, Proc.tc.devRef main_arg7) (ix2 k j)
    rw [← show V m c main_arg7 = m (c, Proc.tc.devRef main_arg7) from V_main_arg7 m c]
    exact congrArg (V m c main_arg7) (ix2_at (show win0_7.index t 0 * 256 + 1 * k.val = k.val by rw [h7]; omega)
      (show win0_7.index t 1 * 1024 + 1 * j.val = j.val by rw [h7]; omega))
  have e8 : ∀ k, iblk m c 8 t (ix2 0 k) = (argW m c).pn k := fun k => by
    rw [← V_pn]
    exact congrArg (V m c main_v7) (ix2_at (show win0_8.index t 0 * 1 + 1 * 0 = 0 by rw [h8])
      (show win0_8.index t 1 * 1024 + 1 * k.val = k.val by rw [h8]; omega))
  have e9 : ∀ k j, iblk m c 9 t (ix2 k j) = (argW m c).wpg k j := fun k j => by
    show _ = m (c, Proc.tc.devRef main_arg9) (ix2 k j)
    rw [← show V m c main_arg9 = m (c, Proc.tc.devRef main_arg9) from V_main_arg9 m c]
    exact congrArg (V m c main_arg9) (ix2_at (show win0_9.index t 0 * 1024 + 1 * k.val = k.val by rw [h9]; omega)
      (show win0_9.index t 1 * 1024 + 1 * j.val = j.val by rw [h9]; omega))
  have e10 : ∀ k, iblk m c 10 t (ix2 0 k) = (argW m c).fn k := fun k => by
    rw [← V_fn]
    exact congrArg (V m c main_v8) (ix2_at (show win0_10.index t 0 * 1 + 1 * 0 = 0 by rw [h10])
      (show win0_10.index t 1 * 1024 + 1 * k.val = k.val by rw [h10]; omega))
  unfold blkW
  simp only [e4, e5, e6, e7, e8, e9, e10]

/-! ## The prompt's result -/

/-- The prompt's result array. -/
def prompt (c : Dev nD) : FVec Ideal S16384x1024 .f32 := fun i => out (argW m c) (hRow m c (i 0)) (pRow m c (i 0)) (i 1)

/-- The two stores of a point, read as one function of the block. -/
theorem out11_eq (x0 : Vec Ideal S1024x1024 .f32) (x1 : Vec Ideal S1024x256 .f32) (x2 : Vec Ideal S8x1024 .f32)
    (x3 : Vec Ideal S8x1x256 .f32) (x4 : Vec Ideal S1x1024 .f32) (x5 : Vec Ideal S1024x5632 .bf16)
    (x6 : Vec Ideal S2816x1024 .bf16) (x7 : Vec Ideal S256x1024 .bf16) (x8 : Vec Ideal S1x1024 .f32)
    (x9 : Vec Ideal S1024x1024 .bf16) (x10 : Vec Ideal S1x1024 .f32) (y : S1024x1024.Idx) :
    out0_11 x0 x1 x2 x3 x4 x5 x6 x7 x8 x9 x10 y
      = out (blkW x4 x5 x6 x7 x8 x9 x10) (fun k => x0 (ix2 (y 0) k)) (fun k => x1 (ix2 (y 0) k)) (y 1) := by
  unfold out0_11
  refine View.canon_apply_of_pieces
    (Val := Elt Ideal) (e := .f32) (fun y : S1024x1024.Idx =>
      out (blkW x4 x5 x6 x7 x8 x9 x10) (fun k => x0 (ix2 (y 0) k)) (fun k => x1 (ix2 (y 0) k)) (y 1))
    _ ?_ y (cover0_11 _ _ y)
  intro p hp x
  simp only [List.mem_cons, List.not_mem_nil, or_false] at hp
  rcases hp with rfl | rfl
  · have hx : r0_13.emb x = ix2 ⟨512 + (x 0).val, by have := (x 0).isLt; change _ < 512 at this; omega⟩ (x 1) :=
      ix2_at (show 512 + 1 * (x 0).val = _ by simp) (show 0 + 1 * (x 1).val = _ by simp)
    rw [hx]
    conv_lhs => rw [eq_ix2 x]
    exact out_hi x0 x1 x2 x3 x4 x5 x6 x7 x8 x9 x10 (x 0) (x 1)
  · have hx : r0_0.emb x = ix2 ⟨(x 0).val, by have := (x 0).isLt; change _ < 512 at this; omega⟩ (x 1) :=
      ix2_at (show 0 + 1 * (x 0).val = _ by simp) (show 0 + 1 * (x 1).val = _ by simp)
    rw [hx]
    conv_lhs => rw [eq_ix2 x]
    exact out_lo x0 x1 x2 x3 x4 x5 x6 x7 x8 x9 x10 (x 0) (x 1)

/-- What point `t` writes back is its block of the prompt's result. -/
theorem flushed_prompt (c : Dev nD) (t : Fin cfg0.N) :
    (dats m 0 c).flushed 11 t = (win0_11.blk t).view.read (Elt Ideal) (prompt m c) := by
  show (cfg0.win 11).cut (grid0.coords t) ((dats m 0 c).after 11 t) = _
  rw [after0_11]
  refine funext fun (y : S1024x1024.Idx) => ?_
  show (out0_11 (F := Ideal) _ _ _ _ _ _ _ _ _ _ _ y) = prompt m c ((win0_11.rect t).emb y)
  have hx : (win0_11.rect t).emb y = ix2 ⟨1024 * t.val + (y 0).val, by
      have := lt_pts t; have := (y 0).isLt; change _ < 1024 at this; omega⟩ (y 1) :=
    ix2_at (show win0_11.index t 0 * 1024 + 1 * (y 0).val = _ by rw [(index_prompt t).2.2.1]; simp; omega)
      (show win0_11.index t 1 * 1024 + 1 * (y 1).val = _ by rw [(index_prompt t).2.2.2]; simp)
  rw [hx, out11_eq, blk_W]
  exact congrArg₂ (fun h p => out (argW m c) h p (y 1)) (funext fun k => blk_h m c t (y 0) k)
    (funext fun k => blk_p m c t (y 0) k)

theorem cover_prompt (i : S16384x1024.Idx) :
    ∃ t : Fin cfg0.N, (cfg0.win 11).flush t = true ∧ i ∈ ((cfg0.win 11).blk t).view.set := by
  have h0 : (i 0).val < 16384 := (i 0).isLt
  have h1 : (i 1).val < 1024 := (i 1).isLt
  let t : Fin cfg0.N := ⟨(i 0).val / 1024, by have : cfg0.N = 16 := N_0; omega⟩
  refine ⟨t, flush0_11 _, ?_⟩
  show i ∈ ((View.whole main_v9_0).slice (win0_11.rect t)).set
  rw [View.set_slice_whole, Rect.mem_set_unit]
  intro a
  match a with
  | ⟨0, _⟩ =>
    show win0_11.index t 0 * 1024 ≤ (i 0).val ∧ (i 0).val < win0_11.index t 0 * 1024 + 1024
    rw [(index_prompt t).2.2.1]
    show (i 0).val / 1024 * 1024 ≤ (i 0).val ∧ (i 0).val < (i 0).val / 1024 * 1024 + 1024
    omega
  | ⟨1, _⟩ =>
    show win0_11.index t 1 * 1024 ≤ (i 1).val ∧ (i 1).val < win0_11.index t 1 * 1024 + 1024
    rw [(index_prompt t).2.2.2]
    omega

/-- The prompt's result array after the last point. -/
theorem arr_prompt (c : Dev nD) : (dats m 0 c).arrAt 11 cfg0.N = prompt m c :=
  (dats m 0 c).arrAt_eq_of_cover 11 (prompt m c) (fun t _ => flushed_prompt m c t) cover_prompt

/-! ## The sample's result -/

/-- The sample's result array. -/
def sample (c : Dev nD) : FVec Ideal S128x1x1024 .f32 :=
  fun i => out (argW m c) (hsRow m c (i 0)) (psRow m c (i 0)) (i 2)

theorem flushed_sample (c : Dev nD) (t : Fin cfg0.N) :
    (dats m 0 c).flushed 12 t = (win0_12.blk t).view.read (Elt Ideal) (sample m c) := by
  show (cfg0.win 12).cut (grid0.coords t) ((dats m 0 c).after 12 t) = _
  rw [after0_12]
  refine funext fun (y : S8x1x1024.Idx) => ?_
  show (out0_12 (F := Ideal) _ _ _ _ _ _ _ _ _ _ _ y) = sample m c ((win0_12.rect t).emb y)
  have hy0 : (y 0).val < 8 := (y 0).isLt
  have hy1 : (y 1).val < 1 := (y 1).isLt
  have hx : (win0_12.rect t).emb y = ix3 ⟨8 * t.val + (y 0).val, by have := lt_pts t; omega⟩ 0 (y 2) := by
    funext a
    apply Fin.ext
    match a with
    | ⟨0, _⟩ =>
      show win0_12.index t 0 * 8 + 1 * (y 0).val = 8 * t.val + (y 0).val
      rw [(index_sample t).2.2.1]; omega
    | ⟨1, _⟩ =>
      show win0_12.index t 1 * 1 + 1 * (y 1).val = 0
      rw [(index_sample t).2.2.2.1]; omega
    | ⟨2, _⟩ =>
      show win0_12.index t 2 * 1024 + 1 * (y 2).val = (y 2).val
      rw [(index_sample t).2.2.2.2]; omega
  have hy : y = ix3 (y 0) 0 (y 2) := by
    funext a
    apply Fin.ext
    match a with
    | ⟨0, _⟩ => rfl
    | ⟨1, _⟩ => show (y 1).val = 0; omega
    | ⟨2, _⟩ => rfl
  rw [hx]
  unfold out0_12
  rw [View.canon_unit_zero (funext fun a => by fin_cases a <;> rfl)]
  conv_lhs => rw [hy]
  refine (out_sample _ _ _ _ _ _ _ _ _ _ _ (y 0) (y 2)).trans ?_
  rw [blk_W]
  exact congrArg₂ (fun h p => out (argW m c) h p (y 2)) (funext fun k => blk_hs m c t (y 0) k)
    (funext fun k => blk_ps m c t (y 0) k)

theorem cover_sample (i : S128x1x1024.Idx) :
    ∃ t : Fin cfg0.N, (cfg0.win 12).flush t = true ∧ i ∈ ((cfg0.win 12).blk t).view.set := by
  have h0 : (i 0).val < 128 := (i 0).isLt
  have h1 : (i 1).val < 1 := (i 1).isLt
  have h2 : (i 2).val < 1024 := (i 2).isLt
  let t : Fin cfg0.N := ⟨(i 0).val / 8, by have : cfg0.N = 16 := N_0; omega⟩
  refine ⟨t, flush0_12 _, ?_⟩
  show i ∈ ((View.whole main_v9_1).slice (win0_12.rect t)).set
  rw [View.set_slice_whole, Rect.mem_set_unit]
  intro a
  match a with
  | ⟨0, _⟩ =>
    show win0_12.index t 0 * 8 ≤ (i 0).val ∧ (i 0).val < win0_12.index t 0 * 8 + 8
    rw [(index_sample t).2.2.1]
    show (i 0).val / 8 * 8 ≤ (i 0).val ∧ (i 0).val < (i 0).val / 8 * 8 + 8
    omega
  | ⟨1, _⟩ =>
    show win0_12.index t 1 * 1 ≤ (i 1).val ∧ (i 1).val < win0_12.index t 1 * 1 + 1
    rw [(index_sample t).2.2.2.1]
    omega
  | ⟨2, _⟩ =>
    show win0_12.index t 2 * 1024 ≤ (i 2).val ∧ (i 2).val < win0_12.index t 2 * 1024 + 1024
    rw [(index_sample t).2.2.2.2]
    omega

/-- The sample's result array after the last point. -/
theorem arr_sample (c : Dev nD) : (dats m 0 c).arrAt 12 cfg0.N = sample m c :=
  (dats m 0 c).arrAt_eq_of_cover 12 (sample m c) (fun t _ => flushed_sample m c t) cover_sample

end Cert.Ffn

end
end
-- ==== Proof.Ffn.RefPrompt.lean ====
/-
  The reference's two arrays, stage by stage, each stage read at an index: row `n` of either is the function `out` of
  row `n` of its states and its embeddings. Here the prompt, 16384 rows.
-/
module

public import proofs.«01_k».proof.Proof.Ffn.Row
public import proofs.«01_k».proof.Proof.Gen.Reference2Ideal.Run

@[expose] public section

noncomputable section

namespace Cert.Ffn

open Idealize.ShloMosaic Idealize.ShloMosaic.TcCoe Idealize.SL.Sem Cert.Reference2Ideal Cert.Reference2Ideal.Gen

/-- The norm of every row. -/
def pNorm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem pNorm_at (x : FVec Ideal S16384x1024 .f32) (g : FVec Ideal S1024 .f32) (r : Fin 16384) (l : Fin 1024) :
    pNorm x g (ix2 r l) = rms (fun k => x (ix2 r k)) (fun k => g (ix1 k)) l := by
  pointwise [pNorm]
  rfl

/-- The gate and the linear half of every row. -/
def pUp (x : FVec Ideal S16384x1024 .f32) (g : FVec Ideal S1024 .f32) (w : FVec Ideal S1024x5632 .bf16) :
    FVec Ideal S16384x5632 .f32 :=
  Host.dotGeneral dot_S16384x1024_S1024x5632_S16384x5632_1_0_0_1_n_n none (pNorm x g) (extf .f32 w bitsLt_bf16_f32)

theorem pUp_at (W : Weights) (x : FVec Ideal S16384x1024 .f32) (g : FVec Ideal S1024 .f32) (w : FVec Ideal S1024x5632 .bf16)
    (hg : ∀ k, g (ix1 k) = W.ln2 k) (hw : ∀ k j, w (ix2 k j) = W.w1 k j) (r : Fin 16384) (j : Fin 5632) :
    pUp x g w (ix2 r j) = up W (fun k => x (ix2 r k)) j := by
  pointwise [pUp, pNorm_at]
  unfold up
  simp only [hg, hw]

/-- The hidden units of every row. -/
def pAct (u : FVec Ideal S16384x5632 .f32) : FVec Ideal S16384x2816 .f32 :=
  mulf (mulf (extractStridedSlice S16384x2816 ![0, 0] u slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] u slices_S16384x5632_S16384x2816_0_0))))))
    (extractStridedSlice S16384x2816 ![0, 2816] u slices_S16384x5632_S16384x2816_0_2816)

theorem pAct_at (W : Weights) (h : Fin 1024 → EReal) (u : FVec Ideal S16384x5632 .f32) (r : Fin 16384)
    (hu : ∀ j, u (ix2 r j) = up W h j) (j : Fin 2816) : pAct u (ix2 r j) = act W h j := by
  pointwise [pAct]
  simp only [hu]
  unfold act
  rfl

/-- Every row after the feed-forward layer. -/
def pMid (x : FVec Ideal S16384x1024 .f32) (u : FVec Ideal S16384x5632 .f32) (w : FVec Ideal S2816x1024 .bf16) :
    FVec Ideal S16384x1024 .f32 :=
  addf x (Host.dotGeneral dot_S16384x2816_S2816x1024_S16384x1024_1_0_0_1_n_n none (pAct u) (extf .f32 w bitsLt_bf16_f32))

theorem pMid_at (W : Weights) (x : FVec Ideal S16384x1024 .f32) (u : FVec Ideal S16384x5632 .f32)
    (w : FVec Ideal S2816x1024 .bf16) (r : Fin 16384) (hu : ∀ j, u (ix2 r j) = up W (fun k => x (ix2 r k)) j)
    (hw : ∀ k j, w (ix2 k j) = W.w2 k j) (l : Fin 1024) :
    pMid x u w (ix2 r l) = mid W (fun k => x (ix2 r k)) l := by
  have e := pAct_at W (fun k => x (ix2 r k)) u r hu
  pointwise [pMid]
  unfold mid
  simp only [hw, e]

/-- Every embedding projected and normed. -/
def pEmb (p : FVec Ideal S16384x256 .f32) (w : FVec Ideal S256x1024 .bf16) (g : FVec Ideal S1024 .f32) :
    FVec Ideal S16384x1024 .f32 :=
  pNorm (Host.dotGeneral dot_S16384x256_S256x1024_S16384x1024_1_0_0_1_n_n none p (extf .f32 w bitsLt_bf16_f32)) g

theorem pEmb_at (W : Weights) (p : FVec Ideal S16384x256 .f32) (w : FVec Ideal S256x1024 .bf16) (g : FVec Ideal S1024 .f32)
    (hg : ∀ k, g (ix1 k) = W.pn k) (hw : ∀ k j, w (ix2 k j) = W.wpp k j) (r : Fin 16384) (l : Fin 1024) :
    pEmb p w g (ix2 r l) = emb W (fun k => p (ix2 r k)) l := by
  pointwise [pEmb, pNorm_at]
  unfold emb
  simp only [hg, hw]

/-- The gate of every embedding. -/
def pGate (x : FVec Ideal S16384x1024 .f32) (w : FVec Ideal S1024x1024 .bf16) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32))
      (Host.exp (Host.negf
        (Host.dotGeneral dot_S16384x1024_S1024x1024_S16384x1024_1_0_0_1_n_n none x (extf .f32 w bitsLt_bf16_f32)))))

theorem pGate_at (W : Weights) (h : Fin 1024 → EReal) (x : FVec Ideal S16384x1024 .f32) (w : FVec Ideal S1024x1024 .bf16)
    (r : Fin 16384) (hx : ∀ l, x (ix2 r l) = mid W h l) (hw : ∀ k j, w (ix2 k j) = W.wpg k j) (l : Fin 1024) :
    pGate x w (ix2 r l) = Ideal.logistic (gate W h l) := by
  pointwise [pGate]
  simp only [hx, hw]
  rfl

/-- All of it. -/
def pOut (x : FVec Ideal S16384x1024 .f32) (p : FVec Ideal S16384x256 .f32) (ln2 : FVec Ideal S1024 .f32)
    (w1 : FVec Ideal S1024x5632 .bf16) (w2 : FVec Ideal S2816x1024 .bf16) (wpp : FVec Ideal S256x1024 .bf16)
    (pn : FVec Ideal S1024 .f32) (wpg : FVec Ideal S1024x1024 .bf16) (fn : FVec Ideal S1024 .f32) :
    FVec Ideal S16384x1024 .f32 :=
  pNorm (addf (pMid x (pUp x ln2 w1) w2) (mulf (pGate (pMid x (pUp x ln2 w1) w2) wpg) (pEmb p wpp pn))) fn

theorem pOut_at (W : Weights) (x : FVec Ideal S16384x1024 .f32) (p : FVec Ideal S16384x256 .f32) (ln2 : FVec Ideal S1024 .f32)
    (w1 : FVec Ideal S1024x5632 .bf16) (w2 : FVec Ideal S2816x1024 .bf16) (wpp : FVec Ideal S256x1024 .bf16)
    (pn : FVec Ideal S1024 .f32) (wpg : FVec Ideal S1024x1024 .bf16) (fn : FVec Ideal S1024 .f32)
    (h1 : ∀ k, ln2 (ix1 k) = W.ln2 k) (h2 : ∀ k j, w1 (ix2 k j) = W.w1 k j) (h3 : ∀ k j, w2 (ix2 k j) = W.w2 k j)
    (h4 : ∀ k j, wpp (ix2 k j) = W.wpp k j) (h5 : ∀ k, pn (ix1 k) = W.pn k) (h6 : ∀ k j, wpg (ix2 k j) = W.wpg k j)
    (h7 : ∀ k, fn (ix1 k) = W.fn k) (r : Fin 16384) (l : Fin 1024) :
    pOut x p ln2 w1 w2 wpp pn wpg fn (ix2 r l) = out W (fun k => x (ix2 r k)) (fun k => p (ix2 r k)) l := by
  have hm := pMid_at W x (pUp x ln2 w1) w2 r (pUp_at W x ln2 w1 h1 h2 r) h3
  have hg := pGate_at W _ (pMid x (pUp x ln2 w1) w2) wpg r hm h6
  have he := pEmb_at W p wpp pn h5 h4 r
  unfold pOut out
  rw [pNorm_at]
  congr 1
  · funext l
    pointwise []
    rw [hm, hg, he]
  · funext k
    exact h7 k

end Cert.Ffn

end
end
-- ==== Proof.Ffn.RefSample.lean ====
/-
  The reference's two arrays, stage by stage, each stage read at an index: row `n` of either is the function `out` of
  row `n` of its states and its embeddings. Here the sample, 128 rows with a middle axis of one.
-/
module

public import proofs.«01_k».proof.Proof.Ffn.Row
public import proofs.«01_k».proof.Proof.Gen.Reference2Ideal.Run

@[expose] public section

noncomputable section

namespace Cert.Ffn

open Idealize.ShloMosaic Idealize.ShloMosaic.TcCoe Idealize.SL.Sem Cert.Reference2Ideal Cert.Reference2Ideal.Gen

/-- The norm of every row. -/
def sNorm (x : FVec Ideal S128x1x1024 .f32) (g : FVec Ideal S1024 .f32) : FVec Ideal S128x1x1024 .f32 :=
  mulf (mulf x (broadcastInDim S128x1x1024 ![0, 1, 2] bcast_S128x1x1_S128x1x1024_0_1_2 (Host.rsqrt (addf
    (Host.divf (broadcastInDim S128x1x1 ![0, 1] bcast_S128x1_S128x1x1_0_1
      (Host.reduceAdd (mulf x x) (constant S_ .f32 0x00000000#32) reducesTo_S128x1x1024_S128x1_d2 h_S_))
      (broadcastInDim S128x1x1 ![] bcast_S_S128x1x1 (constant S_ .f32 0x44800000#32)))
    (broadcastInDim S128x1x1 ![] bcast_S_S128x1x1 (constant S_ .f32 0x358637BD#32))))))
    (broadcastInDim S128x1x1024 ![0, 1, 2] bcast_S1x1x1024_S128x1x1024_0_1_2
      (broadcastInDim S1x1x1024 ![2] bcast_S1024_S1x1x1024_2 g))

theorem sNorm_at (x : FVec Ideal S128x1x1024 .f32) (g : FVec Ideal S1024 .f32) (r : Fin 128) (l : Fin 1024) :
    sNorm x g (ix3 r 0 l) = rms (fun k => x (ix3 r 0 k)) (fun k => g (ix1 k)) l := by
  pointwise [sNorm]
  rfl

/-- The gate and the linear half of every row. -/
def sUp (x : FVec Ideal S128x1x1024 .f32) (g : FVec Ideal S1024 .f32) (w : FVec Ideal S1024x5632 .bf16) :
    FVec Ideal S128x1x5632 .f32 :=
  Host.dotGeneral dot_S128x1x1024_S1024x5632_S128x1x5632_2_0_01_1_n_n none (sNorm x g) (extf .f32 w bitsLt_bf16_f32)

theorem sUp_at (W : Weights) (x : FVec Ideal S128x1x1024 .f32) (g : FVec Ideal S1024 .f32) (w : FVec Ideal S1024x5632 .bf16)
    (hg : ∀ k, g (ix1 k) = W.ln2 k) (hw : ∀ k j, w (ix2 k j) = W.w1 k j) (r : Fin 128) (j : Fin 5632) :
    sUp x g w (ix3 r 0 j) = up W (fun k => x (ix3 r 0 k)) j := by
  pointwise [sUp, sNorm_at]
  unfold up
  simp only [hg, hw]

/-- The hidden units of every row. -/
def sAct (u : FVec Ideal S128x1x5632 .f32) : FVec Ideal S128x1x2816 .f32 :=
  mulf (mulf (extractStridedSlice S128x1x2816 ![0, 0, 0] u slices_S128x1x5632_S128x1x2816_0_0_0)
    (Host.divf (broadcastInDim S128x1x2816 ![] bcast_S_S128x1x2816 (constant S_ .f32 0x3F800000#32))
      (addf (broadcastInDim S128x1x2816 ![] bcast_S_S128x1x2816 (constant S_ .f32 0x3F800000#32))
        (Host.exp (Host.negf (extractStridedSlice S128x1x2816 ![0, 0, 0] u slices_S128x1x5632_S128x1x2816_0_0_0))))))
    (extractStridedSlice S128x1x2816 ![0, 0, 2816] u slices_S128x1x5632_S128x1x2816_0_0_2816)

theorem sAct_at (W : Weights) (h : Fin 1024 → EReal) (u : FVec Ideal S128x1x5632 .f32) (r : Fin 128)
    (hu : ∀ j, u (ix3 r 0 j) = up W h j) (j : Fin 2816) : sAct u (ix3 r 0 j) = act W h j := by
  pointwise [sAct]
  simp only [hu]
  unfold act
  rfl

/-- Every row after the feed-forward layer. -/
def sMid (x : FVec Ideal S128x1x1024 .f32) (u : FVec Ideal S128x1x5632 .f32) (w : FVec Ideal S2816x1024 .bf16) :
    FVec Ideal S128x1x1024 .f32 :=
  addf x (Host.dotGeneral dot_S128x1x2816_S2816x1024_S128x1x1024_2_0_01_1_n_n none (sAct u) (extf .f32 w bitsLt_bf16_f32))

theorem sMid_at (W : Weights) (x : FVec Ideal S128x1x1024 .f32) (u : FVec Ideal S128x1x5632 .f32)
    (w : FVec Ideal S2816x1024 .bf16) (r : Fin 128) (hu : ∀ j, u (ix3 r 0 j) = up W (fun k => x (ix3 r 0 k)) j)
    (hw : ∀ k j, w (ix2 k j) = W.w2 k j) (l : Fin 1024) :
    sMid x u w (ix3 r 0 l) = mid W (fun k => x (ix3 r 0 k)) l := by
  have e := sAct_at W (fun k => x (ix3 r 0 k)) u r hu
  pointwise [sMid]
  unfold mid
  simp only [hw, e]

/-- Every embedding projected and normed. -/
def sEmb (p : FVec Ideal S128x1x256 .f32) (w : FVec Ideal S256x1024 .bf16) (g : FVec Ideal S1024 .f32) :
    FVec Ideal S128x1x1024 .f32 :=
  sNorm (Host.dotGeneral dot_S128x1x256_S256x1024_S128x1x1024_2_0_01_1_n_n none p (extf .f32 w bitsLt_bf16_f32)) g

theorem sEmb_at (W : Weights) (p : FVec Ideal S128x1x256 .f32) (w : FVec Ideal S256x1024 .bf16) (g : FVec Ideal S1024 .f32)
    (hg : ∀ k, g (ix1 k) = W.pn k) (hw : ∀ k j, w (ix2 k j) = W.wpp k j) (r : Fin 128) (l : Fin 1024) :
    sEmb p w g (ix3 r 0 l) = emb W (fun k => p (ix3 r 0 k)) l := by
  pointwise [sEmb, sNorm_at]
  unfold emb
  simp only [hg, hw]

/-- The gate of every embedding. -/
def sGate (x : FVec Ideal S128x1x1024 .f32) (w : FVec Ideal S1024x1024 .bf16) : FVec Ideal S128x1x1024 .f32 :=
  Host.divf (broadcastInDim S128x1x1024 ![] bcast_S_S128x1x1024 (constant S_ .f32 0x3F800000#32))
    (addf (broadcastInDim S128x1x1024 ![] bcast_S_S128x1x1024 (constant S_ .f32 0x3F800000#32))
      (Host.exp (Host.negf
        (Host.dotGeneral dot_S128x1x1024_S1024x1024_S128x1x1024_2_0_01_1_n_n none x (extf .f32 w bitsLt_bf16_f32)))))

theorem sGate_at (W : Weights) (h : Fin 1024 → EReal) (x : FVec Ideal S128x1x1024 .f32) (w : FVec Ideal S1024x1024 .bf16)
    (r : Fin 128) (hx : ∀ l, x (ix3 r 0 l) = mid W h l) (hw : ∀ k j, w (ix2 k j) = W.wpg k j) (l : Fin 1024) :
    sGate x w (ix3 r 0 l) = Ideal.logistic (gate W h l) := by
  pointwise [sGate]
  simp only [hx, hw]
  rfl

/-- All of it. -/
def sOut (x : FVec Ideal S128x1x1024 .f32) (p : FVec Ideal S128x1x256 .f32) (ln2 : FVec Ideal S1024 .f32)
    (w1 : FVec Ideal S1024x5632 .bf16) (w2 : FVec Ideal S2816x1024 .bf16) (wpp : FVec Ideal S256x1024 .bf16)
    (pn : FVec Ideal S1024 .f32) (wpg : FVec Ideal S1024x1024 .bf16) (fn : FVec Ideal S1024 .f32) :
    FVec Ideal S128x1x1024 .f32 :=
  sNorm (addf (sMid x (sUp x ln2 w1) w2) (mulf (sGate (sMid x (sUp x ln2 w1) w2) wpg) (sEmb p wpp pn))) fn

theorem sOut_at (W : Weights) (x : FVec Ideal S128x1x1024 .f32) (p : FVec Ideal S128x1x256 .f32) (ln2 : FVec Ideal S1024 .f32)
    (w1 : FVec Ideal S1024x5632 .bf16) (w2 : FVec Ideal S2816x1024 .bf16) (wpp : FVec Ideal S256x1024 .bf16)
    (pn : FVec Ideal S1024 .f32) (wpg : FVec Ideal S1024x1024 .bf16) (fn : FVec Ideal S1024 .f32)
    (h1 : ∀ k, ln2 (ix1 k) = W.ln2 k) (h2 : ∀ k j, w1 (ix2 k j) = W.w1 k j) (h3 : ∀ k j, w2 (ix2 k j) = W.w2 k j)
    (h4 : ∀ k j, wpp (ix2 k j) = W.wpp k j) (h5 : ∀ k, pn (ix1 k) = W.pn k) (h6 : ∀ k j, wpg (ix2 k j) = W.wpg k j)
    (h7 : ∀ k, fn (ix1 k) = W.fn k) (r : Fin 128) (l : Fin 1024) :
    sOut x p ln2 w1 w2 wpp pn wpg fn (ix3 r 0 l) = out W (fun k => x (ix3 r 0 k)) (fun k => p (ix3 r 0 k)) l := by
  have hm := sMid_at W x (sUp x ln2 w1) w2 r (sUp_at W x ln2 w1 h1 h2 r) h3
  have hg := sGate_at W _ (sMid x (sUp x ln2 w1) w2) wpg r hm h6
  have he := sEmb_at W p wpp pn h5 h4 r
  unfold sOut out
  rw [sNorm_at]
  congr 1
  · funext l
    pointwise []
    rw [hm, hg, he]
  · funext k
    exact h7 k

end Cert.Ffn

end
end
-- ==== Proof.Ffn.Claim.lean ====
/-
  The claim about the feed-forward call: the kernel's two result arrays and the reference's are the same function of
  arguments that agree.
-/
module

public import proofs.«01_k».proof.Defs
public import proofs.«01_k».proof.Proof.Ffn.Arrays
public import proofs.«01_k».proof.Proof.Ffn.RefPrompt
public import proofs.«01_k».proof.Proof.Ffn.RefSample
public import Idealize.ShloMosaic.Lib.Claim

@[expose] public section

noncomputable section

namespace Cert.Ffn

open Idealize.ShloMosaic Idealize.ShloMosaic.TcCoe Idealize.SL.Sem

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The two memories hold the same arguments. -/
def Agree (c : Dev Cert.Kernel2Ideal.nD) : Prop :=
  m' (c.tc.loc Cert.Reference2Ideal.main_arg0) = m (c.tc.loc Cert.Kernel2Ideal.main_arg0)
  ∧ m' (c.tc.loc Cert.Reference2Ideal.main_arg1) = m (c.tc.loc Cert.Kernel2Ideal.main_arg1)
  ∧ m' (c.tc.loc Cert.Reference2Ideal.main_arg2) = m (c.tc.loc Cert.Kernel2Ideal.main_arg2)
  ∧ m' (c.tc.loc Cert.Reference2Ideal.main_arg3) = m (c.tc.loc Cert.Kernel2Ideal.main_arg3)
  ∧ m' (c.tc.loc Cert.Reference2Ideal.main_arg4) = m (c.tc.loc Cert.Kernel2Ideal.main_arg4)
  ∧ m' (c.tc.loc Cert.Reference2Ideal.main_arg5) = m (c.tc.loc Cert.Kernel2Ideal.main_arg5)
  ∧ m' (c.tc.loc Cert.Reference2Ideal.main_arg6) = m (c.tc.loc Cert.Kernel2Ideal.main_arg6)
  ∧ m' (c.tc.loc Cert.Reference2Ideal.main_arg7) = m (c.tc.loc Cert.Kernel2Ideal.main_arg7)
  ∧ m' (c.tc.loc Cert.Reference2Ideal.main_arg8) = m (c.tc.loc Cert.Kernel2Ideal.main_arg8)
  ∧ m' (c.tc.loc Cert.Reference2Ideal.main_arg9) = m (c.tc.loc Cert.Kernel2Ideal.main_arg9)
  ∧ m' (c.tc.loc Cert.Reference2Ideal.main_arg10) = m (c.tc.loc Cert.Kernel2Ideal.main_arg10)

section Reference
open Cert.Reference2Ideal Cert.Reference2Ideal.Gen

/-- The reference's first result is its stages put together, -/
theorem res_prompt (c : Dev nD) : Value.res_main_v64 m' c
    = pOut (shapeCast _ (m' (c.tc.loc main_arg0)) shapeCasts_S2x8192x1024_S16384x1024)
        (shapeCast _ (shapeCast _ (m' (c.tc.loc main_arg1)) shapeCasts_S1x2x8192x256_S2x8192x256)
          shapeCasts_S2x8192x256_S16384x256)
        (shapeCast _ (m' (c.tc.loc main_arg4)) shapeCasts_S1x1024_S1024) (m' (c.tc.loc main_arg5))
        (m' (c.tc.loc main_arg6)) (m' (c.tc.loc main_arg7))
        (shapeCast _ (m' (c.tc.loc main_arg8)) shapeCasts_S1x1024_S1024) (m' (c.tc.loc main_arg9))
        (m' (c.tc.loc main_arg10)) := by
  unfold Value.res_main_v64
  rfl

/-- and so is its second. -/
theorem res_sample (c : Dev nD) : Value.res_main_v122 m' c
    = sOut (broadcastInDim S128x1x1024 ![0, 2] bcast_S128x1024_S128x1x1024_0_2 (m' (c.tc.loc main_arg2)))
        (shapeCast _ (m' (c.tc.loc main_arg3)) shapeCasts_S1x128x1x256_S128x1x256)
        (shapeCast _ (m' (c.tc.loc main_arg4)) shapeCasts_S1x1024_S1024) (m' (c.tc.loc main_arg5))
        (m' (c.tc.loc main_arg6)) (m' (c.tc.loc main_arg7))
        (shapeCast _ (m' (c.tc.loc main_arg8)) shapeCasts_S1x1024_S1024) (m' (c.tc.loc main_arg9))
        (m' (c.tc.loc main_arg10)) := by
  unfold Value.res_main_v122
  rfl

/-- A row of ones and a vector hold the same numbers. -/
theorem row_at (x : FVec Ideal S1x1024 .f32) (k : Fin 1024) :
    shapeCast S1024 x shapeCasts_S1x1024_S1024 (ix1 k) = x (ix2 0 k) := by
  pointwise []

theorem states_at (x : FVec Ideal S2x8192x1024 .f32) (n : Fin 16384) (k : Fin 1024) :
    shapeCast S16384x1024 x shapeCasts_S2x8192x1024_S16384x1024 (ix2 n k)
      = x (ix3 ⟨n / 8192, by omega⟩ ⟨n % 8192, by omega⟩ k) := by
  pointwise []

theorem embs_at (x : FVec Ideal S1x2x8192x256 .f32) (n : Fin 16384) (k : Fin 256) :
    shapeCast S16384x256 (shapeCast S2x8192x256 x shapeCasts_S1x2x8192x256_S2x8192x256)
        shapeCasts_S2x8192x256_S16384x256 (ix2 n k)
      = x (ix4 0 ⟨n / 8192, by omega⟩ ⟨n % 8192, by omega⟩ k) := by
  pointwise []

theorem sstates_at (x : FVec Ideal S128x1024 .f32) (n : Fin 128) (k : Fin 1024) :
    broadcastInDim S128x1x1024 ![0, 2] bcast_S128x1024_S128x1x1024_0_2 x (ix3 n 0 k) = x (ix2 n k) := by
  pointwise []

theorem sembs_at (x : FVec Ideal S1x128x1x256 .f32) (n : Fin 128) (k : Fin 256) :
    shapeCast S128x1x256 x shapeCasts_S1x128x1x256_S128x1x256 (ix3 n 0 k) = x (ix4 0 n 0 k) := by
  pointwise []

end Reference

variable {m m'}

/-- The reference's first result is the kernel's. -/
theorem ref_prompt (c : Dev Cert.Kernel2Ideal.nD) (h : Agree m m' c) :
    Cert.Reference2Ideal.Value.res_main_v64 m' c = prompt m c := by
  obtain ⟨h0, h1, -, -, h4, h5, h6, h7, h8, h9, h10⟩ := h
  rw [res_prompt, h0, h1, h4, h5, h6, h7, h8, h9, h10]
  funext i
  rw [eq_ix2 i]
  refine (pOut_at (argW m c) _ _ _ _ _ _ _ _ _ (row_at _) (fun _ _ => rfl) (fun _ _ => rfl) (fun _ _ => rfl) (row_at _)
    (fun _ _ => rfl) (fun _ => rfl) (i 0) (i 1)).trans ?_
  exact congrArg₂ (fun h p => out (argW m c) h p (i 1)) (funext fun k => states_at _ (i 0) k)
    (funext fun k => embs_at _ (i 0) k)

/-- The reference's second result is the kernel's. -/
theorem ref_sample (c : Dev Cert.Kernel2Ideal.nD) (h : Agree m m' c) :
    Cert.Reference2Ideal.Value.res_main_v122 m' c = sample m c := by
  obtain ⟨-, -, h2, h3, h4, h5, h6, h7, h8, h9, h10⟩ := h
  rw [res_sample, h2, h3, h4, h5, h6, h7, h8, h9, h10]
  funext i
  have hi : i = ix3 (i 0) 0 (i 2) := by
    have h1 : (i 1).val < 1 := (i 1).isLt
    funext a
    apply Fin.ext
    match a with
    | ⟨0, _⟩ => rfl
    | ⟨1, _⟩ => show (i 1).val = 0; omega
    | ⟨2, _⟩ => rfl
  rw [hi]
  refine (sOut_at (argW m c) _ _ _ _ _ _ _ _ _ (row_at _) (fun _ _ => rfl) (fun _ _ => rfl) (fun _ _ => rfl) (row_at _)
    (fun _ _ => rfl) (fun _ => rfl) (i 0) (i 2)).trans ?_
  exact congrArg₂ (fun h p => out (argW m c) h p (i 2)) (funext fun k => sstates_at _ (i 0) k)
    (funext fun k => sembs_at _ (i 0) k)

/-- Where the kernel's run ends, over the functions of its arguments. -/
theorem run_results (m : (ℓ : Loc Cert.Kernel2Ideal.nD Cert.Kernel2Ideal.τ Cert.Kernel2Ideal.sig) → Buf (Elt Ideal) ℓ)
    (g : Dev Cert.Kernel2Ideal.nD → PrngReg) :
    θ_run Cert.Kernel2Ideal.defs (onTc (τ := Cert.Kernel2Ideal.τ) (Cert.Kernel2Ideal.main (F := Ideal)))
      ⟨m, fun _ => 0, g⟩ (fun r => ∀ c : Dev Cert.Kernel2Ideal.nD,
        r.2.mem (c.tc.loc Cert.Kernel2Ideal.main_v9_0) = prompt m c
        ∧ r.2.mem (c.tc.loc Cert.Kernel2Ideal.main_v9_1) = sample m c) :=
  (θ_run Cert.Kernel2Ideal.defs _ _).mono
    (fun _ h c => ⟨((h c).1 11).trans (arr_prompt m c), ((h c).1 12).trans (arr_sample m c)⟩)
    (Cert.Kernel2Ideal.Gen.run_main m g)

theorem algebraic : Cert.algebraic_Kernel2Ideal_Reference2Ideal := by
  intro m g m' g' _ hagree
  refine ⟨fun c => prompt m c, fun c => sample m c, ?_, ?_⟩
  · exact (θ_run Cert.Kernel2Ideal.defs _ _).mono (fun _ h c => ⟨(h.1 c).1, (h.1 c).2, h.2 c⟩)
      (θ_run_and (run_results m g) (Cert.Kernel2Ideal.Gen.unchanged m g))
  · exact (θ_run Cert.Reference2Ideal.defs _ _).mono
      (fun _ h c => ⟨(h c).1.trans (ref_prompt c (hagree c)), (h c).2.1.trans (ref_sample c (hagree c)), (h c).2.2⟩)
      (Cert.Reference2Ideal.Value.run m' g')

end Cert.Ffn

end
end
-- ==== Proof.Attn.Row.lean ====
/-
  One sample and one query head. The scores of the 129 keys, the first of them outside the window, and the sink go
  through a softmax; the weights of the 129 keys average their values. `soft` divides every weight, `fused` divides the
  average, and the two agree where every score and the sink is a finite number.
-/
module

public import Idealize.ShloMosaic.PureOps.Ideal
public import Idealize.ShloMosaic.Lib.IdealHost

@[expose] public section

noncomputable section

namespace Cert.Attn

open Idealize.ShloMosaic

/-- Neither infinity. -/
def Num (x : EReal) : Prop := x ≠ ⊤ ∧ x ≠ ⊥

theorem Num.coe (x : ℝ) : Num (x : EReal) := ⟨EReal.coe_ne_top x, EReal.coe_ne_bot x⟩

theorem Num.lift {x : EReal} (h : Num x) : ∃ r : ℝ, x = (r : EReal) := ⟨x.toReal, (EReal.coe_toReal h.1 h.2).symm⟩

theorem coe_sum {n : ℕ} (r : Fin n → ℝ) : ((∑ i, r i : ℝ) : EReal) = ∑ i, (r i : EReal) := by
  induction n with
  | zero => simp
  | succ n ih => rw [Fin.sum_univ_castSucc, Fin.sum_univ_castSucc, EReal.coe_add, ih]

theorem Num.sum_mul {n : ℕ} {a b : Fin n → EReal} (ha : ∀ i, Num (a i)) (hb : ∀ i, Num (b i)) : Num (∑ i, a i * b i) := by
  choose r hr using fun i => (ha i).lift
  choose s hs using fun i => (hb i).lift
  have h : ∑ i, a i * b i = ((∑ i, r i * s i : ℝ) : EReal) := by
    rw [coe_sum]
    exact Finset.sum_congr rfl fun i _ => by rw [hr, hs, EReal.coe_mul]
  rw [h]
  exact Num.coe _

/-- The score of the key outside the window. -/
def outside : EReal := Ideal.ofBits .f32 0xF149F2CA#32

theorem outside_fin : Num outside := by
  unfold outside
  simp only [Ideal.ofBits, Ideal.ieee]
  rw [if_neg (by decide), if_neg (by decide)]
  exact Num.coe _

theorem neg_inf : Ideal.ofBits .f32 0xFF800000#32 = ⊥ := by
  simp [Ideal.ofBits, Ideal.ieee]

/-- The score of key `w`. -/
def score (q : Fin 64 → EReal) (K : Fin 129 → Fin 64 → EReal) (w : Fin 129) : EReal :=
  if w.val = 0 then outside else ∑ x, q x * K w x

theorem score_fin {q : Fin 64 → EReal} {K : Fin 129 → Fin 64 → EReal} (hq : ∀ x, Num (q x)) (hK : ∀ w x, Num (K w x))
    (w : Fin 129) : Num (score q K w) := by
  unfold score
  split
  · exact outside_fin
  · exact Num.sum_mul hq (hK w)

/-- The largest of the scores and the sink. -/
def top (s : Fin 129 → EReal) (sink : EReal) : EReal :=
  max (max (Finset.fold max ⊥ (fun x : Fin 128 => s x.castSucc) Finset.univ) (s (Fin.last 128))) sink

/-- The average of the values `v`, one division at the end. -/
def fused (s : Fin 129 → EReal) (sink : EReal) (v : Fin 129 → EReal) : EReal :=
  Ideal.div (∑ x : Fin 128, Ideal.exp (s x.castSucc - top s sink) * v x.castSucc
      + Ideal.exp (s (Fin.last 128) - top s sink) * v (Fin.last 128))
    (∑ x : Fin 128, Ideal.exp (s x.castSucc - top s sink) + Ideal.exp (s (Fin.last 128) - top s sink)
      + Ideal.exp (sink - top s sink))

/-- The scores and the sink after them. -/
def withSink (s : Fin 129 → EReal) (sink : EReal) (w : Fin 130) : EReal := if h : w.val < 129 then s ⟨w.val, h⟩ else sink

/-- The average of the values `v`, every weight divided. -/
def soft (a : Fin 130 → EReal) (v : Fin 129 → EReal) : EReal :=
  ∑ x : Fin 129, Ideal.div (Ideal.exp (a x.castSucc - max ⊥ (Finset.fold max ⊥ a Finset.univ)))
    (∑ y, Ideal.exp (a y - max ⊥ (Finset.fold max ⊥ a Finset.univ))) * v x

theorem fold_succ {n : ℕ} (f : Fin (n + 1) → EReal) :
    Finset.fold max ⊥ f Finset.univ = max (Finset.fold max ⊥ (fun x : Fin n => f x.castSucc) Finset.univ) (f (Fin.last n)) := by
  show Finset.univ.sup f = max (Finset.univ.sup fun x : Fin n => f x.castSucc) _
  rw [Fin.univ_castSuccEmb, Finset.sup_cons, Finset.sup_map, max_comm]
  rfl

theorem withSink_castSucc (s : Fin 129 → EReal) (sink : EReal) (w : Fin 129) : withSink s sink w.castSucc = s w := by
  unfold withSink
  rw [dif_pos (show w.castSucc.val < 129 from w.isLt)]
  rfl

theorem withSink_last (s : Fin 129 → EReal) (sink : EReal) : withSink s sink (Fin.last 129) = sink := by
  unfold withSink
  rw [dif_neg (by simp)]

theorem max_withSink (s : Fin 129 → EReal) (sink : EReal) :
    max ⊥ (Finset.fold max ⊥ (withSink s sink) Finset.univ) = top s sink := by
  rw [max_eq_right bot_le, fold_succ, withSink_last, show (fun x : Fin 129 => withSink s sink x.castSucc) = s from
    funext (withSink_castSucc s sink), fold_succ]
  rfl

theorem top_fin {s : Fin 129 → EReal} {sink : EReal} (hs : ∀ w, Num (s w)) (hk : Num sink) : Num (top s sink) := by
  constructor
  · rw [← lt_top_iff_ne_top]
    unfold top
    refine max_lt (max_lt ?_ (lt_top_iff_ne_top.2 (hs _).1)) (lt_top_iff_ne_top.2 hk.1)
    show Finset.univ.sup (fun x : Fin 128 => s x.castSucc) < ⊤
    rw [Finset.sup_lt_iff (by decide)]
    exact fun x _ => lt_top_iff_ne_top.2 (hs _).1
  · rw [← bot_lt_iff_ne_bot]
    exact lt_of_lt_of_le (bot_lt_iff_ne_bot.2 hk.2) (le_max_right _ _)

/-- The exponential of a difference of finite numbers is a positive number. -/
theorem exp_sub_fin {a b : EReal} (ha : Num a) (hb : Num b) : ∃ r : ℝ, 0 < r ∧ Ideal.exp (a - b) = (r : EReal) := by
  obtain ⟨x, rfl⟩ := ha.lift
  obtain ⟨y, rfl⟩ := hb.lift
  refine ⟨Real.exp (x - y), Real.exp_pos _, ?_⟩
  rw [← EReal.coe_sub]
  rfl

/-- Dividing every weight, or the average. -/
theorem div_sum {n : ℕ} (e v : Fin n → EReal) (d : ℝ) (hd : 0 < d) :
    ∑ x, Ideal.div (e x) d * v x = Ideal.div (∑ x, e x * v x) d := by
  have h0 : (d : EReal) ≠ 0 := by exact_mod_cast hd.ne'
  have hi : ∀ x : EReal, Ideal.div x d = (d⁻¹ : ℝ) * x := fun x => by
    unfold Ideal.div
    rw [if_neg h0, mul_comm, EReal.coe_inv]
  simp only [hi]
  have h1 : (0 : EReal) ≤ ((d⁻¹ : ℝ) : EReal) := by exact_mod_cast (inv_pos.2 hd).le
  have h2 := EReal.coe_ne_top d⁻¹
  generalize ((d⁻¹ : ℝ) : EReal) = c at h1 h2
  induction n with
  | zero => simp
  | succ n ih =>
    rw [Fin.sum_univ_castSucc, Fin.sum_univ_castSucc, EReal.left_distrib_of_nonneg_of_ne_top h1 h2, mul_assoc,
      ih (fun x => e x.castSucc) (fun x => v x.castSucc)]

theorem soft_eq_fused {s : Fin 129 → EReal} {sink : EReal} (hs : ∀ w, Num (s w)) (hk : Num sink) (v : Fin 129 → EReal) :
    soft (withSink s sink) v = fused s sink v := by
  have hM := top_fin hs hk
  unfold soft fused
  rw [max_withSink]
  choose r hr0 hr using fun w => exp_sub_fin (hs w) hM
  obtain ⟨t, ht0, ht⟩ := exp_sub_fin hk hM
  have hd : ∑ y, Ideal.exp (withSink s sink y - top s sink) = ((∑ w, r w + t : ℝ) : EReal) := by
    rw [Fin.sum_univ_castSucc, withSink_last, ht, EReal.coe_add, coe_sum]
    congr 1
    exact Finset.sum_congr rfl fun w _ => by rw [withSink_castSucc, hr]
  have hd' : ∑ x : Fin 128, Ideal.exp (s x.castSucc - top s sink) + Ideal.exp (s (Fin.last 128) - top s sink)
      + Ideal.exp (sink - top s sink) = ((∑ w, r w + t : ℝ) : EReal) := by
    rw [← hd, Fin.sum_univ_castSucc (n := 129), withSink_last]
    simp only [withSink_castSucc]
    rw [Fin.sum_univ_castSucc (n := 128)]
  rw [hd, hd', div_sum _ _ _ (add_pos_of_nonneg_of_pos (Finset.sum_nonneg fun w _ => (hr0 w).le) ht0),
    Fin.sum_univ_castSucc]
  simp only [withSink_castSucc]

end Cert.Attn
-- ==== Proof.Attn.Block.lean ====
/-
  One point of the attention call. Sample by sample it lays the two planes of the query rows side by side, takes the
  scores of the 128 cached keys and of the new one, and the average of the values: row `16 b + h` of the block it stores
  is the function `fused` of head `h` of the point's sample `b`.
-/
module

public import proofs.«01_k».proof.Proof.Attn.Row
public import proofs.«01_k».proof.Proof.Gen.KernelIdeal.Frame
public import Idealize.ShloMosaic.Lib.Pointwise
public import Idealize.ShloMosaic.Lib.Pipeline.Value

@[expose] public section

noncomputable section

namespace Cert.Attn

open Idealize.ShloMosaic Idealize.ShloMosaic.TcCoe Cert.KernelIdeal Cert.KernelIdeal.Gen

/-- An index by its three coordinates. -/
theorem ix3_at {a b c : ℕ} {y : (⟨3, ![a, b, c]⟩ : Shape).Idx} {p : Fin a} {q : Fin b} {r : Fin c} (h0 : (y 0).val = p.val)
    (h1 : (y 1).val = q.val) (h2 : (y 2).val = r.val) : y = ix3 p q r := by
  funext d
  apply Fin.ext
  match d with
  | ⟨0, _⟩ => exact h0
  | ⟨1, _⟩ => exact h1
  | ⟨2, _⟩ => exact h2

/-- The same for two coordinates. -/
theorem ix2_at {a b : ℕ} {y : (⟨2, ![a, b]⟩ : Shape).Idx} {p : Fin a} {q : Fin b} (h0 : (y 0).val = p.val)
    (h1 : (y 1).val = q.val) : y = ix2 p q := by
  funext d
  apply Fin.ext
  match d with
  | ⟨0, _⟩ => exact h0
  | ⟨1, _⟩ => exact h1

/-! ## One sample -/

/-- The scores of the cached keys: a row per head. -/
def oldScores (q0 q1 : Vec Ideal S1x16x128 .f32) (kb : Vec Ideal S1x256x128 .f32) : FVec Ideal S16x128 .f32 :=
  k0_pay12 k0_pay8 (k0_pay10 q0) q1 kb

/-- The score of the new key. -/
def newScore (q0 q1 : Vec Ideal S1x16x128 .f32) (kn : Vec Ideal S1x256 .f32) : FVec Ideal S16x1 .f32 :=
  k0_pay13 (k0_pay10 q0) q1 kn

/-- The average of the values. -/
def average (s0 : FVec Ideal S16x128 .f32) (s1 : FVec Ideal S16x1 .f32) (vb : Vec Ideal S1x256x128 .f32)
    (vn : Vec Ideal S1x256 .f32) (sink : Vec Ideal S16x1 .f32) : FVec Ideal S16x256 .f32 :=
  k0_pay168 (k0_pay74 (k0_pay9 sink) s0 s1) (k0_pay76 (k0_pay9 sink) s0 s1)
    (k0_pay167 (k0_pay75 (k0_pay9 sink) s0 s1) vb) vn

theorem oldScores_at (q0 q1 : Vec Ideal S1x16x128 .f32) (kb : Vec Ideal S1x256x128 .f32) (h : Fin 16) (w : Fin 128) :
    oldScores q0 q1 kb (ix2 h w) = if w.val = 0 then outside else ∑ x : Fin 128, q0 (ix3 0 h x) * kb (ix3 0 ⟨x.val, by omega⟩ w)
      + ∑ x : Fin 128, q1 (ix3 0 h x) * kb (ix3 0 ⟨128 + x.val, by omega⟩ w) := by
  have hw : ∀ w : Fin 128, IntOp.cmpi CmpIPredicate.eq (BitVec.ofNat 32 w.val) 0#32 = if w.val = 0 then 1#1 else 0#1 := by
    decide +kernel
  pointwise [oldScores, k0_pay12, k0_pay8, k0_pay10, k0_pay11]
  rw [hw]
  by_cases h0 : w.val = 0
  · rw [if_pos h0, if_pos h0]; rfl
  · rw [if_neg h0, if_neg h0]; rfl

theorem newScore_at (q0 q1 : Vec Ideal S1x16x128 .f32) (kn : Vec Ideal S1x256 .f32) (h : Fin 16) :
    newScore q0 q1 kn (ix2 h 0) = ∑ x : Fin 128, q0 (ix3 0 h x) * kn (ix2 0 ⟨x.val, by omega⟩)
      + ∑ x : Fin 128, q1 (ix3 0 h x) * kn (ix2 0 ⟨128 + x.val, by omega⟩) := by
  pointwise [newScore, k0_pay13, k0_pay10, k0_pay11]

theorem average_at (s0 : FVec Ideal S16x128 .f32) (s1 : FVec Ideal S16x1 .f32) (vb : Vec Ideal S1x256x128 .f32)
    (vn : Vec Ideal S1x256 .f32) (sink : Vec Ideal S16x1 .f32) (s v : Fin 129 → EReal) (k : EReal) (h : Fin 16) (l : Fin 256)
    (hs0 : ∀ x : Fin 128, s0 (ix2 h x) = s x.castSucc) (hs1 : s1 (ix2 h 0) = s (Fin.last 128))
    (hv0 : ∀ x : Fin 128, vb (ix3 0 l x) = v x.castSucc) (hv1 : vn (ix2 0 l) = v (Fin.last 128)) (hk : sink (ix2 h 0) = k) :
    average s0 s1 vb vn sink (ix2 h l) = fused s k v := by
  pointwise [average, k0_pay168, k0_pay74, k0_pay76, k0_pay167, k0_pay75, k0_pay73, k0_pay72, k0_pay71, k0_pay9]
  simp only [hs0, hs1, hv0, hv1, hk, neg_inf]
  rfl

/-! ## The point's block -/

/-- The score of key `w` for row `r` of the point's query rows, the keys those of sample `r / 16`. -/
def bScore (x0 : Vec Ideal S2x256x128 .f32) (x1 : Vec Ideal S16x256 .f32) (x3 : Vec Ideal S16x256x128 .f32) (r : Fin 256)
    (w : Fin 129) : EReal :=
  if w.val = 0 then outside
  else if hw : w.val < 128 then
    ∑ x : Fin 128, x0 (ix3 0 r x) * x3 (ix3 ⟨r.val / 16, by omega⟩ ⟨x.val, by omega⟩ ⟨w.val, hw⟩)
      + ∑ x : Fin 128, x0 (ix3 1 r x) * x3 (ix3 ⟨r.val / 16, by omega⟩ ⟨128 + x.val, by omega⟩ ⟨w.val, hw⟩)
  else
    ∑ x : Fin 128, x0 (ix3 0 r x) * x1 (ix2 ⟨r.val / 16, by omega⟩ ⟨x.val, by omega⟩)
      + ∑ x : Fin 128, x0 (ix3 1 r x) * x1 (ix2 ⟨r.val / 16, by omega⟩ ⟨128 + x.val, by omega⟩)

/-- Lane `l` of the values of sample `b`. -/
def bValue (x2 : Vec Ideal S16x256 .f32) (x4 : Vec Ideal S16x256x128 .f32) (b : Fin 16) (l : Fin 256) (w : Fin 129) : EReal :=
  if hw : w.val < 128 then x4 (ix3 b l ⟨w.val, hw⟩) else x2 (ix2 b l)

/-- What the point stores at plane `p`, row `r`, lane `l`. -/
def bOut (x0 : Vec Ideal S2x256x128 .f32) (x1 x2 : Vec Ideal S16x256 .f32) (x3 x4 : Vec Ideal S16x256x128 .f32)
    (x5 : Vec Ideal S16x1 .f32) (p : Fin 2) (r : Fin 256) (l : Fin 128) : EReal :=
  fused (bScore x0 x1 x3 r) (x5 (ix2 ⟨r.val % 16, by omega⟩ 0)) (bValue x2 x4 ⟨r.val / 16, by omega⟩ ⟨128 * p.val + l.val, by omega⟩)

theorem average_block (x0 : Vec Ideal S2x256x128 .f32) (x1 x2 : Vec Ideal S16x256 .f32) (x3 x4 : Vec Ideal S16x256x128 .f32)
    (x5 : Vec Ideal S16x1 .f32) (b : Fin 16) (q0 q1 : Vec Ideal S1x16x128 .f32) (kb vb : Vec Ideal S1x256x128 .f32)
    (kn vn : Vec Ideal S1x256 .f32) (sink : Vec Ideal S16x1 .f32)
    (hq0 : ∀ (h : Fin 16) (x : Fin 128), q0 (ix3 0 h x) = x0 (ix3 0 ⟨16 * b.val + h.val, by omega⟩ x))
    (hq1 : ∀ (h : Fin 16) (x : Fin 128), q1 (ix3 0 h x) = x0 (ix3 1 ⟨16 * b.val + h.val, by omega⟩ x))
    (hkb : ∀ (k : Fin 256) (w : Fin 128), kb (ix3 0 k w) = x3 (ix3 b k w))
    (hvb : ∀ (k : Fin 256) (w : Fin 128), vb (ix3 0 k w) = x4 (ix3 b k w))
    (hkn : ∀ k : Fin 256, kn (ix2 0 k) = x1 (ix2 b k)) (hvn : ∀ k : Fin 256, vn (ix2 0 k) = x2 (ix2 b k))
    (hsink : ∀ h : Fin 16, sink (ix2 h 0) = x5 (ix2 h 0)) (p : Fin 2) (h : Fin 16) (l : Fin 128) :
    average (oldScores q0 q1 kb) (newScore q0 q1 kn) vb vn sink (ix2 h ⟨128 * p.val + l.val, by omega⟩)
      = bOut x0 x1 x2 x3 x4 x5 p ⟨16 * b.val + h.val, by omega⟩ l := by
  have hb : (⟨(16 * b.val + h.val) / 16, by omega⟩ : Fin 16) = b := Fin.ext (show (16 * b.val + h.val) / 16 = b.val by omega)
  have hh : (⟨(16 * b.val + h.val) % 16, by omega⟩ : Fin 16) = h := Fin.ext (show (16 * b.val + h.val) % 16 = h.val by omega)
  unfold bOut
  simp only [hb, hh]
  refine average_at _ _ _ _ _ _ _ _ h _ (fun x => ?_) ?_ (fun x => ?_) ?_ (hsink h)
  · rw [oldScores_at]
    unfold bScore
    simp only [hb, hq0, hq1, hkb]
    by_cases h0 : x.val = 0
    · rw [if_pos h0, if_pos (show x.castSucc.val = 0 from h0)]
    · rw [if_neg h0, if_neg (show ¬ x.castSucc.val = 0 from h0), dif_pos (show x.castSucc.val < 128 from x.isLt)]
      rfl
  · rw [newScore_at]
    unfold bScore
    simp only [hb, hq0, hq1, hkn]
    rw [if_neg (by simp), dif_neg (by simp)]
  · rw [hvb]
    unfold bValue
    rw [dif_pos (show x.castSucc.val < 128 from x.isLt)]
    rfl
  · rw [hvn]
    unfold bValue
    rw [dif_neg (by simp)]

/-- One sample's part of a plane, as it is stored. -/
def part (p : Fin 2) (a : FVec Ideal S16x256 .f32) : FVec Ideal S1x16x128 .f32 :=
  match p with
  | 0 => shapeCast S1x16x128 (extractStridedSlice S16x128 ![0, 0] a slices_S16x256_o0_0_S16x128) shapeCasts_S16x128_S1x16x128
  | 1 => shapeCast S1x16x128 (extractStridedSlice S16x128 ![0, 128] a slices_S16x256_o0_128_S16x128) shapeCasts_S16x128_S1x16x128

theorem part_at (p : Fin 2) (a : FVec Ideal S16x256 .f32) (h : Fin 16) (l : Fin 128) :
    part p a (ix3 0 h l) = a (ix2 h ⟨128 * p.val + l.val, by omega⟩) := by
  match p with
  | 0 =>
    pointwise [part]
  | 1 =>
    pointwise [part]

variable (x0 : Vec Ideal S2x256x128 .f32) (x1 x2 : Vec Ideal S16x256 .f32) (x3 x4 : Vec Ideal S16x256x128 .f32)
  (x5 : Vec Ideal S16x1 .f32) (x6 : Vec Ideal S128x4096 .f32) (x7 : Vec Ideal S64x128 .f32) (x8 : Vec Ideal S64x1024 .f32)
  (x9 x10 : Vec Ideal S128x1024 .f32)

/-! ## The 16 samples of a point -/

/-- Sample 0. -/
def sample0 : FVec Ideal S16x256 .f32 :=
  average (oldScores (View.ld x0 r0_5) (View.ld x0 r0_6) (View.ld x3 r0_7))
    (newScore (View.ld x0 r0_5) (View.ld x0 r0_6) (View.ld x1 r0_8)) (View.ld x4 r0_7) (View.ld x2 r0_8)
    (View.ld x5 r0_4)

theorem sample0_at (p : Fin 2) (h : Fin 16) (l : Fin 128) :
    part p (sample0 x0 x1 x2 x3 x4 x5) (ix3 0 h l) = bOut x0 x1 x2 x3 x4 x5 p ⟨0 + h.val, by omega⟩ l :=
  (part_at p _ h l).trans (average_block x0 x1 x2 x3 x4 x5 0 _ _ _ _ _ _ _ (fun h x => by pointwise []) (fun h x => by pointwise [])
    (fun k w => by pointwise []) (fun k w => by pointwise []) (fun k => by pointwise []) (fun k => by pointwise [])
    (fun h => by pointwise []) p h l)

/-- Sample 1. -/
def sample1 : FVec Ideal S16x256 .f32 :=
  average (oldScores (View.ld x0 r0_9) (View.ld x0 r0_10) (View.ld x3 r0_11))
    (newScore (View.ld x0 r0_9) (View.ld x0 r0_10) (View.ld x1 r0_12)) (View.ld x4 r0_11) (View.ld x2 r0_12)
    (View.ld x5 r0_4)

theorem sample1_at (p : Fin 2) (h : Fin 16) (l : Fin 128) :
    part p (sample1 x0 x1 x2 x3 x4 x5) (ix3 0 h l) = bOut x0 x1 x2 x3 x4 x5 p ⟨16 + h.val, by omega⟩ l :=
  (part_at p _ h l).trans (average_block x0 x1 x2 x3 x4 x5 1 _ _ _ _ _ _ _ (fun h x => by pointwise []) (fun h x => by pointwise [])
    (fun k w => by pointwise []) (fun k w => by pointwise []) (fun k => by pointwise []) (fun k => by pointwise [])
    (fun h => by pointwise []) p h l)

/-- Sample 2. -/
def sample2 : FVec Ideal S16x256 .f32 :=
  average (oldScores (View.ld x0 r0_13) (View.ld x0 r0_14) (View.ld x3 r0_15))
    (newScore (View.ld x0 r0_13) (View.ld x0 r0_14) (View.ld x1 r0_16)) (View.ld x4 r0_15) (View.ld x2 r0_16)
    (View.ld x5 r0_4)

theorem sample2_at (p : Fin 2) (h : Fin 16) (l : Fin 128) :
    part p (sample2 x0 x1 x2 x3 x4 x5) (ix3 0 h l) = bOut x0 x1 x2 x3 x4 x5 p ⟨32 + h.val, by omega⟩ l :=
  (part_at p _ h l).trans (average_block x0 x1 x2 x3 x4 x5 2 _ _ _ _ _ _ _ (fun h x => by pointwise []) (fun h x => by pointwise [])
    (fun k w => by pointwise []) (fun k w => by pointwise []) (fun k => by pointwise []) (fun k => by pointwise [])
    (fun h => by pointwise []) p h l)

/-- Sample 3. -/
def sample3 : FVec Ideal S16x256 .f32 :=
  average (oldScores (View.ld x0 r0_17) (View.ld x0 r0_18) (View.ld x3 r0_19))
    (newScore (View.ld x0 r0_17) (View.ld x0 r0_18) (View.ld x1 r0_20)) (View.ld x4 r0_19) (View.ld x2 r0_20)
    (View.ld x5 r0_4)

theorem sample3_at (p : Fin 2) (h : Fin 16) (l : Fin 128) :
    part p (sample3 x0 x1 x2 x3 x4 x5) (ix3 0 h l) = bOut x0 x1 x2 x3 x4 x5 p ⟨48 + h.val, by omega⟩ l :=
  (part_at p _ h l).trans (average_block x0 x1 x2 x3 x4 x5 3 _ _ _ _ _ _ _ (fun h x => by pointwise []) (fun h x => by pointwise [])
    (fun k w => by pointwise []) (fun k w => by pointwise []) (fun k => by pointwise []) (fun k => by pointwise [])
    (fun h => by pointwise []) p h l)

/-- Sample 4. -/
def sample4 : FVec Ideal S16x256 .f32 :=
  average (oldScores (View.ld x0 r0_21) (View.ld x0 r0_22) (View.ld x3 r0_23))
    (newScore (View.ld x0 r0_21) (View.ld x0 r0_22) (View.ld x1 r0_24)) (View.ld x4 r0_23) (View.ld x2 r0_24)
    (View.ld x5 r0_4)

theorem sample4_at (p : Fin 2) (h : Fin 16) (l : Fin 128) :
    part p (sample4 x0 x1 x2 x3 x4 x5) (ix3 0 h l) = bOut x0 x1 x2 x3 x4 x5 p ⟨64 + h.val, by omega⟩ l :=
  (part_at p _ h l).trans (average_block x0 x1 x2 x3 x4 x5 4 _ _ _ _ _ _ _ (fun h x => by pointwise []) (fun h x => by pointwise [])
    (fun k w => by pointwise []) (fun k w => by pointwise []) (fun k => by pointwise []) (fun k => by pointwise [])
    (fun h => by pointwise []) p h l)

/-- Sample 5. -/
def sample5 : FVec Ideal S16x256 .f32 :=
  average (oldScores (View.ld x0 r0_25) (View.ld x0 r0_26) (View.ld x3 r0_27))
    (newScore (View.ld x0 r0_25) (View.ld x0 r0_26) (View.ld x1 r0_28)) (View.ld x4 r0_27) (View.ld x2 r0_28)
    (View.ld x5 r0_4)

theorem sample5_at (p : Fin 2) (h : Fin 16) (l : Fin 128) :
    part p (sample5 x0 x1 x2 x3 x4 x5) (ix3 0 h l) = bOut x0 x1 x2 x3 x4 x5 p ⟨80 + h.val, by omega⟩ l :=
  (part_at p _ h l).trans (average_block x0 x1 x2 x3 x4 x5 5 _ _ _ _ _ _ _ (fun h x => by pointwise []) (fun h x => by pointwise [])
    (fun k w => by pointwise []) (fun k w => by pointwise []) (fun k => by pointwise []) (fun k => by pointwise [])
    (fun h => by pointwise []) p h l)

/-- Sample 6. -/
def sample6 : FVec Ideal S16x256 .f32 :=
  average (oldScores (View.ld x0 r0_29) (View.ld x0 r0_30) (View.ld x3 r0_31))
    (newScore (View.ld x0 r0_29) (View.ld x0 r0_30) (View.ld x1 r0_32)) (View.ld x4 r0_31) (View.ld x2 r0_32)
    (View.ld x5 r0_4)

theorem sample6_at (p : Fin 2) (h : Fin 16) (l : Fin 128) :
    part p (sample6 x0 x1 x2 x3 x4 x5) (ix3 0 h l) = bOut x0 x1 x2 x3 x4 x5 p ⟨96 + h.val, by omega⟩ l :=
  (part_at p _ h l).trans (average_block x0 x1 x2 x3 x4 x5 6 _ _ _ _ _ _ _ (fun h x => by pointwise []) (fun h x => by pointwise [])
    (fun k w => by pointwise []) (fun k w => by pointwise []) (fun k => by pointwise []) (fun k => by pointwise [])
    (fun h => by pointwise []) p h l)

/-- Sample 7. -/
def sample7 : FVec Ideal S16x256 .f32 :=
  average (oldScores (View.ld x0 r0_33) (View.ld x0 r0_34) (View.ld x3 r0_35))
    (newScore (View.ld x0 r0_33) (View.ld x0 r0_34) (View.ld x1 r0_36)) (View.ld x4 r0_35) (View.ld x2 r0_36)
    (View.ld x5 r0_4)

theorem sample7_at (p : Fin 2) (h : Fin 16) (l : Fin 128) :
    part p (sample7 x0 x1 x2 x3 x4 x5) (ix3 0 h l) = bOut x0 x1 x2 x3 x4 x5 p ⟨112 + h.val, by omega⟩ l :=
  (part_at p _ h l).trans (average_block x0 x1 x2 x3 x4 x5 7 _ _ _ _ _ _ _ (fun h x => by pointwise []) (fun h x => by pointwise [])
    (fun k w => by pointwise []) (fun k w => by pointwise []) (fun k => by pointwise []) (fun k => by pointwise [])
    (fun h => by pointwise []) p h l)

/-- Sample 8. -/
def sample8 : FVec Ideal S16x256 .f32 :=
  average (oldScores (View.ld x0 r0_37) (View.ld x0 r0_38) (View.ld x3 r0_39))
    (newScore (View.ld x0 r0_37) (View.ld x0 r0_38) (View.ld x1 r0_40)) (View.ld x4 r0_39) (View.ld x2 r0_40)
    (View.ld x5 r0_4)

theorem sample8_at (p : Fin 2) (h : Fin 16) (l : Fin 128) :
    part p (sample8 x0 x1 x2 x3 x4 x5) (ix3 0 h l) = bOut x0 x1 x2 x3 x4 x5 p ⟨128 + h.val, by omega⟩ l :=
  (part_at p _ h l).trans (average_block x0 x1 x2 x3 x4 x5 8 _ _ _ _ _ _ _ (fun h x => by pointwise []) (fun h x => by pointwise [])
    (fun k w => by pointwise []) (fun k w => by pointwise []) (fun k => by pointwise []) (fun k => by pointwise [])
    (fun h => by pointwise []) p h l)

/-- Sample 9. -/
def sample9 : FVec Ideal S16x256 .f32 :=
  average (oldScores (View.ld x0 r0_41) (View.ld x0 r0_42) (View.ld x3 r0_43))
    (newScore (View.ld x0 r0_41) (View.ld x0 r0_42) (View.ld x1 r0_44)) (View.ld x4 r0_43) (View.ld x2 r0_44)
    (View.ld x5 r0_4)

theorem sample9_at (p : Fin 2) (h : Fin 16) (l : Fin 128) :
    part p (sample9 x0 x1 x2 x3 x4 x5) (ix3 0 h l) = bOut x0 x1 x2 x3 x4 x5 p ⟨144 + h.val, by omega⟩ l :=
  (part_at p _ h l).trans (average_block x0 x1 x2 x3 x4 x5 9 _ _ _ _ _ _ _ (fun h x => by pointwise []) (fun h x => by pointwise [])
    (fun k w => by pointwise []) (fun k w => by pointwise []) (fun k => by pointwise []) (fun k => by pointwise [])
    (fun h => by pointwise []) p h l)

/-- Sample 10. -/
def sample10 : FVec Ideal S16x256 .f32 :=
  average (oldScores (View.ld x0 r0_45) (View.ld x0 r0_46) (View.ld x3 r0_47))
    (newScore (View.ld x0 r0_45) (View.ld x0 r0_46) (View.ld x1 r0_48)) (View.ld x4 r0_47) (View.ld x2 r0_48)
    (View.ld x5 r0_4)

theorem sample10_at (p : Fin 2) (h : Fin 16) (l : Fin 128) :
    part p (sample10 x0 x1 x2 x3 x4 x5) (ix3 0 h l) = bOut x0 x1 x2 x3 x4 x5 p ⟨160 + h.val, by omega⟩ l :=
  (part_at p _ h l).trans (average_block x0 x1 x2 x3 x4 x5 10 _ _ _ _ _ _ _ (fun h x => by pointwise []) (fun h x => by pointwise [])
    (fun k w => by pointwise []) (fun k w => by pointwise []) (fun k => by pointwise []) (fun k => by pointwise [])
    (fun h => by pointwise []) p h l)

/-- Sample 11. -/
def sample11 : FVec Ideal S16x256 .f32 :=
  average (oldScores (View.ld x0 r0_49) (View.ld x0 r0_50) (View.ld x3 r0_51))
    (newScore (View.ld x0 r0_49) (View.ld x0 r0_50) (View.ld x1 r0_52)) (View.ld x4 r0_51) (View.ld x2 r0_52)
    (View.ld x5 r0_4)

theorem sample11_at (p : Fin 2) (h : Fin 16) (l : Fin 128) :
    part p (sample11 x0 x1 x2 x3 x4 x5) (ix3 0 h l) = bOut x0 x1 x2 x3 x4 x5 p ⟨176 + h.val, by omega⟩ l :=
  (part_at p _ h l).trans (average_block x0 x1 x2 x3 x4 x5 11 _ _ _ _ _ _ _ (fun h x => by pointwise []) (fun h x => by pointwise [])
    (fun k w => by pointwise []) (fun k w => by pointwise []) (fun k => by pointwise []) (fun k => by pointwise [])
    (fun h => by pointwise []) p h l)

/-- Sample 12. -/
def sample12 : FVec Ideal S16x256 .f32 :=
  average (oldScores (View.ld x0 r0_53) (View.ld x0 r0_54) (View.ld x3 r0_55))
    (newScore (View.ld x0 r0_53) (View.ld x0 r0_54) (View.ld x1 r0_56)) (View.ld x4 r0_55) (View.ld x2 r0_56)
    (View.ld x5 r0_4)

theorem sample12_at (p : Fin 2) (h : Fin 16) (l : Fin 128) :
    part p (sample12 x0 x1 x2 x3 x4 x5) (ix3 0 h l) = bOut x0 x1 x2 x3 x4 x5 p ⟨192 + h.val, by omega⟩ l :=
  (part_at p _ h l).trans (average_block x0 x1 x2 x3 x4 x5 12 _ _ _ _ _ _ _ (fun h x => by pointwise []) (fun h x => by pointwise [])
    (fun k w => by pointwise []) (fun k w => by pointwise []) (fun k => by pointwise []) (fun k => by pointwise [])
    (fun h => by pointwise []) p h l)

/-- Sample 13. -/
def sample13 : FVec Ideal S16x256 .f32 :=
  average (oldScores (View.ld x0 r0_57) (View.ld x0 r0_58) (View.ld x3 r0_59))
    (newScore (View.ld x0 r0_57) (View.ld x0 r0_58) (View.ld x1 r0_60)) (View.ld x4 r0_59) (View.ld x2 r0_60)
    (View.ld x5 r0_4)

theorem sample13_at (p : Fin 2) (h : Fin 16) (l : Fin 128) :
    part p (sample13 x0 x1 x2 x3 x4 x5) (ix3 0 h l) = bOut x0 x1 x2 x3 x4 x5 p ⟨208 + h.val, by omega⟩ l :=
  (part_at p _ h l).trans (average_block x0 x1 x2 x3 x4 x5 13 _ _ _ _ _ _ _ (fun h x => by pointwise []) (fun h x => by pointwise [])
    (fun k w => by pointwise []) (fun k w => by pointwise []) (fun k => by pointwise []) (fun k => by pointwise [])
    (fun h => by pointwise []) p h l)

/-- Sample 14. -/
def sample14 : FVec Ideal S16x256 .f32 :=
  average (oldScores (View.ld x0 r0_61) (View.ld x0 r0_62) (View.ld x3 r0_63))
    (newScore (View.ld x0 r0_61) (View.ld x0 r0_62) (View.ld x1 r0_64)) (View.ld x4 r0_63) (View.ld x2 r0_64)
    (View.ld x5 r0_4)

theorem sample14_at (p : Fin 2) (h : Fin 16) (l : Fin 128) :
    part p (sample14 x0 x1 x2 x3 x4 x5) (ix3 0 h l) = bOut x0 x1 x2 x3 x4 x5 p ⟨224 + h.val, by omega⟩ l :=
  (part_at p _ h l).trans (average_block x0 x1 x2 x3 x4 x5 14 _ _ _ _ _ _ _ (fun h x => by pointwise []) (fun h x => by pointwise [])
    (fun k w => by pointwise []) (fun k w => by pointwise []) (fun k => by pointwise []) (fun k => by pointwise [])
    (fun h => by pointwise []) p h l)

/-- Sample 15. -/
def sample15 : FVec Ideal S16x256 .f32 :=
  average (oldScores (View.ld x0 r0_65) (View.ld x0 r0_66) (View.ld x3 r0_67))
    (newScore (View.ld x0 r0_65) (View.ld x0 r0_66) (View.ld x1 r0_68)) (View.ld x4 r0_67) (View.ld x2 r0_68)
    (View.ld x5 r0_4)

theorem sample15_at (p : Fin 2) (h : Fin 16) (l : Fin 128) :
    part p (sample15 x0 x1 x2 x3 x4 x5) (ix3 0 h l) = bOut x0 x1 x2 x3 x4 x5 p ⟨240 + h.val, by omega⟩ l :=
  (part_at p _ h l).trans (average_block x0 x1 x2 x3 x4 x5 15 _ _ _ _ _ _ _ (fun h x => by pointwise []) (fun h x => by pointwise [])
    (fun k w => by pointwise []) (fun k w => by pointwise []) (fun k => by pointwise []) (fun k => by pointwise [])
    (fun h => by pointwise []) p h l)

/-! ## The block -/

theorem out_at (p : Fin 2) (r : Fin 256) (l : Fin 128) :
    out0_11 x0 x1 x2 x3 x4 x5 x6 x7 x8 x9 x10 (ix3 p r l) = bOut x0 x1 x2 x3 x4 x5 p r l := by
  refine View.canon_apply_of_pieces
    (Val := Elt Ideal) (e := .f32) (fun y : S2x256x128.Idx => bOut x0 x1 x2 x3 x4 x5 (y 0) (y 1) (y 2))
    _ ?_ (ix3 p r l) (cover0_11 _ _ _ _ _ _ _ _ _ _ _ _ _ _ _ _ _ _ _ _ _ _ _ _ _ _ _ _ _ _ _ _ (ix3 p r l))
  intro q hq x
  simp only [List.mem_cons, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · have hx : r0_66.emb x = ix3 1 ⟨240 + (x 1).val, by have := (x 1).isLt; change _ < 16 at this; omega⟩ (x 2) :=
      ix3_at (show 1 + 1 * (x 0).val = 1 by have := (x 0).isLt; change _ < 1 at this; omega) (show 240 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample15_at x0 x1 x2 x3 x4 x5 1 (x 1) (x 2)
  · have hx : r0_65.emb x = ix3 0 ⟨240 + (x 1).val, by have := (x 1).isLt; change _ < 16 at this; omega⟩ (x 2) :=
      ix3_at (show 0 + 1 * (x 0).val = 0 by have := (x 0).isLt; change _ < 1 at this; omega) (show 240 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample15_at x0 x1 x2 x3 x4 x5 0 (x 1) (x 2)
  · have hx : r0_62.emb x = ix3 1 ⟨224 + (x 1).val, by have := (x 1).isLt; change _ < 16 at this; omega⟩ (x 2) :=
      ix3_at (show 1 + 1 * (x 0).val = 1 by have := (x 0).isLt; change _ < 1 at this; omega) (show 224 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample14_at x0 x1 x2 x3 x4 x5 1 (x 1) (x 2)
  · have hx : r0_61.emb x = ix3 0 ⟨224 + (x 1).val, by have := (x 1).isLt; change _ < 16 at this; omega⟩ (x 2) :=
      ix3_at (show 0 + 1 * (x 0).val = 0 by have := (x 0).isLt; change _ < 1 at this; omega) (show 224 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample14_at x0 x1 x2 x3 x4 x5 0 (x 1) (x 2)
  · have hx : r0_58.emb x = ix3 1 ⟨208 + (x 1).val, by have := (x 1).isLt; change _ < 16 at this; omega⟩ (x 2) :=
      ix3_at (show 1 + 1 * (x 0).val = 1 by have := (x 0).isLt; change _ < 1 at this; omega) (show 208 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample13_at x0 x1 x2 x3 x4 x5 1 (x 1) (x 2)
  · have hx : r0_57.emb x = ix3 0 ⟨208 + (x 1).val, by have := (x 1).isLt; change _ < 16 at this; omega⟩ (x 2) :=
      ix3_at (show 0 + 1 * (x 0).val = 0 by have := (x 0).isLt; change _ < 1 at this; omega) (show 208 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample13_at x0 x1 x2 x3 x4 x5 0 (x 1) (x 2)
  · have hx : r0_54.emb x = ix3 1 ⟨192 + (x 1).val, by have := (x 1).isLt; change _ < 16 at this; omega⟩ (x 2) :=
      ix3_at (show 1 + 1 * (x 0).val = 1 by have := (x 0).isLt; change _ < 1 at this; omega) (show 192 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample12_at x0 x1 x2 x3 x4 x5 1 (x 1) (x 2)
  · have hx : r0_53.emb x = ix3 0 ⟨192 + (x 1).val, by have := (x 1).isLt; change _ < 16 at this; omega⟩ (x 2) :=
      ix3_at (show 0 + 1 * (x 0).val = 0 by have := (x 0).isLt; change _ < 1 at this; omega) (show 192 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample12_at x0 x1 x2 x3 x4 x5 0 (x 1) (x 2)
  · have hx : r0_50.emb x = ix3 1 ⟨176 + (x 1).val, by have := (x 1).isLt; change _ < 16 at this; omega⟩ (x 2) :=
      ix3_at (show 1 + 1 * (x 0).val = 1 by have := (x 0).isLt; change _ < 1 at this; omega) (show 176 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample11_at x0 x1 x2 x3 x4 x5 1 (x 1) (x 2)
  · have hx : r0_49.emb x = ix3 0 ⟨176 + (x 1).val, by have := (x 1).isLt; change _ < 16 at this; omega⟩ (x 2) :=
      ix3_at (show 0 + 1 * (x 0).val = 0 by have := (x 0).isLt; change _ < 1 at this; omega) (show 176 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample11_at x0 x1 x2 x3 x4 x5 0 (x 1) (x 2)
  · have hx : r0_46.emb x = ix3 1 ⟨160 + (x 1).val, by have := (x 1).isLt; change _ < 16 at this; omega⟩ (x 2) :=
      ix3_at (show 1 + 1 * (x 0).val = 1 by have := (x 0).isLt; change _ < 1 at this; omega) (show 160 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample10_at x0 x1 x2 x3 x4 x5 1 (x 1) (x 2)
  · have hx : r0_45.emb x = ix3 0 ⟨160 + (x 1).val, by have := (x 1).isLt; change _ < 16 at this; omega⟩ (x 2) :=
      ix3_at (show 0 + 1 * (x 0).val = 0 by have := (x 0).isLt; change _ < 1 at this; omega) (show 160 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample10_at x0 x1 x2 x3 x4 x5 0 (x 1) (x 2)
  · have hx : r0_42.emb x = ix3 1 ⟨144 + (x 1).val, by have := (x 1).isLt; change _ < 16 at this; omega⟩ (x 2) :=
      ix3_at (show 1 + 1 * (x 0).val = 1 by have := (x 0).isLt; change _ < 1 at this; omega) (show 144 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample9_at x0 x1 x2 x3 x4 x5 1 (x 1) (x 2)
  · have hx : r0_41.emb x = ix3 0 ⟨144 + (x 1).val, by have := (x 1).isLt; change _ < 16 at this; omega⟩ (x 2) :=
      ix3_at (show 0 + 1 * (x 0).val = 0 by have := (x 0).isLt; change _ < 1 at this; omega) (show 144 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample9_at x0 x1 x2 x3 x4 x5 0 (x 1) (x 2)
  · have hx : r0_38.emb x = ix3 1 ⟨128 + (x 1).val, by have := (x 1).isLt; change _ < 16 at this; omega⟩ (x 2) :=
      ix3_at (show 1 + 1 * (x 0).val = 1 by have := (x 0).isLt; change _ < 1 at this; omega) (show 128 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample8_at x0 x1 x2 x3 x4 x5 1 (x 1) (x 2)
  · have hx : r0_37.emb x = ix3 0 ⟨128 + (x 1).val, by have := (x 1).isLt; change _ < 16 at this; omega⟩ (x 2) :=
      ix3_at (show 0 + 1 * (x 0).val = 0 by have := (x 0).isLt; change _ < 1 at this; omega) (show 128 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample8_at x0 x1 x2 x3 x4 x5 0 (x 1) (x 2)
  · have hx : r0_34.emb x = ix3 1 ⟨112 + (x 1).val, by have := (x 1).isLt; change _ < 16 at this; omega⟩ (x 2) :=
      ix3_at (show 1 + 1 * (x 0).val = 1 by have := (x 0).isLt; change _ < 1 at this; omega) (show 112 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample7_at x0 x1 x2 x3 x4 x5 1 (x 1) (x 2)
  · have hx : r0_33.emb x = ix3 0 ⟨112 + (x 1).val, by have := (x 1).isLt; change _ < 16 at this; omega⟩ (x 2) :=
      ix3_at (show 0 + 1 * (x 0).val = 0 by have := (x 0).isLt; change _ < 1 at this; omega) (show 112 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample7_at x0 x1 x2 x3 x4 x5 0 (x 1) (x 2)
  · have hx : r0_30.emb x = ix3 1 ⟨96 + (x 1).val, by have := (x 1).isLt; change _ < 16 at this; omega⟩ (x 2) :=
      ix3_at (show 1 + 1 * (x 0).val = 1 by have := (x 0).isLt; change _ < 1 at this; omega) (show 96 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample6_at x0 x1 x2 x3 x4 x5 1 (x 1) (x 2)
  · have hx : r0_29.emb x = ix3 0 ⟨96 + (x 1).val, by have := (x 1).isLt; change _ < 16 at this; omega⟩ (x 2) :=
      ix3_at (show 0 + 1 * (x 0).val = 0 by have := (x 0).isLt; change _ < 1 at this; omega) (show 96 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample6_at x0 x1 x2 x3 x4 x5 0 (x 1) (x 2)
  · have hx : r0_26.emb x = ix3 1 ⟨80 + (x 1).val, by have := (x 1).isLt; change _ < 16 at this; omega⟩ (x 2) :=
      ix3_at (show 1 + 1 * (x 0).val = 1 by have := (x 0).isLt; change _ < 1 at this; omega) (show 80 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample5_at x0 x1 x2 x3 x4 x5 1 (x 1) (x 2)
  · have hx : r0_25.emb x = ix3 0 ⟨80 + (x 1).val, by have := (x 1).isLt; change _ < 16 at this; omega⟩ (x 2) :=
      ix3_at (show 0 + 1 * (x 0).val = 0 by have := (x 0).isLt; change _ < 1 at this; omega) (show 80 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample5_at x0 x1 x2 x3 x4 x5 0 (x 1) (x 2)
  · have hx : r0_22.emb x = ix3 1 ⟨64 + (x 1).val, by have := (x 1).isLt; change _ < 16 at this; omega⟩ (x 2) :=
      ix3_at (show 1 + 1 * (x 0).val = 1 by have := (x 0).isLt; change _ < 1 at this; omega) (show 64 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample4_at x0 x1 x2 x3 x4 x5 1 (x 1) (x 2)
  · have hx : r0_21.emb x = ix3 0 ⟨64 + (x 1).val, by have := (x 1).isLt; change _ < 16 at this; omega⟩ (x 2) :=
      ix3_at (show 0 + 1 * (x 0).val = 0 by have := (x 0).isLt; change _ < 1 at this; omega) (show 64 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample4_at x0 x1 x2 x3 x4 x5 0 (x 1) (x 2)
  · have hx : r0_18.emb x = ix3 1 ⟨48 + (x 1).val, by have := (x 1).isLt; change _ < 16 at this; omega⟩ (x 2) :=
      ix3_at (show 1 + 1 * (x 0).val = 1 by have := (x 0).isLt; change _ < 1 at this; omega) (show 48 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample3_at x0 x1 x2 x3 x4 x5 1 (x 1) (x 2)
  · have hx : r0_17.emb x = ix3 0 ⟨48 + (x 1).val, by have := (x 1).isLt; change _ < 16 at this; omega⟩ (x 2) :=
      ix3_at (show 0 + 1 * (x 0).val = 0 by have := (x 0).isLt; change _ < 1 at this; omega) (show 48 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample3_at x0 x1 x2 x3 x4 x5 0 (x 1) (x 2)
  · have hx : r0_14.emb x = ix3 1 ⟨32 + (x 1).val, by have := (x 1).isLt; change _ < 16 at this; omega⟩ (x 2) :=
      ix3_at (show 1 + 1 * (x 0).val = 1 by have := (x 0).isLt; change _ < 1 at this; omega) (show 32 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample2_at x0 x1 x2 x3 x4 x5 1 (x 1) (x 2)
  · have hx : r0_13.emb x = ix3 0 ⟨32 + (x 1).val, by have := (x 1).isLt; change _ < 16 at this; omega⟩ (x 2) :=
      ix3_at (show 0 + 1 * (x 0).val = 0 by have := (x 0).isLt; change _ < 1 at this; omega) (show 32 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample2_at x0 x1 x2 x3 x4 x5 0 (x 1) (x 2)
  · have hx : r0_10.emb x = ix3 1 ⟨16 + (x 1).val, by have := (x 1).isLt; change _ < 16 at this; omega⟩ (x 2) :=
      ix3_at (show 1 + 1 * (x 0).val = 1 by have := (x 0).isLt; change _ < 1 at this; omega) (show 16 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample1_at x0 x1 x2 x3 x4 x5 1 (x 1) (x 2)
  · have hx : r0_9.emb x = ix3 0 ⟨16 + (x 1).val, by have := (x 1).isLt; change _ < 16 at this; omega⟩ (x 2) :=
      ix3_at (show 0 + 1 * (x 0).val = 0 by have := (x 0).isLt; change _ < 1 at this; omega) (show 16 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample1_at x0 x1 x2 x3 x4 x5 0 (x 1) (x 2)
  · have hx : r0_6.emb x = ix3 1 ⟨0 + (x 1).val, by have := (x 1).isLt; change _ < 16 at this; omega⟩ (x 2) :=
      ix3_at (show 1 + 1 * (x 0).val = 1 by have := (x 0).isLt; change _ < 1 at this; omega) (show 0 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample0_at x0 x1 x2 x3 x4 x5 1 (x 1) (x 2)
  · have hx : r0_5.emb x = ix3 0 ⟨0 + (x 1).val, by have := (x 1).isLt; change _ < 16 at this; omega⟩ (x 2) :=
      ix3_at (show 0 + 1 * (x 0).val = 0 by have := (x 0).isLt; change _ < 1 at this; omega) (show 0 + 1 * (x 1).val = _ by simp)
        (show 0 + 1 * (x 2).val = _ by simp)
    rw [hx]
    conv_lhs => rw [show x = ix3 0 (x 1) (x 2) from ix3_at (by have := (x 0).isLt; change _ < 1 at this; show (x 0).val = 0; omega) rfl rfl]
    exact sample0_at x0 x1 x2 x3 x4 x5 0 (x 1) (x 2)

end Cert.Attn
-- ==== Proof.Attn.Arrays.lean ====
/-
  The result arrays of the attention call after its 8 points. Row `16 b + h` of the first is the average of the values of
  sample `b` for head `h`, over the 256 lanes in two planes; the other five are the weights the call casts on its way.
  Point `t` takes samples `16 t` to `16 t + 15` and an eighth of the rows of every weight.
-/
module

public import proofs.«01_k».proof.Proof.Attn.Block
public import Idealize.ShloMosaic.Lib.StableHlo.ReadAt

@[expose] public section

noncomputable section

namespace Cert.Attn

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The arguments, read as functions of their indices -/

/-- The query of head `h` of sample `b`, -/
def argQ (c : Dev nD) (b : Fin 128) (h : Fin 16) (d : Fin 64) : EReal := m (c, Proc.tc.devRef main_arg0) (ix3 b h d)

/-- the keys of a key/value head of sample `b`, the cached ones and the new one after them, -/
def argK (c : Dev nD) (b : Fin 128) (k : Fin 4) (w : Fin 129) (d : Fin 64) : EReal :=
  if hw : w.val < 128 then m (c, Proc.tc.devRef main_arg3) (ix5 0 b ⟨w.val, hw⟩ k d)
  else m (c, Proc.tc.devRef main_arg1) (ix2 b ⟨64 * k.val + d.val, by omega⟩)

/-- lane `l` of the values of sample `b`, in the same order, -/
def argV (c : Dev nD) (b : Fin 128) (l : Fin 256) (w : Fin 129) : EReal :=
  if hw : w.val < 128 then m (c, Proc.tc.devRef main_arg4) (ix5 0 b ⟨w.val, hw⟩ ⟨l.val / 64, by omega⟩ ⟨l.val % 64, by omega⟩)
  else m (c, Proc.tc.devRef main_arg2) (ix2 b l)

/-- and the sink of head `h`. -/
def argS (c : Dev nD) (h : Fin 16) : EReal := m (c, Proc.tc.devRef main_arg5) (ix2 0 h)

/-! ## What the host lays out before the call -/

/-- The host's word for "key/value head `k` is that of query head `h`". -/
theorem own_word : ∀ (h : Fin 16) (k : Fin 4), IntOp.cmpi CmpIPredicate.eq
      (Scalar.select
        (IntOp.andi
          (IntOp.cmpi CmpIPredicate.ne
            (if BitVec.ofNat 32 h.val = 0 then 0 else if (BitVec.ofNat 32 h.val).msb = true then -1 else 1 : BitVec 32)
            (if 4#32 = 0 then 0 else if BitVec.msb (4#32) = true then -1 else 1 : BitVec 32))
          (IntOp.cmpi CmpIPredicate.ne (IntOp.remsi ArithUnit.host (BitVec.ofNat 32 h.val) 4#32) 0#32))
        (IntOp.subi (IntOp.divsi ArithUnit.host (BitVec.ofNat 32 h.val) 4#32) 1#32)
        (IntOp.divsi ArithUnit.host (BitVec.ofNat 32 h.val) 4#32))
      (BitVec.ofNat 32 k.val) = if k.val = h.val / 4 then 1#1 else 0#1 := by
  decide +kernel

/-- The same, the word of the group's size given by any name. -/
theorem own_words (four : BitVec 32) (h4 : four = 4#32) (h : Fin 16) (k : Fin 4) : IntOp.cmpi CmpIPredicate.eq
      (Scalar.select
        (IntOp.andi
          (IntOp.cmpi CmpIPredicate.ne
            (if BitVec.ofNat 32 h.val = 0 then 0 else if (BitVec.ofNat 32 h.val).msb = true then -1 else 1 : BitVec 32)
            (if four = 0 then 0 else if four.msb = true then -1 else 1 : BitVec 32))
          (IntOp.cmpi CmpIPredicate.ne (IntOp.remsi ArithUnit.host (BitVec.ofNat 32 h.val) four) 0#32))
        (IntOp.subi (IntOp.divsi ArithUnit.host (BitVec.ofNat 32 h.val) four) 1#32)
        (IntOp.divsi ArithUnit.host (BitVec.ofNat 32 h.val) four))
      (BitVec.ofNat 32 k.val) = if k.val = h.val / 4 then 1#1 else 0#1 := by
  subst h4
  exact own_word h k

theorem select_own {w : BitVec 1} {P : Prop} [Decidable P] {a z a' : EReal} (hw : w = if P then 1#1 else 0#1) (ha : a = a')
    (hz : z = 0) : Scalar.select w a z = if P then a' else 0 := by
  subst ha hz hw
  by_cases h : P
  · rw [if_pos h, if_pos h]; rfl
  · rw [if_neg h, if_neg h]; rfl

/-- The query of a head stands in the lanes of its own key/value head; the other lanes are zero. -/
theorem V_q (c : Dev nD) (p : Fin 2) (r : Fin 2048) (x : Fin 128) :
    V m c main_v18 (ix3 p r x) = if (128 * p.val + x.val) / 64 = r.val % 16 / 4 then
      argQ m c ⟨r.val / 16, by omega⟩ ⟨r.val % 16, by omega⟩ ⟨(128 * p.val + x.val) % 64, by omega⟩ else (0 : EReal) := by
  unfold V
  after_reads_at
  refine select_own (P := (128 * p.val + x.val) / 64 = r.val % 16 / 4) ?_ ?_ (Ideal.ofBits_zero .f32)
  · refine (own_words _ rfl ⟨r.val % 16, by omega⟩ ⟨p.val * 2 + x.val / 64, by omega⟩).trans ?_
    simp only [show (128 * p.val + x.val) / 64 = p.val * 2 + x.val / 64 by omega]
  · unfold argQ
    simp only [show (128 * p.val + x.val) % 64 = x.val % 64 by omega]

theorem V_k (c : Dev nD) (b : Fin 128) (k : Fin 256) (w : Fin 128) : V m c main_v2 (ix3 b k w)
    = m (c, Proc.tc.devRef main_arg3) (ix5 0 b w ⟨k.val / 64, by omega⟩ ⟨k.val % 64, by omega⟩) := by
  unfold V
  after_reads_at

theorem V_v (c : Dev nD) (b : Fin 128) (k : Fin 256) (w : Fin 128) : V m c main_v5 (ix3 b k w)
    = m (c, Proc.tc.devRef main_arg4) (ix5 0 b w ⟨k.val / 64, by omega⟩ ⟨k.val % 64, by omega⟩) := by
  unfold V
  after_reads_at

theorem V_sink (c : Dev nD) (h : Fin 16) : V m c main_v20 (ix2 h 0) = argS m c h := by
  unfold V argS
  after_reads_at

/-! ## The blocks of a point -/

theorem lt_pts (t : Fin cfg0.N) : t.val < 8 := lt_of_lt_of_eq t.isLt N_0

theorem index_rows : ∀ t : Fin cfg0.N, (win0_0.index t 0 = 0 ∧ win0_0.index t 1 = t.val ∧ win0_0.index t 2 = 0)
    ∧ (win0_11.index t 0 = 0 ∧ win0_11.index t 1 = t.val ∧ win0_11.index t 2 = 0) := by
  decide +kernel

theorem index_new : ∀ t : Fin cfg0.N, (win0_1.index t 0 = t.val ∧ win0_1.index t 1 = 0)
    ∧ (win0_2.index t 0 = t.val ∧ win0_2.index t 1 = 0) := by
  decide +kernel

theorem index_cache : ∀ t : Fin cfg0.N, (win0_3.index t 0 = t.val ∧ win0_3.index t 1 = 0 ∧ win0_3.index t 2 = 0)
    ∧ (win0_4.index t 0 = t.val ∧ win0_4.index t 1 = 0 ∧ win0_4.index t 2 = 0) ∧ (∀ a, win0_5.index t a = 0) := by
  decide +kernel

theorem blk_q (c : Dev nD) (t : Fin cfg0.N) (p : Fin 2) (r : Fin 256) (x : Fin 128) :
    iblk m c 0 t (ix3 p r x) = V m c main_v18 (ix3 p ⟨256 * t.val + r.val, by have := lt_pts t; omega⟩ x) :=
  congrArg (V m c main_v18) (ix3_at (show win0_0.index t 0 * 2 + 1 * p.val = p.val by rw [(index_rows t).1.1]; omega)
    (show win0_0.index t 1 * 256 + 1 * r.val = 256 * t.val + r.val by rw [(index_rows t).1.2.1]; omega)
    (show win0_0.index t 2 * 128 + 1 * x.val = x.val by rw [(index_rows t).1.2.2]; omega))

theorem blk_kn (c : Dev nD) (t : Fin cfg0.N) (b : Fin 16) (k : Fin 256) :
    iblk m c 1 t (ix2 b k) = m (c, Proc.tc.devRef main_arg1) (ix2 ⟨16 * t.val + b.val, by have := lt_pts t; omega⟩ k) := by
  rw [← show V m c main_arg1 = m (c, Proc.tc.devRef main_arg1) from V_main_arg1 m c]
  exact congrArg (V m c main_arg1) (ix2_at (show win0_1.index t 0 * 16 + 1 * b.val = 16 * t.val + b.val by
    rw [(index_new t).1.1]; omega) (show win0_1.index t 1 * 256 + 1 * k.val = k.val by rw [(index_new t).1.2]; omega))

theorem blk_vn (c : Dev nD) (t : Fin cfg0.N) (b : Fin 16) (k : Fin 256) :
    iblk m c 2 t (ix2 b k) = m (c, Proc.tc.devRef main_arg2) (ix2 ⟨16 * t.val + b.val, by have := lt_pts t; omega⟩ k) := by
  rw [← show V m c main_arg2 = m (c, Proc.tc.devRef main_arg2) from V_main_arg2 m c]
  exact congrArg (V m c main_arg2) (ix2_at (show win0_2.index t 0 * 16 + 1 * b.val = 16 * t.val + b.val by
    rw [(index_new t).2.1]; omega) (show win0_2.index t 1 * 256 + 1 * k.val = k.val by rw [(index_new t).2.2]; omega))

theorem blk_k (c : Dev nD) (t : Fin cfg0.N) (b : Fin 16) (k : Fin 256) (w : Fin 128) :
    iblk m c 3 t (ix3 b k w) = m (c, Proc.tc.devRef main_arg3)
      (ix5 0 ⟨16 * t.val + b.val, by have := lt_pts t; omega⟩ w ⟨k.val / 64, by omega⟩ ⟨k.val % 64, by omega⟩) := by
  rw [← V_k m c]
  exact congrArg (V m c main_v2) (ix3_at (show win0_3.index t 0 * 16 + 1 * b.val = 16 * t.val + b.val by
      rw [(index_cache t).1.1]; omega)
    (show win0_3.index t 1 * 256 + 1 * k.val = k.val by rw [(index_cache t).1.2.1]; omega)
    (show win0_3.index t 2 * 128 + 1 * w.val = w.val by rw [(index_cache t).1.2.2]; omega))

theorem blk_v (c : Dev nD) (t : Fin cfg0.N) (b : Fin 16) (k : Fin 256) (w : Fin 128) :
    iblk m c 4 t (ix3 b k w) = m (c, Proc.tc.devRef main_arg4)
      (ix5 0 ⟨16 * t.val + b.val, by have := lt_pts t; omega⟩ w ⟨k.val / 64, by omega⟩ ⟨k.val % 64, by omega⟩) := by
  rw [← V_v m c]
  exact congrArg (V m c main_v5) (ix3_at (show win0_4.index t 0 * 16 + 1 * b.val = 16 * t.val + b.val by
      rw [(index_cache t).2.1.1]; omega)
    (show win0_4.index t 1 * 256 + 1 * k.val = k.val by rw [(index_cache t).2.1.2.1]; omega)
    (show win0_4.index t 2 * 128 + 1 * w.val = w.val by rw [(index_cache t).2.1.2.2]; omega))

theorem blk_sink (c : Dev nD) (t : Fin cfg0.N) (h : Fin 16) : iblk m c 5 t (ix2 h 0) = argS m c h := by
  rw [← V_sink]
  exact congrArg (V m c main_v20) (ix2_at (show win0_5.index t 0 * 16 + 1 * h.val = h.val by
    rw [(index_cache t).2.2]; omega) (show win0_5.index t 1 * 1 + 1 * 0 = 0 by rw [(index_cache t).2.2]))

/-! ## The scores of a row -/

/-- A sum over the 256 lanes of a vector that is zero outside one key/value head's 64. -/
theorem lane_sum (q : Fin 64 → EReal) (f : Fin 2 → Fin 128 → EReal) (g : Fin 256 → EReal) (k : Fin 4)
    (hf : ∀ (p : Fin 2) (x : Fin 128), f p x = if (128 * p.val + x.val) / 64 = k.val then
      q ⟨(128 * p.val + x.val) % 64, by omega⟩ else 0) :
    ∑ x : Fin 128, f 0 x * g ⟨x.val, by omega⟩ + ∑ x : Fin 128, f 1 x * g ⟨128 + x.val, by omega⟩
      = ∑ d, q d * g ⟨64 * k.val + d.val, by omega⟩ := by
  have half : ∀ (p : Fin 2) (g : Fin 128 → EReal), ∑ x : Fin 128, f p x * g x
      = (if 2 * p.val = k.val then ∑ d : Fin 64, q d * g ⟨d.val, by omega⟩ else 0)
        + (if 2 * p.val + 1 = k.val then ∑ d : Fin 64, q d * g ⟨64 + d.val, by omega⟩ else 0) := by
    intro p g
    refine (Fin.sum_univ_add (a := 64) (b := 64) fun x => f p x * g x).trans ?_
    congr 1
    · split
      · rename_i h
        refine Finset.sum_congr rfl fun d _ => ?_
        rw [hf, if_pos (by simp; omega)]
        congr 2
        exact Fin.ext (by simp; omega)
      · rename_i h
        refine Finset.sum_eq_zero fun d _ => ?_
        rw [hf, if_neg (by simp; omega), zero_mul]
    · split
      · rename_i h
        refine Finset.sum_congr rfl fun d _ => ?_
        rw [hf, if_pos (by simp; omega)]
        congr 2
        exact Fin.ext (by simp; omega)
      · rename_i h
        refine Finset.sum_eq_zero fun d _ => ?_
        rw [hf, if_neg (by simp; omega), zero_mul]
  rw [half 0 fun x => g ⟨x.val, by omega⟩, half 1 fun x => g ⟨128 + x.val, by omega⟩]
  match k with
  | 0 => simp
  | 1 => simp
  | 2 => simp
  | 3 => simp [← Nat.add_assoc]

theorem blk_score (c : Dev nD) (t : Fin cfg0.N) (r : Fin 256) (w : Fin 129) :
    bScore (iblk m c 0 t) (iblk m c 1 t) (iblk m c 3 t) r w
      = score (argQ m c ⟨16 * t.val + r.val / 16, by have := lt_pts t; omega⟩ ⟨r.val % 16, by omega⟩)
        (argK m c ⟨16 * t.val + r.val / 16, by have := lt_pts t; omega⟩ ⟨r.val % 16 / 4, by omega⟩) w := by
  have ht := lt_pts t
  unfold bScore score
  by_cases h0 : w.val = 0
  · rw [if_pos h0, if_pos h0]
  have hq : ∀ (p : Fin 2) (x : Fin 128), iblk m c 0 t (ix3 p r x) = if (128 * p.val + x.val) / 64 = r.val % 16 / 4 then
      argQ m c ⟨16 * t.val + r.val / 16, by omega⟩ ⟨r.val % 16, by omega⟩ ⟨(128 * p.val + x.val) % 64, by omega⟩
      else (0 : EReal) := by
    intro p x
    rw [blk_q, V_q]
    have e1 : (⟨(256 * t.val + r.val) / 16, by omega⟩ : Fin 128) = ⟨16 * t.val + r.val / 16, by omega⟩ :=
      Fin.ext (show (256 * t.val + r.val) / 16 = 16 * t.val + r.val / 16 by omega)
    have e2 : (⟨(256 * t.val + r.val) % 16, by omega⟩ : Fin 16) = ⟨r.val % 16, by omega⟩ :=
      Fin.ext (show (256 * t.val + r.val) % 16 = r.val % 16 by omega)
    simp only [e1, e2, show (256 * t.val + r.val) % 16 = r.val % 16 by omega]
  rw [if_neg h0, if_neg h0]
  by_cases hw : w.val < 128
  · rw [dif_pos hw]
    refine (lane_sum _ (fun p x => iblk m c 0 t (ix3 p r x))
      (fun k => iblk m c 3 t (ix3 ⟨r.val / 16, by omega⟩ k ⟨w.val, hw⟩)) ⟨r.val % 16 / 4, by omega⟩ hq).trans ?_
    refine Finset.sum_congr rfl fun d _ => congrArg _ ?_
    show iblk m c 3 t (ix3 ⟨r.val / 16, _⟩ ⟨64 * (r.val % 16 / 4) + d.val, _⟩ ⟨w.val, hw⟩) = _
    rw [blk_k]
    unfold argK
    rw [dif_pos hw]
    congr 2
    · exact Fin.ext (show (64 * (r.val % 16 / 4) + d.val) / 64 = r.val % 16 / 4 by omega)
    · exact Fin.ext (show (64 * (r.val % 16 / 4) + d.val) % 64 = d.val by omega)
  · rw [dif_neg hw]
    refine (lane_sum _ (fun p x => iblk m c 0 t (ix3 p r x))
      (fun k => iblk m c 1 t (ix2 ⟨r.val / 16, by omega⟩ k)) ⟨r.val % 16 / 4, by omega⟩ hq).trans ?_
    refine Finset.sum_congr rfl fun d _ => congrArg _ ?_
    show iblk m c 1 t (ix2 ⟨r.val / 16, _⟩ ⟨64 * (r.val % 16 / 4) + d.val, _⟩) = _
    rw [blk_kn]
    unfold argK
    rw [dif_neg hw]

theorem blk_value (c : Dev nD) (t : Fin cfg0.N) (b : Fin 16) (l : Fin 256) (w : Fin 129) :
    bValue (iblk m c 2 t) (iblk m c 4 t) b l w = argV m c ⟨16 * t.val + b.val, by have := lt_pts t; omega⟩ l w := by
  unfold bValue argV
  by_cases hw : w.val < 128
  · rw [dif_pos hw, dif_pos hw, blk_v]
  · rw [dif_neg hw, dif_neg hw, blk_vn]

/-! ## The averages -/

/-- The average for head `h` of sample `b` at lane `l`. -/
def avg (c : Dev nD) (b : Fin 128) (h : Fin 16) (l : Fin 256) : EReal :=
  fused (score (argQ m c b h) (argK m c b ⟨h.val / 4, by omega⟩)) (argS m c h) (argV m c b l)

/-- The first result array. -/
def averages (c : Dev nD) : FVec Ideal S2x2048x128 .f32 := fun i =>
  avg m c ⟨(i 1).val / 16, by have := (i 1).isLt; change _ < 2048 at this; omega⟩ ⟨(i 1).val % 16, by omega⟩
    ⟨128 * (i 0).val + (i 2).val, by
      have := (i 0).isLt; change _ < 2 at this; have := (i 2).isLt; change _ < 128 at this; omega⟩

/-- What point `t` writes back is its block of the averages. -/
theorem flushed_averages (c : Dev nD) (t : Fin cfg0.N) :
    (dats m 0 c).flushed 11 t = (win0_11.blk t).view.read (Elt Ideal) (averages m c) := by
  show (cfg0.win 11).cut (grid0.coords t) ((dats m 0 c).after 11 t) = _
  rw [after0_11]
  refine funext fun (y : S2x256x128.Idx) => ?_
  show (out0_11 (F := Ideal) _ _ _ _ _ _ _ _ _ _ _ y) = averages m c ((win0_11.rect t).emb y)
  have ht := lt_pts t
  have hy1 : (y 1).val < 256 := (y 1).isLt
  have hx : (win0_11.rect t).emb y = ix3 (y 0) ⟨256 * t.val + (y 1).val, by omega⟩ (y 2) :=
    ix3_at (show win0_11.index t 0 * 2 + 1 * (y 0).val = _ by rw [(index_rows t).2.1]; omega)
      (show win0_11.index t 1 * 256 + 1 * (y 1).val = 256 * t.val + (y 1).val by rw [(index_rows t).2.2.1]; omega)
      (show win0_11.index t 2 * 128 + 1 * (y 2).val = _ by rw [(index_rows t).2.2.2]; omega)
  rw [hx]
  conv_lhs => rw [show y = ix3 (y 0) (y 1) (y 2) from ix3_at rfl rfl rfl]
  refine (out_at _ _ _ _ _ _ _ _ _ _ _ (y 0) (y 1) (y 2)).trans ?_
  have e1 : (⟨(256 * t.val + (y 1).val) / 16, by omega⟩ : Fin 128) = ⟨16 * t.val + (y 1).val / 16, by omega⟩ :=
    Fin.ext (show (256 * t.val + (y 1).val) / 16 = 16 * t.val + (y 1).val / 16 by omega)
  have e2 : (⟨(256 * t.val + (y 1).val) % 16, by omega⟩ : Fin 16) = ⟨(y 1).val % 16, by omega⟩ :=
    Fin.ext (show (256 * t.val + (y 1).val) % 16 = (y 1).val % 16 by omega)
  show _ = avg m c ⟨(256 * t.val + (y 1).val) / 16, _⟩ ⟨(256 * t.val + (y 1).val) % 16, _⟩ ⟨128 * (y 0).val + (y 2).val, _⟩
  rw [e1, e2]
  unfold bOut avg
  rw [blk_sink, show bScore (iblk m c 0 t) (iblk m c 1 t) (iblk m c 3 t) (y 1) = _ from funext (blk_score m c t (y 1)),
    show bValue (iblk m c 2 t) (iblk m c 4 t) _ _ = _ from funext (blk_value m c t _ _)]

theorem cover_averages (i : S2x2048x128.Idx) :
    ∃ t : Fin cfg0.N, (cfg0.win 11).flush t = true ∧ i ∈ ((cfg0.win 11).blk t).view.set := by
  have h0 : (i 0).val < 2 := (i 0).isLt
  have h1 : (i 1).val < 2048 := (i 1).isLt
  have h2 : (i 2).val < 128 := (i 2).isLt
  let t : Fin cfg0.N := ⟨(i 1).val / 256, by have : cfg0.N = 8 := N_0; omega⟩
  refine ⟨t, flush0_11 _, ?_⟩
  show i ∈ ((View.whole main_v27_0).slice (win0_11.rect t)).set
  rw [View.set_slice_whole, Rect.mem_set_unit]
  intro a
  match a with
  | ⟨0, _⟩ =>
    show win0_11.index t 0 * 2 ≤ (i 0).val ∧ (i 0).val < win0_11.index t 0 * 2 + 2
    rw [(index_rows t).2.1]
    omega
  | ⟨1, _⟩ =>
    show win0_11.index t 1 * 256 ≤ (i 1).val ∧ (i 1).val < win0_11.index t 1 * 256 + 256
    rw [(index_rows t).2.2.1]
    show (i 1).val / 256 * 256 ≤ (i 1).val ∧ (i 1).val < (i 1).val / 256 * 256 + 256
    omega
  | ⟨2, _⟩ =>
    show win0_11.index t 2 * 128 ≤ (i 2).val ∧ (i 2).val < win0_11.index t 2 * 128 + 128
    rw [(index_rows t).2.2.2]
    omega

/-- The averages' array after the last point. -/
theorem arr_averages (c : Dev nD) : (dats m 0 c).arrAt 11 cfg0.N = averages m c :=
  (dats m 0 c).arrAt_eq_of_cover 11 (averages m c) (fun t _ => flushed_averages m c t) cover_averages

/-! ## The weights -/

theorem index_inWeight : ∀ t : Fin cfg0.N, (win0_6.index t 0 = t.val ∧ win0_6.index t 1 = 0)
    ∧ (win0_12.index t 0 = t.val ∧ win0_12.index t 1 = 0) := by
  decide +kernel

/-- The weights of the in projection. -/
def inWeight (c : Dev nD) : FVec Ideal S1024x4096 .bf16 := fun i =>
  m (c, Proc.tc.devRef main_arg6) (ix3 0 (i 0) (i 1))

theorem V_inWeight (c : Dev nD) (i : S1024x4096.Idx) : V m c main_v21 i = inWeight m c i := by
  unfold inWeight
  rw [eq_ix2 i]
  unfold V
  after_reads_at

theorem flushed_inWeight (c : Dev nD) (t : Fin cfg0.N) :
    (dats m 0 c).flushed 12 t = (win0_12.blk t).view.read (Elt Ideal) (inWeight m c) := by
  show (cfg0.win 12).cut (grid0.coords t) ((dats m 0 c).after 12 t) = _
  rw [after0_12]
  refine funext fun (y : S128x4096.Idx) => ?_
  show (out0_12 (F := Ideal) _ _ _ _ _ _ _ _ _ _ _ y) = inWeight m c ((win0_12.rect t).emb y)
  unfold out0_12
  rw [View.canon_unit_zero (funext fun a => by fin_cases a <;> rfl), ← V_inWeight]
  refine Eq.trans (b := iblk m c 6 t y) ?_ ?_
  · conv_lhs => rw [eq_ix2 y]
    conv_rhs => rw [eq_ix2 y]
    pointwise [k0_pay3]
  · refine congrArg (V m c main_v21) ?_
    funext a
    apply Fin.ext
    match a with
    | ⟨0, _⟩ =>
      show win0_6.index t 0 * 128 + 1 * (y 0).val = win0_12.index t 0 * 128 + 1 * (y 0).val
      rw [(index_inWeight t).1.1, (index_inWeight t).2.1]
    | ⟨1, _⟩ =>
      show win0_6.index t 1 * 4096 + 1 * (y 1).val = win0_12.index t 1 * 4096 + 1 * (y 1).val
      rw [(index_inWeight t).1.2, (index_inWeight t).2.2]

theorem cover_inWeight (i : S1024x4096.Idx) :
    ∃ t : Fin cfg0.N, (cfg0.win 12).flush t = true ∧ i ∈ ((cfg0.win 12).blk t).view.set := by
  have h0 : (i 0).val < 1024 := (i 0).isLt
  have h1 : (i 1).val < 4096 := (i 1).isLt
  let t : Fin cfg0.N := ⟨(i 0).val / 128, by have : cfg0.N = 8 := N_0; omega⟩
  refine ⟨t, flush0_12 _, ?_⟩
  show i ∈ ((View.whole main_v27_1).slice (win0_12.rect t)).set
  rw [View.set_slice_whole, Rect.mem_set_unit]
  intro a
  match a with
  | ⟨0, _⟩ =>
    show win0_12.index t 0 * 128 ≤ (i 0).val ∧ (i 0).val < win0_12.index t 0 * 128 + 128
    rw [(index_inWeight t).2.1]
    show (i 0).val / 128 * 128 ≤ (i 0).val ∧ (i 0).val < (i 0).val / 128 * 128 + 128
    omega
  | ⟨1, _⟩ =>
    show win0_12.index t 1 * 4096 ≤ (i 1).val ∧ (i 1).val < win0_12.index t 1 * 4096 + 4096
    rw [(index_inWeight t).2.2]
    omega

theorem arr_inWeight (c : Dev nD) : (dats m 0 c).arrAt 12 cfg0.N = inWeight m c :=
  (dats m 0 c).arrAt_eq_of_cover 12 (inWeight m c) (fun t _ => flushed_inWeight m c t) cover_inWeight

theorem index_poolWeight : ∀ t : Fin cfg0.N, (win0_7.index t 0 = t.val ∧ win0_7.index t 1 = 0)
    ∧ (win0_13.index t 0 = t.val ∧ win0_13.index t 1 = 0) := by
  decide +kernel

/-- The weights of the pooling groups. -/
def poolWeight (c : Dev nD) : FVec Ideal S512x128 .bf16 := fun i =>
  m (c, Proc.tc.devRef main_arg7) (ix4 0 ⟨(i 0).val / 128, by have := (i 0).isLt; change _ < 512 at this; omega⟩ ⟨(i 0).val % 128, by omega⟩ (i 1))

theorem V_poolWeight (c : Dev nD) (i : S512x128.Idx) : V m c main_v23 i = poolWeight m c i := by
  unfold poolWeight
  rw [eq_ix2 i]
  unfold V
  after_reads_at

theorem flushed_poolWeight (c : Dev nD) (t : Fin cfg0.N) :
    (dats m 0 c).flushed 13 t = (win0_13.blk t).view.read (Elt Ideal) (poolWeight m c) := by
  show (cfg0.win 13).cut (grid0.coords t) ((dats m 0 c).after 13 t) = _
  rw [after0_13]
  refine funext fun (y : S64x128.Idx) => ?_
  show (out0_13 (F := Ideal) _ _ _ _ _ _ _ _ _ _ _ y) = poolWeight m c ((win0_13.rect t).emb y)
  unfold out0_13
  rw [View.canon_unit_zero (funext fun a => by fin_cases a <;> rfl), ← V_poolWeight]
  refine Eq.trans (b := iblk m c 7 t y) ?_ ?_
  · conv_lhs => rw [eq_ix2 y]
    conv_rhs => rw [eq_ix2 y]
    pointwise [k0_pay4]
  · refine congrArg (V m c main_v23) ?_
    funext a
    apply Fin.ext
    match a with
    | ⟨0, _⟩ =>
      show win0_7.index t 0 * 64 + 1 * (y 0).val = win0_13.index t 0 * 64 + 1 * (y 0).val
      rw [(index_poolWeight t).1.1, (index_poolWeight t).2.1]
    | ⟨1, _⟩ =>
      show win0_7.index t 1 * 128 + 1 * (y 1).val = win0_13.index t 1 * 128 + 1 * (y 1).val
      rw [(index_poolWeight t).1.2, (index_poolWeight t).2.2]

theorem cover_poolWeight (i : S512x128.Idx) :
    ∃ t : Fin cfg0.N, (cfg0.win 13).flush t = true ∧ i ∈ ((cfg0.win 13).blk t).view.set := by
  have h0 : (i 0).val < 512 := (i 0).isLt
  have h1 : (i 1).val < 128 := (i 1).isLt
  let t : Fin cfg0.N := ⟨(i 0).val / 64, by have : cfg0.N = 8 := N_0; omega⟩
  refine ⟨t, flush0_13 _, ?_⟩
  show i ∈ ((View.whole main_v27_2).slice (win0_13.rect t)).set
  rw [View.set_slice_whole, Rect.mem_set_unit]
  intro a
  match a with
  | ⟨0, _⟩ =>
    show win0_13.index t 0 * 64 ≤ (i 0).val ∧ (i 0).val < win0_13.index t 0 * 64 + 64
    rw [(index_poolWeight t).2.1]
    show (i 0).val / 64 * 64 ≤ (i 0).val ∧ (i 0).val < (i 0).val / 64 * 64 + 64
    omega
  | ⟨1, _⟩ =>
    show win0_13.index t 1 * 128 ≤ (i 1).val ∧ (i 1).val < win0_13.index t 1 * 128 + 128
    rw [(index_poolWeight t).2.2]
    omega

theorem arr_poolWeight (c : Dev nD) : (dats m 0 c).arrAt 13 cfg0.N = poolWeight m c :=
  (dats m 0 c).arrAt_eq_of_cover 13 (poolWeight m c) (fun t _ => flushed_poolWeight m c t) cover_poolWeight

theorem index_poolBranch : ∀ t : Fin cfg0.N, (win0_8.index t 0 = t.val ∧ win0_8.index t 1 = 0)
    ∧ (win0_14.index t 0 = t.val ∧ win0_14.index t 1 = 0) := by
  decide +kernel

/-- The weights of the pooling branch. -/
def poolBranch (c : Dev nD) : FVec Ideal S512x1024 .bf16 := fun i =>
  m (c, Proc.tc.devRef main_arg8) (ix3 0 (i 0) (i 1))

theorem V_poolBranch (c : Dev nD) (i : S512x1024.Idx) : V m c main_v24 i = poolBranch m c i := by
  unfold poolBranch
  rw [eq_ix2 i]
  unfold V
  after_reads_at

theorem flushed_poolBranch (c : Dev nD) (t : Fin cfg0.N) :
    (dats m 0 c).flushed 14 t = (win0_14.blk t).view.read (Elt Ideal) (poolBranch m c) := by
  show (cfg0.win 14).cut (grid0.coords t) ((dats m 0 c).after 14 t) = _
  rw [after0_14]
  refine funext fun (y : S64x1024.Idx) => ?_
  show (out0_14 (F := Ideal) _ _ _ _ _ _ _ _ _ _ _ y) = poolBranch m c ((win0_14.rect t).emb y)
  unfold out0_14
  rw [View.canon_unit_zero (funext fun a => by fin_cases a <;> rfl), ← V_poolBranch]
  refine Eq.trans (b := iblk m c 8 t y) ?_ ?_
  · conv_lhs => rw [eq_ix2 y]
    conv_rhs => rw [eq_ix2 y]
    pointwise [k0_pay5]
  · refine congrArg (V m c main_v24) ?_
    funext a
    apply Fin.ext
    match a with
    | ⟨0, _⟩ =>
      show win0_8.index t 0 * 64 + 1 * (y 0).val = win0_14.index t 0 * 64 + 1 * (y 0).val
      rw [(index_poolBranch t).1.1, (index_poolBranch t).2.1]
    | ⟨1, _⟩ =>
      show win0_8.index t 1 * 1024 + 1 * (y 1).val = win0_14.index t 1 * 1024 + 1 * (y 1).val
      rw [(index_poolBranch t).1.2, (index_poolBranch t).2.2]

theorem cover_poolBranch (i : S512x1024.Idx) :
    ∃ t : Fin cfg0.N, (cfg0.win 14).flush t = true ∧ i ∈ ((cfg0.win 14).blk t).view.set := by
  have h0 : (i 0).val < 512 := (i 0).isLt
  have h1 : (i 1).val < 1024 := (i 1).isLt
  let t : Fin cfg0.N := ⟨(i 0).val / 64, by have : cfg0.N = 8 := N_0; omega⟩
  refine ⟨t, flush0_14 _, ?_⟩
  show i ∈ ((View.whole main_v27_3).slice (win0_14.rect t)).set
  rw [View.set_slice_whole, Rect.mem_set_unit]
  intro a
  match a with
  | ⟨0, _⟩ =>
    show win0_14.index t 0 * 64 ≤ (i 0).val ∧ (i 0).val < win0_14.index t 0 * 64 + 64
    rw [(index_poolBranch t).2.1]
    show (i 0).val / 64 * 64 ≤ (i 0).val ∧ (i 0).val < (i 0).val / 64 * 64 + 64
    omega
  | ⟨1, _⟩ =>
    show win0_14.index t 1 * 1024 ≤ (i 1).val ∧ (i 1).val < win0_14.index t 1 * 1024 + 1024
    rw [(index_poolBranch t).2.2]
    omega

theorem arr_poolBranch (c : Dev nD) : (dats m 0 c).arrAt 14 cfg0.N = poolBranch m c :=
  (dats m 0 c).arrAt_eq_of_cover 14 (poolBranch m c) (fun t _ => flushed_poolBranch m c t) cover_poolBranch

theorem index_attnBranch : ∀ t : Fin cfg0.N, (win0_9.index t 0 = t.val ∧ win0_9.index t 1 = 0)
    ∧ (win0_15.index t 0 = t.val ∧ win0_15.index t 1 = 0) := by
  decide +kernel

/-- The weights of the attention branch. -/
def attnBranch (c : Dev nD) : FVec Ideal S1024x1024 .bf16 := fun i =>
  m (c, Proc.tc.devRef main_arg9) (ix3 0 (i 0) (i 1))

theorem V_attnBranch (c : Dev nD) (i : S1024x1024.Idx) : V m c main_v25 i = attnBranch m c i := by
  unfold attnBranch
  rw [eq_ix2 i]
  unfold V
  after_reads_at

theorem flushed_attnBranch (c : Dev nD) (t : Fin cfg0.N) :
    (dats m 0 c).flushed 15 t = (win0_15.blk t).view.read (Elt Ideal) (attnBranch m c) := by
  show (cfg0.win 15).cut (grid0.coords t) ((dats m 0 c).after 15 t) = _
  rw [after0_15]
  refine funext fun (y : S128x1024.Idx) => ?_
  show (out0_15 (F := Ideal) _ _ _ _ _ _ _ _ _ _ _ y) = attnBranch m c ((win0_15.rect t).emb y)
  unfold out0_15
  rw [View.canon_unit_zero (funext fun a => by fin_cases a <;> rfl), ← V_attnBranch]
  refine Eq.trans (b := iblk m c 9 t y) ?_ ?_
  · conv_lhs => rw [eq_ix2 y]
    conv_rhs => rw [eq_ix2 y]
    pointwise [k0_pay6]
  · refine congrArg (V m c main_v25) ?_
    funext a
    apply Fin.ext
    match a with
    | ⟨0, _⟩ =>
      show win0_9.index t 0 * 128 + 1 * (y 0).val = win0_15.index t 0 * 128 + 1 * (y 0).val
      rw [(index_attnBranch t).1.1, (index_attnBranch t).2.1]
    | ⟨1, _⟩ =>
      show win0_9.index t 1 * 1024 + 1 * (y 1).val = win0_15.index t 1 * 1024 + 1 * (y 1).val
      rw [(index_attnBranch t).1.2, (index_attnBranch t).2.2]

theorem cover_attnBranch (i : S1024x1024.Idx) :
    ∃ t : Fin cfg0.N, (cfg0.win 15).flush t = true ∧ i ∈ ((cfg0.win 15).blk t).view.set := by
  have h0 : (i 0).val < 1024 := (i 0).isLt
  have h1 : (i 1).val < 1024 := (i 1).isLt
  let t : Fin cfg0.N := ⟨(i 0).val / 128, by have : cfg0.N = 8 := N_0; omega⟩
  refine ⟨t, flush0_15 _, ?_⟩
  show i ∈ ((View.whole main_v27_4).slice (win0_15.rect t)).set
  rw [View.set_slice_whole, Rect.mem_set_unit]
  intro a
  match a with
  | ⟨0, _⟩ =>
    show win0_15.index t 0 * 128 ≤ (i 0).val ∧ (i 0).val < win0_15.index t 0 * 128 + 128
    rw [(index_attnBranch t).2.1]
    show (i 0).val / 128 * 128 ≤ (i 0).val ∧ (i 0).val < (i 0).val / 128 * 128 + 128
    omega
  | ⟨1, _⟩ =>
    show win0_15.index t 1 * 1024 ≤ (i 1).val ∧ (i 1).val < win0_15.index t 1 * 1024 + 1024
    rw [(index_attnBranch t).2.2]
    omega

theorem arr_attnBranch (c : Dev nD) : (dats m 0 c).arrAt 15 cfg0.N = attnBranch m c :=
  (dats m 0 c).arrAt_eq_of_cover 15 (attnBranch m c) (fun t _ => flushed_attnBranch m c t) cover_attnBranch

theorem index_outWeight : ∀ t : Fin cfg0.N, (win0_10.index t 0 = t.val ∧ win0_10.index t 1 = 0)
    ∧ (win0_16.index t 0 = t.val ∧ win0_16.index t 1 = 0) := by
  decide +kernel

/-- The weights of the out projection. -/
def outWeight (c : Dev nD) : FVec Ideal S1024x1024 .bf16 := fun i =>
  m (c, Proc.tc.devRef main_arg10) (ix3 0 (i 0) (i 1))

theorem V_outWeight (c : Dev nD) (i : S1024x1024.Idx) : V m c main_v26 i = outWeight m c i := by
  unfold outWeight
  rw [eq_ix2 i]
  unfold V
  after_reads_at

theorem flushed_outWeight (c : Dev nD) (t : Fin cfg0.N) :
    (dats m 0 c).flushed 16 t = (win0_16.blk t).view.read (Elt Ideal) (outWeight m c) := by
  show (cfg0.win 16).cut (grid0.coords t) ((dats m 0 c).after 16 t) = _
  rw [after0_16]
  refine funext fun (y : S128x1024.Idx) => ?_
  show (out0_16 (F := Ideal) _ _ _ _ _ _ _ _ _ _ _ y) = outWeight m c ((win0_16.rect t).emb y)
  unfold out0_16
  rw [View.canon_unit_zero (funext fun a => by fin_cases a <;> rfl), ← V_outWeight]
  refine Eq.trans (b := iblk m c 10 t y) ?_ ?_
  · conv_lhs => rw [eq_ix2 y]
    conv_rhs => rw [eq_ix2 y]
    pointwise [k0_pay7]
  · refine congrArg (V m c main_v26) ?_
    funext a
    apply Fin.ext
    match a with
    | ⟨0, _⟩ =>
      show win0_10.index t 0 * 128 + 1 * (y 0).val = win0_16.index t 0 * 128 + 1 * (y 0).val
      rw [(index_outWeight t).1.1, (index_outWeight t).2.1]
    | ⟨1, _⟩ =>
      show win0_10.index t 1 * 1024 + 1 * (y 1).val = win0_16.index t 1 * 1024 + 1 * (y 1).val
      rw [(index_outWeight t).1.2, (index_outWeight t).2.2]

theorem cover_outWeight (i : S1024x1024.Idx) :
    ∃ t : Fin cfg0.N, (cfg0.win 16).flush t = true ∧ i ∈ ((cfg0.win 16).blk t).view.set := by
  have h0 : (i 0).val < 1024 := (i 0).isLt
  have h1 : (i 1).val < 1024 := (i 1).isLt
  let t : Fin cfg0.N := ⟨(i 0).val / 128, by have : cfg0.N = 8 := N_0; omega⟩
  refine ⟨t, flush0_16 _, ?_⟩
  show i ∈ ((View.whole main_v27_5).slice (win0_16.rect t)).set
  rw [View.set_slice_whole, Rect.mem_set_unit]
  intro a
  match a with
  | ⟨0, _⟩ =>
    show win0_16.index t 0 * 128 ≤ (i 0).val ∧ (i 0).val < win0_16.index t 0 * 128 + 128
    rw [(index_outWeight t).2.1]
    show (i 0).val / 128 * 128 ≤ (i 0).val ∧ (i 0).val < (i 0).val / 128 * 128 + 128
    omega
  | ⟨1, _⟩ =>
    show win0_16.index t 1 * 1024 ≤ (i 1).val ∧ (i 1).val < win0_16.index t 1 * 1024 + 1024
    rw [(index_outWeight t).2.2]
    omega

theorem arr_outWeight (c : Dev nD) : (dats m 0 c).arrAt 16 cfg0.N = outWeight m c :=
  (dats m 0 c).arrAt_eq_of_cover 16 (outWeight m c) (fun t _ => flushed_outWeight m c t) cover_outWeight

end Cert.Attn
-- ==== Proof.Attn.Reference.lean ====
/-
  The reference's averages, stage by stage, each stage read at an index: the scores of a sample's 129 keys, the one outside
  the window set low, and the sink after them; the softmax of the 130; the values weighed by the first 129.
-/
module

public import proofs.«01_k».proof.Proof.Attn.Row
public import proofs.«01_k».proof.Proof.Gen.ReferenceIdeal.Run
public import Idealize.ShloMosaic.Lib.Pointwise

@[expose] public section

noncomputable section

namespace Cert.Attn

open Idealize.ShloMosaic Idealize.ShloMosaic.TcCoe Cert.ReferenceIdeal Cert.ReferenceIdeal.Gen

/-- The cached rows of one cache and the new row after them. -/
def rRows (new : FVec Ideal S128x256 .f32) (cache : FVec Ideal S1x128x128x4x64 .f32) : FVec Ideal S128x129x4x64 .f32 :=
  concatenate S128x129x4x64 1 [⟨S128x128x4x64, (shapeCast _ cache shapeCasts_S1x128x128x4x64_S128x128x4x64)⟩,
    ⟨S128x1x4x64, (shapeCast _ new shapeCasts_S128x256_S128x1x4x64)⟩]
      concatenates_S128x128x4x64_S128x1x4x64_S128x129x4x64_d1

/-- How far before the query every key stands. -/
def rDist : IVec S129 32 :=
  subi (broadcastInDim S129 ![] bcast_S_S129 (constantI S_ 32 16384#32)) (addi (broadcastInDim S129 ![] bcast_S_S129
      (constantI S_ 32 16256#32)) (iotaInDim S129 32 0))

/-- The scores of the keys, the one outside the window set low, and the sink after them. -/
def rScores (q : FVec Ideal S128x16x64 .f32) (K : FVec Ideal S128x129x4x64 .f32) (sink : FVec Ideal S1x16 .f32) :
      FVec Ideal S128x4x4x130 .f32 :=
  concatenate S128x4x4x130 3 [⟨S128x4x4x129, (select (broadcastInDim S128x4x4x129 ![3] bcast_S129_S128x4x4x129_3
      (andi (cmpi .sge rDist (broadcastInDim S129 ![] bcast_S_S129 (constantI S_ 32 0#32))) (cmpi .slt rDist
      (broadcastInDim S129 ![] bcast_S_S129 (constantI S_ 32 128#32))))) (Host.dotGeneral
      dot_S128x4x4x64_S128x129x4x64_S128x4x4x129_3_3_2_1_01_02 none (shapeCast _ q shapeCasts_S128x16x64_S128x4x4x64)
      K) (broadcastInDim S128x4x4x129 ![] bcast_S_S128x4x4x129 (constant S_ .f32 0xF149F2CA#32)))⟩, ⟨S128x4x4x1,
      (broadcastInDim S128x4x4x1 ![0, 1, 2, 3] bcast_S1x4x4x1_S128x4x4x1_0_1_2_3 (shapeCast _ (shapeCast _ sink
      shapeCasts_S1x16_S16) shapeCasts_S16_S1x4x4x1))⟩] concatenates_S128x4x4x129_S128x4x4x1_S128x4x4x130_d3

/-- The exponentials of the scores less the largest. -/
def rExp (s : FVec Ideal S128x4x4x130 .f32) : FVec Ideal S128x4x4x130 .f32 :=
  Host.exp (subf s (broadcastInDim S128x4x4x130 ![0, 1, 2, 3] bcast_S128x4x4x1_S128x4x4x130_0_1_2_3 (broadcastInDim
      S128x4x4x1 ![0, 1, 2] bcast_S128x4x4_S128x4x4x1_0_1_2 (maximumf (broadcastInDim S128x4x4 ![] bcast_S_S128x4x4
      (constant S_ .f32 0xFF800000#32)) (Host.reduce FloatOps.maximumf s (constant S_ .f32 0xFF800000#32)
      reducesTo_S128x4x4x130_S128x4x4_d3 h_S_)))))

/-- The weights of the keys. -/
def rPr (e : FVec Ideal S128x4x4x130 .f32) : FVec Ideal S128x4x4x129 .f32 :=
  extractStridedSlice S128x4x4x129 ![0, 0, 0, 0] (Host.divf e (broadcastInDim S128x4x4x130 ![0, 1, 2, 3]
      bcast_S128x4x4x1_S128x4x4x130_0_1_2_3 (broadcastInDim S128x4x4x1 ![0, 1, 2] bcast_S128x4x4_S128x4x4x1_0_1_2
      (Host.reduceAdd e (constant S_ .f32 0x00000000#32) reducesTo_S128x4x4x130_S128x4x4_d3 h_S_))))
      slices_S128x4x4x130_S128x4x4x129_0_0_0_0

/-- The averages of the values, laid out as the kernel's. -/
def rOut (pr : FVec Ideal S128x4x4x129 .f32) (V : FVec Ideal S128x129x4x64 .f32) : FVec Ideal S2x2048x128 .f32 :=
  transpose S2x2048x128 [1, 0, 2] (shapeCast _ (Host.dotGeneral
      dot_S128x4x4x129_S128x129x4x64_S128x4x4x4x64_3_1_12_23_0_0 none pr V) shapeCasts_S128x4x4x4x64_S2048x2x128)
      transposes_S2048x2x128_S2x2048x128_1_0_2

theorem rRows_at (new : FVec Ideal S128x256 .f32) (cache : FVec Ideal S1x128x128x4x64 .f32) (b : Fin 128) (w : Fin 129)
    (k : Fin 4) (d : Fin 64) : rRows new cache (ix4 b w k d)
      = if h : w.val < 128 then cache (ix5 0 b ⟨w.val, h⟩ k d) else new (ix2 b ⟨k.val * 64 + d.val, by omega⟩) := by
  pointwise [rRows]

/-- The reference's word for "key `w` is inside the window". -/
theorem inside_word : ∀ w : Fin 129, IntOp.andi
      (IntOp.cmpi CmpIPredicate.sge (IntOp.subi (16384#32) (IntOp.addi (16256#32) (BitVec.ofNat 32 w.val))) 0#32)
      (IntOp.cmpi CmpIPredicate.slt (IntOp.subi (16384#32) (IntOp.addi (16256#32) (BitVec.ofNat 32 w.val))) 128#32)
    = if w.val = 0 then 0#1 else 1#1 := by
  decide +kernel

theorem rScores_at (q : FVec Ideal S128x16x64 .f32) (K : FVec Ideal S128x129x4x64 .f32) (sink : FVec Ideal S1x16 .f32)
    (b : Fin 128) (k g : Fin 4) (w : Fin 130) : rScores q K sink (ix4 b k g w)
      = withSink (score (fun d => q (ix3 b ⟨k.val * 4 + g.val, by omega⟩ d)) (fun w d => K (ix4 b w k d)))
        (sink (ix2 0 ⟨k.val * 4 + g.val, by omega⟩)) w := by
  pointwise [rScores, rDist]
  unfold withSink
  by_cases hw : w.val < 129
  · rw [dif_pos hw, dif_pos hw, inside_word ⟨w.val, hw⟩]
    unfold score
    by_cases h0 : w.val = 0
    · rw [if_pos h0, if_pos h0]; rfl
    · rw [if_neg h0, if_neg h0]; rfl
  · rw [dif_neg hw, dif_neg hw]

theorem rExp_at (s : FVec Ideal S128x4x4x130 .f32) (b : Fin 128) (k g : Fin 4) (w : Fin 130) : rExp s (ix4 b k g w)
    = Ideal.exp (s (ix4 b k g w) - max ⊥ (Finset.fold max ⊥ (fun x => s (ix4 b k g x)) Finset.univ)) := by
  pointwise [rExp]
  rw [neg_inf]

theorem rPr_at (e : FVec Ideal S128x4x4x130 .f32) (b : Fin 128) (k g : Fin 4) (w : Fin 129) :
    rPr e (ix4 b k g w) = Ideal.div (e (ix4 b k g w.castSucc)) (∑ x, e (ix4 b k g x)) := by
  pointwise [rPr]
  rfl

theorem rOut_at (pr : FVec Ideal S128x4x4x129 .f32) (V : FVec Ideal S128x129x4x64 .f32) (p : Fin 2) (r : Fin 2048)
    (l : Fin 128) : rOut pr V (ix3 p r l)
      = ∑ x, pr (ix4 ⟨r.val / 16, by omega⟩ ⟨r.val / 4 % 4, by omega⟩ ⟨r.val % 4, by omega⟩ x)
        * V (ix4 ⟨r.val / 16, by omega⟩ x ⟨p.val * 2 + l.val / 64, by omega⟩ ⟨l.val % 64, by omega⟩) := by
  pointwise [rOut]

/-- The averages from the arguments. -/
def rAll (q : FVec Ideal S128x16x64 .f32) (kn vn : FVec Ideal S128x256 .f32) (ck cv : FVec Ideal S1x128x128x4x64 .f32)
    (sink : FVec Ideal S1x16 .f32) : FVec Ideal S2x2048x128 .f32 :=
  rOut (rPr (rExp (rScores q (rRows kn ck) sink))) (rRows vn cv)

theorem rAll_at (q : FVec Ideal S128x16x64 .f32) (kn vn : FVec Ideal S128x256 .f32) (ck cv : FVec Ideal S1x128x128x4x64 .f32)
    (sink : FVec Ideal S1x16 .f32) (p : Fin 2) (r : Fin 2048) (l : Fin 128) : rAll q kn vn ck cv sink (ix3 p r l)
      = soft (withSink (score (fun d => q (ix3 ⟨r.val / 16, by omega⟩ ⟨r.val / 4 % 4 * 4 + r.val % 4, by omega⟩ d))
          (fun w d => rRows kn ck (ix4 ⟨r.val / 16, by omega⟩ w ⟨r.val / 4 % 4, by omega⟩ d)))
          (sink (ix2 0 ⟨r.val / 4 % 4 * 4 + r.val % 4, by omega⟩)))
        (fun w => rRows vn cv (ix4 ⟨r.val / 16, by omega⟩ w ⟨p.val * 2 + l.val / 64, by omega⟩ ⟨l.val % 64, by omega⟩)) := by
  unfold rAll
  rw [rOut_at]
  simp only [rPr_at, rExp_at, rScores_at]
  rfl

variable (m : (ℓ : Loc nD τ sig) → Buf (Elt Ideal) ℓ)

theorem res_averages (c : Dev nD) : Value.res_main_v37 m c
    = rAll (m (c.tc.loc main_arg0)) (m (c.tc.loc main_arg1)) (m (c.tc.loc main_arg2)) (m (c.tc.loc main_arg3))
        (m (c.tc.loc main_arg4)) (m (c.tc.loc main_arg5)) := by
  unfold Value.res_main_v37
  rfl

end Cert.Attn
-- ==== Proof.Attn.Pre.lean ====
/-
  The precondition of the attention claim, read at an index: the queries, the new keys, the cached keys and the sinks are
  finite numbers.
-/
module

public import proofs.«01_k».proof.Defs
public import proofs.«01_k».proof.Proof.Attn.Row
public import proofs.«01_k».proof.Proof.Gen.KernelIdeal
public import Idealize.ShloMosaic.Lib.Pointwise

@[expose] public section

noncomputable section

namespace Cert.Attn

open Idealize.ShloMosaic Idealize.ShloMosaic.TcCoe Cert.KernelIdeal

/-- The side conditions of the predicate's operations. -/
instance preFacts : Cert.Pre_finite_scores.Facts where
  bcast_S_S128x16x64 := by decide
  bcast_S_S128x256 := by decide
  bcast_S_S1x128x128x4x64 := by decide
  bcast_S_S1x16 := by decide

/-- A magnitude below infinity is that of a finite number. -/
theorem num_of_lt {x : EReal} (h : FloatOps.cmpf (F := Ideal) (φ := .f32) .olt (max x (-x)) (Ideal.ofBits .f32 0x7F800000#32) = 1#1) :
    Num x := by
  have hi : Ideal.ofBits .f32 0x7F800000#32 = ⊤ := by simp [Ideal.ofBits, Ideal.ieee]
  rw [hi] at h
  constructor
  · rintro rfl
    simp [FloatOps.cmpf, Ideal.cmp] at h
  · rintro rfl
    simp [FloatOps.cmpf, Ideal.cmp] at h

variable {m : (ℓ : Loc nD τ sig) → Buf (Elt Ideal) ℓ}

theorem pre_q (h : Cert.Pre_KernelIdeal_finite_scores m) (c : Dev nD) (b : Fin 128) (k : Fin 16) (d : Fin 64) :
    Num (m (c, Proc.tc.devRef main_arg0) (ix3 b k d)) := by
  have := congrFun (h c).1 (ix3 b k d)
  refine num_of_lt ?_
  refine Eq.trans ?_ this
  unfold Cert.Pre_finite_scores.fn
  pointwise []
  rfl

theorem pre_kn (h : Cert.Pre_KernelIdeal_finite_scores m) (c : Dev nD) (b : Fin 128) (k : Fin 256) :
    Num (m (c, Proc.tc.devRef main_arg1) (ix2 b k)) := by
  have := congrFun (h c).2.1 (ix2 b k)
  refine num_of_lt ?_
  refine Eq.trans ?_ this
  unfold Cert.Pre_finite_scores.fn
  pointwise []
  rfl

theorem pre_ck (h : Cert.Pre_KernelIdeal_finite_scores m) (c : Dev nD) (b w : Fin 128) (k : Fin 4) (d : Fin 64) :
    Num (m (c, Proc.tc.devRef main_arg3) (ix5 0 b w k d)) := by
  have := congrFun (h c).2.2.1 (ix5 0 b w k d)
  refine num_of_lt ?_
  refine Eq.trans ?_ this
  unfold Cert.Pre_finite_scores.fn
  pointwise []
  rfl

theorem pre_sink (h : Cert.Pre_KernelIdeal_finite_scores m) (c : Dev nD) (k : Fin 16) :
    Num (m (c, Proc.tc.devRef main_arg5) (ix2 0 k)) := by
  have := congrFun (h c).2.2.2 (ix2 0 k)
  refine num_of_lt ?_
  refine Eq.trans ?_ this
  unfold Cert.Pre_finite_scores.fn
  pointwise []
  rfl

end Cert.Attn
-- ==== Proof.Attn.Claim.lean ====
/-
  The claim about the attention call: the kernel's averages and cast weights and the reference's are the same functions of
  arguments that agree, the queries, keys and sinks being finite numbers.
-/
module

public import proofs.«01_k».proof.Defs
public import proofs.«01_k».proof.Proof.Attn.Arrays
public import proofs.«01_k».proof.Proof.Attn.Reference
public import proofs.«01_k».proof.Proof.Attn.Pre
public import Idealize.ShloMosaic.Lib.Claim

@[expose] public section

noncomputable section

namespace Cert.Attn

open Idealize.ShloMosaic Idealize.ShloMosaic.TcCoe Idealize.SL.Sem

section Reference
open Cert.ReferenceIdeal Cert.ReferenceIdeal.Gen

theorem in_at (x : FVec Ideal S1x1024x4096 .f32) (i : Fin 1024) (j : Fin 4096) :
    truncf .bf16 (shapeCast S1024x4096 x shapeCasts_S1x1024x4096_S1024x4096) bitsLt_bf16_f32 (ix2 i j) = x (ix3 0 i j) := by
  pointwise []

theorem pool_at (x : FVec Ideal S1x4x128x128 .f32) (i : Fin 512) (j : Fin 128) :
    truncf .bf16 (shapeCast S512x128 (shapeCast S4x128x128 x shapeCasts_S1x4x128x128_S4x128x128)
        shapeCasts_S4x128x128_S512x128) bitsLt_bf16_f32 (ix2 i j)
      = x (ix4 0 ⟨i.val / 128, by omega⟩ ⟨i.val % 128, by omega⟩ j) := by
  pointwise []

theorem branch_at (x : FVec Ideal S1x512x1024 .f32) (i : Fin 512) (j : Fin 1024) :
    truncf .bf16 (shapeCast S512x1024 x shapeCasts_S1x512x1024_S512x1024) bitsLt_bf16_f32 (ix2 i j) = x (ix3 0 i j) := by
  pointwise []

theorem square_at (x : FVec Ideal S1x1024x1024 .f32) (i : Fin 1024) (j : Fin 1024) :
    truncf .bf16 (shapeCast S1024x1024 x shapeCasts_S1x1024x1024_S1024x1024) bitsLt_bf16_f32 (ix2 i j) = x (ix3 0 i j) := by
  pointwise []

end Reference

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

open Cert.KernelIdeal in
/-- Under the precondition a softmax over the scores and one division at the end give the same average. -/
theorem avg_soft (h : Cert.Pre_KernelIdeal_finite_scores m) (c : Dev nD) (b : Fin 128) (k : Fin 16) (l : Fin 256) :
    avg m c b k l = soft (withSink (score (argQ m c b k) (argK m c b ⟨k.val / 4, by omega⟩)) (argS m c k)) (argV m c b l) := by
  refine (soft_eq_fused (score_fin (fun d => pre_q h c b k d) fun w d => ?_) (pre_sink h c k) _).symm
  unfold argK
  split
  · exact pre_ck h c b _ _ d
  · exact pre_kn h c b _

open Cert.KernelIdeal in
/-- The reference's averages of arguments that agree are the kernel's. -/
theorem ref_averages (h : Cert.Pre_KernelIdeal_finite_scores m) (c : Dev nD) :
    rAll (m (c.tc.loc main_arg0)) (m (c.tc.loc main_arg1)) (m (c.tc.loc main_arg2)) (m (c.tc.loc main_arg3))
      (m (c.tc.loc main_arg4)) (m (c.tc.loc main_arg5)) = averages m c := by
  refine funext fun (i : S2x2048x128.Idx) => ?_
  have h0 : (i 0).val < 2 := (i 0).isLt
  have h1 : (i 1).val < 2048 := (i 1).isLt
  have h2 : (i 2).val < 128 := (i 2).isLt
  conv_lhs => rw [show i = ix3 (i 0) (i 1) (i 2) from ix3_at rfl rfl rfl]
  refine (rAll_at _ _ _ _ _ _ (i 0) (i 1) (i 2)).trans ?_
  unfold averages
  rw [avg_soft h]
  have eh : (⟨(i 1).val / 4 % 4 * 4 + (i 1).val % 4, by omega⟩ : Fin 16) = ⟨(i 1).val % 16, by omega⟩ :=
    Fin.ext (show (i 1).val / 4 % 4 * 4 + (i 1).val % 4 = (i 1).val % 16 by omega)
  rw [eh]
  have eK : (fun w d => rRows (m (c.tc.loc main_arg1)) (m (c.tc.loc main_arg3))
      (ix4 ⟨(i 1).val / 16, by omega⟩ w ⟨(i 1).val / 4 % 4, by omega⟩ d))
      = argK m c ⟨(i 1).val / 16, by omega⟩ ⟨(i 1).val % 16 / 4, by omega⟩ := by
    funext w d
    rw [rRows_at]
    unfold argK
    have e : (⟨(i 1).val / 4 % 4, by omega⟩ : Fin 4) = ⟨(i 1).val % 16 / 4, by omega⟩ :=
      Fin.ext (show (i 1).val / 4 % 4 = (i 1).val % 16 / 4 by omega)
    rw [e]
    split
    · rfl
    · refine congrArg (m (c.tc.loc main_arg1)) (congrArg (ix2 _) (Fin.ext ?_))
      show (i 1).val % 16 / 4 * 64 + d.val = 64 * ((i 1).val % 16 / 4) + d.val
      omega
  have eV : (fun w => rRows (m (c.tc.loc main_arg2)) (m (c.tc.loc main_arg4)) (ix4 ⟨(i 1).val / 16, by omega⟩ w
      ⟨(i 0).val * 2 + (i 2).val / 64, by omega⟩ ⟨(i 2).val % 64, by omega⟩))
      = argV m c ⟨(i 1).val / 16, by omega⟩ ⟨128 * (i 0).val + (i 2).val, by omega⟩ := by
    funext w
    rw [rRows_at]
    unfold argV
    have e1 : (⟨(i 0).val * 2 + (i 2).val / 64, by omega⟩ : Fin 4) = ⟨(128 * (i 0).val + (i 2).val) / 64, by omega⟩ :=
      Fin.ext (show (i 0).val * 2 + (i 2).val / 64 = (128 * (i 0).val + (i 2).val) / 64 by omega)
    have e2 : (⟨(i 2).val % 64, by omega⟩ : Fin 64) = ⟨(128 * (i 0).val + (i 2).val) % 64, by omega⟩ :=
      Fin.ext (show (i 2).val % 64 = (128 * (i 0).val + (i 2).val) % 64 by omega)
    rw [e1, e2]
    split
    · rfl
    · refine congrArg (m (c.tc.loc main_arg2)) (congrArg (ix2 _) (Fin.ext ?_))
      show (128 * (i 0).val + (i 2).val) / 64 * 64 + (128 * (i 0).val + (i 2).val) % 64 = 128 * (i 0).val + (i 2).val
      omega
  rw [eK, eV]
  rfl

/-- Where the kernel's run ends, over the functions of its arguments. -/
theorem run_results (m : (ℓ : Loc Cert.KernelIdeal.nD Cert.KernelIdeal.τ Cert.KernelIdeal.sig) → Buf (Elt Ideal) ℓ)
    (g : Dev Cert.KernelIdeal.nD → PrngReg) :
    θ_run Cert.KernelIdeal.defs (onTc (τ := Cert.KernelIdeal.τ) (Cert.KernelIdeal.main (F := Ideal)))
      ⟨m, fun _ => 0, g⟩ (fun r => ∀ c : Dev Cert.KernelIdeal.nD,
        r.2.mem (c.tc.loc Cert.KernelIdeal.main_v27_0) = averages m c
        ∧ r.2.mem (c.tc.loc Cert.KernelIdeal.main_v27_1) = inWeight m c
        ∧ r.2.mem (c.tc.loc Cert.KernelIdeal.main_v27_2) = poolWeight m c
        ∧ r.2.mem (c.tc.loc Cert.KernelIdeal.main_v27_3) = poolBranch m c
        ∧ r.2.mem (c.tc.loc Cert.KernelIdeal.main_v27_4) = attnBranch m c
        ∧ r.2.mem (c.tc.loc Cert.KernelIdeal.main_v27_5) = outWeight m c) :=
  (θ_run Cert.KernelIdeal.defs _ _).mono
    (fun _ h c => ⟨((h c).1 11).trans (arr_averages m c), ((h c).1 12).trans (arr_inWeight m c),
      ((h c).1 13).trans (arr_poolWeight m c), ((h c).1 14).trans (arr_poolBranch m c),
      ((h c).1 15).trans (arr_attnBranch m c), ((h c).1 16).trans (arr_outWeight m c)⟩)
    (Cert.KernelIdeal.Gen.run_main m g)

theorem algebraic : Cert.algebraic_KernelIdeal_ReferenceIdeal_pre_finite_scores := by
  intro m g m' g' hpre hagree
  refine ⟨fun c => averages m c, fun c => inWeight m c, fun c => poolWeight m c, fun c => poolBranch m c,
    fun c => attnBranch m c, fun c => outWeight m c, ?_, ?_⟩
  · exact (θ_run Cert.KernelIdeal.defs _ _).mono
      (fun _ h c => ⟨(h.1 c).1, (h.1 c).2.1, (h.1 c).2.2.1, (h.1 c).2.2.2.1, (h.1 c).2.2.2.2.1, (h.1 c).2.2.2.2.2, h.2 c⟩)
      (θ_run_and (run_results m g) (Cert.KernelIdeal.Gen.unchanged m g))
  · refine (θ_run Cert.ReferenceIdeal.defs _ _).mono (fun _ h c => ?_) (Cert.ReferenceIdeal.Value.run m' g')
    obtain ⟨a0, a1, a2, a3, a4, a5, a6, a7, a8, a9, a10⟩ := hagree c
    obtain ⟨r0, r1, r2, r3, r4, r5, rest⟩ := h c
    refine ⟨r0.trans ?_, r1.trans ?_, r2.trans ?_, r3.trans ?_, r4.trans ?_, r5.trans ?_, rest⟩
    · rw [res_averages, a0, a1, a2, a3, a4, a5]
      exact ref_averages hpre c
    · rw [a6]
      refine funext fun (i : Cert.ReferenceIdeal.S1024x4096.Idx) => ?_
      conv_lhs => rw [eq_ix2 i]
      exact in_at _ (i 0) (i 1)
    · rw [a7]
      refine funext fun (i : Cert.ReferenceIdeal.S512x128.Idx) => ?_
      conv_lhs => rw [eq_ix2 i]
      exact pool_at _ (i 0) (i 1)
    · rw [a8]
      refine funext fun (i : Cert.ReferenceIdeal.S512x1024.Idx) => ?_
      conv_lhs => rw [eq_ix2 i]
      exact branch_at _ (i 0) (i 1)
    · rw [a9]
      refine funext fun (i : Cert.ReferenceIdeal.S1024x1024.Idx) => ?_
      conv_lhs => rw [eq_ix2 i]
      exact square_at _ (i 0) (i 1)
    · rw [a10]
      refine funext fun (i : Cert.ReferenceIdeal.S1024x1024.Idx) => ?_
      conv_lhs => rw [eq_ix2 i]
      exact square_at _ (i 0) (i 1)

end Cert.Attn
-- ==== Proof.Mixer.Tail.lean ====
module

public import proofs.«01_k».proof.Proof.Gen.Kernel3Ideal.Frame
public import proofs.«01_k».proof.Proof.Gen.Kernel3Ideal.Skeleton

@[expose] public section

/-!
# The tile's program without its opening

The kernel body opens with a conditional which, at the first tile of a batch row, puts zeros at the head of six
scratch buffers. Everything after it is the same at every tile. Here the body is cut in two at that place: `opening`
is the conditional's branch, `rest` what follows, and the two theorems say the body is `opening` then `rest` at a
first tile and `rest` alone elsewhere.
-/

set_option maxRecDepth 65536

noncomputable section

namespace Cert.Mixer

open Cert.Kernel3Ideal Cert.Kernel3Ideal.Gen
open Idealize.ShloMosaic Idealize.SL.Sem

variable {F : FTy → Type} [FloatOps F] [Named F]

variable (i : grid0.Coords) (arg2 : Memref sig .tc .smem S16 .f32) (harg2 : arg2.IsWhole) (arg3 : Memref sig .tc .vmem S1x512x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4x128x128 .bf16) (harg8 : arg8.IsWhole) (arg9 : Memref sig .tc .vmem S1x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S4x256x128 .f32) (harg15 : arg15.IsWhole) (arg16 : Memref sig .tc .vmem S4x256x128 .f32) (harg16 : arg16.IsWhole) (arg17 : Memref sig .tc .vmem S32x5632 .f32) (harg17 : arg17.IsWhole) (arg18 : Memref sig .tc .vmem S128x1024 .f32) (harg18 : arg18.IsWhole) (arg19 : Memref sig .tc .vmem S16x1024 .f32) (harg19 : arg19.IsWhole) (arg20 : Memref sig .tc .vmem S32x1024 .f32) (harg20 : arg20.IsWhole) (arg21 : Memref sig .tc .vmem S1x512x1024 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x15x512 .f32) (harg24 : arg24.IsWhole) (arg25 : Memref sig .tc .vmem S4x256x128 .f32) (harg25 : arg25.IsWhole) (arg26 : Memref sig .tc .vmem S4x256x128 .f32) (harg26 : arg26.IsWhole) (arg27 : Memref sig .tc .vmem S32x5632 .bf16) (harg27 : arg27.IsWhole) (arg28 : Memref sig .tc .vmem S128x1024 .bf16) (harg28 : arg28.IsWhole) (arg29 : Memref sig .tc .vmem S16x1024 .bf16) (harg29 : arg29.IsWhole) (arg30 : Memref sig .tc .vmem S32x1024 .bf16) (harg30 : arg30.IsWhole) (arg31 : Memref sig .tc .vmem S4x640x128 .bf16) (harg31 : arg31.IsWhole) (arg32 : Memref sig .tc .vmem S4x640x128 .bf16) (harg32 : arg32.IsWhole) (arg33 : Memref sig .tc .vmem S4x640x128 .bf16) (harg33 : arg33.IsWhole) (arg34 : Memref sig .tc .vmem S4x640x128 .bf16) (harg34 : arg34.IsWhole) (arg35 : Memref sig .tc .vmem S536x512 .f32) (harg35 : arg35.IsWhole) (arg36 : Memref sig .tc .vmem S4x536x128 .f32) (harg36 : arg36.IsWhole) (arg37 : Memref sig .tc .vmem S512x1024 .bf16) (harg37 : arg37.IsWhole) (arg38 : Memref sig .tc .vmem S512x1024 .bf16) (harg38 : arg38.IsWhole) (arg39 : Memref sig .tc .vmem S16x256x256 .f32) (harg39 : arg39.IsWhole) (arg40 : Memref sig .tc .vmem S512x2048 .f32) (harg40 : arg40.IsWhole)

/-- The conditional's test, as the program computes it. -/
def first : BitVec 1 := Scalar.cmpi .ne (Scalar.extui (Scalar.cmpi .eq (BitVec.ofNat 32 (i 1).val) 0#32) : BitVec 32) 0#32

/-- The first part is a choice between two programs. -/
def cut1 : { p : Prog (TpuEff nD τ sig (Elt F) Λ₀ .tc) (Σ' (arg1 : BitVec 32) (v1 : BitVec 32) (v20 : IVec S1x128 1) (v22 : IVec S1x128 1) (v27 : FVec F S512x1024 .f32) (v28 : Vec F S1x1024 .f32), FVec F S512x1024 .f32) × Prog (TpuEff nD τ sig (Elt F) Λ₀ .tc) (Σ' (arg1 : BitVec 32) (v1 : BitVec 32) (v20 : IVec S1x128 1) (v22 : IVec S1x128 1) (v27 : FVec F S512x1024 .f32) (v28 : Vec F S1x1024 .f32), FVec F S512x1024 .f32) //
    k0_part1_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
      = dite (first i = 1#1) (fun _ => p.1) (fun _ => p.2) } := ⟨(_, _), rfl⟩

/-- The first sixty parts are the first, then the others. -/
def cut2 : { k : (Σ' (arg1 : BitVec 32) (v1 : BitVec 32) (v20 : IVec S1x128 1) (v22 : IVec S1x128 1) (v27 : FVec F S512x1024 .f32) (v28 : Vec F S1x1024 .f32), FVec F S512x1024 .f32) → Prog (TpuEff nD τ sig (Elt F) Λ₀ .tc) (Σ' (arg1 : BitVec 32) (v1 : BitVec 32) (v22 : IVec S1x128 1) (v27 : FVec F S512x1024 .f32) (v41 : FVec F S512x1024 .bf16) (v66 : FVec F S512x256 .f32) (v68 : FVec F S512x256 .f32) (v151 : FVec F S512x512 .f32) (v275 : IVec S128x128 1) (v287 : FVec F S256x128 .bf16) (v293 : FVec F S256x128 .bf16) (v2290 : FVec F S128x128 .f32) (v2336 : FVec F S128x128 .f32) (v2337 : FVec F S256x512 .bf16) (v2414 : FVec F S128x512 .bf16) (v2421 : FVec F S128x128 .f32) (v2423 : FVec F S128x128 .f32) (v2425 : F .f32), FVec F S128 .f32) //
    k0_part82_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
      = (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 >>= k) } := ⟨_, rfl⟩

/-- The body is the first sixty parts, then the others. -/
def cut3 : { k : (Σ' (arg1 : BitVec 32) (v1 : BitVec 32) (v22 : IVec S1x128 1) (v27 : FVec F S512x1024 .f32) (v41 : FVec F S512x1024 .bf16) (v66 : FVec F S512x256 .f32) (v68 : FVec F S512x256 .f32) (v151 : FVec F S512x512 .f32) (v275 : IVec S128x128 1) (v287 : FVec F S256x128 .bf16) (v293 : FVec F S256x128 .bf16) (v2290 : FVec F S128x128 .f32) (v2336 : FVec F S128x128 .f32) (v2337 : FVec F S256x512 .bf16) (v2414 : FVec F S128x512 .bf16) (v2421 : FVec F S128x128 .f32) (v2423 : FVec F S128x128 .f32) (v2425 : F .f32), FVec F S128 .f32) → Prog (TpuEff nD τ sig (Elt F) Λ₀ .tc) PUnit //
    cc0_prompt_mixer_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
      = (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 >>= k) } := ⟨_, rfl⟩

/-- The conditional's branch. -/
def opening : Prog (TpuEff nD τ sig (Elt F) Λ₀ .tc) PUnit := do
  let v3222 : Vec F S4x128x128 .bf16 ← Prog.lift (.load arg31 (Rect.unit (s := S4x640x128) ![0, 0, 0] S4x128x128.size inb_S4x640x128_S4x128x128_0_0_0).toLoadRect (View.loadsAt_vmem h_S4x128x128))
  Prog.lift (.store arg31 (Rect.unit (s := S4x640x128) ![0, 0, 0] S4x128x128.size inb_S4x640x128_S4x128x128_0_0_0) (k0_pay4 (F := F)) Finset.univ (View.stores_vmem h_S4x128x128 (harg31.storeExact_slice rfl _ packedbf16_S4x640x128_S4x128x128_0_0_0) (fun _ => rfl)) (.inl rfl))
  let v3226 : Vec F S4x128x128 .bf16 ← Prog.lift (.load arg32 (Rect.unit (s := S4x640x128) ![0, 0, 0] S4x128x128.size inb_S4x640x128_S4x128x128_0_0_0).toLoadRect (View.loadsAt_vmem h_S4x128x128))
  Prog.lift (.store arg32 (Rect.unit (s := S4x640x128) ![0, 0, 0] S4x128x128.size inb_S4x640x128_S4x128x128_0_0_0) (k0_pay5 (F := F)) Finset.univ (View.stores_vmem h_S4x128x128 (harg32.storeExact_slice rfl _ packedbf16_S4x640x128_S4x128x128_0_0_0) (fun _ => rfl)) (.inl rfl))
  let v3230 : Vec F S4x128x128 .bf16 ← Prog.lift (.load arg33 (Rect.unit (s := S4x640x128) ![0, 0, 0] S4x128x128.size inb_S4x640x128_S4x128x128_0_0_0).toLoadRect (View.loadsAt_vmem h_S4x128x128))
  Prog.lift (.store arg33 (Rect.unit (s := S4x640x128) ![0, 0, 0] S4x128x128.size inb_S4x640x128_S4x128x128_0_0_0) (k0_pay6 (F := F)) Finset.univ (View.stores_vmem h_S4x128x128 (harg33.storeExact_slice rfl _ packedbf16_S4x640x128_S4x128x128_0_0_0) (fun _ => rfl)) (.inl rfl))
  let v3234 : Vec F S4x128x128 .bf16 ← Prog.lift (.load arg34 (Rect.unit (s := S4x640x128) ![0, 0, 0] S4x128x128.size inb_S4x640x128_S4x128x128_0_0_0).toLoadRect (View.loadsAt_vmem h_S4x128x128))
  Prog.lift (.store arg34 (Rect.unit (s := S4x640x128) ![0, 0, 0] S4x128x128.size inb_S4x640x128_S4x128x128_0_0_0) (k0_pay7 (F := F)) Finset.univ (View.stores_vmem h_S4x128x128 (harg34.storeExact_slice rfl _ packedbf16_S4x640x128_S4x128x128_0_0_0) (fun _ => rfl)) (.inl rfl))
  let v3238 : Vec F S24x512 .f32 ← Prog.lift (.load arg35 (Rect.unit (s := S536x512) ![0, 0] S24x512.size inb_S536x512_S24x512_0_0).toLoadRect (View.loadsAt_vmem h_S24x512))
  Prog.lift (.store arg35 (Rect.unit (s := S536x512) ![0, 0] S24x512.size inb_S536x512_S24x512_0_0) (k0_pay8 (F := F)) Finset.univ (View.stores_vmem_bits_univ h_S24x512 rfl) (.inl rfl))
  let v3242 : Vec F S4x8x128 .f32 ← Prog.lift (.load arg36 (Rect.unit (s := S4x536x128) ![0, 0, 0] S4x8x128.size inb_S4x536x128_S4x8x128_0_0_0).toLoadRect (View.loadsAt_vmem h_S4x8x128))
  Prog.lift (.store arg36 (Rect.unit (s := S4x536x128) ![0, 0, 0] S4x8x128.size inb_S4x536x128_S4x8x128_0_0_0) (k0_pay9 (F := F)) Finset.univ (View.stores_vmem_bits_univ h_S4x8x128 rfl) (.inl rfl))
  pure ⟨⟩

theorem opening_then :
    (cut1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40).1.1 = (opening (F := F) arg31 harg31 arg32 harg32 arg33 harg33 arg34 harg34 arg35 arg36 >>= fun _ => (cut1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40).1.2) := rfl

/-- What follows the conditional. -/
def rest : Prog (TpuEff nD τ sig (Elt F) Λ₀ .tc) PUnit :=
  ((cut1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40).1.2 >>= (cut2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40).1) >>= (cut3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40).1

theorem body_first (h : first i = 1#1) :
    cc0_prompt_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
      = (opening (F := F) arg31 harg31 arg32 harg32 arg33 harg33 arg34 harg34 arg35 arg36 >>= fun _ => rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) := by
  rw [cc0_prompt_mixer_eq_skeleton, rest]
  have h0 := opening_then (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
  generalize opening (F := F) arg31 harg31 arg32 harg32 arg33 harg33 arg34 harg34 arg35 arg36 = op at h0 ⊢
  revert h0
  generalize cut3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = x3, cut2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = x2, cut1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = x1
  obtain ⟨k3, h3⟩ := x3
  obtain ⟨k2, h2⟩ := x2
  obtain ⟨⟨z, k1⟩, h1⟩ := x1
  dsimp only at h1 ⊢
  intro h0
  rw [h3, k0_part82_eq_skeleton, h2, k0_part1_eq_skeleton, h1, dif_pos h, h0]
  simp only [bind_assoc]

theorem body_later (h : ¬ first i = 1#1) :
    cc0_prompt_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
      = rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 := by
  rw [cc0_prompt_mixer_eq_skeleton, rest]
  generalize cut3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = x3, cut2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = x2, cut1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = x1
  obtain ⟨k3, h3⟩ := x3
  obtain ⟨k2, h2⟩ := x2
  obtain ⟨⟨z, k1⟩, h1⟩ := x1
  dsimp only at h1 ⊢
  rw [h3, k0_part82_eq_skeleton, h2, k0_part1_eq_skeleton, h1, dif_neg h]

end Cert.Mixer

end
-- ==== Proof.Mixer.Open.lean ====
module

public import proofs.«01_k».proof.Proof.Mixer.Tail
public import Idealize.ShloMosaic.Lib.Pipeline.FrameBody
public import Idealize.ShloMosaic.Lib.Ring
public import Idealize.ShloMosaic.Lib.Tactic
public import Idealize.ShloMosaic.Lib.WordCmp

@[expose] public section

/-!
# The opening, and the names of the buffers at a grid point

What the opening conditional's branch leaves in the six carried scratch buffers, when it is taken, and short names for
the buffers the body is called with at a grid point.
-/

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The branch taken at a first tile -/

/-- The head of buffer 0 the opening writes. -/
abbrev head0 : List (View.Piece (Elt F) S4x640x128 .bf16) := [⟨Rect.unit (s := S4x640x128) ![0, 0, 0] S4x128x128.size inb_S4x640x128_S4x128x128_0_0_0, k0_pay4 (F := F)⟩]
/-- The head of buffer 1 the opening writes. -/
abbrev head1 : List (View.Piece (Elt F) S4x640x128 .bf16) := [⟨Rect.unit (s := S4x640x128) ![0, 0, 0] S4x128x128.size inb_S4x640x128_S4x128x128_0_0_0, k0_pay5 (F := F)⟩]
/-- The head of buffer 2 the opening writes. -/
abbrev head2 : List (View.Piece (Elt F) S4x640x128 .bf16) := [⟨Rect.unit (s := S4x640x128) ![0, 0, 0] S4x128x128.size inb_S4x640x128_S4x128x128_0_0_0, k0_pay6 (F := F)⟩]
/-- The head of buffer 3 the opening writes. -/
abbrev head3 : List (View.Piece (Elt F) S4x640x128 .bf16) := [⟨Rect.unit (s := S4x640x128) ![0, 0, 0] S4x128x128.size inb_S4x640x128_S4x128x128_0_0_0, k0_pay7 (F := F)⟩]
/-- The head of buffer 4 the opening writes. -/
abbrev head4 : List (View.Piece (Elt F) S536x512 .f32) := [⟨Rect.unit (s := S536x512) ![0, 0] S24x512.size inb_S536x512_S24x512_0_0, k0_pay8 (F := F)⟩]
/-- The head of buffer 5 the opening writes. -/
abbrev head5 : List (View.Piece (Elt F) S4x536x128 .f32) := [⟨Rect.unit (s := S4x536x128) ![0, 0, 0] S4x8x128.size inb_S4x536x128_S4x8x128_0_0_0, k0_pay9 (F := F)⟩]

/-- The opening, run on buffers holding anything, leaves its six heads written. -/
theorem opening_run (c : Dev nD) (arg31 : Memref sig .tc .vmem S4x640x128 .bf16) (harg31 : arg31.IsWhole) (arg32 : Memref sig .tc .vmem S4x640x128 .bf16) (harg32 : arg32.IsWhole) (arg33 : Memref sig .tc .vmem S4x640x128 .bf16) (harg33 : arg33.IsWhole) (arg34 : Memref sig .tc .vmem S4x640x128 .bf16) (harg34 : arg34.IsWhole) (arg35 : Memref sig .tc .vmem S536x512 .f32) (arg36 : Memref sig .tc .vmem S4x536x128 .f32) (E : Set ℕ) (K : PUnit → sProp (MT nD τ sig Unit (Elt F) ℕ (UR sig nD τ) ℕ)) :
    iprop((∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
        ∗ (iprop((∃ f, arg31.view.loc (c : Thread nD τ) ↦[arg31.view.set]{fullShare} arg31.view.writes (Elt F) f head0) ∗ (∃ f, arg32.view.loc (c : Thread nD τ) ↦[arg32.view.set]{fullShare} arg32.view.writes (Elt F) f head1) ∗ (∃ f, arg33.view.loc (c : Thread nD τ) ↦[arg33.view.set]{fullShare} arg33.view.writes (Elt F) f head2) ∗ (∃ f, arg34.view.loc (c : Thread nD τ) ↦[arg34.view.set]{fullShare} arg34.view.writes (Elt F) f head3) ∗ (∃ f, arg35.view.loc (c : Thread nD τ) ↦[arg35.view.set]{fullShare} arg35.view.writes (Elt F) f head4) ∗ (∃ f, arg36.view.loc (c : Thread nD τ) ↦[arg36.view.set]{fullShare} arg36.view.writes (Elt F) f head5)) -∗ K ⟨⟩))
      ⊢ wp frame (wpE (defs₀ (F := F)) Variants.none c none) E (opening (F := F) arg31 harg31 arg32 harg32 arg33 harg33 arg34 harg34 arg35 arg36) K := by
  unfold opening owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, Hk⟩
  sl_exec
  sl_step
  iapply Hk
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The branch is taken at the first tile of a batch row. -/
theorem first_iff : ∀ t : Fin cfg0.N, first (grid0.coords t) = 1#1 ↔ t.val % 16 = 0 :=
  (fun t => by
    have ht : t.val < 32 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) = 1#1 ↔ t.val % 16 = 0)

/-! ## The buffers at a grid point -/

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4x256x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x5632 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S16x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S32x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x256x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x256x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x15x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S4x256x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S4x256x128 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S32x5632 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S128x1024 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S16x1024 .bf16 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S32x1024 .bf16 := win0_28.stage (cfg0.slots t 28)
abbrev hs0_28 (t : Fin cfg0.N) : (ms0_28 t).IsWhole := hstage0_28 ((cfg0.slots t 28).cast nbuf0_28)
abbrev scM0_0 : Memref sig .tc .vmem S4x640x128 .bf16 := Memref.whole cc0_scratch0
abbrev scM0_1 : Memref sig .tc .vmem S4x640x128 .bf16 := Memref.whole cc0_scratch1
abbrev scM0_2 : Memref sig .tc .vmem S4x640x128 .bf16 := Memref.whole cc0_scratch2
abbrev scM0_3 : Memref sig .tc .vmem S4x640x128 .bf16 := Memref.whole cc0_scratch3
abbrev scM0_4 : Memref sig .tc .vmem S536x512 .f32 := Memref.whole cc0_scratch4
abbrev scM0_5 : Memref sig .tc .vmem S4x536x128 .f32 := Memref.whole cc0_scratch5
abbrev scM0_6 : Memref sig .tc .vmem S512x1024 .bf16 := Memref.whole cc0_scratch6
abbrev scM0_7 : Memref sig .tc .vmem S512x1024 .bf16 := Memref.whole cc0_scratch7
abbrev scM0_8 : Memref sig .tc .vmem S16x256x256 .f32 := Memref.whole cc0_scratch8
abbrev scM0_9 : Memref sig .tc .vmem S512x2048 .f32 := Memref.whole cc0_scratch9

/-- The scoped rest of a point: each scratch at some contents, and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Mixer

end
-- ==== Proof.Mixer.Run.lean ====
module

public import proofs.«01_k».proof.Proof.Mixer.Tail
public import Idealize.ShloMosaic.Lib.Pipeline.FrameBody
public import Idealize.ShloMosaic.Lib.Ring
public import Idealize.ShloMosaic.Lib.Tactic
public import Idealize.ShloMosaic.Lib.WordCmp

@[expose] public section

/-!
# What one tile's program leaves

The program after the opening conditional, run once on whole buffers: the inputs' at given contents `x0 … x18`, the
six carried scratch buffers at given contents `xs0 … xs5`, the outputs' and the other scratch at anything. The run
finds, for each buffer, the list of pieces it stores.
-/

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4020000 in set_option sl_exec.squeezeSlice true in
/-- The pieces each buffer is left with, and that the run leaves them. -/
noncomputable def run (c : Dev nD) (i : grid0.Coords) (arg2 : Memref sig .tc .smem S16 .f32) (harg2 : arg2.IsWhole) (arg3 : Memref sig .tc .vmem S1x512x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4x128x128 .bf16) (harg8 : arg8.IsWhole) (arg9 : Memref sig .tc .vmem S1x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S4x256x128 .f32) (harg15 : arg15.IsWhole) (arg16 : Memref sig .tc .vmem S4x256x128 .f32) (harg16 : arg16.IsWhole) (arg17 : Memref sig .tc .vmem S32x5632 .f32) (harg17 : arg17.IsWhole) (arg18 : Memref sig .tc .vmem S128x1024 .f32) (harg18 : arg18.IsWhole) (arg19 : Memref sig .tc .vmem S16x1024 .f32) (harg19 : arg19.IsWhole) (arg20 : Memref sig .tc .vmem S32x1024 .f32) (harg20 : arg20.IsWhole) (arg21 : Memref sig .tc .vmem S1x512x1024 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x15x512 .f32) (harg24 : arg24.IsWhole) (arg25 : Memref sig .tc .vmem S4x256x128 .f32) (harg25 : arg25.IsWhole) (arg26 : Memref sig .tc .vmem S4x256x128 .f32) (harg26 : arg26.IsWhole) (arg27 : Memref sig .tc .vmem S32x5632 .bf16) (harg27 : arg27.IsWhole) (arg28 : Memref sig .tc .vmem S128x1024 .bf16) (harg28 : arg28.IsWhole) (arg29 : Memref sig .tc .vmem S16x1024 .bf16) (harg29 : arg29.IsWhole) (arg30 : Memref sig .tc .vmem S32x1024 .bf16) (harg30 : arg30.IsWhole) (arg31 : Memref sig .tc .vmem S4x640x128 .bf16) (harg31 : arg31.IsWhole) (arg32 : Memref sig .tc .vmem S4x640x128 .bf16) (harg32 : arg32.IsWhole) (arg33 : Memref sig .tc .vmem S4x640x128 .bf16) (harg33 : arg33.IsWhole) (arg34 : Memref sig .tc .vmem S4x640x128 .bf16) (harg34 : arg34.IsWhole) (arg35 : Memref sig .tc .vmem S536x512 .f32) (harg35 : arg35.IsWhole) (arg36 : Memref sig .tc .vmem S4x536x128 .f32) (harg36 : arg36.IsWhole) (arg37 : Memref sig .tc .vmem S512x1024 .bf16) (harg37 : arg37.IsWhole) (arg38 : Memref sig .tc .vmem S512x1024 .bf16) (harg38 : arg38.IsWhole) (arg39 : Memref sig .tc .vmem S16x256x256 .f32) (harg39 : arg39.IsWhole) (arg40 : Memref sig .tc .vmem S512x2048 .f32) (harg40 : arg40.IsWhole)
    (x0 : Vec F S16 .f32) (x1 : Vec F S1x512x1024 .f32) (x2 : Vec F S512x128 .f32) (x3 : Vec F S512x128 .f32) (x4 : Vec F S1x1024 .f32) (x5 : Vec F S1024x4096 .bf16) (x6 : Vec F S4x128x128 .bf16) (x7 : Vec F S1x512 .f32) (x8 : Vec F S512x1024 .bf16) (x9 : Vec F S1024x1024 .bf16) (x10 : Vec F S1024x1024 .bf16) (x11 : Vec F S256x128 .f32) (x12 : Vec F S256x128 .f32) (x13 : Vec F S4x256x128 .f32) (x14 : Vec F S4x256x128 .f32) (x15 : Vec F S32x5632 .f32) (x16 : Vec F S128x1024 .f32) (x17 : Vec F S16x1024 .f32) (x18 : Vec F S32x1024 .f32) (xs0 : Vec F S4x640x128 .bf16) (xs1 : Vec F S4x640x128 .bf16) (xs2 : Vec F S4x640x128 .bf16) (xs3 : Vec F S4x640x128 .bf16) (xs4 : Vec F S536x512 .f32) (xs5 : Vec F S4x536x128 .f32) :
    Σ' (L19 : List (View.Piece (Elt F) S1x512x1024 .f32)), Σ' (L20 : List (View.Piece (Elt F) S1x256x128 .f32)), Σ' (L21 : List (View.Piece (Elt F) S1x256x128 .f32)), Σ' (L22 : List (View.Piece (Elt F) S1x15x512 .f32)), Σ' (L23 : List (View.Piece (Elt F) S4x256x128 .f32)), Σ' (L24 : List (View.Piece (Elt F) S4x256x128 .f32)), Σ' (L25 : List (View.Piece (Elt F) S32x5632 .bf16)), Σ' (L26 : List (View.Piece (Elt F) S128x1024 .bf16)), Σ' (L27 : List (View.Piece (Elt F) S16x1024 .bf16)), Σ' (L28 : List (View.Piece (Elt F) S32x1024 .bf16)), Σ' (LS0 : List (View.Piece (Elt F) S4x640x128 .bf16)), Σ' (LS1 : List (View.Piece (Elt F) S4x640x128 .bf16)), Σ' (LS2 : List (View.Piece (Elt F) S4x640x128 .bf16)), Σ' (LS3 : List (View.Piece (Elt F) S4x640x128 .bf16)), Σ' (LS4 : List (View.Piece (Elt F) S536x512 .f32)), Σ' (LS5 : List (View.Piece (Elt F) S4x536x128 .f32)), Σ' (LT6 : List (View.Piece (Elt F) S512x1024 .bf16)), Σ' (LT7 : List (View.Piece (Elt F) S512x1024 .bf16)), Σ' (LT8 : List (View.Piece (Elt F) S16x256x256 .f32)), { LT9 : List (View.Piece (Elt F) S512x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ owns (c : Thread nD τ) arg31 fullShare xs0 ∗ owns (c : Thread nD τ) arg32 fullShare xs1 ∗ owns (c : Thread nD τ) arg33 fullShare xs2 ∗ owns (c : Thread nD τ) arg34 fullShare xs3 ∗ owns (c : Thread nD τ) arg35 fullShare xs4 ∗ owns (c : Thread nD τ) arg36 fullShare xs5 ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f LS0) ∗ (∃ f, arg32.view.loc (c : Thread nD τ) ↦[arg32.view.set]{fullShare} arg32.view.writes (Elt F) f LS1) ∗ (∃ f, arg33.view.loc (c : Thread nD τ) ↦[arg33.view.set]{fullShare} arg33.view.writes (Elt F) f LS2) ∗ (∃ f, arg34.view.loc (c : Thread nD τ) ↦[arg34.view.set]{fullShare} arg34.view.writes (Elt F) f LS3) ∗ (∃ f, arg35.view.loc (c : Thread nD τ) ↦[arg35.view.set]{fullShare} arg35.view.writes (Elt F) f LS4) ∗ (arg36.view.loc (c : Thread nD τ) ↦[arg36.view.set]{fullShare} arg36.view.writes (Elt F) (harg36.unread xs5) LS5) ∗ (∃ f, arg37.view.loc (c : Thread nD τ) ↦[arg37.view.set]{fullShare} arg37.view.writes (Elt F) f LT6) ∗ (∃ f, arg38.view.loc (c : Thread nD τ) ↦[arg38.view.set]{fullShare} arg38.view.writes (Elt F) f LT7) ∗ (∃ f, arg39.view.loc (c : Thread nD τ) ↦[arg39.view.set]{fullShare} arg39.view.writes (Elt F) f LT8) ∗ (∃ f, arg40.view.loc (c : Thread nD τ) ↦[arg40.view.set]{fullShare} arg40.view.writes (Elt F) f LT9)) -∗ K ⟨⟩))
          ⊢ wp frame (wpE (defs₀ (F := F)) Variants.none c none) E (rest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, ?_, ?_, ?_, ?_, ?_, ?_, ?_, ?_, ?_, ?_, fun E K => ?run⟩
  case run =>
    unfold rest cut1 cut2 cut3
    dsimp only
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg31.eq_unread hfs0; obtain rfl := harg32.eq_unread hfs1; obtain rfl := harg33.eq_unread hfs2; obtain rfl := harg34.eq_unread hfs3; obtain rfl := harg35.eq_unread hfs4; obtain rfl := harg36.eq_unread hfs5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    isplitl [HS6]; · iexists _; iexact HS6
    isplitl [HS7]; · iexists _; iexact HS7
    isplitl [HS8]; · iexists _; iexact HS8
    iexists _; iexact HS9

end Cert.Mixer

end
-- ==== Proof.Mixer.Layer.lean ====
/-
  The prompt's mixer, written plainly as functions of numbered entries: the normed row, its projections, the rotation of
  queries and keys, the attention over the window with a sink, the pooled windows, the gates, and the row the layer gives
  back. Everything is indexed by natural numbers; batch `b`, position `p`, column `n`.
-/
module

public import Idealize.ShloMosaic.PureOps.Ideal
public import Idealize.ShloMosaic.Lib.IdealHost
public import proofs.«01_k».proof.Proof.Ffn.Row
public import proofs.«01_k».proof.Proof.Attn.Row

@[expose] public section

noncomputable section

namespace Cert.Mixer

open Idealize.ShloMosaic

/-- The entries the layer is computed from. -/
structure Data where
  x : ℕ → ℕ → ℕ → EReal
  ln1 : ℕ → EReal
  w : ℕ → ℕ → EReal
  gw : ℕ → ℕ → ℕ → EReal
  ps : ℕ → EReal
  sink : ℕ → EReal
  wpb : ℕ → ℕ → EReal
  wab : ℕ → ℕ → EReal
  wout : ℕ → ℕ → EReal
  cos : ℕ → ℕ → EReal
  sin : ℕ → ℕ → EReal

variable (D : Data) (b : ℕ)

/-- The normed row times column `n` of the input projection. -/
def z (p n : ℕ) : EReal := ∑ j : Fin 1024, Ffn.rms (fun j => D.x b p j) (fun j => D.ln1 j) j * D.w j n

/-- The rotation of the first 16 of each 64 columns by the angle of the position. -/
def rope (f : ℕ → EReal) (p n : ℕ) : EReal :=
  if n % 64 < 8 then f n * D.cos p (n % 64) - f (n + 8) * D.sin p (n % 64)
  else if n % 64 < 16 then f n * D.cos p (n % 64 - 8) + f (n - 8) * D.sin p (n % 64 - 8)
  else f n

/-- Pool inputs, queries, keys, values, gates. -/
def u (p n : ℕ) : EReal := z D b p n
def q (p n : ℕ) : EReal := rope D (fun n => z D b p (512 + n)) p n
def k (p n : ℕ) : EReal := rope D (fun n => z D b p (1536 + n)) p n
def v (p n : ℕ) : EReal := z D b p (1792 + n)
def gate (p n : ℕ) : EReal := Ideal.logistic (z D b p (2048 + n))

/-! ## Attention

A query in row `p % 128` of its block sees 128 keys: those after its own place from the block before, the others from its
own block. -/

/-- Key `c` of query `p` is of the block before. -/
def Prev (p c : ℕ) : Prop := p % 128 < c

instance (p c : ℕ) : Decidable (Prev p c) := inferInstanceAs (Decidable (_ < _))

/-- Its position, where there is one. -/
def key (p c : ℕ) : ℕ := if Prev p c then p - p % 128 + c - 128 else p - p % 128 + c

/-- There is no block before the first. -/
def Dead (p c : ℕ) : Prop := Prev p c ∧ p < 128

instance (p c : ℕ) : Decidable (Dead p c) := inferInstanceAs (Decidable (_ ∧ _))

/-- The product of query `p` of head `h` and its key `c`, -/
def raw (p h c : ℕ) : EReal := ∑ d : Fin 64, q D b p (64 * h + d) * k D b (key p c) (64 * (h / 4) + d)

/-- and its score. -/
def score (p h c : ℕ) : EReal := if Dead p c then ⊥ else raw D b p h c * ((1 / 8 : ℝ) : EReal)

/-- The largest of scores and sink, -/
def top {n : ℕ} (s : Fin n → EReal) (sink : EReal) : EReal := max (Finset.univ.sup s) sink

/-- and the average of `v` weighted by the scores, the sink weighing for nothing. -/
def avg {n : ℕ} (s : Fin n → EReal) (sink : EReal) (v : Fin n → EReal) : EReal :=
  Ideal.div (∑ c, Ideal.exp (s c - top s sink) * v c) (∑ c, Ideal.exp (s c - top s sink) + Ideal.exp (sink - top s sink))

/-- The attention's row. -/
def att (p n : ℕ) : EReal :=
  avg (fun c : Fin 128 => score D b p (n / 64) c) (D.sink (n / 64)) (fun c => v D b (key p c) (64 * (n / 64 / 4) + n % 64))

/-! ## Pooling -/

/-- The pool inputs with 24 rows of zeros before them. -/
def ext (P n : ℕ) : EReal := if P < 24 then 0 else u D b (P - 24) n

/-- The width of the window of column `n`. -/
def width (n : ℕ) : ℕ := 2 ^ (n / 128 + 1)

/-- The mean of the window, less the row itself, -/
def centred (p n : ℕ) : EReal :=
  Ideal.div (∑ j ∈ Finset.range (width n), ext D b (p + 24 - j) n) ((min (width n) (p + 1) : ℕ) : ℝ) - u D b p n

/-- and the group's mix of them. -/
def pooled (p n : ℕ) : EReal :=
  (∑ c : Fin 128, centred D b p (128 * (n / 128) + c) * D.gw (n / 128) c (n % 128)) * D.ps n

/-! ## The row given back -/

def merged (p j : ℕ) : EReal :=
  gate D b p j * (∑ i : Fin 512, pooled D b p i * D.wpb i j) + gate D b p (1024 + j) * ∑ i : Fin 1024, att D b p i * D.wab i j

def out (p l : ℕ) : EReal := D.x b p l + ∑ j : Fin 1024, merged D b p j * D.wout j l

end Cert.Mixer

end
-- ==== Proof.Mixer.Base.lean ====
/-
  What a step of the mixer starts from, in numbered entries: the blocks it is given, and the readings of pieces written to a
  buffer and read back.
-/
module

public import proofs.«01_k».proof.Proof.Mixer.Layer
public import proofs.«01_k».proof.Proof.Gen.Kernel3Ideal.Skeleton
public import Idealize.ShloMosaic.Lib.Pointwise
public import Idealize.ShloMosaic.Lib.Pipeline.FrameBody
public import Idealize.ShloMosaic.Lib.Pipeline.Value

@[expose] public section

set_option maxRecDepth 16384

noncomputable section

namespace Cert.Mixer

open Cert.Kernel3Ideal Cert.Kernel3Ideal.Gen
open Idealize.ShloMosaic Idealize.ShloMosaic.TcCoe Idealize.SL.Sem

/-! ## Pieces that all hold one function -/

section Pieces

variable {S : Shape} {e : EltTy} {sig' : RefSig} {κ' : Kind} {sp : Space}

/-- Every piece of the list holds the function `G` where it lies. -/
def Agree (L : List (View.Piece (Elt Ideal) S e)) (G : S.Idx → Elt Ideal e) : Prop :=
  ∀ p ∈ L, ∀ x : p.1.shape.Idx, p.2 x = G (p.1.emb x)

theorem Agree.nil (G : S.Idx → Elt Ideal e) : Agree [] G := fun p h => absurd h List.not_mem_nil

theorem Agree.cons {L : List (View.Piece (Elt Ideal) S e)} {G : S.Idx → Elt Ideal e} {r : Rect S} {w : r.shape.Idx → Elt Ideal e}
    (hp : ∀ x, w x = G (r.emb x)) (hL : Agree L G) : Agree (⟨r, w⟩ :: L) G := fun q hq => by
  rcases List.mem_cons.1 hq with rfl | hq
  · exact hp
  · exact hL q hq

/-- What is read over such pieces is `G`, wherever a piece lies or what was there before is `G`. -/
theorem Agree.read {L : List (View.Piece (Elt Ideal) S e)} {G : S.Idx → Elt Ideal e} (h : Agree L G) (v : View sig' κ' sp S e)
    (f : v.ty.Contents (Elt Ideal)) (y : S.Idx) (hy : (∃ p ∈ L, y ∈ p.1.set) ∨ v.read (Elt Ideal) f y = G y) :
    v.read (Elt Ideal) (v.writes (Elt Ideal) f L) y = G y := by
  by_cases hc : ∃ p ∈ L, y ∈ p.1.set
  · rw [View.read_writes_apply_eq_canon v f y L hc]
    exact View.canon_apply_of_pieces G L h y hc
  · rw [View.read_writes_apply_of_forall_not_mem _ _ _ L (fun p hp hm => hc ⟨p, hp, hm⟩)]
    exact hy.resolve_left hc

theorem Agree.readAt {L : List (View.Piece (Elt Ideal) S e)} {G : S.Idx → Elt Ideal e} (h : Agree L G) (v : View sig' κ' sp S e)
    (f : v.ty.Contents (Elt Ideal)) (B : LoadRect S) (j : B.shape.Idx)
    (hy : (∃ p ∈ L, B.idx j ∈ p.1.set) ∨ v.read (Elt Ideal) f (B.idx j) = G (B.idx j)) :
    v.readAt (Elt Ideal) B (v.writes (Elt Ideal) f L) j = G (B.idx j) :=
  h.read v f (B.idx j) hy

theorem Agree.readCov {L : List (View.Piece (Elt Ideal) S e)} {G : S.Idx → Elt Ideal e} (h : Agree L G) (v : View sig' κ' sp S e)
    (B : LoadRect S) (j : B.shape.Idx) (hy : ∃ p ∈ L, B.idx j ∈ p.1.set) :
    v.readCov L B j = G (B.idx j) := by
  rw [View.readCov_eq_canon' v L B]
  exact View.canon_apply_of_pieces G L h _ hy

/-- A load from a buffer that holds `x`. -/
theorem load_at {a : Memref sig' κ' sp S e} (h : a.IsWhole) (x : Vec Ideal S e) (B : LoadRect S) (j : B.shape.Idx) :
    a.view.readAt (Elt Ideal) B (h.unread x) j = x (B.idx j) :=
  congrFun (h.read_unread x) (B.idx j)

end Pieces

theorem eq_ix2 {a b : ℕ} (y : (Shape.Idx ⟨2, ![a, b]⟩)) : y = ix2 (y 0 : Fin a) (y 1 : Fin b) := by
  funext k; match k with
  | ⟨0, _⟩ => rfl
  | ⟨1, _⟩ => rfl

theorem eq_ix3 {a b d : ℕ} (y : (Shape.Idx ⟨3, ![a, b, d]⟩)) : y = ix3 (y 0 : Fin a) (y 1 : Fin b) (y 2 : Fin d) := by
  funext k; match k with
  | ⟨0, _⟩ => rfl
  | ⟨1, _⟩ => rfl
  | ⟨2, _⟩ => rfl

/-! ## The blocks a step is given -/

/-- The factor the kernel puts on a query. -/
def qrate : EReal := (((1 / 8) * (Real.log 2)⁻¹ : ℝ) : EReal)

/-- The tables of the rotation, laid out over a row of two heads. -/
def cosT (D : Data) (p l : ℕ) : EReal := if l % 64 < 8 then D.cos p (l % 64) else if l % 64 < 16 then D.cos p (l % 64 - 8) else 1
def sinT (D : Data) (p l : ℕ) : EReal := if l % 64 < 8 then -D.sin p (l % 64) else if l % 64 < 16 then D.sin p (l % 64 - 8) else 0

/-- The blocks of batch `b` and step `T`, rows `512 T` on. -/
structure Inputs (D : Data) (b T : ℕ) (x0 : Vec Ideal S16 .f32) (x1 : Vec Ideal S1x512x1024 .f32) (x2 x3 : Vec Ideal S512x128 .f32)
    (x4 : Vec Ideal S1x1024 .f32) (x5 : Vec Ideal S1024x4096 .bf16) (x6 : Vec Ideal S4x128x128 .bf16) (x7 : Vec Ideal S1x512 .f32)
    (x8 : Vec Ideal S512x1024 .bf16) (x9 x10 : Vec Ideal S1024x1024 .bf16) : Prop where
  h0 : ∀ y, x0 y = D.sink (y 0).val
  h1 : ∀ y, x1 y = D.x b (512 * T + (y 1).val) (y 2).val
  h2 : ∀ y, x2 y = cosT D (512 * T + (y 0).val) (y 1).val
  h3 : ∀ y, x3 y = sinT D (512 * T + (y 0).val) (y 1).val
  h4 : ∀ y, x4 y = D.ln1 (y 1).val
  h5 : ∀ y, x5 y = D.w (y 0).val (y 1).val
  h6 : ∀ y, x6 y = D.gw (y 0).val (y 1).val (y 2).val
  h7 : ∀ y, x7 y = D.ps (y 1).val
  h8 : ∀ y, x8 y = D.wpb (y 0).val (y 1).val
  h9 : ∀ y, x9 y = D.wab (y 0).val (y 1).val
  h10 : ∀ y, x10 y = D.wout (y 0).val (y 1).val

/-! ## The normed row, the rotation and the lane masks -/

theorem lane8 (l : Fin 128) : ((Scalar.cmpi .slt (Scalar.select (IntOp.andi (IntOp.xori (IntOp.cmpi CmpIPredicate.slt (IntOp.remsi ArithUnit.vector (BitVec.ofNat 32 l.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 l.val) (Scalar.select (Scalar.cmpi CmpIPredicate.eq 64#32 0#32) 1#32 64#32)) 0#32)) (IntOp.addi (IntOp.remsi ArithUnit.vector (BitVec.ofNat 32 l.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 l.val) (Scalar.select (Scalar.cmpi CmpIPredicate.eq 64#32 0#32) 1#32 64#32))) 8#32 : BitVec 1) = if l.val % 64 < 8 then 1#1 else 0#1) := by
  revert l; decide +kernel

theorem mask8_at (l : Fin 128) : k0_pay2 (ix2 (0 : Fin 1) l) = if l.val % 64 < 8 then 1#1 else 0#1 := by
  refine Eq.trans ?_ (lane8 l)
  pointwise [k0_pay2]
  rfl

theorem lane64 (l : Fin 128) : IntOp.cmpi CmpIPredicate.slt (BitVec.ofNat 32 l.val) 64#32 = if l.val < 64 then 1#1 else 0#1 := by
  revert l; decide +kernel

theorem mask64_at (l : Fin 128) : k0_pay3 (ix2 (0 : Fin 1) l) = if l.val < 64 then 1#1 else 0#1 := by
  refine Eq.trans ?_ (lane64 l)
  pointwise [k0_pay3]

theorem select_if {α : Type} (P : Prop) [Decidable P] (a b : α) : Scalar.select (if P then 1#1 else 0#1) a b = if P then a else b := by
  split <;> simp [Scalar.select]

/-- The normed block. -/
def xnB (x : Vec Ideal S1x512x1024 .f32) (g : Vec Ideal S1x1024 .f32) : FVec Ideal S512x1024 .bf16 := k0_pay12 (k0_pay10 x) g (k0_pay11 x)

theorem xnB_at (x : Vec Ideal S1x512x1024 .f32) (g : Vec Ideal S1x1024 .f32) (r : Fin 512) (j : Fin 1024) :
    xnB x g (ix2 r j) = Ffn.rms (fun j => x (ix3 0 r j)) (fun j => g (ix2 0 j)) j := by
  pointwise [xnB, k0_pay12, k0_pay10, k0_pay11]
  rfl

/-- The rotation of a pair of heads. -/
def ropeC (xc cs sg : FVec Ideal S512x128 .f32) : FVec Ideal S512x128 .f32 :=
  addf (mulf xc cs) (mulf (select (broadcastTo S512x128 (shapeCast S1x128 k0_pay2 shapeCasts_S1x128_S1x128) broadcasts_S1x128_S512x128)
    (dynamicRotate 1 120#32 none xc rotates_S512x128_d1) (dynamicRotate 1 8#32 none xc rotates_S512x128_d1)) sg)

theorem ropeC_at (xc cs sg : FVec Ideal S512x128 .f32) (r : Fin 512) (l : Fin 128) :
    ropeC xc cs sg (ix2 r l) = xc (ix2 r l) * cs (ix2 r l)
      + (if l.val % 64 < 8 then xc (ix2 r ⟨(l.val + 128 - 120) % 128, Nat.mod_lt _ (by decide)⟩)
          else xc (ix2 r ⟨(l.val + 128 - 8) % 128, Nat.mod_lt _ (by decide)⟩)) * sg (ix2 r l) := by
  rw [← select_if, ← mask8_at]
  pointwise [ropeC]

/-- On a pair of heads of the row `f`, from column `128 a` on, it is the layer's. -/
theorem ropeC_val (D : Data) (f : ℕ → EReal) (p a : ℕ) (xc cs sg : FVec Ideal S512x128 .f32) (r : Fin 512) (l : Fin 128)
    (hx : ∀ l : Fin 128, xc (ix2 r l) = f (128 * a + l.val)) (hc : cs (ix2 r l) = cosT D p l.val) (hs : sg (ix2 r l) = sinT D p l.val) :
    ropeC xc cs sg (ix2 r l) = rope D f p (128 * a + l.val) := by
  rw [ropeC_at, hx, hx, hx, hc, hs]
  have hm : (128 * a + l.val) % 64 = l.val % 64 := by omega
  have hl := l.isLt
  unfold rope cosT sinT
  rw [hm]
  by_cases h8 : l.val % 64 < 8
  · rw [if_pos h8, if_pos h8, if_pos h8, if_pos h8, mul_neg, ← sub_eq_add_neg]
    have : (l.val + 128 - 120) % 128 = l.val + 8 := by omega
    simp only [this, Nat.add_assoc]
  · rw [if_neg h8, if_neg h8, if_neg h8, if_neg h8]
    by_cases h16 : l.val % 64 < 16
    · rw [if_pos h16, if_pos h16, if_pos h16]
      have : 128 * a + (l.val + 128 - 8) % 128 = 128 * a + l.val - 8 := by omega
      simp only [this]
    · rw [if_neg h16, if_neg h16, if_neg h16, mul_zero, add_zero, mul_one]

end Cert.Mixer

end
-- ==== Proof.Mixer.Scratch.lean ====
/-
  The first things a step computes: the normed rows, the rotated queries and keys, the values and the pool's inputs, and the
  buffers they are put in.
-/
module

public import proofs.«01_k».proof.Proof.Mixer.Base
public import proofs.«01_k».proof.Proof.Mixer.Run

@[expose] public section

set_option maxRecDepth 16384

noncomputable section

namespace Cert.Mixer

open Cert.Kernel3Ideal Cert.Kernel3Ideal.Gen
open Idealize.ShloMosaic Idealize.ShloMosaic.TcCoe Idealize.SL.Sem

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

theorem ofBits_zero : (FloatOps.ofBits .f32 0x00000000#32 : Ideal .f32) = (0 : EReal) := by
  simp

/-- The normed rows. -/
theorem xn_at (H : Inputs D b T x0 x1 x2 x3 x4 x5 x6 x7 x8 x9 x10) (r : Fin 512) (j : Fin 1024) :
    run.sl.r (F := Ideal) c i arg3 harg3 arg6 harg6 x1 x4 (ix2 r j) = Ffn.rms (fun j => D.x b (512 * T + r.val) j) (fun j => D.ln1 j) j := by
  have e : run.sl.r (F := Ideal) c i arg3 harg3 arg6 harg6 x1 x4 = xnB (arg3.view.readAt (Elt Ideal) (Rect.unit ![0, 0, 0] ![1, 512, 1024] inb_S1x512x1024_S1x512x1024_0_0_0 : Rect S1x512x1024).toLoadRect (harg3.unread x1))
      (arg6.view.readAt (Elt Ideal) (Rect.unit ![0, 0] ![1, 1024] inb_S1x1024_S1x1024_0_0 : Rect S1x1024).toLoadRect (harg6.unread x4)) := rfl
  rw [e, xnB_at]
  congr 1
  · funext j
    rw [load_at, H.h1]
    show D.x b (512 * T + (0 + 1 * r.val)) (0 + 1 * j.val) = _
    simp only [zero_add, one_mul]
  · funext j
    rw [load_at, H.h4]
    show D.ln1 (0 + 1 * j.val) = _
    simp only [zero_add, one_mul]

/-- A projection of the normed rows on columns `o` on. -/
theorem proj_q (H : Inputs D b T x0 x1 x2 x3 x4 x5 x6 x7 x8 x9 x10) (r : Fin 512) (n : Fin 1024) :
    run.sl.r_5 (F := Ideal) c i arg3 harg3 arg6 harg6 arg7 harg7 x1 x4 x5 (ix2 r n) = z D b (512 * T + r.val) (512 + n.val) := by
  have e : run.sl.r_5 (F := Ideal) c i arg3 harg3 arg6 harg6 arg7 harg7 x1 x4 x5 = matmul (φ₂ := .bf16) dot_S512x1024_S1024x1024_S512x1024_1_0_0_1_n_n none (run.sl.r (F := Ideal) c i arg3 harg3 arg6 harg6 x1 x4) (arg7.view.readAt (Elt Ideal) (Rect.unit ![0, 512] S1024x1024.size inb_S1024x4096_S1024x1024_0_512 : Rect S1024x4096).toLoadRect (harg7.unread x5)) (constant S512x1024 .f32 0x00000000#32) := rfl
  rw [e]
  pointwise []
  refine Finset.sum_congr rfl fun j _ => ?_
  rw [xn_at H, load_at, H.h5]
  show _ * D.w (0 + 1 * j.val) (512 + 1 * n.val) = _
  simp only [zero_add, one_mul]

theorem rv_at (H : Inputs D b T x0 x1 x2 x3 x4 x5 x6 x7 x8 x9 x10) (r : Fin 512) (n : Fin 256) :
    run.sl.r_4 (F := Ideal) c i arg3 harg3 arg6 harg6 arg7 harg7 x1 x4 x5 (ix2 r n) = v D b (512 * T + r.val) n.val := by
  have e : run.sl.r_4 (F := Ideal) c i arg3 harg3 arg6 harg6 arg7 harg7 x1 x4 x5 = matmul (φ₂ := .bf16) dot_S512x1024_S1024x256_S512x256_1_0_0_1_n_n none (run.sl.r (F := Ideal) c i arg3 harg3 arg6 harg6 x1 x4) (arg7.view.readAt (Elt Ideal) (Rect.unit ![0, 1792] S1024x256.size inb_S1024x4096_S1024x256_0_1792 : Rect S1024x4096).toLoadRect (harg7.unread x5)) (constant S512x256 .f32 0x00000000#32) := rfl
  rw [e]
  pointwise []
  unfold v z
  refine Finset.sum_congr rfl fun j _ => ?_
  rw [xn_at H, load_at, H.h5]
  show _ * D.w (0 + 1 * j.val) (1792 + 1 * n.val) = _
  simp only [zero_add, one_mul]

theorem ru_at (H : Inputs D b T x0 x1 x2 x3 x4 x5 x6 x7 x8 x9 x10) (r : Fin 512) (n : Fin 512) :
    run.sl.r_16 (F := Ideal) c i arg3 harg3 arg6 harg6 arg7 harg7 x1 x4 x5 (ix2 r n) = u D b (512 * T + r.val) n.val := by
  have e : run.sl.r_16 (F := Ideal) c i arg3 harg3 arg6 harg6 arg7 harg7 x1 x4 x5 = matmul (φ₂ := .bf16) dot_S512x1024_S1024x512_S512x512_1_0_0_1_n_n none (run.sl.r (F := Ideal) c i arg3 harg3 arg6 harg6 x1 x4) (arg7.view.readAt (Elt Ideal) (Rect.unit ![0, 0] S1024x512.size inb_S1024x4096_S1024x512_0_0 : Rect S1024x4096).toLoadRect (harg7.unread x5)) (constant S512x512 .f32 0x00000000#32) := rfl
  rw [e]
  pointwise []
  unfold u z
  refine Finset.sum_congr rfl fun j _ => ?_
  rw [xn_at H, load_at, H.h5]
  show _ * D.w (0 + 1 * j.val) (0 + 1 * n.val) = _
  simp only [zero_add, one_mul]

/-- The tables as they are loaded. -/
theorem cos_at (H : Inputs D b T x0 x1 x2 x3 x4 x5 x6 x7 x8 x9 x10) (r : Fin 512) (l : Fin 128) :
    run.sl.r_1 (F := Ideal) c arg4 harg4 x2 (ix2 r l) = cosT D (512 * T + r.val) l.val := by
  pointwise [run.sl.r_1, k0_pay13]
  rw [load_at, H.h2]
  show cosT D (512 * T + (0 + 1 * r.val)) (0 + 1 * l.val) = _
  simp only [zero_add, one_mul]

theorem sin_at (H : Inputs D b T x0 x1 x2 x3 x4 x5 x6 x7 x8 x9 x10) (r : Fin 512) (l : Fin 128) :
    run.sl.r_2 (F := Ideal) c arg5 harg5 x3 (ix2 r l) = sinT D (512 * T + r.val) l.val := by
  pointwise [run.sl.r_2, k0_pay14]
  rw [load_at, H.h3]
  show sinT D (512 * T + (0 + 1 * r.val)) (0 + 1 * l.val) = _
  simp only [zero_add, one_mul]

/-- The rotated keys. -/
theorem rk_at (H : Inputs D b T x0 x1 x2 x3 x4 x5 x6 x7 x8 x9 x10) (r : Fin 512) (n : Fin 256) :
    run.sl.r_3 (F := Ideal) c i arg3 harg3 arg4 harg4 arg5 harg5 arg6 harg6 arg7 harg7 x1 x2 x3 x4 x5 (ix2 r n) = k D b (512 * T + r.val) n.val := by
  let kp : FVec Ideal S512x256 .f32 := matmul (φ₂ := .bf16) dot_S512x1024_S1024x256_S512x256_1_0_0_1_n_n none (run.sl.r (F := Ideal) c i arg3 harg3 arg6 harg6 x1 x4) (arg7.view.readAt (Elt Ideal) (Rect.unit ![0, 1536] S1024x256.size inb_S1024x4096_S1024x256_0_1536 : Rect S1024x4096).toLoadRect (harg7.unread x5)) (constant S512x256 .f32 0x00000000#32)
  have hkp : ∀ (r : Fin 512) (n : Fin 256), kp (ix2 r n) = z D b (512 * T + r.val) (1536 + n.val) := fun r n => by
    show matmul (φ₂ := .bf16) dot_S512x1024_S1024x256_S512x256_1_0_0_1_n_n none (run.sl.r (F := Ideal) c i arg3 harg3 arg6 harg6 x1 x4) (arg7.view.readAt (Elt Ideal) (Rect.unit ![0, 1536] S1024x256.size inb_S1024x4096_S1024x256_0_1536 : Rect S1024x4096).toLoadRect (harg7.unread x5)) (constant S512x256 .f32 0x00000000#32) (ix2 r n) = _
    pointwise []
    refine Finset.sum_congr rfl fun j _ => ?_
    rw [xn_at H, load_at, H.h5]
    show _ * D.w (0 + 1 * j.val) (1536 + 1 * n.val) = _
    simp only [zero_add, one_mul]
  have e : run.sl.r_3 (F := Ideal) c i arg3 harg3 arg4 harg4 arg5 harg5 arg6 harg6 arg7 harg7 x1 x2 x3 x4 x5 = concatenate S512x256 1 [⟨S512x128, ropeC (extractStridedSlice S512x128 ![0, 0] kp slices_S512x256_o0_0_S512x128) (run.sl.r_1 (F := Ideal) c arg4 harg4 x2) (run.sl.r_2 (F := Ideal) c arg5 harg5 x3)⟩, ⟨S512x128, ropeC (extractStridedSlice S512x128 ![0, 128] kp slices_S512x256_o0_128_S512x128) (run.sl.r_1 (F := Ideal) c arg4 harg4 x2) (run.sl.r_2 (F := Ideal) c arg5 harg5 x3)⟩] concatenates_S512x128_S512x128_S512x256_d1 := rfl
  rw [e]
  have h0 : ∀ l : Fin 128, ropeC (extractStridedSlice S512x128 ![0, 0] kp slices_S512x256_o0_0_S512x128) (run.sl.r_1 (F := Ideal) c arg4 harg4 x2) (run.sl.r_2 (F := Ideal) c arg5 harg5 x3) (ix2 r l) = k D b (512 * T + r.val) (128 * 0 + l.val) := fun l =>
    ropeC_val D (fun n => z D b (512 * T + r.val) (1536 + n)) _ 0 _ _ _ r l (fun l => by
      pointwise []
      rw [hkp]; all_goals first | rfl | (congr 1; all_goals (simp only []; omega))) (cos_at H r l) (sin_at H r l)
  have h1 : ∀ l : Fin 128, ropeC (extractStridedSlice S512x128 ![0, 128] kp slices_S512x256_o0_128_S512x128) (run.sl.r_1 (F := Ideal) c arg4 harg4 x2) (run.sl.r_2 (F := Ideal) c arg5 harg5 x3) (ix2 r l) = k D b (512 * T + r.val) (128 * 1 + l.val) := fun l =>
    ropeC_val D (fun n => z D b (512 * T + r.val) (1536 + n)) _ 1 _ _ _ r l (fun l => by
      pointwise []
      rw [hkp]; all_goals first | rfl | (congr 1; all_goals (simp only []; omega))) (cos_at H r l) (sin_at H r l)
  generalize ropeC (extractStridedSlice S512x128 ![0, 0] kp slices_S512x256_o0_0_S512x128) (run.sl.r_1 (F := Ideal) c arg4 harg4 x2) (run.sl.r_2 (F := Ideal) c arg5 harg5 x3) = A0 at h0 ⊢
  generalize ropeC (extractStridedSlice S512x128 ![0, 128] kp slices_S512x256_o0_128_S512x128) (run.sl.r_1 (F := Ideal) c arg4 harg4 x2) (run.sl.r_2 (F := Ideal) c arg5 harg5 x3) = A1 at h1 ⊢
  pointwise []
  simp only [h0, h1]
  have := n.isLt
  split
  · congr 1; omega
  · congr 1; omega

theorem pay29_eq (cs sg : FVec Ideal S512x128 .f32) (w : FVec Ideal S512x1024 .f32) (a0 a1 a2 a3 a4 a5 : FVec Ideal S512x128 .f32) :
    k0_pay29 k0_pay2 cs sg w a0 a1 a2 a3 a4 a5 (k0_pay27 w) (k0_pay28 w) 8#32 = shapeCast S512x1024 (truncf .bf16 (mulf (concatenate S512x1024 1 [⟨S512x128, a0⟩, ⟨S512x128, a1⟩, ⟨S512x128, a2⟩, ⟨S512x128, a3⟩, ⟨S512x128, a4⟩, ⟨S512x128, a5⟩, ⟨S512x128, ropeC (extractStridedSlice S512x128 ![0, 768] w slices_S512x1024_o0_768_S512x128) cs sg⟩, ⟨S512x128, ropeC (extractStridedSlice S512x128 ![0, 896] w slices_S512x1024_o0_896_S512x128) cs sg⟩] concatenates_S512x128_S512x128_S512x128_S512x128_S512x128_S512x128_S512x128_S512x128_S512x1024_d1) (broadcast S512x1024 (Named.named κ "qk_scale" 0x3E38AA3B#32))) bitsLt_bf16_f32) shapeCasts_S512x1024_S512x1024 := rfl

/-- The queries, rotated and scaled. -/
theorem rq_at (H : Inputs D b T x0 x1 x2 x3 x4 x5 x6 x7 x8 x9 x10) (r : Fin 512) (n : Fin 1024) :
    k0_pay29 k0_pay2 (run.sl.r_1 (F := Ideal) c arg4 harg4 x2) (run.sl.r_2 (F := Ideal) c arg5 harg5 x3) (run.sl.r_5 (F := Ideal) c i arg3 harg3 arg6 harg6 arg7 harg7 x1 x4 x5) (run.sl.r_8 (F := Ideal) c i arg3 harg3 arg4 harg4 arg5 harg5 arg6 harg6 arg7 harg7 x1 x2 x3 x4 x5) (run.sl.r_9 (F := Ideal) c i arg3 harg3 arg4 harg4 arg5 harg5 arg6 harg6 arg7 harg7 x1 x2 x3 x4 x5) (run.sl.r_10 (F := Ideal) c i arg3 harg3 arg4 harg4 arg5 harg5 arg6 harg6 arg7 harg7 x1 x2 x3 x4 x5) (run.sl.r_11 (F := Ideal) c i arg3 harg3 arg4 harg4 arg5 harg5 arg6 harg6 arg7 harg7 x1 x2 x3 x4 x5) (run.sl.r_12 (F := Ideal) c i arg3 harg3 arg4 harg4 arg5 harg5 arg6 harg6 arg7 harg7 x1 x2 x3 x4 x5) (run.sl.r_13 (F := Ideal) c i arg3 harg3 arg4 harg4 arg5 harg5 arg6 harg6 arg7 harg7 x1 x2 x3 x4 x5) (run.sl.r_14 (F := Ideal) c i arg3 harg3 arg6 harg6 arg7 harg7 x1 x4 x5) (run.sl.r_15 (F := Ideal) c i arg3 harg3 arg6 harg6 arg7 harg7 x1 x4 x5) 8#32 (ix2 r n) = q D b (512 * T + r.val) n.val * qrate := by
  have h0 : ∀ l : Fin 128, ropeC (extractStridedSlice S512x128 ![0, 0] (run.sl.r_5 (F := Ideal) c i arg3 harg3 arg6 harg6 arg7 harg7 x1 x4 x5) slices_S512x1024_o0_0_S512x128) (run.sl.r_1 (F := Ideal) c arg4 harg4 x2) (run.sl.r_2 (F := Ideal) c arg5 harg5 x3) (ix2 r l) = q D b (512 * T + r.val) (128 * 0 + l.val) := fun l =>
    ropeC_val D (fun n => z D b (512 * T + r.val) (512 + n)) _ 0 _ _ _ r l (fun l => by
      pointwise []
      rw [proj_q H]; all_goals first | rfl | (congr 1; all_goals (simp only []; omega))) (cos_at H r l) (sin_at H r l)
  have h1 : ∀ l : Fin 128, ropeC (extractStridedSlice S512x128 ![0, 128] (run.sl.r_5 (F := Ideal) c i arg3 harg3 arg6 harg6 arg7 harg7 x1 x4 x5) slices_S512x1024_o0_128_S512x128) (run.sl.r_1 (F := Ideal) c arg4 harg4 x2) (run.sl.r_2 (F := Ideal) c arg5 harg5 x3) (ix2 r l) = q D b (512 * T + r.val) (128 * 1 + l.val) := fun l =>
    ropeC_val D (fun n => z D b (512 * T + r.val) (512 + n)) _ 1 _ _ _ r l (fun l => by
      pointwise []
      rw [proj_q H]; all_goals first | rfl | (congr 1; all_goals (simp only []; omega))) (cos_at H r l) (sin_at H r l)
  have h2 : ∀ l : Fin 128, ropeC (extractStridedSlice S512x128 ![0, 256] (run.sl.r_5 (F := Ideal) c i arg3 harg3 arg6 harg6 arg7 harg7 x1 x4 x5) slices_S512x1024_o0_256_S512x128) (run.sl.r_1 (F := Ideal) c arg4 harg4 x2) (run.sl.r_2 (F := Ideal) c arg5 harg5 x3) (ix2 r l) = q D b (512 * T + r.val) (128 * 2 + l.val) := fun l =>
    ropeC_val D (fun n => z D b (512 * T + r.val) (512 + n)) _ 2 _ _ _ r l (fun l => by
      pointwise []
      rw [proj_q H]; all_goals first | rfl | (congr 1; all_goals (simp only []; omega))) (cos_at H r l) (sin_at H r l)
  have h3 : ∀ l : Fin 128, ropeC (extractStridedSlice S512x128 ![0, 384] (run.sl.r_5 (F := Ideal) c i arg3 harg3 arg6 harg6 arg7 harg7 x1 x4 x5) slices_S512x1024_o0_384_S512x128) (run.sl.r_1 (F := Ideal) c arg4 harg4 x2) (run.sl.r_2 (F := Ideal) c arg5 harg5 x3) (ix2 r l) = q D b (512 * T + r.val) (128 * 3 + l.val) := fun l =>
    ropeC_val D (fun n => z D b (512 * T + r.val) (512 + n)) _ 3 _ _ _ r l (fun l => by
      pointwise []
      rw [proj_q H]; all_goals first | rfl | (congr 1; all_goals (simp only []; omega))) (cos_at H r l) (sin_at H r l)
  have h4 : ∀ l : Fin 128, ropeC (extractStridedSlice S512x128 ![0, 512] (run.sl.r_5 (F := Ideal) c i arg3 harg3 arg6 harg6 arg7 harg7 x1 x4 x5) slices_S512x1024_o0_512_S512x128) (run.sl.r_1 (F := Ideal) c arg4 harg4 x2) (run.sl.r_2 (F := Ideal) c arg5 harg5 x3) (ix2 r l) = q D b (512 * T + r.val) (128 * 4 + l.val) := fun l =>
    ropeC_val D (fun n => z D b (512 * T + r.val) (512 + n)) _ 4 _ _ _ r l (fun l => by
      pointwise []
      rw [proj_q H]; all_goals first | rfl | (congr 1; all_goals (simp only []; omega))) (cos_at H r l) (sin_at H r l)
  have h5 : ∀ l : Fin 128, ropeC (extractStridedSlice S512x128 ![0, 640] (run.sl.r_5 (F := Ideal) c i arg3 harg3 arg6 harg6 arg7 harg7 x1 x4 x5) slices_S512x1024_o0_640_S512x128) (run.sl.r_1 (F := Ideal) c arg4 harg4 x2) (run.sl.r_2 (F := Ideal) c arg5 harg5 x3) (ix2 r l) = q D b (512 * T + r.val) (128 * 5 + l.val) := fun l =>
    ropeC_val D (fun n => z D b (512 * T + r.val) (512 + n)) _ 5 _ _ _ r l (fun l => by
      pointwise []
      rw [proj_q H]; all_goals first | rfl | (congr 1; all_goals (simp only []; omega))) (cos_at H r l) (sin_at H r l)
  have h6 : ∀ l : Fin 128, ropeC (extractStridedSlice S512x128 ![0, 768] (run.sl.r_5 (F := Ideal) c i arg3 harg3 arg6 harg6 arg7 harg7 x1 x4 x5) slices_S512x1024_o0_768_S512x128) (run.sl.r_1 (F := Ideal) c arg4 harg4 x2) (run.sl.r_2 (F := Ideal) c arg5 harg5 x3) (ix2 r l) = q D b (512 * T + r.val) (128 * 6 + l.val) := fun l =>
    ropeC_val D (fun n => z D b (512 * T + r.val) (512 + n)) _ 6 _ _ _ r l (fun l => by
      pointwise []
      rw [proj_q H]; all_goals first | rfl | (congr 1; all_goals (simp only []; omega))) (cos_at H r l) (sin_at H r l)
  have h7 : ∀ l : Fin 128, ropeC (extractStridedSlice S512x128 ![0, 896] (run.sl.r_5 (F := Ideal) c i arg3 harg3 arg6 harg6 arg7 harg7 x1 x4 x5) slices_S512x1024_o0_896_S512x128) (run.sl.r_1 (F := Ideal) c arg4 harg4 x2) (run.sl.r_2 (F := Ideal) c arg5 harg5 x3) (ix2 r l) = q D b (512 * T + r.val) (128 * 7 + l.val) := fun l =>
    ropeC_val D (fun n => z D b (512 * T + r.val) (512 + n)) _ 7 _ _ _ r l (fun l => by
      pointwise []
      rw [proj_q H]; all_goals first | rfl | (congr 1; all_goals (simp only []; omega))) (cos_at H r l) (sin_at H r l)
  have e : k0_pay29 k0_pay2 (run.sl.r_1 (F := Ideal) c arg4 harg4 x2) (run.sl.r_2 (F := Ideal) c arg5 harg5 x3) (run.sl.r_5 (F := Ideal) c i arg3 harg3 arg6 harg6 arg7 harg7 x1 x4 x5) (run.sl.r_8 (F := Ideal) c i arg3 harg3 arg4 harg4 arg5 harg5 arg6 harg6 arg7 harg7 x1 x2 x3 x4 x5) (run.sl.r_9 (F := Ideal) c i arg3 harg3 arg4 harg4 arg5 harg5 arg6 harg6 arg7 harg7 x1 x2 x3 x4 x5) (run.sl.r_10 (F := Ideal) c i arg3 harg3 arg4 harg4 arg5 harg5 arg6 harg6 arg7 harg7 x1 x2 x3 x4 x5) (run.sl.r_11 (F := Ideal) c i arg3 harg3 arg4 harg4 arg5 harg5 arg6 harg6 arg7 harg7 x1 x2 x3 x4 x5) (run.sl.r_12 (F := Ideal) c i arg3 harg3 arg4 harg4 arg5 harg5 arg6 harg6 arg7 harg7 x1 x2 x3 x4 x5) (run.sl.r_13 (F := Ideal) c i arg3 harg3 arg4 harg4 arg5 harg5 arg6 harg6 arg7 harg7 x1 x2 x3 x4 x5) (run.sl.r_14 (F := Ideal) c i arg3 harg3 arg6 harg6 arg7 harg7 x1 x4 x5) (run.sl.r_15 (F := Ideal) c i arg3 harg3 arg6 harg6 arg7 harg7 x1 x4 x5) 8#32 = shapeCast S512x1024 (truncf .bf16 (mulf (concatenate S512x1024 1 [⟨S512x128, ropeC (extractStridedSlice S512x128 ![0, 0] (run.sl.r_5 (F := Ideal) c i arg3 harg3 arg6 harg6 arg7 harg7 x1 x4 x5) slices_S512x1024_o0_0_S512x128) (run.sl.r_1 (F := Ideal) c arg4 harg4 x2) (run.sl.r_2 (F := Ideal) c arg5 harg5 x3)⟩, ⟨S512x128, ropeC (extractStridedSlice S512x128 ![0, 128] (run.sl.r_5 (F := Ideal) c i arg3 harg3 arg6 harg6 arg7 harg7 x1 x4 x5) slices_S512x1024_o0_128_S512x128) (run.sl.r_1 (F := Ideal) c arg4 harg4 x2) (run.sl.r_2 (F := Ideal) c arg5 harg5 x3)⟩, ⟨S512x128, ropeC (extractStridedSlice S512x128 ![0, 256] (run.sl.r_5 (F := Ideal) c i arg3 harg3 arg6 harg6 arg7 harg7 x1 x4 x5) slices_S512x1024_o0_256_S512x128) (run.sl.r_1 (F := Ideal) c arg4 harg4 x2) (run.sl.r_2 (F := Ideal) c arg5 harg5 x3)⟩, ⟨S512x128, ropeC (extractStridedSlice S512x128 ![0, 384] (run.sl.r_5 (F := Ideal) c i arg3 harg3 arg6 harg6 arg7 harg7 x1 x4 x5) slices_S512x1024_o0_384_S512x128) (run.sl.r_1 (F := Ideal) c arg4 harg4 x2) (run.sl.r_2 (F := Ideal) c arg5 harg5 x3)⟩, ⟨S512x128, ropeC (extractStridedSlice S512x128 ![0, 512] (run.sl.r_5 (F := Ideal) c i arg3 harg3 arg6 harg6 arg7 harg7 x1 x4 x5) slices_S512x1024_o0_512_S512x128) (run.sl.r_1 (F := Ideal) c arg4 harg4 x2) (run.sl.r_2 (F := Ideal) c arg5 harg5 x3)⟩, ⟨S512x128, ropeC (extractStridedSlice S512x128 ![0, 640] (run.sl.r_5 (F := Ideal) c i arg3 harg3 arg6 harg6 arg7 harg7 x1 x4 x5) slices_S512x1024_o0_640_S512x128) (run.sl.r_1 (F := Ideal) c arg4 harg4 x2) (run.sl.r_2 (F := Ideal) c arg5 harg5 x3)⟩, ⟨S512x128, ropeC (extractStridedSlice S512x128 ![0, 768] (run.sl.r_5 (F := Ideal) c i arg3 harg3 arg6 harg6 arg7 harg7 x1 x4 x5) slices_S512x1024_o0_768_S512x128) (run.sl.r_1 (F := Ideal) c arg4 harg4 x2) (run.sl.r_2 (F := Ideal) c arg5 harg5 x3)⟩, ⟨S512x128, ropeC (extractStridedSlice S512x128 ![0, 896] (run.sl.r_5 (F := Ideal) c i arg3 harg3 arg6 harg6 arg7 harg7 x1 x4 x5) slices_S512x1024_o0_896_S512x128) (run.sl.r_1 (F := Ideal) c arg4 harg4 x2) (run.sl.r_2 (F := Ideal) c arg5 harg5 x3)⟩] concatenates_S512x128_S512x128_S512x128_S512x128_S512x128_S512x128_S512x128_S512x128_S512x1024_d1) (broadcast S512x1024 (Named.named κ "qk_scale" 0x3E38AA3B#32))) bitsLt_bf16_f32) shapeCasts_S512x1024_S512x1024 := by
    have e0 : run.sl.r_8 (F := Ideal) c i arg3 harg3 arg4 harg4 arg5 harg5 arg6 harg6 arg7 harg7 x1 x2 x3 x4 x5 = ropeC (extractStridedSlice S512x128 ![0, 0] (run.sl.r_5 (F := Ideal) c i arg3 harg3 arg6 harg6 arg7 harg7 x1 x4 x5) slices_S512x1024_o0_0_S512x128) (run.sl.r_1 (F := Ideal) c arg4 harg4 x2) (run.sl.r_2 (F := Ideal) c arg5 harg5 x3) := rfl
    have e1 : run.sl.r_9 (F := Ideal) c i arg3 harg3 arg4 harg4 arg5 harg5 arg6 harg6 arg7 harg7 x1 x2 x3 x4 x5 = ropeC (extractStridedSlice S512x128 ![0, 128] (run.sl.r_5 (F := Ideal) c i arg3 harg3 arg6 harg6 arg7 harg7 x1 x4 x5) slices_S512x1024_o0_128_S512x128) (run.sl.r_1 (F := Ideal) c arg4 harg4 x2) (run.sl.r_2 (F := Ideal) c arg5 harg5 x3) := rfl
    have e2 : run.sl.r_10 (F := Ideal) c i arg3 harg3 arg4 harg4 arg5 harg5 arg6 harg6 arg7 harg7 x1 x2 x3 x4 x5 = ropeC (extractStridedSlice S512x128 ![0, 256] (run.sl.r_5 (F := Ideal) c i arg3 harg3 arg6 harg6 arg7 harg7 x1 x4 x5) slices_S512x1024_o0_256_S512x128) (run.sl.r_1 (F := Ideal) c arg4 harg4 x2) (run.sl.r_2 (F := Ideal) c arg5 harg5 x3) := rfl
    have e3 : run.sl.r_11 (F := Ideal) c i arg3 harg3 arg4 harg4 arg5 harg5 arg6 harg6 arg7 harg7 x1 x2 x3 x4 x5 = ropeC (extractStridedSlice S512x128 ![0, 384] (run.sl.r_5 (F := Ideal) c i arg3 harg3 arg6 harg6 arg7 harg7 x1 x4 x5) slices_S512x1024_o0_384_S512x128) (run.sl.r_1 (F := Ideal) c arg4 harg4 x2) (run.sl.r_2 (F := Ideal) c arg5 harg5 x3) := rfl
    have e4 : run.sl.r_12 (F := Ideal) c i arg3 harg3 arg4 harg4 arg5 harg5 arg6 harg6 arg7 harg7 x1 x2 x3 x4 x5 = ropeC (extractStridedSlice S512x128 ![0, 512] (run.sl.r_5 (F := Ideal) c i arg3 harg3 arg6 harg6 arg7 harg7 x1 x4 x5) slices_S512x1024_o0_512_S512x128) (run.sl.r_1 (F := Ideal) c arg4 harg4 x2) (run.sl.r_2 (F := Ideal) c arg5 harg5 x3) := rfl
    have e5 : run.sl.r_13 (F := Ideal) c i arg3 harg3 arg4 harg4 arg5 harg5 arg6 harg6 arg7 harg7 x1 x2 x3 x4 x5 = ropeC (extractStridedSlice S512x128 ![0, 640] (run.sl.r_5 (F := Ideal) c i arg3 harg3 arg6 harg6 arg7 harg7 x1 x4 x5) slices_S512x1024_o0_640_S512x128) (run.sl.r_1 (F := Ideal) c arg4 harg4 x2) (run.sl.r_2 (F := Ideal) c arg5 harg5 x3) := rfl
    rw [e0, e1, e2, e3, e4, e5]
    exact pay29_eq (run.sl.r_1 (F := Ideal) c arg4 harg4 x2) (run.sl.r_2 (F := Ideal) c arg5 harg5 x3) (run.sl.r_5 (F := Ideal) c i arg3 harg3 arg6 harg6 arg7 harg7 x1 x4 x5) _ _ _ _ _ _
  rw [e]
  generalize ropeC (extractStridedSlice S512x128 ![0, 0] (run.sl.r_5 (F := Ideal) c i arg3 harg3 arg6 harg6 arg7 harg7 x1 x4 x5) slices_S512x1024_o0_0_S512x128) (run.sl.r_1 (F := Ideal) c arg4 harg4 x2) (run.sl.r_2 (F := Ideal) c arg5 harg5 x3) = A0 at h0 ⊢
  generalize ropeC (extractStridedSlice S512x128 ![0, 128] (run.sl.r_5 (F := Ideal) c i arg3 harg3 arg6 harg6 arg7 harg7 x1 x4 x5) slices_S512x1024_o0_128_S512x128) (run.sl.r_1 (F := Ideal) c arg4 harg4 x2) (run.sl.r_2 (F := Ideal) c arg5 harg5 x3) = A1 at h1 ⊢
  generalize ropeC (extractStridedSlice S512x128 ![0, 256] (run.sl.r_5 (F := Ideal) c i arg3 harg3 arg6 harg6 arg7 harg7 x1 x4 x5) slices_S512x1024_o0_256_S512x128) (run.sl.r_1 (F := Ideal) c arg4 harg4 x2) (run.sl.r_2 (F := Ideal) c arg5 harg5 x3) = A2 at h2 ⊢
  generalize ropeC (extractStridedSlice S512x128 ![0, 384] (run.sl.r_5 (F := Ideal) c i arg3 harg3 arg6 harg6 arg7 harg7 x1 x4 x5) slices_S512x1024_o0_384_S512x128) (run.sl.r_1 (F := Ideal) c arg4 harg4 x2) (run.sl.r_2 (F := Ideal) c arg5 harg5 x3) = A3 at h3 ⊢
  generalize ropeC (extractStridedSlice S512x128 ![0, 512] (run.sl.r_5 (F := Ideal) c i arg3 harg3 arg6 harg6 arg7 harg7 x1 x4 x5) slices_S512x1024_o0_512_S512x128) (run.sl.r_1 (F := Ideal) c arg4 harg4 x2) (run.sl.r_2 (F := Ideal) c arg5 harg5 x3) = A4 at h4 ⊢
  generalize ropeC (extractStridedSlice S512x128 ![0, 640] (run.sl.r_5 (F := Ideal) c i arg3 harg3 arg6 harg6 arg7 harg7 x1 x4 x5) slices_S512x1024_o0_640_S512x128) (run.sl.r_1 (F := Ideal) c arg4 harg4 x2) (run.sl.r_2 (F := Ideal) c arg5 harg5 x3) = A5 at h5 ⊢
  generalize ropeC (extractStridedSlice S512x128 ![0, 768] (run.sl.r_5 (F := Ideal) c i arg3 harg3 arg6 harg6 arg7 harg7 x1 x4 x5) slices_S512x1024_o0_768_S512x128) (run.sl.r_1 (F := Ideal) c arg4 harg4 x2) (run.sl.r_2 (F := Ideal) c arg5 harg5 x3) = A6 at h6 ⊢
  generalize ropeC (extractStridedSlice S512x128 ![0, 896] (run.sl.r_5 (F := Ideal) c i arg3 harg3 arg6 harg6 arg7 harg7 x1 x4 x5) slices_S512x1024_o0_896_S512x128) (run.sl.r_1 (F := Ideal) c arg4 harg4 x2) (run.sl.r_2 (F := Ideal) c arg5 harg5 x3) = A7 at h7 ⊢
  pointwise []
  have hn : (Named.named (F := Ideal) κ "qk_scale" 0x3E38AA3B#32 : Ideal .f32) = qrate := IdealRules.named_const.ideal_named_scalar _ _ _ _ rfl
  simp only [h0, h1, h2, h3, h4, h5, h6, h7, hn]
  congr 1
  have := n.isLt
  split_ifs <;> (congr 1; omega)

theorem list7 (H : Inputs D b T x0 x1 x2 x3 x4 x5 x6 x7 x8 x9 x10) :
    Agree (run.sl.HS7_1 (F := Ideal) c i arg3 harg3 arg4 harg4 arg5 harg5 arg6 harg6 arg7 harg7 x1 x2 x3 x4 x5) (fun y => q D b (512 * T + (y 0).val) (y 1).val * qrate) := by
  refine .cons (fun x => ?_) (.nil _)
  obtain ⟨r, n, rfl⟩ : ∃ (r : Fin 512) (n : Fin 1024), x = ix2 r n := ⟨x 0, x 1, eq_ix2 x⟩
  refine (rq_at H r n).trans ?_
  show _ = q D b (512 * T + (0 + 1 * r.val)) (0 + 1 * n.val) * qrate
  simp only [zero_add, one_mul]

/-- The pool's inputs, after 24 rows carried. -/
theorem list4 (H : Inputs D b T x0 x1 x2 x3 x4 x5 x6 x7 x8 x9 x10) :
    Agree (run.sl.HS4_1 (F := Ideal) c i arg3 harg3 arg6 harg6 arg7 harg7 x1 x4 x5) (fun y => ext D b (512 * T + (y 0).val) (y 1).val) := by
  refine .cons (fun x => ?_) (.nil _)
  obtain ⟨r, n, rfl⟩ : ∃ (r : Fin 512) (n : Fin 512), x = ix2 r n := ⟨x 0, x 1, eq_ix2 x⟩
  show _ = ext D b (512 * T + (24 + 1 * r.val)) (0 + 1 * n.val)
  pointwise [k0_pay599]
  rw [ru_at H]
  unfold ext
  rw [if_neg (by omega)]
  congr 1 <;> omega

/-! ## Keys and values, in two halves of a row -/

/-- Row `R` of the keys with the 128 rows of the block before, and of the values. -/
def KX (D : Data) (b R n : ℕ) : EReal := if R < 128 then 0 else k D b (R - 128) n
def VX (D : Data) (b R n : ℕ) : EReal := if R < 128 then 0 else v D b (R - 128) n

def G0 (D : Data) (b T : ℕ) (y : S4x640x128.Idx) : EReal := if (y 2).val < 64 then KX D b (512 * T + (y 1).val) (64 * (y 0).val + (y 2).val) else 0
def G1 (D : Data) (b T : ℕ) (y : S4x640x128.Idx) : EReal := if (y 2).val < 64 then 0 else KX D b (512 * T + (y 1).val) (64 * (y 0).val + ((y 2).val - 64))
def G2 (D : Data) (b T : ℕ) (y : S4x640x128.Idx) : EReal := if (y 2).val < 64 then VX D b (512 * T + (y 1).val) (64 * (y 0).val + (y 2).val) else 0
def G3 (D : Data) (b T : ℕ) (y : S4x640x128.Idx) : EReal := if (y 2).val < 64 then 0 else VX D b (512 * T + (y 1).val) (64 * (y 0).val + ((y 2).val - 64))

theorem G0_new (D : Data) (b T h : ℕ) (r : Fin 512) (l : Fin 128) (y : S4x640x128.Idx) (h0 : (y 0).val = h) (h1 : (y 1).val = 128 + r.val) (h2 : (y 2).val = l.val) :
    G0 D b T y = if l.val < 64 then k D b (512 * T + r.val) (64 * h + l.val) else 0 := by
  unfold G0 KX
  rw [h0, h1, h2, if_neg (by omega : ¬ 512 * T + (128 + r.val) < 128), (by omega : 512 * T + (128 + r.val) - 128 = 512 * T + r.val)]

theorem G1_new (D : Data) (b T h : ℕ) (r : Fin 512) (l : Fin 128) (y : S4x640x128.Idx) (h0 : (y 0).val = h) (h1 : (y 1).val = 128 + r.val) (h2 : (y 2).val = l.val) :
    G1 D b T y = if l.val < 64 then 0 else k D b (512 * T + r.val) (64 * h + (l.val - 64)) := by
  unfold G1 KX
  rw [h0, h1, h2, if_neg (by omega : ¬ 512 * T + (128 + r.val) < 128), (by omega : 512 * T + (128 + r.val) - 128 = 512 * T + r.val)]

theorem G2_new (D : Data) (b T h : ℕ) (r : Fin 512) (l : Fin 128) (y : S4x640x128.Idx) (h0 : (y 0).val = h) (h1 : (y 1).val = 128 + r.val) (h2 : (y 2).val = l.val) :
    G2 D b T y = if l.val < 64 then v D b (512 * T + r.val) (64 * h + l.val) else 0 := by
  unfold G2 VX
  rw [h0, h1, h2, if_neg (by omega : ¬ 512 * T + (128 + r.val) < 128), (by omega : 512 * T + (128 + r.val) - 128 = 512 * T + r.val)]

theorem G3_new (D : Data) (b T h : ℕ) (r : Fin 512) (l : Fin 128) (y : S4x640x128.Idx) (h0 : (y 0).val = h) (h1 : (y 1).val = 128 + r.val) (h2 : (y 2).val = l.val) :
    G3 D b T y = if l.val < 64 then 0 else v D b (512 * T + r.val) (64 * h + (l.val - 64)) := by
  unfold G3 VX
  rw [h0, h1, h2, if_neg (by omega : ¬ 512 * T + (128 + r.val) < 128), (by omega : 512 * T + (128 + r.val) - 128 = 512 * T + r.val)]

theorem list0 (H : Inputs D b T x0 x1 x2 x3 x4 x5 x6 x7 x8 x9 x10) : Agree (run.sl.HS0_4 (F := Ideal) c i arg3 harg3 arg4 harg4 arg5 harg5 arg6 harg6 arg7 harg7 x1 x2 x3 x4 x5) (G0 D b T) := by
  unfold run.sl.HS0_4
  refine .cons (fun x => ?_) (.cons (fun x => ?_) (.cons (fun x => ?_) (.cons (fun x => ?_) (.nil _))))
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G0_new D b T 3 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G0_new D b T 2 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G0_new D b T 1 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G0_new D b T 0 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)

theorem list1 (H : Inputs D b T x0 x1 x2 x3 x4 x5 x6 x7 x8 x9 x10) : Agree (run.sl.HS1_4 (F := Ideal) c i arg3 harg3 arg4 harg4 arg5 harg5 arg6 harg6 arg7 harg7 x1 x2 x3 x4 x5) (G1 D b T) := by
  unfold run.sl.HS1_4
  refine .cons (fun x => ?_) (.cons (fun x => ?_) (.cons (fun x => ?_) (.cons (fun x => ?_) (.nil _))))
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G1_new D b T 3 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G1_new D b T 2 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G1_new D b T 1 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G1_new D b T 0 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rk_at H _ _).trans ?_; congr 1; all_goals (simp only []; omega))
        | (refine (rk_at H _ _).trans ?_; congr 1; all_goals omega)
    · rw [if_neg hl, if_neg hl]
      all_goals have := l.isLt
      all_goals first
        | exact ofBits_zero
        | (refine (rk_at H _ _).trans ?_; congr 1; all_goals (simp only []; omega))
        | (refine (rk_at H _ _).trans ?_; congr 1; all_goals omega)

theorem list2 (H : Inputs D b T x0 x1 x2 x3 x4 x5 x6 x7 x8 x9 x10) : Agree (run.sl.HS2_4 (F := Ideal) c i arg3 harg3 arg6 harg6 arg7 harg7 x1 x4 x5) (G2 D b T) := by
  unfold run.sl.HS2_4
  refine .cons (fun x => ?_) (.cons (fun x => ?_) (.cons (fun x => ?_) (.cons (fun x => ?_) (.nil _))))
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G2_new D b T 3 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G2_new D b T 2 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G2_new D b T 1 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G2_new D b T 0 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)

theorem list3 (H : Inputs D b T x0 x1 x2 x3 x4 x5 x6 x7 x8 x9 x10) : Agree (run.sl.HS3_4 (F := Ideal) c i arg3 harg3 arg6 harg6 arg7 harg7 x1 x4 x5) (G3 D b T) := by
  unfold run.sl.HS3_4
  refine .cons (fun x => ?_) (.cons (fun x => ?_) (.cons (fun x => ?_) (.cons (fun x => ?_) (.nil _))))
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G3_new D b T 3 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G3_new D b T 2 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G3_new D b T 1 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)
  · obtain ⟨o, r, l, rfl⟩ : ∃ (o : Fin 1) (r : Fin 512) (l : Fin 128), x = ix3 o r l := ⟨x 0, x 1, x 2, eq_ix3 x⟩
    obtain rfl : o = 0 := Subsingleton.elim _ _
    refine Eq.trans ?_ (G3_new D b T 0 r l _ rfl (by show 128 + 1 * r.val = _; omega) (by show 0 + 1 * l.val = _; omega)).symm
    rw [← select_if, ← mask64_at]
    pointwise [run.sl.r_17, run.sl.r_18, run.sl.r_19, run.sl.r_20, run.sl.r_21, run.sl.r_22, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
    rw [mask64_at, select_if, select_if]
    by_cases hl : l.val < 64
    · rw [if_pos hl, if_pos hl]
      all_goals first
        | exact ofBits_zero
        | (refine (rv_at H _ _).trans ?_; congr 1; all_goals (simp only []; omega))
        | (refine (rv_at H _ _).trans ?_; congr 1; all_goals omega)
    · rw [if_neg hl, if_neg hl]
      all_goals have := l.isLt
      all_goals first
        | exact ofBits_zero
        | (refine (rv_at H _ _).trans ?_; congr 1; all_goals (simp only []; omega))
        | (refine (rv_at H _ _).trans ?_; congr 1; all_goals omega)

end Cert.Mixer

end
-- ==== Proof.Mixer.Soft.lean ====
/-
  The two ways a softmax with a sink is written: with powers of two of scores scaled by the reciprocal of the logarithm of
  two and one division at the end, and with every weight divided. Both are the average `avg`, where the sink is a finite
  number and no score is the infinity above.
-/
module

public import proofs.«01_k».proof.Proof.Mixer.Layer

@[expose] public section

noncomputable section

namespace Cert.Mixer

open Idealize.ShloMosaic
open Cert.Attn (Num)

/-- A finite number or the infinity below. -/
def Low (x : EReal) : Prop := x = ⊥ ∨ Num x

theorem Low.lift {x : EReal} (h : Low x) : x = ⊥ ∨ ∃ r : ℝ, x = (r : EReal) := h.imp id Num.lift
theorem Low.lt_top {x : EReal} (h : Low x) : x < ⊤ := by
  rcases h with rfl | h
  · exact bot_lt_top
  · exact lt_top_iff_ne_top.2 h.1

theorem top_num {n : ℕ} {s : Fin n → EReal} {sink : EReal} (hs : ∀ c, Low (s c)) (hk : Num sink) : Num (top s sink) := by
  constructor
  · rw [← lt_top_iff_ne_top]
    refine max_lt ?_ (lt_top_iff_ne_top.2 hk.1)
    rw [Finset.sup_lt_iff bot_lt_top]
    exact fun x _ => (hs x).lt_top
  · rw [← bot_lt_iff_ne_bot]
    exact lt_of_lt_of_le (bot_lt_iff_ne_bot.2 hk.2) (le_max_right _ _)

/-- The factor of the scores. -/
def rate : EReal := (((Real.log 2)⁻¹ : ℝ) : EReal)

theorem rate_pos : 0 < (Real.log 2)⁻¹ := inv_pos.2 (Real.log_pos (by norm_num))

theorem rate_mono : Monotone fun x : EReal => x * rate := fun x y h =>
  mul_le_mul_of_nonneg_right h (by unfold rate; exact_mod_cast rate_pos.le)

theorem bot_rate : (⊥ : EReal) * rate = ⊥ := EReal.bot_mul_coe_of_pos rate_pos

/-- A power of two of a scaled difference is an exponential. -/
theorem exp2_scaled {x y : EReal} (hx : Low x) (hy : Num y) : Ideal.exp2 (x * rate - y * rate) = Ideal.exp (x - y) := by
  obtain ⟨y, rfl⟩ := hy.lift
  have hz : (y : EReal) * rate = ((y * (Real.log 2)⁻¹ : ℝ) : EReal) := by unfold rate; rw [EReal.coe_mul]
  rcases hx.lift with rfl | ⟨x, rfl⟩
  · rw [bot_rate, hz, EReal.bot_sub, EReal.bot_sub]
    rfl
  · rw [hz, show (x : EReal) * rate = ((x * (Real.log 2)⁻¹ : ℝ) : EReal) by unfold rate; rw [EReal.coe_mul],
      ← EReal.coe_sub, ← EReal.coe_sub]
    show ((Real.rpow 2 _ : ℝ) : EReal) = ((Real.exp (x - y) : ℝ) : EReal)
    congr 1
    rw [Real.rpow_eq_pow, Real.rpow_def_of_pos (by norm_num)]
    congr 1
    have h := (Real.log_pos (show (1 : ℝ) < 2 by norm_num)).ne'
    field_simp

theorem top_scaled {n : ℕ} (s : Fin n → EReal) (sink : EReal) : top (fun c => s c * rate) (sink * rate) = top s sink * rate := by
  unfold top
  rw [show (max (Finset.univ.sup s) sink) * rate = max (Finset.univ.sup s * rate) (sink * rate) from rate_mono.map_max]
  congr 1
  exact (Finset.comp_sup_eq_sup_comp_of_is_total (fun x : EReal => x * rate) rate_mono bot_rate).symm

/-- The average with powers of two. -/
theorem avg_scaled {n : ℕ} {s : Fin n → EReal} {sink : EReal} (hs : ∀ c, Low (s c)) (hk : Num sink) (v : Fin n → EReal) :
    Ideal.div (∑ c, Ideal.exp2 (s c * rate - top (fun c => s c * rate) (sink * rate)) * v c)
      (∑ c, Ideal.exp2 (s c * rate - top (fun c => s c * rate) (sink * rate)) + Ideal.exp2 (sink * rate - top (fun c => s c * rate) (sink * rate)))
      = avg s sink v := by
  have hm := top_num hs hk
  unfold avg
  rw [top_scaled]
  simp only [exp2_scaled (hs _) hm, exp2_scaled (Or.inr hk) hm]

/-- An exponential of such a difference is a number, not below zero. -/
theorem exp_low {a b : EReal} (ha : Low a) (hb : Num b) : ∃ r : ℝ, 0 ≤ r ∧ Ideal.exp (a - b) = (r : EReal) := by
  rcases ha with rfl | ha
  · refine ⟨0, le_refl _, ?_⟩
    rw [EReal.bot_sub]
    rfl
  · obtain ⟨r, h, e⟩ := Attn.exp_sub_fin ha hb
    exact ⟨r, h.le, e⟩

/-- The average with every weight divided. -/
theorem avg_divided {n : ℕ} {s : Fin n → EReal} {sink : EReal} (hs : ∀ c, Low (s c)) (hk : Num sink) (v : Fin n → EReal) :
    ∑ c, Ideal.div (Ideal.exp (s c - top s sink)) (∑ c, Ideal.exp (s c - top s sink) + Ideal.exp (sink - top s sink)) * v c
      = avg s sink v := by
  have hM := top_num hs hk
  unfold avg
  choose r hr0 hr using fun c => exp_low (hs c) hM
  obtain ⟨t, ht0, ht⟩ := Attn.exp_sub_fin hk hM
  have hd : ∑ c, Ideal.exp (s c - top s sink) + Ideal.exp (sink - top s sink) = ((∑ c, r c + t : ℝ) : EReal) := by
    rw [ht, EReal.coe_add, Attn.coe_sum]
    congr 1
    exact Finset.sum_congr rfl fun w _ => by rw [hr]
  rw [hd, Attn.div_sum _ _ _ (add_pos_of_nonneg_of_pos (Finset.sum_nonneg fun w _ => hr0 w) ht0)]

/-- Two runs of keys of which each place counts once: the sums, -/
theorem sum_two {n : ℕ} (P : Fin n → Prop) [DecidablePred P] (e : Fin n → EReal) (f g : Fin n → EReal) :
    ∑ c, (if P c then e c else 0) * f c + ∑ c, (if P c then 0 else e c) * g c = ∑ c, e c * (if P c then f c else g c) := by
  rw [← Finset.sum_add_distrib]
  refine Finset.sum_congr rfl fun c _ => ?_
  by_cases h : P c <;> simp [h]

end Cert.Mixer

end
-- ==== Proof.Mixer.Window.lean ====
/-
  Reading keys, values and queries back from their buffers, and the scores of a block from what is read.
-/
module

public import proofs.«01_k».proof.Proof.Mixer.Scratch
public import proofs.«01_k».proof.Proof.Mixer.Soft

@[expose] public section

set_option maxRecDepth 16384

noncomputable section

namespace Cert.Mixer

open Cert.Kernel3Ideal Cert.Kernel3Ideal.Gen
open Idealize.ShloMosaic Idealize.ShloMosaic.TcCoe Idealize.SL.Sem
variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

/-- The buffers as a step finds them: in the rows before its own, what the step before left. -/
structure Start (D : Data) (b T : ℕ) (xs0 xs1 xs2 xs3 : Vec Ideal S4x640x128 .bf16) (xs4 : Vec Ideal S536x512 .f32) : Prop where
  s0 : ∀ y : S4x640x128.Idx, (y 1).val < 128 → xs0 y = G0 D b T y
  s1 : ∀ y : S4x640x128.Idx, (y 1).val < 128 → xs1 y = G1 D b T y
  s2 : ∀ y : S4x640x128.Idx, (y 1).val < 128 → xs2 y = G2 D b T y
  s3 : ∀ y : S4x640x128.Idx, (y 1).val < 128 → xs3 y = G3 D b T y
  s4 : ∀ y : S536x512.Idx, (y 0).val < 24 → xs4 y = ext D b (512 * T + (y 0).val) (y 1).val

theorem q_read (H : Inputs D b T x0 x1 x2 x3 x4 x5 x6 x7 x8 x9 x10) (o : Fin 2 → ℕ) (inb) (x d : Fin 128) :
    arg38.view.readCov (run.sl.HS7_1 (F := Ideal) c i arg3 harg3 arg4 harg4 arg5 harg5 arg6 harg6 arg7 harg7 x1 x2 x3 x4 x5) (Rect.unit o S128x128.size inb : Rect S512x1024).toLoadRect (ix2 x d) = q D b (512 * T + o 0 + x.val) (o 1 + d.val) * qrate := by
  refine ((list7 H).readCov _ _ _ ⟨_, List.mem_singleton_self _, ?_⟩).trans ?_
  · refine (Rect.mem_set_unit (inb := inb_S512x1024_S512x1024_0_0)).2 fun a => ⟨?_, ?_⟩
    · match a with
      | ⟨0, _⟩ => exact Nat.zero_le _
      | ⟨1, _⟩ => exact Nat.zero_le _
    · match a with
      | ⟨0, _⟩ => exact lt_of_lt_of_eq (Fin.isLt _) (Nat.zero_add _).symm
      | ⟨1, _⟩ => exact lt_of_lt_of_eq (Fin.isLt _) (Nat.zero_add _).symm
  · show q D b (512 * T + (o 0 + 1 * x.val)) (o 1 + 1 * d.val) * qrate = _
    simp only [one_mul, Nat.add_assoc]

theorem mem0 (y : S4x640x128.Idx) (h : 128 ≤ (y 1).val) : ∃ p ∈ run.sl.HS0_4 (F := Ideal) c i arg3 harg3 arg4 harg4 arg5 harg5 arg6 harg6 arg7 harg7 x1 x2 x3 x4 x5, y ∈ p.1.set := by
  have h0 : (y 0).val < 4 := (y 0).isLt
  have h1 : (y 1).val < 640 := (y 1).isLt
  have h2 : (y 2).val < 128 := (y 2).isLt
  unfold run.sl.HS0_4
  obtain e | e | e | e : (y 0).val = 3 ∨ (y 0).val = 2 ∨ (y 0).val = 1 ∨ (y 0).val = 0 := by omega
  · refine ⟨_, List.mem_cons_self, ?_⟩
    refine (Rect.mem_set_unit (inb := inb_S4x640x128_S1x512x128_3_128_0)).2 fun a => ?_
    match a with
    | ⟨0, _⟩ => exact ⟨by show 3 ≤ (y 0).val; omega, by show (y 0).val < 3 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ List.mem_cons_self, ?_⟩
    refine (Rect.mem_set_unit (inb := inb_S4x640x128_S1x512x128_2_128_0)).2 fun a => ?_
    match a with
    | ⟨0, _⟩ => exact ⟨by show 2 ≤ (y 0).val; omega, by show (y 0).val < 2 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ List.mem_cons_self), ?_⟩
    refine (Rect.mem_set_unit (inb := inb_S4x640x128_S1x512x128_1_128_0)).2 fun a => ?_
    match a with
    | ⟨0, _⟩ => exact ⟨by show 1 ≤ (y 0).val; omega, by show (y 0).val < 1 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ (List.mem_cons_of_mem _ List.mem_cons_self)), ?_⟩
    refine (Rect.mem_set_unit (inb := inb_S4x640x128_S1x512x128_0_128_0)).2 fun a => ?_
    match a with
    | ⟨0, _⟩ => exact ⟨by show 0 ≤ (y 0).val; omega, by show (y 0).val < 0 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩

theorem cov0 (H : Inputs D b T x0 x1 x2 x3 x4 x5 x6 x7 x8 x9 x10) (B : LoadRect S4x640x128) (j : B.shape.Idx) (h : 128 ≤ (B.idx j 1).val) :
    arg31.view.readCov (run.sl.HS0_4 (F := Ideal) c i arg3 harg3 arg4 harg4 arg5 harg5 arg6 harg6 arg7 harg7 x1 x2 x3 x4 x5) B j = G0 D b T (B.idx j) :=
  (list0 H).readCov _ B j (mem0 _ h)

theorem win0 (H : Inputs D b T x0 x1 x2 x3 x4 x5 x6 x7 x8 x9 x10) (S : Start D b T xs0 xs1 xs2 xs3 xs4) (B : LoadRect S4x640x128) (j : B.shape.Idx) :
    arg31.view.readAt (Elt Ideal) B (arg31.view.writes (Elt Ideal) (harg31.unread xs0) (run.sl.HS0_4 (F := Ideal) c i arg3 harg3 arg4 harg4 arg5 harg5 arg6 harg6 arg7 harg7 x1 x2 x3 x4 x5)) j = G0 D b T (B.idx j) := by
  refine (list0 H).readAt _ _ B j ?_
  by_cases h : 128 ≤ (B.idx j 1).val
  · exact Or.inl (mem0 _ h)
  · exact Or.inr ((congrFun (harg31.read_unread xs0) _).trans (S.s0 _ (by omega)))

theorem mem1 (y : S4x640x128.Idx) (h : 128 ≤ (y 1).val) : ∃ p ∈ run.sl.HS1_4 (F := Ideal) c i arg3 harg3 arg4 harg4 arg5 harg5 arg6 harg6 arg7 harg7 x1 x2 x3 x4 x5, y ∈ p.1.set := by
  have h0 : (y 0).val < 4 := (y 0).isLt
  have h1 : (y 1).val < 640 := (y 1).isLt
  have h2 : (y 2).val < 128 := (y 2).isLt
  unfold run.sl.HS1_4
  obtain e | e | e | e : (y 0).val = 3 ∨ (y 0).val = 2 ∨ (y 0).val = 1 ∨ (y 0).val = 0 := by omega
  · refine ⟨_, List.mem_cons_self, ?_⟩
    refine (Rect.mem_set_unit (inb := inb_S4x640x128_S1x512x128_3_128_0)).2 fun a => ?_
    match a with
    | ⟨0, _⟩ => exact ⟨by show 3 ≤ (y 0).val; omega, by show (y 0).val < 3 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ List.mem_cons_self, ?_⟩
    refine (Rect.mem_set_unit (inb := inb_S4x640x128_S1x512x128_2_128_0)).2 fun a => ?_
    match a with
    | ⟨0, _⟩ => exact ⟨by show 2 ≤ (y 0).val; omega, by show (y 0).val < 2 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ List.mem_cons_self), ?_⟩
    refine (Rect.mem_set_unit (inb := inb_S4x640x128_S1x512x128_1_128_0)).2 fun a => ?_
    match a with
    | ⟨0, _⟩ => exact ⟨by show 1 ≤ (y 0).val; omega, by show (y 0).val < 1 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ (List.mem_cons_of_mem _ List.mem_cons_self)), ?_⟩
    refine (Rect.mem_set_unit (inb := inb_S4x640x128_S1x512x128_0_128_0)).2 fun a => ?_
    match a with
    | ⟨0, _⟩ => exact ⟨by show 0 ≤ (y 0).val; omega, by show (y 0).val < 0 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩

theorem cov1 (H : Inputs D b T x0 x1 x2 x3 x4 x5 x6 x7 x8 x9 x10) (B : LoadRect S4x640x128) (j : B.shape.Idx) (h : 128 ≤ (B.idx j 1).val) :
    arg32.view.readCov (run.sl.HS1_4 (F := Ideal) c i arg3 harg3 arg4 harg4 arg5 harg5 arg6 harg6 arg7 harg7 x1 x2 x3 x4 x5) B j = G1 D b T (B.idx j) :=
  (list1 H).readCov _ B j (mem1 _ h)

theorem win1 (H : Inputs D b T x0 x1 x2 x3 x4 x5 x6 x7 x8 x9 x10) (S : Start D b T xs0 xs1 xs2 xs3 xs4) (B : LoadRect S4x640x128) (j : B.shape.Idx) :
    arg32.view.readAt (Elt Ideal) B (arg32.view.writes (Elt Ideal) (harg32.unread xs1) (run.sl.HS1_4 (F := Ideal) c i arg3 harg3 arg4 harg4 arg5 harg5 arg6 harg6 arg7 harg7 x1 x2 x3 x4 x5)) j = G1 D b T (B.idx j) := by
  refine (list1 H).readAt _ _ B j ?_
  by_cases h : 128 ≤ (B.idx j 1).val
  · exact Or.inl (mem1 _ h)
  · exact Or.inr ((congrFun (harg32.read_unread xs1) _).trans (S.s1 _ (by omega)))

theorem mem2 (y : S4x640x128.Idx) (h : 128 ≤ (y 1).val) : ∃ p ∈ run.sl.HS2_4 (F := Ideal) c i arg3 harg3 arg6 harg6 arg7 harg7 x1 x4 x5, y ∈ p.1.set := by
  have h0 : (y 0).val < 4 := (y 0).isLt
  have h1 : (y 1).val < 640 := (y 1).isLt
  have h2 : (y 2).val < 128 := (y 2).isLt
  unfold run.sl.HS2_4
  obtain e | e | e | e : (y 0).val = 3 ∨ (y 0).val = 2 ∨ (y 0).val = 1 ∨ (y 0).val = 0 := by omega
  · refine ⟨_, List.mem_cons_self, ?_⟩
    refine (Rect.mem_set_unit (inb := inb_S4x640x128_S1x512x128_3_128_0)).2 fun a => ?_
    match a with
    | ⟨0, _⟩ => exact ⟨by show 3 ≤ (y 0).val; omega, by show (y 0).val < 3 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ List.mem_cons_self, ?_⟩
    refine (Rect.mem_set_unit (inb := inb_S4x640x128_S1x512x128_2_128_0)).2 fun a => ?_
    match a with
    | ⟨0, _⟩ => exact ⟨by show 2 ≤ (y 0).val; omega, by show (y 0).val < 2 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ List.mem_cons_self), ?_⟩
    refine (Rect.mem_set_unit (inb := inb_S4x640x128_S1x512x128_1_128_0)).2 fun a => ?_
    match a with
    | ⟨0, _⟩ => exact ⟨by show 1 ≤ (y 0).val; omega, by show (y 0).val < 1 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ (List.mem_cons_of_mem _ List.mem_cons_self)), ?_⟩
    refine (Rect.mem_set_unit (inb := inb_S4x640x128_S1x512x128_0_128_0)).2 fun a => ?_
    match a with
    | ⟨0, _⟩ => exact ⟨by show 0 ≤ (y 0).val; omega, by show (y 0).val < 0 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩

theorem cov2 (H : Inputs D b T x0 x1 x2 x3 x4 x5 x6 x7 x8 x9 x10) (B : LoadRect S4x640x128) (j : B.shape.Idx) (h : 128 ≤ (B.idx j 1).val) :
    arg33.view.readCov (run.sl.HS2_4 (F := Ideal) c i arg3 harg3 arg6 harg6 arg7 harg7 x1 x4 x5) B j = G2 D b T (B.idx j) :=
  (list2 H).readCov _ B j (mem2 _ h)

theorem win2 (H : Inputs D b T x0 x1 x2 x3 x4 x5 x6 x7 x8 x9 x10) (S : Start D b T xs0 xs1 xs2 xs3 xs4) (B : LoadRect S4x640x128) (j : B.shape.Idx) :
    arg33.view.readAt (Elt Ideal) B (arg33.view.writes (Elt Ideal) (harg33.unread xs2) (run.sl.HS2_4 (F := Ideal) c i arg3 harg3 arg6 harg6 arg7 harg7 x1 x4 x5)) j = G2 D b T (B.idx j) := by
  refine (list2 H).readAt _ _ B j ?_
  by_cases h : 128 ≤ (B.idx j 1).val
  · exact Or.inl (mem2 _ h)
  · exact Or.inr ((congrFun (harg33.read_unread xs2) _).trans (S.s2 _ (by omega)))

theorem mem3 (y : S4x640x128.Idx) (h : 128 ≤ (y 1).val) : ∃ p ∈ run.sl.HS3_4 (F := Ideal) c i arg3 harg3 arg6 harg6 arg7 harg7 x1 x4 x5, y ∈ p.1.set := by
  have h0 : (y 0).val < 4 := (y 0).isLt
  have h1 : (y 1).val < 640 := (y 1).isLt
  have h2 : (y 2).val < 128 := (y 2).isLt
  unfold run.sl.HS3_4
  obtain e | e | e | e : (y 0).val = 3 ∨ (y 0).val = 2 ∨ (y 0).val = 1 ∨ (y 0).val = 0 := by omega
  · refine ⟨_, List.mem_cons_self, ?_⟩
    refine (Rect.mem_set_unit (inb := inb_S4x640x128_S1x512x128_3_128_0)).2 fun a => ?_
    match a with
    | ⟨0, _⟩ => exact ⟨by show 3 ≤ (y 0).val; omega, by show (y 0).val < 3 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ List.mem_cons_self, ?_⟩
    refine (Rect.mem_set_unit (inb := inb_S4x640x128_S1x512x128_2_128_0)).2 fun a => ?_
    match a with
    | ⟨0, _⟩ => exact ⟨by show 2 ≤ (y 0).val; omega, by show (y 0).val < 2 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ List.mem_cons_self), ?_⟩
    refine (Rect.mem_set_unit (inb := inb_S4x640x128_S1x512x128_1_128_0)).2 fun a => ?_
    match a with
    | ⟨0, _⟩ => exact ⟨by show 1 ≤ (y 0).val; omega, by show (y 0).val < 1 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩
  · refine ⟨_, List.mem_cons_of_mem _ (List.mem_cons_of_mem _ (List.mem_cons_of_mem _ List.mem_cons_self)), ?_⟩
    refine (Rect.mem_set_unit (inb := inb_S4x640x128_S1x512x128_0_128_0)).2 fun a => ?_
    match a with
    | ⟨0, _⟩ => exact ⟨by show 0 ≤ (y 0).val; omega, by show (y 0).val < 0 + 1; omega⟩
    | ⟨1, _⟩ => exact ⟨by show 128 ≤ (y 1).val; omega, by show (y 1).val < 128 + 512; omega⟩
    | ⟨2, _⟩ => exact ⟨by show 0 ≤ (y 2).val; omega, by show (y 2).val < 0 + 128; omega⟩

theorem cov3 (H : Inputs D b T x0 x1 x2 x3 x4 x5 x6 x7 x8 x9 x10) (B : LoadRect S4x640x128) (j : B.shape.Idx) (h : 128 ≤ (B.idx j 1).val) :
    arg34.view.readCov (run.sl.HS3_4 (F := Ideal) c i arg3 harg3 arg6 harg6 arg7 harg7 x1 x4 x5) B j = G3 D b T (B.idx j) :=
  (list3 H).readCov _ B j (mem3 _ h)

theorem win3 (H : Inputs D b T x0 x1 x2 x3 x4 x5 x6 x7 x8 x9 x10) (S : Start D b T xs0 xs1 xs2 xs3 xs4) (B : LoadRect S4x640x128) (j : B.shape.Idx) :
    arg34.view.readAt (Elt Ideal) B (arg34.view.writes (Elt Ideal) (harg34.unread xs3) (run.sl.HS3_4 (F := Ideal) c i arg3 harg3 arg6 harg6 arg7 harg7 x1 x4 x5)) j = G3 D b T (B.idx j) := by
  refine (list3 H).readAt _ _ B j ?_
  by_cases h : 128 ≤ (B.idx j 1).val
  · exact Or.inl (mem3 _ h)
  · exact Or.inr ((congrFun (harg34.read_unread xs3) _).trans (S.s3 _ (by omega)))

end Cert.Mixer

end
-- ==== Proof.Mixer.ScoreRow.lean ====
/-
  A block of scores from a block of queries and the keys of two blocks.
-/
module

public import proofs.«01_k».proof.Proof.Mixer.Scratch
public import proofs.«01_k».proof.Proof.Mixer.Soft

@[expose] public section

set_option maxRecDepth 16384

noncomputable section

namespace Cert.Mixer

open Cert.Kernel3Ideal Cert.Kernel3Ideal.Gen
open Idealize.ShloMosaic Idealize.ShloMosaic.TcCoe Idealize.SL.Sem

theorem after (x c : Fin 128) : IntOp.cmpi CmpIPredicate.sgt (BitVec.ofNat 32 c.val) (BitVec.ofNat 32 x.val) = if x.val < c.val then 1#1 else 0#1 := by
  revert x c; decide +kernel

theorem mul_sum_pos {n : ℕ} (c : ℝ) (hc : 0 ≤ c) (f : Fin n → EReal) : ∑ d, f d * (c : EReal) = (∑ d, f d) * (c : EReal) := by
  induction n with
  | zero => simp
  | succ n ih =>
    rw [Fin.sum_univ_castSucc, Fin.sum_univ_castSucc, ih, EReal.right_distrib_of_nonneg_of_ne_top (by exact_mod_cast hc) (EReal.coe_ne_top _)]

/-- The product of a query, with the kernel's factor, and a key of which half a row is zeros. -/
theorem dot_half (Q : ℕ → EReal) (K : ℕ → EReal) (half : Fin 2) :
    (∑ d : Fin 128, (Q d.val * qrate) * (if half.val = 0 then (if d.val < 64 then K d.val else 0) else (if d.val < 64 then 0 else K (d.val - 64))))
      = (∑ d : Fin 64, Q (64 * half.val + d.val) * K d.val) * ((1 / 8 : ℝ) : EReal) * rate := by
  have e : qrate = ((1 / 8 : ℝ) : EReal) * rate := by unfold qrate rate; rw [← EReal.coe_mul]
  have hs : ∀ f : Fin 64 → EReal, (∑ d, f d) * ((1 / 8 : ℝ) : EReal) * rate = ∑ d, f d * qrate := fun f => by
    unfold qrate
    rw [mul_sum_pos _ (mul_nonneg (by norm_num) rate_pos.le), mul_assoc]
    rfl
  rw [hs]
  rw [show (128 : ℕ) = 64 + 64 from rfl, Fin.sum_univ_add]
  fin_cases half
  · simp only [Fin.val_castAdd, Fin.val_natAdd, Fin.is_lt, if_true, show ∀ x : Fin 64, ¬ (64 + x.val < 64) from fun x => by omega, if_false, mul_zero, Finset.sum_const_zero, add_zero, zero_add]
    exact Finset.sum_congr rfl fun d _ => by rw [mul_assoc, mul_comm qrate, ← mul_assoc]
  · simp only [Fin.val_castAdd, Fin.val_natAdd, Fin.is_lt, if_true, show ∀ x : Fin 64, ¬ (64 + x.val < 64) from fun x => by omega, if_false, mul_zero, Finset.sum_const_zero, add_zero, zero_add, one_ne_zero, mul_one, Nat.add_sub_cancel_left]
    exact Finset.sum_congr rfl fun d _ => by rw [mul_assoc, mul_comm qrate, ← mul_assoc]

/-- The score of query `x` of block `j` and key `c`, from the query and its key's row, -/
theorem score_of (D : Data) (b T j kh a : ℕ) (half : Fin 2) (x c : Fin 128) (ha : a < 2)
    (A : Fin 128 → EReal) (K : Fin 128 → EReal) (hA : ∀ d, A d = q D b (512 * T + 128 * j + x.val) (128 * (2 * kh + a) + d.val) * qrate)
    (hK : ∀ d, K d = if half.val = 0 then (if d.val < 64 then KX D b (512 * T + 128 * j + (if x.val < c.val then c.val else 128 + c.val)) (64 * kh + d.val) else 0)
      else (if d.val < 64 then 0 else KX D b (512 * T + 128 * j + (if x.val < c.val then c.val else 128 + c.val)) (64 * kh + (d.val - 64))))
    (live : ¬ Dead (512 * T + 128 * j + x.val) c.val) :
    ∑ d, A d * K d = score D b (512 * T + 128 * j + x.val) (4 * kh + 2 * a + half.val) c.val * rate := by
  simp only [hA, hK]
  refine (dot_half (fun d => q D b (512 * T + 128 * j + x.val) (128 * (2 * kh + a) + d)) (fun d => KX D b (512 * T + 128 * j + (if x.val < c.val then c.val else 128 + c.val)) (64 * kh + d)) half).trans ?_
  unfold score raw
  rw [if_neg live]
  congr 2
  refine Finset.sum_congr rfl fun d _ => ?_
  have hx := x.isLt
  have hc := c.isLt
  have hh := half.isLt
  congr 2
  · omega
  · have hm : (512 * T + 128 * j + x.val) % 128 = x.val := by omega
    have h4 : (4 * kh + 2 * a + half.val) / 4 = kh := by omega
    rw [h4]
    by_cases hp : x.val < c.val
    · have hP : Prev (512 * T + 128 * j + x.val) c.val := by unfold Prev; omega
      have hl : ¬ (512 * T + 128 * j + x.val < 128) := fun h => live ⟨hP, h⟩
      unfold KX key
      rw [if_pos hp, if_pos hP, if_neg (by omega)]
      congr 1; omega
    · have hP : ¬ Prev (512 * T + 128 * j + x.val) c.val := by unfold Prev; omega
      unfold KX key
      rw [if_neg hp, if_neg hP, if_neg (by omega)]
      congr 1; omega

/-- and nothing where there is no block before. -/
theorem score_dead (D : Data) (b p h c : ℕ) (dead : Dead p c) : score D b p h c * rate = ⊥ := by
  unfold score
  rw [if_pos dead, bot_rate]

theorem bias_at (T : Fin 16) (x c : Fin 128) : k0_pay58 (F := Ideal) (BitVec.ofNat 32 T.val) (ix2 x c) = if T.val = 0 ∧ x.val < c.val then (⊥ : EReal) else 0 := by
  have hn : (Named.named (F := Ideal) κ "masked" 0xF149F2CA#32 : Ideal .f32) = (⊥ : EReal) := IdealRules.named_const.ideal_named_scalar _ _ _ _ rfl
  have h0 : Scalar.cmpi CmpIPredicate.eq (BitVec.ofNat 32 T.val) 0#32 = if T.val = 0 then 1#1 else 0#1 := by
    revert T; decide +kernel
  pointwise [k0_pay58, k0_pay57]
  rw [hn, after, h0]
  by_cases hT : T.val = 0 <;> by_cases hx : x.val < c.val <;> simp [hT, hx, Scalar.select, IntOp.andi]

theorem pick_00 (A B : Vec Ideal S128x128 .bf16) (L M : Vec Ideal S1x256x128 .bf16) (x c : Fin 128) :
    select k0_pay57 (extractStridedSlice S128x128 ![0, 0] (extractStridedSlice S128x256 ![0, 0] (k0_pay63 A B L M) slices_S256x512_o0_0_S128x256) slices_S128x256_o0_0_S128x128) (extractStridedSlice S128x128 ![0, 128] (extractStridedSlice S128x256 ![0, 0] (k0_pay63 A B L M) slices_S256x512_o0_0_S128x256) slices_S128x256_o0_128_S128x128) (ix2 x c)
      = ∑ d : Fin 128, A (ix2 x d) * L (ix3 0 ⟨if x.val < c.val then c.val else 128 + c.val, by have := c.isLt; split <;> omega⟩ d) := by
  have h : ∀ u w : EReal, Scalar.select (IntOp.cmpi CmpIPredicate.sgt (BitVec.ofNat 32 c.val) (BitVec.ofNat 32 x.val)) u w = if x.val < c.val then u else w := fun u w => by rw [after, select_if]
  pointwise [k0_pay57, k0_pay63]
  refine (h _ _).trans ?_
  by_cases hx : x.val < c.val
  · simp only [if_pos hx, dif_pos (show c.val < 256 by have := c.isLt; omega)]
  · simp only [if_neg hx, dif_pos (show 128 + c.val < 256 by have := c.isLt; omega)]

theorem pick_01 (A B : Vec Ideal S128x128 .bf16) (L M : Vec Ideal S1x256x128 .bf16) (x c : Fin 128) :
    select k0_pay57 (extractStridedSlice S128x128 ![0, 0] (extractStridedSlice S128x256 ![0, 256] (k0_pay63 A B L M) slices_S256x512_o0_256_S128x256) slices_S128x256_o0_0_S128x128) (extractStridedSlice S128x128 ![0, 128] (extractStridedSlice S128x256 ![0, 256] (k0_pay63 A B L M) slices_S256x512_o0_256_S128x256) slices_S128x256_o0_128_S128x128) (ix2 x c)
      = ∑ d : Fin 128, A (ix2 x d) * M (ix3 0 ⟨if x.val < c.val then c.val else 128 + c.val, by have := c.isLt; split <;> omega⟩ d) := by
  have h : ∀ u w : EReal, Scalar.select (IntOp.cmpi CmpIPredicate.sgt (BitVec.ofNat 32 c.val) (BitVec.ofNat 32 x.val)) u w = if x.val < c.val then u else w := fun u w => by rw [after, select_if]
  pointwise [k0_pay57, k0_pay63]
  refine (h _ _).trans ?_
  by_cases hx : x.val < c.val
  · simp only [if_pos hx, dif_pos (show c.val < 256 by have := c.isLt; omega)]
  · simp only [if_neg hx, dif_pos (show 128 + c.val < 256 by have := c.isLt; omega)]

theorem pick_10 (A B : Vec Ideal S128x128 .bf16) (L M : Vec Ideal S1x256x128 .bf16) (x c : Fin 128) :
    select k0_pay57 (extractStridedSlice S128x128 ![0, 0] (extractStridedSlice S128x256 ![128, 0] (k0_pay63 A B L M) slices_S256x512_o128_0_S128x256) slices_S128x256_o0_0_S128x128) (extractStridedSlice S128x128 ![0, 128] (extractStridedSlice S128x256 ![128, 0] (k0_pay63 A B L M) slices_S256x512_o128_0_S128x256) slices_S128x256_o0_128_S128x128) (ix2 x c)
      = ∑ d : Fin 128, B (ix2 x d) * L (ix3 0 ⟨if x.val < c.val then c.val else 128 + c.val, by have := c.isLt; split <;> omega⟩ d) := by
  have h : ∀ u w : EReal, Scalar.select (IntOp.cmpi CmpIPredicate.sgt (BitVec.ofNat 32 c.val) (BitVec.ofNat 32 x.val)) u w = if x.val < c.val then u else w := fun u w => by rw [after, select_if]
  pointwise [k0_pay57, k0_pay63]
  refine (h _ _).trans ?_
  by_cases hx : x.val < c.val
  · simp only [if_pos hx, dif_pos (show c.val < 256 by have := c.isLt; omega)]
  · simp only [if_neg hx, dif_pos (show 128 + c.val < 256 by have := c.isLt; omega)]

theorem pick_11 (A B : Vec Ideal S128x128 .bf16) (L M : Vec Ideal S1x256x128 .bf16) (x c : Fin 128) :
    select k0_pay57 (extractStridedSlice S128x128 ![0, 0] (extractStridedSlice S128x256 ![128, 256] (k0_pay63 A B L M) slices_S256x512_o128_256_S128x256) slices_S128x256_o0_0_S128x128) (extractStridedSlice S128x128 ![0, 128] (extractStridedSlice S128x256 ![128, 256] (k0_pay63 A B L M) slices_S256x512_o128_256_S128x256) slices_S128x256_o0_128_S128x128) (ix2 x c)
      = ∑ d : Fin 128, B (ix2 x d) * M (ix3 0 ⟨if x.val < c.val then c.val else 128 + c.val, by have := c.isLt; split <;> omega⟩ d) := by
  have h : ∀ u w : EReal, Scalar.select (IntOp.cmpi CmpIPredicate.sgt (BitVec.ofNat 32 c.val) (BitVec.ofNat 32 x.val)) u w = if x.val < c.val then u else w := fun u w => by rw [after, select_if]
  pointwise [k0_pay57, k0_pay63]
  refine (h _ _).trans ?_
  by_cases hx : x.val < c.val
  · simp only [if_pos hx, dif_pos (show c.val < 256 by have := c.isLt; omega)]
  · simp only [if_neg hx, dif_pos (show 128 + c.val < 256 by have := c.isLt; omega)]

end Cert.Mixer

end
-- ==== Proof.Mixer.ScoreCell.lean ====
/-
  All scores of a step: each of the 64 blocks of 128 by 128 that is put down holds the layer's scores, in powers of two.
-/
module

public import proofs.«01_k».proof.Proof.Mixer.Scratch
public import proofs.«01_k».proof.Proof.Mixer.Window
public import proofs.«01_k».proof.Proof.Mixer.ScoreRow

@[expose] public section

set_option maxRecDepth 16384

noncomputable section

namespace Cert.Mixer

open Cert.Kernel3Ideal Cert.Kernel3Ideal.Gen
open Idealize.ShloMosaic Idealize.ShloMosaic.TcCoe Idealize.SL.Sem

/-- Slot `4 j + h` holds block `j` and pair of heads `h`: rows of one head of queries above the other's, keys of one half
beside the other's. -/
def G8 (D : Data) (b T : ℕ) (y : S16x256x256.Idx) : EReal :=
  score D b (512 * T + 128 * ((y 0).val / 4) + (y 1).val % 128) (4 * ((y 0).val % 4) + 2 * ((y 1).val / 128) + (y 2).val / 128) ((y 2).val % 128) * rate

theorem G8_emb (D : Data) (b T i a f : ℕ) (o : Fin 3 → ℕ) (inb) (h0 : o 0 = i) (h1 : o 1 = 128 * a) (h2 : o 2 = 128 * f) (r c : Fin 128) :
    G8 D b T ((Rect.unit o S1x128x128.size inb : Rect S16x256x256).emb (ix3 0 r c)) = score D b (512 * T + 128 * (i / 4) + r.val) (4 * (i % 4) + 2 * a + f) c.val * rate := by
  have e0 : (((Rect.unit o S1x128x128.size inb : Rect S16x256x256).emb (ix3 0 r c)) 0).val = i := by
    show o 0 + 1 * 0 = i; omega
  have e1 : (((Rect.unit o S1x128x128.size inb : Rect S16x256x256).emb (ix3 0 r c)) 1).val = 128 * a + r.val := by
    show o 1 + 1 * r.val = _; omega
  have e2 : (((Rect.unit o S1x128x128.size inb : Rect S16x256x256).emb (ix3 0 r c)) 2).val = 128 * f + c.val := by
    show o 2 + 1 * c.val = _; omega
  have hr := r.isLt
  have hc := c.isLt
  unfold G8
  rw [e0, e1, e2, (by omega : (128 * a + r.val) % 128 = r.val), (by omega : (128 * a + r.val) / 128 = a), (by omega : (128 * f + c.val) % 128 = c.val), (by omega : (128 * f + c.val) / 128 = f)]

/-- Half a row of keys. -/
def half0 (K : ℕ → EReal) (d : ℕ) : EReal := if d < 64 then K d else 0
def half1 (K : ℕ → EReal) (d : ℕ) : EReal := if d < 64 then 0 else K (d - 64)

theorem cell_00 (D : Data) (b T j kh : ℕ) (A B : Vec Ideal S128x128 .bf16) (L M : Vec Ideal S1x256x128 .bf16)
    (hA : ∀ x d : Fin 128, A (ix2 x d) = q D b (512 * T + 128 * j + x.val) (128 * (2 * kh + 0) + d.val) * qrate)
    (hK : ∀ (r : Fin 256) (d : Fin 128), L (ix3 0 r d) = half0 (fun d => KX D b (512 * T + 128 * j + r.val) (64 * kh + d)) d.val) (hj : 0 < j) (x c : Fin 128) :
    shapeCast S1x128x128 (select k0_pay57 (extractStridedSlice S128x128 ![0, 0] (extractStridedSlice S128x256 ![0, 0] (k0_pay63 A B L M) slices_S256x512_o0_0_S128x256) slices_S128x256_o0_0_S128x128) (extractStridedSlice S128x128 ![0, 128] (extractStridedSlice S128x256 ![0, 0] (k0_pay63 A B L M) slices_S256x512_o0_0_S128x256) slices_S128x256_o0_128_S128x128)) shapeCasts_S128x128_S1x128x128 (ix3 0 x c) = score D b (512 * T + 128 * j + x.val) (4 * kh + 2 * 0 + 0) c.val * rate := by
  refine Eq.trans ?_ ((pick_00 A B L M x c).trans (score_of D b T j kh 0 0 x c (by decide) (fun d => A (ix2 x d)) (fun d => L (ix3 0 _ d)) (hA x) (fun d => (hK _ d).trans (by simp [half0])) (fun h => by unfold Dead at h; omega)))
  generalize select k0_pay57 (extractStridedSlice S128x128 ![0, 0] (extractStridedSlice S128x256 ![0, 0] (k0_pay63 A B L M) slices_S256x512_o0_0_S128x256) slices_S128x256_o0_0_S128x128) (extractStridedSlice S128x128 ![0, 128] (extractStridedSlice S128x256 ![0, 0] (k0_pay63 A B L M) slices_S256x512_o0_0_S128x256) slices_S128x256_o0_128_S128x128) = Z
  pointwise []

theorem cell0_00 (D : Data) (b T j kh : ℕ) (A B : Vec Ideal S128x128 .bf16) (L M : Vec Ideal S1x256x128 .bf16)
    (hA : ∀ x d : Fin 128, A (ix2 x d) = q D b (512 * T + 128 * j + x.val) (128 * (2 * kh + 0) + d.val) * qrate)
    (hK : ∀ (r : Fin 256) (d : Fin 128), L (ix3 0 r d) = half0 (fun d => KX D b (512 * T + 128 * j + r.val) (64 * kh + d)) d.val) (hj : j = 0) (i1 : Fin 16) (hi : i1.val = T) (x c : Fin 128) :
    shapeCast S1x128x128 (addf (select k0_pay57 (extractStridedSlice S128x128 ![0, 0] (extractStridedSlice S128x256 ![0, 0] (k0_pay63 A B L M) slices_S256x512_o0_0_S128x256) slices_S128x256_o0_0_S128x128) (extractStridedSlice S128x128 ![0, 128] (extractStridedSlice S128x256 ![0, 0] (k0_pay63 A B L M) slices_S256x512_o0_0_S128x256) slices_S128x256_o0_128_S128x128)) (k0_pay58 (F := Ideal) (BitVec.ofNat 32 i1.val))) shapeCasts_S128x128_S1x128x128 (ix3 0 x c) = score D b (512 * T + 128 * j + x.val) (4 * kh + 2 * 0 + 0) c.val * rate := by
  have hp := pick_00 A B L M x c
  have hb := bias_at i1 x c
  generalize select k0_pay57 (extractStridedSlice S128x128 ![0, 0] (extractStridedSlice S128x256 ![0, 0] (k0_pay63 A B L M) slices_S256x512_o0_0_S128x256) slices_S128x256_o0_0_S128x128) (extractStridedSlice S128x128 ![0, 128] (extractStridedSlice S128x256 ![0, 0] (k0_pay63 A B L M) slices_S256x512_o0_0_S128x256) slices_S128x256_o0_128_S128x128) = Z at hp ⊢
  generalize k0_pay58 (F := Ideal) (BitVec.ofNat 32 i1.val) = Y at hb ⊢
  refine Eq.trans (b := Z (ix2 x c) + Y (ix2 x c)) (by pointwise []) ?_
  rw [hp, hb]
  have hx := x.isLt
  by_cases hd : i1.val = 0 ∧ x.val < c.val
  · have hD : Dead (512 * T + 128 * j + x.val) c.val := by
      unfold Dead Prev; subst hj; omega
    rw [if_pos hd, score_dead D b _ _ _ hD, EReal.add_bot]
  · rw [if_neg hd, add_zero]
    exact score_of D b T j kh 0 0 x c (by decide) (fun d => A (ix2 x d)) (fun d => L (ix3 0 _ d)) (hA x) (fun d => (hK _ d).trans (by simp [half0])) (fun h => hd (by unfold Dead Prev at h; subst hj; omega))

theorem cell_01 (D : Data) (b T j kh : ℕ) (A B : Vec Ideal S128x128 .bf16) (L M : Vec Ideal S1x256x128 .bf16)
    (hA : ∀ x d : Fin 128, A (ix2 x d) = q D b (512 * T + 128 * j + x.val) (128 * (2 * kh + 0) + d.val) * qrate)
    (hK : ∀ (r : Fin 256) (d : Fin 128), M (ix3 0 r d) = half1 (fun d => KX D b (512 * T + 128 * j + r.val) (64 * kh + d)) d.val) (hj : 0 < j) (x c : Fin 128) :
    shapeCast S1x128x128 (select k0_pay57 (extractStridedSlice S128x128 ![0, 0] (extractStridedSlice S128x256 ![0, 256] (k0_pay63 A B L M) slices_S256x512_o0_256_S128x256) slices_S128x256_o0_0_S128x128) (extractStridedSlice S128x128 ![0, 128] (extractStridedSlice S128x256 ![0, 256] (k0_pay63 A B L M) slices_S256x512_o0_256_S128x256) slices_S128x256_o0_128_S128x128)) shapeCasts_S128x128_S1x128x128 (ix3 0 x c) = score D b (512 * T + 128 * j + x.val) (4 * kh + 2 * 0 + 1) c.val * rate := by
  refine Eq.trans ?_ ((pick_01 A B L M x c).trans (score_of D b T j kh 0 1 x c (by decide) (fun d => A (ix2 x d)) (fun d => M (ix3 0 _ d)) (hA x) (fun d => (hK _ d).trans (by simp [half1])) (fun h => by unfold Dead at h; omega)))
  generalize select k0_pay57 (extractStridedSlice S128x128 ![0, 0] (extractStridedSlice S128x256 ![0, 256] (k0_pay63 A B L M) slices_S256x512_o0_256_S128x256) slices_S128x256_o0_0_S128x128) (extractStridedSlice S128x128 ![0, 128] (extractStridedSlice S128x256 ![0, 256] (k0_pay63 A B L M) slices_S256x512_o0_256_S128x256) slices_S128x256_o0_128_S128x128) = Z
  pointwise []

theorem cell0_01 (D : Data) (b T j kh : ℕ) (A B : Vec Ideal S128x128 .bf16) (L M : Vec Ideal S1x256x128 .bf16)
    (hA : ∀ x d : Fin 128, A (ix2 x d) = q D b (512 * T + 128 * j + x.val) (128 * (2 * kh + 0) + d.val) * qrate)
    (hK : ∀ (r : Fin 256) (d : Fin 128), M (ix3 0 r d) = half1 (fun d => KX D b (512 * T + 128 * j + r.val) (64 * kh + d)) d.val) (hj : j = 0) (i1 : Fin 16) (hi : i1.val = T) (x c : Fin 128) :
    shapeCast S1x128x128 (addf (select k0_pay57 (extractStridedSlice S128x128 ![0, 0] (extractStridedSlice S128x256 ![0, 256] (k0_pay63 A B L M) slices_S256x512_o0_256_S128x256) slices_S128x256_o0_0_S128x128) (extractStridedSlice S128x128 ![0, 128] (extractStridedSlice S128x256 ![0, 256] (k0_pay63 A B L M) slices_S256x512_o0_256_S128x256) slices_S128x256_o0_128_S128x128)) (k0_pay58 (F := Ideal) (BitVec.ofNat 32 i1.val))) shapeCasts_S128x128_S1x128x128 (ix3 0 x c) = score D b (512 * T + 128 * j + x.val) (4 * kh + 2 * 0 + 1) c.val * rate := by
  have hp := pick_01 A B L M x c
  have hb := bias_at i1 x c
  generalize select k0_pay57 (extractStridedSlice S128x128 ![0, 0] (extractStridedSlice S128x256 ![0, 256] (k0_pay63 A B L M) slices_S256x512_o0_256_S128x256) slices_S128x256_o0_0_S128x128) (extractStridedSlice S128x128 ![0, 128] (extractStridedSlice S128x256 ![0, 256] (k0_pay63 A B L M) slices_S256x512_o0_256_S128x256) slices_S128x256_o0_128_S128x128) = Z at hp ⊢
  generalize k0_pay58 (F := Ideal) (BitVec.ofNat 32 i1.val) = Y at hb ⊢
  refine Eq.trans (b := Z (ix2 x c) + Y (ix2 x c)) (by pointwise []) ?_
  rw [hp, hb]
  have hx := x.isLt
  by_cases hd : i1.val = 0 ∧ x.val < c.val
  · have hD : Dead (512 * T + 128 * j + x.val) c.val := by
      unfold Dead Prev; subst hj; omega
    rw [if_pos hd, score_dead D b _ _ _ hD, EReal.add_bot]
  · rw [if_neg hd, add_zero]
    exact score_of D b T j kh 0 1 x c (by decide) (fun d => A (ix2 x d)) (fun d => M (ix3 0 _ d)) (hA x) (fun d => (hK _ d).trans (by simp [half1])) (fun h => hd (by unfold Dead Prev at h; subst hj; omega))

theorem cell_10 (D : Data) (b T j kh : ℕ) (A B : Vec Ideal S128x128 .bf16) (L M : Vec Ideal S1x256x128 .bf16)
    (hA : ∀ x d : Fin 128, B (ix2 x d) = q D b (512 * T + 128 * j + x.val) (128 * (2 * kh + 1) + d.val) * qrate)
    (hK : ∀ (r : Fin 256) (d : Fin 128), L (ix3 0 r d) = half0 (fun d => KX D b (512 * T + 128 * j + r.val) (64 * kh + d)) d.val) (hj : 0 < j) (x c : Fin 128) :
    shapeCast S1x128x128 (select k0_pay57 (extractStridedSlice S128x128 ![0, 0] (extractStridedSlice S128x256 ![128, 0] (k0_pay63 A B L M) slices_S256x512_o128_0_S128x256) slices_S128x256_o0_0_S128x128) (extractStridedSlice S128x128 ![0, 128] (extractStridedSlice S128x256 ![128, 0] (k0_pay63 A B L M) slices_S256x512_o128_0_S128x256) slices_S128x256_o0_128_S128x128)) shapeCasts_S128x128_S1x128x128 (ix3 0 x c) = score D b (512 * T + 128 * j + x.val) (4 * kh + 2 * 1 + 0) c.val * rate := by
  refine Eq.trans ?_ ((pick_10 A B L M x c).trans (score_of D b T j kh 1 0 x c (by decide) (fun d => B (ix2 x d)) (fun d => L (ix3 0 _ d)) (hA x) (fun d => (hK _ d).trans (by simp [half0])) (fun h => by unfold Dead at h; omega)))
  generalize select k0_pay57 (extractStridedSlice S128x128 ![0, 0] (extractStridedSlice S128x256 ![128, 0] (k0_pay63 A B L M) slices_S256x512_o128_0_S128x256) slices_S128x256_o0_0_S128x128) (extractStridedSlice S128x128 ![0, 128] (extractStridedSlice S128x256 ![128, 0] (k0_pay63 A B L M) slices_S256x512_o128_0_S128x256) slices_S128x256_o0_128_S128x128) = Z
  pointwise []

theorem cell0_10 (D : Data) (b T j kh : ℕ) (A B : Vec Ideal S128x128 .bf16) (L M : Vec Ideal S1x256x128 .bf16)
    (hA : ∀ x d : Fin 128, B (ix2 x d) = q D b (512 * T + 128 * j + x.val) (128 * (2 * kh + 1) + d.val) * qrate)
    (hK : ∀ (r : Fin 256) (d : Fin 128), L (ix3 0 r d) = half0 (fun d => KX D b (512 * T + 128 * j + r.val) (64 * kh + d)) d.val) (hj : j = 0) (i1 : Fin 16) (hi : i1.val = T) (x c : Fin 128) :
    shapeCast S1x128x128 (addf (select k0_pay57 (extractStridedSlice S128x128 ![0, 0] (extractStridedSlice S128x256 ![128, 0] (k0_pay63 A B L M) slices_S256x512_o128_0_S128x256) slices_S128x256_o0_0_S128x128) (extractStridedSlice S128x128 ![0, 128] (extractStridedSlice S128x256 ![128, 0] (k0_pay63 A B L M) slices_S256x512_o128_0_S128x256) slices_S128x256_o0_128_S128x128)) (k0_pay58 (F := Ideal) (BitVec.ofNat 32 i1.val))) shapeCasts_S128x128_S1x128x128 (ix3 0 x c) = score D b (512 * T + 128 * j + x.val) (4 * kh + 2 * 1 + 0) c.val * rate := by
  have hp := pick_10 A B L M x c
  have hb := bias_at i1 x c
  generalize select k0_pay57 (extractStridedSlice S128x128 ![0, 0] (extractStridedSlice S128x256 ![128, 0] (k0_pay63 A B L M) slices_S256x512_o128_0_S128x256) slices_S128x256_o0_0_S128x128) (extractStridedSlice S128x128 ![0, 128] (extractStridedSlice S128x256 ![128, 0] (k0_pay63 A B L M) slices_S256x512_o128_0_S128x256) slices_S128x256_o0_128_S128x128) = Z at hp ⊢
  generalize k0_pay58 (F := Ideal) (BitVec.ofNat 32 i1.val) = Y at hb ⊢
  refine Eq.trans (b := Z (ix2 x c) + Y (ix2 x c)) (by pointwise []) ?_
  rw [hp, hb]
  have hx := x.isLt
  by_cases hd : i1.val = 0 ∧ x.val < c.val
  · have hD : Dead (512 * T + 128 * j + x.val) c.val := by
      unfold Dead Prev; subst hj; omega
    rw [if_pos hd, score_dead D b _ _ _ hD, EReal.add_bot]
  · rw [if_neg hd, add_zero]
    exact score_of D b T j kh 1 0 x c (by decide) (fun d => B (ix2 x d)) (fun d => L (ix3 0 _ d)) (hA x) (fun d => (hK _ d).trans (by simp [half0])) (fun h => hd (by unfold Dead Prev at h; subst hj; omega))

theorem cell_11 (D : Data) (b T j kh : ℕ) (A B : Vec Ideal S128x128 .bf16) (L M : Vec Ideal S1x256x128 .bf16)
    (hA : ∀ x d : Fin 128, B (ix2 x d) = q D b (512 * T + 128 * j + x.val) (128 * (2 * kh + 1) + d.val) * qrate)
    (hK : ∀ (r : Fin 256) (d : Fin 128), M (ix3 0 r d) = half1 (fun d => KX D b (512 * T + 128 * j + r.val) (64 * kh + d)) d.val) (hj : 0 < j) (x c : Fin 128) :
    shapeCast S1x128x128 (select k0_pay57 (extractStridedSlice S128x128 ![0, 0] (extractStridedSlice S128x256 ![128, 256] (k0_pay63 A B L M) slices_S256x512_o128_256_S128x256) slices_S128x256_o0_0_S128x128) (extractStridedSlice S128x128 ![0, 128] (extractStridedSlice S128x256 ![128, 256] (k0_pay63 A B L M) slices_S256x512_o128_256_S128x256) slices_S128x256_o0_128_S128x128)) shapeCasts_S128x128_S1x128x128 (ix3 0 x c) = score D b (512 * T + 128 * j + x.val) (4 * kh + 2 * 1 + 1) c.val * rate := by
  refine Eq.trans ?_ ((pick_11 A B L M x c).trans (score_of D b T j kh 1 1 x c (by decide) (fun d => B (ix2 x d)) (fun d => M (ix3 0 _ d)) (hA x) (fun d => (hK _ d).trans (by simp [half1])) (fun h => by unfold Dead at h; omega)))
  generalize select k0_pay57 (extractStridedSlice S128x128 ![0, 0] (extractStridedSlice S128x256 ![128, 256] (k0_pay63 A B L M) slices_S256x512_o128_256_S128x256) slices_S128x256_o0_0_S128x128) (extractStridedSlice S128x128 ![0, 128] (extractStridedSlice S128x256 ![128, 256] (k0_pay63 A B L M) slices_S256x512_o128_256_S128x256) slices_S128x256_o0_128_S128x128) = Z
  pointwise []

theorem cell0_11 (D : Data) (b T j kh : ℕ) (A B : Vec Ideal S128x128 .bf16) (L M : Vec Ideal S1x256x128 .bf16)
    (hA : ∀ x d : Fin 128, B (ix2 x d) = q D b (512 * T + 128 * j + x.val) (128 * (2 * kh + 1) + d.val) * qrate)
    (hK : ∀ (r : Fin 256) (d : Fin 128), M (ix3 0 r d) = half1 (fun d => KX D b (512 * T + 128 * j + r.val) (64 * kh + d)) d.val) (hj : j = 0) (i1 : Fin 16) (hi : i1.val = T) (x c : Fin 128) :
    shapeCast S1x128x128 (addf (select k0_pay57 (extractStridedSlice S128x128 ![0, 0] (extractStridedSlice S128x256 ![128, 256] (k0_pay63 A B L M) slices_S256x512_o128_256_S128x256) slices_S128x256_o0_0_S128x128) (extractStridedSlice S128x128 ![0, 128] (extractStridedSlice S128x256 ![128, 256] (k0_pay63 A B L M) slices_S256x512_o128_256_S128x256) slices_S128x256_o0_128_S128x128)) (k0_pay58 (F := Ideal) (BitVec.ofNat 32 i1.val))) shapeCasts_S128x128_S1x128x128 (ix3 0 x c) = score D b (512 * T + 128 * j + x.val) (4 * kh + 2 * 1 + 1) c.val * rate := by
  have hp := pick_11 A B L M x c
  have hb := bias_at i1 x c
  generalize select k0_pay57 (extractStridedSlice S128x128 ![0, 0] (extractStridedSlice S128x256 ![128, 256] (k0_pay63 A B L M) slices_S256x512_o128_256_S128x256) slices_S128x256_o0_0_S128x128) (extractStridedSlice S128x128 ![0, 128] (extractStridedSlice S128x256 ![128, 256] (k0_pay63 A B L M) slices_S256x512_o128_256_S128x256) slices_S128x256_o0_128_S128x128) = Z at hp ⊢
  generalize k0_pay58 (F := Ideal) (BitVec.ofNat 32 i1.val) = Y at hb ⊢
  refine Eq.trans (b := Z (ix2 x c) + Y (ix2 x c)) (by pointwise []) ?_
  rw [hp, hb]
  have hx := x.isLt
  by_cases hd : i1.val = 0 ∧ x.val < c.val
  · have hD : Dead (512 * T + 128 * j + x.val) c.val := by
      unfold Dead Prev; subst hj; omega
    rw [if_pos hd, score_dead D b _ _ _ hD, EReal.add_bot]
  · rw [if_neg hd, add_zero]
    exact score_of D b T j kh 1 1 x c (by decide) (fun d => B (ix2 x d)) (fun d => M (ix3 0 _ d)) (hA x) (fun d => (hK _ d).trans (by simp [half1])) (fun h => hd (by unfold Dead Prev at h; subst hj; omega))

theorem half_read0 (D : Data) (b T kh o : ℕ) (y : S4x640x128.Idx) (r : Fin 256) (d : Fin 128) (h0 : (y 0).val = kh + 1 * 0) (h1 : (y 1).val = o + 1 * r.val) (h2 : (y 2).val = 0 + 1 * d.val) :
    G0 D b T y = half0 (fun d => KX D b (512 * T + o + r.val) (64 * kh + d)) d.val := by
  unfold G0 half0
  rw [h0, h1, h2]
  simp only [mul_zero, add_zero, zero_add, one_mul, Nat.add_assoc]

theorem half_read1 (D : Data) (b T kh o : ℕ) (y : S4x640x128.Idx) (r : Fin 256) (d : Fin 128) (h0 : (y 0).val = kh + 1 * 0) (h1 : (y 1).val = o + 1 * r.val) (h2 : (y 2).val = 0 + 1 * d.val) :
    G1 D b T y = half1 (fun d => KX D b (512 * T + o + r.val) (64 * kh + d)) d.val := by
  unfold G1 half1
  rw [h0, h1, h2]
  simp only [mul_zero, add_zero, zero_add, one_mul, Nat.add_assoc]

end Cert.Mixer

end
-- ==== Proof.Mixer.Score.lean ====
/-
  All scores of a step: each of the 64 blocks of 128 by 128 that is put down holds the layer's scores, in powers of two.
-/
module

public import proofs.«01_k».proof.Proof.Mixer.Scratch
public import proofs.«01_k».proof.Proof.Mixer.Window
public import proofs.«01_k».proof.Proof.Mixer.ScoreCell

@[expose] public section

set_option maxRecDepth 16384

noncomputable section

namespace Cert.Mixer

open Cert.Kernel3Ideal Cert.Kernel3Ideal.Gen
open Idealize.ShloMosaic Idealize.ShloMosaic.TcCoe Idealize.SL.Sem

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

theorem s0_00 (H : Inputs D b T x0 x1 x2 x3 x4 x5 x6 x7 x8 x9 x10) (S : Start D b T xs0 xs1 xs2 xs3 xs4) (hi : (i 1).val = T) (x : S1x128x128.Idx) :
    k0_pay64 k0_pay57 (run.sl.r_23 (F := Ideal) i) (run.sl.v294 (F := Ideal) c i arg3 harg3 arg4 harg4 arg5 harg5 arg6 harg6 arg7 harg7 arg38 x1 x2 x3 x4 x5) (run.sl.v295 (F := Ideal) c i arg3 harg3 arg4 harg4 arg5 harg5 arg6 harg6 arg7 harg7 arg38 x1 x2 x3 x4 x5) (run.sl.v297 (F := Ideal) c i arg3 harg3 arg4 harg4 arg5 harg5 arg6 harg6 arg7 harg7 arg31 harg31 x1 x2 x3 x4 x5 xs0) (run.sl.v299 (F := Ideal) c i arg3 harg3 arg4 harg4 arg5 harg5 arg6 harg6 arg7 harg7 arg32 harg32 x1 x2 x3 x4 x5 xs1) x = G8 D b T ((Rect.unit ![0, 0, 0] S1x128x128.size inb_S16x256x256_S1x128x128_0_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 0 0 0 _ _ rfl rfl rfl r c']
  exact cell0_00 D b T 0 0 (arg38.view.readCov (run.sl.HS7_1 (F := Ideal) c i arg3 harg3 arg4 harg4 arg5 harg5 arg6 harg6 arg7 harg7 x1 x2 x3 x4 x5) (Rect.unit ![0, 0] S128x128.size inb_S512x1024_S128x128_0_0 : Rect S512x1024).toLoadRect) (arg38.view.readCov (run.sl.HS7_1 (F := Ideal) c i arg3 harg3 arg4 harg4 arg5 harg5 arg6 harg6 arg7 harg7 x1 x2 x3 x4 x5) (Rect.unit ![0, 128] S128x128.size inb_S512x1024_S128x128_0_128 : Rect S512x1024).toLoadRect) (arg31.view.readAt (Elt Ideal) (Rect.unit ![0, 0, 0] S1x256x128.size inb_S4x640x128_S1x256x128_0_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![0, 0, 0] S1x256x128.size inb_S4x640x128_S1x256x128_0_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![0, 0, 0] S1x256x128.size inb_S4x640x128_S1x256x128_0_0_0 : Rect S4x640x128).toLoadRect (ix3 0 r d)).trans (half_read0 D b T 0 0 _ r d rfl rfl rfl))) rfl (i 1) hi r c'

theorem s0_01 (H : Inputs D b T x0 x1 x2 x3 x4 x5 x6 x7 x8 x9 x10) (S : Start D b T xs0 xs1 xs2 xs3 xs4) (hi : (i 1).val = T) (x : S1x128x128.Idx) :
    k0_pay65 k0_pay57 (run.sl.r_23 (F := Ideal) i) (run.sl.v294 (F := Ideal) c i arg3 harg3 arg4 harg4 arg5 harg5 arg6 harg6 arg7 harg7 arg38 x1 x2 x3 x4 x5) (run.sl.v295 (F := Ideal) c i arg3 harg3 arg4 harg4 arg5 harg5 arg6 harg6 arg7 harg7 arg38 x1 x2 x3 x4 x5) (run.sl.v297 (F := Ideal) c i arg3 harg3 arg4 harg4 arg5 harg5 arg6 harg6 arg7 harg7 arg31 harg31 x1 x2 x3 x4 x5 xs0) (run.sl.v299 (F := Ideal) c i arg3 harg3 arg4 harg4 arg5 harg5 arg6 harg6 arg7 harg7 arg32 harg32 x1 x2 x3 x4 x5 xs1) x = G8 D b T ((Rect.unit ![0, 0, 128] S1x128x128.size inb_S16x256x256_S1x128x128_0_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 0 0 1 _ _ rfl rfl rfl r c']
  exact cell0_01 D b T 0 0 (arg38.view.readCov (run.sl.HS7_1 (F := Ideal) c i arg3 harg3 arg4 harg4 arg5 harg5 arg6 harg6 arg7 harg7 x1 x2 x3 x4 x5) (Rect.unit ![0, 0] S128x128.size inb_S512x1024_S128x128_0_0 : Rect S512x1024).toLoadRect) (arg38.view.readCov (run.sl.HS7_1 (F := Ideal) c i arg3 harg3 arg4 harg4 arg5 harg5 arg6 harg6 arg7 harg7 x1 x2 x3 x4 x5) (Rect.unit ![0, 128] S128x128.size inb_S512x1024_S128x128_0_128 : Rect S512x1024).toLoadRect) (arg31.view.readAt (Elt Ideal) (Rect.unit ![0, 0, 0] S1x256x128.size inb_S4x640x128_S1x256x128_0_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![0, 0, 0] S1x256x128.size inb_S4x640x128_S1x256x128_0_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![0, 0, 0] S1x256x128.size inb_S4x640x128_S1x256x128_0_0_0 : Rect S4x640x128).toLoadRect (ix3 0 r d)).trans (half_read1 D b T 0 0 _ r d rfl rfl rfl))) rfl (i 1) hi r c'

theorem s0_10 (H : Inputs D b T x0 x1 x2 x3 x4 x5 x6 x7 x8 x9 x10) (S : Start D b T xs0 xs1 xs2 xs3 xs4) (hi : (i 1).val = T) (x : S1x128x128.Idx) :
    k0_pay67 (run.sl.r_23 (F := Ideal) i) (run.sl.r_26 (F := Ideal) c i arg3 harg3 arg4 harg4 arg5 harg5 arg6 harg6 arg7 harg7 arg31 harg31 arg32 harg32 arg38 x1 x2 x3 x4 x5 xs0 xs1) x = G8 D b T ((Rect.unit ![0, 128, 0] S1x128x128.size inb_S16x256x256_S1x128x128_0_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 0 1 0 _ _ rfl rfl rfl r c']
  exact cell0_10 D b T 0 0 (arg38.view.readCov (run.sl.HS7_1 (F := Ideal) c i arg3 harg3 arg4 harg4 arg5 harg5 arg6 harg6 arg7 harg7 x1 x2 x3 x4 x5) (Rect.unit ![0, 0] S128x128.size inb_S512x1024_S128x128_0_0 : Rect S512x1024).toLoadRect) (arg38.view.readCov (run.sl.HS7_1 (F := Ideal) c i arg3 harg3 arg4 harg4 arg5 harg5 arg6 harg6 arg7 harg7 x1 x2 x3 x4 x5) (Rect.unit ![0, 128] S128x128.size inb_S512x1024_S128x128_0_128 : Rect S512x1024).toLoadRect) (arg31.view.readAt (Elt Ideal) (Rect.unit ![0, 0, 0] S1x256x128.size inb_S4x640x128_S1x256x128_0_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![0, 0, 0] S1x256x128.size inb_S4x640x128_S1x256x128_0_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![0, 0, 0] S1x256x128.size inb_S4x640x128_S1x256x128_0_0_0 : Rect S4x640x128).toLoadRect (ix3 0 r d)).trans (half_read0 D b T 0 0 _ r d rfl rfl rfl))) rfl (i 1) hi r c'

theorem s0_11 (H : Inputs D b T x0 x1 x2 x3 x4 x5 x6 x7 x8 x9 x10) (S : Start D b T xs0 xs1 xs2 xs3 xs4) (hi : (i 1).val = T) (x : S1x128x128.Idx) :
    k0_pay68 k0_pay57 (run.sl.r_23 (F := Ideal) i) (run.sl.r_25 (F := Ideal) c i arg3 harg3 arg4 harg4 arg5 harg5 arg6 harg6 arg7 harg7 arg31 harg31 arg32 harg32 arg38 x1 x2 x3 x4 x5 xs0 xs1) x = G8 D b T ((Rect.unit ![0, 128, 128] S1x128x128.size inb_S16x256x256_S1x128x128_0_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 0 1 1 _ _ rfl rfl rfl r c']
  exact cell0_11 D b T 0 0 (arg38.view.readCov (run.sl.HS7_1 (F := Ideal) c i arg3 harg3 arg4 harg4 arg5 harg5 arg6 harg6 arg7 harg7 x1 x2 x3 x4 x5) (Rect.unit ![0, 0] S128x128.size inb_S512x1024_S128x128_0_0 : Rect S512x1024).toLoadRect) (arg38.view.readCov (run.sl.HS7_1 (F := Ideal) c i arg3 harg3 arg4 harg4 arg5 harg5 arg6 harg6 arg7 harg7 x1 x2 x3 x4 x5) (Rect.unit ![0, 128] S128x128.size inb_S512x1024_S128x128_0_128 : Rect S512x1024).toLoadRect) (arg31.view.readAt (Elt Ideal) (Rect.unit ![0, 0, 0] S1x256x128.size inb_S4x640x128_S1x256x128_0_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![0, 0, 0] S1x256x128.size inb_S4x640x128_S1x256x128_0_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![0, 0, 0] S1x256x128.size inb_S4x640x128_S1x256x128_0_0_0 : Rect S4x640x128).toLoadRect (ix3 0 r d)).trans (half_read1 D b T 0 0 _ r d rfl rfl rfl))) rfl (i 1) hi r c'

theorem s1_00 (H : Inputs D b T x0 x1 x2 x3 x4 x5 x6 x7 x8 x9 x10) (S : Start D b T xs0 xs1 xs2 xs3 xs4) (hi : (i 1).val = T) (x : S1x128x128.Idx) :
    k0_pay70 k0_pay57 (run.sl.r_23 (F := Ideal) i) (run.sl.v335 (F := Ideal) c i arg3 harg3 arg4 harg4 arg5 harg5 arg6 harg6 arg7 harg7 arg38 x1 x2 x3 x4 x5) (run.sl.v336 (F := Ideal) c i arg3 harg3 arg4 harg4 arg5 harg5 arg6 harg6 arg7 harg7 arg38 x1 x2 x3 x4 x5) (run.sl.v338 (F := Ideal) c i arg3 harg3 arg4 harg4 arg5 harg5 arg6 harg6 arg7 harg7 arg31 harg31 x1 x2 x3 x4 x5 xs0) (run.sl.v340 (F := Ideal) c i arg3 harg3 arg4 harg4 arg5 harg5 arg6 harg6 arg7 harg7 arg32 harg32 x1 x2 x3 x4 x5 xs1) x = G8 D b T ((Rect.unit ![1, 0, 0] S1x128x128.size inb_S16x256x256_S1x128x128_1_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 1 0 0 _ _ rfl rfl rfl r c']
  exact cell0_00 D b T 0 1 (arg38.view.readCov (run.sl.HS7_1 (F := Ideal) c i arg3 harg3 arg4 harg4 arg5 harg5 arg6 harg6 arg7 harg7 x1 x2 x3 x4 x5) (Rect.unit ![0, 256] S128x128.size inb_S512x1024_S128x128_0_256 : Rect S512x1024).toLoadRect) (arg38.view.readCov (run.sl.HS7_1 (F := Ideal) c i arg3 harg3 arg4 harg4 arg5 harg5 arg6 harg6 arg7 harg7 x1 x2 x3 x4 x5) (Rect.unit ![0, 384] S128x128.size inb_S512x1024_S128x128_0_384 : Rect S512x1024).toLoadRect) (arg31.view.readAt (Elt Ideal) (Rect.unit ![1, 0, 0] S1x256x128.size inb_S4x640x128_S1x256x128_1_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![1, 0, 0] S1x256x128.size inb_S4x640x128_S1x256x128_1_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![1, 0, 0] S1x256x128.size inb_S4x640x128_S1x256x128_1_0_0 : Rect S4x640x128).toLoadRect (ix3 0 r d)).trans (half_read0 D b T 1 0 _ r d rfl rfl rfl))) rfl (i 1) hi r c'

theorem s1_01 (H : Inputs D b T x0 x1 x2 x3 x4 x5 x6 x7 x8 x9 x10) (S : Start D b T xs0 xs1 xs2 xs3 xs4) (hi : (i 1).val = T) (x : S1x128x128.Idx) :
    k0_pay72 (run.sl.r_28 (F := Ideal) c i arg3 harg3 arg4 harg4 arg5 harg5 arg6 harg6 arg7 harg7 arg31 harg31 arg32 harg32 arg38 x1 x2 x3 x4 x5 xs0 xs1) x = G8 D b T ((Rect.unit ![1, 0, 128] S1x128x128.size inb_S16x256x256_S1x128x128_1_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 1 0 1 _ _ rfl rfl rfl r c']
  exact cell0_01 D b T 0 1 (arg38.view.readCov (run.sl.HS7_1 (F := Ideal) c i arg3 harg3 arg4 harg4 arg5 harg5 arg6 harg6 arg7 harg7 x1 x2 x3 x4 x5) (Rect.unit ![0, 256] S128x128.size inb_S512x1024_S128x128_0_256 : Rect S512x1024).toLoadRect) (arg38.view.readCov (run.sl.HS7_1 (F := Ideal) c i arg3 harg3 arg4 harg4 arg5 harg5 arg6 harg6 arg7 harg7 x1 x2 x3 x4 x5) (Rect.unit ![0, 384] S128x128.size inb_S512x1024_S128x128_0_384 : Rect S512x1024).toLoadRect) (arg31.view.readAt (Elt Ideal) (Rect.unit ![1, 0, 0] S1x256x128.size inb_S4x640x128_S1x256x128_1_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![1, 0, 0] S1x256x128.size inb_S4x640x128_S1x256x128_1_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![1, 0, 0] S1x256x128.size inb_S4x640x128_S1x256x128_1_0_0 : Rect S4x640x128).toLoadRect (ix3 0 r d)).trans (half_read1 D b T 1 0 _ r d rfl rfl rfl))) rfl (i 1) hi r c'

theorem s1_10 (H : Inputs D b T x0 x1 x2 x3 x4 x5 x6 x7 x8 x9 x10) (S : Start D b T xs0 xs1 xs2 xs3 xs4) (hi : (i 1).val = T) (x : S1x128x128.Idx) :
    k0_pay73 k0_pay57 (run.sl.r_23 (F := Ideal) i) (run.sl.r_27 (F := Ideal) c i arg3 harg3 arg4 harg4 arg5 harg5 arg6 harg6 arg7 harg7 arg31 harg31 arg32 harg32 arg38 x1 x2 x3 x4 x5 xs0 xs1) x = G8 D b T ((Rect.unit ![1, 128, 0] S1x128x128.size inb_S16x256x256_S1x128x128_1_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 1 1 0 _ _ rfl rfl rfl r c']
  exact cell0_10 D b T 0 1 (arg38.view.readCov (run.sl.HS7_1 (F := Ideal) c i arg3 harg3 arg4 harg4 arg5 harg5 arg6 harg6 arg7 harg7 x1 x2 x3 x4 x5) (Rect.unit ![0, 256] S128x128.size inb_S512x1024_S128x128_0_256 : Rect S512x1024).toLoadRect) (arg38.view.readCov (run.sl.HS7_1 (F := Ideal) c i arg3 harg3 arg4 harg4 arg5 harg5 arg6 harg6 arg7 harg7 x1 x2 x3 x4 x5) (Rect.unit ![0, 384] S128x128.size inb_S512x1024_S128x128_0_384 : Rect S512x1024).toLoadRect) (arg31.view.readAt (Elt Ideal) (Rect.unit ![1, 0, 0] S1x256x128.size inb_S4x640x128_S1x256x128_1_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![1, 0, 0] S1x256x128.size inb_S4x640x128_S1x256x128_1_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![1, 0, 0] S1x256x128.size inb_S4x640x128_S1x256x128_1_0_0 : Rect S4x640x128).toLoadRect (ix3 0 r d)).trans (half_read0 D b T 1 0 _ r d rfl rfl rfl))) rfl (i 1) hi r c'

theorem s1_11 (H : Inputs D b T x0 x1 x2 x3 x4 x5 x6 x7 x8 x9 x10) (S : Start D b T xs0 xs1 xs2 xs3 xs4) (hi : (i 1).val = T) (x : S1x128x128.Idx) :
    k0_pay74 k0_pay57 (run.sl.r_23 (F := Ideal) i) (run.sl.r_27 (F := Ideal) c i arg3 harg3 arg4 harg4 arg5 harg5 arg6 harg6 arg7 harg7 arg31 harg31 arg32 harg32 arg38 x1 x2 x3 x4 x5 xs0 xs1) x = G8 D b T ((Rect.unit ![1, 128, 128] S1x128x128.size inb_S16x256x256_S1x128x128_1_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 1 1 1 _ _ rfl rfl rfl r c']
  exact cell0_11 D b T 0 1 (arg38.view.readCov (run.sl.HS7_1 (F := Ideal) c i arg3 harg3 arg4 harg4 arg5 harg5 arg6 harg6 arg7 harg7 x1 x2 x3 x4 x5) (Rect.unit ![0, 256] S128x128.size inb_S512x1024_S128x128_0_256 : Rect S512x1024).toLoadRect) (arg38.view.readCov (run.sl.HS7_1 (F := Ideal) c i arg3 harg3 arg4 harg4 arg5 harg5 arg6 harg6 arg7 harg7 x1 x2 x3 x4 x5) (Rect.unit ![0, 384] S128x128.size inb_S512x1024_S128x128_0_384 : Rect S512x1024).toLoadRect) (arg31.view.readAt (Elt Ideal) (Rect.unit ![1, 0, 0] S1x256x128.size inb_S4x640x128_S1x256x128_1_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![1, 0, 0] S1x256x128.size inb_S4x640x128_S1x256x128_1_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![1, 0, 0] S1x256x128.size inb_S4x640x128_S1x256x128_1_0_0 : Rect S4x640x128).toLoadRect (ix3 0 r d)).trans (half_read1 D b T 1 0 _ r d rfl rfl rfl))) rfl (i 1) hi r c'

theorem s2_00 (H : Inputs D b T x0 x1 x2 x3 x4 x5 x6 x7 x8 x9 x10) (S : Start D b T xs0 xs1 xs2 xs3 xs4) (hi : (i 1).val = T) (x : S1x128x128.Idx) :
    k0_pay76 k0_pay57 (run.sl.r_23 (F := Ideal) i) (run.sl.v376 (F := Ideal) c i arg3 harg3 arg4 harg4 arg5 harg5 arg6 harg6 arg7 harg7 arg38 x1 x2 x3 x4 x5) (run.sl.v377 (F := Ideal) c i arg3 harg3 arg4 harg4 arg5 harg5 arg6 harg6 arg7 harg7 arg38 x1 x2 x3 x4 x5) (run.sl.v379 (F := Ideal) c i arg3 harg3 arg4 harg4 arg5 harg5 arg6 harg6 arg7 harg7 arg31 harg31 x1 x2 x3 x4 x5 xs0) (run.sl.v381 (F := Ideal) c i arg3 harg3 arg4 harg4 arg5 harg5 arg6 harg6 arg7 harg7 arg32 harg32 x1 x2 x3 x4 x5 xs1) x = G8 D b T ((Rect.unit ![2, 0, 0] S1x128x128.size inb_S16x256x256_S1x128x128_2_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 2 0 0 _ _ rfl rfl rfl r c']
  exact cell0_00 D b T 0 2 (arg38.view.readCov (run.sl.HS7_1 (F := Ideal) c i arg3 harg3 arg4 harg4 arg5 harg5 arg6 harg6 arg7 harg7 x1 x2 x3 x4 x5) (Rect.unit ![0, 512] S128x128.size inb_S512x1024_S128x128_0_512 : Rect S512x1024).toLoadRect) (arg38.view.readCov (run.sl.HS7_1 (F := Ideal) c i arg3 harg3 arg4 harg4 arg5 harg5 arg6 harg6 arg7 harg7 x1 x2 x3 x4 x5) (Rect.unit ![0, 640] S128x128.size inb_S512x1024_S128x128_0_640 : Rect S512x1024).toLoadRect) (arg31.view.readAt (Elt Ideal) (Rect.unit ![2, 0, 0] S1x256x128.size inb_S4x640x128_S1x256x128_2_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![2, 0, 0] S1x256x128.size inb_S4x640x128_S1x256x128_2_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![2, 0, 0] S1x256x128.size inb_S4x640x128_S1x256x128_2_0_0 : Rect S4x640x128).toLoadRect (ix3 0 r d)).trans (half_read0 D b T 2 0 _ r d rfl rfl rfl))) rfl (i 1) hi r c'

theorem s2_01 (H : Inputs D b T x0 x1 x2 x3 x4 x5 x6 x7 x8 x9 x10) (S : Start D b T xs0 xs1 xs2 xs3 xs4) (hi : (i 1).val = T) (x : S1x128x128.Idx) :
    k0_pay77 k0_pay57 (run.sl.r_23 (F := Ideal) i) (run.sl.r_29 (F := Ideal) c i arg3 harg3 arg4 harg4 arg5 harg5 arg6 harg6 arg7 harg7 arg31 harg31 arg32 harg32 arg38 x1 x2 x3 x4 x5 xs0 xs1) x = G8 D b T ((Rect.unit ![2, 0, 128] S1x128x128.size inb_S16x256x256_S1x128x128_2_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 2 0 1 _ _ rfl rfl rfl r c']
  exact cell0_01 D b T 0 2 (arg38.view.readCov (run.sl.HS7_1 (F := Ideal) c i arg3 harg3 arg4 harg4 arg5 harg5 arg6 harg6 arg7 harg7 x1 x2 x3 x4 x5) (Rect.unit ![0, 512] S128x128.size inb_S512x1024_S128x128_0_512 : Rect S512x1024).toLoadRect) (arg38.view.readCov (run.sl.HS7_1 (F := Ideal) c i arg3 harg3 arg4 harg4 arg5 harg5 arg6 harg6 arg7 harg7 x1 x2 x3 x4 x5) (Rect.unit ![0, 640] S128x128.size inb_S512x1024_S128x128_0_640 : Rect S512x1024).toLoadRect) (arg31.view.readAt (Elt Ideal) (Rect.unit ![2, 0, 0] S1x256x128.size inb_S4x640x128_S1x256x128_2_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![2, 0, 0] S1x256x128.size inb_S4x640x128_S1x256x128_2_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![2, 0, 0] S1x256x128.size inb_S4x640x128_S1x256x128_2_0_0 : Rect S4x640x128).toLoadRect (ix3 0 r d)).trans (half_read1 D b T 2 0 _ r d rfl rfl rfl))) rfl (i 1) hi r c'

theorem s2_10 (H : Inputs D b T x0 x1 x2 x3 x4 x5 x6 x7 x8 x9 x10) (S : Start D b T xs0 xs1 xs2 xs3 xs4) (hi : (i 1).val = T) (x : S1x128x128.Idx) :
    k0_pay78 k0_pay57 (run.sl.r_23 (F := Ideal) i) (run.sl.r_29 (F := Ideal) c i arg3 harg3 arg4 harg4 arg5 harg5 arg6 harg6 arg7 harg7 arg31 harg31 arg32 harg32 arg38 x1 x2 x3 x4 x5 xs0 xs1) x = G8 D b T ((Rect.unit ![2, 128, 0] S1x128x128.size inb_S16x256x256_S1x128x128_2_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 2 1 0 _ _ rfl rfl rfl r c']
  exact cell0_10 D b T 0 2 (arg38.view.readCov (run.sl.HS7_1 (F := Ideal) c i arg3 harg3 arg4 harg4 arg5 harg5 arg6 harg6 arg7 harg7 x1 x2 x3 x4 x5) (Rect.unit ![0, 512] S128x128.size inb_S512x1024_S128x128_0_512 : Rect S512x1024).toLoadRect) (arg38.view.readCov (run.sl.HS7_1 (F := Ideal) c i arg3 harg3 arg4 harg4 arg5 harg5 arg6 harg6 arg7 harg7 x1 x2 x3 x4 x5) (Rect.unit ![0, 640] S128x128.size inb_S512x1024_S128x128_0_640 : Rect S512x1024).toLoadRect) (arg31.view.readAt (Elt Ideal) (Rect.unit ![2, 0, 0] S1x256x128.size inb_S4x640x128_S1x256x128_2_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![2, 0, 0] S1x256x128.size inb_S4x640x128_S1x256x128_2_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![2, 0, 0] S1x256x128.size inb_S4x640x128_S1x256x128_2_0_0 : Rect S4x640x128).toLoadRect (ix3 0 r d)).trans (half_read0 D b T 2 0 _ r d rfl rfl rfl))) rfl (i 1) hi r c'

theorem s2_11 (H : Inputs D b T x0 x1 x2 x3 x4 x5 x6 x7 x8 x9 x10) (S : Start D b T xs0 xs1 xs2 xs3 xs4) (hi : (i 1).val = T) (x : S1x128x128.Idx) :
    k0_pay79 k0_pay57 (run.sl.r_23 (F := Ideal) i) (run.sl.r_29 (F := Ideal) c i arg3 harg3 arg4 harg4 arg5 harg5 arg6 harg6 arg7 harg7 arg31 harg31 arg32 harg32 arg38 x1 x2 x3 x4 x5 xs0 xs1) x = G8 D b T ((Rect.unit ![2, 128, 128] S1x128x128.size inb_S16x256x256_S1x128x128_2_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 2 1 1 _ _ rfl rfl rfl r c']
  exact cell0_11 D b T 0 2 (arg38.view.readCov (run.sl.HS7_1 (F := Ideal) c i arg3 harg3 arg4 harg4 arg5 harg5 arg6 harg6 arg7 harg7 x1 x2 x3 x4 x5) (Rect.unit ![0, 512] S128x128.size inb_S512x1024_S128x128_0_512 : Rect S512x1024).toLoadRect) (arg38.view.readCov (run.sl.HS7_1 (F := Ideal) c i arg3 harg3 arg4 harg4 arg5 harg5 arg6 harg6 arg7 harg7 x1 x2 x3 x4 x5) (Rect.unit ![0, 640] S128x128.size inb_S512x1024_S128x128_0_640 : Rect S512x1024).toLoadRect) (arg31.view.readAt (Elt Ideal) (Rect.unit ![2, 0, 0] S1x256x128.size inb_S4x640x128_S1x256x128_2_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![2, 0, 0] S1x256x128.size inb_S4x640x128_S1x256x128_2_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![2, 0, 0] S1x256x128.size inb_S4x640x128_S1x256x128_2_0_0 : Rect S4x640x128).toLoadRect (ix3 0 r d)).trans (half_read1 D b T 2 0 _ r d rfl rfl rfl))) rfl (i 1) hi r c'

theorem s3_00 (H : Inputs D b T x0 x1 x2 x3 x4 x5 x6 x7 x8 x9 x10) (S : Start D b T xs0 xs1 xs2 xs3 xs4) (hi : (i 1).val = T) (x : S1x128x128.Idx) :
    k0_pay82 (run.sl.r_23 (F := Ideal) i) (run.sl.r_31 (F := Ideal) c i arg3 harg3 arg4 harg4 arg5 harg5 arg6 harg6 arg7 harg7 arg31 harg31 arg32 harg32 arg38 x1 x2 x3 x4 x5 xs0 xs1) x = G8 D b T ((Rect.unit ![3, 0, 0] S1x128x128.size inb_S16x256x256_S1x128x128_3_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 3 0 0 _ _ rfl rfl rfl r c']
  exact cell0_00 D b T 0 3 (arg38.view.readCov (run.sl.HS7_1 (F := Ideal) c i arg3 harg3 arg4 harg4 arg5 harg5 arg6 harg6 arg7 harg7 x1 x2 x3 x4 x5) (Rect.unit ![0, 768] S128x128.size inb_S512x1024_S128x128_0_768 : Rect S512x1024).toLoadRect) (arg38.view.readCov (run.sl.HS7_1 (F := Ideal) c i arg3 harg3 arg4 harg4 arg5 harg5 arg6 harg6 arg7 harg7 x1 x2 x3 x4 x5) (Rect.unit ![0, 896] S128x128.size inb_S512x1024_S128x128_0_896 : Rect S512x1024).toLoadRect) (arg31.view.readAt (Elt Ideal) (Rect.unit ![3, 0, 0] S1x256x128.size inb_S4x640x128_S1x256x128_3_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![3, 0, 0] S1x256x128.size inb_S4x640x128_S1x256x128_3_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![3, 0, 0] S1x256x128.size inb_S4x640x128_S1x256x128_3_0_0 : Rect S4x640x128).toLoadRect (ix3 0 r d)).trans (half_read0 D b T 3 0 _ r d rfl rfl rfl))) rfl (i 1) hi r c'

theorem s3_01 (H : Inputs D b T x0 x1 x2 x3 x4 x5 x6 x7 x8 x9 x10) (S : Start D b T xs0 xs1 xs2 xs3 xs4) (hi : (i 1).val = T) (x : S1x128x128.Idx) :
    k0_pay83 k0_pay57 (run.sl.r_23 (F := Ideal) i) (run.sl.r_30 (F := Ideal) c i arg3 harg3 arg4 harg4 arg5 harg5 arg6 harg6 arg7 harg7 arg31 harg31 arg32 harg32 arg38 x1 x2 x3 x4 x5 xs0 xs1) x = G8 D b T ((Rect.unit ![3, 0, 128] S1x128x128.size inb_S16x256x256_S1x128x128_3_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 3 0 1 _ _ rfl rfl rfl r c']
  exact cell0_01 D b T 0 3 (arg38.view.readCov (run.sl.HS7_1 (F := Ideal) c i arg3 harg3 arg4 harg4 arg5 harg5 arg6 harg6 arg7 harg7 x1 x2 x3 x4 x5) (Rect.unit ![0, 768] S128x128.size inb_S512x1024_S128x128_0_768 : Rect S512x1024).toLoadRect) (arg38.view.readCov (run.sl.HS7_1 (F := Ideal) c i arg3 harg3 arg4 harg4 arg5 harg5 arg6 harg6 arg7 harg7 x1 x2 x3 x4 x5) (Rect.unit ![0, 896] S128x128.size inb_S512x1024_S128x128_0_896 : Rect S512x1024).toLoadRect) (arg31.view.readAt (Elt Ideal) (Rect.unit ![3, 0, 0] S1x256x128.size inb_S4x640x128_S1x256x128_3_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![3, 0, 0] S1x256x128.size inb_S4x640x128_S1x256x128_3_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![3, 0, 0] S1x256x128.size inb_S4x640x128_S1x256x128_3_0_0 : Rect S4x640x128).toLoadRect (ix3 0 r d)).trans (half_read1 D b T 3 0 _ r d rfl rfl rfl))) rfl (i 1) hi r c'

theorem s3_10 (H : Inputs D b T x0 x1 x2 x3 x4 x5 x6 x7 x8 x9 x10) (S : Start D b T xs0 xs1 xs2 xs3 xs4) (hi : (i 1).val = T) (x : S1x128x128.Idx) :
    k0_pay84 k0_pay57 (run.sl.r_23 (F := Ideal) i) (run.sl.r_30 (F := Ideal) c i arg3 harg3 arg4 harg4 arg5 harg5 arg6 harg6 arg7 harg7 arg31 harg31 arg32 harg32 arg38 x1 x2 x3 x4 x5 xs0 xs1) x = G8 D b T ((Rect.unit ![3, 128, 0] S1x128x128.size inb_S16x256x256_S1x128x128_3_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 3 1 0 _ _ rfl rfl rfl r c']
  exact cell0_10 D b T 0 3 (arg38.view.readCov (run.sl.HS7_1 (F := Ideal) c i arg3 harg3 arg4 harg4 arg5 harg5 arg6 harg6 arg7 harg7 x1 x2 x3 x4 x5) (Rect.unit ![0, 768] S128x128.size inb_S512x1024_S128x128_0_768 : Rect S512x1024).toLoadRect) (arg38.view.readCov (run.sl.HS7_1 (F := Ideal) c i arg3 harg3 arg4 harg4 arg5 harg5 arg6 harg6 arg7 harg7 x1 x2 x3 x4 x5) (Rect.unit ![0, 896] S128x128.size inb_S512x1024_S128x128_0_896 : Rect S512x1024).toLoadRect) (arg31.view.readAt (Elt Ideal) (Rect.unit ![3, 0, 0] S1x256x128.size inb_S4x640x128_S1x256x128_3_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![3, 0, 0] S1x256x128.size inb_S4x640x128_S1x256x128_3_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win0 H S (Rect.unit ![3, 0, 0] S1x256x128.size inb_S4x640x128_S1x256x128_3_0_0 : Rect S4x640x128).toLoadRect (ix3 0 r d)).trans (half_read0 D b T 3 0 _ r d rfl rfl rfl))) rfl (i 1) hi r c'

theorem s3_11 (H : Inputs D b T x0 x1 x2 x3 x4 x5 x6 x7 x8 x9 x10) (S : Start D b T xs0 xs1 xs2 xs3 xs4) (hi : (i 1).val = T) (x : S1x128x128.Idx) :
    k0_pay85 k0_pay57 (run.sl.r_23 (F := Ideal) i) (run.sl.r_30 (F := Ideal) c i arg3 harg3 arg4 harg4 arg5 harg5 arg6 harg6 arg7 harg7 arg31 harg31 arg32 harg32 arg38 x1 x2 x3 x4 x5 xs0 xs1) x = G8 D b T ((Rect.unit ![3, 128, 128] S1x128x128.size inb_S16x256x256_S1x128x128_3_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 3 1 1 _ _ rfl rfl rfl r c']
  exact cell0_11 D b T 0 3 (arg38.view.readCov (run.sl.HS7_1 (F := Ideal) c i arg3 harg3 arg4 harg4 arg5 harg5 arg6 harg6 arg7 harg7 x1 x2 x3 x4 x5) (Rect.unit ![0, 768] S128x128.size inb_S512x1024_S128x128_0_768 : Rect S512x1024).toLoadRect) (arg38.view.readCov (run.sl.HS7_1 (F := Ideal) c i arg3 harg3 arg4 harg4 arg5 harg5 arg6 harg6 arg7 harg7 x1 x2 x3 x4 x5) (Rect.unit ![0, 896] S128x128.size inb_S512x1024_S128x128_0_896 : Rect S512x1024).toLoadRect) (arg31.view.readAt (Elt Ideal) (Rect.unit ![3, 0, 0] S1x256x128.size inb_S4x640x128_S1x256x128_3_0_0 : Rect S4x640x128).toLoadRect (arg31.view.writes (Elt Ideal) (harg31.unread xs0) (run.sl.HS0_4 (F := Ideal) c i arg3 harg3 arg4 harg4 arg5 harg5 arg6 harg6 arg7 harg7 x1 x2 x3 x4 x5))) (arg32.view.readAt (Elt Ideal) (Rect.unit ![3, 0, 0] S1x256x128.size inb_S4x640x128_S1x256x128_3_0_0 : Rect S4x640x128).toLoadRect (arg32.view.writes (Elt Ideal) (harg32.unread xs1) (run.sl.HS1_4 (F := Ideal) c i arg3 harg3 arg4 harg4 arg5 harg5 arg6 harg6 arg7 harg7 x1 x2 x3 x4 x5)))
    (fun x d => (q_read H _ _ x d).trans rfl)
    (fun r d => ((win1 H S (Rect.unit ![3, 0, 0] S1x256x128.size inb_S4x640x128_S1x256x128_3_0_0 : Rect S4x640x128).toLoadRect (ix3 0 r d)).trans (half_read1 D b T 3 0 _ r d rfl rfl rfl))) rfl (i 1) hi r c'

theorem s4_00 (H : Inputs D b T x0 x1 x2 x3 x4 x5 x6 x7 x8 x9 x10) (x : S1x128x128.Idx) :
    k0_pay89 k0_pay57 (run.sl.r_32 (F := Ideal) c i arg3 harg3 arg4 harg4 arg5 harg5 arg6 harg6 arg7 harg7 arg38 x1 x2 x3 x4 x5) (run.sl.r_33 (F := Ideal) c i arg3 harg3 arg4 harg4 arg5 harg5 arg6 harg6 arg7 harg7 arg31 x1 x2 x3 x4 x5) (run.sl.v463 (F := Ideal) c i arg3 harg3 arg4 harg4 arg5 harg5 arg6 harg6 arg7 harg7 arg32 x1 x2 x3 x4 x5) x = G8 D b T ((Rect.unit ![4, 0, 0] S1x128x128.size inb_S16x256x256_S1x128x128_4_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 4 0 0 _ _ rfl rfl rfl r c']
  exact cell_00 D b T 1 0 (arg38.view.readCov (run.sl.HS7_1 (F := Ideal) c i arg3 harg3 arg4 harg4 arg5 harg5 arg6 harg6 arg7 harg7 x1 x2 x3 x4 x5) (Rect.unit ![128, 0] S128x128.size inb_S512x1024_S128x128_128_0 : Rect S512x1024).toLoadRect) (arg38.view.readCov (run.sl.HS7_1 (F := Ideal) c i arg3 harg3 arg4 harg4 arg5 harg5 arg6 harg6 arg7 harg7 x1 x2 x3 x4 x5) (Rect.unit ![128, 128] S128x128.size inb_S512x1024_S128x128_128_128 : Rect S512x1024).toLoadRect) (arg31.view.readCov (run.sl.HS0_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect) (arg32.view.readCov (run.sl.HS1_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect)
    (fun x d => (q_read H _ _ x d).trans rfl)
    (fun r d => ((cov0 H (Rect.unit ![0, 128, 0] S1x256x128.size inb_S4x640x128_S1x256x128_0_128_0 : Rect S4x640x128).toLoadRect (ix3 0 r d) (by show 128 ≤ 128 + 1 * r.val; omega)).trans (half_read0 D b T 0 128 _ r d rfl rfl rfl))) (by decide) r c'

theorem s4_01 (H : Inputs D b T x0 x1 x2 x3 x4 x5 x6 x7 x8 x9 x10) (x : S1x128x128.Idx) :
    k0_pay90 k0_pay57 (run.sl.r_32 (F := Ideal) c i arg3 harg3 arg4 harg4 arg5 harg5 arg6 harg6 arg7 harg7 arg38 x1 x2 x3 x4 x5) (run.sl.r_33 (F := Ideal) c i arg3 harg3 arg4 harg4 arg5 harg5 arg6 harg6 arg7 harg7 arg31 x1 x2 x3 x4 x5) (run.sl.v463 (F := Ideal) c i arg3 harg3 arg4 harg4 arg5 harg5 arg6 harg6 arg7 harg7 arg32 x1 x2 x3 x4 x5) x = G8 D b T ((Rect.unit ![4, 0, 128] S1x128x128.size inb_S16x256x256_S1x128x128_4_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 4 0 1 _ _ rfl rfl rfl r c']
  exact cell_01 D b T 1 0 (arg38.view.readCov (run.sl.HS7_1 (F := Ideal) c i arg3 harg3 arg4 harg4 arg5 harg5 arg6 harg6 arg7 harg7 x1 x2 x3 x4 x5) (Rect.unit ![128, 0] S128x128.size inb_S512x1024_S128x128_128_0 : Rect S512x1024).toLoadRect) (arg38.view.readCov (run.sl.HS7_1 (F := Ideal) c i arg3 harg3 arg4 harg4 arg5 harg5 arg6 harg6 arg7 harg7 x1 x2 x3 x4 x5) (Rect.unit ![128, 128] S128x128.size inb_S512x1024_S128x128_128_128 : Rect S512x1024).toLoadRect) (arg31.view.readCov (run.sl.HS0_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect) (arg32.view.readCov (run.sl.HS1_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect)
    (fun x d => (q_read H _ _ x d).trans rfl)
    (fun r d => ((cov1 H (Rect.unit ![0, 128, 0] S1x256x128.size inb_S4x640x128_S1x256x128_0_128_0 : Rect S4x640x128).toLoadRect (ix3 0 r d) (by show 128 ≤ 128 + 1 * r.val; omega)).trans (half_read1 D b T 0 128 _ r d rfl rfl rfl))) (by decide) r c'

theorem s4_10 (H : Inputs D b T x0 x1 x2 x3 x4 x5 x6 x7 x8 x9 x10) (x : S1x128x128.Idx) :
    k0_pay91 k0_pay57 (run.sl.r_32 (F := Ideal) c i arg3 harg3 arg4 harg4 arg5 harg5 arg6 harg6 arg7 harg7 arg38 x1 x2 x3 x4 x5) (run.sl.r_33 (F := Ideal) c i arg3 harg3 arg4 harg4 arg5 harg5 arg6 harg6 arg7 harg7 arg31 x1 x2 x3 x4 x5) (run.sl.v463 (F := Ideal) c i arg3 harg3 arg4 harg4 arg5 harg5 arg6 harg6 arg7 harg7 arg32 x1 x2 x3 x4 x5) x = G8 D b T ((Rect.unit ![4, 128, 0] S1x128x128.size inb_S16x256x256_S1x128x128_4_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 4 1 0 _ _ rfl rfl rfl r c']
  exact cell_10 D b T 1 0 (arg38.view.readCov (run.sl.HS7_1 (F := Ideal) c i arg3 harg3 arg4 harg4 arg5 harg5 arg6 harg6 arg7 harg7 x1 x2 x3 x4 x5) (Rect.unit ![128, 0] S128x128.size inb_S512x1024_S128x128_128_0 : Rect S512x1024).toLoadRect) (arg38.view.readCov (run.sl.HS7_1 (F := Ideal) c i arg3 harg3 arg4 harg4 arg5 harg5 arg6 harg6 arg7 harg7 x1 x2 x3 x4 x5) (Rect.unit ![128, 128] S128x128.size inb_S512x1024_S128x128_128_128 : Rect S512x1024).toLoadRect) (arg31.view.readCov (run.sl.HS0_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect) (arg32.view.readCov (run.sl.HS1_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect)
    (fun x d => (q_read H _ _ x d).trans rfl)
    (fun r d => ((cov0 H (Rect.unit ![0, 128, 0] S1x256x128.size inb_S4x640x128_S1x256x128_0_128_0 : Rect S4x640x128).toLoadRect (ix3 0 r d) (by show 128 ≤ 128 + 1 * r.val; omega)).trans (half_read0 D b T 0 128 _ r d rfl rfl rfl))) (by decide) r c'

theorem s4_11 (H : Inputs D b T x0 x1 x2 x3 x4 x5 x6 x7 x8 x9 x10) (x : S1x128x128.Idx) :
    k0_pay92 k0_pay57 (run.sl.r_32 (F := Ideal) c i arg3 harg3 arg4 harg4 arg5 harg5 arg6 harg6 arg7 harg7 arg38 x1 x2 x3 x4 x5) (run.sl.r_33 (F := Ideal) c i arg3 harg3 arg4 harg4 arg5 harg5 arg6 harg6 arg7 harg7 arg31 x1 x2 x3 x4 x5) (run.sl.v463 (F := Ideal) c i arg3 harg3 arg4 harg4 arg5 harg5 arg6 harg6 arg7 harg7 arg32 x1 x2 x3 x4 x5) x = G8 D b T ((Rect.unit ![4, 128, 128] S1x128x128.size inb_S16x256x256_S1x128x128_4_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 4 1 1 _ _ rfl rfl rfl r c']
  exact cell_11 D b T 1 0 (arg38.view.readCov (run.sl.HS7_1 (F := Ideal) c i arg3 harg3 arg4 harg4 arg5 harg5 arg6 harg6 arg7 harg7 x1 x2 x3 x4 x5) (Rect.unit ![128, 0] S128x128.size inb_S512x1024_S128x128_128_0 : Rect S512x1024).toLoadRect) (arg38.view.readCov (run.sl.HS7_1 (F := Ideal) c i arg3 harg3 arg4 harg4 arg5 harg5 arg6 harg6 arg7 harg7 x1 x2 x3 x4 x5) (Rect.unit ![128, 128] S128x128.size inb_S512x1024_S128x128_128_128 : Rect S512x1024).toLoadRect) (arg31.view.readCov (run.sl.HS0_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect) (arg32.view.readCov (run.sl.HS1_4 (F := Ideal) c i arg3 harg3 arg4 harg4 arg5 harg5 arg6 harg6 arg7 harg7 x1 x2 x3 x4 x5) (Rect.unit ![0, 128, 0] S1x256x128.size inb_S4x640x128_S1x256x128_0_128_0 : Rect S4x640x128).toLoadRect)
    (fun x d => (q_read H _ _ x d).trans rfl)
    (fun r d => ((cov1 H (Rect.unit ![0, 128, 0] S1x256x128.size inb_S4x640x128_S1x256x128_0_128_0 : Rect S4x640x128).toLoadRect (ix3 0 r d) (by show 128 ≤ 128 + 1 * r.val; omega)).trans (half_read1 D b T 0 128 _ r d rfl rfl rfl))) (by decide) r c'

theorem s5_00 (H : Inputs D b T x0 x1 x2 x3 x4 x5 x6 x7 x8 x9 x10) (x : S1x128x128.Idx) :
    k0_pay96 k0_pay57 (run.sl.r_34 (F := Ideal) c i arg3 harg3 arg4 harg4 arg5 harg5 arg6 harg6 arg7 harg7 arg38 x1 x2 x3 x4 x5) (run.sl.r_35 (F := Ideal) c i arg3 harg3 arg4 harg4 arg5 harg5 arg6 harg6 arg7 harg7 arg31 x1 x2 x3 x4 x5) (run.sl.v500 (F := Ideal) c i arg3 harg3 arg4 harg4 arg5 harg5 arg6 harg6 arg7 harg7 arg32 x1 x2 x3 x4 x5) x = G8 D b T ((Rect.unit ![5, 0, 0] S1x128x128.size inb_S16x256x256_S1x128x128_5_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 5 0 0 _ _ rfl rfl rfl r c']
  exact cell_00 D b T 1 1 (arg38.view.readCov (run.sl.HS7_1 (F := Ideal) c i arg3 harg3 arg4 harg4 arg5 harg5 arg6 harg6 arg7 harg7 x1 x2 x3 x4 x5) (Rect.unit ![128, 256] S128x128.size inb_S512x1024_S128x128_128_256 : Rect S512x1024).toLoadRect) (arg38.view.readCov (run.sl.HS7_1 (F := Ideal) c i arg3 harg3 arg4 harg4 arg5 harg5 arg6 harg6 arg7 harg7 x1 x2 x3 x4 x5) (Rect.unit ![128, 384] S128x128.size inb_S512x1024_S128x128_128_384 : Rect S512x1024).toLoadRect) (arg31.view.readCov (run.sl.HS0_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect) (arg32.view.readCov (run.sl.HS1_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect)
    (fun x d => (q_read H _ _ x d).trans rfl)
    (fun r d => ((cov0 H (Rect.unit ![1, 128, 0] S1x256x128.size inb_S4x640x128_S1x256x128_1_128_0 : Rect S4x640x128).toLoadRect (ix3 0 r d) (by show 128 ≤ 128 + 1 * r.val; omega)).trans (half_read0 D b T 1 128 _ r d rfl rfl rfl))) (by decide) r c'

theorem s5_01 (H : Inputs D b T x0 x1 x2 x3 x4 x5 x6 x7 x8 x9 x10) (x : S1x128x128.Idx) :
    k0_pay97 k0_pay57 (run.sl.r_34 (F := Ideal) c i arg3 harg3 arg4 harg4 arg5 harg5 arg6 harg6 arg7 harg7 arg38 x1 x2 x3 x4 x5) (run.sl.r_35 (F := Ideal) c i arg3 harg3 arg4 harg4 arg5 harg5 arg6 harg6 arg7 harg7 arg31 x1 x2 x3 x4 x5) (run.sl.v500 (F := Ideal) c i arg3 harg3 arg4 harg4 arg5 harg5 arg6 harg6 arg7 harg7 arg32 x1 x2 x3 x4 x5) x = G8 D b T ((Rect.unit ![5, 0, 128] S1x128x128.size inb_S16x256x256_S1x128x128_5_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 5 0 1 _ _ rfl rfl rfl r c']
  exact cell_01 D b T 1 1 (arg38.view.readCov (run.sl.HS7_1 (F := Ideal) c i arg3 harg3 arg4 harg4 arg5 harg5 arg6 harg6 arg7 harg7 x1 x2 x3 x4 x5) (Rect.unit ![128, 256] S128x128.size inb_S512x1024_S128x128_128_256 : Rect S512x1024).toLoadRect) (arg38.view.readCov (run.sl.HS7_1 (F := Ideal) c i arg3 harg3 arg4 harg4 arg5 harg5 arg6 harg6 arg7 harg7 x1 x2 x3 x4 x5) (Rect.unit ![128, 384] S128x128.size inb_S512x1024_S128x128_128_384 : Rect S512x1024).toLoadRect) (arg31.view.readCov (run.sl.HS0_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect) (arg32.view.readCov (run.sl.HS1_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect)
    (fun x d => (q_read H _ _ x d).trans rfl)
    (fun r d => ((cov1 H (Rect.unit ![1, 128, 0] S1x256x128.size inb_S4x640x128_S1x256x128_1_128_0 : Rect S4x640x128).toLoadRect (ix3 0 r d) (by show 128 ≤ 128 + 1 * r.val; omega)).trans (half_read1 D b T 1 128 _ r d rfl rfl rfl))) (by decide) r c'

theorem s5_10 (H : Inputs D b T x0 x1 x2 x3 x4 x5 x6 x7 x8 x9 x10) (x : S1x128x128.Idx) :
    k0_pay98 k0_pay57 (run.sl.r_34 (F := Ideal) c i arg3 harg3 arg4 harg4 arg5 harg5 arg6 harg6 arg7 harg7 arg38 x1 x2 x3 x4 x5) (run.sl.r_35 (F := Ideal) c i arg3 harg3 arg4 harg4 arg5 harg5 arg6 harg6 arg7 harg7 arg31 x1 x2 x3 x4 x5) (run.sl.v500 (F := Ideal) c i arg3 harg3 arg4 harg4 arg5 harg5 arg6 harg6 arg7 harg7 arg32 x1 x2 x3 x4 x5) x = G8 D b T ((Rect.unit ![5, 128, 0] S1x128x128.size inb_S16x256x256_S1x128x128_5_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 5 1 0 _ _ rfl rfl rfl r c']
  exact cell_10 D b T 1 1 (arg38.view.readCov (run.sl.HS7_1 (F := Ideal) c i arg3 harg3 arg4 harg4 arg5 harg5 arg6 harg6 arg7 harg7 x1 x2 x3 x4 x5) (Rect.unit ![128, 256] S128x128.size inb_S512x1024_S128x128_128_256 : Rect S512x1024).toLoadRect) (arg38.view.readCov (run.sl.HS7_1 (F := Ideal) c i arg3 harg3 arg4 harg4 arg5 harg5 arg6 harg6 arg7 harg7 x1 x2 x3 x4 x5) (Rect.unit ![128, 384] S128x128.size inb_S512x1024_S128x128_128_384 : Rect S512x1024).toLoadRect) (arg31.view.readCov (run.sl.HS0_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect) (arg32.view.readCov (run.sl.HS1_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect)
    (fun x d => (q_read H _ _ x d).trans rfl)
    (fun r d => ((cov0 H (Rect.unit ![1, 128, 0] S1x256x128.size inb_S4x640x128_S1x256x128_1_128_0 : Rect S4x640x128).toLoadRect (ix3 0 r d) (by show 128 ≤ 128 + 1 * r.val; omega)).trans (half_read0 D b T 1 128 _ r d rfl rfl rfl))) (by decide) r c'

theorem s5_11 (H : Inputs D b T x0 x1 x2 x3 x4 x5 x6 x7 x8 x9 x10) (x : S1x128x128.Idx) :
    k0_pay99 k0_pay57 (run.sl.r_34 (F := Ideal) c i arg3 harg3 arg4 harg4 arg5 harg5 arg6 harg6 arg7 harg7 arg38 x1 x2 x3 x4 x5) (run.sl.r_35 (F := Ideal) c i arg3 harg3 arg4 harg4 arg5 harg5 arg6 harg6 arg7 harg7 arg31 x1 x2 x3 x4 x5) (run.sl.v500 (F := Ideal) c i arg3 harg3 arg4 harg4 arg5 harg5 arg6 harg6 arg7 harg7 arg32 x1 x2 x3 x4 x5) x = G8 D b T ((Rect.unit ![5, 128, 128] S1x128x128.size inb_S16x256x256_S1x128x128_5_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 5 1 1 _ _ rfl rfl rfl r c']
  exact cell_11 D b T 1 1 (arg38.view.readCov (run.sl.HS7_1 (F := Ideal) c i arg3 harg3 arg4 harg4 arg5 harg5 arg6 harg6 arg7 harg7 x1 x2 x3 x4 x5) (Rect.unit ![128, 256] S128x128.size inb_S512x1024_S128x128_128_256 : Rect S512x1024).toLoadRect) (arg38.view.readCov (run.sl.HS7_1 (F := Ideal) c i arg3 harg3 arg4 harg4 arg5 harg5 arg6 harg6 arg7 harg7 x1 x2 x3 x4 x5) (Rect.unit ![128, 384] S128x128.size inb_S512x1024_S128x128_128_384 : Rect S512x1024).toLoadRect) (arg31.view.readCov (run.sl.HS0_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect) (arg32.view.readCov (run.sl.HS1_4 (F := Ideal) c i arg3 harg3 arg4 harg4 arg5 harg5 arg6 harg6 arg7 harg7 x1 x2 x3 x4 x5) (Rect.unit ![1, 128, 0] S1x256x128.size inb_S4x640x128_S1x256x128_1_128_0 : Rect S4x640x128).toLoadRect)
    (fun x d => (q_read H _ _ x d).trans rfl)
    (fun r d => ((cov1 H (Rect.unit ![1, 128, 0] S1x256x128.size inb_S4x640x128_S1x256x128_1_128_0 : Rect S4x640x128).toLoadRect (ix3 0 r d) (by show 128 ≤ 128 + 1 * r.val; omega)).trans (half_read1 D b T 1 128 _ r d rfl rfl rfl))) (by decide) r c'

theorem s6_00 (H : Inputs D b T x0 x1 x2 x3 x4 x5 x6 x7 x8 x9 x10) (x : S1x128x128.Idx) :
    k0_pay102 k0_pay57 (run.sl.r_36 (F := Ideal) c i arg3 harg3 arg4 harg4 arg5 harg5 arg6 harg6 arg7 harg7 arg38 x1 x2 x3 x4 x5) (run.sl.v535 (F := Ideal) c i arg3 harg3 arg4 harg4 arg5 harg5 arg6 harg6 arg7 harg7 arg31 x1 x2 x3 x4 x5) (run.sl.v537 (F := Ideal) c i arg3 harg3 arg4 harg4 arg5 harg5 arg6 harg6 arg7 harg7 arg32 x1 x2 x3 x4 x5) x = G8 D b T ((Rect.unit ![6, 0, 0] S1x128x128.size inb_S16x256x256_S1x128x128_6_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 6 0 0 _ _ rfl rfl rfl r c']
  exact cell_00 D b T 1 2 (arg38.view.readCov (run.sl.HS7_1 (F := Ideal) c i arg3 harg3 arg4 harg4 arg5 harg5 arg6 harg6 arg7 harg7 x1 x2 x3 x4 x5) (Rect.unit ![128, 512] S128x128.size inb_S512x1024_S128x128_128_512 : Rect S512x1024).toLoadRect) (arg38.view.readCov (run.sl.HS7_1 (F := Ideal) c i arg3 harg3 arg4 harg4 arg5 harg5 arg6 harg6 arg7 harg7 x1 x2 x3 x4 x5) (Rect.unit ![128, 640] S128x128.size inb_S512x1024_S128x128_128_640 : Rect S512x1024).toLoadRect) (arg31.view.readCov (run.sl.HS0_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect) (arg32.view.readCov (run.sl.HS1_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect)
    (fun x d => (q_read H _ _ x d).trans rfl)
    (fun r d => ((cov0 H (Rect.unit ![2, 128, 0] S1x256x128.size inb_S4x640x128_S1x256x128_2_128_0 : Rect S4x640x128).toLoadRect (ix3 0 r d) (by show 128 ≤ 128 + 1 * r.val; omega)).trans (half_read0 D b T 2 128 _ r d rfl rfl rfl))) (by decide) r c'

theorem s6_01 (H : Inputs D b T x0 x1 x2 x3 x4 x5 x6 x7 x8 x9 x10) (x : S1x128x128.Idx) :
    k0_pay103 k0_pay57 (run.sl.r_36 (F := Ideal) c i arg3 harg3 arg4 harg4 arg5 harg5 arg6 harg6 arg7 harg7 arg38 x1 x2 x3 x4 x5) (run.sl.v535 (F := Ideal) c i arg3 harg3 arg4 harg4 arg5 harg5 arg6 harg6 arg7 harg7 arg31 x1 x2 x3 x4 x5) (run.sl.v537 (F := Ideal) c i arg3 harg3 arg4 harg4 arg5 harg5 arg6 harg6 arg7 harg7 arg32 x1 x2 x3 x4 x5) x = G8 D b T ((Rect.unit ![6, 0, 128] S1x128x128.size inb_S16x256x256_S1x128x128_6_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 6 0 1 _ _ rfl rfl rfl r c']
  exact cell_01 D b T 1 2 (arg38.view.readCov (run.sl.HS7_1 (F := Ideal) c i arg3 harg3 arg4 harg4 arg5 harg5 arg6 harg6 arg7 harg7 x1 x2 x3 x4 x5) (Rect.unit ![128, 512] S128x128.size inb_S512x1024_S128x128_128_512 : Rect S512x1024).toLoadRect) (arg38.view.readCov (run.sl.HS7_1 (F := Ideal) c i arg3 harg3 arg4 harg4 arg5 harg5 arg6 harg6 arg7 harg7 x1 x2 x3 x4 x5) (Rect.unit ![128, 640] S128x128.size inb_S512x1024_S128x128_128_640 : Rect S512x1024).toLoadRect) (arg31.view.readCov (run.sl.HS0_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect) (arg32.view.readCov (run.sl.HS1_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect)
    (fun x d => (q_read H _ _ x d).trans rfl)
    (fun r d => ((cov1 H (Rect.unit ![2, 128, 0] S1x256x128.size inb_S4x640x128_S1x256x128_2_128_0 : Rect S4x640x128).toLoadRect (ix3 0 r d) (by show 128 ≤ 128 + 1 * r.val; omega)).trans (half_read1 D b T 2 128 _ r d rfl rfl rfl))) (by decide) r c'

theorem s6_10 (H : Inputs D b T x0 x1 x2 x3 x4 x5 x6 x7 x8 x9 x10) (x : S1x128x128.Idx) :
    k0_pay104 k0_pay57 (run.sl.r_36 (F := Ideal) c i arg3 harg3 arg4 harg4 arg5 harg5 arg6 harg6 arg7 harg7 arg38 x1 x2 x3 x4 x5) (run.sl.v535 (F := Ideal) c i arg3 harg3 arg4 harg4 arg5 harg5 arg6 harg6 arg7 harg7 arg31 x1 x2 x3 x4 x5) (run.sl.v537 (F := Ideal) c i arg3 harg3 arg4 harg4 arg5 harg5 arg6 harg6 arg7 harg7 arg32 x1 x2 x3 x4 x5) x = G8 D b T ((Rect.unit ![6, 128, 0] S1x128x128.size inb_S16x256x256_S1x128x128_6_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 6 1 0 _ _ rfl rfl rfl r c']
  exact cell_10 D b T 1 2 (arg38.view.readCov (run.sl.HS7_1 (F := Ideal) c i arg3 harg3 arg4 harg4 arg5 harg5 arg6 harg6 arg7 harg7 x1 x2 x3 x4 x5) (Rect.unit ![128, 512] S128x128.size inb_S512x1024_S128x128_128_512 : Rect S512x1024).toLoadRect) (arg38.view.readCov (run.sl.HS7_1 (F := Ideal) c i arg3 harg3 arg4 harg4 arg5 harg5 arg6 harg6 arg7 harg7 x1 x2 x3 x4 x5) (Rect.unit ![128, 640] S128x128.size inb_S512x1024_S128x128_128_640 : Rect S512x1024).toLoadRect) (arg31.view.readCov (run.sl.HS0_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect) (arg32.view.readCov (run.sl.HS1_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect)
    (fun x d => (q_read H _ _ x d).trans rfl)
    (fun r d => ((cov0 H (Rect.unit ![2, 128, 0] S1x256x128.size inb_S4x640x128_S1x256x128_2_128_0 : Rect S4x640x128).toLoadRect (ix3 0 r d) (by show 128 ≤ 128 + 1 * r.val; omega)).trans (half_read0 D b T 2 128 _ r d rfl rfl rfl))) (by decide) r c'

theorem s6_11 (H : Inputs D b T x0 x1 x2 x3 x4 x5 x6 x7 x8 x9 x10) (x : S1x128x128.Idx) :
    k0_pay105 k0_pay57 (run.sl.r_36 (F := Ideal) c i arg3 harg3 arg4 harg4 arg5 harg5 arg6 harg6 arg7 harg7 arg38 x1 x2 x3 x4 x5) (run.sl.v535 (F := Ideal) c i arg3 harg3 arg4 harg4 arg5 harg5 arg6 harg6 arg7 harg7 arg31 x1 x2 x3 x4 x5) (run.sl.v537 (F := Ideal) c i arg3 harg3 arg4 harg4 arg5 harg5 arg6 harg6 arg7 harg7 arg32 x1 x2 x3 x4 x5) x = G8 D b T ((Rect.unit ![6, 128, 128] S1x128x128.size inb_S16x256x256_S1x128x128_6_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 6 1 1 _ _ rfl rfl rfl r c']
  exact cell_11 D b T 1 2 (arg38.view.readCov (run.sl.HS7_1 (F := Ideal) c i arg3 harg3 arg4 harg4 arg5 harg5 arg6 harg6 arg7 harg7 x1 x2 x3 x4 x5) (Rect.unit ![128, 512] S128x128.size inb_S512x1024_S128x128_128_512 : Rect S512x1024).toLoadRect) (arg38.view.readCov (run.sl.HS7_1 (F := Ideal) c i arg3 harg3 arg4 harg4 arg5 harg5 arg6 harg6 arg7 harg7 x1 x2 x3 x4 x5) (Rect.unit ![128, 640] S128x128.size inb_S512x1024_S128x128_128_640 : Rect S512x1024).toLoadRect) (arg31.view.readCov (run.sl.HS0_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect) (arg32.view.readCov (run.sl.HS1_4 (F := Ideal) c i arg3 harg3 arg4 harg4 arg5 harg5 arg6 harg6 arg7 harg7 x1 x2 x3 x4 x5) (Rect.unit ![2, 128, 0] S1x256x128.size inb_S4x640x128_S1x256x128_2_128_0 : Rect S4x640x128).toLoadRect)
    (fun x d => (q_read H _ _ x d).trans rfl)
    (fun r d => ((cov1 H (Rect.unit ![2, 128, 0] S1x256x128.size inb_S4x640x128_S1x256x128_2_128_0 : Rect S4x640x128).toLoadRect (ix3 0 r d) (by show 128 ≤ 128 + 1 * r.val; omega)).trans (half_read1 D b T 2 128 _ r d rfl rfl rfl))) (by decide) r c'

theorem s7_00 (H : Inputs D b T x0 x1 x2 x3 x4 x5 x6 x7 x8 x9 x10) (x : S1x128x128.Idx) :
    k0_pay107 k0_pay57 (run.sl.v569 (F := Ideal) c i arg3 harg3 arg4 harg4 arg5 harg5 arg6 harg6 arg7 harg7 arg38 x1 x2 x3 x4 x5) (run.sl.v570 (F := Ideal) c i arg3 harg3 arg4 harg4 arg5 harg5 arg6 harg6 arg7 harg7 arg38 x1 x2 x3 x4 x5) (run.sl.v572 (F := Ideal) c i arg3 harg3 arg4 harg4 arg5 harg5 arg6 harg6 arg7 harg7 arg31 x1 x2 x3 x4 x5) (run.sl.v574 (F := Ideal) c i arg3 harg3 arg4 harg4 arg5 harg5 arg6 harg6 arg7 harg7 arg32 x1 x2 x3 x4 x5) x = G8 D b T ((Rect.unit ![7, 0, 0] S1x128x128.size inb_S16x256x256_S1x128x128_7_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 7 0 0 _ _ rfl rfl rfl r c']
  exact cell_00 D b T 1 3 (arg38.view.readCov (run.sl.HS7_1 (F := Ideal) c i arg3 harg3 arg4 harg4 arg5 harg5 arg6 harg6 arg7 harg7 x1 x2 x3 x4 x5) (Rect.unit ![128, 768] S128x128.size inb_S512x1024_S128x128_128_768 : Rect S512x1024).toLoadRect) (arg38.view.readCov (run.sl.HS7_1 (F := Ideal) c i arg3 harg3 arg4 harg4 arg5 harg5 arg6 harg6 arg7 harg7 x1 x2 x3 x4 x5) (Rect.unit ![128, 896] S128x128.size inb_S512x1024_S128x128_128_896 : Rect S512x1024).toLoadRect) (arg31.view.readCov (run.sl.HS0_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect) (arg32.view.readCov (run.sl.HS1_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect)
    (fun x d => (q_read H _ _ x d).trans rfl)
    (fun r d => ((cov0 H (Rect.unit ![3, 128, 0] S1x256x128.size inb_S4x640x128_S1x256x128_3_128_0 : Rect S4x640x128).toLoadRect (ix3 0 r d) (by show 128 ≤ 128 + 1 * r.val; omega)).trans (half_read0 D b T 3 128 _ r d rfl rfl rfl))) (by decide) r c'

theorem s7_01 (H : Inputs D b T x0 x1 x2 x3 x4 x5 x6 x7 x8 x9 x10) (x : S1x128x128.Idx) :
    k0_pay108 k0_pay57 (run.sl.v569 (F := Ideal) c i arg3 harg3 arg4 harg4 arg5 harg5 arg6 harg6 arg7 harg7 arg38 x1 x2 x3 x4 x5) (run.sl.v570 (F := Ideal) c i arg3 harg3 arg4 harg4 arg5 harg5 arg6 harg6 arg7 harg7 arg38 x1 x2 x3 x4 x5) (run.sl.v572 (F := Ideal) c i arg3 harg3 arg4 harg4 arg5 harg5 arg6 harg6 arg7 harg7 arg31 x1 x2 x3 x4 x5) (run.sl.v574 (F := Ideal) c i arg3 harg3 arg4 harg4 arg5 harg5 arg6 harg6 arg7 harg7 arg32 x1 x2 x3 x4 x5) x = G8 D b T ((Rect.unit ![7, 0, 128] S1x128x128.size inb_S16x256x256_S1x128x128_7_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 7 0 1 _ _ rfl rfl rfl r c']
  exact cell_01 D b T 1 3 (arg38.view.readCov (run.sl.HS7_1 (F := Ideal) c i arg3 harg3 arg4 harg4 arg5 harg5 arg6 harg6 arg7 harg7 x1 x2 x3 x4 x5) (Rect.unit ![128, 768] S128x128.size inb_S512x1024_S128x128_128_768 : Rect S512x1024).toLoadRect) (arg38.view.readCov (run.sl.HS7_1 (F := Ideal) c i arg3 harg3 arg4 harg4 arg5 harg5 arg6 harg6 arg7 harg7 x1 x2 x3 x4 x5) (Rect.unit ![128, 896] S128x128.size inb_S512x1024_S128x128_128_896 : Rect S512x1024).toLoadRect) (arg31.view.readCov (run.sl.HS0_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect) (arg32.view.readCov (run.sl.HS1_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect)
    (fun x d => (q_read H _ _ x d).trans rfl)
    (fun r d => ((cov1 H (Rect.unit ![3, 128, 0] S1x256x128.size inb_S4x640x128_S1x256x128_3_128_0 : Rect S4x640x128).toLoadRect (ix3 0 r d) (by show 128 ≤ 128 + 1 * r.val; omega)).trans (half_read1 D b T 3 128 _ r d rfl rfl rfl))) (by decide) r c'

theorem s7_10 (H : Inputs D b T x0 x1 x2 x3 x4 x5 x6 x7 x8 x9 x10) (x : S1x128x128.Idx) :
    k0_pay109 k0_pay57 (run.sl.v569 (F := Ideal) c i arg3 harg3 arg4 harg4 arg5 harg5 arg6 harg6 arg7 harg7 arg38 x1 x2 x3 x4 x5) (run.sl.v570 (F := Ideal) c i arg3 harg3 arg4 harg4 arg5 harg5 arg6 harg6 arg7 harg7 arg38 x1 x2 x3 x4 x5) (run.sl.v572 (F := Ideal) c i arg3 harg3 arg4 harg4 arg5 harg5 arg6 harg6 arg7 harg7 arg31 x1 x2 x3 x4 x5) (run.sl.v574 (F := Ideal) c i arg3 harg3 arg4 harg4 arg5 harg5 arg6 harg6 arg7 harg7 arg32 x1 x2 x3 x4 x5) x = G8 D b T ((Rect.unit ![7, 128, 0] S1x128x128.size inb_S16x256x256_S1x128x128_7_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 7 1 0 _ _ rfl rfl rfl r c']
  exact cell_10 D b T 1 3 (arg38.view.readCov (run.sl.HS7_1 (F := Ideal) c i arg3 harg3 arg4 harg4 arg5 harg5 arg6 harg6 arg7 harg7 x1 x2 x3 x4 x5) (Rect.unit ![128, 768] S128x128.size inb_S512x1024_S128x128_128_768 : Rect S512x1024).toLoadRect) (arg38.view.readCov (run.sl.HS7_1 (F := Ideal) c i arg3 harg3 arg4 harg4 arg5 harg5 arg6 harg6 arg7 harg7 x1 x2 x3 x4 x5) (Rect.unit ![128, 896] S128x128.size inb_S512x1024_S128x128_128_896 : Rect S512x1024).toLoadRect) (arg31.view.readCov (run.sl.HS0_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect) (arg32.view.readCov (run.sl.HS1_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect)
    (fun x d => (q_read H _ _ x d).trans rfl)
    (fun r d => ((cov0 H (Rect.unit ![3, 128, 0] S1x256x128.size inb_S4x640x128_S1x256x128_3_128_0 : Rect S4x640x128).toLoadRect (ix3 0 r d) (by show 128 ≤ 128 + 1 * r.val; omega)).trans (half_read0 D b T 3 128 _ r d rfl rfl rfl))) (by decide) r c'

theorem s7_11 (H : Inputs D b T x0 x1 x2 x3 x4 x5 x6 x7 x8 x9 x10) (x : S1x128x128.Idx) :
    k0_pay110 k0_pay57 (run.sl.v569 (F := Ideal) c i arg3 harg3 arg4 harg4 arg5 harg5 arg6 harg6 arg7 harg7 arg38 x1 x2 x3 x4 x5) (run.sl.v570 (F := Ideal) c i arg3 harg3 arg4 harg4 arg5 harg5 arg6 harg6 arg7 harg7 arg38 x1 x2 x3 x4 x5) (run.sl.v572 (F := Ideal) c i arg3 harg3 arg4 harg4 arg5 harg5 arg6 harg6 arg7 harg7 arg31 x1 x2 x3 x4 x5) (run.sl.v574 (F := Ideal) c i arg3 harg3 arg4 harg4 arg5 harg5 arg6 harg6 arg7 harg7 arg32 x1 x2 x3 x4 x5) x = G8 D b T ((Rect.unit ![7, 128, 128] S1x128x128.size inb_S16x256x256_S1x128x128_7_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 7 1 1 _ _ rfl rfl rfl r c']
  exact cell_11 D b T 1 3 (arg38.view.readCov (run.sl.HS7_1 (F := Ideal) c i arg3 harg3 arg4 harg4 arg5 harg5 arg6 harg6 arg7 harg7 x1 x2 x3 x4 x5) (Rect.unit ![128, 768] S128x128.size inb_S512x1024_S128x128_128_768 : Rect S512x1024).toLoadRect) (arg38.view.readCov (run.sl.HS7_1 (F := Ideal) c i arg3 harg3 arg4 harg4 arg5 harg5 arg6 harg6 arg7 harg7 x1 x2 x3 x4 x5) (Rect.unit ![128, 896] S128x128.size inb_S512x1024_S128x128_128_896 : Rect S512x1024).toLoadRect) (arg31.view.readCov (run.sl.HS0_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect) (arg32.view.readCov (run.sl.HS1_4 (F := Ideal) c i arg3 harg3 arg4 harg4 arg5 harg5 arg6 harg6 arg7 harg7 x1 x2 x3 x4 x5) (Rect.unit ![3, 128, 0] S1x256x128.size inb_S4x640x128_S1x256x128_3_128_0 : Rect S4x640x128).toLoadRect)
    (fun x d => (q_read H _ _ x d).trans rfl)
    (fun r d => ((cov1 H (Rect.unit ![3, 128, 0] S1x256x128.size inb_S4x640x128_S1x256x128_3_128_0 : Rect S4x640x128).toLoadRect (ix3 0 r d) (by show 128 ≤ 128 + 1 * r.val; omega)).trans (half_read1 D b T 3 128 _ r d rfl rfl rfl))) (by decide) r c'

theorem s8_00 (H : Inputs D b T x0 x1 x2 x3 x4 x5 x6 x7 x8 x9 x10) (x : S1x128x128.Idx) :
    k0_pay112 k0_pay57 (run.sl.v606 (F := Ideal) c i arg3 harg3 arg4 harg4 arg5 harg5 arg6 harg6 arg7 harg7 arg38 x1 x2 x3 x4 x5) (run.sl.v607 (F := Ideal) c i arg3 harg3 arg4 harg4 arg5 harg5 arg6 harg6 arg7 harg7 arg38 x1 x2 x3 x4 x5) (run.sl.v609 (F := Ideal) c i arg3 harg3 arg4 harg4 arg5 harg5 arg6 harg6 arg7 harg7 arg31 x1 x2 x3 x4 x5) (run.sl.v611 (F := Ideal) c i arg3 harg3 arg4 harg4 arg5 harg5 arg6 harg6 arg7 harg7 arg32 x1 x2 x3 x4 x5) x = G8 D b T ((Rect.unit ![8, 0, 0] S1x128x128.size inb_S16x256x256_S1x128x128_8_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 8 0 0 _ _ rfl rfl rfl r c']
  exact cell_00 D b T 2 0 (arg38.view.readCov (run.sl.HS7_1 (F := Ideal) c i arg3 harg3 arg4 harg4 arg5 harg5 arg6 harg6 arg7 harg7 x1 x2 x3 x4 x5) (Rect.unit ![256, 0] S128x128.size inb_S512x1024_S128x128_256_0 : Rect S512x1024).toLoadRect) (arg38.view.readCov (run.sl.HS7_1 (F := Ideal) c i arg3 harg3 arg4 harg4 arg5 harg5 arg6 harg6 arg7 harg7 x1 x2 x3 x4 x5) (Rect.unit ![256, 128] S128x128.size inb_S512x1024_S128x128_256_128 : Rect S512x1024).toLoadRect) (arg31.view.readCov (run.sl.HS0_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect) (arg32.view.readCov (run.sl.HS1_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect)
    (fun x d => (q_read H _ _ x d).trans rfl)
    (fun r d => ((cov0 H (Rect.unit ![0, 256, 0] S1x256x128.size inb_S4x640x128_S1x256x128_0_256_0 : Rect S4x640x128).toLoadRect (ix3 0 r d) (by show 128 ≤ 256 + 1 * r.val; omega)).trans (half_read0 D b T 0 256 _ r d rfl rfl rfl))) (by decide) r c'

theorem s8_01 (H : Inputs D b T x0 x1 x2 x3 x4 x5 x6 x7 x8 x9 x10) (x : S1x128x128.Idx) :
    k0_pay113 k0_pay57 (run.sl.v606 (F := Ideal) c i arg3 harg3 arg4 harg4 arg5 harg5 arg6 harg6 arg7 harg7 arg38 x1 x2 x3 x4 x5) (run.sl.v607 (F := Ideal) c i arg3 harg3 arg4 harg4 arg5 harg5 arg6 harg6 arg7 harg7 arg38 x1 x2 x3 x4 x5) (run.sl.v609 (F := Ideal) c i arg3 harg3 arg4 harg4 arg5 harg5 arg6 harg6 arg7 harg7 arg31 x1 x2 x3 x4 x5) (run.sl.v611 (F := Ideal) c i arg3 harg3 arg4 harg4 arg5 harg5 arg6 harg6 arg7 harg7 arg32 x1 x2 x3 x4 x5) x = G8 D b T ((Rect.unit ![8, 0, 128] S1x128x128.size inb_S16x256x256_S1x128x128_8_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 8 0 1 _ _ rfl rfl rfl r c']
  exact cell_01 D b T 2 0 (arg38.view.readCov (run.sl.HS7_1 (F := Ideal) c i arg3 harg3 arg4 harg4 arg5 harg5 arg6 harg6 arg7 harg7 x1 x2 x3 x4 x5) (Rect.unit ![256, 0] S128x128.size inb_S512x1024_S128x128_256_0 : Rect S512x1024).toLoadRect) (arg38.view.readCov (run.sl.HS7_1 (F := Ideal) c i arg3 harg3 arg4 harg4 arg5 harg5 arg6 harg6 arg7 harg7 x1 x2 x3 x4 x5) (Rect.unit ![256, 128] S128x128.size inb_S512x1024_S128x128_256_128 : Rect S512x1024).toLoadRect) (arg31.view.readCov (run.sl.HS0_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect) (arg32.view.readCov (run.sl.HS1_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect)
    (fun x d => (q_read H _ _ x d).trans rfl)
    (fun r d => ((cov1 H (Rect.unit ![0, 256, 0] S1x256x128.size inb_S4x640x128_S1x256x128_0_256_0 : Rect S4x640x128).toLoadRect (ix3 0 r d) (by show 128 ≤ 256 + 1 * r.val; omega)).trans (half_read1 D b T 0 256 _ r d rfl rfl rfl))) (by decide) r c'

theorem s8_10 (H : Inputs D b T x0 x1 x2 x3 x4 x5 x6 x7 x8 x9 x10) (x : S1x128x128.Idx) :
    k0_pay114 k0_pay57 (run.sl.v606 (F := Ideal) c i arg3 harg3 arg4 harg4 arg5 harg5 arg6 harg6 arg7 harg7 arg38 x1 x2 x3 x4 x5) (run.sl.v607 (F := Ideal) c i arg3 harg3 arg4 harg4 arg5 harg5 arg6 harg6 arg7 harg7 arg38 x1 x2 x3 x4 x5) (run.sl.v609 (F := Ideal) c i arg3 harg3 arg4 harg4 arg5 harg5 arg6 harg6 arg7 harg7 arg31 x1 x2 x3 x4 x5) (run.sl.v611 (F := Ideal) c i arg3 harg3 arg4 harg4 arg5 harg5 arg6 harg6 arg7 harg7 arg32 x1 x2 x3 x4 x5) x = G8 D b T ((Rect.unit ![8, 128, 0] S1x128x128.size inb_S16x256x256_S1x128x128_8_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 8 1 0 _ _ rfl rfl rfl r c']
  exact cell_10 D b T 2 0 (arg38.view.readCov (run.sl.HS7_1 (F := Ideal) c i arg3 harg3 arg4 harg4 arg5 harg5 arg6 harg6 arg7 harg7 x1 x2 x3 x4 x5) (Rect.unit ![256, 0] S128x128.size inb_S512x1024_S128x128_256_0 : Rect S512x1024).toLoadRect) (arg38.view.readCov (run.sl.HS7_1 (F := Ideal) c i arg3 harg3 arg4 harg4 arg5 harg5 arg6 harg6 arg7 harg7 x1 x2 x3 x4 x5) (Rect.unit ![256, 128] S128x128.size inb_S512x1024_S128x128_256_128 : Rect S512x1024).toLoadRect) (arg31.view.readCov (run.sl.HS0_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect) (arg32.view.readCov (run.sl.HS1_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect)
    (fun x d => (q_read H _ _ x d).trans rfl)
    (fun r d => ((cov0 H (Rect.unit ![0, 256, 0] S1x256x128.size inb_S4x640x128_S1x256x128_0_256_0 : Rect S4x640x128).toLoadRect (ix3 0 r d) (by show 128 ≤ 256 + 1 * r.val; omega)).trans (half_read0 D b T 0 256 _ r d rfl rfl rfl))) (by decide) r c'

theorem s8_11 (H : Inputs D b T x0 x1 x2 x3 x4 x5 x6 x7 x8 x9 x10) (x : S1x128x128.Idx) :
    k0_pay116 (run.sl.r_37 (F := Ideal) c i arg3 harg3 arg4 harg4 arg5 harg5 arg6 harg6 arg7 harg7 arg31 arg32 arg38 x1 x2 x3 x4 x5) x = G8 D b T ((Rect.unit ![8, 128, 128] S1x128x128.size inb_S16x256x256_S1x128x128_8_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 8 1 1 _ _ rfl rfl rfl r c']
  exact cell_11 D b T 2 0 (arg38.view.readCov (run.sl.HS7_1 (F := Ideal) c i arg3 harg3 arg4 harg4 arg5 harg5 arg6 harg6 arg7 harg7 x1 x2 x3 x4 x5) (Rect.unit ![256, 0] S128x128.size inb_S512x1024_S128x128_256_0 : Rect S512x1024).toLoadRect) (arg38.view.readCov (run.sl.HS7_1 (F := Ideal) c i arg3 harg3 arg4 harg4 arg5 harg5 arg6 harg6 arg7 harg7 x1 x2 x3 x4 x5) (Rect.unit ![256, 128] S128x128.size inb_S512x1024_S128x128_256_128 : Rect S512x1024).toLoadRect) (arg31.view.readCov (run.sl.HS0_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect) (arg32.view.readCov (run.sl.HS1_4 (F := Ideal) c i arg3 harg3 arg4 harg4 arg5 harg5 arg6 harg6 arg7 harg7 x1 x2 x3 x4 x5) (Rect.unit ![0, 256, 0] S1x256x128.size inb_S4x640x128_S1x256x128_0_256_0 : Rect S4x640x128).toLoadRect)
    (fun x d => (q_read H _ _ x d).trans rfl)
    (fun r d => ((cov1 H (Rect.unit ![0, 256, 0] S1x256x128.size inb_S4x640x128_S1x256x128_0_256_0 : Rect S4x640x128).toLoadRect (ix3 0 r d) (by show 128 ≤ 256 + 1 * r.val; omega)).trans (half_read1 D b T 0 256 _ r d rfl rfl rfl))) (by decide) r c'

theorem s9_00 (H : Inputs D b T x0 x1 x2 x3 x4 x5 x6 x7 x8 x9 x10) (x : S1x128x128.Idx) :
    k0_pay118 k0_pay57 (run.sl.v643 (F := Ideal) c i arg3 harg3 arg4 harg4 arg5 harg5 arg6 harg6 arg7 harg7 arg38 x1 x2 x3 x4 x5) (run.sl.v644 (F := Ideal) c i arg3 harg3 arg4 harg4 arg5 harg5 arg6 harg6 arg7 harg7 arg38 x1 x2 x3 x4 x5) (run.sl.v646 (F := Ideal) c i arg3 harg3 arg4 harg4 arg5 harg5 arg6 harg6 arg7 harg7 arg31 x1 x2 x3 x4 x5) (run.sl.v648 (F := Ideal) c i arg3 harg3 arg4 harg4 arg5 harg5 arg6 harg6 arg7 harg7 arg32 x1 x2 x3 x4 x5) x = G8 D b T ((Rect.unit ![9, 0, 0] S1x128x128.size inb_S16x256x256_S1x128x128_9_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 9 0 0 _ _ rfl rfl rfl r c']
  exact cell_00 D b T 2 1 (arg38.view.readCov (run.sl.HS7_1 (F := Ideal) c i arg3 harg3 arg4 harg4 arg5 harg5 arg6 harg6 arg7 harg7 x1 x2 x3 x4 x5) (Rect.unit ![256, 256] S128x128.size inb_S512x1024_S128x128_256_256 : Rect S512x1024).toLoadRect) (arg38.view.readCov (run.sl.HS7_1 (F := Ideal) c i arg3 harg3 arg4 harg4 arg5 harg5 arg6 harg6 arg7 harg7 x1 x2 x3 x4 x5) (Rect.unit ![256, 384] S128x128.size inb_S512x1024_S128x128_256_384 : Rect S512x1024).toLoadRect) (arg31.view.readCov (run.sl.HS0_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect) (arg32.view.readCov (run.sl.HS1_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect)
    (fun x d => (q_read H _ _ x d).trans rfl)
    (fun r d => ((cov0 H (Rect.unit ![1, 256, 0] S1x256x128.size inb_S4x640x128_S1x256x128_1_256_0 : Rect S4x640x128).toLoadRect (ix3 0 r d) (by show 128 ≤ 256 + 1 * r.val; omega)).trans (half_read0 D b T 1 256 _ r d rfl rfl rfl))) (by decide) r c'

theorem s9_01 (H : Inputs D b T x0 x1 x2 x3 x4 x5 x6 x7 x8 x9 x10) (x : S1x128x128.Idx) :
    k0_pay119 k0_pay57 (run.sl.v643 (F := Ideal) c i arg3 harg3 arg4 harg4 arg5 harg5 arg6 harg6 arg7 harg7 arg38 x1 x2 x3 x4 x5) (run.sl.v644 (F := Ideal) c i arg3 harg3 arg4 harg4 arg5 harg5 arg6 harg6 arg7 harg7 arg38 x1 x2 x3 x4 x5) (run.sl.v646 (F := Ideal) c i arg3 harg3 arg4 harg4 arg5 harg5 arg6 harg6 arg7 harg7 arg31 x1 x2 x3 x4 x5) (run.sl.v648 (F := Ideal) c i arg3 harg3 arg4 harg4 arg5 harg5 arg6 harg6 arg7 harg7 arg32 x1 x2 x3 x4 x5) x = G8 D b T ((Rect.unit ![9, 0, 128] S1x128x128.size inb_S16x256x256_S1x128x128_9_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 9 0 1 _ _ rfl rfl rfl r c']
  exact cell_01 D b T 2 1 (arg38.view.readCov (run.sl.HS7_1 (F := Ideal) c i arg3 harg3 arg4 harg4 arg5 harg5 arg6 harg6 arg7 harg7 x1 x2 x3 x4 x5) (Rect.unit ![256, 256] S128x128.size inb_S512x1024_S128x128_256_256 : Rect S512x1024).toLoadRect) (arg38.view.readCov (run.sl.HS7_1 (F := Ideal) c i arg3 harg3 arg4 harg4 arg5 harg5 arg6 harg6 arg7 harg7 x1 x2 x3 x4 x5) (Rect.unit ![256, 384] S128x128.size inb_S512x1024_S128x128_256_384 : Rect S512x1024).toLoadRect) (arg31.view.readCov (run.sl.HS0_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect) (arg32.view.readCov (run.sl.HS1_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect)
    (fun x d => (q_read H _ _ x d).trans rfl)
    (fun r d => ((cov1 H (Rect.unit ![1, 256, 0] S1x256x128.size inb_S4x640x128_S1x256x128_1_256_0 : Rect S4x640x128).toLoadRect (ix3 0 r d) (by show 128 ≤ 256 + 1 * r.val; omega)).trans (half_read1 D b T 1 256 _ r d rfl rfl rfl))) (by decide) r c'

theorem s9_10 (H : Inputs D b T x0 x1 x2 x3 x4 x5 x6 x7 x8 x9 x10) (x : S1x128x128.Idx) :
    k0_pay120 k0_pay57 (run.sl.v643 (F := Ideal) c i arg3 harg3 arg4 harg4 arg5 harg5 arg6 harg6 arg7 harg7 arg38 x1 x2 x3 x4 x5) (run.sl.v644 (F := Ideal) c i arg3 harg3 arg4 harg4 arg5 harg5 arg6 harg6 arg7 harg7 arg38 x1 x2 x3 x4 x5) (run.sl.v646 (F := Ideal) c i arg3 harg3 arg4 harg4 arg5 harg5 arg6 harg6 arg7 harg7 arg31 x1 x2 x3 x4 x5) (run.sl.v648 (F := Ideal) c i arg3 harg3 arg4 harg4 arg5 harg5 arg6 harg6 arg7 harg7 arg32 x1 x2 x3 x4 x5) x = G8 D b T ((Rect.unit ![9, 128, 0] S1x128x128.size inb_S16x256x256_S1x128x128_9_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 9 1 0 _ _ rfl rfl rfl r c']
  exact cell_10 D b T 2 1 (arg38.view.readCov (run.sl.HS7_1 (F := Ideal) c i arg3 harg3 arg4 harg4 arg5 harg5 arg6 harg6 arg7 harg7 x1 x2 x3 x4 x5) (Rect.unit ![256, 256] S128x128.size inb_S512x1024_S128x128_256_256 : Rect S512x1024).toLoadRect) (arg38.view.readCov (run.sl.HS7_1 (F := Ideal) c i arg3 harg3 arg4 harg4 arg5 harg5 arg6 harg6 arg7 harg7 x1 x2 x3 x4 x5) (Rect.unit ![256, 384] S128x128.size inb_S512x1024_S128x128_256_384 : Rect S512x1024).toLoadRect) (arg31.view.readCov (run.sl.HS0_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect) (arg32.view.readCov (run.sl.HS1_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect)
    (fun x d => (q_read H _ _ x d).trans rfl)
    (fun r d => ((cov0 H (Rect.unit ![1, 256, 0] S1x256x128.size inb_S4x640x128_S1x256x128_1_256_0 : Rect S4x640x128).toLoadRect (ix3 0 r d) (by show 128 ≤ 256 + 1 * r.val; omega)).trans (half_read0 D b T 1 256 _ r d rfl rfl rfl))) (by decide) r c'

theorem s9_11 (H : Inputs D b T x0 x1 x2 x3 x4 x5 x6 x7 x8 x9 x10) (x : S1x128x128.Idx) :
    k0_pay124 k0_pay57 (run.sl.r_38 (F := Ideal) c i arg3 harg3 arg4 harg4 arg5 harg5 arg6 harg6 arg7 harg7 arg31 arg32 arg38 x1 x2 x3 x4 x5) (run.sl.r_39 (F := Ideal) c i arg3 harg3 arg4 harg4 arg5 harg5 arg6 harg6 arg7 harg7 arg31 arg32 arg38 x1 x2 x3 x4 x5) x = G8 D b T ((Rect.unit ![9, 128, 128] S1x128x128.size inb_S16x256x256_S1x128x128_9_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 9 1 1 _ _ rfl rfl rfl r c']
  exact cell_11 D b T 2 1 (arg38.view.readCov (run.sl.HS7_1 (F := Ideal) c i arg3 harg3 arg4 harg4 arg5 harg5 arg6 harg6 arg7 harg7 x1 x2 x3 x4 x5) (Rect.unit ![256, 256] S128x128.size inb_S512x1024_S128x128_256_256 : Rect S512x1024).toLoadRect) (arg38.view.readCov (run.sl.HS7_1 (F := Ideal) c i arg3 harg3 arg4 harg4 arg5 harg5 arg6 harg6 arg7 harg7 x1 x2 x3 x4 x5) (Rect.unit ![256, 384] S128x128.size inb_S512x1024_S128x128_256_384 : Rect S512x1024).toLoadRect) (arg31.view.readCov (run.sl.HS0_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect) (arg32.view.readCov (run.sl.HS1_4 (F := Ideal) c i arg3 harg3 arg4 harg4 arg5 harg5 arg6 harg6 arg7 harg7 x1 x2 x3 x4 x5) (Rect.unit ![1, 256, 0] S1x256x128.size inb_S4x640x128_S1x256x128_1_256_0 : Rect S4x640x128).toLoadRect)
    (fun x d => (q_read H _ _ x d).trans rfl)
    (fun r d => ((cov1 H (Rect.unit ![1, 256, 0] S1x256x128.size inb_S4x640x128_S1x256x128_1_256_0 : Rect S4x640x128).toLoadRect (ix3 0 r d) (by show 128 ≤ 256 + 1 * r.val; omega)).trans (half_read1 D b T 1 256 _ r d rfl rfl rfl))) (by decide) r c'

theorem s10_00 (H : Inputs D b T x0 x1 x2 x3 x4 x5 x6 x7 x8 x9 x10) (x : S1x128x128.Idx) :
    k0_pay126 k0_pay57 (run.sl.v680 (F := Ideal) c i arg3 harg3 arg4 harg4 arg5 harg5 arg6 harg6 arg7 harg7 arg38 x1 x2 x3 x4 x5) (run.sl.v681 (F := Ideal) c i arg3 harg3 arg4 harg4 arg5 harg5 arg6 harg6 arg7 harg7 arg38 x1 x2 x3 x4 x5) (run.sl.v683 (F := Ideal) c i arg3 harg3 arg4 harg4 arg5 harg5 arg6 harg6 arg7 harg7 arg31 x1 x2 x3 x4 x5) (run.sl.v685 (F := Ideal) c i arg3 harg3 arg4 harg4 arg5 harg5 arg6 harg6 arg7 harg7 arg32 x1 x2 x3 x4 x5) x = G8 D b T ((Rect.unit ![10, 0, 0] S1x128x128.size inb_S16x256x256_S1x128x128_10_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 10 0 0 _ _ rfl rfl rfl r c']
  exact cell_00 D b T 2 2 (arg38.view.readCov (run.sl.HS7_1 (F := Ideal) c i arg3 harg3 arg4 harg4 arg5 harg5 arg6 harg6 arg7 harg7 x1 x2 x3 x4 x5) (Rect.unit ![256, 512] S128x128.size inb_S512x1024_S128x128_256_512 : Rect S512x1024).toLoadRect) (arg38.view.readCov (run.sl.HS7_1 (F := Ideal) c i arg3 harg3 arg4 harg4 arg5 harg5 arg6 harg6 arg7 harg7 x1 x2 x3 x4 x5) (Rect.unit ![256, 640] S128x128.size inb_S512x1024_S128x128_256_640 : Rect S512x1024).toLoadRect) (arg31.view.readCov (run.sl.HS0_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect) (arg32.view.readCov (run.sl.HS1_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect)
    (fun x d => (q_read H _ _ x d).trans rfl)
    (fun r d => ((cov0 H (Rect.unit ![2, 256, 0] S1x256x128.size inb_S4x640x128_S1x256x128_2_256_0 : Rect S4x640x128).toLoadRect (ix3 0 r d) (by show 128 ≤ 256 + 1 * r.val; omega)).trans (half_read0 D b T 2 256 _ r d rfl rfl rfl))) (by decide) r c'

theorem s10_01 (H : Inputs D b T x0 x1 x2 x3 x4 x5 x6 x7 x8 x9 x10) (x : S1x128x128.Idx) :
    k0_pay127 k0_pay57 (run.sl.v680 (F := Ideal) c i arg3 harg3 arg4 harg4 arg5 harg5 arg6 harg6 arg7 harg7 arg38 x1 x2 x3 x4 x5) (run.sl.v681 (F := Ideal) c i arg3 harg3 arg4 harg4 arg5 harg5 arg6 harg6 arg7 harg7 arg38 x1 x2 x3 x4 x5) (run.sl.v683 (F := Ideal) c i arg3 harg3 arg4 harg4 arg5 harg5 arg6 harg6 arg7 harg7 arg31 x1 x2 x3 x4 x5) (run.sl.v685 (F := Ideal) c i arg3 harg3 arg4 harg4 arg5 harg5 arg6 harg6 arg7 harg7 arg32 x1 x2 x3 x4 x5) x = G8 D b T ((Rect.unit ![10, 0, 128] S1x128x128.size inb_S16x256x256_S1x128x128_10_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 10 0 1 _ _ rfl rfl rfl r c']
  exact cell_01 D b T 2 2 (arg38.view.readCov (run.sl.HS7_1 (F := Ideal) c i arg3 harg3 arg4 harg4 arg5 harg5 arg6 harg6 arg7 harg7 x1 x2 x3 x4 x5) (Rect.unit ![256, 512] S128x128.size inb_S512x1024_S128x128_256_512 : Rect S512x1024).toLoadRect) (arg38.view.readCov (run.sl.HS7_1 (F := Ideal) c i arg3 harg3 arg4 harg4 arg5 harg5 arg6 harg6 arg7 harg7 x1 x2 x3 x4 x5) (Rect.unit ![256, 640] S128x128.size inb_S512x1024_S128x128_256_640 : Rect S512x1024).toLoadRect) (arg31.view.readCov (run.sl.HS0_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect) (arg32.view.readCov (run.sl.HS1_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect)
    (fun x d => (q_read H _ _ x d).trans rfl)
    (fun r d => ((cov1 H (Rect.unit ![2, 256, 0] S1x256x128.size inb_S4x640x128_S1x256x128_2_256_0 : Rect S4x640x128).toLoadRect (ix3 0 r d) (by show 128 ≤ 256 + 1 * r.val; omega)).trans (half_read1 D b T 2 256 _ r d rfl rfl rfl))) (by decide) r c'

theorem s10_10 (H : Inputs D b T x0 x1 x2 x3 x4 x5 x6 x7 x8 x9 x10) (x : S1x128x128.Idx) :
    (run.sl.r_41 (F := Ideal) c i arg3 harg3 arg4 harg4 arg5 harg5 arg6 harg6 arg7 harg7 arg31 arg32 arg38 x1 x2 x3 x4 x5) x = G8 D b T ((Rect.unit ![10, 128, 0] S1x128x128.size inb_S16x256x256_S1x128x128_10_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 10 1 0 _ _ rfl rfl rfl r c']
  exact cell_10 D b T 2 2 (arg38.view.readCov (run.sl.HS7_1 (F := Ideal) c i arg3 harg3 arg4 harg4 arg5 harg5 arg6 harg6 arg7 harg7 x1 x2 x3 x4 x5) (Rect.unit ![256, 512] S128x128.size inb_S512x1024_S128x128_256_512 : Rect S512x1024).toLoadRect) (arg38.view.readCov (run.sl.HS7_1 (F := Ideal) c i arg3 harg3 arg4 harg4 arg5 harg5 arg6 harg6 arg7 harg7 x1 x2 x3 x4 x5) (Rect.unit ![256, 640] S128x128.size inb_S512x1024_S128x128_256_640 : Rect S512x1024).toLoadRect) (arg31.view.readCov (run.sl.HS0_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect) (arg32.view.readCov (run.sl.HS1_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect)
    (fun x d => (q_read H _ _ x d).trans rfl)
    (fun r d => ((cov0 H (Rect.unit ![2, 256, 0] S1x256x128.size inb_S4x640x128_S1x256x128_2_256_0 : Rect S4x640x128).toLoadRect (ix3 0 r d) (by show 128 ≤ 256 + 1 * r.val; omega)).trans (half_read0 D b T 2 256 _ r d rfl rfl rfl))) (by decide) r c'

theorem s10_11 (H : Inputs D b T x0 x1 x2 x3 x4 x5 x6 x7 x8 x9 x10) (x : S1x128x128.Idx) :
    k0_pay129 k0_pay57 (run.sl.r_40 (F := Ideal) c i arg3 harg3 arg4 harg4 arg5 harg5 arg6 harg6 arg7 harg7 arg31 arg32 arg38 x1 x2 x3 x4 x5) x = G8 D b T ((Rect.unit ![10, 128, 128] S1x128x128.size inb_S16x256x256_S1x128x128_10_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 10 1 1 _ _ rfl rfl rfl r c']
  exact cell_11 D b T 2 2 (arg38.view.readCov (run.sl.HS7_1 (F := Ideal) c i arg3 harg3 arg4 harg4 arg5 harg5 arg6 harg6 arg7 harg7 x1 x2 x3 x4 x5) (Rect.unit ![256, 512] S128x128.size inb_S512x1024_S128x128_256_512 : Rect S512x1024).toLoadRect) (arg38.view.readCov (run.sl.HS7_1 (F := Ideal) c i arg3 harg3 arg4 harg4 arg5 harg5 arg6 harg6 arg7 harg7 x1 x2 x3 x4 x5) (Rect.unit ![256, 640] S128x128.size inb_S512x1024_S128x128_256_640 : Rect S512x1024).toLoadRect) (arg31.view.readCov (run.sl.HS0_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect) (arg32.view.readCov (run.sl.HS1_4 (F := Ideal) c i arg3 harg3 arg4 harg4 arg5 harg5 arg6 harg6 arg7 harg7 x1 x2 x3 x4 x5) (Rect.unit ![2, 256, 0] S1x256x128.size inb_S4x640x128_S1x256x128_2_256_0 : Rect S4x640x128).toLoadRect)
    (fun x d => (q_read H _ _ x d).trans rfl)
    (fun r d => ((cov1 H (Rect.unit ![2, 256, 0] S1x256x128.size inb_S4x640x128_S1x256x128_2_256_0 : Rect S4x640x128).toLoadRect (ix3 0 r d) (by show 128 ≤ 256 + 1 * r.val; omega)).trans (half_read1 D b T 2 256 _ r d rfl rfl rfl))) (by decide) r c'

theorem s11_00 (H : Inputs D b T x0 x1 x2 x3 x4 x5 x6 x7 x8 x9 x10) (x : S1x128x128.Idx) :
    k0_pay131 k0_pay57 (run.sl.v717 (F := Ideal) c i arg3 harg3 arg4 harg4 arg5 harg5 arg6 harg6 arg7 harg7 arg38 x1 x2 x3 x4 x5) (run.sl.v718 (F := Ideal) c i arg3 harg3 arg4 harg4 arg5 harg5 arg6 harg6 arg7 harg7 arg38 x1 x2 x3 x4 x5) (run.sl.v720 (F := Ideal) c i arg3 harg3 arg4 harg4 arg5 harg5 arg6 harg6 arg7 harg7 arg31 x1 x2 x3 x4 x5) (run.sl.v722 (F := Ideal) c i arg3 harg3 arg4 harg4 arg5 harg5 arg6 harg6 arg7 harg7 arg32 x1 x2 x3 x4 x5) x = G8 D b T ((Rect.unit ![11, 0, 0] S1x128x128.size inb_S16x256x256_S1x128x128_11_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 11 0 0 _ _ rfl rfl rfl r c']
  exact cell_00 D b T 2 3 (arg38.view.readCov (run.sl.HS7_1 (F := Ideal) c i arg3 harg3 arg4 harg4 arg5 harg5 arg6 harg6 arg7 harg7 x1 x2 x3 x4 x5) (Rect.unit ![256, 768] S128x128.size inb_S512x1024_S128x128_256_768 : Rect S512x1024).toLoadRect) (arg38.view.readCov (run.sl.HS7_1 (F := Ideal) c i arg3 harg3 arg4 harg4 arg5 harg5 arg6 harg6 arg7 harg7 x1 x2 x3 x4 x5) (Rect.unit ![256, 896] S128x128.size inb_S512x1024_S128x128_256_896 : Rect S512x1024).toLoadRect) (arg31.view.readCov (run.sl.HS0_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect) (arg32.view.readCov (run.sl.HS1_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect)
    (fun x d => (q_read H _ _ x d).trans rfl)
    (fun r d => ((cov0 H (Rect.unit ![3, 256, 0] S1x256x128.size inb_S4x640x128_S1x256x128_3_256_0 : Rect S4x640x128).toLoadRect (ix3 0 r d) (by show 128 ≤ 256 + 1 * r.val; omega)).trans (half_read0 D b T 3 256 _ r d rfl rfl rfl))) (by decide) r c'

theorem s11_01 (H : Inputs D b T x0 x1 x2 x3 x4 x5 x6 x7 x8 x9 x10) (x : S1x128x128.Idx) :
    k0_pay132 k0_pay57 (run.sl.v717 (F := Ideal) c i arg3 harg3 arg4 harg4 arg5 harg5 arg6 harg6 arg7 harg7 arg38 x1 x2 x3 x4 x5) (run.sl.v718 (F := Ideal) c i arg3 harg3 arg4 harg4 arg5 harg5 arg6 harg6 arg7 harg7 arg38 x1 x2 x3 x4 x5) (run.sl.v720 (F := Ideal) c i arg3 harg3 arg4 harg4 arg5 harg5 arg6 harg6 arg7 harg7 arg31 x1 x2 x3 x4 x5) (run.sl.v722 (F := Ideal) c i arg3 harg3 arg4 harg4 arg5 harg5 arg6 harg6 arg7 harg7 arg32 x1 x2 x3 x4 x5) x = G8 D b T ((Rect.unit ![11, 0, 128] S1x128x128.size inb_S16x256x256_S1x128x128_11_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 11 0 1 _ _ rfl rfl rfl r c']
  exact cell_01 D b T 2 3 (arg38.view.readCov (run.sl.HS7_1 (F := Ideal) c i arg3 harg3 arg4 harg4 arg5 harg5 arg6 harg6 arg7 harg7 x1 x2 x3 x4 x5) (Rect.unit ![256, 768] S128x128.size inb_S512x1024_S128x128_256_768 : Rect S512x1024).toLoadRect) (arg38.view.readCov (run.sl.HS7_1 (F := Ideal) c i arg3 harg3 arg4 harg4 arg5 harg5 arg6 harg6 arg7 harg7 x1 x2 x3 x4 x5) (Rect.unit ![256, 896] S128x128.size inb_S512x1024_S128x128_256_896 : Rect S512x1024).toLoadRect) (arg31.view.readCov (run.sl.HS0_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect) (arg32.view.readCov (run.sl.HS1_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect)
    (fun x d => (q_read H _ _ x d).trans rfl)
    (fun r d => ((cov1 H (Rect.unit ![3, 256, 0] S1x256x128.size inb_S4x640x128_S1x256x128_3_256_0 : Rect S4x640x128).toLoadRect (ix3 0 r d) (by show 128 ≤ 256 + 1 * r.val; omega)).trans (half_read1 D b T 3 256 _ r d rfl rfl rfl))) (by decide) r c'

theorem s11_10 (H : Inputs D b T x0 x1 x2 x3 x4 x5 x6 x7 x8 x9 x10) (x : S1x128x128.Idx) :
    k0_pay134 (run.sl.r_43 (F := Ideal) c i arg3 harg3 arg4 harg4 arg5 harg5 arg6 harg6 arg7 harg7 arg31 arg32 arg38 x1 x2 x3 x4 x5) x = G8 D b T ((Rect.unit ![11, 128, 0] S1x128x128.size inb_S16x256x256_S1x128x128_11_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 11 1 0 _ _ rfl rfl rfl r c']
  exact cell_10 D b T 2 3 (arg38.view.readCov (run.sl.HS7_1 (F := Ideal) c i arg3 harg3 arg4 harg4 arg5 harg5 arg6 harg6 arg7 harg7 x1 x2 x3 x4 x5) (Rect.unit ![256, 768] S128x128.size inb_S512x1024_S128x128_256_768 : Rect S512x1024).toLoadRect) (arg38.view.readCov (run.sl.HS7_1 (F := Ideal) c i arg3 harg3 arg4 harg4 arg5 harg5 arg6 harg6 arg7 harg7 x1 x2 x3 x4 x5) (Rect.unit ![256, 896] S128x128.size inb_S512x1024_S128x128_256_896 : Rect S512x1024).toLoadRect) (arg31.view.readCov (run.sl.HS0_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect) (arg32.view.readCov (run.sl.HS1_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect)
    (fun x d => (q_read H _ _ x d).trans rfl)
    (fun r d => ((cov0 H (Rect.unit ![3, 256, 0] S1x256x128.size inb_S4x640x128_S1x256x128_3_256_0 : Rect S4x640x128).toLoadRect (ix3 0 r d) (by show 128 ≤ 256 + 1 * r.val; omega)).trans (half_read0 D b T 3 256 _ r d rfl rfl rfl))) (by decide) r c'

theorem s11_11 (H : Inputs D b T x0 x1 x2 x3 x4 x5 x6 x7 x8 x9 x10) (x : S1x128x128.Idx) :
    k0_pay135 k0_pay57 (run.sl.r_42 (F := Ideal) c i arg3 harg3 arg4 harg4 arg5 harg5 arg6 harg6 arg7 harg7 arg31 arg32 arg38 x1 x2 x3 x4 x5) x = G8 D b T ((Rect.unit ![11, 128, 128] S1x128x128.size inb_S16x256x256_S1x128x128_11_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 11 1 1 _ _ rfl rfl rfl r c']
  exact cell_11 D b T 2 3 (arg38.view.readCov (run.sl.HS7_1 (F := Ideal) c i arg3 harg3 arg4 harg4 arg5 harg5 arg6 harg6 arg7 harg7 x1 x2 x3 x4 x5) (Rect.unit ![256, 768] S128x128.size inb_S512x1024_S128x128_256_768 : Rect S512x1024).toLoadRect) (arg38.view.readCov (run.sl.HS7_1 (F := Ideal) c i arg3 harg3 arg4 harg4 arg5 harg5 arg6 harg6 arg7 harg7 x1 x2 x3 x4 x5) (Rect.unit ![256, 896] S128x128.size inb_S512x1024_S128x128_256_896 : Rect S512x1024).toLoadRect) (arg31.view.readCov (run.sl.HS0_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect) (arg32.view.readCov (run.sl.HS1_4 (F := Ideal) c i arg3 harg3 arg4 harg4 arg5 harg5 arg6 harg6 arg7 harg7 x1 x2 x3 x4 x5) (Rect.unit ![3, 256, 0] S1x256x128.size inb_S4x640x128_S1x256x128_3_256_0 : Rect S4x640x128).toLoadRect)
    (fun x d => (q_read H _ _ x d).trans rfl)
    (fun r d => ((cov1 H (Rect.unit ![3, 256, 0] S1x256x128.size inb_S4x640x128_S1x256x128_3_256_0 : Rect S4x640x128).toLoadRect (ix3 0 r d) (by show 128 ≤ 256 + 1 * r.val; omega)).trans (half_read1 D b T 3 256 _ r d rfl rfl rfl))) (by decide) r c'

theorem s12_00 (H : Inputs D b T x0 x1 x2 x3 x4 x5 x6 x7 x8 x9 x10) (x : S1x128x128.Idx) :
    k0_pay137 k0_pay57 (run.sl.v754 (F := Ideal) c i arg3 harg3 arg4 harg4 arg5 harg5 arg6 harg6 arg7 harg7 arg38 x1 x2 x3 x4 x5) (run.sl.v755 (F := Ideal) c i arg3 harg3 arg4 harg4 arg5 harg5 arg6 harg6 arg7 harg7 arg38 x1 x2 x3 x4 x5) (run.sl.v757 (F := Ideal) c i arg3 harg3 arg4 harg4 arg5 harg5 arg6 harg6 arg7 harg7 arg31 x1 x2 x3 x4 x5) (run.sl.v759 (F := Ideal) c i arg3 harg3 arg4 harg4 arg5 harg5 arg6 harg6 arg7 harg7 arg32 x1 x2 x3 x4 x5) x = G8 D b T ((Rect.unit ![12, 0, 0] S1x128x128.size inb_S16x256x256_S1x128x128_12_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 12 0 0 _ _ rfl rfl rfl r c']
  exact cell_00 D b T 3 0 (arg38.view.readCov (run.sl.HS7_1 (F := Ideal) c i arg3 harg3 arg4 harg4 arg5 harg5 arg6 harg6 arg7 harg7 x1 x2 x3 x4 x5) (Rect.unit ![384, 0] S128x128.size inb_S512x1024_S128x128_384_0 : Rect S512x1024).toLoadRect) (arg38.view.readCov (run.sl.HS7_1 (F := Ideal) c i arg3 harg3 arg4 harg4 arg5 harg5 arg6 harg6 arg7 harg7 x1 x2 x3 x4 x5) (Rect.unit ![384, 128] S128x128.size inb_S512x1024_S128x128_384_128 : Rect S512x1024).toLoadRect) (arg31.view.readCov (run.sl.HS0_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect) (arg32.view.readCov (run.sl.HS1_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect)
    (fun x d => (q_read H _ _ x d).trans rfl)
    (fun r d => ((cov0 H (Rect.unit ![0, 384, 0] S1x256x128.size inb_S4x640x128_S1x256x128_0_384_0 : Rect S4x640x128).toLoadRect (ix3 0 r d) (by show 128 ≤ 384 + 1 * r.val; omega)).trans (half_read0 D b T 0 384 _ r d rfl rfl rfl))) (by decide) r c'

theorem s12_01 (H : Inputs D b T x0 x1 x2 x3 x4 x5 x6 x7 x8 x9 x10) (x : S1x128x128.Idx) :
    k0_pay138 k0_pay57 (run.sl.v754 (F := Ideal) c i arg3 harg3 arg4 harg4 arg5 harg5 arg6 harg6 arg7 harg7 arg38 x1 x2 x3 x4 x5) (run.sl.v755 (F := Ideal) c i arg3 harg3 arg4 harg4 arg5 harg5 arg6 harg6 arg7 harg7 arg38 x1 x2 x3 x4 x5) (run.sl.v757 (F := Ideal) c i arg3 harg3 arg4 harg4 arg5 harg5 arg6 harg6 arg7 harg7 arg31 x1 x2 x3 x4 x5) (run.sl.v759 (F := Ideal) c i arg3 harg3 arg4 harg4 arg5 harg5 arg6 harg6 arg7 harg7 arg32 x1 x2 x3 x4 x5) x = G8 D b T ((Rect.unit ![12, 0, 128] S1x128x128.size inb_S16x256x256_S1x128x128_12_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 12 0 1 _ _ rfl rfl rfl r c']
  exact cell_01 D b T 3 0 (arg38.view.readCov (run.sl.HS7_1 (F := Ideal) c i arg3 harg3 arg4 harg4 arg5 harg5 arg6 harg6 arg7 harg7 x1 x2 x3 x4 x5) (Rect.unit ![384, 0] S128x128.size inb_S512x1024_S128x128_384_0 : Rect S512x1024).toLoadRect) (arg38.view.readCov (run.sl.HS7_1 (F := Ideal) c i arg3 harg3 arg4 harg4 arg5 harg5 arg6 harg6 arg7 harg7 x1 x2 x3 x4 x5) (Rect.unit ![384, 128] S128x128.size inb_S512x1024_S128x128_384_128 : Rect S512x1024).toLoadRect) (arg31.view.readCov (run.sl.HS0_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect) (arg32.view.readCov (run.sl.HS1_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect)
    (fun x d => (q_read H _ _ x d).trans rfl)
    (fun r d => ((cov1 H (Rect.unit ![0, 384, 0] S1x256x128.size inb_S4x640x128_S1x256x128_0_384_0 : Rect S4x640x128).toLoadRect (ix3 0 r d) (by show 128 ≤ 384 + 1 * r.val; omega)).trans (half_read1 D b T 0 384 _ r d rfl rfl rfl))) (by decide) r c'

theorem s12_10 (H : Inputs D b T x0 x1 x2 x3 x4 x5 x6 x7 x8 x9 x10) (x : S1x128x128.Idx) :
    k0_pay141 k0_pay57 (run.sl.r_45 (F := Ideal) c i arg3 harg3 arg4 harg4 arg5 harg5 arg6 harg6 arg7 harg7 arg31 arg32 arg38 x1 x2 x3 x4 x5) (run.sl.r_46 (F := Ideal) c i arg3 harg3 arg4 harg4 arg5 harg5 arg6 harg6 arg7 harg7 arg31 arg32 arg38 x1 x2 x3 x4 x5) x = G8 D b T ((Rect.unit ![12, 128, 0] S1x128x128.size inb_S16x256x256_S1x128x128_12_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 12 1 0 _ _ rfl rfl rfl r c']
  exact cell_10 D b T 3 0 (arg38.view.readCov (run.sl.HS7_1 (F := Ideal) c i arg3 harg3 arg4 harg4 arg5 harg5 arg6 harg6 arg7 harg7 x1 x2 x3 x4 x5) (Rect.unit ![384, 0] S128x128.size inb_S512x1024_S128x128_384_0 : Rect S512x1024).toLoadRect) (arg38.view.readCov (run.sl.HS7_1 (F := Ideal) c i arg3 harg3 arg4 harg4 arg5 harg5 arg6 harg6 arg7 harg7 x1 x2 x3 x4 x5) (Rect.unit ![384, 128] S128x128.size inb_S512x1024_S128x128_384_128 : Rect S512x1024).toLoadRect) (arg31.view.readCov (run.sl.HS0_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect) (arg32.view.readCov (run.sl.HS1_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect)
    (fun x d => (q_read H _ _ x d).trans rfl)
    (fun r d => ((cov0 H (Rect.unit ![0, 384, 0] S1x256x128.size inb_S4x640x128_S1x256x128_0_384_0 : Rect S4x640x128).toLoadRect (ix3 0 r d) (by show 128 ≤ 384 + 1 * r.val; omega)).trans (half_read0 D b T 0 384 _ r d rfl rfl rfl))) (by decide) r c'

theorem s12_11 (H : Inputs D b T x0 x1 x2 x3 x4 x5 x6 x7 x8 x9 x10) (x : S1x128x128.Idx) :
    k0_pay142 k0_pay57 (run.sl.r_44 (F := Ideal) c i arg3 harg3 arg4 harg4 arg5 harg5 arg6 harg6 arg7 harg7 arg31 arg32 arg38 x1 x2 x3 x4 x5) x = G8 D b T ((Rect.unit ![12, 128, 128] S1x128x128.size inb_S16x256x256_S1x128x128_12_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 12 1 1 _ _ rfl rfl rfl r c']
  exact cell_11 D b T 3 0 (arg38.view.readCov (run.sl.HS7_1 (F := Ideal) c i arg3 harg3 arg4 harg4 arg5 harg5 arg6 harg6 arg7 harg7 x1 x2 x3 x4 x5) (Rect.unit ![384, 0] S128x128.size inb_S512x1024_S128x128_384_0 : Rect S512x1024).toLoadRect) (arg38.view.readCov (run.sl.HS7_1 (F := Ideal) c i arg3 harg3 arg4 harg4 arg5 harg5 arg6 harg6 arg7 harg7 x1 x2 x3 x4 x5) (Rect.unit ![384, 128] S128x128.size inb_S512x1024_S128x128_384_128 : Rect S512x1024).toLoadRect) (arg31.view.readCov (run.sl.HS0_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect) (arg32.view.readCov (run.sl.HS1_4 (F := Ideal) c i arg3 harg3 arg4 harg4 arg5 harg5 arg6 harg6 arg7 harg7 x1 x2 x3 x4 x5) (Rect.unit ![0, 384, 0] S1x256x128.size inb_S4x640x128_S1x256x128_0_384_0 : Rect S4x640x128).toLoadRect)
    (fun x d => (q_read H _ _ x d).trans rfl)
    (fun r d => ((cov1 H (Rect.unit ![0, 384, 0] S1x256x128.size inb_S4x640x128_S1x256x128_0_384_0 : Rect S4x640x128).toLoadRect (ix3 0 r d) (by show 128 ≤ 384 + 1 * r.val; omega)).trans (half_read1 D b T 0 384 _ r d rfl rfl rfl))) (by decide) r c'

theorem s13_00 (H : Inputs D b T x0 x1 x2 x3 x4 x5 x6 x7 x8 x9 x10) (x : S1x128x128.Idx) :
    k0_pay144 k0_pay57 (run.sl.v791 (F := Ideal) c i arg3 harg3 arg4 harg4 arg5 harg5 arg6 harg6 arg7 harg7 arg38 x1 x2 x3 x4 x5) (run.sl.v792 (F := Ideal) c i arg3 harg3 arg4 harg4 arg5 harg5 arg6 harg6 arg7 harg7 arg38 x1 x2 x3 x4 x5) (run.sl.v794 (F := Ideal) c i arg3 harg3 arg4 harg4 arg5 harg5 arg6 harg6 arg7 harg7 arg31 x1 x2 x3 x4 x5) (run.sl.v796 (F := Ideal) c i arg3 harg3 arg4 harg4 arg5 harg5 arg6 harg6 arg7 harg7 arg32 x1 x2 x3 x4 x5) x = G8 D b T ((Rect.unit ![13, 0, 0] S1x128x128.size inb_S16x256x256_S1x128x128_13_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 13 0 0 _ _ rfl rfl rfl r c']
  exact cell_00 D b T 3 1 (arg38.view.readCov (run.sl.HS7_1 (F := Ideal) c i arg3 harg3 arg4 harg4 arg5 harg5 arg6 harg6 arg7 harg7 x1 x2 x3 x4 x5) (Rect.unit ![384, 256] S128x128.size inb_S512x1024_S128x128_384_256 : Rect S512x1024).toLoadRect) (arg38.view.readCov (run.sl.HS7_1 (F := Ideal) c i arg3 harg3 arg4 harg4 arg5 harg5 arg6 harg6 arg7 harg7 x1 x2 x3 x4 x5) (Rect.unit ![384, 384] S128x128.size inb_S512x1024_S128x128_384_384 : Rect S512x1024).toLoadRect) (arg31.view.readCov (run.sl.HS0_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect) (arg32.view.readCov (run.sl.HS1_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect)
    (fun x d => (q_read H _ _ x d).trans rfl)
    (fun r d => ((cov0 H (Rect.unit ![1, 384, 0] S1x256x128.size inb_S4x640x128_S1x256x128_1_384_0 : Rect S4x640x128).toLoadRect (ix3 0 r d) (by show 128 ≤ 384 + 1 * r.val; omega)).trans (half_read0 D b T 1 384 _ r d rfl rfl rfl))) (by decide) r c'

theorem s13_01 (H : Inputs D b T x0 x1 x2 x3 x4 x5 x6 x7 x8 x9 x10) (x : S1x128x128.Idx) :
    k0_pay146 (run.sl.r_48 (F := Ideal) c i arg3 harg3 arg4 harg4 arg5 harg5 arg6 harg6 arg7 harg7 arg31 arg32 arg38 x1 x2 x3 x4 x5) x = G8 D b T ((Rect.unit ![13, 0, 128] S1x128x128.size inb_S16x256x256_S1x128x128_13_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 13 0 1 _ _ rfl rfl rfl r c']
  exact cell_01 D b T 3 1 (arg38.view.readCov (run.sl.HS7_1 (F := Ideal) c i arg3 harg3 arg4 harg4 arg5 harg5 arg6 harg6 arg7 harg7 x1 x2 x3 x4 x5) (Rect.unit ![384, 256] S128x128.size inb_S512x1024_S128x128_384_256 : Rect S512x1024).toLoadRect) (arg38.view.readCov (run.sl.HS7_1 (F := Ideal) c i arg3 harg3 arg4 harg4 arg5 harg5 arg6 harg6 arg7 harg7 x1 x2 x3 x4 x5) (Rect.unit ![384, 384] S128x128.size inb_S512x1024_S128x128_384_384 : Rect S512x1024).toLoadRect) (arg31.view.readCov (run.sl.HS0_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect) (arg32.view.readCov (run.sl.HS1_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect)
    (fun x d => (q_read H _ _ x d).trans rfl)
    (fun r d => ((cov1 H (Rect.unit ![1, 384, 0] S1x256x128.size inb_S4x640x128_S1x256x128_1_384_0 : Rect S4x640x128).toLoadRect (ix3 0 r d) (by show 128 ≤ 384 + 1 * r.val; omega)).trans (half_read1 D b T 1 384 _ r d rfl rfl rfl))) (by decide) r c'

theorem s13_10 (H : Inputs D b T x0 x1 x2 x3 x4 x5 x6 x7 x8 x9 x10) (x : S1x128x128.Idx) :
    k0_pay147 k0_pay57 (run.sl.r_47 (F := Ideal) c i arg3 harg3 arg4 harg4 arg5 harg5 arg6 harg6 arg7 harg7 arg31 arg32 arg38 x1 x2 x3 x4 x5) x = G8 D b T ((Rect.unit ![13, 128, 0] S1x128x128.size inb_S16x256x256_S1x128x128_13_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 13 1 0 _ _ rfl rfl rfl r c']
  exact cell_10 D b T 3 1 (arg38.view.readCov (run.sl.HS7_1 (F := Ideal) c i arg3 harg3 arg4 harg4 arg5 harg5 arg6 harg6 arg7 harg7 x1 x2 x3 x4 x5) (Rect.unit ![384, 256] S128x128.size inb_S512x1024_S128x128_384_256 : Rect S512x1024).toLoadRect) (arg38.view.readCov (run.sl.HS7_1 (F := Ideal) c i arg3 harg3 arg4 harg4 arg5 harg5 arg6 harg6 arg7 harg7 x1 x2 x3 x4 x5) (Rect.unit ![384, 384] S128x128.size inb_S512x1024_S128x128_384_384 : Rect S512x1024).toLoadRect) (arg31.view.readCov (run.sl.HS0_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect) (arg32.view.readCov (run.sl.HS1_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect)
    (fun x d => (q_read H _ _ x d).trans rfl)
    (fun r d => ((cov0 H (Rect.unit ![1, 384, 0] S1x256x128.size inb_S4x640x128_S1x256x128_1_384_0 : Rect S4x640x128).toLoadRect (ix3 0 r d) (by show 128 ≤ 384 + 1 * r.val; omega)).trans (half_read0 D b T 1 384 _ r d rfl rfl rfl))) (by decide) r c'

theorem s13_11 (H : Inputs D b T x0 x1 x2 x3 x4 x5 x6 x7 x8 x9 x10) (x : S1x128x128.Idx) :
    k0_pay148 k0_pay57 (run.sl.r_47 (F := Ideal) c i arg3 harg3 arg4 harg4 arg5 harg5 arg6 harg6 arg7 harg7 arg31 arg32 arg38 x1 x2 x3 x4 x5) x = G8 D b T ((Rect.unit ![13, 128, 128] S1x128x128.size inb_S16x256x256_S1x128x128_13_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 13 1 1 _ _ rfl rfl rfl r c']
  exact cell_11 D b T 3 1 (arg38.view.readCov (run.sl.HS7_1 (F := Ideal) c i arg3 harg3 arg4 harg4 arg5 harg5 arg6 harg6 arg7 harg7 x1 x2 x3 x4 x5) (Rect.unit ![384, 256] S128x128.size inb_S512x1024_S128x128_384_256 : Rect S512x1024).toLoadRect) (arg38.view.readCov (run.sl.HS7_1 (F := Ideal) c i arg3 harg3 arg4 harg4 arg5 harg5 arg6 harg6 arg7 harg7 x1 x2 x3 x4 x5) (Rect.unit ![384, 384] S128x128.size inb_S512x1024_S128x128_384_384 : Rect S512x1024).toLoadRect) (arg31.view.readCov (run.sl.HS0_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect) (arg32.view.readCov (run.sl.HS1_4 (F := Ideal) c i arg3 harg3 arg4 harg4 arg5 harg5 arg6 harg6 arg7 harg7 x1 x2 x3 x4 x5) (Rect.unit ![1, 384, 0] S1x256x128.size inb_S4x640x128_S1x256x128_1_384_0 : Rect S4x640x128).toLoadRect)
    (fun x d => (q_read H _ _ x d).trans rfl)
    (fun r d => ((cov1 H (Rect.unit ![1, 384, 0] S1x256x128.size inb_S4x640x128_S1x256x128_1_384_0 : Rect S4x640x128).toLoadRect (ix3 0 r d) (by show 128 ≤ 384 + 1 * r.val; omega)).trans (half_read1 D b T 1 384 _ r d rfl rfl rfl))) (by decide) r c'

theorem s14_00 (H : Inputs D b T x0 x1 x2 x3 x4 x5 x6 x7 x8 x9 x10) (x : S1x128x128.Idx) :
    k0_pay150 k0_pay57 (run.sl.v828 (F := Ideal) c i arg3 harg3 arg4 harg4 arg5 harg5 arg6 harg6 arg7 harg7 arg38 x1 x2 x3 x4 x5) (run.sl.v829 (F := Ideal) c i arg3 harg3 arg4 harg4 arg5 harg5 arg6 harg6 arg7 harg7 arg38 x1 x2 x3 x4 x5) (run.sl.v831 (F := Ideal) c i arg3 harg3 arg4 harg4 arg5 harg5 arg6 harg6 arg7 harg7 arg31 x1 x2 x3 x4 x5) (run.sl.v833 (F := Ideal) c i arg3 harg3 arg4 harg4 arg5 harg5 arg6 harg6 arg7 harg7 arg32 x1 x2 x3 x4 x5) x = G8 D b T ((Rect.unit ![14, 0, 0] S1x128x128.size inb_S16x256x256_S1x128x128_14_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 14 0 0 _ _ rfl rfl rfl r c']
  exact cell_00 D b T 3 2 (arg38.view.readCov (run.sl.HS7_1 (F := Ideal) c i arg3 harg3 arg4 harg4 arg5 harg5 arg6 harg6 arg7 harg7 x1 x2 x3 x4 x5) (Rect.unit ![384, 512] S128x128.size inb_S512x1024_S128x128_384_512 : Rect S512x1024).toLoadRect) (arg38.view.readCov (run.sl.HS7_1 (F := Ideal) c i arg3 harg3 arg4 harg4 arg5 harg5 arg6 harg6 arg7 harg7 x1 x2 x3 x4 x5) (Rect.unit ![384, 640] S128x128.size inb_S512x1024_S128x128_384_640 : Rect S512x1024).toLoadRect) (arg31.view.readCov (run.sl.HS0_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect) (arg32.view.readCov (run.sl.HS1_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect)
    (fun x d => (q_read H _ _ x d).trans rfl)
    (fun r d => ((cov0 H (Rect.unit ![2, 384, 0] S1x256x128.size inb_S4x640x128_S1x256x128_2_384_0 : Rect S4x640x128).toLoadRect (ix3 0 r d) (by show 128 ≤ 384 + 1 * r.val; omega)).trans (half_read0 D b T 2 384 _ r d rfl rfl rfl))) (by decide) r c'

theorem s14_01 (H : Inputs D b T x0 x1 x2 x3 x4 x5 x6 x7 x8 x9 x10) (x : S1x128x128.Idx) :
    k0_pay152 (run.sl.r_50 (F := Ideal) c i arg3 harg3 arg4 harg4 arg5 harg5 arg6 harg6 arg7 harg7 arg31 arg32 arg38 x1 x2 x3 x4 x5) x = G8 D b T ((Rect.unit ![14, 0, 128] S1x128x128.size inb_S16x256x256_S1x128x128_14_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 14 0 1 _ _ rfl rfl rfl r c']
  exact cell_01 D b T 3 2 (arg38.view.readCov (run.sl.HS7_1 (F := Ideal) c i arg3 harg3 arg4 harg4 arg5 harg5 arg6 harg6 arg7 harg7 x1 x2 x3 x4 x5) (Rect.unit ![384, 512] S128x128.size inb_S512x1024_S128x128_384_512 : Rect S512x1024).toLoadRect) (arg38.view.readCov (run.sl.HS7_1 (F := Ideal) c i arg3 harg3 arg4 harg4 arg5 harg5 arg6 harg6 arg7 harg7 x1 x2 x3 x4 x5) (Rect.unit ![384, 640] S128x128.size inb_S512x1024_S128x128_384_640 : Rect S512x1024).toLoadRect) (arg31.view.readCov (run.sl.HS0_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect) (arg32.view.readCov (run.sl.HS1_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect)
    (fun x d => (q_read H _ _ x d).trans rfl)
    (fun r d => ((cov1 H (Rect.unit ![2, 384, 0] S1x256x128.size inb_S4x640x128_S1x256x128_2_384_0 : Rect S4x640x128).toLoadRect (ix3 0 r d) (by show 128 ≤ 384 + 1 * r.val; omega)).trans (half_read1 D b T 2 384 _ r d rfl rfl rfl))) (by decide) r c'

theorem s14_10 (H : Inputs D b T x0 x1 x2 x3 x4 x5 x6 x7 x8 x9 x10) (x : S1x128x128.Idx) :
    k0_pay153 k0_pay57 (run.sl.r_49 (F := Ideal) c i arg3 harg3 arg4 harg4 arg5 harg5 arg6 harg6 arg7 harg7 arg31 arg32 arg38 x1 x2 x3 x4 x5) x = G8 D b T ((Rect.unit ![14, 128, 0] S1x128x128.size inb_S16x256x256_S1x128x128_14_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 14 1 0 _ _ rfl rfl rfl r c']
  exact cell_10 D b T 3 2 (arg38.view.readCov (run.sl.HS7_1 (F := Ideal) c i arg3 harg3 arg4 harg4 arg5 harg5 arg6 harg6 arg7 harg7 x1 x2 x3 x4 x5) (Rect.unit ![384, 512] S128x128.size inb_S512x1024_S128x128_384_512 : Rect S512x1024).toLoadRect) (arg38.view.readCov (run.sl.HS7_1 (F := Ideal) c i arg3 harg3 arg4 harg4 arg5 harg5 arg6 harg6 arg7 harg7 x1 x2 x3 x4 x5) (Rect.unit ![384, 640] S128x128.size inb_S512x1024_S128x128_384_640 : Rect S512x1024).toLoadRect) (arg31.view.readCov (run.sl.HS0_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect) (arg32.view.readCov (run.sl.HS1_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect)
    (fun x d => (q_read H _ _ x d).trans rfl)
    (fun r d => ((cov0 H (Rect.unit ![2, 384, 0] S1x256x128.size inb_S4x640x128_S1x256x128_2_384_0 : Rect S4x640x128).toLoadRect (ix3 0 r d) (by show 128 ≤ 384 + 1 * r.val; omega)).trans (half_read0 D b T 2 384 _ r d rfl rfl rfl))) (by decide) r c'

theorem s14_11 (H : Inputs D b T x0 x1 x2 x3 x4 x5 x6 x7 x8 x9 x10) (x : S1x128x128.Idx) :
    k0_pay154 k0_pay57 (run.sl.r_49 (F := Ideal) c i arg3 harg3 arg4 harg4 arg5 harg5 arg6 harg6 arg7 harg7 arg31 arg32 arg38 x1 x2 x3 x4 x5) x = G8 D b T ((Rect.unit ![14, 128, 128] S1x128x128.size inb_S16x256x256_S1x128x128_14_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 14 1 1 _ _ rfl rfl rfl r c']
  exact cell_11 D b T 3 2 (arg38.view.readCov (run.sl.HS7_1 (F := Ideal) c i arg3 harg3 arg4 harg4 arg5 harg5 arg6 harg6 arg7 harg7 x1 x2 x3 x4 x5) (Rect.unit ![384, 512] S128x128.size inb_S512x1024_S128x128_384_512 : Rect S512x1024).toLoadRect) (arg38.view.readCov (run.sl.HS7_1 (F := Ideal) c i arg3 harg3 arg4 harg4 arg5 harg5 arg6 harg6 arg7 harg7 x1 x2 x3 x4 x5) (Rect.unit ![384, 640] S128x128.size inb_S512x1024_S128x128_384_640 : Rect S512x1024).toLoadRect) (arg31.view.readCov (run.sl.HS0_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect) (arg32.view.readCov (run.sl.HS1_4 (F := Ideal) c i arg3 harg3 arg4 harg4 arg5 harg5 arg6 harg6 arg7 harg7 x1 x2 x3 x4 x5) (Rect.unit ![2, 384, 0] S1x256x128.size inb_S4x640x128_S1x256x128_2_384_0 : Rect S4x640x128).toLoadRect)
    (fun x d => (q_read H _ _ x d).trans rfl)
    (fun r d => ((cov1 H (Rect.unit ![2, 384, 0] S1x256x128.size inb_S4x640x128_S1x256x128_2_384_0 : Rect S4x640x128).toLoadRect (ix3 0 r d) (by show 128 ≤ 384 + 1 * r.val; omega)).trans (half_read1 D b T 2 384 _ r d rfl rfl rfl))) (by decide) r c'

theorem s15_00 (H : Inputs D b T x0 x1 x2 x3 x4 x5 x6 x7 x8 x9 x10) (x : S1x128x128.Idx) :
    k0_pay156 k0_pay57 (run.sl.v865 (F := Ideal) c i arg3 harg3 arg4 harg4 arg5 harg5 arg6 harg6 arg7 harg7 arg38 x1 x2 x3 x4 x5) (run.sl.v866 (F := Ideal) c i arg3 harg3 arg4 harg4 arg5 harg5 arg6 harg6 arg7 harg7 arg38 x1 x2 x3 x4 x5) (run.sl.v868 (F := Ideal) c i arg3 harg3 arg4 harg4 arg5 harg5 arg6 harg6 arg7 harg7 arg31 x1 x2 x3 x4 x5) (run.sl.v870 (F := Ideal) c i arg3 harg3 arg4 harg4 arg5 harg5 arg6 harg6 arg7 harg7 arg32 x1 x2 x3 x4 x5) x = G8 D b T ((Rect.unit ![15, 0, 0] S1x128x128.size inb_S16x256x256_S1x128x128_15_0_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 15 0 0 _ _ rfl rfl rfl r c']
  exact cell_00 D b T 3 3 (arg38.view.readCov (run.sl.HS7_1 (F := Ideal) c i arg3 harg3 arg4 harg4 arg5 harg5 arg6 harg6 arg7 harg7 x1 x2 x3 x4 x5) (Rect.unit ![384, 768] S128x128.size inb_S512x1024_S128x128_384_768 : Rect S512x1024).toLoadRect) (arg38.view.readCov (run.sl.HS7_1 (F := Ideal) c i arg3 harg3 arg4 harg4 arg5 harg5 arg6 harg6 arg7 harg7 x1 x2 x3 x4 x5) (Rect.unit ![384, 896] S128x128.size inb_S512x1024_S128x128_384_896 : Rect S512x1024).toLoadRect) (arg31.view.readCov (run.sl.HS0_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect) (arg32.view.readCov (run.sl.HS1_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect)
    (fun x d => (q_read H _ _ x d).trans rfl)
    (fun r d => ((cov0 H (Rect.unit ![3, 384, 0] S1x256x128.size inb_S4x640x128_S1x256x128_3_384_0 : Rect S4x640x128).toLoadRect (ix3 0 r d) (by show 128 ≤ 384 + 1 * r.val; omega)).trans (half_read0 D b T 3 384 _ r d rfl rfl rfl))) (by decide) r c'

theorem s15_01 (H : Inputs D b T x0 x1 x2 x3 x4 x5 x6 x7 x8 x9 x10) (x : S1x128x128.Idx) :
    k0_pay158 k0_pay57 (run.sl.r_52 (F := Ideal) c i arg3 harg3 arg4 harg4 arg5 harg5 arg6 harg6 arg7 harg7 arg31 arg32 arg38 x1 x2 x3 x4 x5) x = G8 D b T ((Rect.unit ![15, 0, 128] S1x128x128.size inb_S16x256x256_S1x128x128_15_0_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 15 0 1 _ _ rfl rfl rfl r c']
  exact cell_01 D b T 3 3 (arg38.view.readCov (run.sl.HS7_1 (F := Ideal) c i arg3 harg3 arg4 harg4 arg5 harg5 arg6 harg6 arg7 harg7 x1 x2 x3 x4 x5) (Rect.unit ![384, 768] S128x128.size inb_S512x1024_S128x128_384_768 : Rect S512x1024).toLoadRect) (arg38.view.readCov (run.sl.HS7_1 (F := Ideal) c i arg3 harg3 arg4 harg4 arg5 harg5 arg6 harg6 arg7 harg7 x1 x2 x3 x4 x5) (Rect.unit ![384, 896] S128x128.size inb_S512x1024_S128x128_384_896 : Rect S512x1024).toLoadRect) (arg31.view.readCov (run.sl.HS0_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect) (arg32.view.readCov (run.sl.HS1_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect)
    (fun x d => (q_read H _ _ x d).trans rfl)
    (fun r d => ((cov1 H (Rect.unit ![3, 384, 0] S1x256x128.size inb_S4x640x128_S1x256x128_3_384_0 : Rect S4x640x128).toLoadRect (ix3 0 r d) (by show 128 ≤ 384 + 1 * r.val; omega)).trans (half_read1 D b T 3 384 _ r d rfl rfl rfl))) (by decide) r c'

theorem s15_10 (H : Inputs D b T x0 x1 x2 x3 x4 x5 x6 x7 x8 x9 x10) (x : S1x128x128.Idx) :
    k0_pay159 k0_pay57 (run.sl.r_51 (F := Ideal) c i arg3 harg3 arg4 harg4 arg5 harg5 arg6 harg6 arg7 harg7 arg31 arg32 arg38 x1 x2 x3 x4 x5) x = G8 D b T ((Rect.unit ![15, 128, 0] S1x128x128.size inb_S16x256x256_S1x128x128_15_128_0 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 15 1 0 _ _ rfl rfl rfl r c']
  exact cell_10 D b T 3 3 (arg38.view.readCov (run.sl.HS7_1 (F := Ideal) c i arg3 harg3 arg4 harg4 arg5 harg5 arg6 harg6 arg7 harg7 x1 x2 x3 x4 x5) (Rect.unit ![384, 768] S128x128.size inb_S512x1024_S128x128_384_768 : Rect S512x1024).toLoadRect) (arg38.view.readCov (run.sl.HS7_1 (F := Ideal) c i arg3 harg3 arg4 harg4 arg5 harg5 arg6 harg6 arg7 harg7 x1 x2 x3 x4 x5) (Rect.unit ![384, 896] S128x128.size inb_S512x1024_S128x128_384_896 : Rect S512x1024).toLoadRect) (arg31.view.readCov (run.sl.HS0_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect) (arg32.view.readCov (run.sl.HS1_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect)
    (fun x d => (q_read H _ _ x d).trans rfl)
    (fun r d => ((cov0 H (Rect.unit ![3, 384, 0] S1x256x128.size inb_S4x640x128_S1x256x128_3_384_0 : Rect S4x640x128).toLoadRect (ix3 0 r d) (by show 128 ≤ 384 + 1 * r.val; omega)).trans (half_read0 D b T 3 384 _ r d rfl rfl rfl))) (by decide) r c'

theorem s15_11 (H : Inputs D b T x0 x1 x2 x3 x4 x5 x6 x7 x8 x9 x10) (x : S1x128x128.Idx) :
    k0_pay160 k0_pay57 (run.sl.r_51 (F := Ideal) c i arg3 harg3 arg4 harg4 arg5 harg5 arg6 harg6 arg7 harg7 arg31 arg32 arg38 x1 x2 x3 x4 x5) x = G8 D b T ((Rect.unit ![15, 128, 128] S1x128x128.size inb_S16x256x256_S1x128x128_15_128_128 : Rect S16x256x256).emb x) := by
  obtain ⟨o, r, c', rfl⟩ : ∃ (o : Fin 1) (r c' : Fin 128), x = ix3 o r c' := ⟨x 0, x 1, x 2, eq_ix3 x⟩
  obtain rfl : o = 0 := Subsingleton.elim _ _
  rw [G8_emb D b T 15 1 1 _ _ rfl rfl rfl r c']
  exact cell_11 D b T 3 3 (arg38.view.readCov (run.sl.HS7_1 (F := Ideal) c i arg3 harg3 arg4 harg4 arg5 harg5 arg6 harg6 arg7 harg7 x1 x2 x3 x4 x5) (Rect.unit ![384, 768] S128x128.size inb_S512x1024_S128x128_384_768 : Rect S512x1024).toLoadRect) (arg38.view.readCov (run.sl.HS7_1 (F := Ideal) c i arg3 harg3 arg4 harg4 arg5 harg5 arg6 harg6 arg7 harg7 x1 x2 x3 x4 x5) (Rect.unit ![384, 896] S128x128.size inb_S512x1024_S128x128_384_896 : Rect S512x1024).toLoadRect) (arg31.view.readCov (run.sl.HS0_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect) (arg32.view.readCov (run.sl.HS1_4 (F := Ideal) c i arg3 harg3 arg4 harg4 arg5 harg5 arg6 harg6 arg7 harg7 x1 x2 x3 x4 x5) (Rect.unit ![3, 384, 0] S1x256x128.size inb_S4x640x128_S1x256x128_3_384_0 : Rect S4x640x128).toLoadRect)
    (fun x d => (q_read H _ _ x d).trans rfl)
    (fun r d => ((cov1 H (Rect.unit ![3, 384, 0] S1x256x128.size inb_S4x640x128_S1x256x128_3_384_0 : Rect S4x640x128).toLoadRect (ix3 0 r d) (by show 128 ≤ 384 + 1 * r.val; omega)).trans (half_read1 D b T 3 384 _ r d rfl rfl rfl))) (by decide) r c'

theorem list8 (H : Inputs D b T x0 x1 x2 x3 x4 x5 x6 x7 x8 x9 x10) (S : Start D b T xs0 xs1 xs2 xs3 xs4) (hi : (i 1).val = T) : Agree (run.sl.HS8_64 (F := Ideal) c i arg3 harg3 arg4 harg4 arg5 harg5 arg6 harg6 arg7 harg7 arg31 harg31 arg32 harg32 arg38 x1 x2 x3 x4 x5 xs0 xs1) (G8 D b T) := by
  unfold run.sl.HS8_64
  refine .cons (s15_11 H) ?_
  refine .cons (s15_10 H) ?_
  refine .cons (s15_01 H) ?_
  refine .cons (s15_00 H) ?_
  refine .cons (s14_11 H) ?_
  refine .cons (s14_10 H) ?_
  refine .cons (s14_01 H) ?_
  refine .cons (s14_00 H) ?_
  refine .cons (s13_11 H) ?_
  refine .cons (s13_10 H) ?_
  refine .cons (s13_01 H) ?_
  refine .cons (s13_00 H) ?_
  refine .cons (s12_11 H) ?_
  refine .cons (s12_10 H) ?_
  refine .cons (s12_01 H) ?_
  refine .cons (s12_00 H) ?_
  refine .cons (s11_11 H) ?_
  refine .cons (s11_10 H) ?_
  refine .cons (s11_01 H) ?_
  refine .cons (s11_00 H) ?_
  refine .cons (s10_11 H) ?_
  refine .cons (s10_10 H) ?_
  refine .cons (s10_01 H) ?_
  refine .cons (s10_00 H) ?_
  refine .cons (s9_11 H) ?_
  refine .cons (s9_10 H) ?_
  refine .cons (s9_01 H) ?_
  refine .cons (s9_00 H) ?_
  refine .cons (s8_11 H) ?_
  refine .cons (s8_10 H) ?_
  refine .cons (s8_01 H) ?_
  refine .cons (s8_00 H) ?_
  refine .cons (s7_11 H) ?_
  refine .cons (s7_10 H) ?_
  refine .cons (s7_01 H) ?_
  refine .cons (s7_00 H) ?_
  refine .cons (s6_11 H) ?_
  refine .cons (s6_10 H) ?_
  refine .cons (s6_01 H) ?_
  refine .cons (s6_00 H) ?_
  refine .cons (s5_11 H) ?_
  refine .cons (s5_10 H) ?_
  refine .cons (s5_01 H) ?_
  refine .cons (s5_00 H) ?_
  refine .cons (s4_11 H) ?_
  refine .cons (s4_10 H) ?_
  refine .cons (s4_01 H) ?_
  refine .cons (s4_00 H) ?_
  refine .cons (s3_11 H S hi) ?_
  refine .cons (s3_10 H S hi) ?_
  refine .cons (s3_01 H S hi) ?_
  refine .cons (s3_00 H S hi) ?_
  refine .cons (s2_11 H S hi) ?_
  refine .cons (s2_10 H S hi) ?_
  refine .cons (s2_01 H S hi) ?_
  refine .cons (s2_00 H S hi) ?_
  refine .cons (s1_11 H S hi) ?_
  refine .cons (s1_10 H S hi) ?_
  refine .cons (s1_01 H S hi) ?_
  refine .cons (s1_00 H S hi) ?_
  refine .cons (s0_11 H S hi) ?_
  refine .cons (s0_10 H S hi) ?_
  refine .cons (s0_01 H S hi) ?_
  refine .cons (s0_00 H S hi) ?_
  exact .nil _

end Cert.Mixer

end
-- ==== Proof.Mixer.AttRow.lean ====
/-
  A block of the attention's rows from its scores: what the kernel forms of four blocks of scores, four sinks and the values of
  two blocks, entry by entry.
-/
module

public import proofs.«01_k».proof.Proof.Mixer.ScoreRow

@[expose] public section

set_option maxRecDepth 16384

noncomputable section

namespace Cert.Mixer

open Cert.Kernel3Ideal Cert.Kernel3Ideal.Gen
open Idealize.ShloMosaic Idealize.ShloMosaic.TcCoe Idealize.SL.Sem

/-- The weights of two heads, one over the other, each laid out over the keys of the two blocks. -/
def attP (s00 s01 s10 s11 : Vec Ideal S1x128x128 .f32) (k00 k01 k10 k11 : Elt Ideal .f32) : FVec Ideal S256x512 .bf16 :=
  k0_pay184 k0_pay57 (k0_pay171 k0_pay57 (k0_pay165 k0_pay57 s00 k00) (k0_pay166 k0_pay57 s00 k00) s01 k01) (k0_pay177 k0_pay57 s10 k10) (k0_pay178 k0_pay57 s10 k10) s11 k11

/-- Their products with the values, and their sums. -/
def attAll (s00 s01 s10 s11 : Vec Ideal S1x128x128 .f32) (k00 k01 k10 k11 : Elt Ideal .f32) (L M : Vec Ideal S1x256x128 .bf16) : FVec Ideal S256x256 .f32 :=
  k0_pay206 (k0_pay61 k0_pay3 k0_pay59 k0_pay60) (k0_pay62 k0_pay3) (attP s00 s01 s10 s11 k00 k01 k10 k11) L M

/-- The rows of the heads above and of those below. -/
def att0 (s00 s01 s10 s11 : Vec Ideal S1x128x128 .f32) (k00 k01 k10 k11 : Elt Ideal .f32) (L M : Vec Ideal S1x256x128 .bf16) : FVec Ideal S128x128 .bf16 :=
  k0_pay210 (k0_pay172 k0_pay3 (k0_pay167 s00 k00) s01 k01) (k0_pay208 (k0_pay61 k0_pay3 k0_pay59 k0_pay60) (k0_pay62 k0_pay3) (attP s00 s01 s10 s11 k00 k01 k10 k11) L M) (k0_pay209 (k0_pay61 k0_pay3 k0_pay59 k0_pay60) (k0_pay62 k0_pay3) (attP s00 s01 s10 s11 k00 k01 k10 k11) L M)
def att1 (s00 s01 s10 s11 : Vec Ideal S1x128x128 .f32) (k00 k01 k10 k11 : Elt Ideal .f32) (L M : Vec Ideal S1x256x128 .bf16) : FVec Ideal S128x128 .bf16 :=
  k0_pay211 (k0_pay183 k0_pay3 (k0_pay179 s10 k10) s11 k11) (attAll s00 s01 s10 s11 k00 k01 k10 k11 L M)

theorem log2e : (Named.named (F := Ideal) κ "log2e" 0x3FB8AA3B#32 : Ideal .f32) = rate :=
  IdealRules.named_const.ideal_named_scalar _ _ _ _ rfl

theorem fold_sup {n : ℕ} (f : Fin n → EReal) : Finset.fold max (Ideal.ofBits .f32 4286578688#32) f Finset.univ = Finset.univ.sup f := by
  rw [Attn.neg_inf]
  rfl

/-- The largest of a row's scores and the sink, -/
def M (s : Vec Ideal S1x128x128 .f32) (k : Elt Ideal .f32) (x : Fin 128) : EReal := top (fun c : Fin 128 => s (ix3 0 x c)) (k * rate)

/-- and the weights. -/
def Wt (s : Vec Ideal S1x128x128 .f32) (k : Elt Ideal .f32) (x c : Fin 128) : EReal := Ideal.exp2 (s (ix3 0 x c) - M s k x)

theorem mx_at (s : Vec Ideal S1x128x128 .f32) (k : Elt Ideal .f32) (x : Fin 128) : k0_pay163 s k (ix2 x 0) = M s k x := by
  pointwise [k0_pay163, k0_pay162, k0_pay161]
  rw [log2e, fold_sup]
  rfl

theorem wt_at (s : Vec Ideal S1x128x128 .f32) (k : Elt Ideal .f32) (x c : Fin 128) : k0_pay164 s k (ix2 x c) = Wt s k x c := by
  pointwise [k0_pay164, k0_pay161]
  rw [mx_at]
  rfl

theorem den_at (s s' : Vec Ideal S1x128x128 .f32) (k k' : Elt Ideal .f32) (x l : Fin 128) :
    k0_pay172 k0_pay3 (k0_pay167 s k) s' k' (ix2 x l) = if l.val < 64 then Ideal.exp2 (k * rate - M s k x) else Ideal.exp2 (k' * rate - M s' k' x) := by
  pointwise [k0_pay172, k0_pay167, k0_pay162, k0_pay169]
  rw [show k0_pay170 s' k' = k0_pay163 s' k' from rfl, mx_at, mx_at, log2e, mask64_at, select_if]
  rfl

theorem den1_at (s s' : Vec Ideal S1x128x128 .f32) (k k' : Elt Ideal .f32) (x l : Fin 128) :
    k0_pay183 k0_pay3 (k0_pay179 s k) s' k' (ix2 x l) = if l.val < 64 then Ideal.exp2 (k * rate - M s k x) else Ideal.exp2 (k' * rate - M s' k' x) :=
  den_at s s' k k' x l

theorem ones_at (x : Fin 256) (l : Fin 128) : k0_pay61 (F := Ideal) k0_pay3 k0_pay59 k0_pay60 (ix2 x l) = if l.val < 64 then (1 : EReal) else 0 := by
  rw [← select_if, ← mask64_at]
  pointwise [k0_pay61, k0_pay59, k0_pay60]

theorem ones'_at (x : Fin 256) (l : Fin 128) : k0_pay62 (F := Ideal) k0_pay3 (ix2 x l) = if l.val < 64 then (0 : EReal) else 1 := by
  rw [← select_if, ← mask64_at]
  pointwise [k0_pay62]

theorem after_at (x c : Fin 128) : k0_pay57 (ix2 x c) = if x.val < c.val then 1#1 else 0#1 := by
  refine Eq.trans ?_ (after x c)
  pointwise [k0_pay57]

/-- A block of weights laid out over the keys of the two blocks. -/
def laid (s s' : Vec Ideal S1x128x128 .f32) (k k' : Elt Ideal .f32) : FVec Ideal S128x512 .bf16 :=
  k0_pay171 k0_pay57 (k0_pay165 k0_pay57 s k) (k0_pay166 k0_pay57 s k) s' k'

theorem laid_parts (s s' : Vec Ideal S1x128x128 .f32) (k k' : Elt Ideal .f32) : laid s s' k k' = concatenate S128x512 1
    [⟨S128x128, select k0_pay57 (k0_pay164 s k) (broadcast S128x128 (Scalar.ofBits .bf16 0x0000#16))⟩, ⟨S128x128, select k0_pay57 (broadcast S128x128 (Scalar.ofBits .bf16 0x0000#16)) (k0_pay164 s k)⟩,
     ⟨S128x128, select k0_pay57 (k0_pay164 s' k') (broadcast S128x128 (Scalar.ofBits .bf16 0x0000#16))⟩, ⟨S128x128, select k0_pay57 (broadcast S128x128 (Scalar.ofBits .bf16 0x0000#16)) (k0_pay164 s' k')⟩]
    concatenates_S128x128_S128x128_S128x128_S128x128_S128x512_d1 := rfl

theorem picked_at (A B : FVec Ideal S128x128 .bf16) (x c : Fin 128) : select k0_pay57 A B (ix2 x c) = if x.val < c.val then A (ix2 x c) else B (ix2 x c) := by
  rw [← select_if, ← after_at]
  pointwise []

theorem zeros_at (x c : Fin 128) : broadcast S128x128 (Scalar.ofBits (F := Ideal) .bf16 0x0000#16) (ix2 x c) = (0 : EReal) := by
  pointwise []

theorem laid_at0 (s s' : Vec Ideal S1x128x128 .f32) (k k' : Elt Ideal .f32) (x c : Fin 128) :
    laid s s' k k' (ix2 x ⟨0 + c.val, by omega⟩) = if x.val < c.val then Wt s k x c else 0 := by
  have h0 := picked_at (k0_pay164 s k) (broadcast S128x128 (Scalar.ofBits .bf16 0x0000#16)) x c
  have h1 := picked_at (broadcast S128x128 (Scalar.ofBits .bf16 0x0000#16)) (k0_pay164 s k) x c
  rw [wt_at, zeros_at] at h0 h1
  rw [laid_parts]
  refine Eq.trans ?_ h0
  generalize select k0_pay57 (k0_pay164 s k) (broadcast S128x128 (Scalar.ofBits .bf16 0x0000#16)) = A0
  generalize select k0_pay57 (broadcast S128x128 (Scalar.ofBits .bf16 0x0000#16)) (k0_pay164 s k) = A1
  generalize select k0_pay57 (k0_pay164 s' k') (broadcast S128x128 (Scalar.ofBits .bf16 0x0000#16)) = A2
  generalize select k0_pay57 (broadcast S128x128 (Scalar.ofBits .bf16 0x0000#16)) (k0_pay164 s' k') = A3
  have hc := c.isLt
  pointwise []
  all_goals
    rw [dif_neg (by omega), dif_neg (by omega), dif_neg (by omega)]
    exact congrArg (fun z => A0 (ix2 x z)) (Fin.ext (by show 0 + c.val  = c.val; omega))

theorem laid_at1 (s s' : Vec Ideal S1x128x128 .f32) (k k' : Elt Ideal .f32) (x c : Fin 128) :
    laid s s' k k' (ix2 x ⟨128 + c.val, by omega⟩) = if x.val < c.val then 0 else Wt s k x c := by
  have h0 := picked_at (k0_pay164 s k) (broadcast S128x128 (Scalar.ofBits .bf16 0x0000#16)) x c
  have h1 := picked_at (broadcast S128x128 (Scalar.ofBits .bf16 0x0000#16)) (k0_pay164 s k) x c
  rw [wt_at, zeros_at] at h0 h1
  rw [laid_parts]
  refine Eq.trans ?_ h1
  generalize select k0_pay57 (k0_pay164 s k) (broadcast S128x128 (Scalar.ofBits .bf16 0x0000#16)) = A0
  generalize select k0_pay57 (broadcast S128x128 (Scalar.ofBits .bf16 0x0000#16)) (k0_pay164 s k) = A1
  generalize select k0_pay57 (k0_pay164 s' k') (broadcast S128x128 (Scalar.ofBits .bf16 0x0000#16)) = A2
  generalize select k0_pay57 (broadcast S128x128 (Scalar.ofBits .bf16 0x0000#16)) (k0_pay164 s' k') = A3
  have hc := c.isLt
  pointwise []
  all_goals
    rw [dif_neg (by omega), dif_neg (by omega), dif_neg (by omega)]
    exact congrArg (fun z => A1 (ix2 x z)) (Fin.ext (by show 128 + c.val - 128 = c.val; omega))

theorem laid_at2 (s s' : Vec Ideal S1x128x128 .f32) (k k' : Elt Ideal .f32) (x c : Fin 128) :
    laid s s' k k' (ix2 x ⟨256 + c.val, by omega⟩) = if x.val < c.val then Wt s' k' x c else 0 := by
  have h0 := picked_at (k0_pay164 s' k') (broadcast S128x128 (Scalar.ofBits .bf16 0x0000#16)) x c
  have h1 := picked_at (broadcast S128x128 (Scalar.ofBits .bf16 0x0000#16)) (k0_pay164 s' k') x c
  rw [wt_at, zeros_at] at h0 h1
  rw [laid_parts]
  refine Eq.trans ?_ h0
  generalize select k0_pay57 (k0_pay164 s k) (broadcast S128x128 (Scalar.ofBits .bf16 0x0000#16)) = A0
  generalize select k0_pay57 (broadcast S128x128 (Scalar.ofBits .bf16 0x0000#16)) (k0_pay164 s k) = A1
  generalize select k0_pay57 (k0_pay164 s' k') (broadcast S128x128 (Scalar.ofBits .bf16 0x0000#16)) = A2
  generalize select k0_pay57 (broadcast S128x128 (Scalar.ofBits .bf16 0x0000#16)) (k0_pay164 s' k') = A3
  have hc := c.isLt
  pointwise []
  all_goals
    rw [dif_neg (by omega), dif_neg (by omega), dif_pos (by omega)]
    exact congrArg (fun z => A2 (ix2 x z)) (Fin.ext (by show 256 + c.val - 128- 128 = c.val; omega))

theorem laid_at3 (s s' : Vec Ideal S1x128x128 .f32) (k k' : Elt Ideal .f32) (x c : Fin 128) :
    laid s s' k k' (ix2 x ⟨384 + c.val, by omega⟩) = if x.val < c.val then 0 else Wt s' k' x c := by
  have h0 := picked_at (k0_pay164 s' k') (broadcast S128x128 (Scalar.ofBits .bf16 0x0000#16)) x c
  have h1 := picked_at (broadcast S128x128 (Scalar.ofBits .bf16 0x0000#16)) (k0_pay164 s' k') x c
  rw [wt_at, zeros_at] at h0 h1
  rw [laid_parts]
  refine Eq.trans ?_ h1
  generalize select k0_pay57 (k0_pay164 s k) (broadcast S128x128 (Scalar.ofBits .bf16 0x0000#16)) = A0
  generalize select k0_pay57 (broadcast S128x128 (Scalar.ofBits .bf16 0x0000#16)) (k0_pay164 s k) = A1
  generalize select k0_pay57 (k0_pay164 s' k') (broadcast S128x128 (Scalar.ofBits .bf16 0x0000#16)) = A2
  generalize select k0_pay57 (broadcast S128x128 (Scalar.ofBits .bf16 0x0000#16)) (k0_pay164 s' k') = A3
  have hc := c.isLt
  pointwise []
  all_goals
    rw [dif_neg (by omega), dif_neg (by omega), dif_neg (by omega)]
    exact congrArg (fun z => A3 (ix2 x z)) (Fin.ext (by show 384 + c.val - 128- 128- 128 = c.val; omega))

theorem attP_eq (s00 s01 s10 s11 : Vec Ideal S1x128x128 .f32) (k00 k01 k10 k11 : Elt Ideal .f32) : attP s00 s01 s10 s11 k00 k01 k10 k11 = concatenate S256x512 0 [⟨S128x512, laid s00 s01 k00 k01⟩, ⟨S128x512, laid s10 s11 k10 k11⟩] concatenates_S128x512_S128x512_S256x512_d0 := rfl

theorem attP_at0 (s00 s01 s10 s11 : Vec Ideal S1x128x128 .f32) (k00 k01 k10 k11 : Elt Ideal .f32) (x : Fin 128) (n : Fin 512) : attP s00 s01 s10 s11 k00 k01 k10 k11 (ix2 ⟨x.val, by omega⟩ n) = laid s00 s01 k00 k01 (ix2 x n) := by
  rw [attP_eq]
  generalize laid s00 s01 k00 k01 = A
  generalize laid s10 s11 k10 k11 = B
  pointwise []

theorem attP_at1 (s00 s01 s10 s11 : Vec Ideal S1x128x128 .f32) (k00 k01 k10 k11 : Elt Ideal .f32) (x : Fin 128) (n : Fin 512) : attP s00 s01 s10 s11 k00 k01 k10 k11 (ix2 ⟨128 + x.val, by omega⟩ n) = laid s10 s11 k10 k11 (ix2 x n) := by
  rw [attP_eq]
  generalize laid s00 s01 k00 k01 = A
  generalize laid s10 s11 k10 k11 = B
  pointwise []

/-- A row of weights against the values and the sums, over the four runs of keys. -/
theorem prod_at (O O' : FVec Ideal S256x128 .bf16) (P : FVec Ideal S256x512 .bf16) (L N : Vec Ideal S1x256x128 .bf16) (y : Fin 256) (s s' : Vec Ideal S1x128x128 .f32) (k k' : Elt Ideal .f32) (x : Fin 128)
    (hP : ∀ n, P (ix2 y n) = laid s s' k k' (ix2 x n)) (U U' : Fin 256 → EReal) (n : Fin 256)
    (hU : ∀ r : Fin 256, (if h : n.val < 128 then L (ix3 0 r ⟨n.val, h⟩) else O (ix2 r ⟨n.val - 128, by omega⟩)) = U r)
    (hU' : ∀ r : Fin 256, (if h : n.val < 128 then N (ix3 0 r ⟨n.val, h⟩) else O' (ix2 r ⟨n.val - 128, by omega⟩)) = U' r) :
    k0_pay206 O O' P L N (ix2 y n)
      = ∑ c : Fin 128, Wt s k x c * (if x.val < c.val then U ⟨c.val, by omega⟩ else U ⟨128 + c.val, by omega⟩)
        + ∑ c : Fin 128, Wt s' k' x c * (if x.val < c.val then U' ⟨c.val, by omega⟩ else U' ⟨128 + c.val, by omega⟩) := by
  rw [← sum_two, ← sum_two]
  have e : k0_pay206 O O' P L N (ix2 y n) = (∑ r : Fin 256, P (ix2 y ⟨r.val, by omega⟩) * U r) + ∑ r : Fin 256, P (ix2 y ⟨256 + r.val, by omega⟩) * U' r := by
    simp only [← hU, ← hU']
    pointwise [k0_pay206]
  rw [e]
  have hs : ∀ f : Fin 256 → EReal, ∑ r, f r = (∑ c : Fin 128, f ⟨c.val, by omega⟩) + ∑ c : Fin 128, f ⟨128 + c.val, by omega⟩ := fun f => Fin.sum_univ_add (a := 128) (b := 128) f
  rw [hs, hs]
  simp only [hP]
  refine congrArg₂ (· + ·) (congrArg₂ (· + ·) ?_ ?_) (congrArg₂ (· + ·) ?_ ?_)
  · refine Finset.sum_congr rfl fun c _ => congrArg₂ (· * ·) ?_ rfl
    exact (congrArg (fun z => laid s s' k k' (ix2 x z)) (Fin.ext (Nat.zero_add _).symm)).trans (laid_at0 s s' k k' x c)
  · exact Finset.sum_congr rfl fun c _ => congrArg₂ (· * ·) (laid_at1 s s' k k' x c) rfl
  · exact Finset.sum_congr rfl fun c _ => congrArg₂ (· * ·) (laid_at2 s s' k k' x c) rfl
  · refine Finset.sum_congr rfl fun c _ => congrArg₂ (· * ·) ?_ rfl
    exact (congrArg (fun z => laid s s' k k' (ix2 x z)) (Fin.ext (by show 256 + (128 + c.val) = 384 + c.val; omega))).trans (laid_at3 s s' k k' x c)

/-- A row of the attention for the head that holds its column. -/
def pick (s : Vec Ideal S1x128x128 .f32) (k : Elt Ideal .f32) (V : Fin 256 → EReal) (x : Fin 128) : EReal :=
  Ideal.div (∑ c : Fin 128, Wt s k x c * (if x.val < c.val then V ⟨c.val, by omega⟩ else V ⟨128 + c.val, by omega⟩)) (∑ c : Fin 128, Wt s k x c + Ideal.exp2 (k * rate - M s k x))

theorem row_of (O O' : FVec Ideal S256x128 .bf16) (P : FVec Ideal S256x512 .bf16) (L N : Vec Ideal S1x256x128 .bf16) (y : Fin 256) (s s' : Vec Ideal S1x128x128 .f32) (k k' : Elt Ideal .f32) (x l : Fin 128)
    (hO : ∀ r l, O (ix2 r l) = if l.val < 64 then (1 : EReal) else 0) (hO' : ∀ r l, O' (ix2 r l) = if l.val < 64 then (0 : EReal) else 1)
    (hP : ∀ n, P (ix2 y n) = laid s s' k k' (ix2 x n)) (hL : ¬ l.val < 64 → ∀ r, L (ix3 0 r l) = (0 : EReal)) (hN : l.val < 64 → ∀ r, N (ix3 0 r l) = (0 : EReal)) (d : EReal)
    (hd : d = if l.val < 64 then Ideal.exp2 (k * rate - M s k x) else Ideal.exp2 (k' * rate - M s' k' x)) :
    Ideal.div (k0_pay206 O O' P L N (ix2 y ⟨l.val, by omega⟩)) (k0_pay206 O O' P L N (ix2 y ⟨128 + l.val, by omega⟩) + d)
      = if l.val < 64 then pick s k (fun r => L (ix3 0 r l)) x else pick s' k' (fun r => N (ix3 0 r l)) x := by
  rw [prod_at O O' P L N y s s' k k' x hP (fun r => L (ix3 0 r l)) (fun r => N (ix3 0 r l)) ⟨l.val, by omega⟩ (fun r => dif_pos l.isLt) (fun r => dif_pos l.isLt),
    prod_at O O' P L N y s s' k k' x hP (fun _ => if l.val < 64 then 1 else 0) (fun _ => if l.val < 64 then 0 else 1) ⟨128 + l.val, by omega⟩
      (fun r => by
        rw [dif_neg (by simp)]
        exact (congrArg (fun z => O (ix2 r z)) (Fin.ext (by simp))).trans (hO r l))
      (fun r => by
        rw [dif_neg (by simp)]
        exact (congrArg (fun z => O' (ix2 r z)) (Fin.ext (by simp))).trans (hO' r l)), hd]
  unfold pick
  by_cases hl : l.val < 64
  · simp only [if_pos hl, hN hl, ite_self, mul_zero, mul_one, Finset.sum_const_zero, add_zero]
  · simp only [if_neg hl, hL hl, ite_self, mul_zero, mul_one, Finset.sum_const_zero, zero_add]

theorem att0_at (s00 s01 s10 s11 : Vec Ideal S1x128x128 .f32) (k00 k01 k10 k11 : Elt Ideal .f32) (L N : Vec Ideal S1x256x128 .bf16) (x l : Fin 128) (hL : ¬ l.val < 64 → ∀ r, L (ix3 0 r l) = (0 : EReal)) (hN : l.val < 64 → ∀ r, N (ix3 0 r l) = (0 : EReal)) :
    att0 s00 s01 s10 s11 k00 k01 k10 k11 L N (ix2 x l) = if l.val < 64 then pick s00 k00 (fun r => L (ix3 0 r l)) x else pick s01 k01 (fun r => N (ix3 0 r l)) x := by
  refine Eq.trans ?_ (row_of _ _ (attP s00 s01 s10 s11 k00 k01 k10 k11) L N ⟨x.val, by omega⟩ s00 s01 k00 k01 x l ones_at ones'_at (attP_at0 s00 s01 s10 s11 k00 k01 k10 k11 x) hL hN _ (den_at s00 s01 k00 k01 x l))
  unfold att0
  generalize attP s00 s01 s10 s11 k00 k01 k10 k11 = P
  generalize k0_pay172 k0_pay3 (k0_pay167 s00 k00) s01 k01 = d
  generalize k0_pay61 (F := Ideal) k0_pay3 k0_pay59 k0_pay60 = O
  generalize k0_pay62 (F := Ideal) k0_pay3 = O'
  pointwise [k0_pay210, k0_pay208, k0_pay209, k0_pay207]

theorem att1_at (s00 s01 s10 s11 : Vec Ideal S1x128x128 .f32) (k00 k01 k10 k11 : Elt Ideal .f32) (L N : Vec Ideal S1x256x128 .bf16) (x l : Fin 128) (hL : ¬ l.val < 64 → ∀ r, L (ix3 0 r l) = (0 : EReal)) (hN : l.val < 64 → ∀ r, N (ix3 0 r l) = (0 : EReal)) :
    att1 s00 s01 s10 s11 k00 k01 k10 k11 L N (ix2 x l) = if l.val < 64 then pick s10 k10 (fun r => L (ix3 0 r l)) x else pick s11 k11 (fun r => N (ix3 0 r l)) x := by
  refine Eq.trans ?_ (row_of _ _ (attP s00 s01 s10 s11 k00 k01 k10 k11) L N ⟨128 + x.val, by omega⟩ s10 s11 k10 k11 x l ones_at ones'_at (attP_at1 s00 s01 s10 s11 k00 k01 k10 k11 x) hL hN _ (den1_at s10 s11 k10 k11 x l))
  unfold att1 attAll
  generalize attP s00 s01 s10 s11 k00 k01 k10 k11 = P
  generalize k0_pay183 k0_pay3 (k0_pay179 s10 k10) s11 k11 = d
  generalize k0_pay61 (F := Ideal) k0_pay3 k0_pay59 k0_pay60 = O
  generalize k0_pay62 (F := Ideal) k0_pay3 = O'
  pointwise [k0_pay211]

/-- The average as the step computes it: with powers of two in the place of powers of e. -/
def avg2 {n : ℕ} (s : Fin n → EReal) (sink : EReal) (v : Fin n → EReal) : EReal :=
  Ideal.div (∑ c, Ideal.exp2 (s c * rate - top (fun c => s c * rate) (sink * rate)) * v c)
    (∑ c, Ideal.exp2 (s c * rate - top (fun c => s c * rate) (sink * rate)) + Ideal.exp2 (sink * rate - top (fun c => s c * rate) (sink * rate)))

/-- The attention's row as the step computes it, -/
def att2 (D : Data) (b p n : ℕ) : EReal :=
  avg2 (fun c : Fin 128 => score D b p (n / 64) c) (D.sink (n / 64)) (fun c => v D b (key p c) (64 * (n / 64 / 4) + n % 64))

/-- which is the layer's where no score is the infinity above and the sink is a number. -/
theorem att2_eq (D : Data) (b p n : ℕ) (low : ∀ c : Fin 128, Low (score D b p (n / 64) c.val)) (hk : Attn.Num (D.sink (n / 64))) :
    att2 D b p n = att D b p n := avg_scaled low hk _

/-- What a block gives is that row. -/
theorem pick_att (D : Data) (b p n : ℕ) (s : Vec Ideal S1x128x128 .f32) (x : Fin 128) (V : Fin 256 → EReal)
    (hs : ∀ c : Fin 128, s (ix3 0 x c) = score D b p (n / 64) c.val * rate)
    (hV : ∀ c : Fin 128, ¬ Dead p c.val → (if x.val < c.val then V ⟨c.val, by omega⟩ else V ⟨128 + c.val, by omega⟩) = v D b (key p c.val) (64 * (n / 64 / 4) + n % 64)) :
    pick s (D.sink (n / 64)) V x = att2 D b p n := by
  unfold att2 avg2 pick Wt M
  simp only [hs]
  congr 1
  refine Finset.sum_congr rfl fun c _ => ?_
  by_cases hd : Dead p c.val
  · have hz : Ideal.exp2 (score D b p (n / 64) c.val * rate - top (fun c : Fin 128 => score D b p (n / 64) c.val * rate) (D.sink (n / 64) * rate)) = 0 := by
      rw [score_dead D b p _ _ hd, EReal.bot_sub]
      rfl
    rw [hz, zero_mul, zero_mul]
  · rw [hV c hd]

end Cert.Mixer

end
-- ==== Proof.Mixer.AttUnit.lean ====
/-
  A block of the attention's rows is the layer's, from scores and values read back; and the readings of the scores.
-/
module

public import proofs.«01_k».proof.Proof.Mixer.Score
public import proofs.«01_k».proof.Proof.Mixer.AttRow

@[expose] public section

set_option maxRecDepth 16384

noncomputable section

namespace Cert.Mixer

open Cert.Kernel3Ideal Cert.Kernel3Ideal.Gen
open Idealize.ShloMosaic Idealize.ShloMosaic.TcCoe Idealize.SL.Sem

theorem mem_unit {S : Shape} {o sz : Fin S.rank → ℕ} {inb} (j : (Rect.unit o sz inb : Rect S).toLoadRect.shape.Idx) :
    (Rect.unit o sz inb : Rect S).toLoadRect.idx j ∈ (Rect.unit o sz inb : Rect S).set :=
  (Rect.mem_set_unit (inb := inb)).2 fun a => ⟨Nat.le_add_right _ _, by
    have h : (j a).val < sz a := (j a).isLt
    show o a + 1 * (j a).val < o a + sz a
    omega⟩

theorem unit0 {D : Data} {b T : ℕ} (j kh : ℕ) (s00 s01 s10 s11 : Vec Ideal S1x128x128 .f32) (k00 k01 k10 k11 : Elt Ideal .f32) (L N : Vec Ideal S1x256x128 .bf16)
    (h0 : ∀ x c : Fin 128, s00 (ix3 0 x c) = score D b (512 * T + 128 * j + x.val) (4 * kh + 2 * 0 + 0) c.val * rate)
    (h1 : ∀ x c : Fin 128, s01 (ix3 0 x c) = score D b (512 * T + 128 * j + x.val) (4 * kh + 2 * 0 + 1) c.val * rate)
    (e0 : k00 = D.sink (4 * kh + 2 * 0 + 0)) (e1 : k01 = D.sink (4 * kh + 2 * 0 + 1))
    (hL : ∀ (r : Fin 256) (d : Fin 128), L (ix3 0 r d) = half0 (fun d => VX D b (512 * T + 128 * j + r.val) (64 * kh + d)) d.val)
    (hN : ∀ (r : Fin 256) (d : Fin 128), N (ix3 0 r d) = half1 (fun d => VX D b (512 * T + 128 * j + r.val) (64 * kh + d)) d.val) (x l : Fin 128) :
    att0 s00 s01 s10 s11 k00 k01 k10 k11 L N (ix2 x l) = att2 D b (512 * T + 128 * j + x.val) (128 * (2 * kh + 0) + l.val) := by
  have hl := l.isLt
  have hx := x.isLt
  rw [att0_at s00 s01 s10 s11 k00 k01 k10 k11 L N x l (fun h r => (hL r l).trans (if_neg h)) (fun h r => (hN r l).trans (if_pos h))]
  have hv : ∀ c : Fin 128, ¬ Dead (512 * T + 128 * j + x.val) c.val → VX D b (512 * T + 128 * j + (if x.val < c.val then c.val else 128 + c.val)) (64 * kh + l.val % 64)
      = v D b (key (512 * T + 128 * j + x.val) c.val) (64 * kh + l.val % 64) := fun c live => by
    have hc := c.isLt
    by_cases hp : x.val < c.val
    · have hP : Prev (512 * T + 128 * j + x.val) c.val := by unfold Prev; omega
      have hl : ¬ (512 * T + 128 * j + x.val < 128) := fun h => live ⟨hP, h⟩
      unfold VX key
      rw [if_pos hp, if_pos hP, if_neg (by omega)]
      congr 1; omega
    · have hP : ¬ Prev (512 * T + 128 * j + x.val) c.val := by unfold Prev; omega
      unfold VX key
      rw [if_neg hp, if_neg hP, if_neg (by omega)]
      congr 1; omega
  have hn4 : (128 * (2 * kh + 0) + l.val) / 64 / 4 = kh := by omega
  have hn6 : (128 * (2 * kh + 0) + l.val) % 64 = l.val % 64 := by omega
  by_cases h : l.val < 64
  · rw [if_pos h]
    have hn : (128 * (2 * kh + 0) + l.val) / 64 = 4 * kh + 2 * 0 + 0 := by omega
    rw [e0, ← hn]
    refine pick_att D b _ _ _ x _ (fun c => by rw [h0, hn]) (fun c live => ?_)
    rw [hn4, hn6, ← hv c live]
    have hm : l.val % 64 = l.val := Nat.mod_eq_of_lt h
    rw [hm]
    by_cases hp : x.val < c.val
    · rw [if_pos hp, if_pos hp]; exact (hL _ l).trans (if_pos h)
    · rw [if_neg hp, if_neg hp]; exact (hL _ l).trans (if_pos h)
  · rw [if_neg h]
    have hn : (128 * (2 * kh + 0) + l.val) / 64 = 4 * kh + 2 * 0 + 1 := by omega
    rw [e1, ← hn]
    refine pick_att D b _ _ _ x _ (fun c => by rw [h1, hn]) (fun c live => ?_)
    rw [hn4, hn6, ← hv c live]
    have hm : l.val % 64 = l.val - 64 := by omega
    rw [hm]
    by_cases hp : x.val < c.val
    · rw [if_pos hp, if_pos hp]; exact (hN _ l).trans (if_neg h)
    · rw [if_neg hp, if_neg hp]; exact (hN _ l).trans (if_neg h)

theorem unit1 {D : Data} {b T : ℕ} (j kh : ℕ) (s00 s01 s10 s11 : Vec Ideal S1x128x128 .f32) (k00 k01 k10 k11 : Elt Ideal .f32) (L N : Vec Ideal S1x256x128 .bf16)
    (h0 : ∀ x c : Fin 128, s10 (ix3 0 x c) = score D b (512 * T + 128 * j + x.val) (4 * kh + 2 * 1 + 0) c.val * rate)
    (h1 : ∀ x c : Fin 128, s11 (ix3 0 x c) = score D b (512 * T + 128 * j + x.val) (4 * kh + 2 * 1 + 1) c.val * rate)
    (e0 : k10 = D.sink (4 * kh + 2 * 1 + 0)) (e1 : k11 = D.sink (4 * kh + 2 * 1 + 1))
    (hL : ∀ (r : Fin 256) (d : Fin 128), L (ix3 0 r d) = half0 (fun d => VX D b (512 * T + 128 * j + r.val) (64 * kh + d)) d.val)
    (hN : ∀ (r : Fin 256) (d : Fin 128), N (ix3 0 r d) = half1 (fun d => VX D b (512 * T + 128 * j + r.val) (64 * kh + d)) d.val) (x l : Fin 128) :
    att1 s00 s01 s10 s11 k00 k01 k10 k11 L N (ix2 x l) = att2 D b (512 * T + 128 * j + x.val) (128 * (2 * kh + 1) + l.val) := by
  have hl := l.isLt
  have hx := x.isLt
  rw [att1_at s00 s01 s10 s11 k00 k01 k10 k11 L N x l (fun h r => (hL r l).trans (if_neg h)) (fun h r => (hN r l).trans (if_pos h))]
  have hv : ∀ c : Fin 128, ¬ Dead (512 * T + 128 * j + x.val) c.val → VX D b (512 * T + 128 * j + (if x.val < c.val then c.val else 128 + c.val)) (64 * kh + l.val % 64)
      = v D b (key (512 * T + 128 * j + x.val) c.val) (64 * kh + l.val % 64) := fun c live => by
    have hc := c.isLt
    by_cases hp : x.val < c.val
    · have hP : Prev (512 * T + 128 * j + x.val) c.val := by unfold Prev; omega
      have hl : ¬ (512 * T + 128 * j + x.val < 128) := fun h => live ⟨hP, h⟩
      unfold VX key
      rw [if_pos hp, if_pos hP, if_neg (by omega)]
      congr 1; omega
    · have hP : ¬ Prev (512 * T + 128 * j + x.val) c.val := by unfold Prev; omega
      unfold VX key
      rw [if_neg hp, if_neg hP, if_neg (by omega)]
      congr 1; omega
  have hn4 : (128 * (2 * kh + 1) + l.val) / 64 / 4 = kh := by omega
  have hn6 : (128 * (2 * kh + 1) + l.val) % 64 = l.val % 64 := by omega
  by_cases h : l.val < 64
  · rw [if_pos h]
    have hn : (128 * (2 * kh + 1) + l.val) / 64 = 4 * kh + 2 * 1 + 0 := by omega
    rw [e0, ← hn]
    refine pick_att D b _ _ _ x _ (fun c => by rw [h0, hn]) (fun c live => ?_)
    rw [hn4, hn6, ← hv c live]
    have hm : l.val % 64 = l.val := Nat.mod_eq_of_lt h
    rw [hm]
    by_cases hp : x.val < c.val
    · rw [if_pos hp, if_pos hp]; exact (hL _ l).trans (if_pos h)
    · rw [if_neg hp, if_neg hp]; exact (hL _ l).trans (if_pos h)
  · rw [if_neg h]
    have hn : (128 * (2 * kh + 1) + l.val) / 64 = 4 * kh + 2 * 1 + 1 := by omega
    rw [e1, ← hn]
    refine pick_att D b _ _ _ x _ (fun c => by rw [h1, hn]) (fun c live => ?_)
    rw [hn4, hn6, ← hv c live]
    have hm : l.val % 64 = l.val - 64 := by omega
    rw [hm]
    by_cases hp : x.val < c.val
    · rw [if_pos hp, if_pos hp]; exact (hN _ l).trans (if_neg h)
    · rw [if_neg hp, if_neg hp]; exact (hN _ l).trans (if_neg h)

theorem half_read2 (D : Data) (b T kh o : ℕ) (y : S4x640x128.Idx) (r : Fin 256) (d : Fin 128) (h0 : (y 0).val = kh + 1 * 0) (h1 : (y 1).val = o + 1 * r.val) (h2 : (y 2).val = 0 + 1 * d.val) :
    G2 D b T y = half0 (fun d => VX D b (512 * T + o + r.val) (64 * kh + d)) d.val := by
  unfold G2 half0
  rw [h0, h1, h2]
  simp only [mul_zero, add_zero, zero_add, one_mul, Nat.add_assoc]

theorem half_read3 (D : Data) (b T kh o : ℕ) (y : S4x640x128.Idx) (r : Fin 256) (d : Fin 128) (h0 : (y 0).val = kh + 1 * 0) (h1 : (y 1).val = o + 1 * r.val) (h2 : (y 2).val = 0 + 1 * d.val) :
    G3 D b T y = half1 (fun d => VX D b (512 * T + o + r.val) (64 * kh + d)) d.val := by
  unfold G3 half1
  rw [h0, h1, h2]
  simp only [mul_zero, add_zero, zero_add, one_mul, Nat.add_assoc]

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

theorem sink_read (H : Inputs D b T x0 x1 x2 x3 x4 x5 x6 x7 x8 x9 x10) (h : ℕ) (inb) (y) :
    arg2.view.readAt (Elt Ideal) (Rect.unit ![h] S1.size inb : Rect S16).toLoadRect (harg2.unread x0) y = D.sink h := by
  rw [load_at, H.h0]
  show D.sink (h + 1 * (y 0).val) = _
  have : (y 0).val < 1 := (y 0).isLt
  congr 1; omega

theorem len8 : (run.sl.HS8_64 (F := Ideal) c i arg3 harg3 arg4 harg4 arg5 harg5 arg6 harg6 arg7 harg7 arg31 harg31 arg32 harg32 arg38 x1 x2 x3 x4 x5 xs0 xs1).length = 64 := rfl

theorem cover8 (n : ℕ) (h : n < 64) (R : Rect S16x256x256) (e : ((run.sl.HS8_64 (F := Ideal) c i arg3 harg3 arg4 harg4 arg5 harg5 arg6 harg6 arg7 harg7 arg31 harg31 arg32 harg32 arg38 x1 x2 x3 x4 x5 xs0 xs1)[n]'(len8.symm ▸ h)).1 = R) (j : R.toLoadRect.shape.Idx) (hj : R.toLoadRect.idx j ∈ R.set) :
    ∃ p ∈ (run.sl.HS8_64 (F := Ideal) c i arg3 harg3 arg4 harg4 arg5 harg5 arg6 harg6 arg7 harg7 arg31 harg31 arg32 harg32 arg38 x1 x2 x3 x4 x5 xs0 xs1), R.toLoadRect.idx j ∈ p.1.set := ⟨_, List.getElem_mem (len8.symm ▸ h), e.symm ▸ hj⟩

theorem r15_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 128, 128] S1x128x128.size inb_S16x256x256_S1x128x128_15_128_128 : Rect S16x256x256).toLoadRect (ix3 0 x c') = score D b (512 * T + 128 * 3 + x.val) (4 * 3 + 2 * 1 + 1) c'.val * rate :=
  ((list8 H S hi).readCov arg39.view (Rect.unit ![15, 128, 128] S1x128x128.size inb_S16x256x256_S1x128x128_15_128_128 : Rect S16x256x256).toLoadRect (ix3 0 x c') (cover8 0 (by decide) (Rect.unit ![15, 128, 128] S1x128x128.size inb_S16x256x256_S1x128x128_15_128_128 : Rect S16x256x256) rfl _ (mem_unit (inb := inb_S16x256x256_S1x128x128_15_128_128) _))).trans (G8_emb D b T 15 1 1 _ inb_S16x256x256_S1x128x128_15_128_128 rfl rfl rfl x c')

theorem r15_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 128, 0] S1x128x128.size inb_S16x256x256_S1x128x128_15_128_0 : Rect S16x256x256).toLoadRect (ix3 0 x c') = score D b (512 * T + 128 * 3 + x.val) (4 * 3 + 2 * 1 + 0) c'.val * rate :=
  ((list8 H S hi).readCov arg39.view (Rect.unit ![15, 128, 0] S1x128x128.size inb_S16x256x256_S1x128x128_15_128_0 : Rect S16x256x256).toLoadRect (ix3 0 x c') (cover8 1 (by decide) (Rect.unit ![15, 128, 0] S1x128x128.size inb_S16x256x256_S1x128x128_15_128_0 : Rect S16x256x256) rfl _ (mem_unit (inb := inb_S16x256x256_S1x128x128_15_128_0) _))).trans (G8_emb D b T 15 1 0 _ inb_S16x256x256_S1x128x128_15_128_0 rfl rfl rfl x c')

theorem r15_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 0, 128] S1x128x128.size inb_S16x256x256_S1x128x128_15_0_128 : Rect S16x256x256).toLoadRect (ix3 0 x c') = score D b (512 * T + 128 * 3 + x.val) (4 * 3 + 2 * 0 + 1) c'.val * rate :=
  ((list8 H S hi).readCov arg39.view (Rect.unit ![15, 0, 128] S1x128x128.size inb_S16x256x256_S1x128x128_15_0_128 : Rect S16x256x256).toLoadRect (ix3 0 x c') (cover8 2 (by decide) (Rect.unit ![15, 0, 128] S1x128x128.size inb_S16x256x256_S1x128x128_15_0_128 : Rect S16x256x256) rfl _ (mem_unit (inb := inb_S16x256x256_S1x128x128_15_0_128) _))).trans (G8_emb D b T 15 0 1 _ inb_S16x256x256_S1x128x128_15_0_128 rfl rfl rfl x c')

theorem r15_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 0, 0] S1x128x128.size inb_S16x256x256_S1x128x128_15_0_0 : Rect S16x256x256).toLoadRect (ix3 0 x c') = score D b (512 * T + 128 * 3 + x.val) (4 * 3 + 2 * 0 + 0) c'.val * rate :=
  ((list8 H S hi).readCov arg39.view (Rect.unit ![15, 0, 0] S1x128x128.size inb_S16x256x256_S1x128x128_15_0_0 : Rect S16x256x256).toLoadRect (ix3 0 x c') (cover8 3 (by decide) (Rect.unit ![15, 0, 0] S1x128x128.size inb_S16x256x256_S1x128x128_15_0_0 : Rect S16x256x256) rfl _ (mem_unit (inb := inb_S16x256x256_S1x128x128_15_0_0) _))).trans (G8_emb D b T 15 0 0 _ inb_S16x256x256_S1x128x128_15_0_0 rfl rfl rfl x c')

theorem r14_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 128, 128] S1x128x128.size inb_S16x256x256_S1x128x128_14_128_128 : Rect S16x256x256).toLoadRect (ix3 0 x c') = score D b (512 * T + 128 * 3 + x.val) (4 * 2 + 2 * 1 + 1) c'.val * rate :=
  ((list8 H S hi).readCov arg39.view (Rect.unit ![14, 128, 128] S1x128x128.size inb_S16x256x256_S1x128x128_14_128_128 : Rect S16x256x256).toLoadRect (ix3 0 x c') (cover8 4 (by decide) (Rect.unit ![14, 128, 128] S1x128x128.size inb_S16x256x256_S1x128x128_14_128_128 : Rect S16x256x256) rfl _ (mem_unit (inb := inb_S16x256x256_S1x128x128_14_128_128) _))).trans (G8_emb D b T 14 1 1 _ inb_S16x256x256_S1x128x128_14_128_128 rfl rfl rfl x c')

theorem r14_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 128, 0] S1x128x128.size inb_S16x256x256_S1x128x128_14_128_0 : Rect S16x256x256).toLoadRect (ix3 0 x c') = score D b (512 * T + 128 * 3 + x.val) (4 * 2 + 2 * 1 + 0) c'.val * rate :=
  ((list8 H S hi).readCov arg39.view (Rect.unit ![14, 128, 0] S1x128x128.size inb_S16x256x256_S1x128x128_14_128_0 : Rect S16x256x256).toLoadRect (ix3 0 x c') (cover8 5 (by decide) (Rect.unit ![14, 128, 0] S1x128x128.size inb_S16x256x256_S1x128x128_14_128_0 : Rect S16x256x256) rfl _ (mem_unit (inb := inb_S16x256x256_S1x128x128_14_128_0) _))).trans (G8_emb D b T 14 1 0 _ inb_S16x256x256_S1x128x128_14_128_0 rfl rfl rfl x c')

theorem r14_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 0, 128] S1x128x128.size inb_S16x256x256_S1x128x128_14_0_128 : Rect S16x256x256).toLoadRect (ix3 0 x c') = score D b (512 * T + 128 * 3 + x.val) (4 * 2 + 2 * 0 + 1) c'.val * rate :=
  ((list8 H S hi).readCov arg39.view (Rect.unit ![14, 0, 128] S1x128x128.size inb_S16x256x256_S1x128x128_14_0_128 : Rect S16x256x256).toLoadRect (ix3 0 x c') (cover8 6 (by decide) (Rect.unit ![14, 0, 128] S1x128x128.size inb_S16x256x256_S1x128x128_14_0_128 : Rect S16x256x256) rfl _ (mem_unit (inb := inb_S16x256x256_S1x128x128_14_0_128) _))).trans (G8_emb D b T 14 0 1 _ inb_S16x256x256_S1x128x128_14_0_128 rfl rfl rfl x c')

theorem r14_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 0, 0] S1x128x128.size inb_S16x256x256_S1x128x128_14_0_0 : Rect S16x256x256).toLoadRect (ix3 0 x c') = score D b (512 * T + 128 * 3 + x.val) (4 * 2 + 2 * 0 + 0) c'.val * rate :=
  ((list8 H S hi).readCov arg39.view (Rect.unit ![14, 0, 0] S1x128x128.size inb_S16x256x256_S1x128x128_14_0_0 : Rect S16x256x256).toLoadRect (ix3 0 x c') (cover8 7 (by decide) (Rect.unit ![14, 0, 0] S1x128x128.size inb_S16x256x256_S1x128x128_14_0_0 : Rect S16x256x256) rfl _ (mem_unit (inb := inb_S16x256x256_S1x128x128_14_0_0) _))).trans (G8_emb D b T 14 0 0 _ inb_S16x256x256_S1x128x128_14_0_0 rfl rfl rfl x c')

theorem r13_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 128, 128] S1x128x128.size inb_S16x256x256_S1x128x128_13_128_128 : Rect S16x256x256).toLoadRect (ix3 0 x c') = score D b (512 * T + 128 * 3 + x.val) (4 * 1 + 2 * 1 + 1) c'.val * rate :=
  ((list8 H S hi).readCov arg39.view (Rect.unit ![13, 128, 128] S1x128x128.size inb_S16x256x256_S1x128x128_13_128_128 : Rect S16x256x256).toLoadRect (ix3 0 x c') (cover8 8 (by decide) (Rect.unit ![13, 128, 128] S1x128x128.size inb_S16x256x256_S1x128x128_13_128_128 : Rect S16x256x256) rfl _ (mem_unit (inb := inb_S16x256x256_S1x128x128_13_128_128) _))).trans (G8_emb D b T 13 1 1 _ inb_S16x256x256_S1x128x128_13_128_128 rfl rfl rfl x c')

theorem r13_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 128, 0] S1x128x128.size inb_S16x256x256_S1x128x128_13_128_0 : Rect S16x256x256).toLoadRect (ix3 0 x c') = score D b (512 * T + 128 * 3 + x.val) (4 * 1 + 2 * 1 + 0) c'.val * rate :=
  ((list8 H S hi).readCov arg39.view (Rect.unit ![13, 128, 0] S1x128x128.size inb_S16x256x256_S1x128x128_13_128_0 : Rect S16x256x256).toLoadRect (ix3 0 x c') (cover8 9 (by decide) (Rect.unit ![13, 128, 0] S1x128x128.size inb_S16x256x256_S1x128x128_13_128_0 : Rect S16x256x256) rfl _ (mem_unit (inb := inb_S16x256x256_S1x128x128_13_128_0) _))).trans (G8_emb D b T 13 1 0 _ inb_S16x256x256_S1x128x128_13_128_0 rfl rfl rfl x c')

theorem r13_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 0, 128] S1x128x128.size inb_S16x256x256_S1x128x128_13_0_128 : Rect S16x256x256).toLoadRect (ix3 0 x c') = score D b (512 * T + 128 * 3 + x.val) (4 * 1 + 2 * 0 + 1) c'.val * rate :=
  ((list8 H S hi).readCov arg39.view (Rect.unit ![13, 0, 128] S1x128x128.size inb_S16x256x256_S1x128x128_13_0_128 : Rect S16x256x256).toLoadRect (ix3 0 x c') (cover8 10 (by decide) (Rect.unit ![13, 0, 128] S1x128x128.size inb_S16x256x256_S1x128x128_13_0_128 : Rect S16x256x256) rfl _ (mem_unit (inb := inb_S16x256x256_S1x128x128_13_0_128) _))).trans (G8_emb D b T 13 0 1 _ inb_S16x256x256_S1x128x128_13_0_128 rfl rfl rfl x c')

theorem r13_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 0, 0] S1x128x128.size inb_S16x256x256_S1x128x128_13_0_0 : Rect S16x256x256).toLoadRect (ix3 0 x c') = score D b (512 * T + 128 * 3 + x.val) (4 * 1 + 2 * 0 + 0) c'.val * rate :=
  ((list8 H S hi).readCov arg39.view (Rect.unit ![13, 0, 0] S1x128x128.size inb_S16x256x256_S1x128x128_13_0_0 : Rect S16x256x256).toLoadRect (ix3 0 x c') (cover8 11 (by decide) (Rect.unit ![13, 0, 0] S1x128x128.size inb_S16x256x256_S1x128x128_13_0_0 : Rect S16x256x256) rfl _ (mem_unit (inb := inb_S16x256x256_S1x128x128_13_0_0) _))).trans (G8_emb D b T 13 0 0 _ inb_S16x256x256_S1x128x128_13_0_0 rfl rfl rfl x c')

theorem r12_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 128, 128] S1x128x128.size inb_S16x256x256_S1x128x128_12_128_128 : Rect S16x256x256).toLoadRect (ix3 0 x c') = score D b (512 * T + 128 * 3 + x.val) (4 * 0 + 2 * 1 + 1) c'.val * rate :=
  ((list8 H S hi).readCov arg39.view (Rect.unit ![12, 128, 128] S1x128x128.size inb_S16x256x256_S1x128x128_12_128_128 : Rect S16x256x256).toLoadRect (ix3 0 x c') (cover8 12 (by decide) (Rect.unit ![12, 128, 128] S1x128x128.size inb_S16x256x256_S1x128x128_12_128_128 : Rect S16x256x256) rfl _ (mem_unit (inb := inb_S16x256x256_S1x128x128_12_128_128) _))).trans (G8_emb D b T 12 1 1 _ inb_S16x256x256_S1x128x128_12_128_128 rfl rfl rfl x c')

theorem r12_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 128, 0] S1x128x128.size inb_S16x256x256_S1x128x128_12_128_0 : Rect S16x256x256).toLoadRect (ix3 0 x c') = score D b (512 * T + 128 * 3 + x.val) (4 * 0 + 2 * 1 + 0) c'.val * rate :=
  ((list8 H S hi).readCov arg39.view (Rect.unit ![12, 128, 0] S1x128x128.size inb_S16x256x256_S1x128x128_12_128_0 : Rect S16x256x256).toLoadRect (ix3 0 x c') (cover8 13 (by decide) (Rect.unit ![12, 128, 0] S1x128x128.size inb_S16x256x256_S1x128x128_12_128_0 : Rect S16x256x256) rfl _ (mem_unit (inb := inb_S16x256x256_S1x128x128_12_128_0) _))).trans (G8_emb D b T 12 1 0 _ inb_S16x256x256_S1x128x128_12_128_0 rfl rfl rfl x c')

theorem r12_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 0, 128] S1x128x128.size inb_S16x256x256_S1x128x128_12_0_128 : Rect S16x256x256).toLoadRect (ix3 0 x c') = score D b (512 * T + 128 * 3 + x.val) (4 * 0 + 2 * 0 + 1) c'.val * rate :=
  ((list8 H S hi).readCov arg39.view (Rect.unit ![12, 0, 128] S1x128x128.size inb_S16x256x256_S1x128x128_12_0_128 : Rect S16x256x256).toLoadRect (ix3 0 x c') (cover8 14 (by decide) (Rect.unit ![12, 0, 128] S1x128x128.size inb_S16x256x256_S1x128x128_12_0_128 : Rect S16x256x256) rfl _ (mem_unit (inb := inb_S16x256x256_S1x128x128_12_0_128) _))).trans (G8_emb D b T 12 0 1 _ inb_S16x256x256_S1x128x128_12_0_128 rfl rfl rfl x c')

theorem r12_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 0, 0] S1x128x128.size inb_S16x256x256_S1x128x128_12_0_0 : Rect S16x256x256).toLoadRect (ix3 0 x c') = score D b (512 * T + 128 * 3 + x.val) (4 * 0 + 2 * 0 + 0) c'.val * rate :=
  ((list8 H S hi).readCov arg39.view (Rect.unit ![12, 0, 0] S1x128x128.size inb_S16x256x256_S1x128x128_12_0_0 : Rect S16x256x256).toLoadRect (ix3 0 x c') (cover8 15 (by decide) (Rect.unit ![12, 0, 0] S1x128x128.size inb_S16x256x256_S1x128x128_12_0_0 : Rect S16x256x256) rfl _ (mem_unit (inb := inb_S16x256x256_S1x128x128_12_0_0) _))).trans (G8_emb D b T 12 0 0 _ inb_S16x256x256_S1x128x128_12_0_0 rfl rfl rfl x c')

theorem r11_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 128, 128] S1x128x128.size inb_S16x256x256_S1x128x128_11_128_128 : Rect S16x256x256).toLoadRect (ix3 0 x c') = score D b (512 * T + 128 * 2 + x.val) (4 * 3 + 2 * 1 + 1) c'.val * rate :=
  ((list8 H S hi).readCov arg39.view (Rect.unit ![11, 128, 128] S1x128x128.size inb_S16x256x256_S1x128x128_11_128_128 : Rect S16x256x256).toLoadRect (ix3 0 x c') (cover8 16 (by decide) (Rect.unit ![11, 128, 128] S1x128x128.size inb_S16x256x256_S1x128x128_11_128_128 : Rect S16x256x256) rfl _ (mem_unit (inb := inb_S16x256x256_S1x128x128_11_128_128) _))).trans (G8_emb D b T 11 1 1 _ inb_S16x256x256_S1x128x128_11_128_128 rfl rfl rfl x c')

theorem r11_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 128, 0] S1x128x128.size inb_S16x256x256_S1x128x128_11_128_0 : Rect S16x256x256).toLoadRect (ix3 0 x c') = score D b (512 * T + 128 * 2 + x.val) (4 * 3 + 2 * 1 + 0) c'.val * rate :=
  ((list8 H S hi).readCov arg39.view (Rect.unit ![11, 128, 0] S1x128x128.size inb_S16x256x256_S1x128x128_11_128_0 : Rect S16x256x256).toLoadRect (ix3 0 x c') (cover8 17 (by decide) (Rect.unit ![11, 128, 0] S1x128x128.size inb_S16x256x256_S1x128x128_11_128_0 : Rect S16x256x256) rfl _ (mem_unit (inb := inb_S16x256x256_S1x128x128_11_128_0) _))).trans (G8_emb D b T 11 1 0 _ inb_S16x256x256_S1x128x128_11_128_0 rfl rfl rfl x c')

theorem r11_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 0, 128] S1x128x128.size inb_S16x256x256_S1x128x128_11_0_128 : Rect S16x256x256).toLoadRect (ix3 0 x c') = score D b (512 * T + 128 * 2 + x.val) (4 * 3 + 2 * 0 + 1) c'.val * rate :=
  ((list8 H S hi).readCov arg39.view (Rect.unit ![11, 0, 128] S1x128x128.size inb_S16x256x256_S1x128x128_11_0_128 : Rect S16x256x256).toLoadRect (ix3 0 x c') (cover8 18 (by decide) (Rect.unit ![11, 0, 128] S1x128x128.size inb_S16x256x256_S1x128x128_11_0_128 : Rect S16x256x256) rfl _ (mem_unit (inb := inb_S16x256x256_S1x128x128_11_0_128) _))).trans (G8_emb D b T 11 0 1 _ inb_S16x256x256_S1x128x128_11_0_128 rfl rfl rfl x c')

theorem r11_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 0, 0] S1x128x128.size inb_S16x256x256_S1x128x128_11_0_0 : Rect S16x256x256).toLoadRect (ix3 0 x c') = score D b (512 * T + 128 * 2 + x.val) (4 * 3 + 2 * 0 + 0) c'.val * rate :=
  ((list8 H S hi).readCov arg39.view (Rect.unit ![11, 0, 0] S1x128x128.size inb_S16x256x256_S1x128x128_11_0_0 : Rect S16x256x256).toLoadRect (ix3 0 x c') (cover8 19 (by decide) (Rect.unit ![11, 0, 0] S1x128x128.size inb_S16x256x256_S1x128x128_11_0_0 : Rect S16x256x256) rfl _ (mem_unit (inb := inb_S16x256x256_S1x128x128_11_0_0) _))).trans (G8_emb D b T 11 0 0 _ inb_S16x256x256_S1x128x128_11_0_0 rfl rfl rfl x c')

theorem r10_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 128, 128] S1x128x128.size inb_S16x256x256_S1x128x128_10_128_128 : Rect S16x256x256).toLoadRect (ix3 0 x c') = score D b (512 * T + 128 * 2 + x.val) (4 * 2 + 2 * 1 + 1) c'.val * rate :=
  ((list8 H S hi).readCov arg39.view (Rect.unit ![10, 128, 128] S1x128x128.size inb_S16x256x256_S1x128x128_10_128_128 : Rect S16x256x256).toLoadRect (ix3 0 x c') (cover8 20 (by decide) (Rect.unit ![10, 128, 128] S1x128x128.size inb_S16x256x256_S1x128x128_10_128_128 : Rect S16x256x256) rfl _ (mem_unit (inb := inb_S16x256x256_S1x128x128_10_128_128) _))).trans (G8_emb D b T 10 1 1 _ inb_S16x256x256_S1x128x128_10_128_128 rfl rfl rfl x c')

theorem r10_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 128, 0] S1x128x128.size inb_S16x256x256_S1x128x128_10_128_0 : Rect S16x256x256).toLoadRect (ix3 0 x c') = score D b (512 * T + 128 * 2 + x.val) (4 * 2 + 2 * 1 + 0) c'.val * rate :=
  ((list8 H S hi).readCov arg39.view (Rect.unit ![10, 128, 0] S1x128x128.size inb_S16x256x256_S1x128x128_10_128_0 : Rect S16x256x256).toLoadRect (ix3 0 x c') (cover8 21 (by decide) (Rect.unit ![10, 128, 0] S1x128x128.size inb_S16x256x256_S1x128x128_10_128_0 : Rect S16x256x256) rfl _ (mem_unit (inb := inb_S16x256x256_S1x128x128_10_128_0) _))).trans (G8_emb D b T 10 1 0 _ inb_S16x256x256_S1x128x128_10_128_0 rfl rfl rfl x c')

theorem r10_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 0, 128] S1x128x128.size inb_S16x256x256_S1x128x128_10_0_128 : Rect S16x256x256).toLoadRect (ix3 0 x c') = score D b (512 * T + 128 * 2 + x.val) (4 * 2 + 2 * 0 + 1) c'.val * rate :=
  ((list8 H S hi).readCov arg39.view (Rect.unit ![10, 0, 128] S1x128x128.size inb_S16x256x256_S1x128x128_10_0_128 : Rect S16x256x256).toLoadRect (ix3 0 x c') (cover8 22 (by decide) (Rect.unit ![10, 0, 128] S1x128x128.size inb_S16x256x256_S1x128x128_10_0_128 : Rect S16x256x256) rfl _ (mem_unit (inb := inb_S16x256x256_S1x128x128_10_0_128) _))).trans (G8_emb D b T 10 0 1 _ inb_S16x256x256_S1x128x128_10_0_128 rfl rfl rfl x c')

theorem r10_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 0, 0] S1x128x128.size inb_S16x256x256_S1x128x128_10_0_0 : Rect S16x256x256).toLoadRect (ix3 0 x c') = score D b (512 * T + 128 * 2 + x.val) (4 * 2 + 2 * 0 + 0) c'.val * rate :=
  ((list8 H S hi).readCov arg39.view (Rect.unit ![10, 0, 0] S1x128x128.size inb_S16x256x256_S1x128x128_10_0_0 : Rect S16x256x256).toLoadRect (ix3 0 x c') (cover8 23 (by decide) (Rect.unit ![10, 0, 0] S1x128x128.size inb_S16x256x256_S1x128x128_10_0_0 : Rect S16x256x256) rfl _ (mem_unit (inb := inb_S16x256x256_S1x128x128_10_0_0) _))).trans (G8_emb D b T 10 0 0 _ inb_S16x256x256_S1x128x128_10_0_0 rfl rfl rfl x c')

theorem r9_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 128, 128] S1x128x128.size inb_S16x256x256_S1x128x128_9_128_128 : Rect S16x256x256).toLoadRect (ix3 0 x c') = score D b (512 * T + 128 * 2 + x.val) (4 * 1 + 2 * 1 + 1) c'.val * rate :=
  ((list8 H S hi).readCov arg39.view (Rect.unit ![9, 128, 128] S1x128x128.size inb_S16x256x256_S1x128x128_9_128_128 : Rect S16x256x256).toLoadRect (ix3 0 x c') (cover8 24 (by decide) (Rect.unit ![9, 128, 128] S1x128x128.size inb_S16x256x256_S1x128x128_9_128_128 : Rect S16x256x256) rfl _ (mem_unit (inb := inb_S16x256x256_S1x128x128_9_128_128) _))).trans (G8_emb D b T 9 1 1 _ inb_S16x256x256_S1x128x128_9_128_128 rfl rfl rfl x c')

theorem r9_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 128, 0] S1x128x128.size inb_S16x256x256_S1x128x128_9_128_0 : Rect S16x256x256).toLoadRect (ix3 0 x c') = score D b (512 * T + 128 * 2 + x.val) (4 * 1 + 2 * 1 + 0) c'.val * rate :=
  ((list8 H S hi).readCov arg39.view (Rect.unit ![9, 128, 0] S1x128x128.size inb_S16x256x256_S1x128x128_9_128_0 : Rect S16x256x256).toLoadRect (ix3 0 x c') (cover8 25 (by decide) (Rect.unit ![9, 128, 0] S1x128x128.size inb_S16x256x256_S1x128x128_9_128_0 : Rect S16x256x256) rfl _ (mem_unit (inb := inb_S16x256x256_S1x128x128_9_128_0) _))).trans (G8_emb D b T 9 1 0 _ inb_S16x256x256_S1x128x128_9_128_0 rfl rfl rfl x c')

theorem r9_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 0, 128] S1x128x128.size inb_S16x256x256_S1x128x128_9_0_128 : Rect S16x256x256).toLoadRect (ix3 0 x c') = score D b (512 * T + 128 * 2 + x.val) (4 * 1 + 2 * 0 + 1) c'.val * rate :=
  ((list8 H S hi).readCov arg39.view (Rect.unit ![9, 0, 128] S1x128x128.size inb_S16x256x256_S1x128x128_9_0_128 : Rect S16x256x256).toLoadRect (ix3 0 x c') (cover8 26 (by decide) (Rect.unit ![9, 0, 128] S1x128x128.size inb_S16x256x256_S1x128x128_9_0_128 : Rect S16x256x256) rfl _ (mem_unit (inb := inb_S16x256x256_S1x128x128_9_0_128) _))).trans (G8_emb D b T 9 0 1 _ inb_S16x256x256_S1x128x128_9_0_128 rfl rfl rfl x c')

theorem r9_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 0, 0] S1x128x128.size inb_S16x256x256_S1x128x128_9_0_0 : Rect S16x256x256).toLoadRect (ix3 0 x c') = score D b (512 * T + 128 * 2 + x.val) (4 * 1 + 2 * 0 + 0) c'.val * rate :=
  ((list8 H S hi).readCov arg39.view (Rect.unit ![9, 0, 0] S1x128x128.size inb_S16x256x256_S1x128x128_9_0_0 : Rect S16x256x256).toLoadRect (ix3 0 x c') (cover8 27 (by decide) (Rect.unit ![9, 0, 0] S1x128x128.size inb_S16x256x256_S1x128x128_9_0_0 : Rect S16x256x256) rfl _ (mem_unit (inb := inb_S16x256x256_S1x128x128_9_0_0) _))).trans (G8_emb D b T 9 0 0 _ inb_S16x256x256_S1x128x128_9_0_0 rfl rfl rfl x c')

theorem r8_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 128, 128] S1x128x128.size inb_S16x256x256_S1x128x128_8_128_128 : Rect S16x256x256).toLoadRect (ix3 0 x c') = score D b (512 * T + 128 * 2 + x.val) (4 * 0 + 2 * 1 + 1) c'.val * rate :=
  ((list8 H S hi).readCov arg39.view (Rect.unit ![8, 128, 128] S1x128x128.size inb_S16x256x256_S1x128x128_8_128_128 : Rect S16x256x256).toLoadRect (ix3 0 x c') (cover8 28 (by decide) (Rect.unit ![8, 128, 128] S1x128x128.size inb_S16x256x256_S1x128x128_8_128_128 : Rect S16x256x256) rfl _ (mem_unit (inb := inb_S16x256x256_S1x128x128_8_128_128) _))).trans (G8_emb D b T 8 1 1 _ inb_S16x256x256_S1x128x128_8_128_128 rfl rfl rfl x c')

theorem r8_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 128, 0] S1x128x128.size inb_S16x256x256_S1x128x128_8_128_0 : Rect S16x256x256).toLoadRect (ix3 0 x c') = score D b (512 * T + 128 * 2 + x.val) (4 * 0 + 2 * 1 + 0) c'.val * rate :=
  ((list8 H S hi).readCov arg39.view (Rect.unit ![8, 128, 0] S1x128x128.size inb_S16x256x256_S1x128x128_8_128_0 : Rect S16x256x256).toLoadRect (ix3 0 x c') (cover8 29 (by decide) (Rect.unit ![8, 128, 0] S1x128x128.size inb_S16x256x256_S1x128x128_8_128_0 : Rect S16x256x256) rfl _ (mem_unit (inb := inb_S16x256x256_S1x128x128_8_128_0) _))).trans (G8_emb D b T 8 1 0 _ inb_S16x256x256_S1x128x128_8_128_0 rfl rfl rfl x c')

theorem r8_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 0, 128] S1x128x128.size inb_S16x256x256_S1x128x128_8_0_128 : Rect S16x256x256).toLoadRect (ix3 0 x c') = score D b (512 * T + 128 * 2 + x.val) (4 * 0 + 2 * 0 + 1) c'.val * rate :=
  ((list8 H S hi).readCov arg39.view (Rect.unit ![8, 0, 128] S1x128x128.size inb_S16x256x256_S1x128x128_8_0_128 : Rect S16x256x256).toLoadRect (ix3 0 x c') (cover8 30 (by decide) (Rect.unit ![8, 0, 128] S1x128x128.size inb_S16x256x256_S1x128x128_8_0_128 : Rect S16x256x256) rfl _ (mem_unit (inb := inb_S16x256x256_S1x128x128_8_0_128) _))).trans (G8_emb D b T 8 0 1 _ inb_S16x256x256_S1x128x128_8_0_128 rfl rfl rfl x c')

theorem r8_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 0, 0] S1x128x128.size inb_S16x256x256_S1x128x128_8_0_0 : Rect S16x256x256).toLoadRect (ix3 0 x c') = score D b (512 * T + 128 * 2 + x.val) (4 * 0 + 2 * 0 + 0) c'.val * rate :=
  ((list8 H S hi).readCov arg39.view (Rect.unit ![8, 0, 0] S1x128x128.size inb_S16x256x256_S1x128x128_8_0_0 : Rect S16x256x256).toLoadRect (ix3 0 x c') (cover8 31 (by decide) (Rect.unit ![8, 0, 0] S1x128x128.size inb_S16x256x256_S1x128x128_8_0_0 : Rect S16x256x256) rfl _ (mem_unit (inb := inb_S16x256x256_S1x128x128_8_0_0) _))).trans (G8_emb D b T 8 0 0 _ inb_S16x256x256_S1x128x128_8_0_0 rfl rfl rfl x c')

theorem r7_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 128, 128] S1x128x128.size inb_S16x256x256_S1x128x128_7_128_128 : Rect S16x256x256).toLoadRect (ix3 0 x c') = score D b (512 * T + 128 * 1 + x.val) (4 * 3 + 2 * 1 + 1) c'.val * rate :=
  ((list8 H S hi).readCov arg39.view (Rect.unit ![7, 128, 128] S1x128x128.size inb_S16x256x256_S1x128x128_7_128_128 : Rect S16x256x256).toLoadRect (ix3 0 x c') (cover8 32 (by decide) (Rect.unit ![7, 128, 128] S1x128x128.size inb_S16x256x256_S1x128x128_7_128_128 : Rect S16x256x256) rfl _ (mem_unit (inb := inb_S16x256x256_S1x128x128_7_128_128) _))).trans (G8_emb D b T 7 1 1 _ inb_S16x256x256_S1x128x128_7_128_128 rfl rfl rfl x c')

theorem r7_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 128, 0] S1x128x128.size inb_S16x256x256_S1x128x128_7_128_0 : Rect S16x256x256).toLoadRect (ix3 0 x c') = score D b (512 * T + 128 * 1 + x.val) (4 * 3 + 2 * 1 + 0) c'.val * rate :=
  ((list8 H S hi).readCov arg39.view (Rect.unit ![7, 128, 0] S1x128x128.size inb_S16x256x256_S1x128x128_7_128_0 : Rect S16x256x256).toLoadRect (ix3 0 x c') (cover8 33 (by decide) (Rect.unit ![7, 128, 0] S1x128x128.size inb_S16x256x256_S1x128x128_7_128_0 : Rect S16x256x256) rfl _ (mem_unit (inb := inb_S16x256x256_S1x128x128_7_128_0) _))).trans (G8_emb D b T 7 1 0 _ inb_S16x256x256_S1x128x128_7_128_0 rfl rfl rfl x c')

theorem r7_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 0, 128] S1x128x128.size inb_S16x256x256_S1x128x128_7_0_128 : Rect S16x256x256).toLoadRect (ix3 0 x c') = score D b (512 * T + 128 * 1 + x.val) (4 * 3 + 2 * 0 + 1) c'.val * rate :=
  ((list8 H S hi).readCov arg39.view (Rect.unit ![7, 0, 128] S1x128x128.size inb_S16x256x256_S1x128x128_7_0_128 : Rect S16x256x256).toLoadRect (ix3 0 x c') (cover8 34 (by decide) (Rect.unit ![7, 0, 128] S1x128x128.size inb_S16x256x256_S1x128x128_7_0_128 : Rect S16x256x256) rfl _ (mem_unit (inb := inb_S16x256x256_S1x128x128_7_0_128) _))).trans (G8_emb D b T 7 0 1 _ inb_S16x256x256_S1x128x128_7_0_128 rfl rfl rfl x c')

theorem r7_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 0, 0] S1x128x128.size inb_S16x256x256_S1x128x128_7_0_0 : Rect S16x256x256).toLoadRect (ix3 0 x c') = score D b (512 * T + 128 * 1 + x.val) (4 * 3 + 2 * 0 + 0) c'.val * rate :=
  ((list8 H S hi).readCov arg39.view (Rect.unit ![7, 0, 0] S1x128x128.size inb_S16x256x256_S1x128x128_7_0_0 : Rect S16x256x256).toLoadRect (ix3 0 x c') (cover8 35 (by decide) (Rect.unit ![7, 0, 0] S1x128x128.size inb_S16x256x256_S1x128x128_7_0_0 : Rect S16x256x256) rfl _ (mem_unit (inb := inb_S16x256x256_S1x128x128_7_0_0) _))).trans (G8_emb D b T 7 0 0 _ inb_S16x256x256_S1x128x128_7_0_0 rfl rfl rfl x c')

theorem r6_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 128, 128] S1x128x128.size inb_S16x256x256_S1x128x128_6_128_128 : Rect S16x256x256).toLoadRect (ix3 0 x c') = score D b (512 * T + 128 * 1 + x.val) (4 * 2 + 2 * 1 + 1) c'.val * rate :=
  ((list8 H S hi).readCov arg39.view (Rect.unit ![6, 128, 128] S1x128x128.size inb_S16x256x256_S1x128x128_6_128_128 : Rect S16x256x256).toLoadRect (ix3 0 x c') (cover8 36 (by decide) (Rect.unit ![6, 128, 128] S1x128x128.size inb_S16x256x256_S1x128x128_6_128_128 : Rect S16x256x256) rfl _ (mem_unit (inb := inb_S16x256x256_S1x128x128_6_128_128) _))).trans (G8_emb D b T 6 1 1 _ inb_S16x256x256_S1x128x128_6_128_128 rfl rfl rfl x c')

theorem r6_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 128, 0] S1x128x128.size inb_S16x256x256_S1x128x128_6_128_0 : Rect S16x256x256).toLoadRect (ix3 0 x c') = score D b (512 * T + 128 * 1 + x.val) (4 * 2 + 2 * 1 + 0) c'.val * rate :=
  ((list8 H S hi).readCov arg39.view (Rect.unit ![6, 128, 0] S1x128x128.size inb_S16x256x256_S1x128x128_6_128_0 : Rect S16x256x256).toLoadRect (ix3 0 x c') (cover8 37 (by decide) (Rect.unit ![6, 128, 0] S1x128x128.size inb_S16x256x256_S1x128x128_6_128_0 : Rect S16x256x256) rfl _ (mem_unit (inb := inb_S16x256x256_S1x128x128_6_128_0) _))).trans (G8_emb D b T 6 1 0 _ inb_S16x256x256_S1x128x128_6_128_0 rfl rfl rfl x c')

theorem r6_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 0, 128] S1x128x128.size inb_S16x256x256_S1x128x128_6_0_128 : Rect S16x256x256).toLoadRect (ix3 0 x c') = score D b (512 * T + 128 * 1 + x.val) (4 * 2 + 2 * 0 + 1) c'.val * rate :=
  ((list8 H S hi).readCov arg39.view (Rect.unit ![6, 0, 128] S1x128x128.size inb_S16x256x256_S1x128x128_6_0_128 : Rect S16x256x256).toLoadRect (ix3 0 x c') (cover8 38 (by decide) (Rect.unit ![6, 0, 128] S1x128x128.size inb_S16x256x256_S1x128x128_6_0_128 : Rect S16x256x256) rfl _ (mem_unit (inb := inb_S16x256x256_S1x128x128_6_0_128) _))).trans (G8_emb D b T 6 0 1 _ inb_S16x256x256_S1x128x128_6_0_128 rfl rfl rfl x c')

theorem r6_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 0, 0] S1x128x128.size inb_S16x256x256_S1x128x128_6_0_0 : Rect S16x256x256).toLoadRect (ix3 0 x c') = score D b (512 * T + 128 * 1 + x.val) (4 * 2 + 2 * 0 + 0) c'.val * rate :=
  ((list8 H S hi).readCov arg39.view (Rect.unit ![6, 0, 0] S1x128x128.size inb_S16x256x256_S1x128x128_6_0_0 : Rect S16x256x256).toLoadRect (ix3 0 x c') (cover8 39 (by decide) (Rect.unit ![6, 0, 0] S1x128x128.size inb_S16x256x256_S1x128x128_6_0_0 : Rect S16x256x256) rfl _ (mem_unit (inb := inb_S16x256x256_S1x128x128_6_0_0) _))).trans (G8_emb D b T 6 0 0 _ inb_S16x256x256_S1x128x128_6_0_0 rfl rfl rfl x c')

theorem r5_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 128, 128] S1x128x128.size inb_S16x256x256_S1x128x128_5_128_128 : Rect S16x256x256).toLoadRect (ix3 0 x c') = score D b (512 * T + 128 * 1 + x.val) (4 * 1 + 2 * 1 + 1) c'.val * rate :=
  ((list8 H S hi).readCov arg39.view (Rect.unit ![5, 128, 128] S1x128x128.size inb_S16x256x256_S1x128x128_5_128_128 : Rect S16x256x256).toLoadRect (ix3 0 x c') (cover8 40 (by decide) (Rect.unit ![5, 128, 128] S1x128x128.size inb_S16x256x256_S1x128x128_5_128_128 : Rect S16x256x256) rfl _ (mem_unit (inb := inb_S16x256x256_S1x128x128_5_128_128) _))).trans (G8_emb D b T 5 1 1 _ inb_S16x256x256_S1x128x128_5_128_128 rfl rfl rfl x c')

theorem r5_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 128, 0] S1x128x128.size inb_S16x256x256_S1x128x128_5_128_0 : Rect S16x256x256).toLoadRect (ix3 0 x c') = score D b (512 * T + 128 * 1 + x.val) (4 * 1 + 2 * 1 + 0) c'.val * rate :=
  ((list8 H S hi).readCov arg39.view (Rect.unit ![5, 128, 0] S1x128x128.size inb_S16x256x256_S1x128x128_5_128_0 : Rect S16x256x256).toLoadRect (ix3 0 x c') (cover8 41 (by decide) (Rect.unit ![5, 128, 0] S1x128x128.size inb_S16x256x256_S1x128x128_5_128_0 : Rect S16x256x256) rfl _ (mem_unit (inb := inb_S16x256x256_S1x128x128_5_128_0) _))).trans (G8_emb D b T 5 1 0 _ inb_S16x256x256_S1x128x128_5_128_0 rfl rfl rfl x c')

theorem r5_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 0, 128] S1x128x128.size inb_S16x256x256_S1x128x128_5_0_128 : Rect S16x256x256).toLoadRect (ix3 0 x c') = score D b (512 * T + 128 * 1 + x.val) (4 * 1 + 2 * 0 + 1) c'.val * rate :=
  ((list8 H S hi).readCov arg39.view (Rect.unit ![5, 0, 128] S1x128x128.size inb_S16x256x256_S1x128x128_5_0_128 : Rect S16x256x256).toLoadRect (ix3 0 x c') (cover8 42 (by decide) (Rect.unit ![5, 0, 128] S1x128x128.size inb_S16x256x256_S1x128x128_5_0_128 : Rect S16x256x256) rfl _ (mem_unit (inb := inb_S16x256x256_S1x128x128_5_0_128) _))).trans (G8_emb D b T 5 0 1 _ inb_S16x256x256_S1x128x128_5_0_128 rfl rfl rfl x c')

theorem r5_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 0, 0] S1x128x128.size inb_S16x256x256_S1x128x128_5_0_0 : Rect S16x256x256).toLoadRect (ix3 0 x c') = score D b (512 * T + 128 * 1 + x.val) (4 * 1 + 2 * 0 + 0) c'.val * rate :=
  ((list8 H S hi).readCov arg39.view (Rect.unit ![5, 0, 0] S1x128x128.size inb_S16x256x256_S1x128x128_5_0_0 : Rect S16x256x256).toLoadRect (ix3 0 x c') (cover8 43 (by decide) (Rect.unit ![5, 0, 0] S1x128x128.size inb_S16x256x256_S1x128x128_5_0_0 : Rect S16x256x256) rfl _ (mem_unit (inb := inb_S16x256x256_S1x128x128_5_0_0) _))).trans (G8_emb D b T 5 0 0 _ inb_S16x256x256_S1x128x128_5_0_0 rfl rfl rfl x c')

theorem r4_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 128, 128] S1x128x128.size inb_S16x256x256_S1x128x128_4_128_128 : Rect S16x256x256).toLoadRect (ix3 0 x c') = score D b (512 * T + 128 * 1 + x.val) (4 * 0 + 2 * 1 + 1) c'.val * rate :=
  ((list8 H S hi).readCov arg39.view (Rect.unit ![4, 128, 128] S1x128x128.size inb_S16x256x256_S1x128x128_4_128_128 : Rect S16x256x256).toLoadRect (ix3 0 x c') (cover8 44 (by decide) (Rect.unit ![4, 128, 128] S1x128x128.size inb_S16x256x256_S1x128x128_4_128_128 : Rect S16x256x256) rfl _ (mem_unit (inb := inb_S16x256x256_S1x128x128_4_128_128) _))).trans (G8_emb D b T 4 1 1 _ inb_S16x256x256_S1x128x128_4_128_128 rfl rfl rfl x c')

theorem r4_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 128, 0] S1x128x128.size inb_S16x256x256_S1x128x128_4_128_0 : Rect S16x256x256).toLoadRect (ix3 0 x c') = score D b (512 * T + 128 * 1 + x.val) (4 * 0 + 2 * 1 + 0) c'.val * rate :=
  ((list8 H S hi).readCov arg39.view (Rect.unit ![4, 128, 0] S1x128x128.size inb_S16x256x256_S1x128x128_4_128_0 : Rect S16x256x256).toLoadRect (ix3 0 x c') (cover8 45 (by decide) (Rect.unit ![4, 128, 0] S1x128x128.size inb_S16x256x256_S1x128x128_4_128_0 : Rect S16x256x256) rfl _ (mem_unit (inb := inb_S16x256x256_S1x128x128_4_128_0) _))).trans (G8_emb D b T 4 1 0 _ inb_S16x256x256_S1x128x128_4_128_0 rfl rfl rfl x c')

theorem r4_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 0, 128] S1x128x128.size inb_S16x256x256_S1x128x128_4_0_128 : Rect S16x256x256).toLoadRect (ix3 0 x c') = score D b (512 * T + 128 * 1 + x.val) (4 * 0 + 2 * 0 + 1) c'.val * rate :=
  ((list8 H S hi).readCov arg39.view (Rect.unit ![4, 0, 128] S1x128x128.size inb_S16x256x256_S1x128x128_4_0_128 : Rect S16x256x256).toLoadRect (ix3 0 x c') (cover8 46 (by decide) (Rect.unit ![4, 0, 128] S1x128x128.size inb_S16x256x256_S1x128x128_4_0_128 : Rect S16x256x256) rfl _ (mem_unit (inb := inb_S16x256x256_S1x128x128_4_0_128) _))).trans (G8_emb D b T 4 0 1 _ inb_S16x256x256_S1x128x128_4_0_128 rfl rfl rfl x c')

theorem r4_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 0, 0] S1x128x128.size inb_S16x256x256_S1x128x128_4_0_0 : Rect S16x256x256).toLoadRect (ix3 0 x c') = score D b (512 * T + 128 * 1 + x.val) (4 * 0 + 2 * 0 + 0) c'.val * rate :=
  ((list8 H S hi).readCov arg39.view (Rect.unit ![4, 0, 0] S1x128x128.size inb_S16x256x256_S1x128x128_4_0_0 : Rect S16x256x256).toLoadRect (ix3 0 x c') (cover8 47 (by decide) (Rect.unit ![4, 0, 0] S1x128x128.size inb_S16x256x256_S1x128x128_4_0_0 : Rect S16x256x256) rfl _ (mem_unit (inb := inb_S16x256x256_S1x128x128_4_0_0) _))).trans (G8_emb D b T 4 0 0 _ inb_S16x256x256_S1x128x128_4_0_0 rfl rfl rfl x c')

theorem r3_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 128, 128] S1x128x128.size inb_S16x256x256_S1x128x128_3_128_128 : Rect S16x256x256).toLoadRect (ix3 0 x c') = score D b (512 * T + 128 * 0 + x.val) (4 * 3 + 2 * 1 + 1) c'.val * rate :=
  ((list8 H S hi).readCov arg39.view (Rect.unit ![3, 128, 128] S1x128x128.size inb_S16x256x256_S1x128x128_3_128_128 : Rect S16x256x256).toLoadRect (ix3 0 x c') (cover8 48 (by decide) (Rect.unit ![3, 128, 128] S1x128x128.size inb_S16x256x256_S1x128x128_3_128_128 : Rect S16x256x256) rfl _ (mem_unit (inb := inb_S16x256x256_S1x128x128_3_128_128) _))).trans (G8_emb D b T 3 1 1 _ inb_S16x256x256_S1x128x128_3_128_128 rfl rfl rfl x c')

theorem r3_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 128, 0] S1x128x128.size inb_S16x256x256_S1x128x128_3_128_0 : Rect S16x256x256).toLoadRect (ix3 0 x c') = score D b (512 * T + 128 * 0 + x.val) (4 * 3 + 2 * 1 + 0) c'.val * rate :=
  ((list8 H S hi).readCov arg39.view (Rect.unit ![3, 128, 0] S1x128x128.size inb_S16x256x256_S1x128x128_3_128_0 : Rect S16x256x256).toLoadRect (ix3 0 x c') (cover8 49 (by decide) (Rect.unit ![3, 128, 0] S1x128x128.size inb_S16x256x256_S1x128x128_3_128_0 : Rect S16x256x256) rfl _ (mem_unit (inb := inb_S16x256x256_S1x128x128_3_128_0) _))).trans (G8_emb D b T 3 1 0 _ inb_S16x256x256_S1x128x128_3_128_0 rfl rfl rfl x c')

theorem r3_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 0, 128] S1x128x128.size inb_S16x256x256_S1x128x128_3_0_128 : Rect S16x256x256).toLoadRect (ix3 0 x c') = score D b (512 * T + 128 * 0 + x.val) (4 * 3 + 2 * 0 + 1) c'.val * rate :=
  ((list8 H S hi).readCov arg39.view (Rect.unit ![3, 0, 128] S1x128x128.size inb_S16x256x256_S1x128x128_3_0_128 : Rect S16x256x256).toLoadRect (ix3 0 x c') (cover8 50 (by decide) (Rect.unit ![3, 0, 128] S1x128x128.size inb_S16x256x256_S1x128x128_3_0_128 : Rect S16x256x256) rfl _ (mem_unit (inb := inb_S16x256x256_S1x128x128_3_0_128) _))).trans (G8_emb D b T 3 0 1 _ inb_S16x256x256_S1x128x128_3_0_128 rfl rfl rfl x c')

theorem r3_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 0, 0] S1x128x128.size inb_S16x256x256_S1x128x128_3_0_0 : Rect S16x256x256).toLoadRect (ix3 0 x c') = score D b (512 * T + 128 * 0 + x.val) (4 * 3 + 2 * 0 + 0) c'.val * rate :=
  ((list8 H S hi).readCov arg39.view (Rect.unit ![3, 0, 0] S1x128x128.size inb_S16x256x256_S1x128x128_3_0_0 : Rect S16x256x256).toLoadRect (ix3 0 x c') (cover8 51 (by decide) (Rect.unit ![3, 0, 0] S1x128x128.size inb_S16x256x256_S1x128x128_3_0_0 : Rect S16x256x256) rfl _ (mem_unit (inb := inb_S16x256x256_S1x128x128_3_0_0) _))).trans (G8_emb D b T 3 0 0 _ inb_S16x256x256_S1x128x128_3_0_0 rfl rfl rfl x c')

theorem r2_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 128, 128] S1x128x128.size inb_S16x256x256_S1x128x128_2_128_128 : Rect S16x256x256).toLoadRect (ix3 0 x c') = score D b (512 * T + 128 * 0 + x.val) (4 * 2 + 2 * 1 + 1) c'.val * rate :=
  ((list8 H S hi).readCov arg39.view (Rect.unit ![2, 128, 128] S1x128x128.size inb_S16x256x256_S1x128x128_2_128_128 : Rect S16x256x256).toLoadRect (ix3 0 x c') (cover8 52 (by decide) (Rect.unit ![2, 128, 128] S1x128x128.size inb_S16x256x256_S1x128x128_2_128_128 : Rect S16x256x256) rfl _ (mem_unit (inb := inb_S16x256x256_S1x128x128_2_128_128) _))).trans (G8_emb D b T 2 1 1 _ inb_S16x256x256_S1x128x128_2_128_128 rfl rfl rfl x c')

theorem r2_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 128, 0] S1x128x128.size inb_S16x256x256_S1x128x128_2_128_0 : Rect S16x256x256).toLoadRect (ix3 0 x c') = score D b (512 * T + 128 * 0 + x.val) (4 * 2 + 2 * 1 + 0) c'.val * rate :=
  ((list8 H S hi).readCov arg39.view (Rect.unit ![2, 128, 0] S1x128x128.size inb_S16x256x256_S1x128x128_2_128_0 : Rect S16x256x256).toLoadRect (ix3 0 x c') (cover8 53 (by decide) (Rect.unit ![2, 128, 0] S1x128x128.size inb_S16x256x256_S1x128x128_2_128_0 : Rect S16x256x256) rfl _ (mem_unit (inb := inb_S16x256x256_S1x128x128_2_128_0) _))).trans (G8_emb D b T 2 1 0 _ inb_S16x256x256_S1x128x128_2_128_0 rfl rfl rfl x c')

theorem r2_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 0, 128] S1x128x128.size inb_S16x256x256_S1x128x128_2_0_128 : Rect S16x256x256).toLoadRect (ix3 0 x c') = score D b (512 * T + 128 * 0 + x.val) (4 * 2 + 2 * 0 + 1) c'.val * rate :=
  ((list8 H S hi).readCov arg39.view (Rect.unit ![2, 0, 128] S1x128x128.size inb_S16x256x256_S1x128x128_2_0_128 : Rect S16x256x256).toLoadRect (ix3 0 x c') (cover8 54 (by decide) (Rect.unit ![2, 0, 128] S1x128x128.size inb_S16x256x256_S1x128x128_2_0_128 : Rect S16x256x256) rfl _ (mem_unit (inb := inb_S16x256x256_S1x128x128_2_0_128) _))).trans (G8_emb D b T 2 0 1 _ inb_S16x256x256_S1x128x128_2_0_128 rfl rfl rfl x c')

theorem r2_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 0, 0] S1x128x128.size inb_S16x256x256_S1x128x128_2_0_0 : Rect S16x256x256).toLoadRect (ix3 0 x c') = score D b (512 * T + 128 * 0 + x.val) (4 * 2 + 2 * 0 + 0) c'.val * rate :=
  ((list8 H S hi).readCov arg39.view (Rect.unit ![2, 0, 0] S1x128x128.size inb_S16x256x256_S1x128x128_2_0_0 : Rect S16x256x256).toLoadRect (ix3 0 x c') (cover8 55 (by decide) (Rect.unit ![2, 0, 0] S1x128x128.size inb_S16x256x256_S1x128x128_2_0_0 : Rect S16x256x256) rfl _ (mem_unit (inb := inb_S16x256x256_S1x128x128_2_0_0) _))).trans (G8_emb D b T 2 0 0 _ inb_S16x256x256_S1x128x128_2_0_0 rfl rfl rfl x c')

theorem r1_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 128, 128] S1x128x128.size inb_S16x256x256_S1x128x128_1_128_128 : Rect S16x256x256).toLoadRect (ix3 0 x c') = score D b (512 * T + 128 * 0 + x.val) (4 * 1 + 2 * 1 + 1) c'.val * rate :=
  ((list8 H S hi).readCov arg39.view (Rect.unit ![1, 128, 128] S1x128x128.size inb_S16x256x256_S1x128x128_1_128_128 : Rect S16x256x256).toLoadRect (ix3 0 x c') (cover8 56 (by decide) (Rect.unit ![1, 128, 128] S1x128x128.size inb_S16x256x256_S1x128x128_1_128_128 : Rect S16x256x256) rfl _ (mem_unit (inb := inb_S16x256x256_S1x128x128_1_128_128) _))).trans (G8_emb D b T 1 1 1 _ inb_S16x256x256_S1x128x128_1_128_128 rfl rfl rfl x c')

theorem r1_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 128, 0] S1x128x128.size inb_S16x256x256_S1x128x128_1_128_0 : Rect S16x256x256).toLoadRect (ix3 0 x c') = score D b (512 * T + 128 * 0 + x.val) (4 * 1 + 2 * 1 + 0) c'.val * rate :=
  ((list8 H S hi).readCov arg39.view (Rect.unit ![1, 128, 0] S1x128x128.size inb_S16x256x256_S1x128x128_1_128_0 : Rect S16x256x256).toLoadRect (ix3 0 x c') (cover8 57 (by decide) (Rect.unit ![1, 128, 0] S1x128x128.size inb_S16x256x256_S1x128x128_1_128_0 : Rect S16x256x256) rfl _ (mem_unit (inb := inb_S16x256x256_S1x128x128_1_128_0) _))).trans (G8_emb D b T 1 1 0 _ inb_S16x256x256_S1x128x128_1_128_0 rfl rfl rfl x c')

theorem r1_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 0, 128] S1x128x128.size inb_S16x256x256_S1x128x128_1_0_128 : Rect S16x256x256).toLoadRect (ix3 0 x c') = score D b (512 * T + 128 * 0 + x.val) (4 * 1 + 2 * 0 + 1) c'.val * rate :=
  ((list8 H S hi).readCov arg39.view (Rect.unit ![1, 0, 128] S1x128x128.size inb_S16x256x256_S1x128x128_1_0_128 : Rect S16x256x256).toLoadRect (ix3 0 x c') (cover8 58 (by decide) (Rect.unit ![1, 0, 128] S1x128x128.size inb_S16x256x256_S1x128x128_1_0_128 : Rect S16x256x256) rfl _ (mem_unit (inb := inb_S16x256x256_S1x128x128_1_0_128) _))).trans (G8_emb D b T 1 0 1 _ inb_S16x256x256_S1x128x128_1_0_128 rfl rfl rfl x c')

theorem r1_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 0, 0] S1x128x128.size inb_S16x256x256_S1x128x128_1_0_0 : Rect S16x256x256).toLoadRect (ix3 0 x c') = score D b (512 * T + 128 * 0 + x.val) (4 * 1 + 2 * 0 + 0) c'.val * rate :=
  ((list8 H S hi).readCov arg39.view (Rect.unit ![1, 0, 0] S1x128x128.size inb_S16x256x256_S1x128x128_1_0_0 : Rect S16x256x256).toLoadRect (ix3 0 x c') (cover8 59 (by decide) (Rect.unit ![1, 0, 0] S1x128x128.size inb_S16x256x256_S1x128x128_1_0_0 : Rect S16x256x256) rfl _ (mem_unit (inb := inb_S16x256x256_S1x128x128_1_0_0) _))).trans (G8_emb D b T 1 0 0 _ inb_S16x256x256_S1x128x128_1_0_0 rfl rfl rfl x c')

theorem r0_11 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 128, 128] S1x128x128.size inb_S16x256x256_S1x128x128_0_128_128 : Rect S16x256x256).toLoadRect (ix3 0 x c') = score D b (512 * T + 128 * 0 + x.val) (4 * 0 + 2 * 1 + 1) c'.val * rate :=
  ((list8 H S hi).readCov arg39.view (Rect.unit ![0, 128, 128] S1x128x128.size inb_S16x256x256_S1x128x128_0_128_128 : Rect S16x256x256).toLoadRect (ix3 0 x c') (cover8 60 (by decide) (Rect.unit ![0, 128, 128] S1x128x128.size inb_S16x256x256_S1x128x128_0_128_128 : Rect S16x256x256) rfl _ (mem_unit (inb := inb_S16x256x256_S1x128x128_0_128_128) _))).trans (G8_emb D b T 0 1 1 _ inb_S16x256x256_S1x128x128_0_128_128 rfl rfl rfl x c')

theorem r0_10 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 128, 0] S1x128x128.size inb_S16x256x256_S1x128x128_0_128_0 : Rect S16x256x256).toLoadRect (ix3 0 x c') = score D b (512 * T + 128 * 0 + x.val) (4 * 0 + 2 * 1 + 0) c'.val * rate :=
  ((list8 H S hi).readCov arg39.view (Rect.unit ![0, 128, 0] S1x128x128.size inb_S16x256x256_S1x128x128_0_128_0 : Rect S16x256x256).toLoadRect (ix3 0 x c') (cover8 61 (by decide) (Rect.unit ![0, 128, 0] S1x128x128.size inb_S16x256x256_S1x128x128_0_128_0 : Rect S16x256x256) rfl _ (mem_unit (inb := inb_S16x256x256_S1x128x128_0_128_0) _))).trans (G8_emb D b T 0 1 0 _ inb_S16x256x256_S1x128x128_0_128_0 rfl rfl rfl x c')

theorem r0_01 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 0, 128] S1x128x128.size inb_S16x256x256_S1x128x128_0_0_128 : Rect S16x256x256).toLoadRect (ix3 0 x c') = score D b (512 * T + 128 * 0 + x.val) (4 * 0 + 2 * 0 + 1) c'.val * rate :=
  ((list8 H S hi).readCov arg39.view (Rect.unit ![0, 0, 128] S1x128x128.size inb_S16x256x256_S1x128x128_0_0_128 : Rect S16x256x256).toLoadRect (ix3 0 x c') (cover8 62 (by decide) (Rect.unit ![0, 0, 128] S1x128x128.size inb_S16x256x256_S1x128x128_0_0_128 : Rect S16x256x256) rfl _ (mem_unit (inb := inb_S16x256x256_S1x128x128_0_0_128) _))).trans (G8_emb D b T 0 0 1 _ inb_S16x256x256_S1x128x128_0_0_128 rfl rfl rfl x c')

theorem r0_00 (H : Inputs D b T x0 x1 x2 x3 x4 x5 x6 x7 x8 x9 x10) (S : Start D b T xs0 xs1 xs2 xs3 xs4) (hi : (i 1).val = T) (x c' : Fin 128) :
    arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 0, 0] S1x128x128.size inb_S16x256x256_S1x128x128_0_0_0 : Rect S16x256x256).toLoadRect (ix3 0 x c') = score D b (512 * T + 128 * 0 + x.val) (4 * 0 + 2 * 0 + 0) c'.val * rate :=
  ((list8 H S hi).readCov arg39.view (Rect.unit ![0, 0, 0] S1x128x128.size inb_S16x256x256_S1x128x128_0_0_0 : Rect S16x256x256).toLoadRect (ix3 0 x c') (cover8 63 (by decide) (Rect.unit ![0, 0, 0] S1x128x128.size inb_S16x256x256_S1x128x128_0_0_0 : Rect S16x256x256) rfl _ (mem_unit (inb := inb_S16x256x256_S1x128x128_0_0_0) _))).trans (G8_emb D b T 0 0 0 _ inb_S16x256x256_S1x128x128_0_0_0 rfl rfl rfl x c')

end Cert.Mixer

end
-- ==== Proof.Mixer.Att.lean ====
/-
  The attention's rows of a step: each of the 32 blocks put down is the layer's.
-/
module

public import proofs.«01_k».proof.Proof.Mixer.AttUnit
public import proofs.«01_k».proof.Proof.Mixer.AttRow

@[expose] public section

set_option maxRecDepth 16384

noncomputable section

namespace Cert.Mixer

open Cert.Kernel3Ideal Cert.Kernel3Ideal.Gen
open Idealize.ShloMosaic Idealize.ShloMosaic.TcCoe Idealize.SL.Sem

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

/-- The attention's rows. -/
def G6 (D : Data) (b T : ℕ) (y : S512x1024.Idx) : EReal := att2 D b (512 * T + (y 0).val) (y 1).val

theorem a3_7 (H : Inputs D b T x0 x1 x2 x3 x4 x5 x6 x7 x8 x9 x10) (S : Start D b T xs0 xs1 xs2 xs3 xs4) (hi : (i 1).val = T) (x : S128x128.Idx) :
    k0_pay598 (run.sl.r_277 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![384, 896] S128x128.size inb_S512x1024_S128x128_384_896 : Rect S512x1024).emb x) := by
  obtain ⟨r, l, rfl⟩ : ∃ (r l : Fin 128), x = ix2 r l := ⟨x 0, x 1, eq_ix2 x⟩
  refine Eq.trans (unit1 3 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 0, 0] S1x128x128.size inb_S16x256x256_S1x128x128_15_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 0, 128] S1x128x128.size inb_S16x256x256_S1x128x128_15_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 128, 0] S1x128x128.size inb_S16x256x256_S1x128x128_15_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 128, 128] S1x128x128.size inb_S16x256x256_S1x128x128_15_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readCov (run.sl.HS2_4 (F := Ideal) c i arg3 harg3 arg6 harg6 arg7 harg7 x1 x4 x5) (Rect.unit ![3, 384, 0] S1x256x128.size inb_S4x640x128_S1x256x128_3_384_0 : Rect S4x640x128).toLoadRect) (arg34.view.readCov (run.sl.HS3_4 (F := Ideal) c i arg3 harg3 arg6 harg6 arg7 harg7 x1 x4 x5) (Rect.unit ![3, 384, 0] S1x256x128.size inb_S4x640x128_S1x256x128_3_384_0 : Rect S4x640x128).toLoadRect)
    (r15_10 H S hi) (r15_11 H S hi) (sink_read H _ _ _) (sink_read H _ _ _) (fun r d => (cov2 H (Rect.unit ![3, 384, 0] S1x256x128.size inb_S4x640x128_S1x256x128_3_384_0 : Rect S4x640x128).toLoadRect (ix3 0 r d) (by show 128 ≤ 384 + 1 * r.val; omega)).trans (half_read2 D b T 3 384 _ r d rfl rfl rfl)) (fun r d => (cov3 H (Rect.unit ![3, 384, 0] S1x256x128.size inb_S4x640x128_S1x256x128_3_384_0 : Rect S4x640x128).toLoadRect (ix3 0 r d) (by show 128 ≤ 384 + 1 * r.val; omega)).trans (half_read3 D b T 3 384 _ r d rfl rfl rfl)) r l) ?_
  show att2 D b _ _ = att2 D b (512 * T + (384 + 1 * r.val)) (896 + 1 * l.val)
  congr 1 <;> omega

theorem a3_6 (H : Inputs D b T x0 x1 x2 x3 x4 x5 x6 x7 x8 x9 x10) (S : Start D b T xs0 xs1 xs2 xs3 xs4) (hi : (i 1).val = T) (x : S128x128.Idx) :
    k0_pay596 (run.sl.r_24 (F := Ideal) ) (k0_pay62 k0_pay3) (run.sl.r_267 (F := Ideal) c i arg2 harg2 arg3 harg3 arg4 harg4 arg5 harg5 arg6 harg6 arg7 harg7 arg31 harg31 arg32 harg32 arg38 arg39 x0 x1 x2 x3 x4 x5 xs0 xs1) (run.sl.r_275 (F := Ideal) c i arg2 harg2 arg3 harg3 arg4 harg4 arg5 harg5 arg6 harg6 arg7 harg7 arg31 harg31 arg32 harg32 arg38 arg39 x0 x1 x2 x3 x4 x5 xs0 xs1) (run.sl.v2876 (F := Ideal) c i arg3 harg3 arg6 harg6 arg7 harg7 arg33 x1 x4 x5) (run.sl.v2879 (F := Ideal) c i arg3 harg3 arg6 harg6 arg7 harg7 arg34 x1 x4 x5) x = G6 D b T ((Rect.unit ![384, 768] S128x128.size inb_S512x1024_S128x128_384_768 : Rect S512x1024).emb x) := by
  obtain ⟨r, l, rfl⟩ : ∃ (r l : Fin 128), x = ix2 r l := ⟨x 0, x 1, eq_ix2 x⟩
  refine Eq.trans (unit0 3 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 0, 0] S1x128x128.size inb_S16x256x256_S1x128x128_15_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 0, 128] S1x128x128.size inb_S16x256x256_S1x128x128_15_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 128, 0] S1x128x128.size inb_S16x256x256_S1x128x128_15_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![15, 128, 128] S1x128x128.size inb_S16x256x256_S1x128x128_15_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readCov (run.sl.HS2_4 (F := Ideal) c i arg3 harg3 arg6 harg6 arg7 harg7 x1 x4 x5) (Rect.unit ![3, 384, 0] S1x256x128.size inb_S4x640x128_S1x256x128_3_384_0 : Rect S4x640x128).toLoadRect) (arg34.view.readCov (run.sl.HS3_4 (F := Ideal) c i arg3 harg3 arg6 harg6 arg7 harg7 x1 x4 x5) (Rect.unit ![3, 384, 0] S1x256x128.size inb_S4x640x128_S1x256x128_3_384_0 : Rect S4x640x128).toLoadRect)
    (r15_00 H S hi) (r15_01 H S hi) (sink_read H _ _ _) (sink_read H _ _ _) (fun r d => (cov2 H (Rect.unit ![3, 384, 0] S1x256x128.size inb_S4x640x128_S1x256x128_3_384_0 : Rect S4x640x128).toLoadRect (ix3 0 r d) (by show 128 ≤ 384 + 1 * r.val; omega)).trans (half_read2 D b T 3 384 _ r d rfl rfl rfl)) (fun r d => (cov3 H (Rect.unit ![3, 384, 0] S1x256x128.size inb_S4x640x128_S1x256x128_3_384_0 : Rect S4x640x128).toLoadRect (ix3 0 r d) (by show 128 ≤ 384 + 1 * r.val; omega)).trans (half_read3 D b T 3 384 _ r d rfl rfl rfl)) r l) ?_
  show att2 D b _ _ = att2 D b (512 * T + (384 + 1 * r.val)) (768 + 1 * l.val)
  congr 1 <;> omega

theorem a3_5 (H : Inputs D b T x0 x1 x2 x3 x4 x5 x6 x7 x8 x9 x10) (S : Start D b T xs0 xs1 xs2 xs3 xs4) (hi : (i 1).val = T) (x : S128x128.Idx) :
    k0_pay593 (run.sl.r_276 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![384, 640] S128x128.size inb_S512x1024_S128x128_384_640 : Rect S512x1024).emb x) := by
  obtain ⟨r, l, rfl⟩ : ∃ (r l : Fin 128), x = ix2 r l := ⟨x 0, x 1, eq_ix2 x⟩
  refine Eq.trans (unit1 3 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 0, 0] S1x128x128.size inb_S16x256x256_S1x128x128_14_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 0, 128] S1x128x128.size inb_S16x256x256_S1x128x128_14_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 128, 0] S1x128x128.size inb_S16x256x256_S1x128x128_14_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 128, 128] S1x128x128.size inb_S16x256x256_S1x128x128_14_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readCov (run.sl.HS2_4 (F := Ideal) c i arg3 harg3 arg6 harg6 arg7 harg7 x1 x4 x5) (Rect.unit ![2, 384, 0] S1x256x128.size inb_S4x640x128_S1x256x128_2_384_0 : Rect S4x640x128).toLoadRect) (arg34.view.readCov (run.sl.HS3_4 (F := Ideal) c i arg3 harg3 arg6 harg6 arg7 harg7 x1 x4 x5) (Rect.unit ![2, 384, 0] S1x256x128.size inb_S4x640x128_S1x256x128_2_384_0 : Rect S4x640x128).toLoadRect)
    (r14_10 H S hi) (r14_11 H S hi) (sink_read H _ _ _) (sink_read H _ _ _) (fun r d => (cov2 H (Rect.unit ![2, 384, 0] S1x256x128.size inb_S4x640x128_S1x256x128_2_384_0 : Rect S4x640x128).toLoadRect (ix3 0 r d) (by show 128 ≤ 384 + 1 * r.val; omega)).trans (half_read2 D b T 2 384 _ r d rfl rfl rfl)) (fun r d => (cov3 H (Rect.unit ![2, 384, 0] S1x256x128.size inb_S4x640x128_S1x256x128_2_384_0 : Rect S4x640x128).toLoadRect (ix3 0 r d) (by show 128 ≤ 384 + 1 * r.val; omega)).trans (half_read3 D b T 2 384 _ r d rfl rfl rfl)) r l) ?_
  show att2 D b _ _ = att2 D b (512 * T + (384 + 1 * r.val)) (640 + 1 * l.val)
  congr 1 <;> omega

theorem a3_4 (H : Inputs D b T x0 x1 x2 x3 x4 x5 x6 x7 x8 x9 x10) (S : Start D b T xs0 xs1 xs2 xs3 xs4) (hi : (i 1).val = T) (x : S128x128.Idx) :
    k0_pay591 (run.sl.r_24 (F := Ideal) ) (k0_pay62 k0_pay3) (run.sl.r_249 (F := Ideal) c i arg2 harg2 arg3 harg3 arg4 harg4 arg5 harg5 arg6 harg6 arg7 harg7 arg31 harg31 arg32 harg32 arg38 arg39 x0 x1 x2 x3 x4 x5 xs0 xs1) (run.sl.r_255 (F := Ideal) c i arg2 harg2 arg3 harg3 arg4 harg4 arg5 harg5 arg6 harg6 arg7 harg7 arg31 harg31 arg32 harg32 arg38 arg39 x0 x1 x2 x3 x4 x5 xs0 xs1) (run.sl.v2838 (F := Ideal) c i arg3 harg3 arg6 harg6 arg7 harg7 arg33 x1 x4 x5) (run.sl.v2841 (F := Ideal) c i arg3 harg3 arg6 harg6 arg7 harg7 arg34 x1 x4 x5) x = G6 D b T ((Rect.unit ![384, 512] S128x128.size inb_S512x1024_S128x128_384_512 : Rect S512x1024).emb x) := by
  obtain ⟨r, l, rfl⟩ : ∃ (r l : Fin 128), x = ix2 r l := ⟨x 0, x 1, eq_ix2 x⟩
  refine Eq.trans (unit0 3 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 0, 0] S1x128x128.size inb_S16x256x256_S1x128x128_14_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 0, 128] S1x128x128.size inb_S16x256x256_S1x128x128_14_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 128, 0] S1x128x128.size inb_S16x256x256_S1x128x128_14_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![14, 128, 128] S1x128x128.size inb_S16x256x256_S1x128x128_14_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readCov (run.sl.HS2_4 (F := Ideal) c i arg3 harg3 arg6 harg6 arg7 harg7 x1 x4 x5) (Rect.unit ![2, 384, 0] S1x256x128.size inb_S4x640x128_S1x256x128_2_384_0 : Rect S4x640x128).toLoadRect) (arg34.view.readCov (run.sl.HS3_4 (F := Ideal) c i arg3 harg3 arg6 harg6 arg7 harg7 x1 x4 x5) (Rect.unit ![2, 384, 0] S1x256x128.size inb_S4x640x128_S1x256x128_2_384_0 : Rect S4x640x128).toLoadRect)
    (r14_00 H S hi) (r14_01 H S hi) (sink_read H _ _ _) (sink_read H _ _ _) (fun r d => (cov2 H (Rect.unit ![2, 384, 0] S1x256x128.size inb_S4x640x128_S1x256x128_2_384_0 : Rect S4x640x128).toLoadRect (ix3 0 r d) (by show 128 ≤ 384 + 1 * r.val; omega)).trans (half_read2 D b T 2 384 _ r d rfl rfl rfl)) (fun r d => (cov3 H (Rect.unit ![2, 384, 0] S1x256x128.size inb_S4x640x128_S1x256x128_2_384_0 : Rect S4x640x128).toLoadRect (ix3 0 r d) (by show 128 ≤ 384 + 1 * r.val; omega)).trans (half_read3 D b T 2 384 _ r d rfl rfl rfl)) r l) ?_
  show att2 D b _ _ = att2 D b (512 * T + (384 + 1 * r.val)) (512 + 1 * l.val)
  congr 1 <;> omega

theorem a3_3 (H : Inputs D b T x0 x1 x2 x3 x4 x5 x6 x7 x8 x9 x10) (S : Start D b T xs0 xs1 xs2 xs3 xs4) (hi : (i 1).val = T) (x : S128x128.Idx) :
    k0_pay562 (run.sl.r_240 (F := Ideal) c i arg2 harg2 arg3 harg3 arg4 harg4 arg5 harg5 arg6 harg6 arg7 harg7 arg31 harg31 arg32 harg32 arg38 arg39 x0 x1 x2 x3 x4 x5 xs0 xs1) (run.sl.r_256 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![384, 384] S128x128.size inb_S512x1024_S128x128_384_384 : Rect S512x1024).emb x) := by
  obtain ⟨r, l, rfl⟩ : ∃ (r l : Fin 128), x = ix2 r l := ⟨x 0, x 1, eq_ix2 x⟩
  refine Eq.trans (unit1 3 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 0, 0] S1x128x128.size inb_S16x256x256_S1x128x128_13_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 0, 128] S1x128x128.size inb_S16x256x256_S1x128x128_13_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 128, 0] S1x128x128.size inb_S16x256x256_S1x128x128_13_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 128, 128] S1x128x128.size inb_S16x256x256_S1x128x128_13_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readCov (run.sl.HS2_4 (F := Ideal) c i arg3 harg3 arg6 harg6 arg7 harg7 x1 x4 x5) (Rect.unit ![1, 384, 0] S1x256x128.size inb_S4x640x128_S1x256x128_1_384_0 : Rect S4x640x128).toLoadRect) (arg34.view.readCov (run.sl.HS3_4 (F := Ideal) c i arg3 harg3 arg6 harg6 arg7 harg7 x1 x4 x5) (Rect.unit ![1, 384, 0] S1x256x128.size inb_S4x640x128_S1x256x128_1_384_0 : Rect S4x640x128).toLoadRect)
    (r13_10 H S hi) (r13_11 H S hi) (sink_read H _ _ _) (sink_read H _ _ _) (fun r d => (cov2 H (Rect.unit ![1, 384, 0] S1x256x128.size inb_S4x640x128_S1x256x128_1_384_0 : Rect S4x640x128).toLoadRect (ix3 0 r d) (by show 128 ≤ 384 + 1 * r.val; omega)).trans (half_read2 D b T 1 384 _ r d rfl rfl rfl)) (fun r d => (cov3 H (Rect.unit ![1, 384, 0] S1x256x128.size inb_S4x640x128_S1x256x128_1_384_0 : Rect S4x640x128).toLoadRect (ix3 0 r d) (by show 128 ≤ 384 + 1 * r.val; omega)).trans (half_read3 D b T 1 384 _ r d rfl rfl rfl)) r l) ?_
  show att2 D b _ _ = att2 D b (512 * T + (384 + 1 * r.val)) (384 + 1 * l.val)
  congr 1 <;> omega

theorem a3_2 (H : Inputs D b T x0 x1 x2 x3 x4 x5 x6 x7 x8 x9 x10) (S : Start D b T xs0 xs1 xs2 xs3 xs4) (hi : (i 1).val = T) (x : S128x128.Idx) :
    k0_pay561 (run.sl.r_257 (F := Ideal) c i arg2 harg2 arg3 harg3 arg4 harg4 arg5 harg5 arg6 harg6 arg7 harg7 arg31 harg31 arg32 harg32 arg33 arg34 arg38 arg39 x0 x1 x2 x3 x4 x5 xs0 xs1) (run.sl.r_258 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![384, 256] S128x128.size inb_S512x1024_S128x128_384_256 : Rect S512x1024).emb x) := by
  obtain ⟨r, l, rfl⟩ : ∃ (r l : Fin 128), x = ix2 r l := ⟨x 0, x 1, eq_ix2 x⟩
  refine Eq.trans (unit0 3 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 0, 0] S1x128x128.size inb_S16x256x256_S1x128x128_13_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 0, 128] S1x128x128.size inb_S16x256x256_S1x128x128_13_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 128, 0] S1x128x128.size inb_S16x256x256_S1x128x128_13_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![13, 128, 128] S1x128x128.size inb_S16x256x256_S1x128x128_13_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readCov (run.sl.HS2_4 (F := Ideal) c i arg3 harg3 arg6 harg6 arg7 harg7 x1 x4 x5) (Rect.unit ![1, 384, 0] S1x256x128.size inb_S4x640x128_S1x256x128_1_384_0 : Rect S4x640x128).toLoadRect) (arg34.view.readCov (run.sl.HS3_4 (F := Ideal) c i arg3 harg3 arg6 harg6 arg7 harg7 x1 x4 x5) (Rect.unit ![1, 384, 0] S1x256x128.size inb_S4x640x128_S1x256x128_1_384_0 : Rect S4x640x128).toLoadRect)
    (r13_00 H S hi) (r13_01 H S hi) (sink_read H _ _ _) (sink_read H _ _ _) (fun r d => (cov2 H (Rect.unit ![1, 384, 0] S1x256x128.size inb_S4x640x128_S1x256x128_1_384_0 : Rect S4x640x128).toLoadRect (ix3 0 r d) (by show 128 ≤ 384 + 1 * r.val; omega)).trans (half_read2 D b T 1 384 _ r d rfl rfl rfl)) (fun r d => (cov3 H (Rect.unit ![1, 384, 0] S1x256x128.size inb_S4x640x128_S1x256x128_1_384_0 : Rect S4x640x128).toLoadRect (ix3 0 r d) (by show 128 ≤ 384 + 1 * r.val; omega)).trans (half_read3 D b T 1 384 _ r d rfl rfl rfl)) r l) ?_
  show att2 D b _ _ = att2 D b (512 * T + (384 + 1 * r.val)) (256 + 1 * l.val)
  congr 1 <;> omega

theorem a3_1 (H : Inputs D b T x0 x1 x2 x3 x4 x5 x6 x7 x8 x9 x10) (S : Start D b T xs0 xs1 xs2 xs3 xs4) (hi : (i 1).val = T) (x : S128x128.Idx) :
    k0_pay534 (run.sl.r_229 (F := Ideal) c i arg2 harg2 arg3 harg3 arg4 harg4 arg5 harg5 arg6 harg6 arg7 harg7 arg31 harg31 arg32 harg32 arg38 arg39 x0 x1 x2 x3 x4 x5 xs0 xs1) (run.sl.r_242 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![384, 128] S128x128.size inb_S512x1024_S128x128_384_128 : Rect S512x1024).emb x) := by
  obtain ⟨r, l, rfl⟩ : ∃ (r l : Fin 128), x = ix2 r l := ⟨x 0, x 1, eq_ix2 x⟩
  refine Eq.trans (unit1 3 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 0, 0] S1x128x128.size inb_S16x256x256_S1x128x128_12_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 0, 128] S1x128x128.size inb_S16x256x256_S1x128x128_12_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 128, 0] S1x128x128.size inb_S16x256x256_S1x128x128_12_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 128, 128] S1x128x128.size inb_S16x256x256_S1x128x128_12_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readCov (run.sl.HS2_4 (F := Ideal) c i arg3 harg3 arg6 harg6 arg7 harg7 x1 x4 x5) (Rect.unit ![0, 384, 0] S1x256x128.size inb_S4x640x128_S1x256x128_0_384_0 : Rect S4x640x128).toLoadRect) (arg34.view.readCov (run.sl.HS3_4 (F := Ideal) c i arg3 harg3 arg6 harg6 arg7 harg7 x1 x4 x5) (Rect.unit ![0, 384, 0] S1x256x128.size inb_S4x640x128_S1x256x128_0_384_0 : Rect S4x640x128).toLoadRect)
    (r12_10 H S hi) (r12_11 H S hi) (sink_read H _ _ _) (sink_read H _ _ _) (fun r d => (cov2 H (Rect.unit ![0, 384, 0] S1x256x128.size inb_S4x640x128_S1x256x128_0_384_0 : Rect S4x640x128).toLoadRect (ix3 0 r d) (by show 128 ≤ 384 + 1 * r.val; omega)).trans (half_read2 D b T 0 384 _ r d rfl rfl rfl)) (fun r d => (cov3 H (Rect.unit ![0, 384, 0] S1x256x128.size inb_S4x640x128_S1x256x128_0_384_0 : Rect S4x640x128).toLoadRect (ix3 0 r d) (by show 128 ≤ 384 + 1 * r.val; omega)).trans (half_read3 D b T 0 384 _ r d rfl rfl rfl)) r l) ?_
  show att2 D b _ _ = att2 D b (512 * T + (384 + 1 * r.val)) (128 + 1 * l.val)
  congr 1 <;> omega

theorem a3_0 (H : Inputs D b T x0 x1 x2 x3 x4 x5 x6 x7 x8 x9 x10) (S : Start D b T xs0 xs1 xs2 xs3 xs4) (hi : (i 1).val = T) (x : S128x128.Idx) :
    k0_pay533 (run.sl.r_243 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![384, 0] S128x128.size inb_S512x1024_S128x128_384_0 : Rect S512x1024).emb x) := by
  obtain ⟨r, l, rfl⟩ : ∃ (r l : Fin 128), x = ix2 r l := ⟨x 0, x 1, eq_ix2 x⟩
  refine Eq.trans (unit0 3 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 0, 0] S1x128x128.size inb_S16x256x256_S1x128x128_12_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 0, 128] S1x128x128.size inb_S16x256x256_S1x128x128_12_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 128, 0] S1x128x128.size inb_S16x256x256_S1x128x128_12_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![12, 128, 128] S1x128x128.size inb_S16x256x256_S1x128x128_12_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readCov (run.sl.HS2_4 (F := Ideal) c i arg3 harg3 arg6 harg6 arg7 harg7 x1 x4 x5) (Rect.unit ![0, 384, 0] S1x256x128.size inb_S4x640x128_S1x256x128_0_384_0 : Rect S4x640x128).toLoadRect) (arg34.view.readCov (run.sl.HS3_4 (F := Ideal) c i arg3 harg3 arg6 harg6 arg7 harg7 x1 x4 x5) (Rect.unit ![0, 384, 0] S1x256x128.size inb_S4x640x128_S1x256x128_0_384_0 : Rect S4x640x128).toLoadRect)
    (r12_00 H S hi) (r12_01 H S hi) (sink_read H _ _ _) (sink_read H _ _ _) (fun r d => (cov2 H (Rect.unit ![0, 384, 0] S1x256x128.size inb_S4x640x128_S1x256x128_0_384_0 : Rect S4x640x128).toLoadRect (ix3 0 r d) (by show 128 ≤ 384 + 1 * r.val; omega)).trans (half_read2 D b T 0 384 _ r d rfl rfl rfl)) (fun r d => (cov3 H (Rect.unit ![0, 384, 0] S1x256x128.size inb_S4x640x128_S1x256x128_0_384_0 : Rect S4x640x128).toLoadRect (ix3 0 r d) (by show 128 ≤ 384 + 1 * r.val; omega)).trans (half_read3 D b T 0 384 _ r d rfl rfl rfl)) r l) ?_
  show att2 D b _ _ = att2 D b (512 * T + (384 + 1 * r.val)) (0 + 1 * l.val)
  congr 1 <;> omega

theorem a2_7 (H : Inputs D b T x0 x1 x2 x3 x4 x5 x6 x7 x8 x9 x10) (S : Start D b T xs0 xs1 xs2 xs3 xs4) (hi : (i 1).val = T) (x : S128x128.Idx) :
    k0_pay506 (k0_pay62 k0_pay3) (run.sl.r_217 (F := Ideal) c i arg2 harg2 arg3 harg3 arg4 harg4 arg5 harg5 arg6 harg6 arg7 harg7 arg31 harg31 arg32 harg32 arg38 arg39 x0 x1 x2 x3 x4 x5 xs0 xs1) (run.sl.r_218 (F := Ideal) c i arg2 harg2 arg3 harg3 arg4 harg4 arg5 harg5 arg6 harg6 arg7 harg7 arg31 harg31 arg32 harg32 arg38 arg39 x0 x1 x2 x3 x4 x5 xs0 xs1) (run.sl.r_231 (F := Ideal) c i arg3 harg3 arg6 harg6 arg7 harg7 arg33 x1 x4 x5) (run.sl.v2472 (F := Ideal) c i arg3 harg3 arg6 harg6 arg7 harg7 arg34 x1 x4 x5) x = G6 D b T ((Rect.unit ![256, 896] S128x128.size inb_S512x1024_S128x128_256_896 : Rect S512x1024).emb x) := by
  obtain ⟨r, l, rfl⟩ : ∃ (r l : Fin 128), x = ix2 r l := ⟨x 0, x 1, eq_ix2 x⟩
  refine Eq.trans (unit1 2 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 0, 0] S1x128x128.size inb_S16x256x256_S1x128x128_11_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 0, 128] S1x128x128.size inb_S16x256x256_S1x128x128_11_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 128, 0] S1x128x128.size inb_S16x256x256_S1x128x128_11_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 128, 128] S1x128x128.size inb_S16x256x256_S1x128x128_11_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readCov (run.sl.HS2_4 (F := Ideal) c i arg3 harg3 arg6 harg6 arg7 harg7 x1 x4 x5) (Rect.unit ![3, 256, 0] S1x256x128.size inb_S4x640x128_S1x256x128_3_256_0 : Rect S4x640x128).toLoadRect) (arg34.view.readCov (run.sl.HS3_4 (F := Ideal) c i arg3 harg3 arg6 harg6 arg7 harg7 x1 x4 x5) (Rect.unit ![3, 256, 0] S1x256x128.size inb_S4x640x128_S1x256x128_3_256_0 : Rect S4x640x128).toLoadRect)
    (r11_10 H S hi) (r11_11 H S hi) (sink_read H _ _ _) (sink_read H _ _ _) (fun r d => (cov2 H (Rect.unit ![3, 256, 0] S1x256x128.size inb_S4x640x128_S1x256x128_3_256_0 : Rect S4x640x128).toLoadRect (ix3 0 r d) (by show 128 ≤ 256 + 1 * r.val; omega)).trans (half_read2 D b T 3 256 _ r d rfl rfl rfl)) (fun r d => (cov3 H (Rect.unit ![3, 256, 0] S1x256x128.size inb_S4x640x128_S1x256x128_3_256_0 : Rect S4x640x128).toLoadRect (ix3 0 r d) (by show 128 ≤ 256 + 1 * r.val; omega)).trans (half_read3 D b T 3 256 _ r d rfl rfl rfl)) r l) ?_
  show att2 D b _ _ = att2 D b (512 * T + (256 + 1 * r.val)) (896 + 1 * l.val)
  congr 1 <;> omega

theorem a2_6 (H : Inputs D b T x0 x1 x2 x3 x4 x5 x6 x7 x8 x9 x10) (S : Start D b T xs0 xs1 xs2 xs3 xs4) (hi : (i 1).val = T) (x : S128x128.Idx) :
    k0_pay505 (k0_pay62 k0_pay3) (run.sl.r_213 (F := Ideal) c i arg2 harg2 arg3 harg3 arg4 harg4 arg5 harg5 arg6 harg6 arg7 harg7 arg31 harg31 arg32 harg32 arg38 arg39 x0 x1 x2 x3 x4 x5 xs0 xs1) (run.sl.r_218 (F := Ideal) c i arg2 harg2 arg3 harg3 arg4 harg4 arg5 harg5 arg6 harg6 arg7 harg7 arg31 harg31 arg32 harg32 arg38 arg39 x0 x1 x2 x3 x4 x5 xs0 xs1) (run.sl.r_231 (F := Ideal) c i arg3 harg3 arg6 harg6 arg7 harg7 arg33 x1 x4 x5) (run.sl.v2472 (F := Ideal) c i arg3 harg3 arg6 harg6 arg7 harg7 arg34 x1 x4 x5) x = G6 D b T ((Rect.unit ![256, 768] S128x128.size inb_S512x1024_S128x128_256_768 : Rect S512x1024).emb x) := by
  obtain ⟨r, l, rfl⟩ : ∃ (r l : Fin 128), x = ix2 r l := ⟨x 0, x 1, eq_ix2 x⟩
  refine Eq.trans (unit0 2 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 0, 0] S1x128x128.size inb_S16x256x256_S1x128x128_11_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 0, 128] S1x128x128.size inb_S16x256x256_S1x128x128_11_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 128, 0] S1x128x128.size inb_S16x256x256_S1x128x128_11_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![11, 128, 128] S1x128x128.size inb_S16x256x256_S1x128x128_11_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readCov (run.sl.HS2_4 (F := Ideal) c i arg3 harg3 arg6 harg6 arg7 harg7 x1 x4 x5) (Rect.unit ![3, 256, 0] S1x256x128.size inb_S4x640x128_S1x256x128_3_256_0 : Rect S4x640x128).toLoadRect) (arg34.view.readCov (run.sl.HS3_4 (F := Ideal) c i arg3 harg3 arg6 harg6 arg7 harg7 x1 x4 x5) (Rect.unit ![3, 256, 0] S1x256x128.size inb_S4x640x128_S1x256x128_3_256_0 : Rect S4x640x128).toLoadRect)
    (r11_00 H S hi) (r11_01 H S hi) (sink_read H _ _ _) (sink_read H _ _ _) (fun r d => (cov2 H (Rect.unit ![3, 256, 0] S1x256x128.size inb_S4x640x128_S1x256x128_3_256_0 : Rect S4x640x128).toLoadRect (ix3 0 r d) (by show 128 ≤ 256 + 1 * r.val; omega)).trans (half_read2 D b T 3 256 _ r d rfl rfl rfl)) (fun r d => (cov3 H (Rect.unit ![3, 256, 0] S1x256x128.size inb_S4x640x128_S1x256x128_3_256_0 : Rect S4x640x128).toLoadRect (ix3 0 r d) (by show 128 ≤ 256 + 1 * r.val; omega)).trans (half_read3 D b T 3 256 _ r d rfl rfl rfl)) r l) ?_
  show att2 D b _ _ = att2 D b (512 * T + (256 + 1 * r.val)) (768 + 1 * l.val)
  congr 1 <;> omega

theorem a2_5 (H : Inputs D b T x0 x1 x2 x3 x4 x5 x6 x7 x8 x9 x10) (S : Start D b T xs0 xs1 xs2 xs3 xs4) (hi : (i 1).val = T) (x : S128x128.Idx) :
    k0_pay482 (run.sl.r_207 (F := Ideal) c i arg2 harg2 arg3 harg3 arg4 harg4 arg5 harg5 arg6 harg6 arg7 harg7 arg31 harg31 arg32 harg32 arg38 arg39 x0 x1 x2 x3 x4 x5 xs0 xs1) (run.sl.r_208 (F := Ideal) c i arg2 harg2 arg3 harg3 arg4 harg4 arg5 harg5 arg6 harg6 arg7 harg7 arg31 harg31 arg32 harg32 arg38 arg39 x0 x1 x2 x3 x4 x5 xs0 xs1) (run.sl.r_219 (F := Ideal) c i arg3 harg3 arg6 harg6 arg7 harg7 arg33 arg34 x1 x4 x5) x = G6 D b T ((Rect.unit ![256, 640] S128x128.size inb_S512x1024_S128x128_256_640 : Rect S512x1024).emb x) := by
  obtain ⟨r, l, rfl⟩ : ∃ (r l : Fin 128), x = ix2 r l := ⟨x 0, x 1, eq_ix2 x⟩
  refine Eq.trans (unit1 2 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 0, 0] S1x128x128.size inb_S16x256x256_S1x128x128_10_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 0, 128] S1x128x128.size inb_S16x256x256_S1x128x128_10_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 128, 0] S1x128x128.size inb_S16x256x256_S1x128x128_10_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 128, 128] S1x128x128.size inb_S16x256x256_S1x128x128_10_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readCov (run.sl.HS2_4 (F := Ideal) c i arg3 harg3 arg6 harg6 arg7 harg7 x1 x4 x5) (Rect.unit ![2, 256, 0] S1x256x128.size inb_S4x640x128_S1x256x128_2_256_0 : Rect S4x640x128).toLoadRect) (arg34.view.readCov (run.sl.HS3_4 (F := Ideal) c i arg3 harg3 arg6 harg6 arg7 harg7 x1 x4 x5) (Rect.unit ![2, 256, 0] S1x256x128.size inb_S4x640x128_S1x256x128_2_256_0 : Rect S4x640x128).toLoadRect)
    (r10_10 H S hi) (r10_11 H S hi) (sink_read H _ _ _) (sink_read H _ _ _) (fun r d => (cov2 H (Rect.unit ![2, 256, 0] S1x256x128.size inb_S4x640x128_S1x256x128_2_256_0 : Rect S4x640x128).toLoadRect (ix3 0 r d) (by show 128 ≤ 256 + 1 * r.val; omega)).trans (half_read2 D b T 2 256 _ r d rfl rfl rfl)) (fun r d => (cov3 H (Rect.unit ![2, 256, 0] S1x256x128.size inb_S4x640x128_S1x256x128_2_256_0 : Rect S4x640x128).toLoadRect (ix3 0 r d) (by show 128 ≤ 256 + 1 * r.val; omega)).trans (half_read3 D b T 2 256 _ r d rfl rfl rfl)) r l) ?_
  show att2 D b _ _ = att2 D b (512 * T + (256 + 1 * r.val)) (640 + 1 * l.val)
  congr 1 <;> omega

theorem a2_4 (H : Inputs D b T x0 x1 x2 x3 x4 x5 x6 x7 x8 x9 x10) (S : Start D b T xs0 xs1 xs2 xs3 xs4) (hi : (i 1).val = T) (x : S128x128.Idx) :
    k0_pay481 (run.sl.r_203 (F := Ideal) c i arg2 harg2 arg3 harg3 arg4 harg4 arg5 harg5 arg6 harg6 arg7 harg7 arg31 harg31 arg32 harg32 arg38 arg39 x0 x1 x2 x3 x4 x5 xs0 xs1) (run.sl.r_208 (F := Ideal) c i arg2 harg2 arg3 harg3 arg4 harg4 arg5 harg5 arg6 harg6 arg7 harg7 arg31 harg31 arg32 harg32 arg38 arg39 x0 x1 x2 x3 x4 x5 xs0 xs1) (run.sl.r_219 (F := Ideal) c i arg3 harg3 arg6 harg6 arg7 harg7 arg33 arg34 x1 x4 x5) x = G6 D b T ((Rect.unit ![256, 512] S128x128.size inb_S512x1024_S128x128_256_512 : Rect S512x1024).emb x) := by
  obtain ⟨r, l, rfl⟩ : ∃ (r l : Fin 128), x = ix2 r l := ⟨x 0, x 1, eq_ix2 x⟩
  refine Eq.trans (unit0 2 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 0, 0] S1x128x128.size inb_S16x256x256_S1x128x128_10_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 0, 128] S1x128x128.size inb_S16x256x256_S1x128x128_10_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 128, 0] S1x128x128.size inb_S16x256x256_S1x128x128_10_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![10, 128, 128] S1x128x128.size inb_S16x256x256_S1x128x128_10_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readCov (run.sl.HS2_4 (F := Ideal) c i arg3 harg3 arg6 harg6 arg7 harg7 x1 x4 x5) (Rect.unit ![2, 256, 0] S1x256x128.size inb_S4x640x128_S1x256x128_2_256_0 : Rect S4x640x128).toLoadRect) (arg34.view.readCov (run.sl.HS3_4 (F := Ideal) c i arg3 harg3 arg6 harg6 arg7 harg7 x1 x4 x5) (Rect.unit ![2, 256, 0] S1x256x128.size inb_S4x640x128_S1x256x128_2_256_0 : Rect S4x640x128).toLoadRect)
    (r10_00 H S hi) (r10_01 H S hi) (sink_read H _ _ _) (sink_read H _ _ _) (fun r d => (cov2 H (Rect.unit ![2, 256, 0] S1x256x128.size inb_S4x640x128_S1x256x128_2_256_0 : Rect S4x640x128).toLoadRect (ix3 0 r d) (by show 128 ≤ 256 + 1 * r.val; omega)).trans (half_read2 D b T 2 256 _ r d rfl rfl rfl)) (fun r d => (cov3 H (Rect.unit ![2, 256, 0] S1x256x128.size inb_S4x640x128_S1x256x128_2_256_0 : Rect S4x640x128).toLoadRect (ix3 0 r d) (by show 128 ≤ 256 + 1 * r.val; omega)).trans (half_read3 D b T 2 256 _ r d rfl rfl rfl)) r l) ?_
  show att2 D b _ _ = att2 D b (512 * T + (256 + 1 * r.val)) (512 + 1 * l.val)
  congr 1 <;> omega

theorem a2_3 (H : Inputs D b T x0 x1 x2 x3 x4 x5 x6 x7 x8 x9 x10) (S : Start D b T xs0 xs1 xs2 xs3 xs4) (hi : (i 1).val = T) (x : S128x128.Idx) :
    k0_pay460 (run.sl.r_24 (F := Ideal) ) (k0_pay62 k0_pay3) (run.sl.r_200 (F := Ideal) c i arg2 harg2 arg3 harg3 arg4 harg4 arg5 harg5 arg6 harg6 arg7 harg7 arg31 harg31 arg32 harg32 arg38 arg39 x0 x1 x2 x3 x4 x5 xs0 xs1) (run.sl.r_201 (F := Ideal) c i arg2 harg2 arg3 harg3 arg4 harg4 arg5 harg5 arg6 harg6 arg7 harg7 arg31 harg31 arg32 harg32 arg38 arg39 x0 x1 x2 x3 x4 x5 xs0 xs1) (run.sl.v2219 (F := Ideal) c i arg3 harg3 arg6 harg6 arg7 harg7 arg33 x1 x4 x5) (run.sl.v2222 (F := Ideal) c i arg3 harg3 arg6 harg6 arg7 harg7 arg34 x1 x4 x5) x = G6 D b T ((Rect.unit ![256, 384] S128x128.size inb_S512x1024_S128x128_256_384 : Rect S512x1024).emb x) := by
  obtain ⟨r, l, rfl⟩ : ∃ (r l : Fin 128), x = ix2 r l := ⟨x 0, x 1, eq_ix2 x⟩
  refine Eq.trans (unit1 2 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 0, 0] S1x128x128.size inb_S16x256x256_S1x128x128_9_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 0, 128] S1x128x128.size inb_S16x256x256_S1x128x128_9_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 128, 0] S1x128x128.size inb_S16x256x256_S1x128x128_9_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 128, 128] S1x128x128.size inb_S16x256x256_S1x128x128_9_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readCov (run.sl.HS2_4 (F := Ideal) c i arg3 harg3 arg6 harg6 arg7 harg7 x1 x4 x5) (Rect.unit ![1, 256, 0] S1x256x128.size inb_S4x640x128_S1x256x128_1_256_0 : Rect S4x640x128).toLoadRect) (arg34.view.readCov (run.sl.HS3_4 (F := Ideal) c i arg3 harg3 arg6 harg6 arg7 harg7 x1 x4 x5) (Rect.unit ![1, 256, 0] S1x256x128.size inb_S4x640x128_S1x256x128_1_256_0 : Rect S4x640x128).toLoadRect)
    (r9_10 H S hi) (r9_11 H S hi) (sink_read H _ _ _) (sink_read H _ _ _) (fun r d => (cov2 H (Rect.unit ![1, 256, 0] S1x256x128.size inb_S4x640x128_S1x256x128_1_256_0 : Rect S4x640x128).toLoadRect (ix3 0 r d) (by show 128 ≤ 256 + 1 * r.val; omega)).trans (half_read2 D b T 1 256 _ r d rfl rfl rfl)) (fun r d => (cov3 H (Rect.unit ![1, 256, 0] S1x256x128.size inb_S4x640x128_S1x256x128_1_256_0 : Rect S4x640x128).toLoadRect (ix3 0 r d) (by show 128 ≤ 256 + 1 * r.val; omega)).trans (half_read3 D b T 1 256 _ r d rfl rfl rfl)) r l) ?_
  show att2 D b _ _ = att2 D b (512 * T + (256 + 1 * r.val)) (384 + 1 * l.val)
  congr 1 <;> omega

theorem a2_2 (H : Inputs D b T x0 x1 x2 x3 x4 x5 x6 x7 x8 x9 x10) (S : Start D b T xs0 xs1 xs2 xs3 xs4) (hi : (i 1).val = T) (x : S128x128.Idx) :
    k0_pay459 (run.sl.r_24 (F := Ideal) ) (k0_pay62 k0_pay3) (run.sl.r_198 (F := Ideal) c i arg2 harg2 arg3 harg3 arg4 harg4 arg5 harg5 arg6 harg6 arg7 harg7 arg31 harg31 arg32 harg32 arg38 arg39 x0 x1 x2 x3 x4 x5 xs0 xs1) (run.sl.r_201 (F := Ideal) c i arg2 harg2 arg3 harg3 arg4 harg4 arg5 harg5 arg6 harg6 arg7 harg7 arg31 harg31 arg32 harg32 arg38 arg39 x0 x1 x2 x3 x4 x5 xs0 xs1) (run.sl.v2219 (F := Ideal) c i arg3 harg3 arg6 harg6 arg7 harg7 arg33 x1 x4 x5) (run.sl.v2222 (F := Ideal) c i arg3 harg3 arg6 harg6 arg7 harg7 arg34 x1 x4 x5) x = G6 D b T ((Rect.unit ![256, 256] S128x128.size inb_S512x1024_S128x128_256_256 : Rect S512x1024).emb x) := by
  obtain ⟨r, l, rfl⟩ : ∃ (r l : Fin 128), x = ix2 r l := ⟨x 0, x 1, eq_ix2 x⟩
  refine Eq.trans (unit0 2 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 0, 0] S1x128x128.size inb_S16x256x256_S1x128x128_9_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 0, 128] S1x128x128.size inb_S16x256x256_S1x128x128_9_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 128, 0] S1x128x128.size inb_S16x256x256_S1x128x128_9_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![9, 128, 128] S1x128x128.size inb_S16x256x256_S1x128x128_9_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readCov (run.sl.HS2_4 (F := Ideal) c i arg3 harg3 arg6 harg6 arg7 harg7 x1 x4 x5) (Rect.unit ![1, 256, 0] S1x256x128.size inb_S4x640x128_S1x256x128_1_256_0 : Rect S4x640x128).toLoadRect) (arg34.view.readCov (run.sl.HS3_4 (F := Ideal) c i arg3 harg3 arg6 harg6 arg7 harg7 x1 x4 x5) (Rect.unit ![1, 256, 0] S1x256x128.size inb_S4x640x128_S1x256x128_1_256_0 : Rect S4x640x128).toLoadRect)
    (r9_00 H S hi) (r9_01 H S hi) (sink_read H _ _ _) (sink_read H _ _ _) (fun r d => (cov2 H (Rect.unit ![1, 256, 0] S1x256x128.size inb_S4x640x128_S1x256x128_1_256_0 : Rect S4x640x128).toLoadRect (ix3 0 r d) (by show 128 ≤ 256 + 1 * r.val; omega)).trans (half_read2 D b T 1 256 _ r d rfl rfl rfl)) (fun r d => (cov3 H (Rect.unit ![1, 256, 0] S1x256x128.size inb_S4x640x128_S1x256x128_1_256_0 : Rect S4x640x128).toLoadRect (ix3 0 r d) (by show 128 ≤ 256 + 1 * r.val; omega)).trans (half_read3 D b T 1 256 _ r d rfl rfl rfl)) r l) ?_
  show att2 D b _ _ = att2 D b (512 * T + (256 + 1 * r.val)) (256 + 1 * l.val)
  congr 1 <;> omega

set_option maxHeartbeats 4000000 in
theorem a2_1 (H : Inputs D b T x0 x1 x2 x3 x4 x5 x6 x7 x8 x9 x10) (S : Start D b T xs0 xs1 xs2 xs3 xs4) (hi : (i 1).val = T) (x : S128x128.Idx) :
    k0_pay436 (run.sl.r_24 (F := Ideal) ) (k0_pay62 k0_pay3) (run.sl.r_194 (F := Ideal) c i arg2 harg2 arg3 harg3 arg4 harg4 arg5 harg5 arg6 harg6 arg7 harg7 arg31 harg31 arg32 harg32 arg38 arg39 x0 x1 x2 x3 x4 x5 xs0 xs1) (run.sl.r_195 (F := Ideal) c i arg2 harg2 arg3 harg3 arg4 harg4 arg5 harg5 arg6 harg6 arg7 harg7 arg31 harg31 arg32 harg32 arg38 arg39 x0 x1 x2 x3 x4 x5 xs0 xs1) (run.sl.v2088 (F := Ideal) c i arg3 harg3 arg6 harg6 arg7 harg7 arg33 x1 x4 x5) (run.sl.v2091 (F := Ideal) c i arg3 harg3 arg6 harg6 arg7 harg7 arg34 x1 x4 x5) x = G6 D b T ((Rect.unit ![256, 128] S128x128.size inb_S512x1024_S128x128_256_128 : Rect S512x1024).emb x) := by
  obtain ⟨r, l, rfl⟩ : ∃ (r l : Fin 128), x = ix2 r l := ⟨x 0, x 1, eq_ix2 x⟩
  refine Eq.trans (unit1 2 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 0, 0] S1x128x128.size inb_S16x256x256_S1x128x128_8_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 0, 128] S1x128x128.size inb_S16x256x256_S1x128x128_8_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 128, 0] S1x128x128.size inb_S16x256x256_S1x128x128_8_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 128, 128] S1x128x128.size inb_S16x256x256_S1x128x128_8_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readCov (run.sl.HS2_4 (F := Ideal) c i arg3 harg3 arg6 harg6 arg7 harg7 x1 x4 x5) (Rect.unit ![0, 256, 0] S1x256x128.size inb_S4x640x128_S1x256x128_0_256_0 : Rect S4x640x128).toLoadRect) (arg34.view.readCov (run.sl.HS3_4 (F := Ideal) c i arg3 harg3 arg6 harg6 arg7 harg7 x1 x4 x5) (Rect.unit ![0, 256, 0] S1x256x128.size inb_S4x640x128_S1x256x128_0_256_0 : Rect S4x640x128).toLoadRect)
    (r8_10 H S hi) (r8_11 H S hi) (sink_read H _ _ _) (sink_read H _ _ _) (fun r d => (cov2 H (Rect.unit ![0, 256, 0] S1x256x128.size inb_S4x640x128_S1x256x128_0_256_0 : Rect S4x640x128).toLoadRect (ix3 0 r d) (by show 128 ≤ 256 + 1 * r.val; omega)).trans (half_read2 D b T 0 256 _ r d rfl rfl rfl)) (fun r d => (cov3 H (Rect.unit ![0, 256, 0] S1x256x128.size inb_S4x640x128_S1x256x128_0_256_0 : Rect S4x640x128).toLoadRect (ix3 0 r d) (by show 128 ≤ 256 + 1 * r.val; omega)).trans (half_read3 D b T 0 256 _ r d rfl rfl rfl)) r l) ?_
  show att2 D b _ _ = att2 D b (512 * T + (256 + 1 * r.val)) (128 + 1 * l.val)
  congr 1 <;> omega

set_option maxHeartbeats 4000000 in
theorem a2_0 (H : Inputs D b T x0 x1 x2 x3 x4 x5 x6 x7 x8 x9 x10) (S : Start D b T xs0 xs1 xs2 xs3 xs4) (hi : (i 1).val = T) (x : S128x128.Idx) :
    k0_pay435 (run.sl.r_24 (F := Ideal) ) (k0_pay62 k0_pay3) (run.sl.r_186 (F := Ideal) c i arg2 harg2 arg3 harg3 arg4 harg4 arg5 harg5 arg6 harg6 arg7 harg7 arg31 harg31 arg32 harg32 arg38 arg39 x0 x1 x2 x3 x4 x5 xs0 xs1) (run.sl.r_195 (F := Ideal) c i arg2 harg2 arg3 harg3 arg4 harg4 arg5 harg5 arg6 harg6 arg7 harg7 arg31 harg31 arg32 harg32 arg38 arg39 x0 x1 x2 x3 x4 x5 xs0 xs1) (run.sl.v2088 (F := Ideal) c i arg3 harg3 arg6 harg6 arg7 harg7 arg33 x1 x4 x5) (run.sl.v2091 (F := Ideal) c i arg3 harg3 arg6 harg6 arg7 harg7 arg34 x1 x4 x5) x = G6 D b T ((Rect.unit ![256, 0] S128x128.size inb_S512x1024_S128x128_256_0 : Rect S512x1024).emb x) := by
  obtain ⟨r, l, rfl⟩ : ∃ (r l : Fin 128), x = ix2 r l := ⟨x 0, x 1, eq_ix2 x⟩
  refine Eq.trans (unit0 2 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 0, 0] S1x128x128.size inb_S16x256x256_S1x128x128_8_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 0, 128] S1x128x128.size inb_S16x256x256_S1x128x128_8_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 128, 0] S1x128x128.size inb_S16x256x256_S1x128x128_8_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![8, 128, 128] S1x128x128.size inb_S16x256x256_S1x128x128_8_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readCov (run.sl.HS2_4 (F := Ideal) c i arg3 harg3 arg6 harg6 arg7 harg7 x1 x4 x5) (Rect.unit ![0, 256, 0] S1x256x128.size inb_S4x640x128_S1x256x128_0_256_0 : Rect S4x640x128).toLoadRect) (arg34.view.readCov (run.sl.HS3_4 (F := Ideal) c i arg3 harg3 arg6 harg6 arg7 harg7 x1 x4 x5) (Rect.unit ![0, 256, 0] S1x256x128.size inb_S4x640x128_S1x256x128_0_256_0 : Rect S4x640x128).toLoadRect)
    (r8_00 H S hi) (r8_01 H S hi) (sink_read H _ _ _) (sink_read H _ _ _) (fun r d => (cov2 H (Rect.unit ![0, 256, 0] S1x256x128.size inb_S4x640x128_S1x256x128_0_256_0 : Rect S4x640x128).toLoadRect (ix3 0 r d) (by show 128 ≤ 256 + 1 * r.val; omega)).trans (half_read2 D b T 0 256 _ r d rfl rfl rfl)) (fun r d => (cov3 H (Rect.unit ![0, 256, 0] S1x256x128.size inb_S4x640x128_S1x256x128_0_256_0 : Rect S4x640x128).toLoadRect (ix3 0 r d) (by show 128 ≤ 256 + 1 * r.val; omega)).trans (half_read3 D b T 0 256 _ r d rfl rfl rfl)) r l) ?_
  show att2 D b _ _ = att2 D b (512 * T + (256 + 1 * r.val)) (0 + 1 * l.val)
  congr 1 <;> omega

theorem a1_7 (H : Inputs D b T x0 x1 x2 x3 x4 x5 x6 x7 x8 x9 x10) (S : Start D b T xs0 xs1 xs2 xs3 xs4) (hi : (i 1).val = T) (x : S128x128.Idx) :
    k0_pay417 (run.sl.r_24 (F := Ideal) ) (k0_pay62 k0_pay3) (run.sl.r_175 (F := Ideal) c i arg2 harg2 arg3 harg3 arg4 harg4 arg5 harg5 arg6 harg6 arg7 harg7 arg31 harg31 arg32 harg32 arg38 arg39 x0 x1 x2 x3 x4 x5 xs0 xs1) (run.sl.r_176 (F := Ideal) c i arg2 harg2 arg3 harg3 arg4 harg4 arg5 harg5 arg6 harg6 arg7 harg7 arg31 harg31 arg32 harg32 arg38 arg39 x0 x1 x2 x3 x4 x5 xs0 xs1) (run.sl.v1969 (F := Ideal) c i arg3 harg3 arg6 harg6 arg7 harg7 arg33 x1 x4 x5) (run.sl.v1972 (F := Ideal) c i arg3 harg3 arg6 harg6 arg7 harg7 arg34 x1 x4 x5) x = G6 D b T ((Rect.unit ![128, 896] S128x128.size inb_S512x1024_S128x128_128_896 : Rect S512x1024).emb x) := by
  obtain ⟨r, l, rfl⟩ : ∃ (r l : Fin 128), x = ix2 r l := ⟨x 0, x 1, eq_ix2 x⟩
  refine Eq.trans (unit1 1 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 0, 0] S1x128x128.size inb_S16x256x256_S1x128x128_7_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 0, 128] S1x128x128.size inb_S16x256x256_S1x128x128_7_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 128, 0] S1x128x128.size inb_S16x256x256_S1x128x128_7_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 128, 128] S1x128x128.size inb_S16x256x256_S1x128x128_7_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readCov (run.sl.HS2_4 (F := Ideal) c i arg3 harg3 arg6 harg6 arg7 harg7 x1 x4 x5) (Rect.unit ![3, 128, 0] S1x256x128.size inb_S4x640x128_S1x256x128_3_128_0 : Rect S4x640x128).toLoadRect) (arg34.view.readCov (run.sl.HS3_4 (F := Ideal) c i arg3 harg3 arg6 harg6 arg7 harg7 x1 x4 x5) (Rect.unit ![3, 128, 0] S1x256x128.size inb_S4x640x128_S1x256x128_3_128_0 : Rect S4x640x128).toLoadRect)
    (r7_10 H S hi) (r7_11 H S hi) (sink_read H _ _ _) (sink_read H _ _ _) (fun r d => (cov2 H (Rect.unit ![3, 128, 0] S1x256x128.size inb_S4x640x128_S1x256x128_3_128_0 : Rect S4x640x128).toLoadRect (ix3 0 r d) (by show 128 ≤ 128 + 1 * r.val; omega)).trans (half_read2 D b T 3 128 _ r d rfl rfl rfl)) (fun r d => (cov3 H (Rect.unit ![3, 128, 0] S1x256x128.size inb_S4x640x128_S1x256x128_3_128_0 : Rect S4x640x128).toLoadRect (ix3 0 r d) (by show 128 ≤ 128 + 1 * r.val; omega)).trans (half_read3 D b T 3 128 _ r d rfl rfl rfl)) r l) ?_
  show att2 D b _ _ = att2 D b (512 * T + (128 + 1 * r.val)) (896 + 1 * l.val)
  congr 1 <;> omega

theorem a1_6 (H : Inputs D b T x0 x1 x2 x3 x4 x5 x6 x7 x8 x9 x10) (S : Start D b T xs0 xs1 xs2 xs3 xs4) (hi : (i 1).val = T) (x : S128x128.Idx) :
    k0_pay416 (run.sl.r_24 (F := Ideal) ) (k0_pay62 k0_pay3) (run.sl.r_168 (F := Ideal) c i arg2 harg2 arg3 harg3 arg4 harg4 arg5 harg5 arg6 harg6 arg7 harg7 arg31 harg31 arg32 harg32 arg38 arg39 x0 x1 x2 x3 x4 x5 xs0 xs1) (run.sl.r_176 (F := Ideal) c i arg2 harg2 arg3 harg3 arg4 harg4 arg5 harg5 arg6 harg6 arg7 harg7 arg31 harg31 arg32 harg32 arg38 arg39 x0 x1 x2 x3 x4 x5 xs0 xs1) (run.sl.v1969 (F := Ideal) c i arg3 harg3 arg6 harg6 arg7 harg7 arg33 x1 x4 x5) (run.sl.v1972 (F := Ideal) c i arg3 harg3 arg6 harg6 arg7 harg7 arg34 x1 x4 x5) x = G6 D b T ((Rect.unit ![128, 768] S128x128.size inb_S512x1024_S128x128_128_768 : Rect S512x1024).emb x) := by
  obtain ⟨r, l, rfl⟩ : ∃ (r l : Fin 128), x = ix2 r l := ⟨x 0, x 1, eq_ix2 x⟩
  refine Eq.trans (unit0 1 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 0, 0] S1x128x128.size inb_S16x256x256_S1x128x128_7_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 0, 128] S1x128x128.size inb_S16x256x256_S1x128x128_7_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 128, 0] S1x128x128.size inb_S16x256x256_S1x128x128_7_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![7, 128, 128] S1x128x128.size inb_S16x256x256_S1x128x128_7_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readCov (run.sl.HS2_4 (F := Ideal) c i arg3 harg3 arg6 harg6 arg7 harg7 x1 x4 x5) (Rect.unit ![3, 128, 0] S1x256x128.size inb_S4x640x128_S1x256x128_3_128_0 : Rect S4x640x128).toLoadRect) (arg34.view.readCov (run.sl.HS3_4 (F := Ideal) c i arg3 harg3 arg6 harg6 arg7 harg7 x1 x4 x5) (Rect.unit ![3, 128, 0] S1x256x128.size inb_S4x640x128_S1x256x128_3_128_0 : Rect S4x640x128).toLoadRect)
    (r7_00 H S hi) (r7_01 H S hi) (sink_read H _ _ _) (sink_read H _ _ _) (fun r d => (cov2 H (Rect.unit ![3, 128, 0] S1x256x128.size inb_S4x640x128_S1x256x128_3_128_0 : Rect S4x640x128).toLoadRect (ix3 0 r d) (by show 128 ≤ 128 + 1 * r.val; omega)).trans (half_read2 D b T 3 128 _ r d rfl rfl rfl)) (fun r d => (cov3 H (Rect.unit ![3, 128, 0] S1x256x128.size inb_S4x640x128_S1x256x128_3_128_0 : Rect S4x640x128).toLoadRect (ix3 0 r d) (by show 128 ≤ 128 + 1 * r.val; omega)).trans (half_read3 D b T 3 128 _ r d rfl rfl rfl)) r l) ?_
  show att2 D b _ _ = att2 D b (512 * T + (128 + 1 * r.val)) (768 + 1 * l.val)
  congr 1 <;> omega

theorem a1_5 (H : Inputs D b T x0 x1 x2 x3 x4 x5 x6 x7 x8 x9 x10) (S : Start D b T xs0 xs1 xs2 xs3 xs4) (hi : (i 1).val = T) (x : S128x128.Idx) :
    k0_pay383 (run.sl.r_24 (F := Ideal) ) (k0_pay62 k0_pay3) (run.sl.r_162 (F := Ideal) c i arg2 harg2 arg3 harg3 arg4 harg4 arg5 harg5 arg6 harg6 arg7 harg7 arg31 harg31 arg32 harg32 arg38 arg39 x0 x1 x2 x3 x4 x5 xs0 xs1) (run.sl.r_163 (F := Ideal) c i arg2 harg2 arg3 harg3 arg4 harg4 arg5 harg5 arg6 harg6 arg7 harg7 arg31 harg31 arg32 harg32 arg38 arg39 x0 x1 x2 x3 x4 x5 xs0 xs1) (run.sl.v1838 (F := Ideal) c i arg3 harg3 arg6 harg6 arg7 harg7 arg33 x1 x4 x5) (run.sl.v1841 (F := Ideal) c i arg3 harg3 arg6 harg6 arg7 harg7 arg34 x1 x4 x5) x = G6 D b T ((Rect.unit ![128, 640] S128x128.size inb_S512x1024_S128x128_128_640 : Rect S512x1024).emb x) := by
  obtain ⟨r, l, rfl⟩ : ∃ (r l : Fin 128), x = ix2 r l := ⟨x 0, x 1, eq_ix2 x⟩
  refine Eq.trans (unit1 1 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 0, 0] S1x128x128.size inb_S16x256x256_S1x128x128_6_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 0, 128] S1x128x128.size inb_S16x256x256_S1x128x128_6_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 128, 0] S1x128x128.size inb_S16x256x256_S1x128x128_6_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 128, 128] S1x128x128.size inb_S16x256x256_S1x128x128_6_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readCov (run.sl.HS2_4 (F := Ideal) c i arg3 harg3 arg6 harg6 arg7 harg7 x1 x4 x5) (Rect.unit ![2, 128, 0] S1x256x128.size inb_S4x640x128_S1x256x128_2_128_0 : Rect S4x640x128).toLoadRect) (arg34.view.readCov (run.sl.HS3_4 (F := Ideal) c i arg3 harg3 arg6 harg6 arg7 harg7 x1 x4 x5) (Rect.unit ![2, 128, 0] S1x256x128.size inb_S4x640x128_S1x256x128_2_128_0 : Rect S4x640x128).toLoadRect)
    (r6_10 H S hi) (r6_11 H S hi) (sink_read H _ _ _) (sink_read H _ _ _) (fun r d => (cov2 H (Rect.unit ![2, 128, 0] S1x256x128.size inb_S4x640x128_S1x256x128_2_128_0 : Rect S4x640x128).toLoadRect (ix3 0 r d) (by show 128 ≤ 128 + 1 * r.val; omega)).trans (half_read2 D b T 2 128 _ r d rfl rfl rfl)) (fun r d => (cov3 H (Rect.unit ![2, 128, 0] S1x256x128.size inb_S4x640x128_S1x256x128_2_128_0 : Rect S4x640x128).toLoadRect (ix3 0 r d) (by show 128 ≤ 128 + 1 * r.val; omega)).trans (half_read3 D b T 2 128 _ r d rfl rfl rfl)) r l) ?_
  show att2 D b _ _ = att2 D b (512 * T + (128 + 1 * r.val)) (640 + 1 * l.val)
  congr 1 <;> omega

theorem a1_4 (H : Inputs D b T x0 x1 x2 x3 x4 x5 x6 x7 x8 x9 x10) (S : Start D b T xs0 xs1 xs2 xs3 xs4) (hi : (i 1).val = T) (x : S128x128.Idx) :
    k0_pay382 (run.sl.r_24 (F := Ideal) ) (k0_pay62 k0_pay3) (run.sl.r_155 (F := Ideal) c i arg2 harg2 arg3 harg3 arg4 harg4 arg5 harg5 arg6 harg6 arg7 harg7 arg31 harg31 arg32 harg32 arg38 arg39 x0 x1 x2 x3 x4 x5 xs0 xs1) (run.sl.r_163 (F := Ideal) c i arg2 harg2 arg3 harg3 arg4 harg4 arg5 harg5 arg6 harg6 arg7 harg7 arg31 harg31 arg32 harg32 arg38 arg39 x0 x1 x2 x3 x4 x5 xs0 xs1) (run.sl.v1838 (F := Ideal) c i arg3 harg3 arg6 harg6 arg7 harg7 arg33 x1 x4 x5) (run.sl.v1841 (F := Ideal) c i arg3 harg3 arg6 harg6 arg7 harg7 arg34 x1 x4 x5) x = G6 D b T ((Rect.unit ![128, 512] S128x128.size inb_S512x1024_S128x128_128_512 : Rect S512x1024).emb x) := by
  obtain ⟨r, l, rfl⟩ : ∃ (r l : Fin 128), x = ix2 r l := ⟨x 0, x 1, eq_ix2 x⟩
  refine Eq.trans (unit0 1 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 0, 0] S1x128x128.size inb_S16x256x256_S1x128x128_6_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 0, 128] S1x128x128.size inb_S16x256x256_S1x128x128_6_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 128, 0] S1x128x128.size inb_S16x256x256_S1x128x128_6_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![6, 128, 128] S1x128x128.size inb_S16x256x256_S1x128x128_6_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readCov (run.sl.HS2_4 (F := Ideal) c i arg3 harg3 arg6 harg6 arg7 harg7 x1 x4 x5) (Rect.unit ![2, 128, 0] S1x256x128.size inb_S4x640x128_S1x256x128_2_128_0 : Rect S4x640x128).toLoadRect) (arg34.view.readCov (run.sl.HS3_4 (F := Ideal) c i arg3 harg3 arg6 harg6 arg7 harg7 x1 x4 x5) (Rect.unit ![2, 128, 0] S1x256x128.size inb_S4x640x128_S1x256x128_2_128_0 : Rect S4x640x128).toLoadRect)
    (r6_00 H S hi) (r6_01 H S hi) (sink_read H _ _ _) (sink_read H _ _ _) (fun r d => (cov2 H (Rect.unit ![2, 128, 0] S1x256x128.size inb_S4x640x128_S1x256x128_2_128_0 : Rect S4x640x128).toLoadRect (ix3 0 r d) (by show 128 ≤ 128 + 1 * r.val; omega)).trans (half_read2 D b T 2 128 _ r d rfl rfl rfl)) (fun r d => (cov3 H (Rect.unit ![2, 128, 0] S1x256x128.size inb_S4x640x128_S1x256x128_2_128_0 : Rect S4x640x128).toLoadRect (ix3 0 r d) (by show 128 ≤ 128 + 1 * r.val; omega)).trans (half_read3 D b T 2 128 _ r d rfl rfl rfl)) r l) ?_
  show att2 D b _ _ = att2 D b (512 * T + (128 + 1 * r.val)) (512 + 1 * l.val)
  congr 1 <;> omega

theorem a1_3 (H : Inputs D b T x0 x1 x2 x3 x4 x5 x6 x7 x8 x9 x10) (S : Start D b T xs0 xs1 xs2 xs3 xs4) (hi : (i 1).val = T) (x : S128x128.Idx) :
    k0_pay353 (run.sl.r_164 (F := Ideal) c i arg2 harg2 arg3 harg3 arg4 harg4 arg5 harg5 arg6 harg6 arg7 harg7 arg31 harg31 arg32 harg32 arg33 arg34 arg38 arg39 x0 x1 x2 x3 x4 x5 xs0 xs1) x = G6 D b T ((Rect.unit ![128, 384] S128x128.size inb_S512x1024_S128x128_128_384 : Rect S512x1024).emb x) := by
  obtain ⟨r, l, rfl⟩ : ∃ (r l : Fin 128), x = ix2 r l := ⟨x 0, x 1, eq_ix2 x⟩
  refine Eq.trans (unit1 1 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 0, 0] S1x128x128.size inb_S16x256x256_S1x128x128_5_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 0, 128] S1x128x128.size inb_S16x256x256_S1x128x128_5_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 128, 0] S1x128x128.size inb_S16x256x256_S1x128x128_5_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 128, 128] S1x128x128.size inb_S16x256x256_S1x128x128_5_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readCov (run.sl.HS2_4 (F := Ideal) c i arg3 harg3 arg6 harg6 arg7 harg7 x1 x4 x5) (Rect.unit ![1, 128, 0] S1x256x128.size inb_S4x640x128_S1x256x128_1_128_0 : Rect S4x640x128).toLoadRect) (arg34.view.readCov (run.sl.HS3_4 (F := Ideal) c i arg3 harg3 arg6 harg6 arg7 harg7 x1 x4 x5) (Rect.unit ![1, 128, 0] S1x256x128.size inb_S4x640x128_S1x256x128_1_128_0 : Rect S4x640x128).toLoadRect)
    (r5_10 H S hi) (r5_11 H S hi) (sink_read H _ _ _) (sink_read H _ _ _) (fun r d => (cov2 H (Rect.unit ![1, 128, 0] S1x256x128.size inb_S4x640x128_S1x256x128_1_128_0 : Rect S4x640x128).toLoadRect (ix3 0 r d) (by show 128 ≤ 128 + 1 * r.val; omega)).trans (half_read2 D b T 1 128 _ r d rfl rfl rfl)) (fun r d => (cov3 H (Rect.unit ![1, 128, 0] S1x256x128.size inb_S4x640x128_S1x256x128_1_128_0 : Rect S4x640x128).toLoadRect (ix3 0 r d) (by show 128 ≤ 128 + 1 * r.val; omega)).trans (half_read3 D b T 1 128 _ r d rfl rfl rfl)) r l) ?_
  show att2 D b _ _ = att2 D b (512 * T + (128 + 1 * r.val)) (384 + 1 * l.val)
  congr 1 <;> omega

theorem a1_2 (H : Inputs D b T x0 x1 x2 x3 x4 x5 x6 x7 x8 x9 x10) (S : Start D b T xs0 xs1 xs2 xs3 xs4) (hi : (i 1).val = T) (x : S128x128.Idx) :
    k0_pay351 (run.sl.r_24 (F := Ideal) ) (k0_pay62 k0_pay3) (run.sl.r_138 (F := Ideal) c i arg2 harg2 arg3 harg3 arg4 harg4 arg5 harg5 arg6 harg6 arg7 harg7 arg31 harg31 arg32 harg32 arg38 arg39 x0 x1 x2 x3 x4 x5 xs0 xs1) (run.sl.r_146 (F := Ideal) c i arg2 harg2 arg3 harg3 arg4 harg4 arg5 harg5 arg6 harg6 arg7 harg7 arg31 harg31 arg32 harg32 arg38 arg39 x0 x1 x2 x3 x4 x5 xs0 xs1) (run.sl.v1719 (F := Ideal) c i arg3 harg3 arg6 harg6 arg7 harg7 arg33 x1 x4 x5) (run.sl.v1722 (F := Ideal) c i arg3 harg3 arg6 harg6 arg7 harg7 arg34 x1 x4 x5) x = G6 D b T ((Rect.unit ![128, 256] S128x128.size inb_S512x1024_S128x128_128_256 : Rect S512x1024).emb x) := by
  obtain ⟨r, l, rfl⟩ : ∃ (r l : Fin 128), x = ix2 r l := ⟨x 0, x 1, eq_ix2 x⟩
  refine Eq.trans (unit0 1 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 0, 0] S1x128x128.size inb_S16x256x256_S1x128x128_5_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 0, 128] S1x128x128.size inb_S16x256x256_S1x128x128_5_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 128, 0] S1x128x128.size inb_S16x256x256_S1x128x128_5_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![5, 128, 128] S1x128x128.size inb_S16x256x256_S1x128x128_5_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readCov (run.sl.HS2_4 (F := Ideal) c i arg3 harg3 arg6 harg6 arg7 harg7 x1 x4 x5) (Rect.unit ![1, 128, 0] S1x256x128.size inb_S4x640x128_S1x256x128_1_128_0 : Rect S4x640x128).toLoadRect) (arg34.view.readCov (run.sl.HS3_4 (F := Ideal) c i arg3 harg3 arg6 harg6 arg7 harg7 x1 x4 x5) (Rect.unit ![1, 128, 0] S1x256x128.size inb_S4x640x128_S1x256x128_1_128_0 : Rect S4x640x128).toLoadRect)
    (r5_00 H S hi) (r5_01 H S hi) (sink_read H _ _ _) (sink_read H _ _ _) (fun r d => (cov2 H (Rect.unit ![1, 128, 0] S1x256x128.size inb_S4x640x128_S1x256x128_1_128_0 : Rect S4x640x128).toLoadRect (ix3 0 r d) (by show 128 ≤ 128 + 1 * r.val; omega)).trans (half_read2 D b T 1 128 _ r d rfl rfl rfl)) (fun r d => (cov3 H (Rect.unit ![1, 128, 0] S1x256x128.size inb_S4x640x128_S1x256x128_1_128_0 : Rect S4x640x128).toLoadRect (ix3 0 r d) (by show 128 ≤ 128 + 1 * r.val; omega)).trans (half_read3 D b T 1 128 _ r d rfl rfl rfl)) r l) ?_
  show att2 D b _ _ = att2 D b (512 * T + (128 + 1 * r.val)) (256 + 1 * l.val)
  congr 1 <;> omega

theorem a1_1 (H : Inputs D b T x0 x1 x2 x3 x4 x5 x6 x7 x8 x9 x10) (S : Start D b T xs0 xs1 xs2 xs3 xs4) (hi : (i 1).val = T) (x : S128x128.Idx) :
    k0_pay321 (run.sl.r_24 (F := Ideal) ) (k0_pay62 k0_pay3) (run.sl.r_127 (F := Ideal) c i arg2 harg2 arg3 harg3 arg4 harg4 arg5 harg5 arg6 harg6 arg7 harg7 arg31 harg31 arg32 harg32 arg38 arg39 x0 x1 x2 x3 x4 x5 xs0 xs1) (run.sl.r_128 (F := Ideal) c i arg2 harg2 arg3 harg3 arg4 harg4 arg5 harg5 arg6 harg6 arg7 harg7 arg31 harg31 arg32 harg32 arg38 arg39 x0 x1 x2 x3 x4 x5 xs0 xs1) (run.sl.v1588 (F := Ideal) c i arg3 harg3 arg6 harg6 arg7 harg7 arg33 x1 x4 x5) (run.sl.v1591 (F := Ideal) c i arg3 harg3 arg6 harg6 arg7 harg7 arg34 x1 x4 x5) x = G6 D b T ((Rect.unit ![128, 128] S128x128.size inb_S512x1024_S128x128_128_128 : Rect S512x1024).emb x) := by
  obtain ⟨r, l, rfl⟩ : ∃ (r l : Fin 128), x = ix2 r l := ⟨x 0, x 1, eq_ix2 x⟩
  refine Eq.trans (unit1 1 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 0, 0] S1x128x128.size inb_S16x256x256_S1x128x128_4_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 0, 128] S1x128x128.size inb_S16x256x256_S1x128x128_4_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 128, 0] S1x128x128.size inb_S16x256x256_S1x128x128_4_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 128, 128] S1x128x128.size inb_S16x256x256_S1x128x128_4_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readCov (run.sl.HS2_4 (F := Ideal) c i arg3 harg3 arg6 harg6 arg7 harg7 x1 x4 x5) (Rect.unit ![0, 128, 0] S1x256x128.size inb_S4x640x128_S1x256x128_0_128_0 : Rect S4x640x128).toLoadRect) (arg34.view.readCov (run.sl.HS3_4 (F := Ideal) c i arg3 harg3 arg6 harg6 arg7 harg7 x1 x4 x5) (Rect.unit ![0, 128, 0] S1x256x128.size inb_S4x640x128_S1x256x128_0_128_0 : Rect S4x640x128).toLoadRect)
    (r4_10 H S hi) (r4_11 H S hi) (sink_read H _ _ _) (sink_read H _ _ _) (fun r d => (cov2 H (Rect.unit ![0, 128, 0] S1x256x128.size inb_S4x640x128_S1x256x128_0_128_0 : Rect S4x640x128).toLoadRect (ix3 0 r d) (by show 128 ≤ 128 + 1 * r.val; omega)).trans (half_read2 D b T 0 128 _ r d rfl rfl rfl)) (fun r d => (cov3 H (Rect.unit ![0, 128, 0] S1x256x128.size inb_S4x640x128_S1x256x128_0_128_0 : Rect S4x640x128).toLoadRect (ix3 0 r d) (by show 128 ≤ 128 + 1 * r.val; omega)).trans (half_read3 D b T 0 128 _ r d rfl rfl rfl)) r l) ?_
  show att2 D b _ _ = att2 D b (512 * T + (128 + 1 * r.val)) (128 + 1 * l.val)
  congr 1 <;> omega

theorem a1_0 (H : Inputs D b T x0 x1 x2 x3 x4 x5 x6 x7 x8 x9 x10) (S : Start D b T xs0 xs1 xs2 xs3 xs4) (hi : (i 1).val = T) (x : S128x128.Idx) :
    k0_pay320 (run.sl.r_24 (F := Ideal) ) (k0_pay62 k0_pay3) (run.sl.r_123 (F := Ideal) c i arg2 harg2 arg3 harg3 arg4 harg4 arg5 harg5 arg6 harg6 arg7 harg7 arg31 harg31 arg32 harg32 arg38 arg39 x0 x1 x2 x3 x4 x5 xs0 xs1) (run.sl.r_128 (F := Ideal) c i arg2 harg2 arg3 harg3 arg4 harg4 arg5 harg5 arg6 harg6 arg7 harg7 arg31 harg31 arg32 harg32 arg38 arg39 x0 x1 x2 x3 x4 x5 xs0 xs1) (run.sl.v1588 (F := Ideal) c i arg3 harg3 arg6 harg6 arg7 harg7 arg33 x1 x4 x5) (run.sl.v1591 (F := Ideal) c i arg3 harg3 arg6 harg6 arg7 harg7 arg34 x1 x4 x5) x = G6 D b T ((Rect.unit ![128, 0] S128x128.size inb_S512x1024_S128x128_128_0 : Rect S512x1024).emb x) := by
  obtain ⟨r, l, rfl⟩ : ∃ (r l : Fin 128), x = ix2 r l := ⟨x 0, x 1, eq_ix2 x⟩
  refine Eq.trans (unit0 1 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 0, 0] S1x128x128.size inb_S16x256x256_S1x128x128_4_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 0, 128] S1x128x128.size inb_S16x256x256_S1x128x128_4_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 128, 0] S1x128x128.size inb_S16x256x256_S1x128x128_4_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![4, 128, 128] S1x128x128.size inb_S16x256x256_S1x128x128_4_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readCov (run.sl.HS2_4 (F := Ideal) c i arg3 harg3 arg6 harg6 arg7 harg7 x1 x4 x5) (Rect.unit ![0, 128, 0] S1x256x128.size inb_S4x640x128_S1x256x128_0_128_0 : Rect S4x640x128).toLoadRect) (arg34.view.readCov (run.sl.HS3_4 (F := Ideal) c i arg3 harg3 arg6 harg6 arg7 harg7 x1 x4 x5) (Rect.unit ![0, 128, 0] S1x256x128.size inb_S4x640x128_S1x256x128_0_128_0 : Rect S4x640x128).toLoadRect)
    (r4_00 H S hi) (r4_01 H S hi) (sink_read H _ _ _) (sink_read H _ _ _) (fun r d => (cov2 H (Rect.unit ![0, 128, 0] S1x256x128.size inb_S4x640x128_S1x256x128_0_128_0 : Rect S4x640x128).toLoadRect (ix3 0 r d) (by show 128 ≤ 128 + 1 * r.val; omega)).trans (half_read2 D b T 0 128 _ r d rfl rfl rfl)) (fun r d => (cov3 H (Rect.unit ![0, 128, 0] S1x256x128.size inb_S4x640x128_S1x256x128_0_128_0 : Rect S4x640x128).toLoadRect (ix3 0 r d) (by show 128 ≤ 128 + 1 * r.val; omega)).trans (half_read3 D b T 0 128 _ r d rfl rfl rfl)) r l) ?_
  show att2 D b _ _ = att2 D b (512 * T + (128 + 1 * r.val)) (0 + 1 * l.val)
  congr 1 <;> omega

theorem a0_7 (H : Inputs D b T x0 x1 x2 x3 x4 x5 x6 x7 x8 x9 x10) (S : Start D b T xs0 xs1 xs2 xs3 xs4) (hi : (i 1).val = T) (x : S128x128.Idx) :
    k0_pay292 (run.sl.r_115 (F := Ideal) c i arg2 harg2 arg3 harg3 arg4 harg4 arg5 harg5 arg6 harg6 arg7 harg7 arg31 harg31 arg32 harg32 arg38 arg39 x0 x1 x2 x3 x4 x5 xs0 xs1) (run.sl.r_129 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) x = G6 D b T ((Rect.unit ![0, 896] S128x128.size inb_S512x1024_S128x128_0_896 : Rect S512x1024).emb x) := by
  obtain ⟨r, l, rfl⟩ : ∃ (r l : Fin 128), x = ix2 r l := ⟨x 0, x 1, eq_ix2 x⟩
  refine Eq.trans (unit1 0 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 0, 0] S1x128x128.size inb_S16x256x256_S1x128x128_3_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 0, 128] S1x128x128.size inb_S16x256x256_S1x128x128_3_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 128, 0] S1x128x128.size inb_S16x256x256_S1x128x128_3_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 128, 128] S1x128x128.size inb_S16x256x256_S1x128x128_3_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readAt (Elt Ideal) (Rect.unit ![3, 0, 0] S1x256x128.size inb_S4x640x128_S1x256x128_3_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![3, 0, 0] S1x256x128.size inb_S4x640x128_S1x256x128_3_0_0 : Rect S4x640x128).toLoadRect (arg34.view.writes (Elt Ideal) (harg34.unread xs3) (run.sl.HS3_4 (F := Ideal) c i arg3 harg3 arg6 harg6 arg7 harg7 x1 x4 x5)))
    (r3_10 H S hi) (r3_11 H S hi) (sink_read H _ _ _) (sink_read H _ _ _) (fun r d => (win2 H S (Rect.unit ![3, 0, 0] S1x256x128.size inb_S4x640x128_S1x256x128_3_0_0 : Rect S4x640x128).toLoadRect (ix3 0 r d)).trans (half_read2 D b T 3 0 _ r d rfl rfl rfl)) (fun r d => (win3 H S (Rect.unit ![3, 0, 0] S1x256x128.size inb_S4x640x128_S1x256x128_3_0_0 : Rect S4x640x128).toLoadRect (ix3 0 r d)).trans (half_read3 D b T 3 0 _ r d rfl rfl rfl)) r l) ?_
  show att2 D b _ _ = att2 D b (512 * T + (0 + 1 * r.val)) (896 + 1 * l.val)
  congr 1 <;> omega

theorem a0_6 (H : Inputs D b T x0 x1 x2 x3 x4 x5 x6 x7 x8 x9 x10) (S : Start D b T xs0 xs1 xs2 xs3 xs4) (hi : (i 1).val = T) (x : S128x128.Idx) :
    k0_pay291 (run.sl.r_130 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) x = G6 D b T ((Rect.unit ![0, 768] S128x128.size inb_S512x1024_S128x128_0_768 : Rect S512x1024).emb x) := by
  obtain ⟨r, l, rfl⟩ : ∃ (r l : Fin 128), x = ix2 r l := ⟨x 0, x 1, eq_ix2 x⟩
  refine Eq.trans (unit0 0 3 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 0, 0] S1x128x128.size inb_S16x256x256_S1x128x128_3_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 0, 128] S1x128x128.size inb_S16x256x256_S1x128x128_3_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 128, 0] S1x128x128.size inb_S16x256x256_S1x128x128_3_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![3, 128, 128] S1x128x128.size inb_S16x256x256_S1x128x128_3_128_128 : Rect S16x256x256).toLoadRect) (arg2.view.readAt (Elt Ideal) (Rect.unit ![12] S1.size inb_S16_S1_12 : Rect S16).toLoadRect (harg2.unread x0) (Shape.Idx.first (by decide))) (arg2.view.readAt (Elt Ideal) (Rect.unit ![13] S1.size inb_S16_S1_13 : Rect S16).toLoadRect (harg2.unread x0) (Shape.Idx.first (by decide))) (arg2.view.readAt (Elt Ideal) (Rect.unit ![14] S1.size inb_S16_S1_14 : Rect S16).toLoadRect (harg2.unread x0) (Shape.Idx.first (by decide))) (arg2.view.readAt (Elt Ideal) (Rect.unit ![15] S1.size inb_S16_S1_15 : Rect S16).toLoadRect (harg2.unread x0) (Shape.Idx.first (by decide))) (arg33.view.readAt (Elt Ideal) (Rect.unit ![3, 0, 0] S1x256x128.size inb_S4x640x128_S1x256x128_3_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![3, 0, 0] S1x256x128.size inb_S4x640x128_S1x256x128_3_0_0 : Rect S4x640x128).toLoadRect (arg34.view.writes (Elt Ideal) (harg34.unread xs3) (run.sl.HS3_4 (F := Ideal) c i arg3 harg3 arg6 harg6 arg7 harg7 x1 x4 x5)))
    (r3_00 H S hi) (r3_01 H S hi) (sink_read H _ _ _) (sink_read H _ _ _) (fun r d => (win2 H S (Rect.unit ![3, 0, 0] S1x256x128.size inb_S4x640x128_S1x256x128_3_0_0 : Rect S4x640x128).toLoadRect (ix3 0 r d)).trans (half_read2 D b T 3 0 _ r d rfl rfl rfl)) (fun r d => (win3 H S (Rect.unit ![3, 0, 0] S1x256x128.size inb_S4x640x128_S1x256x128_3_0_0 : Rect S4x640x128).toLoadRect (ix3 0 r d)).trans (half_read3 D b T 3 0 _ r d rfl rfl rfl)) r l) ?_
  show att2 D b _ _ = att2 D b (512 * T + (0 + 1 * r.val)) (768 + 1 * l.val)
  congr 1 <;> omega

theorem a0_5 (H : Inputs D b T x0 x1 x2 x3 x4 x5 x6 x7 x8 x9 x10) (S : Start D b T xs0 xs1 xs2 xs3 xs4) (hi : (i 1).val = T) (x : S128x128.Idx) :
    k0_pay263 (run.sl.r_98 (F := Ideal) c i arg2 harg2 arg3 harg3 arg4 harg4 arg5 harg5 arg6 harg6 arg7 harg7 arg31 harg31 arg32 harg32 arg38 arg39 x0 x1 x2 x3 x4 x5 xs0 xs1) (run.sl.r_117 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) (run.sl.r_118 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) x = G6 D b T ((Rect.unit ![0, 640] S128x128.size inb_S512x1024_S128x128_0_640 : Rect S512x1024).emb x) := by
  obtain ⟨r, l, rfl⟩ : ∃ (r l : Fin 128), x = ix2 r l := ⟨x 0, x 1, eq_ix2 x⟩
  refine Eq.trans (unit1 0 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 0, 0] S1x128x128.size inb_S16x256x256_S1x128x128_2_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 0, 128] S1x128x128.size inb_S16x256x256_S1x128x128_2_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 128, 0] S1x128x128.size inb_S16x256x256_S1x128x128_2_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 128, 128] S1x128x128.size inb_S16x256x256_S1x128x128_2_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readAt (Elt Ideal) (Rect.unit ![2, 0, 0] S1x256x128.size inb_S4x640x128_S1x256x128_2_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![2, 0, 0] S1x256x128.size inb_S4x640x128_S1x256x128_2_0_0 : Rect S4x640x128).toLoadRect (arg34.view.writes (Elt Ideal) (harg34.unread xs3) (run.sl.HS3_4 (F := Ideal) c i arg3 harg3 arg6 harg6 arg7 harg7 x1 x4 x5)))
    (r2_10 H S hi) (r2_11 H S hi) (sink_read H _ _ _) (sink_read H _ _ _) (fun r d => (win2 H S (Rect.unit ![2, 0, 0] S1x256x128.size inb_S4x640x128_S1x256x128_2_0_0 : Rect S4x640x128).toLoadRect (ix3 0 r d)).trans (half_read2 D b T 2 0 _ r d rfl rfl rfl)) (fun r d => (win3 H S (Rect.unit ![2, 0, 0] S1x256x128.size inb_S4x640x128_S1x256x128_2_0_0 : Rect S4x640x128).toLoadRect (ix3 0 r d)).trans (half_read3 D b T 2 0 _ r d rfl rfl rfl)) r l) ?_
  show att2 D b _ _ = att2 D b (512 * T + (0 + 1 * r.val)) (640 + 1 * l.val)
  congr 1 <;> omega

theorem a0_4 (H : Inputs D b T x0 x1 x2 x3 x4 x5 x6 x7 x8 x9 x10) (S : Start D b T xs0 xs1 xs2 xs3 xs4) (hi : (i 1).val = T) (x : S128x128.Idx) :
    k0_pay260 (run.sl.r_24 (F := Ideal) ) (k0_pay62 k0_pay3) (run.sl.r_93 (F := Ideal) c i arg2 harg2 arg3 harg3 arg4 harg4 arg5 harg5 arg6 harg6 arg7 harg7 arg31 harg31 arg32 harg32 arg38 arg39 x0 x1 x2 x3 x4 x5 xs0 xs1) (run.sl.r_99 (F := Ideal) c i arg2 harg2 arg3 harg3 arg4 harg4 arg5 harg5 arg6 harg6 arg7 harg7 arg31 harg31 arg32 harg32 arg38 arg39 x0 x1 x2 x3 x4 x5 xs0 xs1) (run.sl.v1338 (F := Ideal) c i arg3 harg3 arg6 harg6 arg7 harg7 arg33 harg33 x1 x4 x5 xs2) (run.sl.v1341 (F := Ideal) c i arg3 harg3 arg6 harg6 arg7 harg7 arg34 harg34 x1 x4 x5 xs3) x = G6 D b T ((Rect.unit ![0, 512] S128x128.size inb_S512x1024_S128x128_0_512 : Rect S512x1024).emb x) := by
  obtain ⟨r, l, rfl⟩ : ∃ (r l : Fin 128), x = ix2 r l := ⟨x 0, x 1, eq_ix2 x⟩
  refine Eq.trans (unit0 0 2 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 0, 0] S1x128x128.size inb_S16x256x256_S1x128x128_2_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 0, 128] S1x128x128.size inb_S16x256x256_S1x128x128_2_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 128, 0] S1x128x128.size inb_S16x256x256_S1x128x128_2_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![2, 128, 128] S1x128x128.size inb_S16x256x256_S1x128x128_2_128_128 : Rect S16x256x256).toLoadRect) (arg2.view.readAt (Elt Ideal) (Rect.unit ![8] S1.size inb_S16_S1_8 : Rect S16).toLoadRect (harg2.unread x0) (Shape.Idx.first (by decide))) (arg2.view.readAt (Elt Ideal) (Rect.unit ![9] S1.size inb_S16_S1_9 : Rect S16).toLoadRect (harg2.unread x0) (Shape.Idx.first (by decide))) (arg2.view.readAt (Elt Ideal) (Rect.unit ![10] S1.size inb_S16_S1_10 : Rect S16).toLoadRect (harg2.unread x0) (Shape.Idx.first (by decide))) (arg2.view.readAt (Elt Ideal) (Rect.unit ![11] S1.size inb_S16_S1_11 : Rect S16).toLoadRect (harg2.unread x0) (Shape.Idx.first (by decide))) (arg33.view.readAt (Elt Ideal) (Rect.unit ![2, 0, 0] S1x256x128.size inb_S4x640x128_S1x256x128_2_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![2, 0, 0] S1x256x128.size inb_S4x640x128_S1x256x128_2_0_0 : Rect S4x640x128).toLoadRect (arg34.view.writes (Elt Ideal) (harg34.unread xs3) (run.sl.HS3_4 (F := Ideal) c i arg3 harg3 arg6 harg6 arg7 harg7 x1 x4 x5)))
    (r2_00 H S hi) (r2_01 H S hi) (sink_read H _ _ _) (sink_read H _ _ _) (fun r d => (win2 H S (Rect.unit ![2, 0, 0] S1x256x128.size inb_S4x640x128_S1x256x128_2_0_0 : Rect S4x640x128).toLoadRect (ix3 0 r d)).trans (half_read2 D b T 2 0 _ r d rfl rfl rfl)) (fun r d => (win3 H S (Rect.unit ![2, 0, 0] S1x256x128.size inb_S4x640x128_S1x256x128_2_0_0 : Rect S4x640x128).toLoadRect (ix3 0 r d)).trans (half_read3 D b T 2 0 _ r d rfl rfl rfl)) r l) ?_
  show att2 D b _ _ = att2 D b (512 * T + (0 + 1 * r.val)) (512 + 1 * l.val)
  congr 1 <;> omega

theorem a0_3 (H : Inputs D b T x0 x1 x2 x3 x4 x5 x6 x7 x8 x9 x10) (S : Start D b T xs0 xs1 xs2 xs3 xs4) (hi : (i 1).val = T) (x : S128x128.Idx) :
    k0_pay234 (run.sl.r_81 (F := Ideal) c i arg2 harg2 arg3 harg3 arg4 harg4 arg5 harg5 arg6 harg6 arg7 harg7 arg31 harg31 arg32 harg32 arg38 arg39 x0 x1 x2 x3 x4 x5 xs0 xs1) (run.sl.r_82 (F := Ideal) c i arg2 harg2 arg3 harg3 arg4 harg4 arg5 harg5 arg6 harg6 arg7 harg7 arg31 harg31 arg32 harg32 arg38 arg39 x0 x1 x2 x3 x4 x5 xs0 xs1) (run.sl.r_100 (F := Ideal) c i arg3 harg3 arg6 harg6 arg7 harg7 arg33 harg33 arg34 harg34 x1 x4 x5 xs2 xs3) x = G6 D b T ((Rect.unit ![0, 384] S128x128.size inb_S512x1024_S128x128_0_384 : Rect S512x1024).emb x) := by
  obtain ⟨r, l, rfl⟩ : ∃ (r l : Fin 128), x = ix2 r l := ⟨x 0, x 1, eq_ix2 x⟩
  refine Eq.trans (unit1 0 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 0, 0] S1x128x128.size inb_S16x256x256_S1x128x128_1_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 0, 128] S1x128x128.size inb_S16x256x256_S1x128x128_1_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 128, 0] S1x128x128.size inb_S16x256x256_S1x128x128_1_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 128, 128] S1x128x128.size inb_S16x256x256_S1x128x128_1_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readAt (Elt Ideal) (Rect.unit ![1, 0, 0] S1x256x128.size inb_S4x640x128_S1x256x128_1_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![1, 0, 0] S1x256x128.size inb_S4x640x128_S1x256x128_1_0_0 : Rect S4x640x128).toLoadRect (arg34.view.writes (Elt Ideal) (harg34.unread xs3) (run.sl.HS3_4 (F := Ideal) c i arg3 harg3 arg6 harg6 arg7 harg7 x1 x4 x5)))
    (r1_10 H S hi) (r1_11 H S hi) (sink_read H _ _ _) (sink_read H _ _ _) (fun r d => (win2 H S (Rect.unit ![1, 0, 0] S1x256x128.size inb_S4x640x128_S1x256x128_1_0_0 : Rect S4x640x128).toLoadRect (ix3 0 r d)).trans (half_read2 D b T 1 0 _ r d rfl rfl rfl)) (fun r d => (win3 H S (Rect.unit ![1, 0, 0] S1x256x128.size inb_S4x640x128_S1x256x128_1_0_0 : Rect S4x640x128).toLoadRect (ix3 0 r d)).trans (half_read3 D b T 1 0 _ r d rfl rfl rfl)) r l) ?_
  show att2 D b _ _ = att2 D b (512 * T + (0 + 1 * r.val)) (384 + 1 * l.val)
  congr 1 <;> omega

theorem a0_2 (H : Inputs D b T x0 x1 x2 x3 x4 x5 x6 x7 x8 x9 x10) (S : Start D b T xs0 xs1 xs2 xs3 xs4) (hi : (i 1).val = T) (x : S128x128.Idx) :
    k0_pay233 (run.sl.r_75 (F := Ideal) c i arg2 harg2 arg3 harg3 arg4 harg4 arg5 harg5 arg6 harg6 arg7 harg7 arg31 harg31 arg32 harg32 arg38 arg39 x0 x1 x2 x3 x4 x5 xs0 xs1) (run.sl.r_82 (F := Ideal) c i arg2 harg2 arg3 harg3 arg4 harg4 arg5 harg5 arg6 harg6 arg7 harg7 arg31 harg31 arg32 harg32 arg38 arg39 x0 x1 x2 x3 x4 x5 xs0 xs1) (run.sl.r_100 (F := Ideal) c i arg3 harg3 arg6 harg6 arg7 harg7 arg33 harg33 arg34 harg34 x1 x4 x5 xs2 xs3) x = G6 D b T ((Rect.unit ![0, 256] S128x128.size inb_S512x1024_S128x128_0_256 : Rect S512x1024).emb x) := by
  obtain ⟨r, l, rfl⟩ : ∃ (r l : Fin 128), x = ix2 r l := ⟨x 0, x 1, eq_ix2 x⟩
  refine Eq.trans (unit0 0 1 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 0, 0] S1x128x128.size inb_S16x256x256_S1x128x128_1_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 0, 128] S1x128x128.size inb_S16x256x256_S1x128x128_1_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 128, 0] S1x128x128.size inb_S16x256x256_S1x128x128_1_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![1, 128, 128] S1x128x128.size inb_S16x256x256_S1x128x128_1_128_128 : Rect S16x256x256).toLoadRect) (arg2.view.readAt (Elt Ideal) (Rect.unit ![4] S1.size inb_S16_S1_4 : Rect S16).toLoadRect (harg2.unread x0) (Shape.Idx.first (by decide))) (arg2.view.readAt (Elt Ideal) (Rect.unit ![5] S1.size inb_S16_S1_5 : Rect S16).toLoadRect (harg2.unread x0) (Shape.Idx.first (by decide))) (arg2.view.readAt (Elt Ideal) (Rect.unit ![6] S1.size inb_S16_S1_6 : Rect S16).toLoadRect (harg2.unread x0) (Shape.Idx.first (by decide))) (arg2.view.readAt (Elt Ideal) (Rect.unit ![7] S1.size inb_S16_S1_7 : Rect S16).toLoadRect (harg2.unread x0) (Shape.Idx.first (by decide))) (arg33.view.readAt (Elt Ideal) (Rect.unit ![1, 0, 0] S1x256x128.size inb_S4x640x128_S1x256x128_1_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![1, 0, 0] S1x256x128.size inb_S4x640x128_S1x256x128_1_0_0 : Rect S4x640x128).toLoadRect (arg34.view.writes (Elt Ideal) (harg34.unread xs3) (run.sl.HS3_4 (F := Ideal) c i arg3 harg3 arg6 harg6 arg7 harg7 x1 x4 x5)))
    (r1_00 H S hi) (r1_01 H S hi) (sink_read H _ _ _) (sink_read H _ _ _) (fun r d => (win2 H S (Rect.unit ![1, 0, 0] S1x256x128.size inb_S4x640x128_S1x256x128_1_0_0 : Rect S4x640x128).toLoadRect (ix3 0 r d)).trans (half_read2 D b T 1 0 _ r d rfl rfl rfl)) (fun r d => (win3 H S (Rect.unit ![1, 0, 0] S1x256x128.size inb_S4x640x128_S1x256x128_1_0_0 : Rect S4x640x128).toLoadRect (ix3 0 r d)).trans (half_read3 D b T 1 0 _ r d rfl rfl rfl)) r l) ?_
  show att2 D b _ _ = att2 D b (512 * T + (0 + 1 * r.val)) (256 + 1 * l.val)
  congr 1 <;> omega

theorem a0_1 (H : Inputs D b T x0 x1 x2 x3 x4 x5 x6 x7 x8 x9 x10) (S : Start D b T xs0 xs1 xs2 xs3 xs4) (hi : (i 1).val = T) (x : S128x128.Idx) :
    k0_pay211 (run.sl.r_66 (F := Ideal) c i arg2 harg2 arg3 harg3 arg4 harg4 arg5 harg5 arg6 harg6 arg7 harg7 arg31 harg31 arg32 harg32 arg38 arg39 x0 x1 x2 x3 x4 x5 xs0 xs1) (run.sl.r_83 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) x = G6 D b T ((Rect.unit ![0, 128] S128x128.size inb_S512x1024_S128x128_0_128 : Rect S512x1024).emb x) := by
  obtain ⟨r, l, rfl⟩ : ∃ (r l : Fin 128), x = ix2 r l := ⟨x 0, x 1, eq_ix2 x⟩
  refine Eq.trans (unit1 0 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 0, 0] S1x128x128.size inb_S16x256x256_S1x128x128_0_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 0, 128] S1x128x128.size inb_S16x256x256_S1x128x128_0_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 128, 0] S1x128x128.size inb_S16x256x256_S1x128x128_0_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 128, 128] S1x128x128.size inb_S16x256x256_S1x128x128_0_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readAt (Elt Ideal) (Rect.unit ![0, 0, 0] S1x256x128.size inb_S4x640x128_S1x256x128_0_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![0, 0, 0] S1x256x128.size inb_S4x640x128_S1x256x128_0_0_0 : Rect S4x640x128).toLoadRect (arg34.view.writes (Elt Ideal) (harg34.unread xs3) (run.sl.HS3_4 (F := Ideal) c i arg3 harg3 arg6 harg6 arg7 harg7 x1 x4 x5)))
    (r0_10 H S hi) (r0_11 H S hi) (sink_read H _ _ _) (sink_read H _ _ _) (fun r d => (win2 H S (Rect.unit ![0, 0, 0] S1x256x128.size inb_S4x640x128_S1x256x128_0_0_0 : Rect S4x640x128).toLoadRect (ix3 0 r d)).trans (half_read2 D b T 0 0 _ r d rfl rfl rfl)) (fun r d => (win3 H S (Rect.unit ![0, 0, 0] S1x256x128.size inb_S4x640x128_S1x256x128_0_0_0 : Rect S4x640x128).toLoadRect (ix3 0 r d)).trans (half_read3 D b T 0 0 _ r d rfl rfl rfl)) r l) ?_
  show att2 D b _ _ = att2 D b (512 * T + (0 + 1 * r.val)) (128 + 1 * l.val)
  congr 1 <;> omega

theorem a0_0 (H : Inputs D b T x0 x1 x2 x3 x4 x5 x6 x7 x8 x9 x10) (S : Start D b T xs0 xs1 xs2 xs3 xs4) (hi : (i 1).val = T) (x : S128x128.Idx) :
    k0_pay210 (run.sl.r_60 (F := Ideal) c i arg2 harg2 arg3 harg3 arg4 harg4 arg5 harg5 arg6 harg6 arg7 harg7 arg31 harg31 arg32 harg32 arg38 arg39 x0 x1 x2 x3 x4 x5 xs0 xs1) (run.sl.r_84 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) (run.sl.r_85 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) x = G6 D b T ((Rect.unit ![0, 0] S128x128.size inb_S512x1024_S128x128_0_0 : Rect S512x1024).emb x) := by
  obtain ⟨r, l, rfl⟩ : ∃ (r l : Fin 128), x = ix2 r l := ⟨x 0, x 1, eq_ix2 x⟩
  refine Eq.trans (unit0 0 0 (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 0, 0] S1x128x128.size inb_S16x256x256_S1x128x128_0_0_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 0, 128] S1x128x128.size inb_S16x256x256_S1x128x128_0_0_128 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 128, 0] S1x128x128.size inb_S16x256x256_S1x128x128_0_128_0 : Rect S16x256x256).toLoadRect) (arg39.view.readCov (run.sl.HS8_64 (F := Ideal) c i arg3 harg3 arg4 harg4 arg5 harg5 arg6 harg6 arg7 harg7 arg31 harg31 arg32 harg32 arg38 x1 x2 x3 x4 x5 xs0 xs1) (Rect.unit ![0, 128, 128] S1x128x128.size inb_S16x256x256_S1x128x128_0_128_128 : Rect S16x256x256).toLoadRect) (arg2.view.readAt (Elt Ideal) (Rect.unit ![0] S1.size inb_S16_S1_0 : Rect S16).toLoadRect (harg2.unread x0) (Shape.Idx.first (by decide))) (arg2.view.readAt (Elt Ideal) (Rect.unit ![1] S1.size inb_S16_S1_1 : Rect S16).toLoadRect (harg2.unread x0) (Shape.Idx.first (by decide))) (arg2.view.readAt (Elt Ideal) (Rect.unit ![2] S1.size inb_S16_S1_2 : Rect S16).toLoadRect (harg2.unread x0) (Shape.Idx.first (by decide))) (arg2.view.readAt (Elt Ideal) (Rect.unit ![3] S1.size inb_S16_S1_3 : Rect S16).toLoadRect (harg2.unread x0) (Shape.Idx.first (by decide))) (arg33.view.readAt (Elt Ideal) (Rect.unit ![0, 0, 0] S1x256x128.size inb_S4x640x128_S1x256x128_0_0_0 : Rect S4x640x128).toLoadRect (arg33.view.writes (Elt Ideal) (harg33.unread xs2) (run.sl.HS2_4 (F := Ideal) c i arg3 harg3 arg6 harg6 arg7 harg7 x1 x4 x5))) (arg34.view.readAt (Elt Ideal) (Rect.unit ![0, 0, 0] S1x256x128.size inb_S4x640x128_S1x256x128_0_0_0 : Rect S4x640x128).toLoadRect (arg34.view.writes (Elt Ideal) (harg34.unread xs3) (run.sl.HS3_4 (F := Ideal) c i arg3 harg3 arg6 harg6 arg7 harg7 x1 x4 x5)))
    (r0_00 H S hi) (r0_01 H S hi) (sink_read H _ _ _) (sink_read H _ _ _) (fun r d => (win2 H S (Rect.unit ![0, 0, 0] S1x256x128.size inb_S4x640x128_S1x256x128_0_0_0 : Rect S4x640x128).toLoadRect (ix3 0 r d)).trans (half_read2 D b T 0 0 _ r d rfl rfl rfl)) (fun r d => (win3 H S (Rect.unit ![0, 0, 0] S1x256x128.size inb_S4x640x128_S1x256x128_0_0_0 : Rect S4x640x128).toLoadRect (ix3 0 r d)).trans (half_read3 D b T 0 0 _ r d rfl rfl rfl)) r l) ?_
  show att2 D b _ _ = att2 D b (512 * T + (0 + 1 * r.val)) (0 + 1 * l.val)
  congr 1 <;> omega

theorem list6 (H : Inputs D b T x0 x1 x2 x3 x4 x5 x6 x7 x8 x9 x10) (S : Start D b T xs0 xs1 xs2 xs3 xs4) (hi : (i 1).val = T) : Agree (run.sl.HS6_32 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3) (G6 D b T) := by
  unfold run.sl.HS6_32
  refine .cons (a3_7 H S hi) ?_
  refine .cons (a3_6 H S hi) ?_
  refine .cons (a3_5 H S hi) ?_
  refine .cons (a3_4 H S hi) ?_
  refine .cons (a3_3 H S hi) ?_
  refine .cons (a3_2 H S hi) ?_
  refine .cons (a3_1 H S hi) ?_
  refine .cons (a3_0 H S hi) ?_
  refine .cons (a2_7 H S hi) ?_
  refine .cons (a2_6 H S hi) ?_
  refine .cons (a2_5 H S hi) ?_
  refine .cons (a2_4 H S hi) ?_
  refine .cons (a2_3 H S hi) ?_
  refine .cons (a2_2 H S hi) ?_
  refine .cons (a2_1 H S hi) ?_
  refine .cons (a2_0 H S hi) ?_
  refine .cons (a1_7 H S hi) ?_
  refine .cons (a1_6 H S hi) ?_
  refine .cons (a1_5 H S hi) ?_
  refine .cons (a1_4 H S hi) ?_
  refine .cons (a1_3 H S hi) ?_
  refine .cons (a1_2 H S hi) ?_
  refine .cons (a1_1 H S hi) ?_
  refine .cons (a1_0 H S hi) ?_
  refine .cons (a0_7 H S hi) ?_
  refine .cons (a0_6 H S hi) ?_
  refine .cons (a0_5 H S hi) ?_
  refine .cons (a0_4 H S hi) ?_
  refine .cons (a0_3 H S hi) ?_
  refine .cons (a0_2 H S hi) ?_
  refine .cons (a0_1 H S hi) ?_
  refine .cons (a0_0 H S hi) ?_
  exact .nil _

end Cert.Mixer

end
-- ==== Proof.Mixer.Gates.lean ====
/-
  The gates of a step: each of the eight blocks put down is the layer's.
-/
module

public import proofs.«01_k».proof.Proof.Mixer.Scratch

@[expose] public section

set_option maxRecDepth 16384

noncomputable section

namespace Cert.Mixer

open Cert.Kernel3Ideal Cert.Kernel3Ideal.Gen
open Idealize.ShloMosaic Idealize.ShloMosaic.TcCoe Idealize.SL.Sem

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

/-- Gates are the logistic function of a product, written by the hyperbolic tangent of its half. -/
theorem gate_of (X : FVec Ideal S512x1024 .bf16) (w : Vec Ideal S1024x256 .bf16) (r : Fin 512) (n : Fin 256) :
    k0_pay594 X w (ix2 r n) = Ideal.logistic (∑ j : Fin 1024, X (ix2 r j) * w (ix2 j n)) := by
  rw [← Ffn.half_tanh]
  pointwise [k0_pay594]

/-- The gates. -/
def G9 (D : Data) (b T : ℕ) (y : S512x2048.Idx) : EReal := gate D b (512 * T + (y 0).val) (y 1).val

theorem g1792 (H : Inputs D b T x0 x1 x2 x3 x4 x5 x6 x7 x8 x9 x10) (x : S512x256.Idx) :
    k0_pay594 (run.sl.r (F := Ideal) c i arg3 harg3 arg6 harg6 x1 x4) (arg7.view.readAt (Elt Ideal) (Rect.unit ![0, 3840] S1024x256.size inb_S1024x4096_S1024x256_0_3840 : Rect S1024x4096).toLoadRect (harg7.unread x5)) x = G9 D b T ((Rect.unit ![0, 1792] S512x256.size inb_S512x2048_S512x256_0_1792 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 3840] S1024x256.size inb_S1024x4096_S1024x256_0_3840 : Rect S1024x4096).toLoadRect (harg7.unread x5)) r n).trans ?_
  show _ = gate D b (512 * T + (0 + 1 * r.val)) (1792 + 1 * n.val)
  unfold gate z
  congr 1
  refine Finset.sum_congr rfl fun j _ => ?_
  rw [xn_at H, load_at, H.h5]
  show _ * D.w (0 + 1 * j.val) (3840 + 1 * n.val) = _ * D.w j.val (2048 + (1792 + 1 * n.val))
  simp only [zero_add, one_mul, ← Nat.add_assoc]

theorem g1536 (H : Inputs D b T x0 x1 x2 x3 x4 x5 x6 x7 x8 x9 x10) (x : S512x256.Idx) :
    k0_pay535 (run.sl.r (F := Ideal) c i arg3 harg3 arg6 harg6 x1 x4) (arg7.view.readAt (Elt Ideal) (Rect.unit ![0, 3584] S1024x256.size inb_S1024x4096_S1024x256_0_3584 : Rect S1024x4096).toLoadRect (harg7.unread x5)) x = G9 D b T ((Rect.unit ![0, 1536] S512x256.size inb_S512x2048_S512x256_0_1536 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 3584] S1024x256.size inb_S1024x4096_S1024x256_0_3584 : Rect S1024x4096).toLoadRect (harg7.unread x5)) r n).trans ?_
  show _ = gate D b (512 * T + (0 + 1 * r.val)) (1536 + 1 * n.val)
  unfold gate z
  congr 1
  refine Finset.sum_congr rfl fun j _ => ?_
  rw [xn_at H, load_at, H.h5]
  show _ * D.w (0 + 1 * j.val) (3584 + 1 * n.val) = _ * D.w j.val (2048 + (1536 + 1 * n.val))
  simp only [zero_add, one_mul, ← Nat.add_assoc]

theorem g1280 (H : Inputs D b T x0 x1 x2 x3 x4 x5 x6 x7 x8 x9 x10) (x : S512x256.Idx) :
    k0_pay483 (run.sl.r (F := Ideal) c i arg3 harg3 arg6 harg6 x1 x4) (arg7.view.readAt (Elt Ideal) (Rect.unit ![0, 3328] S1024x256.size inb_S1024x4096_S1024x256_0_3328 : Rect S1024x4096).toLoadRect (harg7.unread x5)) x = G9 D b T ((Rect.unit ![0, 1280] S512x256.size inb_S512x2048_S512x256_0_1280 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 3328] S1024x256.size inb_S1024x4096_S1024x256_0_3328 : Rect S1024x4096).toLoadRect (harg7.unread x5)) r n).trans ?_
  show _ = gate D b (512 * T + (0 + 1 * r.val)) (1280 + 1 * n.val)
  unfold gate z
  congr 1
  refine Finset.sum_congr rfl fun j _ => ?_
  rw [xn_at H, load_at, H.h5]
  show _ * D.w (0 + 1 * j.val) (3328 + 1 * n.val) = _ * D.w j.val (2048 + (1280 + 1 * n.val))
  simp only [zero_add, one_mul, ← Nat.add_assoc]

theorem g1024 (H : Inputs D b T x0 x1 x2 x3 x4 x5 x6 x7 x8 x9 x10) (x : S512x256.Idx) :
    k0_pay437 (run.sl.r (F := Ideal) c i arg3 harg3 arg6 harg6 x1 x4) (arg7.view.readAt (Elt Ideal) (Rect.unit ![0, 3072] S1024x256.size inb_S1024x4096_S1024x256_0_3072 : Rect S1024x4096).toLoadRect (harg7.unread x5)) x = G9 D b T ((Rect.unit ![0, 1024] S512x256.size inb_S512x2048_S512x256_0_1024 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 3072] S1024x256.size inb_S1024x4096_S1024x256_0_3072 : Rect S1024x4096).toLoadRect (harg7.unread x5)) r n).trans ?_
  show _ = gate D b (512 * T + (0 + 1 * r.val)) (1024 + 1 * n.val)
  unfold gate z
  congr 1
  refine Finset.sum_congr rfl fun j _ => ?_
  rw [xn_at H, load_at, H.h5]
  show _ * D.w (0 + 1 * j.val) (3072 + 1 * n.val) = _ * D.w j.val (2048 + (1024 + 1 * n.val))
  simp only [zero_add, one_mul, ← Nat.add_assoc]

theorem g768 (H : Inputs D b T x0 x1 x2 x3 x4 x5 x6 x7 x8 x9 x10) (x : S512x256.Idx) :
    k0_pay385 (run.sl.r_177 (F := Ideal) c i arg3 harg3 arg6 harg6 arg7 harg7 x1 x4 x5) x = G9 D b T ((Rect.unit ![0, 768] S512x256.size inb_S512x2048_S512x256_0_768 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 2816] S1024x256.size inb_S1024x4096_S1024x256_0_2816 : Rect S1024x4096).toLoadRect (harg7.unread x5)) r n).trans ?_
  show _ = gate D b (512 * T + (0 + 1 * r.val)) (768 + 1 * n.val)
  unfold gate z
  congr 1
  refine Finset.sum_congr rfl fun j _ => ?_
  rw [xn_at H, load_at, H.h5]
  show _ * D.w (0 + 1 * j.val) (2816 + 1 * n.val) = _ * D.w j.val (2048 + (768 + 1 * n.val))
  simp only [zero_add, one_mul, ← Nat.add_assoc]

theorem g512 (H : Inputs D b T x0 x1 x2 x3 x4 x5 x6 x7 x8 x9 x10) (x : S512x256.Idx) :
    k0_pay322 (run.sl.r (F := Ideal) c i arg3 harg3 arg6 harg6 x1 x4) (arg7.view.readAt (Elt Ideal) (Rect.unit ![0, 2560] S1024x256.size inb_S1024x4096_S1024x256_0_2560 : Rect S1024x4096).toLoadRect (harg7.unread x5)) x = G9 D b T ((Rect.unit ![0, 512] S512x256.size inb_S512x2048_S512x256_0_512 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 2560] S1024x256.size inb_S1024x4096_S1024x256_0_2560 : Rect S1024x4096).toLoadRect (harg7.unread x5)) r n).trans ?_
  show _ = gate D b (512 * T + (0 + 1 * r.val)) (512 + 1 * n.val)
  unfold gate z
  congr 1
  refine Finset.sum_congr rfl fun j _ => ?_
  rw [xn_at H, load_at, H.h5]
  show _ * D.w (0 + 1 * j.val) (2560 + 1 * n.val) = _ * D.w j.val (2048 + (512 + 1 * n.val))
  simp only [zero_add, one_mul, ← Nat.add_assoc]

theorem g256 (H : Inputs D b T x0 x1 x2 x3 x4 x5 x6 x7 x8 x9 x10) (x : S512x256.Idx) :
    k0_pay264 (run.sl.r (F := Ideal) c i arg3 harg3 arg6 harg6 x1 x4) (arg7.view.readAt (Elt Ideal) (Rect.unit ![0, 2304] S1024x256.size inb_S1024x4096_S1024x256_0_2304 : Rect S1024x4096).toLoadRect (harg7.unread x5)) x = G9 D b T ((Rect.unit ![0, 256] S512x256.size inb_S512x2048_S512x256_0_256 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 2304] S1024x256.size inb_S1024x4096_S1024x256_0_2304 : Rect S1024x4096).toLoadRect (harg7.unread x5)) r n).trans ?_
  show _ = gate D b (512 * T + (0 + 1 * r.val)) (256 + 1 * n.val)
  unfold gate z
  congr 1
  refine Finset.sum_congr rfl fun j _ => ?_
  rw [xn_at H, load_at, H.h5]
  show _ * D.w (0 + 1 * j.val) (2304 + 1 * n.val) = _ * D.w j.val (2048 + (256 + 1 * n.val))
  simp only [zero_add, one_mul, ← Nat.add_assoc]

theorem g0 (H : Inputs D b T x0 x1 x2 x3 x4 x5 x6 x7 x8 x9 x10) (x : S512x256.Idx) :
    k0_pay212 (run.sl.r (F := Ideal) c i arg3 harg3 arg6 harg6 x1 x4) (arg7.view.readAt (Elt Ideal) (Rect.unit ![0, 2048] S1024x256.size inb_S1024x4096_S1024x256_0_2048 : Rect S1024x4096).toLoadRect (harg7.unread x5)) x = G9 D b T ((Rect.unit ![0, 0] S512x256.size inb_S512x2048_S512x256_0_0 : Rect S512x2048).emb x) := by
  obtain ⟨r, n, rfl⟩ : ∃ (r : Fin 512) (n : Fin 256), x = ix2 r n := ⟨x 0, x 1, eq_ix2 x⟩
  refine (gate_of (run.sl.r (F := Ideal) c i arg3 harg3 arg6 harg6 x1 x4) (arg7.view.readAt (Elt Ideal) (Rect.unit ![0, 2048] S1024x256.size inb_S1024x4096_S1024x256_0_2048 : Rect S1024x4096).toLoadRect (harg7.unread x5)) r n).trans ?_
  show _ = gate D b (512 * T + (0 + 1 * r.val)) (0 + 1 * n.val)
  unfold gate z
  congr 1
  refine Finset.sum_congr rfl fun j _ => ?_
  rw [xn_at H, load_at, H.h5]
  show _ * D.w (0 + 1 * j.val) (2048 + 1 * n.val) = _ * D.w j.val (2048 + (0 + 1 * n.val))
  simp only [zero_add, one_mul, ← Nat.add_assoc]

theorem list9 (H : Inputs D b T x0 x1 x2 x3 x4 x5 x6 x7 x8 x9 x10) : Agree (run.sl.HS9_8 (F := Ideal) c i arg3 harg3 arg6 harg6 arg7 harg7 x1 x4 x5) (G9 D b T) := by
  unfold run.sl.HS9_8
  refine .cons (g1792 H) ?_
  refine .cons (g1536 H) ?_
  refine .cons (g1280 H) ?_
  refine .cons (g1024 H) ?_
  refine .cons (g768 H) ?_
  refine .cons (g512 H) ?_
  refine .cons (g256 H) ?_
  refine .cons (g0 H) ?_
  exact .nil _

end Cert.Mixer

end
-- ==== Proof.Mixer.PoolRow.lean ====
/-
  The pooling of a row, in the words of the step's own numbers: the row's count, and a group's mix.
-/
module

public import proofs.«01_k».proof.Proof.Mixer.Window

@[expose] public section

set_option maxRecDepth 16384

noncomputable section

namespace Cert.Mixer

open Cert.Kernel3Ideal Cert.Kernel3Ideal.Gen
open Idealize.ShloMosaic Idealize.ShloMosaic.TcCoe Idealize.SL.Sem

/-- The number of rows in the window, as the step counts it. -/
def cnt (k w : BitVec 32) (r : Fin 512) : EReal := FloatOps.sitofp (F := Ideal) .f32 (IntOp.minsi k (IntOp.addi (k0_pay601 w (ix2 r 0)) 1#32))

theorem count_2 : ∀ (T : Fin 16) (r : Fin 512), (IntOp.minsi 2#32 (IntOp.addi (IntOp.addi (IntOp.muli (BitVec.ofNat 32 T.val) 512#32) (BitVec.ofNat 32 r.val)) 1#32)).toInt = ((min 2 (512 * T.val + r.val + 1) : ℕ) : ℤ) := by
  decide +kernel

theorem cnt_2 (T : ℕ) (hT : T < 16) (r : Fin 512) : cnt 2#32 (BitVec.ofNat 32 T) r = (((min 2 (512 * T + r.val + 1) : ℕ) : ℝ) : EReal) := by
  have e : cnt 2#32 (BitVec.ofNat 32 T) r = (((IntOp.minsi 2#32 (IntOp.addi (IntOp.addi (IntOp.muli (BitVec.ofNat 32 T) 512#32) (BitVec.ofNat 32 r.val)) 1#32)).toInt : ℝ) : EReal) := by
    unfold cnt
    pointwise [k0_pay601]
    all_goals rfl
  rw [e, count_2 ⟨T, hT⟩ r]
  push_cast
  rfl

theorem count_4 : ∀ (T : Fin 16) (r : Fin 512), (IntOp.minsi 4#32 (IntOp.addi (IntOp.addi (IntOp.muli (BitVec.ofNat 32 T.val) 512#32) (BitVec.ofNat 32 r.val)) 1#32)).toInt = ((min 4 (512 * T.val + r.val + 1) : ℕ) : ℤ) := by
  decide +kernel

theorem cnt_4 (T : ℕ) (hT : T < 16) (r : Fin 512) : cnt 4#32 (BitVec.ofNat 32 T) r = (((min 4 (512 * T + r.val + 1) : ℕ) : ℝ) : EReal) := by
  have e : cnt 4#32 (BitVec.ofNat 32 T) r = (((IntOp.minsi 4#32 (IntOp.addi (IntOp.addi (IntOp.muli (BitVec.ofNat 32 T) 512#32) (BitVec.ofNat 32 r.val)) 1#32)).toInt : ℝ) : EReal) := by
    unfold cnt
    pointwise [k0_pay601]
    all_goals rfl
  rw [e, count_4 ⟨T, hT⟩ r]
  push_cast
  rfl

theorem count_8 : ∀ (T : Fin 16) (r : Fin 512), (IntOp.minsi 8#32 (IntOp.addi (IntOp.addi (IntOp.muli (BitVec.ofNat 32 T.val) 512#32) (BitVec.ofNat 32 r.val)) 1#32)).toInt = ((min 8 (512 * T.val + r.val + 1) : ℕ) : ℤ) := by
  decide +kernel

theorem cnt_8 (T : ℕ) (hT : T < 16) (r : Fin 512) : cnt 8#32 (BitVec.ofNat 32 T) r = (((min 8 (512 * T + r.val + 1) : ℕ) : ℝ) : EReal) := by
  have e : cnt 8#32 (BitVec.ofNat 32 T) r = (((IntOp.minsi 8#32 (IntOp.addi (IntOp.addi (IntOp.muli (BitVec.ofNat 32 T) 512#32) (BitVec.ofNat 32 r.val)) 1#32)).toInt : ℝ) : EReal) := by
    unfold cnt
    pointwise [k0_pay601]
    all_goals rfl
  rw [e, count_8 ⟨T, hT⟩ r]
  push_cast
  rfl

theorem count_16 : ∀ (T : Fin 16) (r : Fin 512), (IntOp.minsi 16#32 (IntOp.addi (IntOp.addi (IntOp.muli (BitVec.ofNat 32 T.val) 512#32) (BitVec.ofNat 32 r.val)) 1#32)).toInt = ((min 16 (512 * T.val + r.val + 1) : ℕ) : ℤ) := by
  decide +kernel

theorem cnt_16 (T : ℕ) (hT : T < 16) (r : Fin 512) : cnt 16#32 (BitVec.ofNat 32 T) r = (((min 16 (512 * T + r.val + 1) : ℕ) : ℝ) : EReal) := by
  have e : cnt 16#32 (BitVec.ofNat 32 T) r = (((IntOp.minsi 16#32 (IntOp.addi (IntOp.addi (IntOp.muli (BitVec.ofNat 32 T) 512#32) (BitVec.ofNat 32 r.val)) 1#32)).toInt : ℝ) : EReal) := by
    unfold cnt
    pointwise [k0_pay601]
    all_goals rfl
  rw [e, count_16 ⟨T, hT⟩ r]
  push_cast
  rfl

theorem mix0 (w : BitVec 32) (U : FVec Ideal S512x512 .f32) (A B : Vec Ideal S528x128 .f32) (W : Vec Ideal S1x128x128 .bf16) (P : Vec Ideal S1x128 .f32) (r : Fin 512) (n : Fin 128) :
    k0_pay602 w U A B W P (ix2 r n) = (∑ c : Fin 128, (Ideal.div (A (ix2 (⟨16 + r.val, by omega⟩ : Fin 528) c) + B (ix2 (⟨16 + r.val, by omega⟩ : Fin 528) c)) (cnt 2#32 w r) - U (ix2 r (⟨c.val, by omega⟩ : Fin 512))) * W (ix3 0 c n)) * P (ix2 0 n) := by
  unfold cnt
  pointwise [k0_pay602]

theorem mix1 (w : BitVec 32) (U : FVec Ideal S512x512 .f32) (A B : Vec Ideal S528x128 .f32) (W : Vec Ideal S1x128x128 .bf16) (P : Vec Ideal S1x128 .f32) (r : Fin 512) (n : Fin 128) :
    k0_pay605 (k0_pay601 w) (k0_pay603 U) A B W P (ix2 r n) = (∑ c : Fin 128, (Ideal.div (A (ix2 (⟨16 + r.val, by omega⟩ : Fin 528) c) + B (ix2 (⟨16 + r.val, by omega⟩ : Fin 528) c)) (cnt 4#32 w r) - U (ix2 r (⟨128 + c.val, by omega⟩ : Fin 512))) * W (ix3 0 c n)) * P (ix2 0 n) := by
  unfold cnt
  pointwise [k0_pay605, k0_pay603]

theorem mix2 (w : BitVec 32) (U : FVec Ideal S512x512 .f32) (A B : Vec Ideal S528x128 .f32) (W : Vec Ideal S1x128x128 .bf16) (P : Vec Ideal S1x128 .f32) (r : Fin 512) (n : Fin 128) :
    k0_pay610 (k0_pay609 (k0_pay601 w) (k0_pay606 U) A B) W P (ix2 r n) = (∑ c : Fin 128, (Ideal.div (A (ix2 (⟨16 + r.val, by omega⟩ : Fin 528) c) + B (ix2 (⟨16 + r.val, by omega⟩ : Fin 528) c)) (cnt 8#32 w r) - U (ix2 r (⟨256 + c.val, by omega⟩ : Fin 512))) * W (ix3 0 c n)) * P (ix2 0 n) := by
  unfold cnt
  pointwise [k0_pay610, k0_pay609, k0_pay606]

theorem mix3 (w : BitVec 32) (U : FVec Ideal S512x512 .f32) (M0 M1 M2 : FVec Ideal S512x128 .f32) (A B : Vec Ideal S528x128 .f32) (W : Vec Ideal S1x128x128 .bf16) (P : Vec Ideal S1x128 .f32) (r : Fin 512) (n : Fin 128) :
    k0_pay615 (k0_pay601 w) M0 M1 M2 (k0_pay611 U) A B W P (ix2 r (⟨384 + n.val, by omega⟩ : Fin 512)) = (∑ c : Fin 128, (Ideal.div (A (ix2 (⟨16 + r.val, by omega⟩ : Fin 528) c) + B (ix2 (⟨16 + r.val, by omega⟩ : Fin 528) c)) (cnt 16#32 w r) - U (ix2 r (⟨384 + c.val, by omega⟩ : Fin 512))) * W (ix3 0 c n)) * P (ix2 0 n) := by
  unfold cnt
  pointwise [k0_pay615, k0_pay611]
  rw [dif_neg (by omega), dif_neg (by omega), dif_neg (by omega)]
  have e : ∀ h, (⟨384 + n.val - 128 - 128 - 128, h⟩ : Fin 128) = n := fun h => Fin.ext (by show 384 + n.val - 128 - 128 - 128 = n.val; omega)
  simp only [e]

theorem mix_lt (V : IVec S512x1 32) (M0 M1 M2 X : FVec Ideal S512x128 .f32) (A B : Vec Ideal S528x128 .f32) (W : Vec Ideal S1x128x128 .bf16) (P : Vec Ideal S1x128 .f32) (r : Fin 512) (n : Fin 128) :
    k0_pay615 V M0 M1 M2 X A B W P (ix2 r (⟨n.val, by omega⟩ : Fin 512)) = M0 (ix2 r n) ∧ k0_pay615 V M0 M1 M2 X A B W P (ix2 r (⟨128 + n.val, by omega⟩ : Fin 512)) = M1 (ix2 r n)
      ∧ k0_pay615 V M0 M1 M2 X A B W P (ix2 r (⟨256 + n.val, by omega⟩ : Fin 512)) = M2 (ix2 r n) := by
  refine ⟨?_, ?_, ?_⟩
  · pointwise [k0_pay615]
  · pointwise [k0_pay615]
  · pointwise [k0_pay615]
    rw [dif_neg (by omega), dif_neg (by omega), dif_pos (by omega)]
    congr 2; apply Fin.ext; show 256 + n.val - 128 - 128 = n.val; omega

end Cert.Mixer

end
-- ==== Proof.Mixer.Pool.lean ====
/-
  The pooling of a step: sums of 2, 4, 8 and 16 rows, each the sum of two of half its length, and the row made from them.
-/
module

public import proofs.«01_k».proof.Proof.Mixer.PoolRow

@[expose] public section

set_option maxRecDepth 16384

noncomputable section

namespace Cert.Mixer

open Cert.Kernel3Ideal Cert.Kernel3Ideal.Gen
open Idealize.ShloMosaic Idealize.ShloMosaic.TcCoe Idealize.SL.Sem
open Idealize.ShloMosaic.View

/-- The sum of the `w` rows up to `P`. -/
def rows (D : Data) (b w P n : ℕ) : EReal := ∑ j ∈ Finset.range w, ext D b (P - j) n

theorem rows_two (D : Data) (b w P n : ℕ) : rows D b (w + w) P n = rows D b w P n + rows D b w (P - w) n := by
  unfold rows
  rw [Finset.sum_range_add]
  congr 1
  refine Finset.sum_congr rfl fun j _ => ?_
  rw [Nat.sub_sub]

theorem rows_one (D : Data) (b P n : ℕ) : rows D b 1 P n = ext D b P n := by
  unfold rows
  rw [Finset.sum_range_one, Nat.sub_zero]

theorem pooled_of (D : Data) (b T g : ℕ) (r : Fin 512) (n : Fin 128) (A U W : Fin 128 → EReal) (K P : EReal)
    (hA : ∀ c, A c = rows D b (2 ^ (g + 1)) (512 * T + 24 + r.val) (128 * g + c.val)) (hK : K = (((min (2 ^ (g + 1)) (512 * T + r.val + 1) : ℕ) : ℝ) : EReal))
    (hU : ∀ c, U c = u D b (512 * T + r.val) (128 * g + c.val)) (hW : ∀ c, W c = D.gw g c.val n.val) (hP : P = D.ps (128 * g + n.val)) :
    (∑ c : Fin 128, (Ideal.div (A c) K - U c) * W c) * P = pooled D b (512 * T + r.val) (128 * g + n.val) := by
  have hn := n.isLt
  have e1 : (128 * g + n.val) / 128 = g := by omega
  have e2 : (128 * g + n.val) % 128 = n.val := by omega
  unfold pooled
  rw [e1, e2, hP]
  congr 1
  refine Finset.sum_congr rfl fun c _ => ?_
  have hc := c.isLt
  have e3 : (128 * g + c.val) / 128 = g := by omega
  unfold centred width
  rw [e3, hA, hU, hW, hK]
  unfold rows
  rw [show 512 * T + 24 + r.val = 512 * T + r.val + 24 by omega]

/-! ## Reading what was put down last -/

section
variable {sig' : RefSig} {κ' : Kind} {sp : Space} {S : Shape} {e : EltTy}

theorem head_cov (v : View sig' κ' sp S e) {r : Rect S} {w : r.shape.Idx → Elt Ideal e} {L : List (View.Piece (Elt Ideal) S e)}
    (B : LoadRect S) (j : B.shape.Idx) (x : r.shape.Idx) (h : B.idx j = r.emb x) : v.readCov (⟨r, w⟩ :: L) B j = w x := by
  rw [View.readCov_eq_canon' v _ B]
  show View.canon _ (B.idx j) = _
  rw [h]
  exact View.canon_cons_emb r w L x

theorem head_at (v : View sig' κ' sp S e) (f : v.ty.Contents (Elt Ideal)) {r : Rect S} {w : r.shape.Idx → Elt Ideal e} {L : List (View.Piece (Elt Ideal) S e)}
    (B : LoadRect S) (j : B.shape.Idx) (x : r.shape.Idx) (h : B.idx j = r.emb x) : v.readAt (Elt Ideal) B (v.writes (Elt Ideal) f (⟨r, w⟩ :: L)) j = w x := by
  show v.read (Elt Ideal) (v.writes (Elt Ideal) f (⟨r, w⟩ :: L)) (B.idx j) = _
  rw [h, View.read_writes_apply_eq_canon v f (r.emb x) _ ⟨⟨r, w⟩, .head _, r.toLoadRect.idx_mem x⟩]
  exact View.canon_cons_emb r w L x
end

theorem hN : S528x128.numel = (⟨3, (Fin.cons 1 ![528, 128] : Fin 3 → ℕ)⟩ : Shape).numel :=
  Rect.numel_consShape (d := ![528, 128]) (Fin.cons 1 ![528, 128]) rfl fun _ => rfl

/-- A slice of one leading index, without that index. -/
def dr (V : (⟨3, (Fin.cons 1 ![528, 128] : Fin 3 → ℕ)⟩ : Shape).Idx → EReal) : Vec Ideal S528x128 .f32 := fun x => V (Shape.reshapeEquiv hN x)

theorem dr_at (V : (⟨3, (Fin.cons 1 ![528, 128] : Fin 3 → ℕ)⟩ : Shape).Idx → EReal) (r : Fin 528) (n : Fin 128) :
    dr V (ix2 r n) = V (Fin.cons ⟨0, Nat.one_pos⟩ (ix2 r n)) := congrArg V (Shape.reshapeEquiv_cons_one (d := ![528, 128]) _ _)

theorem level_604 (A B : Vec Ideal S528x128 .f32) (r : Fin 528) (n : Fin 128) : k0_pay604 A B (ix3 0 r n) = A (ix2 r n) + B (ix2 r n) := by
  pointwise [k0_pay604]

theorem level_607 (A B : Vec Ideal S528x128 .f32) (r : Fin 528) (n : Fin 128) : k0_pay607 A B (ix3 0 r n) = A (ix2 r n) + B (ix2 r n) := by
  pointwise [k0_pay607]

theorem level_608 (A B : Vec Ideal S528x128 .f32) (r : Fin 528) (n : Fin 128) : k0_pay608 A B (ix3 0 r n) = A (ix2 r n) + B (ix2 r n) := by
  pointwise [k0_pay608]

theorem level_612 (A B : Vec Ideal S528x128 .f32) (r : Fin 528) (n : Fin 128) : k0_pay612 A B (ix3 0 r n) = A (ix2 r n) + B (ix2 r n) := by
  pointwise [k0_pay612]

theorem level_613 (A B : Vec Ideal S528x128 .f32) (r : Fin 528) (n : Fin 128) : k0_pay613 A B (ix3 0 r n) = A (ix2 r n) + B (ix2 r n) := by
  pointwise [k0_pay613]

theorem level_614 (A B : Vec Ideal S528x128 .f32) (r : Fin 528) (n : Fin 128) : k0_pay614 A B (ix3 0 r n) = A (ix2 r n) + B (ix2 r n) := by
  pointwise [k0_pay614]

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

theorem win4 (H : Inputs D b T x0 x1 x2 x3 x4 x5 x6 x7 x8 x9 x10) (S : Start D b T xs0 xs1 xs2 xs3 xs4) (B : LoadRect S536x512) (j : B.shape.Idx) :
    arg35.view.readAt (Elt Ideal) B (arg35.view.writes (Elt Ideal) (harg35.unread xs4) (run.sl.HS4_1 (F := Ideal) c i arg3 harg3 arg6 harg6 arg7 harg7 x1 x4 x5)) j = ext D b (512 * T + (B.idx j 0).val) (B.idx j 1).val := by
  refine (list4 H).readAt arg35.view _ B j ?_
  by_cases h : 24 ≤ (B.idx j 0).val
  · left
    refine ⟨_, .head _, (Rect.mem_set_unit (inb := inb_S536x512_S512x512_24_0)).2 fun a => ?_⟩
    have h0 : (B.idx j 0).val < 536 := (B.idx j 0).isLt
    have h1 : (B.idx j 1).val < 512 := (B.idx j 1).isLt
    match a with
    | ⟨0, _⟩ => exact ⟨h, by show (B.idx j 0).val < 24 + 512; omega⟩
    | ⟨1, _⟩ => exact ⟨Nat.zero_le _, by show (B.idx j 1).val < 0 + 512; omega⟩
  · right
    rw [harg35.read_unread]
    exact S.s4 _ (by omega)

theorem ext_read (H : Inputs D b T x0 x1 x2 x3 x4 x5 x6 x7 x8 x9 x10) (S : Start D b T xs0 xs1 xs2 xs3 xs4) (o q : ℕ) (inb) (r : Fin 528) (n : Fin 128) :
    arg35.view.readAt (Elt Ideal) (Rect.unit ![o, q] S528x128.size inb : Rect S536x512).toLoadRect (arg35.view.writes (Elt Ideal) (harg35.unread xs4) (run.sl.HS4_1 (F := Ideal) c i arg3 harg3 arg6 harg6 arg7 harg7 x1 x4 x5)) (ix2 r n)
      = ext D b (512 * T + o + r.val) (q + n.val) := by
  refine (win4 H S _ _).trans ?_
  show ext D b (512 * T + (o + 1 * r.val)) (q + 1 * n.val) = _
  congr 1 <;> omega

theorem p1 (H : Inputs D b T x0 x1 x2 x3 x4 x5 x6 x7 x8 x9 x10) (S : Start D b T xs0 xs1 xs2 xs3 xs4) (r : Fin 528) (n : Fin 128) :
    k0_pay604 (arg35.view.readAt (Elt Ideal) (Rect.unit ![8, 128] S528x128.size inb_S536x512_S528x128_8_128 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 128] S528x128.size inb_S536x512_S528x128_7_128 : Rect S536x512).toLoadRect (arg35.view.writes (Elt Ideal) (harg35.unread xs4) (run.sl.HS4_1 (F := Ideal) c i arg3 harg3 arg6 harg6 arg7 harg7 x1 x4 x5))) (ix3 0 r n) = rows D b 2 (512 * T + 8 + r.val) (128 + n.val) := by
  rw [level_604, rows_two D b 1]
  refine congrArg₂ (· + ·) ((ext_read H S 8 128 inb_S536x512_S528x128_8_128 r n).trans (rows_one D b _ _).symm) (((ext_read H S 7 128 inb_S536x512_S528x128_7_128 r n).trans (rows_one D b _ _).symm).trans ?_)
  rw [show 512 * T + 7 + r.val = 512 * T + 8 + r.val - 1 by omega]

theorem dv2942 (H : Inputs D b T x0 x1 x2 x3 x4 x5 x6 x7 x8 x9 x10) (S : Start D b T xs0 xs1 xs2 xs3 xs4) (r : Fin 528) (n : Fin 128) (hr : 8 ≤ 8 + r.val) :
    (dr (run.sl.v2942 (F := Ideal) c i arg3 harg3 arg6 harg6 arg7 harg7 arg35 harg35 arg36 x1 x4 x5 xs4)) (ix2 r n) = rows D b 2 (512 * T + 8 + r.val) (128 + n.val) := by
  have hl := r.isLt
  refine (dr_at _ r n).trans ?_
  refine (head_cov arg36.view (r := Rect.unit ![1, 8, 0] S1x528x128.size inb_S4x536x128_S1x528x128_1_8_0) (w := k0_pay604 (arg35.view.readAt (Elt Ideal) (Rect.unit ![8, 128] S528x128.size inb_S536x512_S528x128_8_128 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 128] S528x128.size inb_S536x512_S528x128_7_128 : Rect S536x512).toLoadRect (arg35.view.writes (Elt Ideal) (harg35.unread xs4) (run.sl.HS4_1 (F := Ideal) c i arg3 harg3 arg6 harg6 arg7 harg7 x1 x4 x5)))) _ _ (ix3 0 (⟨8 + r.val - 8, by omega⟩ : Fin 528) n) ?_).trans ((p1 H S _ n).trans ?_)
  · funext a
    apply Fin.ext
    match a with
    | ⟨0, _⟩ => rfl
    | ⟨1, _⟩ => show 0 + 8 + 1 * r.val = 8 + 1 * (8 + r.val - 8); omega
    | ⟨2, _⟩ => show 0 + 0 + 1 * n.val = 0 + 1 * n.val; omega
  · rw [show 512 * T + 8 + (8 + r.val - 8) = 512 * T + 8 + r.val by omega]

theorem dv2945 (H : Inputs D b T x0 x1 x2 x3 x4 x5 x6 x7 x8 x9 x10) (S : Start D b T xs0 xs1 xs2 xs3 xs4) (r : Fin 528) (n : Fin 128) (hr : 8 ≤ 6 + r.val) :
    (dr (run.sl.v2945 (F := Ideal) c i arg3 harg3 arg6 harg6 arg7 harg7 arg35 harg35 arg36 harg36 x1 x4 x5 xs4 xs5)) (ix2 r n) = rows D b 2 (512 * T + 6 + r.val) (128 + n.val) := by
  have hl := r.isLt
  refine (dr_at _ r n).trans ?_
  refine (head_at arg36.view _ (r := Rect.unit ![1, 8, 0] S1x528x128.size inb_S4x536x128_S1x528x128_1_8_0) (w := k0_pay604 (arg35.view.readAt (Elt Ideal) (Rect.unit ![8, 128] S528x128.size inb_S536x512_S528x128_8_128 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 128] S528x128.size inb_S536x512_S528x128_7_128 : Rect S536x512).toLoadRect (arg35.view.writes (Elt Ideal) (harg35.unread xs4) (run.sl.HS4_1 (F := Ideal) c i arg3 harg3 arg6 harg6 arg7 harg7 x1 x4 x5)))) _ _ (ix3 0 (⟨6 + r.val - 8, by omega⟩ : Fin 528) n) ?_).trans ((p1 H S _ n).trans ?_)
  · funext a
    apply Fin.ext
    match a with
    | ⟨0, _⟩ => rfl
    | ⟨1, _⟩ => show 0 + 6 + 1 * r.val = 8 + 1 * (6 + r.val - 8); omega
    | ⟨2, _⟩ => show 0 + 0 + 1 * n.val = 0 + 1 * n.val; omega
  · rw [show 512 * T + 8 + (6 + r.val - 8) = 512 * T + 6 + r.val by omega]

theorem p2 (H : Inputs D b T x0 x1 x2 x3 x4 x5 x6 x7 x8 x9 x10) (S : Start D b T xs0 xs1 xs2 xs3 xs4) (r : Fin 528) (n : Fin 128) :
    k0_pay607 (run.sl.r_283 (F := Ideal) c i arg3 harg3 arg6 harg6 arg7 harg7 arg35 harg35 x1 x4 x5 xs4) (run.sl.r_284 (F := Ideal) c i arg3 harg3 arg6 harg6 arg7 harg7 arg35 harg35 x1 x4 x5 xs4) (ix3 0 r n) = rows D b 2 (512 * T + 8 + r.val) (256 + n.val) := by
  rw [level_607, rows_two D b 1]
  refine congrArg₂ (· + ·) ((ext_read H S 8 256 inb_S536x512_S528x128_8_256 r n).trans (rows_one D b _ _).symm) (((ext_read H S 7 256 inb_S536x512_S528x128_7_256 r n).trans (rows_one D b _ _).symm).trans ?_)
  rw [show 512 * T + 7 + r.val = 512 * T + 8 + r.val - 1 by omega]

theorem dv2972 (H : Inputs D b T x0 x1 x2 x3 x4 x5 x6 x7 x8 x9 x10) (S : Start D b T xs0 xs1 xs2 xs3 xs4) (r : Fin 528) (n : Fin 128) (hr : 8 ≤ 8 + r.val) :
    (dr (run.sl.v2972 (F := Ideal) c i arg3 harg3 arg6 harg6 arg7 harg7 arg35 harg35 arg36 x1 x4 x5 xs4)) (ix2 r n) = rows D b 2 (512 * T + 8 + r.val) (256 + n.val) := by
  have hl := r.isLt
  refine (dr_at _ r n).trans ?_
  refine (head_cov arg36.view (r := Rect.unit ![2, 8, 0] S1x528x128.size inb_S4x536x128_S1x528x128_2_8_0) (w := k0_pay607 (run.sl.r_283 (F := Ideal) c i arg3 harg3 arg6 harg6 arg7 harg7 arg35 harg35 x1 x4 x5 xs4) (run.sl.r_284 (F := Ideal) c i arg3 harg3 arg6 harg6 arg7 harg7 arg35 harg35 x1 x4 x5 xs4)) _ _ (ix3 0 (⟨8 + r.val - 8, by omega⟩ : Fin 528) n) ?_).trans ((p2 H S _ n).trans ?_)
  · funext a
    apply Fin.ext
    match a with
    | ⟨0, _⟩ => rfl
    | ⟨1, _⟩ => show 0 + 8 + 1 * r.val = 8 + 1 * (8 + r.val - 8); omega
    | ⟨2, _⟩ => show 0 + 0 + 1 * n.val = 0 + 1 * n.val; omega
  · rw [show 512 * T + 8 + (8 + r.val - 8) = 512 * T + 8 + r.val by omega]

theorem dv2975 (H : Inputs D b T x0 x1 x2 x3 x4 x5 x6 x7 x8 x9 x10) (S : Start D b T xs0 xs1 xs2 xs3 xs4) (r : Fin 528) (n : Fin 128) (hr : 8 ≤ 6 + r.val) :
    (dr (run.sl.v2975 (F := Ideal) c i arg3 harg3 arg6 harg6 arg7 harg7 arg35 harg35 arg36 harg36 x1 x4 x5 xs4 xs5)) (ix2 r n) = rows D b 2 (512 * T + 6 + r.val) (256 + n.val) := by
  have hl := r.isLt
  refine (dr_at _ r n).trans ?_
  refine (head_at arg36.view _ (r := Rect.unit ![2, 8, 0] S1x528x128.size inb_S4x536x128_S1x528x128_2_8_0) (w := k0_pay607 (run.sl.r_283 (F := Ideal) c i arg3 harg3 arg6 harg6 arg7 harg7 arg35 harg35 x1 x4 x5 xs4) (run.sl.r_284 (F := Ideal) c i arg3 harg3 arg6 harg6 arg7 harg7 arg35 harg35 x1 x4 x5 xs4)) _ _ (ix3 0 (⟨6 + r.val - 8, by omega⟩ : Fin 528) n) ?_).trans ((p2 H S _ n).trans ?_)
  · funext a
    apply Fin.ext
    match a with
    | ⟨0, _⟩ => rfl
    | ⟨1, _⟩ => show 0 + 6 + 1 * r.val = 8 + 1 * (6 + r.val - 8); omega
    | ⟨2, _⟩ => show 0 + 0 + 1 * n.val = 0 + 1 * n.val; omega
  · rw [show 512 * T + 8 + (6 + r.val - 8) = 512 * T + 6 + r.val by omega]

theorem p3 (H : Inputs D b T x0 x1 x2 x3 x4 x5 x6 x7 x8 x9 x10) (S : Start D b T xs0 xs1 xs2 xs3 xs4) (r : Fin 528) (n : Fin 128) (hr : 2 ≤ r.val) :
    k0_pay608 (dr (run.sl.v2972 (F := Ideal) c i arg3 harg3 arg6 harg6 arg7 harg7 arg35 harg35 arg36 x1 x4 x5 xs4)) (dr (run.sl.v2975 (F := Ideal) c i arg3 harg3 arg6 harg6 arg7 harg7 arg35 harg35 arg36 harg36 x1 x4 x5 xs4 xs5)) (ix3 0 r n) = rows D b 4 (512 * T + 8 + r.val) (256 + n.val) := by
  rw [level_608, rows_two D b 2]
  refine congrArg₂ (· + ·) (dv2972 H S r n (by omega)) ((dv2975 H S r n (by omega)).trans ?_)
  rw [show 512 * T + 6 + r.val = 512 * T + 8 + r.val - 2 by omega]

theorem dv2982 (H : Inputs D b T x0 x1 x2 x3 x4 x5 x6 x7 x8 x9 x10) (S : Start D b T xs0 xs1 xs2 xs3 xs4) (r : Fin 528) (n : Fin 128) (hr : 10 ≤ 8 + r.val) :
    (dr (run.sl.v2982 (F := Ideal) c i arg3 harg3 arg6 harg6 arg7 harg7 arg35 harg35 arg36 harg36 x1 x4 x5 xs4 xs5)) (ix2 r n) = rows D b 4 (512 * T + 8 + r.val) (256 + n.val) := by
  have hl := r.isLt
  refine (dr_at _ r n).trans ?_
  refine (head_cov arg36.view (r := Rect.unit ![2, 8, 0] S1x528x128.size inb_S4x536x128_S1x528x128_2_8_0) (w := k0_pay608 (dr (run.sl.v2972 (F := Ideal) c i arg3 harg3 arg6 harg6 arg7 harg7 arg35 harg35 arg36 x1 x4 x5 xs4)) (dr (run.sl.v2975 (F := Ideal) c i arg3 harg3 arg6 harg6 arg7 harg7 arg35 harg35 arg36 harg36 x1 x4 x5 xs4 xs5))) _ _ (ix3 0 (⟨8 + r.val - 8, by omega⟩ : Fin 528) n) ?_).trans ((p3 H S _ n (by show 2 ≤ 8 + r.val - 8; omega)).trans ?_)
  · funext a
    apply Fin.ext
    match a with
    | ⟨0, _⟩ => rfl
    | ⟨1, _⟩ => show 0 + 8 + 1 * r.val = 8 + 1 * (8 + r.val - 8); omega
    | ⟨2, _⟩ => show 0 + 0 + 1 * n.val = 0 + 1 * n.val; omega
  · rw [show 512 * T + 8 + (8 + r.val - 8) = 512 * T + 8 + r.val by omega]

theorem dv2985 (H : Inputs D b T x0 x1 x2 x3 x4 x5 x6 x7 x8 x9 x10) (S : Start D b T xs0 xs1 xs2 xs3 xs4) (r : Fin 528) (n : Fin 128) (hr : 10 ≤ 4 + r.val) :
    (dr (run.sl.v2985 (F := Ideal) c i arg3 harg3 arg6 harg6 arg7 harg7 arg35 harg35 arg36 harg36 x1 x4 x5 xs4 xs5)) (ix2 r n) = rows D b 4 (512 * T + 4 + r.val) (256 + n.val) := by
  have hl := r.isLt
  refine (dr_at _ r n).trans ?_
  refine (head_at arg36.view _ (r := Rect.unit ![2, 8, 0] S1x528x128.size inb_S4x536x128_S1x528x128_2_8_0) (w := k0_pay608 (dr (run.sl.v2972 (F := Ideal) c i arg3 harg3 arg6 harg6 arg7 harg7 arg35 harg35 arg36 x1 x4 x5 xs4)) (dr (run.sl.v2975 (F := Ideal) c i arg3 harg3 arg6 harg6 arg7 harg7 arg35 harg35 arg36 harg36 x1 x4 x5 xs4 xs5))) _ _ (ix3 0 (⟨4 + r.val - 8, by omega⟩ : Fin 528) n) ?_).trans ((p3 H S _ n (by show 2 ≤ 4 + r.val - 8; omega)).trans ?_)
  · funext a
    apply Fin.ext
    match a with
    | ⟨0, _⟩ => rfl
    | ⟨1, _⟩ => show 0 + 4 + 1 * r.val = 8 + 1 * (4 + r.val - 8); omega
    | ⟨2, _⟩ => show 0 + 0 + 1 * n.val = 0 + 1 * n.val; omega
  · rw [show 512 * T + 8 + (4 + r.val - 8) = 512 * T + 4 + r.val by omega]

theorem p4 (H : Inputs D b T x0 x1 x2 x3 x4 x5 x6 x7 x8 x9 x10) (S : Start D b T xs0 xs1 xs2 xs3 xs4) (r : Fin 528) (n : Fin 128) :
    k0_pay612 (arg35.view.readAt (Elt Ideal) (Rect.unit ![8, 384] S528x128.size inb_S536x512_S528x128_8_384 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 384] S528x128.size inb_S536x512_S528x128_7_384 : Rect S536x512).toLoadRect (arg35.view.writes (Elt Ideal) (harg35.unread xs4) (run.sl.HS4_1 (F := Ideal) c i arg3 harg3 arg6 harg6 arg7 harg7 x1 x4 x5))) (ix3 0 r n) = rows D b 2 (512 * T + 8 + r.val) (384 + n.val) := by
  rw [level_612, rows_two D b 1]
  refine congrArg₂ (· + ·) ((ext_read H S 8 384 inb_S536x512_S528x128_8_384 r n).trans (rows_one D b _ _).symm) (((ext_read H S 7 384 inb_S536x512_S528x128_7_384 r n).trans (rows_one D b _ _).symm).trans ?_)
  rw [show 512 * T + 7 + r.val = 512 * T + 8 + r.val - 1 by omega]

theorem dv3012 (H : Inputs D b T x0 x1 x2 x3 x4 x5 x6 x7 x8 x9 x10) (S : Start D b T xs0 xs1 xs2 xs3 xs4) (r : Fin 528) (n : Fin 128) (hr : 8 ≤ 8 + r.val) :
    (dr (run.sl.v3012 (F := Ideal) c i arg3 harg3 arg6 harg6 arg7 harg7 arg35 harg35 arg36 harg36 x1 x4 x5 xs4 xs5)) (ix2 r n) = rows D b 2 (512 * T + 8 + r.val) (384 + n.val) := by
  have hl := r.isLt
  refine (dr_at _ r n).trans ?_
  refine (head_cov arg36.view (r := Rect.unit ![3, 8, 0] S1x528x128.size inb_S4x536x128_S1x528x128_3_8_0) (w := k0_pay612 (arg35.view.readAt (Elt Ideal) (Rect.unit ![8, 384] S528x128.size inb_S536x512_S528x128_8_384 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 384] S528x128.size inb_S536x512_S528x128_7_384 : Rect S536x512).toLoadRect (arg35.view.writes (Elt Ideal) (harg35.unread xs4) (run.sl.HS4_1 (F := Ideal) c i arg3 harg3 arg6 harg6 arg7 harg7 x1 x4 x5)))) _ _ (ix3 0 (⟨8 + r.val - 8, by omega⟩ : Fin 528) n) ?_).trans ((p4 H S _ n).trans ?_)
  · funext a
    apply Fin.ext
    match a with
    | ⟨0, _⟩ => rfl
    | ⟨1, _⟩ => show 0 + 8 + 1 * r.val = 8 + 1 * (8 + r.val - 8); omega
    | ⟨2, _⟩ => show 0 + 0 + 1 * n.val = 0 + 1 * n.val; omega
  · rw [show 512 * T + 8 + (8 + r.val - 8) = 512 * T + 8 + r.val by omega]

theorem dv3015 (H : Inputs D b T x0 x1 x2 x3 x4 x5 x6 x7 x8 x9 x10) (S : Start D b T xs0 xs1 xs2 xs3 xs4) (r : Fin 528) (n : Fin 128) (hr : 8 ≤ 6 + r.val) :
    (dr (run.sl.v3015 (F := Ideal) c i arg3 harg3 arg6 harg6 arg7 harg7 arg35 harg35 arg36 harg36 x1 x4 x5 xs4 xs5)) (ix2 r n) = rows D b 2 (512 * T + 6 + r.val) (384 + n.val) := by
  have hl := r.isLt
  refine (dr_at _ r n).trans ?_
  refine (head_at arg36.view _ (r := Rect.unit ![3, 8, 0] S1x528x128.size inb_S4x536x128_S1x528x128_3_8_0) (w := k0_pay612 (arg35.view.readAt (Elt Ideal) (Rect.unit ![8, 384] S528x128.size inb_S536x512_S528x128_8_384 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 384] S528x128.size inb_S536x512_S528x128_7_384 : Rect S536x512).toLoadRect (arg35.view.writes (Elt Ideal) (harg35.unread xs4) (run.sl.HS4_1 (F := Ideal) c i arg3 harg3 arg6 harg6 arg7 harg7 x1 x4 x5)))) _ _ (ix3 0 (⟨6 + r.val - 8, by omega⟩ : Fin 528) n) ?_).trans ((p4 H S _ n).trans ?_)
  · funext a
    apply Fin.ext
    match a with
    | ⟨0, _⟩ => rfl
    | ⟨1, _⟩ => show 0 + 6 + 1 * r.val = 8 + 1 * (6 + r.val - 8); omega
    | ⟨2, _⟩ => show 0 + 0 + 1 * n.val = 0 + 1 * n.val; omega
  · rw [show 512 * T + 8 + (6 + r.val - 8) = 512 * T + 6 + r.val by omega]

theorem p5 (H : Inputs D b T x0 x1 x2 x3 x4 x5 x6 x7 x8 x9 x10) (S : Start D b T xs0 xs1 xs2 xs3 xs4) (r : Fin 528) (n : Fin 128) (hr : 2 ≤ r.val) :
    k0_pay613 (dr (run.sl.v3012 (F := Ideal) c i arg3 harg3 arg6 harg6 arg7 harg7 arg35 harg35 arg36 harg36 x1 x4 x5 xs4 xs5)) (dr (run.sl.v3015 (F := Ideal) c i arg3 harg3 arg6 harg6 arg7 harg7 arg35 harg35 arg36 harg36 x1 x4 x5 xs4 xs5)) (ix3 0 r n) = rows D b 4 (512 * T + 8 + r.val) (384 + n.val) := by
  rw [level_613, rows_two D b 2]
  refine congrArg₂ (· + ·) (dv3012 H S r n (by omega)) ((dv3015 H S r n (by omega)).trans ?_)
  rw [show 512 * T + 6 + r.val = 512 * T + 8 + r.val - 2 by omega]

theorem dv3022 (H : Inputs D b T x0 x1 x2 x3 x4 x5 x6 x7 x8 x9 x10) (S : Start D b T xs0 xs1 xs2 xs3 xs4) (r : Fin 528) (n : Fin 128) (hr : 10 ≤ 8 + r.val) :
    (dr (run.sl.v3022 (F := Ideal) c i arg3 harg3 arg6 harg6 arg7 harg7 arg35 harg35 arg36 harg36 x1 x4 x5 xs4 xs5)) (ix2 r n) = rows D b 4 (512 * T + 8 + r.val) (384 + n.val) := by
  have hl := r.isLt
  refine (dr_at _ r n).trans ?_
  refine (head_cov arg36.view (r := Rect.unit ![3, 8, 0] S1x528x128.size inb_S4x536x128_S1x528x128_3_8_0) (w := k0_pay613 (dr (run.sl.v3012 (F := Ideal) c i arg3 harg3 arg6 harg6 arg7 harg7 arg35 harg35 arg36 harg36 x1 x4 x5 xs4 xs5)) (dr (run.sl.v3015 (F := Ideal) c i arg3 harg3 arg6 harg6 arg7 harg7 arg35 harg35 arg36 harg36 x1 x4 x5 xs4 xs5))) _ _ (ix3 0 (⟨8 + r.val - 8, by omega⟩ : Fin 528) n) ?_).trans ((p5 H S _ n (by show 2 ≤ 8 + r.val - 8; omega)).trans ?_)
  · funext a
    apply Fin.ext
    match a with
    | ⟨0, _⟩ => rfl
    | ⟨1, _⟩ => show 0 + 8 + 1 * r.val = 8 + 1 * (8 + r.val - 8); omega
    | ⟨2, _⟩ => show 0 + 0 + 1 * n.val = 0 + 1 * n.val; omega
  · rw [show 512 * T + 8 + (8 + r.val - 8) = 512 * T + 8 + r.val by omega]

theorem dv3025 (H : Inputs D b T x0 x1 x2 x3 x4 x5 x6 x7 x8 x9 x10) (S : Start D b T xs0 xs1 xs2 xs3 xs4) (r : Fin 528) (n : Fin 128) (hr : 10 ≤ 4 + r.val) :
    (dr (run.sl.v3025 (F := Ideal) c i arg3 harg3 arg6 harg6 arg7 harg7 arg35 harg35 arg36 harg36 x1 x4 x5 xs4 xs5)) (ix2 r n) = rows D b 4 (512 * T + 4 + r.val) (384 + n.val) := by
  have hl := r.isLt
  refine (dr_at _ r n).trans ?_
  refine (head_at arg36.view _ (r := Rect.unit ![3, 8, 0] S1x528x128.size inb_S4x536x128_S1x528x128_3_8_0) (w := k0_pay613 (dr (run.sl.v3012 (F := Ideal) c i arg3 harg3 arg6 harg6 arg7 harg7 arg35 harg35 arg36 harg36 x1 x4 x5 xs4 xs5)) (dr (run.sl.v3015 (F := Ideal) c i arg3 harg3 arg6 harg6 arg7 harg7 arg35 harg35 arg36 harg36 x1 x4 x5 xs4 xs5))) _ _ (ix3 0 (⟨4 + r.val - 8, by omega⟩ : Fin 528) n) ?_).trans ((p5 H S _ n (by show 2 ≤ 4 + r.val - 8; omega)).trans ?_)
  · funext a
    apply Fin.ext
    match a with
    | ⟨0, _⟩ => rfl
    | ⟨1, _⟩ => show 0 + 4 + 1 * r.val = 8 + 1 * (4 + r.val - 8); omega
    | ⟨2, _⟩ => show 0 + 0 + 1 * n.val = 0 + 1 * n.val; omega
  · rw [show 512 * T + 8 + (4 + r.val - 8) = 512 * T + 4 + r.val by omega]

theorem p6 (H : Inputs D b T x0 x1 x2 x3 x4 x5 x6 x7 x8 x9 x10) (S : Start D b T xs0 xs1 xs2 xs3 xs4) (r : Fin 528) (n : Fin 128) (hr : 6 ≤ r.val) :
    k0_pay614 (dr (run.sl.v3022 (F := Ideal) c i arg3 harg3 arg6 harg6 arg7 harg7 arg35 harg35 arg36 harg36 x1 x4 x5 xs4 xs5)) (dr (run.sl.v3025 (F := Ideal) c i arg3 harg3 arg6 harg6 arg7 harg7 arg35 harg35 arg36 harg36 x1 x4 x5 xs4 xs5)) (ix3 0 r n) = rows D b 8 (512 * T + 8 + r.val) (384 + n.val) := by
  rw [level_614, rows_two D b 4]
  refine congrArg₂ (· + ·) (dv3022 H S r n (by omega)) ((dv3025 H S r n (by omega)).trans ?_)
  rw [show 512 * T + 4 + r.val = 512 * T + 8 + r.val - 4 by omega]

theorem dv3032 (H : Inputs D b T x0 x1 x2 x3 x4 x5 x6 x7 x8 x9 x10) (S : Start D b T xs0 xs1 xs2 xs3 xs4) (r : Fin 528) (n : Fin 128) (hr : 14 ≤ 8 + r.val) :
    (dr (run.sl.v3032 (F := Ideal) c i arg3 harg3 arg6 harg6 arg7 harg7 arg35 harg35 arg36 harg36 x1 x4 x5 xs4 xs5)) (ix2 r n) = rows D b 8 (512 * T + 8 + r.val) (384 + n.val) := by
  have hl := r.isLt
  refine (dr_at _ r n).trans ?_
  refine (head_cov arg36.view (r := Rect.unit ![3, 8, 0] S1x528x128.size inb_S4x536x128_S1x528x128_3_8_0) (w := k0_pay614 (dr (run.sl.v3022 (F := Ideal) c i arg3 harg3 arg6 harg6 arg7 harg7 arg35 harg35 arg36 harg36 x1 x4 x5 xs4 xs5)) (dr (run.sl.v3025 (F := Ideal) c i arg3 harg3 arg6 harg6 arg7 harg7 arg35 harg35 arg36 harg36 x1 x4 x5 xs4 xs5))) _ _ (ix3 0 (⟨8 + r.val - 8, by omega⟩ : Fin 528) n) ?_).trans ((p6 H S _ n (by show 6 ≤ 8 + r.val - 8; omega)).trans ?_)
  · funext a
    apply Fin.ext
    match a with
    | ⟨0, _⟩ => rfl
    | ⟨1, _⟩ => show 0 + 8 + 1 * r.val = 8 + 1 * (8 + r.val - 8); omega
    | ⟨2, _⟩ => show 0 + 0 + 1 * n.val = 0 + 1 * n.val; omega
  · rw [show 512 * T + 8 + (8 + r.val - 8) = 512 * T + 8 + r.val by omega]

theorem dv3035 (H : Inputs D b T x0 x1 x2 x3 x4 x5 x6 x7 x8 x9 x10) (S : Start D b T xs0 xs1 xs2 xs3 xs4) (r : Fin 528) (n : Fin 128) (hr : 14 ≤ 0 + r.val) :
    (dr (run.sl.v3035 (F := Ideal) c i arg3 harg3 arg6 harg6 arg7 harg7 arg35 harg35 arg36 harg36 x1 x4 x5 xs4 xs5)) (ix2 r n) = rows D b 8 (512 * T + 0 + r.val) (384 + n.val) := by
  have hl := r.isLt
  refine (dr_at _ r n).trans ?_
  refine (head_at arg36.view _ (r := Rect.unit ![3, 8, 0] S1x528x128.size inb_S4x536x128_S1x528x128_3_8_0) (w := k0_pay614 (dr (run.sl.v3022 (F := Ideal) c i arg3 harg3 arg6 harg6 arg7 harg7 arg35 harg35 arg36 harg36 x1 x4 x5 xs4 xs5)) (dr (run.sl.v3025 (F := Ideal) c i arg3 harg3 arg6 harg6 arg7 harg7 arg35 harg35 arg36 harg36 x1 x4 x5 xs4 xs5))) _ _ (ix3 0 (⟨0 + r.val - 8, by omega⟩ : Fin 528) n) ?_).trans ((p6 H S _ n (by show 6 ≤ 0 + r.val - 8; omega)).trans ?_)
  · funext a
    apply Fin.ext
    match a with
    | ⟨0, _⟩ => rfl
    | ⟨1, _⟩ => show 0 + 0 + 1 * r.val = 8 + 1 * (0 + r.val - 8); omega
    | ⟨2, _⟩ => show 0 + 0 + 1 * n.val = 0 + 1 * n.val; omega
  · rw [show 512 * T + 8 + (0 + r.val - 8) = 512 * T + 0 + r.val by omega]

theorem gw_read (H : Inputs D b T x0 x1 x2 x3 x4 x5 x6 x7 x8 x9 x10) (g : ℕ) (inb) (q n : Fin 128) :
    arg8.view.readAt (Elt Ideal) (Rect.unit ![g, 0, 0] S1x128x128.size inb : Rect S4x128x128).toLoadRect (harg8.unread x6) (ix3 0 q n) = D.gw g q.val n.val := by
  rw [load_at, H.h6]
  show D.gw (g + 1 * 0) (0 + 1 * q.val) (0 + 1 * n.val) = _
  simp only [zero_add, one_mul, mul_zero, add_zero]

theorem ps_read (H : Inputs D b T x0 x1 x2 x3 x4 x5 x6 x7 x8 x9 x10) (g : ℕ) (inb) (n : Fin 128) :
    arg9.view.readAt (Elt Ideal) (Rect.unit ![0, g] S1x128.size inb : Rect S1x512).toLoadRect (harg9.unread x7) (ix2 0 n) = D.ps (g + n.val) := by
  rw [load_at, H.h7]
  show D.ps (g + 1 * n.val) = _
  simp only [one_mul]

theorem part0 (H : Inputs D b T x0 x1 x2 x3 x4 x5 x6 x7 x8 x9 x10) (S : Start D b T xs0 xs1 xs2 xs3 xs4) (hi : (i 1).val = T) (r : Fin 512) (n : Fin 128) :
    run.sl.r_279 (F := Ideal) c i arg3 harg3 arg6 harg6 arg7 harg7 arg8 harg8 arg9 harg9 arg35 harg35 x1 x4 x5 x6 x7 xs4 (ix2 r n) = pooled D b (512 * T + r.val) (128 * 0 + n.val) := by
  have hT : (i 1).val < 16 := (i 1).isLt
  have e : run.sl.r_279 (F := Ideal) c i arg3 harg3 arg6 harg6 arg7 harg7 arg8 harg8 arg9 harg9 arg35 harg35 x1 x4 x5 x6 x7 xs4 = k0_pay602 (BitVec.ofNat 32 (i 1).val) (run.sl.r_16 (F := Ideal) c i arg3 harg3 arg6 harg6 arg7 harg7 x1 x4 x5) (arg35.view.readAt (Elt Ideal) (Rect.unit ![8, 0] S528x128.size inb_S536x512_S528x128_8_0 : Rect S536x512).toLoadRect (arg35.view.writes (Elt Ideal) (harg35.unread xs4) (run.sl.HS4_1 (F := Ideal) c i arg3 harg3 arg6 harg6 arg7 harg7 x1 x4 x5))) (arg35.view.readAt (Elt Ideal) (Rect.unit ![7, 0] S528x128.size inb_S536x512_S528x128_7_0 : Rect S536x512).toLoadRect (arg35.view.writes (Elt Ideal) (harg35.unread xs4) (run.sl.HS4_1 (F := Ideal) c i arg3 harg3 arg6 harg6 arg7 harg7 x1 x4 x5))) (arg8.view.readAt (Elt Ideal) (Rect.unit ![0, 0, 0] S1x128x128.size inb_S4x128x128_S1x128x128_0_0_0 : Rect S4x128x128).toLoadRect (harg8.unread x6)) (arg9.view.readAt (Elt Ideal) (Rect.unit ![0, 0] S1x128.size inb_S1x512_S1x128_0_0 : Rect S1x512).toLoadRect (harg9.unread x7)) := rfl
  rw [e, mix0, cnt_2 _ hT r, hi]
  refine pooled_of D b T 0 r n _ _ _ _ _ (fun q => ?_) rfl (fun q => (ru_at H r _).trans (congrArg (u D b (512 * T + r.val)) (by show q.val = 128 * 0 + q.val; omega))) (fun q => gw_read H 0 _ q n) (ps_read H 0 _ n)
  refine Eq.trans ?_ (rows_two D b 1 _ _).symm
  refine congrArg₂ (· + ·) ((ext_read H S 8 0 inb_S536x512_S528x128_8_0 _ q).trans ?_) ((ext_read H S 7 0 inb_S536x512_S528x128_7_0 _ q).trans ?_)
  · rw [rows_one]
    congr 1
    show 512 * T + 8 + (16 + r.val) = 512 * T + 24 + r.val
    omega
  · rw [rows_one]
    congr 1
    show 512 * T + 7 + (16 + r.val) = 512 * T + 24 + r.val - 1
    omega

theorem part1 (H : Inputs D b T x0 x1 x2 x3 x4 x5 x6 x7 x8 x9 x10) (S : Start D b T xs0 xs1 xs2 xs3 xs4) (hi : (i 1).val = T) (r : Fin 512) (n : Fin 128) :
    run.sl.r_281 (F := Ideal) c i arg3 harg3 arg6 harg6 arg7 harg7 arg8 harg8 arg9 harg9 arg35 harg35 arg36 harg36 x1 x4 x5 x6 x7 xs4 xs5 (ix2 r n) = pooled D b (512 * T + r.val) (128 * 1 + n.val) := by
  have hT : (i 1).val < 16 := (i 1).isLt
  have e : run.sl.r_281 (F := Ideal) c i arg3 harg3 arg6 harg6 arg7 harg7 arg8 harg8 arg9 harg9 arg35 harg35 arg36 harg36 x1 x4 x5 x6 x7 xs4 xs5 = k0_pay605 (k0_pay601 (BitVec.ofNat 32 (i 1).val)) (k0_pay603 (run.sl.r_16 (F := Ideal) c i arg3 harg3 arg6 harg6 arg7 harg7 x1 x4 x5)) (dr (run.sl.v2942 (F := Ideal) c i arg3 harg3 arg6 harg6 arg7 harg7 arg35 harg35 arg36 x1 x4 x5 xs4)) (dr (run.sl.v2945 (F := Ideal) c i arg3 harg3 arg6 harg6 arg7 harg7 arg35 harg35 arg36 harg36 x1 x4 x5 xs4 xs5)) (arg8.view.readAt (Elt Ideal) (Rect.unit ![1, 0, 0] S1x128x128.size inb_S4x128x128_S1x128x128_1_0_0 : Rect S4x128x128).toLoadRect (harg8.unread x6)) (arg9.view.readAt (Elt Ideal) (Rect.unit ![0, 128] S1x128.size inb_S1x512_S1x128_0_128 : Rect S1x512).toLoadRect (harg9.unread x7)) := rfl
  rw [e, mix1, cnt_4 _ hT r, hi]
  refine pooled_of D b T 1 r n _ _ _ _ _ (fun q => ?_) rfl (fun q => ru_at H r _) (fun q => gw_read H 1 _ q n) (ps_read H 128 _ n)
  refine Eq.trans ?_ (rows_two D b 2 _ _).symm
  refine congrArg₂ (· + ·) ((dv2942 H S _ q (by show _ ≤ 8 + (16 + r.val); omega)).trans ?_) ((dv2945 H S _ q (by show _ ≤ 6 + (16 + r.val); omega)).trans ?_)
  · show rows D b 2 (512 * T + 8 + (16 + r.val)) _ = rows D b 2 (512 * T + 24 + r.val) _
    rw [show 512 * T + 8 + (16 + r.val) = 512 * T + 24 + r.val by omega]
  · show rows D b 2 (512 * T + 6 + (16 + r.val)) _ = rows D b 2 (512 * T + 24 + r.val - 2) _
    rw [show 512 * T + 6 + (16 + r.val) = 512 * T + 24 + r.val - 2 by omega]

theorem part2 (H : Inputs D b T x0 x1 x2 x3 x4 x5 x6 x7 x8 x9 x10) (S : Start D b T xs0 xs1 xs2 xs3 xs4) (hi : (i 1).val = T) (r : Fin 512) (n : Fin 128) :
    run.sl.r_286 (F := Ideal) c i arg3 harg3 arg6 harg6 arg7 harg7 arg8 harg8 arg9 harg9 arg35 harg35 arg36 harg36 x1 x4 x5 x6 x7 xs4 xs5 (ix2 r n) = pooled D b (512 * T + r.val) (128 * 2 + n.val) := by
  have hT : (i 1).val < 16 := (i 1).isLt
  have e : run.sl.r_286 (F := Ideal) c i arg3 harg3 arg6 harg6 arg7 harg7 arg8 harg8 arg9 harg9 arg35 harg35 arg36 harg36 x1 x4 x5 x6 x7 xs4 xs5 = k0_pay610 (k0_pay609 (k0_pay601 (BitVec.ofNat 32 (i 1).val)) (k0_pay606 (run.sl.r_16 (F := Ideal) c i arg3 harg3 arg6 harg6 arg7 harg7 x1 x4 x5)) (dr (run.sl.v2982 (F := Ideal) c i arg3 harg3 arg6 harg6 arg7 harg7 arg35 harg35 arg36 harg36 x1 x4 x5 xs4 xs5)) (dr (run.sl.v2985 (F := Ideal) c i arg3 harg3 arg6 harg6 arg7 harg7 arg35 harg35 arg36 harg36 x1 x4 x5 xs4 xs5))) (arg8.view.readAt (Elt Ideal) (Rect.unit ![2, 0, 0] S1x128x128.size inb_S4x128x128_S1x128x128_2_0_0 : Rect S4x128x128).toLoadRect (harg8.unread x6)) (arg9.view.readAt (Elt Ideal) (Rect.unit ![0, 256] S1x128.size inb_S1x512_S1x128_0_256 : Rect S1x512).toLoadRect (harg9.unread x7)) := rfl
  rw [e, mix2, cnt_8 _ hT r, hi]
  refine pooled_of D b T 2 r n _ _ _ _ _ (fun q => ?_) rfl (fun q => ru_at H r _) (fun q => gw_read H 2 _ q n) (ps_read H 256 _ n)
  refine Eq.trans ?_ (rows_two D b 4 _ _).symm
  refine congrArg₂ (· + ·) ((dv2982 H S _ q (by show _ ≤ 8 + (16 + r.val); omega)).trans ?_) ((dv2985 H S _ q (by show _ ≤ 4 + (16 + r.val); omega)).trans ?_)
  · show rows D b 4 (512 * T + 8 + (16 + r.val)) _ = rows D b 4 (512 * T + 24 + r.val) _
    rw [show 512 * T + 8 + (16 + r.val) = 512 * T + 24 + r.val by omega]
  · show rows D b 4 (512 * T + 4 + (16 + r.val)) _ = rows D b 4 (512 * T + 24 + r.val - 4) _
    rw [show 512 * T + 4 + (16 + r.val) = 512 * T + 24 + r.val - 4 by omega]

theorem part3 (H : Inputs D b T x0 x1 x2 x3 x4 x5 x6 x7 x8 x9 x10) (S : Start D b T xs0 xs1 xs2 xs3 xs4) (hi : (i 1).val = T) (r : Fin 512) (n : Fin 128) :
    run.sl.r_289 (F := Ideal) c i arg3 harg3 arg6 harg6 arg7 harg7 arg8 harg8 arg9 harg9 arg35 harg35 arg36 harg36 x1 x4 x5 x6 x7 xs4 xs5 (ix2 r (⟨384 + n.val, by omega⟩ : Fin 512)) = pooled D b (512 * T + r.val) (128 * 3 + n.val) := by
  have hT : (i 1).val < 16 := (i 1).isLt
  have e : run.sl.r_289 (F := Ideal) c i arg3 harg3 arg6 harg6 arg7 harg7 arg8 harg8 arg9 harg9 arg35 harg35 arg36 harg36 x1 x4 x5 x6 x7 xs4 xs5 = k0_pay615 (k0_pay601 (BitVec.ofNat 32 (i 1).val)) (run.sl.r_279 (F := Ideal) c i arg3 harg3 arg6 harg6 arg7 harg7 arg8 harg8 arg9 harg9 arg35 harg35 x1 x4 x5 x6 x7 xs4) (run.sl.r_281 (F := Ideal) c i arg3 harg3 arg6 harg6 arg7 harg7 arg8 harg8 arg9 harg9 arg35 harg35 arg36 harg36 x1 x4 x5 x6 x7 xs4 xs5) (run.sl.r_286 (F := Ideal) c i arg3 harg3 arg6 harg6 arg7 harg7 arg8 harg8 arg9 harg9 arg35 harg35 arg36 harg36 x1 x4 x5 x6 x7 xs4 xs5) (k0_pay611 (run.sl.r_16 (F := Ideal) c i arg3 harg3 arg6 harg6 arg7 harg7 x1 x4 x5)) (dr (run.sl.v3032 (F := Ideal) c i arg3 harg3 arg6 harg6 arg7 harg7 arg35 harg35 arg36 harg36 x1 x4 x5 xs4 xs5)) (dr (run.sl.v3035 (F := Ideal) c i arg3 harg3 arg6 harg6 arg7 harg7 arg35 harg35 arg36 harg36 x1 x4 x5 xs4 xs5)) (arg8.view.readAt (Elt Ideal) (Rect.unit ![3, 0, 0] S1x128x128.size inb_S4x128x128_S1x128x128_3_0_0 : Rect S4x128x128).toLoadRect (harg8.unread x6)) (arg9.view.readAt (Elt Ideal) (Rect.unit ![0, 384] S1x128.size inb_S1x512_S1x128_0_384 : Rect S1x512).toLoadRect (harg9.unread x7)) := rfl
  rw [e, mix3, cnt_16 _ hT r, hi]
  refine pooled_of D b T 3 r n _ _ _ _ _ (fun q => ?_) rfl (fun q => ru_at H r _) (fun q => gw_read H 3 _ q n) (ps_read H 384 _ n)
  refine Eq.trans ?_ (rows_two D b 8 _ _).symm
  refine congrArg₂ (· + ·) ((dv3032 H S _ q (by show _ ≤ 8 + (16 + r.val); omega)).trans ?_) ((dv3035 H S _ q (by show _ ≤ 0 + (16 + r.val); omega)).trans ?_)
  · show rows D b 8 (512 * T + 8 + (16 + r.val)) _ = rows D b 8 (512 * T + 24 + r.val) _
    rw [show 512 * T + 8 + (16 + r.val) = 512 * T + 24 + r.val by omega]
  · show rows D b 8 (512 * T + 0 + (16 + r.val)) _ = rows D b 8 (512 * T + 24 + r.val - 8) _
    rw [show 512 * T + 0 + (16 + r.val) = 512 * T + 24 + r.val - 8 by omega]

/-- The pooled rows. -/
theorem pool_at (H : Inputs D b T x0 x1 x2 x3 x4 x5 x6 x7 x8 x9 x10) (S : Start D b T xs0 xs1 xs2 xs3 xs4) (hi : (i 1).val = T) (r : Fin 512) (n : Fin 512) :
    run.sl.r_289 (F := Ideal) c i arg3 harg3 arg6 harg6 arg7 harg7 arg8 harg8 arg9 harg9 arg35 harg35 arg36 harg36 x1 x4 x5 x6 x7 xs4 xs5 (ix2 r n) = pooled D b (512 * T + r.val) n.val := by
  have hn := n.isLt
  have e : run.sl.r_289 (F := Ideal) c i arg3 harg3 arg6 harg6 arg7 harg7 arg8 harg8 arg9 harg9 arg35 harg35 arg36 harg36 x1 x4 x5 x6 x7 xs4 xs5 = k0_pay615 (k0_pay601 (BitVec.ofNat 32 (i 1).val)) (run.sl.r_279 (F := Ideal) c i arg3 harg3 arg6 harg6 arg7 harg7 arg8 harg8 arg9 harg9 arg35 harg35 x1 x4 x5 x6 x7 xs4) (run.sl.r_281 (F := Ideal) c i arg3 harg3 arg6 harg6 arg7 harg7 arg8 harg8 arg9 harg9 arg35 harg35 arg36 harg36 x1 x4 x5 x6 x7 xs4 xs5) (run.sl.r_286 (F := Ideal) c i arg3 harg3 arg6 harg6 arg7 harg7 arg8 harg8 arg9 harg9 arg35 harg35 arg36 harg36 x1 x4 x5 x6 x7 xs4 xs5) (k0_pay611 (run.sl.r_16 (F := Ideal) c i arg3 harg3 arg6 harg6 arg7 harg7 x1 x4 x5)) (dr (run.sl.v3032 (F := Ideal) c i arg3 harg3 arg6 harg6 arg7 harg7 arg35 harg35 arg36 harg36 x1 x4 x5 xs4 xs5)) (dr (run.sl.v3035 (F := Ideal) c i arg3 harg3 arg6 harg6 arg7 harg7 arg35 harg35 arg36 harg36 x1 x4 x5 xs4 xs5)) (arg8.view.readAt (Elt Ideal) (Rect.unit ![3, 0, 0] S1x128x128.size inb_S4x128x128_S1x128x128_3_0_0 : Rect S4x128x128).toLoadRect (harg8.unread x6)) (arg9.view.readAt (Elt Ideal) (Rect.unit ![0, 384] S1x128.size inb_S1x512_S1x128_0_384 : Rect S1x512).toLoadRect (harg9.unread x7)) := rfl
  by_cases h0 : n.val < 128
  · obtain ⟨l, hl⟩ : ∃ l : Fin 128, n.val = l.val := ⟨⟨n.val - 0, by omega⟩, by show n.val = (n.val - 0); omega⟩
    have lt : l.val < 512 := hl ▸ hn
    rw [show n = (⟨l.val, lt⟩ : Fin 512) from Fin.ext hl]
    rw [e, (mix_lt _ _ _ _ _ _ _ _ _ r l).1]
    refine (part0 H S hi r l).trans ?_
    congr 1; show 128 * 0 + l.val = l.val; omega
  by_cases h1 : n.val < 256
  · obtain ⟨l, hl⟩ : ∃ l : Fin 128, n.val = 128 + l.val := ⟨⟨n.val - 128, by omega⟩, by show n.val = 128 + (n.val - 128); omega⟩
    have lt : 128 + l.val < 512 := hl ▸ hn
    rw [show n = (⟨128 + l.val, lt⟩ : Fin 512) from Fin.ext hl]
    rw [e, (mix_lt _ _ _ _ _ _ _ _ _ r l).2.1]
    refine (part1 H S hi r l).trans ?_
    congr 1
  by_cases h2 : n.val < 384
  · obtain ⟨l, hl⟩ : ∃ l : Fin 128, n.val = 256 + l.val := ⟨⟨n.val - 256, by omega⟩, by show n.val = 256 + (n.val - 256); omega⟩
    have lt : 256 + l.val < 512 := hl ▸ hn
    rw [show n = (⟨256 + l.val, lt⟩ : Fin 512) from Fin.ext hl]
    rw [e, (mix_lt _ _ _ _ _ _ _ _ _ r l).2.2]
    refine (part2 H S hi r l).trans ?_
    congr 1
  obtain ⟨l, hl⟩ : ∃ l : Fin 128, n.val = 384 + l.val := ⟨⟨n.val - 384, by omega⟩, by show n.val = 384 + (n.val - 384); omega⟩
  have lt : 384 + l.val < 512 := hl ▸ hn
  rw [show n = (⟨384 + l.val, lt⟩ : Fin 512) from Fin.ext hl]
  exact part3 H S hi r l

end Cert.Mixer

end
-- ==== Proof.Mixer.Cover.lean ====
/-
  The averages and the gates of a step fill their buffers.
-/
module

public import proofs.«01_k».proof.Proof.Mixer.Att
public import proofs.«01_k».proof.Proof.Mixer.Gates
public import proofs.«01_k».proof.Proof.Mixer.Pool
public import Idealize.ShloMosaic.Lib.KernelVsHost

@[expose] public section

set_option maxRecDepth 16384

noncomputable section

namespace Cert.Mixer

open Cert.Kernel3Ideal Cert.Kernel3Ideal.Gen
open Idealize.ShloMosaic Idealize.ShloMosaic.TcCoe Idealize.SL.Sem

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

/-- A rectangle of two axes holds an index that lies within it on both. -/
theorem box {p q : ℕ} {o sz : Fin 2 → ℕ} {inb} (y : (Shape.Idx ⟨2, ![p, q]⟩)) (h0 : o 0 ≤ (y 0).val ∧ (y 0).val < o 0 + sz 0)
    (h1 : o 1 ≤ (y 1).val ∧ (y 1).val < o 1 + sz 1) : y ∈ (Rect.unit o sz inb : Rect ⟨2, ![p, q]⟩).set :=
  (Rect.mem_set_unit (inb := inb)).2 fun a => match a with
    | ⟨0, _⟩ => h0
    | ⟨1, _⟩ => h1

/-- Where the pieces lie. -/
def atts_rects : List (Rect S512x1024) := [Rect.unit ![384, 896] S128x128.size inb_S512x1024_S128x128_384_896, Rect.unit ![384, 768] S128x128.size inb_S512x1024_S128x128_384_768, Rect.unit ![384, 640] S128x128.size inb_S512x1024_S128x128_384_640, Rect.unit ![384, 512] S128x128.size inb_S512x1024_S128x128_384_512, Rect.unit ![384, 384] S128x128.size inb_S512x1024_S128x128_384_384, Rect.unit ![384, 256] S128x128.size inb_S512x1024_S128x128_384_256, Rect.unit ![384, 128] S128x128.size inb_S512x1024_S128x128_384_128, Rect.unit ![384, 0] S128x128.size inb_S512x1024_S128x128_384_0, Rect.unit ![256, 896] S128x128.size inb_S512x1024_S128x128_256_896, Rect.unit ![256, 768] S128x128.size inb_S512x1024_S128x128_256_768, Rect.unit ![256, 640] S128x128.size inb_S512x1024_S128x128_256_640, Rect.unit ![256, 512] S128x128.size inb_S512x1024_S128x128_256_512, Rect.unit ![256, 384] S128x128.size inb_S512x1024_S128x128_256_384, Rect.unit ![256, 256] S128x128.size inb_S512x1024_S128x128_256_256, Rect.unit ![256, 128] S128x128.size inb_S512x1024_S128x128_256_128, Rect.unit ![256, 0] S128x128.size inb_S512x1024_S128x128_256_0, Rect.unit ![128, 896] S128x128.size inb_S512x1024_S128x128_128_896, Rect.unit ![128, 768] S128x128.size inb_S512x1024_S128x128_128_768, Rect.unit ![128, 640] S128x128.size inb_S512x1024_S128x128_128_640, Rect.unit ![128, 512] S128x128.size inb_S512x1024_S128x128_128_512, Rect.unit ![128, 384] S128x128.size inb_S512x1024_S128x128_128_384, Rect.unit ![128, 256] S128x128.size inb_S512x1024_S128x128_128_256, Rect.unit ![128, 128] S128x128.size inb_S512x1024_S128x128_128_128, Rect.unit ![128, 0] S128x128.size inb_S512x1024_S128x128_128_0, Rect.unit ![0, 896] S128x128.size inb_S512x1024_S128x128_0_896, Rect.unit ![0, 768] S128x128.size inb_S512x1024_S128x128_0_768, Rect.unit ![0, 640] S128x128.size inb_S512x1024_S128x128_0_640, Rect.unit ![0, 512] S128x128.size inb_S512x1024_S128x128_0_512, Rect.unit ![0, 384] S128x128.size inb_S512x1024_S128x128_0_384, Rect.unit ![0, 256] S128x128.size inb_S512x1024_S128x128_0_256, Rect.unit ![0, 128] S128x128.size inb_S512x1024_S128x128_0_128, Rect.unit ![0, 0] S128x128.size inb_S512x1024_S128x128_0_0]

theorem atts_rects_full (y : S512x1024.Idx) : ∃ r ∈ atts_rects, y ∈ r.set := by
  have h0 : (y 0).val < 512 := (y 0).isLt
  have h1 : (y 1).val < 1024 := (y 1).isLt
  rcases (show (0 ≤ (y 0).val ∧ (y 0).val < 0 + 128) ∨ (128 ≤ (y 0).val ∧ (y 0).val < 128 + 128) ∨ (256 ≤ (y 0).val ∧ (y 0).val < 256 + 128) ∨ (384 ≤ (y 0).val ∧ (y 0).val < 384 + 128) by omega) with a | a | a | a
  · rcases (show (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) by omega) with e | e | e | e | e | e | e | e
    · exact ⟨_, List.mem_of_getElem? (l := atts_rects) (i := 31) (a := (Rect.unit ![0, 0] S128x128.size inb_S512x1024_S128x128_0_0 : Rect S512x1024)) rfl, box (inb := inb_S512x1024_S128x128_0_0) y a e⟩
    · exact ⟨_, List.mem_of_getElem? (l := atts_rects) (i := 30) (a := (Rect.unit ![0, 128] S128x128.size inb_S512x1024_S128x128_0_128 : Rect S512x1024)) rfl, box (inb := inb_S512x1024_S128x128_0_128) y a e⟩
    · exact ⟨_, List.mem_of_getElem? (l := atts_rects) (i := 29) (a := (Rect.unit ![0, 256] S128x128.size inb_S512x1024_S128x128_0_256 : Rect S512x1024)) rfl, box (inb := inb_S512x1024_S128x128_0_256) y a e⟩
    · exact ⟨_, List.mem_of_getElem? (l := atts_rects) (i := 28) (a := (Rect.unit ![0, 384] S128x128.size inb_S512x1024_S128x128_0_384 : Rect S512x1024)) rfl, box (inb := inb_S512x1024_S128x128_0_384) y a e⟩
    · exact ⟨_, List.mem_of_getElem? (l := atts_rects) (i := 27) (a := (Rect.unit ![0, 512] S128x128.size inb_S512x1024_S128x128_0_512 : Rect S512x1024)) rfl, box (inb := inb_S512x1024_S128x128_0_512) y a e⟩
    · exact ⟨_, List.mem_of_getElem? (l := atts_rects) (i := 26) (a := (Rect.unit ![0, 640] S128x128.size inb_S512x1024_S128x128_0_640 : Rect S512x1024)) rfl, box (inb := inb_S512x1024_S128x128_0_640) y a e⟩
    · exact ⟨_, List.mem_of_getElem? (l := atts_rects) (i := 25) (a := (Rect.unit ![0, 768] S128x128.size inb_S512x1024_S128x128_0_768 : Rect S512x1024)) rfl, box (inb := inb_S512x1024_S128x128_0_768) y a e⟩
    · exact ⟨_, List.mem_of_getElem? (l := atts_rects) (i := 24) (a := (Rect.unit ![0, 896] S128x128.size inb_S512x1024_S128x128_0_896 : Rect S512x1024)) rfl, box (inb := inb_S512x1024_S128x128_0_896) y a e⟩
  · rcases (show (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) by omega) with e | e | e | e | e | e | e | e
    · exact ⟨_, List.mem_of_getElem? (l := atts_rects) (i := 23) (a := (Rect.unit ![128, 0] S128x128.size inb_S512x1024_S128x128_128_0 : Rect S512x1024)) rfl, box (inb := inb_S512x1024_S128x128_128_0) y a e⟩
    · exact ⟨_, List.mem_of_getElem? (l := atts_rects) (i := 22) (a := (Rect.unit ![128, 128] S128x128.size inb_S512x1024_S128x128_128_128 : Rect S512x1024)) rfl, box (inb := inb_S512x1024_S128x128_128_128) y a e⟩
    · exact ⟨_, List.mem_of_getElem? (l := atts_rects) (i := 21) (a := (Rect.unit ![128, 256] S128x128.size inb_S512x1024_S128x128_128_256 : Rect S512x1024)) rfl, box (inb := inb_S512x1024_S128x128_128_256) y a e⟩
    · exact ⟨_, List.mem_of_getElem? (l := atts_rects) (i := 20) (a := (Rect.unit ![128, 384] S128x128.size inb_S512x1024_S128x128_128_384 : Rect S512x1024)) rfl, box (inb := inb_S512x1024_S128x128_128_384) y a e⟩
    · exact ⟨_, List.mem_of_getElem? (l := atts_rects) (i := 19) (a := (Rect.unit ![128, 512] S128x128.size inb_S512x1024_S128x128_128_512 : Rect S512x1024)) rfl, box (inb := inb_S512x1024_S128x128_128_512) y a e⟩
    · exact ⟨_, List.mem_of_getElem? (l := atts_rects) (i := 18) (a := (Rect.unit ![128, 640] S128x128.size inb_S512x1024_S128x128_128_640 : Rect S512x1024)) rfl, box (inb := inb_S512x1024_S128x128_128_640) y a e⟩
    · exact ⟨_, List.mem_of_getElem? (l := atts_rects) (i := 17) (a := (Rect.unit ![128, 768] S128x128.size inb_S512x1024_S128x128_128_768 : Rect S512x1024)) rfl, box (inb := inb_S512x1024_S128x128_128_768) y a e⟩
    · exact ⟨_, List.mem_of_getElem? (l := atts_rects) (i := 16) (a := (Rect.unit ![128, 896] S128x128.size inb_S512x1024_S128x128_128_896 : Rect S512x1024)) rfl, box (inb := inb_S512x1024_S128x128_128_896) y a e⟩
  · rcases (show (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) by omega) with e | e | e | e | e | e | e | e
    · exact ⟨_, List.mem_of_getElem? (l := atts_rects) (i := 15) (a := (Rect.unit ![256, 0] S128x128.size inb_S512x1024_S128x128_256_0 : Rect S512x1024)) rfl, box (inb := inb_S512x1024_S128x128_256_0) y a e⟩
    · exact ⟨_, List.mem_of_getElem? (l := atts_rects) (i := 14) (a := (Rect.unit ![256, 128] S128x128.size inb_S512x1024_S128x128_256_128 : Rect S512x1024)) rfl, box (inb := inb_S512x1024_S128x128_256_128) y a e⟩
    · exact ⟨_, List.mem_of_getElem? (l := atts_rects) (i := 13) (a := (Rect.unit ![256, 256] S128x128.size inb_S512x1024_S128x128_256_256 : Rect S512x1024)) rfl, box (inb := inb_S512x1024_S128x128_256_256) y a e⟩
    · exact ⟨_, List.mem_of_getElem? (l := atts_rects) (i := 12) (a := (Rect.unit ![256, 384] S128x128.size inb_S512x1024_S128x128_256_384 : Rect S512x1024)) rfl, box (inb := inb_S512x1024_S128x128_256_384) y a e⟩
    · exact ⟨_, List.mem_of_getElem? (l := atts_rects) (i := 11) (a := (Rect.unit ![256, 512] S128x128.size inb_S512x1024_S128x128_256_512 : Rect S512x1024)) rfl, box (inb := inb_S512x1024_S128x128_256_512) y a e⟩
    · exact ⟨_, List.mem_of_getElem? (l := atts_rects) (i := 10) (a := (Rect.unit ![256, 640] S128x128.size inb_S512x1024_S128x128_256_640 : Rect S512x1024)) rfl, box (inb := inb_S512x1024_S128x128_256_640) y a e⟩
    · exact ⟨_, List.mem_of_getElem? (l := atts_rects) (i := 9) (a := (Rect.unit ![256, 768] S128x128.size inb_S512x1024_S128x128_256_768 : Rect S512x1024)) rfl, box (inb := inb_S512x1024_S128x128_256_768) y a e⟩
    · exact ⟨_, List.mem_of_getElem? (l := atts_rects) (i := 8) (a := (Rect.unit ![256, 896] S128x128.size inb_S512x1024_S128x128_256_896 : Rect S512x1024)) rfl, box (inb := inb_S512x1024_S128x128_256_896) y a e⟩
  · rcases (show (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) by omega) with e | e | e | e | e | e | e | e
    · exact ⟨_, List.mem_of_getElem? (l := atts_rects) (i := 7) (a := (Rect.unit ![384, 0] S128x128.size inb_S512x1024_S128x128_384_0 : Rect S512x1024)) rfl, box (inb := inb_S512x1024_S128x128_384_0) y a e⟩
    · exact ⟨_, List.mem_of_getElem? (l := atts_rects) (i := 6) (a := (Rect.unit ![384, 128] S128x128.size inb_S512x1024_S128x128_384_128 : Rect S512x1024)) rfl, box (inb := inb_S512x1024_S128x128_384_128) y a e⟩
    · exact ⟨_, List.mem_of_getElem? (l := atts_rects) (i := 5) (a := (Rect.unit ![384, 256] S128x128.size inb_S512x1024_S128x128_384_256 : Rect S512x1024)) rfl, box (inb := inb_S512x1024_S128x128_384_256) y a e⟩
    · exact ⟨_, List.mem_of_getElem? (l := atts_rects) (i := 4) (a := (Rect.unit ![384, 384] S128x128.size inb_S512x1024_S128x128_384_384 : Rect S512x1024)) rfl, box (inb := inb_S512x1024_S128x128_384_384) y a e⟩
    · exact ⟨_, List.mem_of_getElem? (l := atts_rects) (i := 3) (a := (Rect.unit ![384, 512] S128x128.size inb_S512x1024_S128x128_384_512 : Rect S512x1024)) rfl, box (inb := inb_S512x1024_S128x128_384_512) y a e⟩
    · exact ⟨_, List.mem_of_getElem? (l := atts_rects) (i := 2) (a := (Rect.unit ![384, 640] S128x128.size inb_S512x1024_S128x128_384_640 : Rect S512x1024)) rfl, box (inb := inb_S512x1024_S128x128_384_640) y a e⟩
    · exact ⟨_, List.mem_of_getElem? (l := atts_rects) (i := 1) (a := (Rect.unit ![384, 768] S128x128.size inb_S512x1024_S128x128_384_768 : Rect S512x1024)) rfl, box (inb := inb_S512x1024_S128x128_384_768) y a e⟩
    · exact ⟨_, List.mem_of_getElem? (l := atts_rects) (i := 0) (a := (Rect.unit ![384, 896] S128x128.size inb_S512x1024_S128x128_384_896 : Rect S512x1024)) rfl, box (inb := inb_S512x1024_S128x128_384_896) y a e⟩

theorem atts_map : (run.sl.HS6_32 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3).map (fun p => p.1) = atts_rects := rfl

/-- The pieces fill the buffer. -/
theorem atts_full (y : S512x1024.Idx) : ∃ p ∈ (run.sl.HS6_32 (F := Ideal) c i arg2 harg2 arg3 harg3 arg4 harg4 arg5 harg5 arg6 harg6 arg7 harg7 arg31 harg31 arg32 harg32 arg33 harg33 arg34 harg34 arg38 arg39 x0 x1 x2 x3 x4 x5 xs0 xs1 xs2 xs3), y ∈ p.1.set := by
  obtain ⟨r, hr, hy⟩ := atts_rects_full y
  rw [← atts_map (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg31 := arg31) (harg31 := harg31) (arg32 := arg32) (harg32 := harg32) (arg33 := arg33) (harg33 := harg33) (arg34 := arg34) (harg34 := harg34) (arg38 := arg38) (arg39 := arg39) (x0 := x0) (x1 := x1) (x2 := x2) (x3 := x3) (x4 := x4) (x5 := x5) (xs0 := xs0) (xs1 := xs1) (xs2 := xs2) (xs3 := xs3)] at hr
  obtain ⟨p, hp, rfl⟩ := List.mem_map.1 hr
  exact ⟨p, hp, hy⟩

/-- Where the pieces lie. -/
def gates_rects : List (Rect S512x2048) := [Rect.unit ![0, 1792] S512x256.size inb_S512x2048_S512x256_0_1792, Rect.unit ![0, 1536] S512x256.size inb_S512x2048_S512x256_0_1536, Rect.unit ![0, 1280] S512x256.size inb_S512x2048_S512x256_0_1280, Rect.unit ![0, 1024] S512x256.size inb_S512x2048_S512x256_0_1024, Rect.unit ![0, 768] S512x256.size inb_S512x2048_S512x256_0_768, Rect.unit ![0, 512] S512x256.size inb_S512x2048_S512x256_0_512, Rect.unit ![0, 256] S512x256.size inb_S512x2048_S512x256_0_256, Rect.unit ![0, 0] S512x256.size inb_S512x2048_S512x256_0_0]

theorem gates_rects_full (y : S512x2048.Idx) : ∃ r ∈ gates_rects, y ∈ r.set := by
  have h0 : (y 0).val < 512 := (y 0).isLt
  have h1 : (y 1).val < 2048 := (y 1).isLt
  have a : (0 ≤ (y 0).val ∧ (y 0).val < 0 + 512) := by omega
  rcases (show (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256) by omega) with e | e | e | e | e | e | e | e
  · exact ⟨_, List.mem_of_getElem? (l := gates_rects) (i := 7) (a := (Rect.unit ![0, 0] S512x256.size inb_S512x2048_S512x256_0_0 : Rect S512x2048)) rfl, box (inb := inb_S512x2048_S512x256_0_0) y a e⟩
  · exact ⟨_, List.mem_of_getElem? (l := gates_rects) (i := 6) (a := (Rect.unit ![0, 256] S512x256.size inb_S512x2048_S512x256_0_256 : Rect S512x2048)) rfl, box (inb := inb_S512x2048_S512x256_0_256) y a e⟩
  · exact ⟨_, List.mem_of_getElem? (l := gates_rects) (i := 5) (a := (Rect.unit ![0, 512] S512x256.size inb_S512x2048_S512x256_0_512 : Rect S512x2048)) rfl, box (inb := inb_S512x2048_S512x256_0_512) y a e⟩
  · exact ⟨_, List.mem_of_getElem? (l := gates_rects) (i := 4) (a := (Rect.unit ![0, 768] S512x256.size inb_S512x2048_S512x256_0_768 : Rect S512x2048)) rfl, box (inb := inb_S512x2048_S512x256_0_768) y a e⟩
  · exact ⟨_, List.mem_of_getElem? (l := gates_rects) (i := 3) (a := (Rect.unit ![0, 1024] S512x256.size inb_S512x2048_S512x256_0_1024 : Rect S512x2048)) rfl, box (inb := inb_S512x2048_S512x256_0_1024) y a e⟩
  · exact ⟨_, List.mem_of_getElem? (l := gates_rects) (i := 2) (a := (Rect.unit ![0, 1280] S512x256.size inb_S512x2048_S512x256_0_1280 : Rect S512x2048)) rfl, box (inb := inb_S512x2048_S512x256_0_1280) y a e⟩
  · exact ⟨_, List.mem_of_getElem? (l := gates_rects) (i := 1) (a := (Rect.unit ![0, 1536] S512x256.size inb_S512x2048_S512x256_0_1536 : Rect S512x2048)) rfl, box (inb := inb_S512x2048_S512x256_0_1536) y a e⟩
  · exact ⟨_, List.mem_of_getElem? (l := gates_rects) (i := 0) (a := (Rect.unit ![0, 1792] S512x256.size inb_S512x2048_S512x256_0_1792 : Rect S512x2048)) rfl, box (inb := inb_S512x2048_S512x256_0_1792) y a e⟩

theorem gates_map : (run.sl.HS9_8 (F := Ideal) c i arg3 harg3 arg6 harg6 arg7 harg7 x1 x4 x5).map (fun p => p.1) = gates_rects := rfl

/-- The pieces fill the buffer. -/
theorem gates_full (y : S512x2048.Idx) : ∃ p ∈ (run.sl.HS9_8 (F := Ideal) c i arg3 harg3 arg6 harg6 arg7 harg7 x1 x4 x5), y ∈ p.1.set := by
  obtain ⟨r, hr, hy⟩ := gates_rects_full y
  rw [← gates_map (c := c) (i := i) (arg3 := arg3) (harg3 := harg3) (arg6 := arg6) (harg6 := harg6) (arg7 := arg7) (harg7 := harg7) (x1 := x1) (x4 := x4) (x5 := x5)] at hr
  obtain ⟨p, hp, rfl⟩ := List.mem_map.1 hr
  exact ⟨p, hp, hy⟩

end Cert.Mixer

end
-- ==== Proof.Mixer.Out.lean ====
/-
  What a step puts down: the layer's rows, the last rows of the keys, values and pooling inputs,
  the caches with one more column, the weights cast, and what the next step starts from.
-/
module

public import proofs.«01_k».proof.Proof.Mixer.Cover
public import proofs.«01_k».proof.Proof.Mixer.Pool
public import Idealize.ShloMosaic.Lib.KernelVsHost

@[expose] public section

set_option maxRecDepth 16384

noncomputable section

namespace Cert.Mixer

open Cert.Kernel3Ideal Cert.Kernel3Ideal.Gen
open Idealize.ShloMosaic Idealize.ShloMosaic.TcCoe Idealize.SL.Sem

variable {c : Dev nD} {i : grid0.Coords} {arg2 : Memref sig .tc .smem S16 .f32} {harg2 : arg2.IsWhole} {arg3 : Memref sig .tc .vmem S1x512x1024 .f32} {harg3 : arg3.IsWhole} {arg4 : Memref sig .tc .vmem S512x128 .f32} {harg4 : arg4.IsWhole}
  {arg5 : Memref sig .tc .vmem S512x128 .f32} {harg5 : arg5.IsWhole} {arg6 : Memref sig .tc .vmem S1x1024 .f32} {harg6 : arg6.IsWhole} {arg7 : Memref sig .tc .vmem S1024x4096 .bf16} {harg7 : arg7.IsWhole}
  {arg8 : Memref sig .tc .vmem S4x128x128 .bf16} {harg8 : arg8.IsWhole} {arg9 : Memref sig .tc .vmem S1x512 .f32} {harg9 : arg9.IsWhole} {arg10 : Memref sig .tc .vmem S512x1024 .bf16} {harg10 : arg10.IsWhole}
  {arg11 : Memref sig .tc .vmem S1024x1024 .bf16} {harg11 : arg11.IsWhole} {arg12 : Memref sig .tc .vmem S1024x1024 .bf16} {harg12 : arg12.IsWhole} {arg13 : Memref sig .tc .vmem S256x128 .f32} {harg13 : arg13.IsWhole}
  {arg14 : Memref sig .tc .vmem S256x128 .f32} {harg14 : arg14.IsWhole} {arg15 : Memref sig .tc .vmem S4x256x128 .f32} {harg15 : arg15.IsWhole} {arg16 : Memref sig .tc .vmem S4x256x128 .f32} {harg16 : arg16.IsWhole}
  {arg17 : Memref sig .tc .vmem S32x5632 .f32} {harg17 : arg17.IsWhole} {arg18 : Memref sig .tc .vmem S128x1024 .f32} {harg18 : arg18.IsWhole} {arg19 : Memref sig .tc .vmem S16x1024 .f32} {harg19 : arg19.IsWhole}
  {arg20 : Memref sig .tc .vmem S32x1024 .f32} {harg20 : arg20.IsWhole} {arg21 : Memref sig .tc .vmem S1x512x1024 .f32} {harg21 : arg21.IsWhole} {arg22 : Memref sig .tc .vmem S1x256x128 .f32} {harg22 : arg22.IsWhole}
  {arg23 : Memref sig .tc .vmem S1x256x128 .f32} {harg23 : arg23.IsWhole} {arg24 : Memref sig .tc .vmem S1x15x512 .f32} {harg24 : arg24.IsWhole} {arg25 : Memref sig .tc .vmem S4x256x128 .f32} {harg25 : arg25.IsWhole}
  {arg26 : Memref sig .tc .vmem S4x256x128 .f32} {harg26 : arg26.IsWhole} {arg27 : Memref sig .tc .vmem S32x5632 .bf16} {harg27 : arg27.IsWhole} {arg28 : Memref sig .tc .vmem S128x1024 .bf16} {harg28 : arg28.IsWhole}
  {arg29 : Memref sig .tc .vmem S16x1024 .bf16} {harg29 : arg29.IsWhole} {arg30 : Memref sig .tc .vmem S32x1024 .bf16} {harg30 : arg30.IsWhole} {arg31 : Memref sig .tc .vmem S4x640x128 .bf16} {harg31 : arg31.IsWhole}
  {arg32 : Memref sig .tc .vmem S4x640x128 .bf16} {harg32 : arg32.IsWhole} {arg33 : Memref sig .tc .vmem S4x640x128 .bf16} {harg33 : arg33.IsWhole} {arg34 : Memref sig .tc .vmem S4x640x128 .bf16} {harg34 : arg34.IsWhole}
  {arg35 : Memref sig .tc .vmem S536x512 .f32} {harg35 : arg35.IsWhole} {arg36 : Memref sig .tc .vmem S4x536x128 .f32} {harg36 : arg36.IsWhole} {arg37 : Memref sig .tc .vmem S512x1024 .bf16} {harg37 : arg37.IsWhole}
  {arg38 : Memref sig .tc .vmem S512x1024 .bf16} {harg38 : arg38.IsWhole} {arg39 : Memref sig .tc .vmem S16x256x256 .f32} {harg39 : arg39.IsWhole} {arg40 : Memref sig .tc .vmem S512x2048 .f32} {harg40 : arg40.IsWhole}
  {x0 : Vec Ideal S16 .f32} {x1 : Vec Ideal S1x512x1024 .f32} {x2 : Vec Ideal S512x128 .f32} {x3 : Vec Ideal S512x128 .f32} {x4 : Vec Ideal S1x1024 .f32} {x5 : Vec Ideal S1024x4096 .bf16} {x6 : Vec Ideal S4x128x128 .bf16} {x7 : Vec Ideal S1x512 .f32} {x8 : Vec Ideal S512x1024 .bf16} {x9 : Vec Ideal S1024x1024 .bf16} {x10 : Vec Ideal S1024x1024 .bf16} {x11 : Vec Ideal S256x128 .f32} {x12 : Vec Ideal S256x128 .f32} {x13 : Vec Ideal S4x256x128 .f32} {x14 : Vec Ideal S4x256x128 .f32} {x15 : Vec Ideal S32x5632 .f32} {x16 : Vec Ideal S128x1024 .f32} {x17 : Vec Ideal S16x1024 .f32} {x18 : Vec Ideal S32x1024 .f32} {xs0 : Vec Ideal S4x640x128 .bf16} {xs1 : Vec Ideal S4x640x128 .bf16} {xs2 : Vec Ideal S4x640x128 .bf16} {xs3 : Vec Ideal S4x640x128 .bf16} {xs4 : Vec Ideal S536x512 .f32} {xs5 : Vec Ideal S4x536x128 .f32}
variable {D : Data} {b T : ℕ}

/-- The averages, read whole. -/
theorem avg_read (H : Inputs D b T x0 x1 x2 x3 x4 x5 x6 x7 x8 x9 x10) (S : Start D b T xs0 xs1 xs2 xs3 xs4) (hi : (i 1).val = T) (r : Fin 512) (n : Fin 1024) : (run.sl.v3209 (F := Ideal) c i arg2 harg2 arg3 harg3 arg4 harg4 arg5 harg5 arg6 harg6 arg7 harg7 arg31 harg31 arg32 harg32 arg33 harg33 arg34 harg34 arg37 arg38 arg39 x0 x1 x2 x3 x4 x5 xs0 xs1 xs2 xs3) (ix2 r n) = att2 D b (512 * T + r.val) n.val := by
  refine ((list6 H S hi).readCov arg37.view (Rect.unit ![0, 0] S512x1024.size inb_S512x1024_S512x1024_0_0 : Rect S512x1024).toLoadRect (ix2 r n) (atts_full _)).trans ?_
  show att2 D b (512 * T + (0 + 1 * r.val)) (0 + 1 * n.val) = _
  simp only [zero_add, one_mul]

/-- The gates of the pooled part. -/
theorem gp_read (H : Inputs D b T x0 x1 x2 x3 x4 x5 x6 x7 x8 x9 x10) (r : Fin 512) (n : Fin 1024) : (run.sl.v3203 (F := Ideal) c i arg3 harg3 arg6 harg6 arg7 harg7 arg40 x1 x4 x5) (ix2 r n) = gate D b (512 * T + r.val) n.val := by
  refine ((list9 H).readCov arg40.view (Rect.unit ![0, 0] S512x1024.size inb_S512x2048_S512x1024_0_0 : Rect S512x2048).toLoadRect (ix2 r n) (gates_full _)).trans ?_
  show gate D b (512 * T + (0 + 1 * r.val)) (0 + 1 * n.val) = _
  simp only [zero_add, one_mul]

/-- The gates of the averaged part. -/
theorem ga_read (H : Inputs D b T x0 x1 x2 x3 x4 x5 x6 x7 x8 x9 x10) (r : Fin 512) (n : Fin 1024) : (run.sl.v3208 (F := Ideal) c i arg3 harg3 arg6 harg6 arg7 harg7 arg40 x1 x4 x5) (ix2 r n) = gate D b (512 * T + r.val) (1024 + n.val) := by
  refine ((list9 H).readCov arg40.view (Rect.unit ![0, 1024] S512x1024.size inb_S512x2048_S512x1024_0_1024 : Rect S512x2048).toLoadRect (ix2 r n) (gates_full _)).trans ?_
  show gate D b (512 * T + (0 + 1 * r.val)) (1024 + 1 * n.val) = _
  simp only [zero_add, one_mul]

/-- The layer's rows with the averages as the step forms them. -/
def out2 (D : Data) (b p l : ℕ) : EReal :=
  D.x b p l + ∑ j : Fin 1024, (gate D b p j.val * (∑ i : Fin 512, pooled D b p i.val * D.wpb i.val j.val)
    + gate D b p (1024 + j.val) * ∑ i : Fin 1024, att2 D b p i.val * D.wab i.val j.val) * D.wout j.val l

theorem pay1_at (X Y Z : FVec Ideal S512x1024 .f32) (A : Vec Ideal S512x1024 .bf16) (W V : Vec Ideal S1024x1024 .bf16) (r : Fin 512) (l : Fin 1024) :
    k0_pay1 X Y Z A W V (ix3 0 r l) = X (ix2 r l) + ∑ j : Fin 1024, (Y (ix2 r j) + Z (ix2 r j) * ∑ i : Fin 1024, A (ix2 r i) * W (ix2 i j)) * V (ix2 j l) := by
  pointwise [k0_pay1]

theorem pay10_at (X : Vec Ideal S1x512x1024 .f32) (r : Fin 512) (l : Fin 1024) : k0_pay10 X (ix2 r l) = X (ix3 0 r l) := by
  pointwise [k0_pay10]

theorem pay644_at (P : FVec Ideal S512x512 .f32) (Z : Vec Ideal S512x1024 .f32) (W : Vec Ideal S512x1024 .bf16) (r : Fin 512) (j : Fin 1024) :
    k0_pay644 P Z W (ix2 r j) = Z (ix2 r j) * ∑ i : Fin 512, P (ix2 r i) * W (ix2 i j) := by
  pointwise [k0_pay644]

/-- The rows put down. -/
theorem put19 (H : Inputs D b T x0 x1 x2 x3 x4 x5 x6 x7 x8 x9 x10) (S : Start D b T xs0 xs1 xs2 xs3 xs4) (hi : (i 1).val = T) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).1 (fun y => out2 D b (512 * T + (y 1).val) (y 2).val) := by
  refine Agree.cons (fun x => ?_) (.nil _)
  obtain ⟨a, r, l, rfl⟩ : ∃ (a : Fin 1) (r : Fin 512) (l : Fin 1024), x = ix3 a r l := ⟨x 0, x 1, x 2, eq_ix3 x⟩
  obtain rfl : a = 0 := Subsingleton.elim _ _
  refine (pay1_at _ _ _ _ _ _ r l).trans ?_
  show _ = out2 D b (512 * T + (0 + 1 * r.val)) (0 + 1 * l.val)
  rw [zero_add, one_mul, zero_add, one_mul]
  unfold out2
  refine congrArg₂ (· + ·) ?_ (Finset.sum_congr rfl fun j _ => congrArg₂ (· * ·) (congrArg₂ (· + ·) ?_ (congrArg₂ (· * ·) (ga_read H r j) (Finset.sum_congr rfl fun q _ => congrArg₂ (· * ·) (avg_read H S hi r q) ?_))) ?_)
  · refine (pay10_at _ r l).trans ((load_at harg3 x1 _ _).trans ((H.h1 _).trans ?_))
    show D.x b (512 * T + (0 + 1 * r.val)) (0 + 1 * l.val) = _
    rw [zero_add, one_mul, zero_add, one_mul]
  · refine (pay644_at _ _ _ r j).trans (congrArg₂ (· * ·) (gp_read H r j) (Finset.sum_congr rfl fun q _ => congrArg₂ (· * ·) (pool_at H S hi r q) ?_))
    refine (load_at harg10 x8 _ _).trans ((H.h8 _).trans ?_)
    show D.wpb (0 + 1 * q.val) (0 + 1 * j.val) = _
    rw [zero_add, one_mul, zero_add, one_mul]
  · refine (load_at harg11 x9 _ _).trans ((H.h9 _).trans ?_)
    show D.wab (0 + 1 * q.val) (0 + 1 * j.val) = _
    rw [zero_add, one_mul, zero_add, one_mul]
  · refine (load_at harg12 x10 _ _).trans ((H.h10 _).trans ?_)
    show D.wout (0 + 1 * j.val) (0 + 1 * l.val) = _
    rw [zero_add, one_mul, zero_add, one_mul]

theorem pay642_at (X : FVec Ideal S512x256 .f32) (n : Fin 256) (q : Fin 128) :
    k0_pay642 X (ix3 0 n q) = X (ix2 (⟨384 + q.val, by omega⟩ : Fin 512) n) := by
  pointwise [k0_pay642]

theorem put20 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.1 (fun y => k D b (512 * T + 384 + (y 2).val) (y 1).val) := by
  refine Agree.cons (fun x => ?_) (.nil _)
  obtain ⟨a, n, q, rfl⟩ : ∃ (a : Fin 1) (n : Fin 256) (q : Fin 128), x = ix3 a n q := ⟨x 0, x 1, x 2, eq_ix3 x⟩
  obtain rfl : a = 0 := Subsingleton.elim _ _
  refine (pay642_at _ n q).trans ((rk_at H _ n).trans ?_)
  show k D b (512 * T + (384 + q.val)) n.val = k D b (512 * T + 384 + (0 + 1 * q.val)) (0 + 1 * n.val)
  rw [zero_add, one_mul, zero_add, one_mul, Nat.add_assoc]

theorem pay643_at (X : FVec Ideal S512x256 .f32) (n : Fin 256) (q : Fin 128) :
    k0_pay643 X (ix3 0 n q) = X (ix2 (⟨384 + q.val, by omega⟩ : Fin 512) n) := by
  pointwise [k0_pay643]

theorem put21 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.1 (fun y => v D b (512 * T + 384 + (y 2).val) (y 1).val) := by
  refine Agree.cons (fun x => ?_) (.nil _)
  obtain ⟨a, n, q, rfl⟩ : ∃ (a : Fin 1) (n : Fin 256) (q : Fin 128), x = ix3 a n q := ⟨x 0, x 1, x 2, eq_ix3 x⟩
  obtain rfl : a = 0 := Subsingleton.elim _ _
  refine (pay643_at _ n q).trans ((rv_at H _ n).trans ?_)
  show v D b (512 * T + (384 + q.val)) n.val = v D b (512 * T + 384 + (0 + 1 * q.val)) (0 + 1 * n.val)
  rw [zero_add, one_mul, zero_add, one_mul, Nat.add_assoc]

theorem rows_full (y : S536x512.Idx) (h : 24 ≤ (y 0).val) : ∃ p ∈ (run.sl.HS4_1 (F := Ideal) c i arg3 harg3 arg6 harg6 arg7 harg7 x1 x4 x5), y ∈ p.1.set :=
  ⟨_, List.mem_singleton_self _, box (inb := inb_S536x512_S512x512_24_0) y
    (show 24 ≤ (y 0).val ∧ (y 0).val < 24 + 512 from ⟨h, (y 0).isLt⟩) (show 0 ≤ (y 1).val ∧ (y 1).val < 0 + 512 from ⟨Nat.zero_le _, by have h1 : (y 1).val < 512 := (y 1).isLt; omega⟩)⟩

theorem put22 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.1 (fun y => ext D b (512 * T + 521 + (y 1).val) (y 2).val) := by
  refine Agree.cons (fun x => ?_) (.nil _)
  obtain ⟨a, n, q, rfl⟩ : ∃ (a : Fin 1) (n : Fin 15) (q : Fin 512), x = ix3 a n q := ⟨x 0, x 1, x 2, eq_ix3 x⟩
  obtain rfl : a = 0 := Subsingleton.elim _ _
  refine (show k0_pay600 (run.sl.v2905 (F := Ideal) c i arg3 harg3 arg6 harg6 arg7 harg7 arg35 x1 x4 x5) (ix3 0 n q) = (run.sl.v2905 (F := Ideal) c i arg3 harg3 arg6 harg6 arg7 harg7 arg35 x1 x4 x5) (ix2 n q) by
    generalize (run.sl.v2905 (F := Ideal) c i arg3 harg3 arg6 harg6 arg7 harg7 arg35 x1 x4 x5) = Y
    pointwise [k0_pay600]).trans ?_
  refine ((list4 H).readCov arg35.view (Rect.unit ![521, 0] S15x512.size inb_S536x512_S15x512_521_0 : Rect S536x512).toLoadRect (ix2 n q) (rows_full _ (show 24 ≤ 521 + 1 * n.val by omega))).trans ?_
  show ext D b (512 * T + (521 + 1 * n.val)) (0 + 1 * q.val) = ext D b (512 * T + 521 + (0 + 1 * n.val)) (0 + 1 * q.val)
  rw [zero_add, one_mul, zero_add, one_mul, Nat.add_assoc]

/-- A rotation of the columns by a word. -/
theorem turn (w : BitVec 32) (X : FVec Ideal S256x128 .f32) (r : Fin 256) (n : Fin 128) :
    dynamicRotate 1 w none X rotates_S256x128_d1 (ix2 r n) = X (ix2 r (⟨(n.val + 128 - w.toNat % 128) % 128, Nat.mod_lt _ (by decide)⟩ : Fin 128)) :=
  dynamicRotate_apply 1 w X _ _ _ fun a => match a with
    | ⟨0, _⟩ => rfl
    | ⟨1, _⟩ => rfl

/-- The word a step rotates by. -/
def place (p q : ℕ) : BitVec 32 :=
  Scalar.remsi (Scalar.muli (Scalar.addi (Scalar.muli (BitVec.ofNat 32 p) 16#32) (BitVec.ofNat 32 q)) 4#32) 128#32

theorem place_at (p : Fin 2) (q : Fin 16) (n : Fin 4) :
    (n.val + 128 - (Scalar.remsi (Scalar.subi 128#32 (place p.val q.val)) 128#32).toNat % 128) % 128 = 4 * (16 * p.val + q.val) + n.val := by
  revert p q n
  decide +kernel

/-- A cache with a column put at its end. -/
def shifted (X : Vec Ideal S256x128 .f32) (Z : Vec Ideal S4x256x128 .f32) (t : ℕ) (y : S4x256x128.Idx) : EReal :=
  if (y 2).val = 127 then X (ix2 (y 1 : Fin 256) (⟨(4 * t + (y 0).val) % 128, Nat.mod_lt _ (by decide)⟩ : Fin 128))
  else Z (ix3 (y 0 : Fin 4) (y 1 : Fin 256) (⟨((y 2).val + 1) % 128, Nat.mod_lt _ (by decide)⟩ : Fin 128))

theorem last_at (C : FVec Ideal S256x1 .f32) (Z : Vec Ideal S1x256x128 .f32) (r : Fin 256) (l : Fin 128) :
    k0_pay629 C (k0_pay627 Z) (k0_pay628 k0_pay621) (ix3 0 r l)
      = if l.val = 127 then C (ix2 r 0) else Z (ix3 0 r (⟨(l.val + 1) % 128, Nat.mod_lt _ (by decide)⟩ : Fin 128)) := by
  have e : k0_pay627 Z (ix2 r l) = Z (ix3 0 r (⟨(l.val + 1) % 128, Nat.mod_lt _ (by decide)⟩ : Fin 128)) := by
    refine (turn 127#32 _ r l).trans ((shapeCast_apply _ _ _ (ix3 0 r (⟨(l.val + 1) % 128, Nat.mod_lt _ (by decide)⟩ : Fin 128)) ?_).trans rfl)
    have hl := l.isLt
    rw [Shape.rowMajor_val_three, Shape.rowMajor_val_two]
    show (0 * 256 + r.val) * 128 + (l.val + 1) % 128 = r.val * 128 + (l.val + 128 - 127) % 128
    rw [show l.val + 128 - 127 = l.val + 1 by omega]
    omega
  rw [← e]
  generalize k0_pay627 Z = Y
  have q : ∀ l : Fin 128, (k0_pay628 k0_pay621 (ix2 0 l) = 1#1) ↔ l.val = 127 := by
    intro l
    revert l
    decide +kernel
  generalize k0_pay628 k0_pay621 = M at q ⊢
  rw [show k0_pay629 C Y M (ix3 0 r l) = if M (ix2 0 l) = 1#1 then C (ix2 r 0) else Y (ix2 r l) by
    refine Eq.trans (b := Scalar.select (M (ix2 0 l)) (C (ix2 r 0)) (Y (ix2 r l))) (by pointwise [k0_pay629]) rfl]
  by_cases h : l.val = 127
  · rw [if_pos ((q l).2 h), if_pos h]
  · rw [if_neg (fun g => h ((q l).1 g)), if_neg h]

theorem four_full (w3 w2 w1 w0 : S1x256x128.Idx → EReal) (y : S4x256x128.Idx) :
    ∃ p ∈ ([⟨Rect.unit ![3, 0, 0] S1x256x128.size inb_S4x256x128_S1x256x128_3_0_0, w3⟩, ⟨Rect.unit ![2, 0, 0] S1x256x128.size inb_S4x256x128_S1x256x128_2_0_0, w2⟩,
      ⟨Rect.unit ![1, 0, 0] S1x256x128.size inb_S4x256x128_S1x256x128_1_0_0, w1⟩, ⟨Rect.unit ![0, 0, 0] S1x256x128.size inb_S4x256x128_S1x256x128_0_0_0, w0⟩] : List (View.Piece (Elt Ideal) S4x256x128 .f32)), y ∈ p.1.set := by
  have h0 : (y 0).val < 4 := (y 0).isLt
  have h1 : (y 1).val < 256 := (y 1).isLt
  have h2 : (y 2).val < 128 := (y 2).isLt
  obtain e | e | e | e : (y 0).val = 3 ∨ (y 0).val = 2 ∨ (y 0).val = 1 ∨ (y 0).val = 0 := by omega
  · refine ⟨_, List.mem_cons_self, (Rect.mem_set_unit (inb := inb_S4x256x128_S1x256x128_3_0_0)).2 fun a => ?_⟩
    match a with
    | ⟨0, _⟩ => exact ⟨by show 3 ≤ (y 0).val; omega, by show (y 0).val < 3 + 1; omega⟩
    | ⟨1, _⟩ => exact ⟨Nat.zero_le _, by show (y 1).val < 0 + 256; omega⟩
    | ⟨2, _⟩ => exact ⟨Nat.zero_le _, by show (y 2).val < 0 + 128; omega⟩
  · refine ⟨_, List.mem_cons_of_mem _ List.mem_cons_self, (Rect.mem_set_unit (inb := inb_S4x256x128_S1x256x128_2_0_0)).2 fun a => ?_⟩
    match a with
    | ⟨0, _⟩ => exact ⟨by show 2 ≤ (y 0).val; omega, by show (y 0).val < 2 + 1; omega⟩
    | ⟨1, _⟩ => exact ⟨Nat.zero_le _, by show (y 1).val < 0 + 256; omega⟩
    | ⟨2, _⟩ => exact ⟨Nat.zero_le _, by show (y 2).val < 0 + 128; omega⟩
  · refine ⟨_, List.mem_cons_of_mem _ (List.mem_cons_of_mem _ List.mem_cons_self), (Rect.mem_set_unit (inb := inb_S4x256x128_S1x256x128_1_0_0)).2 fun a => ?_⟩
    match a with
    | ⟨0, _⟩ => exact ⟨by show 1 ≤ (y 0).val; omega, by show (y 0).val < 1 + 1; omega⟩
    | ⟨1, _⟩ => exact ⟨Nat.zero_le _, by show (y 1).val < 0 + 256; omega⟩
    | ⟨2, _⟩ => exact ⟨Nat.zero_le _, by show (y 2).val < 0 + 128; omega⟩
  · refine ⟨_, List.mem_cons_of_mem _ (List.mem_cons_of_mem _ (List.mem_cons_of_mem _ List.mem_cons_self)), (Rect.mem_set_unit (inb := inb_S4x256x128_S1x256x128_0_0_0)).2 fun a => ?_⟩
    match a with
    | ⟨0, _⟩ => exact ⟨by show 0 ≤ (y 0).val; omega, by show (y 0).val < 0 + 1; omega⟩
    | ⟨1, _⟩ => exact ⟨Nat.zero_le _, by show (y 1).val < 0 + 256; omega⟩
    | ⟨2, _⟩ => exact ⟨Nat.zero_le _, by show (y 2).val < 0 + 128; omega⟩

theorem top_full (w : S4x128x128.Idx → Elt Ideal .bf16) (L : List (View.Piece (Elt Ideal) S4x640x128 .bf16)) (y : S4x640x128.Idx) (h : (y 1).val < 128) :
    ∃ p ∈ (⟨Rect.unit ![0, 0, 0] S4x128x128.size inb_S4x640x128_S4x128x128_0_0_0, w⟩ :: L : List (View.Piece (Elt Ideal) S4x640x128 .bf16)), y ∈ p.1.set := by
  have h0 : (y 0).val < 4 := (y 0).isLt
  have h2 : (y 2).val < 128 := (y 2).isLt
  refine ⟨_, List.mem_cons_self, (Rect.mem_set_unit (inb := inb_S4x640x128_S4x128x128_0_0_0)).2 fun a => ?_⟩
  match a with
  | ⟨0, _⟩ => exact ⟨Nat.zero_le _, by show (y 0).val < 0 + 4; omega⟩
  | ⟨1, _⟩ => exact ⟨Nat.zero_le _, by show (y 1).val < 0 + 128; omega⟩
  | ⟨2, _⟩ => exact ⟨Nat.zero_le _, by show (y 2).val < 0 + 128; omega⟩

theorem head_full (w : S24x512.Idx → Elt Ideal .f32) (L : List (View.Piece (Elt Ideal) S536x512 .f32)) (y : S536x512.Idx) (h : (y 0).val < 24) :
    ∃ p ∈ (⟨Rect.unit ![0, 0] S24x512.size inb_S536x512_S24x512_0_0, w⟩ :: L : List (View.Piece (Elt Ideal) S536x512 .f32)), y ∈ p.1.set := by
  have h1 : (y 1).val < 512 := (y 1).isLt
  exact ⟨_, List.mem_cons_self, box (inb := inb_S536x512_S24x512_0_0) y (show 0 ≤ (y 0).val ∧ (y 0).val < 0 + 24 by omega)
    (show 0 ≤ (y 1).val ∧ (y 1).val < 0 + 512 by omega)⟩

theorem col23 (o : Fin 4) (hs : S256x128.Slices ![0, o.val] S256x1) (r : Fin 256) :
    (extractStridedSlice S256x1 ![0, o.val] (k0_pay622 (place (i 0).val (i 1).val) 128#32 (arg13.view.readAt (Elt Ideal) (Rect.unit ![0, 0] S256x128.size inb_S256x128_S256x128_0_0 : Rect S256x128).toLoadRect (harg13.unread x11))) hs) (ix2 r 0)
      = x11 (ix2 r (⟨(4 * (16 * (i 0).val + (i 1).val) + o.val) % 128, Nat.mod_lt _ (by decide)⟩ : Fin 128)) := by
  have hp : (i 0).val < 2 := (i 0).isLt
  have hq : (i 1).val < 16 := (i 1).isLt
  have ho := o.isLt
  have e := place_at ⟨(i 0).val, hp⟩ ⟨(i 1).val, hq⟩ o
  generalize hX : (arg13.view.readAt (Elt Ideal) (Rect.unit ![0, 0] S256x128.size inb_S256x128_S256x128_0_0 : Rect S256x128).toLoadRect (harg13.unread x11)) = X
  have f : ∀ n, X n = x11 n := fun n => by
    rw [← hX]
    refine (load_at harg13 x11 _ n).trans (congrArg x11 (funext fun a => Fin.ext ?_))
    match a with
    | ⟨0, _⟩ => exact (zero_add _).trans (one_mul _)
    | ⟨1, _⟩ => exact (zero_add _).trans (one_mul _)
  have g : (extractStridedSlice S256x1 ![0, o.val] (k0_pay622 (place (i 0).val (i 1).val) 128#32 X) hs) (ix2 r 0)
      = k0_pay622 (place (i 0).val (i 1).val) 128#32 X (ix2 r (⟨o.val, by omega⟩ : Fin 128)) := by
    refine congrArg (k0_pay622 (place (i 0).val (i 1).val) 128#32 X) (funext fun a => Fin.ext ?_)
    match a with
    | ⟨0, _⟩ => exact zero_add _
    | ⟨1, _⟩ => rfl
  rw [g]
  refine (turn _ X r _).trans ((f _).trans (congrArg x11 ?_))
  refine congrArg (fun n : Fin 128 => ix2 r n) (Fin.ext ?_)
  exact e.trans (Nat.mod_eq_of_lt (by omega)).symm

theorem cell23 (o : Fin 4) (hs : S256x128.Slices ![0, o.val] S256x1) (inb) (x : S1x256x128.Idx) :
    k0_pay629 (extractStridedSlice S256x1 ![0, o.val] (k0_pay622 (place (i 0).val (i 1).val) 128#32 (arg13.view.readAt (Elt Ideal) (Rect.unit ![0, 0] S256x128.size inb_S256x128_S256x128_0_0 : Rect S256x128).toLoadRect (harg13.unread x11))) hs)
      (k0_pay627 (arg15.view.readAt (Elt Ideal) (Rect.unit ![o.val, 0, 0] S1x256x128.size inb : Rect S4x256x128).toLoadRect (harg15.unread x13))) (k0_pay628 k0_pay621) x
      = shifted x11 x13 (16 * (i 0).val + (i 1).val) ((Rect.unit ![o.val, 0, 0] S1x256x128.size inb : Rect S4x256x128).emb x) := by
  obtain ⟨a, r, l, rfl⟩ : ∃ (a : Fin 1) (r : Fin 256) (l : Fin 128), x = ix3 a r l := ⟨x 0, x 1, x 2, eq_ix3 x⟩
  obtain rfl : a = 0 := Subsingleton.elim _ _
  refine (last_at _ _ r l).trans ?_
  have e0 : ((Rect.unit ![o.val, 0, 0] S1x256x128.size inb : Rect S4x256x128).emb (ix3 0 r l)) = ix3 o r l := by
    funext a
    apply Fin.ext
    match a with
    | ⟨0, _⟩ => show o.val + 1 * 0 = o.val; omega
    | ⟨1, _⟩ => exact (zero_add _).trans (one_mul _)
    | ⟨2, _⟩ => exact (zero_add _).trans (one_mul _)
  rw [e0]
  show _ = if l.val = 127 then x11 (ix2 r (⟨(4 * (16 * (i 0).val + (i 1).val) + o.val) % 128, _⟩ : Fin 128)) else x13 (ix3 o r (⟨(l.val + 1) % 128, _⟩ : Fin 128))
  by_cases hl : l.val = 127
  · rw [if_pos hl, if_pos hl]
    exact col23 o hs r
  · rw [if_neg hl, if_neg hl]
    refine (load_at harg15 x13 _ _).trans (congrArg x13 (funext fun a => Fin.ext ?_))
    match a with
    | ⟨0, _⟩ => show o.val + 1 * 0 = o.val; omega
    | ⟨1, _⟩ => exact (zero_add _).trans (one_mul _)
    | ⟨2, _⟩ => exact (zero_add _).trans (one_mul _)

theorem put23 : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.1 (shifted x11 x13 (16 * (i 0).val + (i 1).val)) := by
  refine Agree.cons (cell23 3 slices_S256x128_o0_3_S256x1 inb_S4x256x128_S1x256x128_3_0_0) ?_
  refine Agree.cons (cell23 2 slices_S256x128_o0_2_S256x1 inb_S4x256x128_S1x256x128_2_0_0) ?_
  refine Agree.cons (cell23 1 slices_S256x128_o0_1_S256x1 inb_S4x256x128_S1x256x128_1_0_0) ?_
  exact Agree.cons (cell23 0 slices_S256x128_o0_0_S256x1 inb_S4x256x128_S1x256x128_0_0_0) (.nil _)

theorem full23 (y : S4x256x128.Idx) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.1, y ∈ p.1.set := four_full _ _ _ _ y

theorem col24 (o : Fin 4) (hs : S256x128.Slices ![0, o.val] S256x1) (r : Fin 256) :
    (extractStridedSlice S256x1 ![0, o.val] (k0_pay623 (place (i 0).val (i 1).val) 128#32 (arg14.view.readAt (Elt Ideal) (Rect.unit ![0, 0] S256x128.size inb_S256x128_S256x128_0_0 : Rect S256x128).toLoadRect (harg14.unread x12))) hs) (ix2 r 0)
      = x12 (ix2 r (⟨(4 * (16 * (i 0).val + (i 1).val) + o.val) % 128, Nat.mod_lt _ (by decide)⟩ : Fin 128)) := by
  have hp : (i 0).val < 2 := (i 0).isLt
  have hq : (i 1).val < 16 := (i 1).isLt
  have ho := o.isLt
  have e := place_at ⟨(i 0).val, hp⟩ ⟨(i 1).val, hq⟩ o
  generalize hX : (arg14.view.readAt (Elt Ideal) (Rect.unit ![0, 0] S256x128.size inb_S256x128_S256x128_0_0 : Rect S256x128).toLoadRect (harg14.unread x12)) = X
  have f : ∀ n, X n = x12 n := fun n => by
    rw [← hX]
    refine (load_at harg14 x12 _ n).trans (congrArg x12 (funext fun a => Fin.ext ?_))
    match a with
    | ⟨0, _⟩ => exact (zero_add _).trans (one_mul _)
    | ⟨1, _⟩ => exact (zero_add _).trans (one_mul _)
  have g : (extractStridedSlice S256x1 ![0, o.val] (k0_pay623 (place (i 0).val (i 1).val) 128#32 X) hs) (ix2 r 0)
      = k0_pay623 (place (i 0).val (i 1).val) 128#32 X (ix2 r (⟨o.val, by omega⟩ : Fin 128)) := by
    refine congrArg (k0_pay623 (place (i 0).val (i 1).val) 128#32 X) (funext fun a => Fin.ext ?_)
    match a with
    | ⟨0, _⟩ => exact zero_add _
    | ⟨1, _⟩ => rfl
  rw [g]
  refine (turn _ X r _).trans ((f _).trans (congrArg x12 ?_))
  refine congrArg (fun n : Fin 128 => ix2 r n) (Fin.ext ?_)
  exact e.trans (Nat.mod_eq_of_lt (by omega)).symm

theorem cell24 (o : Fin 4) (hs : S256x128.Slices ![0, o.val] S256x1) (inb) (x : S1x256x128.Idx) :
    k0_pay629 (extractStridedSlice S256x1 ![0, o.val] (k0_pay623 (place (i 0).val (i 1).val) 128#32 (arg14.view.readAt (Elt Ideal) (Rect.unit ![0, 0] S256x128.size inb_S256x128_S256x128_0_0 : Rect S256x128).toLoadRect (harg14.unread x12))) hs)
      (k0_pay627 (arg16.view.readAt (Elt Ideal) (Rect.unit ![o.val, 0, 0] S1x256x128.size inb : Rect S4x256x128).toLoadRect (harg16.unread x14))) (k0_pay628 k0_pay621) x
      = shifted x12 x14 (16 * (i 0).val + (i 1).val) ((Rect.unit ![o.val, 0, 0] S1x256x128.size inb : Rect S4x256x128).emb x) := by
  obtain ⟨a, r, l, rfl⟩ : ∃ (a : Fin 1) (r : Fin 256) (l : Fin 128), x = ix3 a r l := ⟨x 0, x 1, x 2, eq_ix3 x⟩
  obtain rfl : a = 0 := Subsingleton.elim _ _
  refine (last_at _ _ r l).trans ?_
  have e0 : ((Rect.unit ![o.val, 0, 0] S1x256x128.size inb : Rect S4x256x128).emb (ix3 0 r l)) = ix3 o r l := by
    funext a
    apply Fin.ext
    match a with
    | ⟨0, _⟩ => show o.val + 1 * 0 = o.val; omega
    | ⟨1, _⟩ => exact (zero_add _).trans (one_mul _)
    | ⟨2, _⟩ => exact (zero_add _).trans (one_mul _)
  rw [e0]
  show _ = if l.val = 127 then x12 (ix2 r (⟨(4 * (16 * (i 0).val + (i 1).val) + o.val) % 128, _⟩ : Fin 128)) else x14 (ix3 o r (⟨(l.val + 1) % 128, _⟩ : Fin 128))
  by_cases hl : l.val = 127
  · rw [if_pos hl, if_pos hl]
    exact col24 o hs r
  · rw [if_neg hl, if_neg hl]
    refine (load_at harg16 x14 _ _).trans (congrArg x14 (funext fun a => Fin.ext ?_))
    match a with
    | ⟨0, _⟩ => show o.val + 1 * 0 = o.val; omega
    | ⟨1, _⟩ => exact (zero_add _).trans (one_mul _)
    | ⟨2, _⟩ => exact (zero_add _).trans (one_mul _)

theorem put24 : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.1 (shifted x12 x14 (16 * (i 0).val + (i 1).val)) := by
  refine Agree.cons (cell24 3 slices_S256x128_o0_3_S256x1 inb_S4x256x128_S1x256x128_3_0_0) ?_
  refine Agree.cons (cell24 2 slices_S256x128_o0_2_S256x1 inb_S4x256x128_S1x256x128_2_0_0) ?_
  refine Agree.cons (cell24 1 slices_S256x128_o0_1_S256x1 inb_S4x256x128_S1x256x128_1_0_0) ?_
  exact Agree.cons (cell24 0 slices_S256x128_o0_0_S256x1 inb_S4x256x128_S1x256x128_0_0_0) (.nil _)

theorem full24 (y : S4x256x128.Idx) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.1, y ∈ p.1.set := four_full _ _ _ _ y

theorem put25 : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.1 (fun y => x15 y) := by
  refine Agree.cons (fun x => ?_) (.nil _)
  refine (load_at harg17 x15 _ x).trans rfl

theorem put26 : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.1 (fun y => x16 y) := by
  refine Agree.cons (fun x => ?_) (.nil _)
  refine (load_at harg18 x16 _ x).trans rfl

theorem put27 : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.1 (fun y => x17 y) := by
  refine Agree.cons (fun x => ?_) (.nil _)
  refine (load_at harg19 x17 _ x).trans rfl

theorem put28 : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.1 (fun y => x18 y) := by
  refine Agree.cons (fun x => ?_) (.nil _)
  refine (load_at harg20 x18 _ x).trans rfl

/-- What the next step starts from. -/
theorem next0 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.1 (fun y => if (y 1).val < 128 then G0 D b (T + 1) y else G0 D b T y) := by
  refine Agree.cons (fun x => ?_) ?_
  · obtain ⟨a, r, l, rfl⟩ : ∃ (a : Fin 4) (r : Fin 128) (l : Fin 128), x = ix3 a r l := ⟨x 0, x 1, x 2, eq_ix3 x⟩
    have hr := r.isLt
    refine (show k0_pay616 (run.sl.v3054 (F := Ideal) c i arg3 harg3 arg4 harg4 arg5 harg5 arg6 harg6 arg7 harg7 arg31 x1 x2 x3 x4 x5) (ix3 a r l) = (run.sl.v3054 (F := Ideal) c i arg3 harg3 arg4 harg4 arg5 harg5 arg6 harg6 arg7 harg7 arg31 x1 x2 x3 x4 x5) (ix3 a r l) by
      generalize (run.sl.v3054 (F := Ideal) c i arg3 harg3 arg4 harg4 arg5 harg5 arg6 harg6 arg7 harg7 arg31 x1 x2 x3 x4 x5) = Y
      pointwise [k0_pay616]).trans ?_
    refine (cov0 H (Rect.unit ![0, 512, 0] S4x128x128.size inb_S4x640x128_S4x128x128_0_512_0 : Rect S4x640x128).toLoadRect (ix3 a r l) (show 128 ≤ 512 + 1 * r.val by omega)).trans ?_
    refine Eq.trans ?_ (if_pos (show 0 + 1 * r.val < 128 by omega)).symm
    show (if 0 + 1 * l.val < 64 then KX D b (512 * T + (512 + 1 * r.val)) (64 * (0 + 1 * a.val) + (0 + 1 * l.val)) else 0) = (if 0 + 1 * l.val < 64 then KX D b (512 * (T + 1) + (0 + 1 * r.val)) (64 * (0 + 1 * a.val) + (0 + 1 * l.val)) else 0)
    rw [show 512 * T + (512 + 1 * r.val) = 512 * (T + 1) + (0 + 1 * r.val) by omega]
  · intro p hp x
    have hp' : p ∈ (run.sl.HS0_4 (F := Ideal) c i arg3 harg3 arg4 harg4 arg5 harg5 arg6 harg6 arg7 harg7 x1 x2 x3 x4 x5) := hp
    have hx : 128 ≤ ((p.1.emb x) 1).val := by
      unfold run.sl.HS0_4 at hp'
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      exact absurd hp' List.not_mem_nil
    exact (list0 H p hp' x).trans (if_neg (by omega)).symm

theorem top0 (y : S4x640x128.Idx) (h : (y 1).val < 128) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.1, y ∈ p.1.set := top_full _ _ y h

/-- What the next step starts from. -/
theorem next1 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.1 (fun y => if (y 1).val < 128 then G1 D b (T + 1) y else G1 D b T y) := by
  refine Agree.cons (fun x => ?_) ?_
  · obtain ⟨a, r, l, rfl⟩ : ∃ (a : Fin 4) (r : Fin 128) (l : Fin 128), x = ix3 a r l := ⟨x 0, x 1, x 2, eq_ix3 x⟩
    have hr := r.isLt
    refine (show k0_pay617 (run.sl.v3058 (F := Ideal) c i arg3 harg3 arg4 harg4 arg5 harg5 arg6 harg6 arg7 harg7 arg32 x1 x2 x3 x4 x5) (ix3 a r l) = (run.sl.v3058 (F := Ideal) c i arg3 harg3 arg4 harg4 arg5 harg5 arg6 harg6 arg7 harg7 arg32 x1 x2 x3 x4 x5) (ix3 a r l) by
      generalize (run.sl.v3058 (F := Ideal) c i arg3 harg3 arg4 harg4 arg5 harg5 arg6 harg6 arg7 harg7 arg32 x1 x2 x3 x4 x5) = Y
      pointwise [k0_pay617]).trans ?_
    refine (cov1 H (Rect.unit ![0, 512, 0] S4x128x128.size inb_S4x640x128_S4x128x128_0_512_0 : Rect S4x640x128).toLoadRect (ix3 a r l) (show 128 ≤ 512 + 1 * r.val by omega)).trans ?_
    refine Eq.trans ?_ (if_pos (show 0 + 1 * r.val < 128 by omega)).symm
    show (if 0 + 1 * l.val < 64 then 0 else KX D b (512 * T + (512 + 1 * r.val)) (64 * (0 + 1 * a.val) + ((0 + 1 * l.val) - 64))) = (if 0 + 1 * l.val < 64 then 0 else KX D b (512 * (T + 1) + (0 + 1 * r.val)) (64 * (0 + 1 * a.val) + ((0 + 1 * l.val) - 64)))
    rw [show 512 * T + (512 + 1 * r.val) = 512 * (T + 1) + (0 + 1 * r.val) by omega]
  · intro p hp x
    have hp' : p ∈ (run.sl.HS1_4 (F := Ideal) c i arg3 harg3 arg4 harg4 arg5 harg5 arg6 harg6 arg7 harg7 x1 x2 x3 x4 x5) := hp
    have hx : 128 ≤ ((p.1.emb x) 1).val := by
      unfold run.sl.HS1_4 at hp'
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      exact absurd hp' List.not_mem_nil
    exact (list1 H p hp' x).trans (if_neg (by omega)).symm

theorem top1 (y : S4x640x128.Idx) (h : (y 1).val < 128) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.1, y ∈ p.1.set := top_full _ _ y h

/-- What the next step starts from. -/
theorem next2 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.2.1 (fun y => if (y 1).val < 128 then G2 D b (T + 1) y else G2 D b T y) := by
  refine Agree.cons (fun x => ?_) ?_
  · obtain ⟨a, r, l, rfl⟩ : ∃ (a : Fin 4) (r : Fin 128) (l : Fin 128), x = ix3 a r l := ⟨x 0, x 1, x 2, eq_ix3 x⟩
    have hr := r.isLt
    refine (show k0_pay618 (run.sl.v3062 (F := Ideal) c i arg3 harg3 arg6 harg6 arg7 harg7 arg33 x1 x4 x5) (ix3 a r l) = (run.sl.v3062 (F := Ideal) c i arg3 harg3 arg6 harg6 arg7 harg7 arg33 x1 x4 x5) (ix3 a r l) by
      generalize (run.sl.v3062 (F := Ideal) c i arg3 harg3 arg6 harg6 arg7 harg7 arg33 x1 x4 x5) = Y
      pointwise [k0_pay618]).trans ?_
    refine (cov2 H (Rect.unit ![0, 512, 0] S4x128x128.size inb_S4x640x128_S4x128x128_0_512_0 : Rect S4x640x128).toLoadRect (ix3 a r l) (show 128 ≤ 512 + 1 * r.val by omega)).trans ?_
    refine Eq.trans ?_ (if_pos (show 0 + 1 * r.val < 128 by omega)).symm
    show (if 0 + 1 * l.val < 64 then VX D b (512 * T + (512 + 1 * r.val)) (64 * (0 + 1 * a.val) + (0 + 1 * l.val)) else 0) = (if 0 + 1 * l.val < 64 then VX D b (512 * (T + 1) + (0 + 1 * r.val)) (64 * (0 + 1 * a.val) + (0 + 1 * l.val)) else 0)
    rw [show 512 * T + (512 + 1 * r.val) = 512 * (T + 1) + (0 + 1 * r.val) by omega]
  · intro p hp x
    have hp' : p ∈ (run.sl.HS2_4 (F := Ideal) c i arg3 harg3 arg6 harg6 arg7 harg7 x1 x4 x5) := hp
    have hx : 128 ≤ ((p.1.emb x) 1).val := by
      unfold run.sl.HS2_4 at hp'
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      exact absurd hp' List.not_mem_nil
    exact (list2 H p hp' x).trans (if_neg (by omega)).symm

theorem top2 (y : S4x640x128.Idx) (h : (y 1).val < 128) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.2.1, y ∈ p.1.set := top_full _ _ y h

/-- What the next step starts from. -/
theorem next3 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.2.2.1 (fun y => if (y 1).val < 128 then G3 D b (T + 1) y else G3 D b T y) := by
  refine Agree.cons (fun x => ?_) ?_
  · obtain ⟨a, r, l, rfl⟩ : ∃ (a : Fin 4) (r : Fin 128) (l : Fin 128), x = ix3 a r l := ⟨x 0, x 1, x 2, eq_ix3 x⟩
    have hr := r.isLt
    refine (show k0_pay619 (run.sl.v3066 (F := Ideal) c i arg3 harg3 arg6 harg6 arg7 harg7 arg34 x1 x4 x5) (ix3 a r l) = (run.sl.v3066 (F := Ideal) c i arg3 harg3 arg6 harg6 arg7 harg7 arg34 x1 x4 x5) (ix3 a r l) by
      generalize (run.sl.v3066 (F := Ideal) c i arg3 harg3 arg6 harg6 arg7 harg7 arg34 x1 x4 x5) = Y
      pointwise [k0_pay619]).trans ?_
    refine (cov3 H (Rect.unit ![0, 512, 0] S4x128x128.size inb_S4x640x128_S4x128x128_0_512_0 : Rect S4x640x128).toLoadRect (ix3 a r l) (show 128 ≤ 512 + 1 * r.val by omega)).trans ?_
    refine Eq.trans ?_ (if_pos (show 0 + 1 * r.val < 128 by omega)).symm
    show (if 0 + 1 * l.val < 64 then 0 else VX D b (512 * T + (512 + 1 * r.val)) (64 * (0 + 1 * a.val) + ((0 + 1 * l.val) - 64))) = (if 0 + 1 * l.val < 64 then 0 else VX D b (512 * (T + 1) + (0 + 1 * r.val)) (64 * (0 + 1 * a.val) + ((0 + 1 * l.val) - 64)))
    rw [show 512 * T + (512 + 1 * r.val) = 512 * (T + 1) + (0 + 1 * r.val) by omega]
  · intro p hp x
    have hp' : p ∈ (run.sl.HS3_4 (F := Ideal) c i arg3 harg3 arg6 harg6 arg7 harg7 x1 x4 x5) := hp
    have hx : 128 ≤ ((p.1.emb x) 1).val := by
      unfold run.sl.HS3_4 at hp'
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      rcases List.mem_cons.1 hp' with rfl | hp'
      · exact Nat.le_add_right 128 _
      exact absurd hp' List.not_mem_nil
    exact (list3 H p hp' x).trans (if_neg (by omega)).symm

theorem top3 (y : S4x640x128.Idx) (h : (y 1).val < 128) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.2.2.1, y ∈ p.1.set := top_full _ _ y h

theorem next4 (H : Inputs D b T x0 x1 x2 x3 x4 x5 x6 x7 x8 x9 x10) : Agree (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.2.2.2.1 (fun y => if (y 0).val < 24 then ext D b (512 * (T + 1) + (y 0).val) (y 1).val else ext D b (512 * T + (y 0).val) (y 1).val) := by
  refine Agree.cons (fun x => ?_) ?_
  · obtain ⟨r, l, rfl⟩ : ∃ (r : Fin 24) (l : Fin 512), x = ix2 r l := ⟨x 0, x 1, eq_ix2 x⟩
    have hr := r.isLt
    refine (show k0_pay620 (run.sl.v3070 (F := Ideal) c i arg3 harg3 arg6 harg6 arg7 harg7 arg35 x1 x4 x5) (ix2 r l) = (run.sl.v3070 (F := Ideal) c i arg3 harg3 arg6 harg6 arg7 harg7 arg35 x1 x4 x5) (ix2 r l) by
      generalize (run.sl.v3070 (F := Ideal) c i arg3 harg3 arg6 harg6 arg7 harg7 arg35 x1 x4 x5) = Y
      pointwise [k0_pay620]).trans ?_
    refine ((list4 H).readCov arg35.view (Rect.unit ![512, 0] S24x512.size inb_S536x512_S24x512_512_0 : Rect S536x512).toLoadRect (ix2 r l) (rows_full _ (show 24 ≤ 512 + 1 * r.val by omega))).trans ?_
    refine Eq.trans ?_ (if_pos (show 0 + 1 * r.val < 24 by omega)).symm
    show ext D b (512 * T + (512 + 1 * r.val)) (0 + 1 * l.val) = ext D b (512 * (T + 1) + (0 + 1 * r.val)) (0 + 1 * l.val)
    rw [show 512 * T + (512 + 1 * r.val) = 512 * (T + 1) + (0 + 1 * r.val) by omega]
  · intro p hp x
    have hp' : p ∈ (run.sl.HS4_1 (F := Ideal) c i arg3 harg3 arg6 harg6 arg7 harg7 x1 x4 x5) := hp
    have hx : 24 ≤ ((p.1.emb x) 0).val := by
      unfold run.sl.HS4_1 at hp'
      rcases List.mem_cons.1 hp' with rfl | hp'
      · exact Nat.le_add_right 24 _
      exact absurd hp' List.not_mem_nil
    exact (list4 H p hp' x).trans (if_neg (by omega)).symm

theorem top4 (y : S536x512.Idx) (h : (y 0).val < 24) : ∃ p ∈ (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x3 x4 x5 x6 x7 x8 x9 x10 x11 x12 x13 x14 x15 x16 x17 x18 xs0 xs1 xs2 xs3 xs4 xs5).2.2.2.2.2.2.2.2.2.2.2.2.2.2.1, y ∈ p.1.set := head_full _ _ y h

end Cert.Mixer

end
-- ==== Proof.Mixer.Entries.lean ====
/-
  The entries the layer is computed from, read from arrays.
-/
module

public import proofs.«01_k».proof.Proof.Mixer.Layer
public import Idealize.ShloMosaic.Lib.Pointwise

@[expose] public section

set_option maxRecDepth 16384

noncomputable section

namespace Cert.Mixer

open Idealize.ShloMosaic

/-- The angle of position `p` at frequency `e`. -/
def angle (p e : ℕ) : EReal :=
  FloatOps.sitofp (F := Ideal) .f32 (BitVec.ofNat 32 p)
    * Ideal.pow (Ideal.ofBits .f32 0x48F42400#32) (-Ideal.div (Ideal.ofBits .f32 0x40000000#32 * FloatOps.sitofp (F := Ideal) .f32 (BitVec.ofNat 32 e)) (Ideal.ofBits .f32 0x41800000#32))

/-- A number taken as an index. -/
abbrev idx (n : ℕ) [NeZero n] (k : ℕ) : Fin n := Fin.ofNat n k

theorem idx_val {n : ℕ} [NeZero n] (k : Fin n) : idx n k.val = k := Fin.ext (Nat.mod_eq_of_lt k.isLt)

/-- The entries of arrays. -/
def entries (x : (⟨3, ![2, 8192, 1024]⟩ : Shape).Idx → EReal) (ln1 : (⟨2, ![1, 1024]⟩ : Shape).Idx → EReal) (w : (⟨2, ![1024, 4096]⟩ : Shape).Idx → EReal)
    (gw : (⟨3, ![4, 128, 128]⟩ : Shape).Idx → EReal) (ps : (⟨2, ![1, 512]⟩ : Shape).Idx → EReal) (sink : (⟨1, ![16]⟩ : Shape).Idx → EReal)
    (wpb : (⟨2, ![512, 1024]⟩ : Shape).Idx → EReal) (wab wout : (⟨2, ![1024, 1024]⟩ : Shape).Idx → EReal) : Data where
  x b p l := x (ix3 (idx 2 b) (idx 8192 p) (idx 1024 l))
  ln1 l := ln1 (ix2 0 (idx 1024 l))
  w j n := w (ix2 (idx 1024 j) (idx 4096 n))
  gw g q n := gw (ix3 (idx 4 g) (idx 128 q) (idx 128 n))
  ps n := ps (ix2 0 (idx 512 n))
  sink h := sink (ix1 (idx 16 h))
  wpb j n := wpb (ix2 (idx 512 j) (idx 1024 n))
  wab j n := wab (ix2 (idx 1024 j) (idx 1024 n))
  wout j n := wout (ix2 (idx 1024 j) (idx 1024 n))
  cos p e := Ideal.cos (angle p e)
  sin p e := Ideal.sin (angle p e)

end Cert.Mixer

end
-- ==== Proof.Mixer.Blocks.lean ====
/-
  The blocks a step is given, read from the arrays: step `t` is batch `t / 16`, rows `512 (t % 16)` on; the tables of the
  rotation as the host lays them out.
-/
module

public import proofs.«01_k».proof.Proof.Gen.Kernel3Ideal.Frame
public import proofs.«01_k».proof.Proof.Mixer.Base
public import proofs.«01_k».proof.Proof.Mixer.Entries
public import Idealize.ShloMosaic.Lib.StableHlo.ReadAt
public import Idealize.ShloMosaic.Lib.Pipeline.Value

@[expose] public section

set_option maxRecDepth 16384

noncomputable section

namespace Cert.Mixer

open Idealize.ShloMosaic Idealize.ShloMosaic.TcCoe Idealize.SL.Sem Cert.Kernel3Ideal Cert.Kernel3Ideal.Gen

variable (m : (ℓ : Loc nD τ sig) → Buf (Elt Ideal) ℓ)

/-- The entries the arguments hold. -/
def D (c : Dev nD) : Data :=
  entries (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8))

theorem lt_pts (t : Fin cfg0.N) : t.val < 32 := lt_of_lt_of_eq t.isLt N_0

theorem index_rows : ∀ t : Fin cfg0.N, (win0_1.index t 0 = t.val / 16 ∧ win0_1.index t 1 = t.val % 16 ∧ win0_1.index t 2 = 0)
    ∧ (win0_2.index t 0 = t.val % 16 ∧ win0_2.index t 1 = 0) ∧ (win0_3.index t 0 = t.val % 16 ∧ win0_3.index t 1 = 0) := by
  decide +kernel

theorem index_const : ∀ t : Fin cfg0.N, (∀ a, win0_0.index t a = 0) ∧ (∀ a, win0_4.index t a = 0) ∧ (∀ a, win0_5.index t a = 0)
    ∧ (∀ a, win0_6.index t a = 0) ∧ (∀ a, win0_7.index t a = 0) ∧ (∀ a, win0_8.index t a = 0)
    ∧ (∀ a, win0_9.index t a = 0) ∧ (∀ a, win0_10.index t a = 0) ∧ (∀ a, win0_11.index t a = 0) ∧ (∀ a, win0_12.index t a = 0) := by
  decide +kernel

theorem grid_at : ∀ t : Fin cfg0.N, (grid0.coords t 0).val = t.val / 16 ∧ (grid0.coords t 1).val = t.val % 16 := by
  decide +kernel

theorem table_at (c : Dev nD) (p : Fin 8192) (e : Fin 8) : V m c main_v18 (ix2 p e) = angle p.val e.val := by
  unfold V
  after_reads_at
  rw [show IntOp.addi 0#32 (BitVec.ofNat 32 p.val) = BitVec.ofNat 32 p.val from BitVec.zero_add _]
  rfl

theorem lane_lt (n : Fin 128) : n.val % 64 - 8 < 8 ∨ 16 ≤ n.val % 64 := by omega

theorem cos_table (c : Dev nD) (p : Fin 8192) (n : Fin 128) : V m c main_v28 (ix2 p n) = cosT (D m c) p.val n.val := by
  have hn := n.isLt
  unfold cosT
  by_cases h8 : n.val % 64 < 8
  · rw [if_pos h8]
    unfold V
    after_reads_at
    refine (dif_pos h8).trans ?_
    after_reads_at
    rw [show IntOp.addi 0#32 (BitVec.ofNat 32 p.val) = BitVec.ofNat 32 p.val from BitVec.zero_add _]
    rfl
  · rw [if_neg h8]
    by_cases h16 : n.val % 64 < 16
    · rw [if_pos h16]
      unfold V
      after_reads_at
      refine (dif_neg h8).trans ((dif_pos (show n.val % 64 - 8 < 8 by omega)).trans ?_)
      after_reads_at
      rw [show IntOp.addi 0#32 (BitVec.ofNat 32 p.val) = BitVec.ofNat 32 p.val from BitVec.zero_add _]
      rfl
    · rw [if_neg h16]
      unfold V
      after_reads_at
      refine (dif_neg h8).trans ((dif_neg (show ¬ n.val % 64 - 8 < 8 by omega)).trans ?_)
      after_reads_at

theorem sin_table (c : Dev nD) (p : Fin 8192) (n : Fin 128) : V m c main_v31 (ix2 p n) = sinT (D m c) p.val n.val := by
  have hn := n.isLt
  unfold sinT
  by_cases h8 : n.val % 64 < 8
  · rw [if_pos h8]
    unfold V
    after_reads_at
    refine (dif_pos h8).trans ?_
    after_reads_at
    rw [show IntOp.addi 0#32 (BitVec.ofNat 32 p.val) = BitVec.ofNat 32 p.val from BitVec.zero_add _]
    rfl
  · rw [if_neg h8]
    by_cases h16 : n.val % 64 < 16
    · rw [if_pos h16]
      unfold V
      after_reads_at
      refine (dif_neg h8).trans ((dif_pos (show n.val % 64 - 8 < 8 by omega)).trans ?_)
      after_reads_at
      rw [show IntOp.addi 0#32 (BitVec.ofNat 32 p.val) = BitVec.ofNat 32 p.val from BitVec.zero_add _]
      rfl
    · rw [if_neg h16]
      unfold V
      after_reads_at
      refine (dif_neg h8).trans ((dif_neg (show ¬ n.val % 64 - 8 < 8 by omega)).trans ?_)
      after_reads_at

theorem blk_0 (c : Dev nD) (t : Fin cfg0.N) (y : S16.Idx) : iblk m c 0 t y = m (c, Proc.tc.devRef main_arg5) y := by
  rw [← show V m c main_arg5 = m (c, Proc.tc.devRef main_arg5) from V_main_arg5 m c]
  show V m c main_arg5 ((win0_0.rect t).emb y) = _
  congr 1
  funext a
  apply Fin.ext
  match a with
  | ⟨0, _⟩ =>
    show win0_0.index t 0 * 16 + 1 * (y 0).val = (y 0).val
    rw [(index_const t).1]; omega

theorem blk_4 (c : Dev nD) (t : Fin cfg0.N) (y : S1x1024.Idx) : iblk m c 4 t y = m (c, Proc.tc.devRef main_arg1) y := by
  rw [← show V m c main_arg1 = m (c, Proc.tc.devRef main_arg1) from V_main_arg1 m c]
  show V m c main_arg1 ((win0_4.rect t).emb y) = _
  congr 1
  funext a
  apply Fin.ext
  match a with
  | ⟨0, _⟩ =>
    show win0_4.index t 0 * 1 + 1 * (y 0).val = (y 0).val
    rw [(index_const t).2.1]; omega
  | ⟨1, _⟩ =>
    show win0_4.index t 1 * 1024 + 1 * (y 1).val = (y 1).val
    rw [(index_const t).2.1]; omega

theorem blk_5 (c : Dev nD) (t : Fin cfg0.N) (y : S1024x4096.Idx) : iblk m c 5 t y = m (c, Proc.tc.devRef main_arg2) y := by
  rw [← show V m c main_arg2 = m (c, Proc.tc.devRef main_arg2) from V_main_arg2 m c]
  show V m c main_arg2 ((win0_5.rect t).emb y) = _
  congr 1
  funext a
  apply Fin.ext
  match a with
  | ⟨0, _⟩ =>
    show win0_5.index t 0 * 1024 + 1 * (y 0).val = (y 0).val
    rw [(index_const t).2.2.1]; omega
  | ⟨1, _⟩ =>
    show win0_5.index t 1 * 4096 + 1 * (y 1).val = (y 1).val
    rw [(index_const t).2.2.1]; omega

theorem blk_6 (c : Dev nD) (t : Fin cfg0.N) (y : S4x128x128.Idx) : iblk m c 6 t y = m (c, Proc.tc.devRef main_arg3) y := by
  rw [← show V m c main_arg3 = m (c, Proc.tc.devRef main_arg3) from V_main_arg3 m c]
  show V m c main_arg3 ((win0_6.rect t).emb y) = _
  congr 1
  funext a
  apply Fin.ext
  match a with
  | ⟨0, _⟩ =>
    show win0_6.index t 0 * 4 + 1 * (y 0).val = (y 0).val
    rw [(index_const t).2.2.2.1]; omega
  | ⟨1, _⟩ =>
    show win0_6.index t 1 * 128 + 1 * (y 1).val = (y 1).val
    rw [(index_const t).2.2.2.1]; omega
  | ⟨2, _⟩ =>
    show win0_6.index t 2 * 128 + 1 * (y 2).val = (y 2).val
    rw [(index_const t).2.2.2.1]; omega

theorem blk_7 (c : Dev nD) (t : Fin cfg0.N) (y : S1x512.Idx) : iblk m c 7 t y = m (c, Proc.tc.devRef main_arg4) y := by
  rw [← show V m c main_arg4 = m (c, Proc.tc.devRef main_arg4) from V_main_arg4 m c]
  show V m c main_arg4 ((win0_7.rect t).emb y) = _
  congr 1
  funext a
  apply Fin.ext
  match a with
  | ⟨0, _⟩ =>
    show win0_7.index t 0 * 1 + 1 * (y 0).val = (y 0).val
    rw [(index_const t).2.2.2.2.1]; omega
  | ⟨1, _⟩ =>
    show win0_7.index t 1 * 512 + 1 * (y 1).val = (y 1).val
    rw [(index_const t).2.2.2.2.1]; omega

theorem blk_8 (c : Dev nD) (t : Fin cfg0.N) (y : S512x1024.Idx) : iblk m c 8 t y = m (c, Proc.tc.devRef main_arg6) y := by
  rw [← show V m c main_arg6 = m (c, Proc.tc.devRef main_arg6) from V_main_arg6 m c]
  show V m c main_arg6 ((win0_8.rect t).emb y) = _
  congr 1
  funext a
  apply Fin.ext
  match a with
  | ⟨0, _⟩ =>
    show win0_8.index t 0 * 512 + 1 * (y 0).val = (y 0).val
    rw [(index_const t).2.2.2.2.2.1]; omega
  | ⟨1, _⟩ =>
    show win0_8.index t 1 * 1024 + 1 * (y 1).val = (y 1).val
    rw [(index_const t).2.2.2.2.2.1]; omega

theorem blk_9 (c : Dev nD) (t : Fin cfg0.N) (y : S1024x1024.Idx) : iblk m c 9 t y = m (c, Proc.tc.devRef main_arg7) y := by
  rw [← show V m c main_arg7 = m (c, Proc.tc.devRef main_arg7) from V_main_arg7 m c]
  show V m c main_arg7 ((win0_9.rect t).emb y) = _
  congr 1
  funext a
  apply Fin.ext
  match a with
  | ⟨0, _⟩ =>
    show win0_9.index t 0 * 1024 + 1 * (y 0).val = (y 0).val
    rw [(index_const t).2.2.2.2.2.2.1]; omega
  | ⟨1, _⟩ =>
    show win0_9.index t 1 * 1024 + 1 * (y 1).val = (y 1).val
    rw [(index_const t).2.2.2.2.2.2.1]; omega

theorem blk_10 (c : Dev nD) (t : Fin cfg0.N) (y : S1024x1024.Idx) : iblk m c 10 t y = m (c, Proc.tc.devRef main_arg8) y := by
  rw [← show V m c main_arg8 = m (c, Proc.tc.devRef main_arg8) from V_main_arg8 m c]
  show V m c main_arg8 ((win0_10.rect t).emb y) = _
  congr 1
  funext a
  apply Fin.ext
  match a with
  | ⟨0, _⟩ =>
    show win0_10.index t 0 * 1024 + 1 * (y 0).val = (y 0).val
    rw [(index_const t).2.2.2.2.2.2.2.1]; omega
  | ⟨1, _⟩ =>
    show win0_10.index t 1 * 1024 + 1 * (y 1).val = (y 1).val
    rw [(index_const t).2.2.2.2.2.2.2.1]; omega

theorem blk_1 (c : Dev nD) (t : Fin cfg0.N) (y : S1x512x1024.Idx) :
    iblk m c 1 t y = (D m c).x (t.val / 16) (512 * (t.val % 16) + (y 1).val) (y 2).val := by
  have ht := lt_pts t
  have h0 : (y 0).val < 1 := (y 0).isLt
  have h1 : (y 1).val < 512 := (y 1).isLt
  have h2 : (y 2).val < 1024 := (y 2).isLt
  show _ = m (c, Proc.tc.devRef main_arg0) (ix3 (idx 2 _) (idx 8192 _) (idx 1024 _))
  rw [← show V m c main_arg0 = m (c, Proc.tc.devRef main_arg0) from V_main_arg0 m c]
  show V m c main_arg0 ((win0_1.rect t).emb y) = _
  congr 1
  funext a
  apply Fin.ext
  match a with
  | ⟨0, _⟩ =>
    show win0_1.index t 0 * 1 + 1 * (y 0).val = t.val / 16 % 2
    rw [(index_rows t).1.1]; omega
  | ⟨1, _⟩ =>
    show win0_1.index t 1 * 512 + 1 * (y 1).val = (512 * (t.val % 16) + (y 1).val) % 8192
    rw [(index_rows t).1.2.1]; omega
  | ⟨2, _⟩ =>
    show win0_1.index t 2 * 1024 + 1 * (y 2).val = (y 2).val % 1024
    rw [(index_rows t).1.2.2]; omega

theorem blk_2 (c : Dev nD) (t : Fin cfg0.N) (y : S512x128.Idx) :
    iblk m c 2 t y = cosT (D m c) (512 * (t.val % 16) + (y 0).val) (y 1).val := by
  have ht := lt_pts t
  have h0 : (y 0).val < 512 := (y 0).isLt
  have h1 : (y 1).val < 128 := (y 1).isLt
  refine Eq.trans ?_ (cos_table m c ⟨512 * (t.val % 16) + (y 0).val, by omega⟩ ⟨(y 1).val, h1⟩)
  show V m c main_v28 ((win0_2.rect t).emb y) = _
  congr 1
  funext a
  apply Fin.ext
  match a with
  | ⟨0, _⟩ =>
    show win0_2.index t 0 * 512 + 1 * (y 0).val = 512 * (t.val % 16) + (y 0).val
    rw [(index_rows t).2.1.1]; omega
  | ⟨1, _⟩ =>
    show win0_2.index t 1 * 128 + 1 * (y 1).val = (y 1).val
    rw [(index_rows t).2.1.2]; omega

theorem blk_3 (c : Dev nD) (t : Fin cfg0.N) (y : S512x128.Idx) :
    iblk m c 3 t y = sinT (D m c) (512 * (t.val % 16) + (y 0).val) (y 1).val := by
  have ht := lt_pts t
  have h0 : (y 0).val < 512 := (y 0).isLt
  have h1 : (y 1).val < 128 := (y 1).isLt
  refine Eq.trans ?_ (sin_table m c ⟨512 * (t.val % 16) + (y 0).val, by omega⟩ ⟨(y 1).val, h1⟩)
  show V m c main_v31 ((win0_3.rect t).emb y) = _
  congr 1
  funext a
  apply Fin.ext
  match a with
  | ⟨0, _⟩ =>
    show win0_3.index t 0 * 512 + 1 * (y 0).val = 512 * (t.val % 16) + (y 0).val
    rw [(index_rows t).2.2.1]; omega
  | ⟨1, _⟩ =>
    show win0_3.index t 1 * 128 + 1 * (y 1).val = (y 1).val
    rw [(index_rows t).2.2.2]; omega

/-- The blocks of step `t`. -/
theorem inputs (c : Dev nD) (t : Fin cfg0.N) : Inputs (D m c) (t.val / 16) (t.val % 16) (iblk m c 0 t) (iblk m c 1 t) (iblk m c 2 t) (iblk m c 3 t)
    (iblk m c 4 t) (iblk m c 5 t) (iblk m c 6 t) (iblk m c 7 t) (iblk m c 8 t) (iblk m c 9 t) (iblk m c 10 t) where
  h1 := blk_1 m c t
  h2 := blk_2 m c t
  h3 := blk_3 m c t
  h0 y := (blk_0 m c t y).trans (congrArg (m (c, Proc.tc.devRef main_arg5)) (funext fun a => match a with
    | ⟨0, _⟩ => (idx_val (n := 16) (y 0)).symm))
  h4 y := (blk_4 m c t y).trans (congrArg (m (c, Proc.tc.devRef main_arg1)) (funext fun a => match a with
    | ⟨0, _⟩ => Subsingleton.elim (α := Fin 1) _ _
    | ⟨1, _⟩ => (idx_val (n := 1024) (y 1)).symm))
  h5 y := (blk_5 m c t y).trans (congrArg (m (c, Proc.tc.devRef main_arg2)) (funext fun a => match a with
    | ⟨0, _⟩ => (idx_val (n := 1024) (y 0)).symm
    | ⟨1, _⟩ => (idx_val (n := 4096) (y 1)).symm))
  h6 y := (blk_6 m c t y).trans (congrArg (m (c, Proc.tc.devRef main_arg3)) (funext fun a => match a with
    | ⟨0, _⟩ => (idx_val (n := 4) (y 0)).symm
    | ⟨1, _⟩ => (idx_val (n := 128) (y 1)).symm
    | ⟨2, _⟩ => (idx_val (n := 128) (y 2)).symm))
  h7 y := (blk_7 m c t y).trans (congrArg (m (c, Proc.tc.devRef main_arg4)) (funext fun a => match a with
    | ⟨0, _⟩ => Subsingleton.elim (α := Fin 1) _ _
    | ⟨1, _⟩ => (idx_val (n := 512) (y 1)).symm))
  h8 y := (blk_8 m c t y).trans (congrArg (m (c, Proc.tc.devRef main_arg6)) (funext fun a => match a with
    | ⟨0, _⟩ => (idx_val (n := 512) (y 0)).symm
    | ⟨1, _⟩ => (idx_val (n := 1024) (y 1)).symm))
  h9 y := (blk_9 m c t y).trans (congrArg (m (c, Proc.tc.devRef main_arg7)) (funext fun a => match a with
    | ⟨0, _⟩ => (idx_val (n := 1024) (y 0)).symm
    | ⟨1, _⟩ => (idx_val (n := 1024) (y 1)).symm))
  h10 y := (blk_10 m c t y).trans (congrArg (m (c, Proc.tc.devRef main_arg8)) (funext fun a => match a with
    | ⟨0, _⟩ => (idx_val (n := 1024) (y 0)).symm
    | ⟨1, _⟩ => (idx_val (n := 1024) (y 1)).symm))

end Cert.Mixer

end
-- ==== Proof.Mixer.Steps.lean ====
/-
  What each step of the call starts from, and what it puts down in each of its results.
-/
module

public import proofs.«01_k».proof.Proof.Mixer.Open
public import proofs.«01_k».proof.Proof.Mixer.Out
public import proofs.«01_k».proof.Proof.Mixer.Blocks

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- What step `n` starts from. -/
def Stage (c : Dev nD) (n : ℕ) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) : Prop := Start (D m c) (n / 16) (n % 16) xs0 xs1 xs2 xs3 xs4
/-- What a step hands on to step `n`, when `n` is not the first of a batch. -/
def Carry (c : Dev nD) (n : ℕ) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) : Prop := n % 16 ≠ 0 → Stage m c n xs0 xs1 xs2 xs3 xs4 xs5
/-- Result 0 of step `t`. -/
def blk19 (c : Dev nD) (t : Fin cfg0.N) : Vec Ideal S1x512x1024 .f32 := fun y => out2 (D m c) (t.val / 16) (512 * (t.val % 16) + (y 1).val) (y 2).val
/-- Result 1 of step `t`. -/
def blk20 (c : Dev nD) (t : Fin cfg0.N) : Vec Ideal S1x256x128 .f32 := fun y => k (D m c) (t.val / 16) (512 * (t.val % 16) + 384 + (y 2).val) (y 1).val
/-- Result 2 of step `t`. -/
def blk21 (c : Dev nD) (t : Fin cfg0.N) : Vec Ideal S1x256x128 .f32 := fun y => v (D m c) (t.val / 16) (512 * (t.val % 16) + 384 + (y 2).val) (y 1).val
/-- Result 3 of step `t`. -/
def blk22 (c : Dev nD) (t : Fin cfg0.N) : Vec Ideal S1x15x512 .f32 := fun y => ext (D m c) (t.val / 16) (512 * (t.val % 16) + 521 + (y 1).val) (y 2).val
/-- Result 4 of step `t`. -/
def blk23 (c : Dev nD) (t : Fin cfg0.N) : Vec Ideal S4x256x128 .f32 := shifted (iblk m c 11 t) (iblk m c 13 t) t.val
/-- Result 5 of step `t`. -/
def blk24 (c : Dev nD) (t : Fin cfg0.N) : Vec Ideal S4x256x128 .f32 := shifted (iblk m c 12 t) (iblk m c 14 t) t.val
/-- Result 6 of step `t`. -/
def blk25 (c : Dev nD) (t : Fin cfg0.N) : Vec Ideal S32x5632 .bf16 := fun y => iblk m c 15 t y
/-- Result 7 of step `t`. -/
def blk26 (c : Dev nD) (t : Fin cfg0.N) : Vec Ideal S128x1024 .bf16 := fun y => iblk m c 16 t y
/-- Result 8 of step `t`. -/
def blk27 (c : Dev nD) (t : Fin cfg0.N) : Vec Ideal S16x1024 .bf16 := fun y => iblk m c 17 t y
/-- Result 9 of step `t`. -/
def blk28 (c : Dev nD) (t : Fin cfg0.N) : Vec Ideal S32x1024 .bf16 := fun y => iblk m c 18 t y

theorem one_full {S : Shape} {e : EltTy} {o : Fin S.rank → ℕ} {inb} (ho : ∀ a, o a = 0) (w : S.Idx → Elt Ideal e) (y : S.Idx) :
    ∃ p ∈ ([⟨Rect.unit o S.size inb, w⟩] : List (View.Piece (Elt Ideal) S e)), y ∈ p.1.set :=
  ⟨_, List.mem_singleton_self _, (Rect.mem_set_unit (inb := inb)).2 fun a => ⟨by rw [ho]; exact Nat.zero_le _, by rw [ho, zero_add]; exact (y a).isLt⟩⟩

theorem zeros3 : ∀ a : Fin 3, (![0, 0, 0] : Fin 3 → ℕ) a = 0 := by decide
theorem zeros2 : ∀ a : Fin 2, (![0, 0] : Fin 2 → ℕ) a = 0 := by decide

theorem step_eq (t : Fin cfg0.N) : 16 * (grid0.coords t 0).val + (grid0.coords t 1).val = t.val := by
  rw [(grid_at t).1, (grid_at t).2]; omega

/-- A step's start, its number taken apart. -/
theorem stage_of (c : Dev nD) {n b T : ℕ} (hb : n / 16 = b) (hT : n % 16 = T) {xs0 xs1 xs2 xs3 : Vec Ideal S4x640x128 .bf16} {xs4 : Vec Ideal S536x512 .f32}
    {xs5 : Vec Ideal S4x536x128 .f32} (h : Start (D m c) b T xs0 xs1 xs2 xs3 xs4) : Stage m c n xs0 xs1 xs2 xs3 xs4 xs5 := by
  subst hb hT
  exact h

end Cert.Mixer

end
-- ==== Proof.Mixer.StepsRow.lean ====
/-
  A step's rows, and the last keys, values and pooling inputs of them.
-/
module

public import proofs.«01_k».proof.Proof.Mixer.Steps

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem out19 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_19 t).view.ty.Contents (Elt Ideal)) : (ms0_19 t).view.read (Elt Ideal) ((ms0_19 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).1) = blk19 m c t := by
  funext y
  exact (put19 (inputs m c t) hS (grid_at t).2).read (ms0_19 t).view f y (Or.inl (one_full zeros3 _ y))

theorem out20 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_20 t).view.ty.Contents (Elt Ideal)) : (ms0_20 t).view.read (Elt Ideal) ((ms0_20 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.1) = blk20 m c t := by
  funext y
  exact (put20 (inputs m c t)).read (ms0_20 t).view f y (Or.inl (one_full zeros3 _ y))

theorem out21 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_21 t).view.ty.Contents (Elt Ideal)) : (ms0_21 t).view.read (Elt Ideal) ((ms0_21 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.1) = blk21 m c t := by
  funext y
  exact (put21 (inputs m c t)).read (ms0_21 t).view f y (Or.inl (one_full zeros3 _ y))

theorem out22 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_22 t).view.ty.Contents (Elt Ideal)) : (ms0_22 t).view.read (Elt Ideal) ((ms0_22 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.1) = blk22 m c t := by
  funext y
  exact (put22 (inputs m c t)).read (ms0_22 t).view f y (Or.inl (one_full zeros3 _ y))

end Cert.Mixer

end
-- ==== Proof.Mixer.StepsCopy.lean ====
/-
  A step's share of the caches and of the casts.
-/
module

public import proofs.«01_k».proof.Proof.Mixer.Steps

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem out23 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_23 t).view.ty.Contents (Elt Ideal)) : (ms0_23 t).view.read (Elt Ideal) ((ms0_23 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.1) = blk23 m c t := by
  funext y
  exact (put23.read (ms0_23 t).view f y (Or.inl (full23 y))).trans (congrArg (fun n => shifted (iblk m c 11 t) (iblk m c 13 t) n y) (step_eq t))

theorem out24 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_24 t).view.ty.Contents (Elt Ideal)) : (ms0_24 t).view.read (Elt Ideal) ((ms0_24 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.1) = blk24 m c t := by
  funext y
  exact (put24.read (ms0_24 t).view f y (Or.inl (full24 y))).trans (congrArg (fun n => shifted (iblk m c 12 t) (iblk m c 14 t) n y) (step_eq t))

theorem out25 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_25 t).view.ty.Contents (Elt Ideal)) : (ms0_25 t).view.read (Elt Ideal) ((ms0_25 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.1) = blk25 m c t := by
  funext y
  exact put25.read (ms0_25 t).view f y (Or.inl (one_full zeros2 _ y))

theorem out26 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_26 t).view.ty.Contents (Elt Ideal)) : (ms0_26 t).view.read (Elt Ideal) ((ms0_26 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.1) = blk26 m c t := by
  funext y
  exact put26.read (ms0_26 t).view f y (Or.inl (one_full zeros2 _ y))

theorem out27 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_27 t).view.ty.Contents (Elt Ideal)) : (ms0_27 t).view.read (Elt Ideal) ((ms0_27 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.1) = blk27 m c t := by
  funext y
  exact put27.read (ms0_27 t).view f y (Or.inl (one_full zeros2 _ y))

theorem out28 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (f : (ms0_28 t).view.ty.Contents (Elt Ideal)) : (ms0_28 t).view.read (Elt Ideal) ((ms0_28 t).view.writes (Elt Ideal) f (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.1) = blk28 m c t := by
  funext y
  exact put28.read (ms0_28 t).view f y (Or.inl (one_full zeros2 _ y))

end Cert.Mixer

end
-- ==== Proof.Mixer.StepsKeys.lean ====
/-
  The keys a step hands on.
-/
module

public import proofs.«01_k».proof.Proof.Mixer.Steps

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem carry0 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) (y : S4x640x128.Idx) (h : (y 1).val < 128) : (scM0_0.view.read (Elt Ideal) (scM0_0.view.writes (Elt Ideal) es0 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.1)) y = G0 (D m c) (t.val / 16) (t.val % 16 + 1) y := by
  have e : (scM0_0.view.read (Elt Ideal) (scM0_0.view.writes (Elt Ideal) es0 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.1)) y = (if (y 1).val < 128 then G0 (D m c) (t.val / 16) (t.val % 16 + 1) y else G0 (D m c) (t.val / 16) (t.val % 16) y) := (next0 (inputs m c t)).read scM0_0.view es0 y (Or.inl (top0 y h))
  exact e.trans (if_pos h)

theorem carry1 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) (y : S4x640x128.Idx) (h : (y 1).val < 128) : (scM0_1.view.read (Elt Ideal) (scM0_1.view.writes (Elt Ideal) es1 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.1)) y = G1 (D m c) (t.val / 16) (t.val % 16 + 1) y := by
  have e : (scM0_1.view.read (Elt Ideal) (scM0_1.view.writes (Elt Ideal) es1 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.1)) y = (if (y 1).val < 128 then G1 (D m c) (t.val / 16) (t.val % 16 + 1) y else G1 (D m c) (t.val / 16) (t.val % 16) y) := (next1 (inputs m c t)).read scM0_1.view es1 y (Or.inl (top1 y h))
  exact e.trans (if_pos h)

end Cert.Mixer

end
-- ==== Proof.Mixer.StepsVals.lean ====
/-
  The values a step hands on.
-/
module

public import proofs.«01_k».proof.Proof.Mixer.Steps

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem carry2 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) (y : S4x640x128.Idx) (h : (y 1).val < 128) : (scM0_2.view.read (Elt Ideal) (scM0_2.view.writes (Elt Ideal) es2 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.1)) y = G2 (D m c) (t.val / 16) (t.val % 16 + 1) y := by
  have e : (scM0_2.view.read (Elt Ideal) (scM0_2.view.writes (Elt Ideal) es2 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.1)) y = (if (y 1).val < 128 then G2 (D m c) (t.val / 16) (t.val % 16 + 1) y else G2 (D m c) (t.val / 16) (t.val % 16) y) := (next2 (inputs m c t)).read scM0_2.view es2 y (Or.inl (top2 y h))
  exact e.trans (if_pos h)

theorem carry3 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) (y : S4x640x128.Idx) (h : (y 1).val < 128) : (scM0_3.view.read (Elt Ideal) (scM0_3.view.writes (Elt Ideal) es3 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.1)) y = G3 (D m c) (t.val / 16) (t.val % 16 + 1) y := by
  have e : (scM0_3.view.read (Elt Ideal) (scM0_3.view.writes (Elt Ideal) es3 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.1)) y = (if (y 1).val < 128 then G3 (D m c) (t.val / 16) (t.val % 16 + 1) y else G3 (D m c) (t.val / 16) (t.val % 16) y) := (next3 (inputs m c t)).read scM0_3.view es3 y (Or.inl (top3 y h))
  exact e.trans (if_pos h)

end Cert.Mixer

end
-- ==== Proof.Mixer.StepsPool.lean ====
/-
  The pooling inputs a step hands on.
-/
module

public import proofs.«01_k».proof.Proof.Mixer.Steps

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem carry4 (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) (y : S536x512.Idx) (h : (y 0).val < 24) : (scM0_4.view.read (Elt Ideal) (scM0_4.view.writes (Elt Ideal) es4 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.1)) y = ext (D m c) (t.val / 16) (512 * (t.val % 16 + 1) + (y 0).val) (y 1).val := by
  have e : (scM0_4.view.read (Elt Ideal) (scM0_4.view.writes (Elt Ideal) es4 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.1)) y = (if (y 0).val < 24 then ext (D m c) (t.val / 16) (512 * (t.val % 16 + 1) + (y 0).val) (y 1).val else ext (D m c) (t.val / 16) (512 * (t.val % 16) + (y 0).val) (y 1).val) := (next4 (inputs m c t)).read scM0_4.view es4 y (Or.inl (top4 y h))
  exact e.trans (if_pos h)

end Cert.Mixer

end
-- ==== Proof.Mixer.Facts.lean ====
/-
  What a step hands on to the next: the last 128 keys and values and the last 24 pooling inputs; the first step of a batch starts from zeros.
-/
module

public import proofs.«01_k».proof.Proof.Mixer.StepsRow
public import proofs.«01_k».proof.Proof.Mixer.StepsCopy
public import proofs.«01_k».proof.Proof.Mixer.StepsKeys
public import proofs.«01_k».proof.Proof.Mixer.StepsVals
public import proofs.«01_k».proof.Proof.Mixer.StepsPool

@[expose] public section

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem carry (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) : Carry m c (t.val + 1) (scM0_0.view.read (Elt Ideal) (scM0_0.view.writes (Elt Ideal) es0 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.1)) (scM0_1.view.read (Elt Ideal) (scM0_1.view.writes (Elt Ideal) es1 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.1)) (scM0_2.view.read (Elt Ideal) (scM0_2.view.writes (Elt Ideal) es2 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.1)) (scM0_3.view.read (Elt Ideal) (scM0_3.view.writes (Elt Ideal) es3 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.1)) (scM0_4.view.read (Elt Ideal) (scM0_4.view.writes (Elt Ideal) es4 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.1)) (scM0_5.view.read (Elt Ideal) (scM0_5.view.writes (Elt Ideal) ((Memref.isWhole_whole _ : scM0_5.IsWhole).unread xs5) (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.2.1)) := by
  intro hne
  refine stage_of m c (b := t.val / 16) (T := t.val % 16 + 1) (by omega) (by omega) ⟨?_, ?_, ?_, ?_, ?_⟩
  · exact fun y h => carry0 m c t xs0 xs1 xs2 xs3 xs4 xs5 es0 es1 es2 es3 es4 y h
  · exact fun y h => carry1 m c t xs0 xs1 xs2 xs3 xs4 xs5 es0 es1 es2 es3 es4 y h
  · exact fun y h => carry2 m c t xs0 xs1 xs2 xs3 xs4 xs5 es0 es1 es2 es3 es4 y h
  · exact fun y h => carry3 m c t xs0 xs1 xs2 xs3 xs4 xs5 es0 es1 es2 es3 es4 y h
  · exact fun y h => carry4 m c t xs0 xs1 xs2 xs3 xs4 xs5 es0 es1 es2 es3 es4 y h

theorem zero_top0 (y : S4x128x128.Idx) : k0_pay4 (F := Ideal) y = 0 := by
  unfold k0_pay4
  pointwise []

theorem zero_top1 (y : S4x128x128.Idx) : k0_pay5 (F := Ideal) y = 0 := by
  unfold k0_pay5
  pointwise []

theorem zero_top2 (y : S4x128x128.Idx) : k0_pay6 (F := Ideal) y = 0 := by
  unfold k0_pay6
  pointwise []

theorem zero_top3 (y : S4x128x128.Idx) : k0_pay7 (F := Ideal) y = 0 := by
  unfold k0_pay7
  pointwise []

theorem zero_head (y : S24x512.Idx) : k0_pay8 (F := Ideal) y = 0 := by
  unfold k0_pay8
  pointwise []

theorem ext_zero (D : Data) (b P n : ℕ) (h : P < 24) : ext D b P n = 0 := if_pos h

theorem G0_zero (D : Data) (b : ℕ) (y : S4x640x128.Idx) (h : (y 1).val < 128) : G0 D b 0 y = 0 := by
  unfold G0 KX
  rw [if_pos (show 512 * 0 + (y 1).val < 128 by omega)]
  exact ite_self _

theorem G1_zero (D : Data) (b : ℕ) (y : S4x640x128.Idx) (h : (y 1).val < 128) : G1 D b 0 y = 0 := by
  unfold G1 KX
  rw [if_pos (show 512 * 0 + (y 1).val < 128 by omega)]
  exact ite_self _

theorem G2_zero (D : Data) (b : ℕ) (y : S4x640x128.Idx) (h : (y 1).val < 128) : G2 D b 0 y = 0 := by
  unfold G2 VX
  rw [if_pos (show 512 * 0 + (y 1).val < 128 by omega)]
  exact ite_self _

theorem G3_zero (D : Data) (b : ℕ) (y : S4x640x128.Idx) (h : (y 1).val < 128) : G3 D b 0 y = 0 := by
  unfold G3 VX
  rw [if_pos (show 512 * 0 + (y 1).val < 128 by omega)]
  exact ite_self _

theorem start_first (c : Dev nD) (t : Fin cfg0.N) (h0 : t.val % 16 = 0) (es0 : scM0_0.view.ty.Contents (Elt Ideal)) (es1 : scM0_1.view.ty.Contents (Elt Ideal)) (es2 : scM0_2.view.ty.Contents (Elt Ideal)) (es3 : scM0_3.view.ty.Contents (Elt Ideal)) (es4 : scM0_4.view.ty.Contents (Elt Ideal)) (es5 : scM0_5.view.ty.Contents (Elt Ideal)) : Stage m c t.val (scM0_0.view.read (Elt Ideal) (scM0_0.view.writes (Elt Ideal) es0 (head0 (F := Ideal)))) (scM0_1.view.read (Elt Ideal) (scM0_1.view.writes (Elt Ideal) es1 (head1 (F := Ideal)))) (scM0_2.view.read (Elt Ideal) (scM0_2.view.writes (Elt Ideal) es2 (head2 (F := Ideal)))) (scM0_3.view.read (Elt Ideal) (scM0_3.view.writes (Elt Ideal) es3 (head3 (F := Ideal)))) (scM0_4.view.read (Elt Ideal) (scM0_4.view.writes (Elt Ideal) es4 (head4 (F := Ideal)))) (scM0_5.view.read (Elt Ideal) (scM0_5.view.writes (Elt Ideal) es5 (head5 (F := Ideal)))) := by
  refine stage_of m c rfl h0 ?_
  exact {
    s0 := fun y h => ((Agree.cons (G := fun _ => (0 : EReal)) zero_top0 (.nil _)).read scM0_0.view es0 y (Or.inl (top_full _ _ y h))).trans (G0_zero _ _ y h).symm
    s1 := fun y h => ((Agree.cons (G := fun _ => (0 : EReal)) zero_top1 (.nil _)).read scM0_1.view es1 y (Or.inl (top_full _ _ y h))).trans (G1_zero _ _ y h).symm
    s2 := fun y h => ((Agree.cons (G := fun _ => (0 : EReal)) zero_top2 (.nil _)).read scM0_2.view es2 y (Or.inl (top_full _ _ y h))).trans (G2_zero _ _ y h).symm
    s3 := fun y h => ((Agree.cons (G := fun _ => (0 : EReal)) zero_top3 (.nil _)).read scM0_3.view es3 y (Or.inl (top_full _ _ y h))).trans (G3_zero _ _ y h).symm
    s4 := fun y h => ((Agree.cons (G := fun _ => (0 : EReal)) zero_head (.nil _)).read scM0_4.view es4 y (Or.inl (head_full _ _ y h))).trans (ext_zero _ _ _ _ (by omega)).symm }

theorem start_later (c : Dev nD) (t : Fin cfg0.N) (h0 : ¬ t.val % 16 = 0) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (h : Carry m c t.val xs0 xs1 xs2 xs3 xs4 xs5) : Stage m c t.val xs0 xs1 xs2 xs3 xs4 xs5 := h h0

theorem carry_first (c : Dev nD) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) : Carry m c 0 xs0 xs1 xs2 xs3 xs4 xs5 := fun h => absurd rfl h

end Cert.Mixer

end
-- ==== Proof.Mixer.Frame.lean ====
module

public import proofs.«01_k».proof.Proof.Mixer.Open
public import proofs.«01_k».proof.Proof.Mixer.Run
public import Idealize.ShloMosaic.Lib.Claim
public import proofs.«01_k».proof.Proof.Mixer.Facts

@[expose] public section

/-!
# The launch

The whole launch, point by point: what the buffers hold before and after each point, that the body takes the one to the
other, and what every run of the program therefore ends with.
-/

set_option maxRecDepth 16384

noncomputable section

namespace Cert.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The invariant before point `n`: the carried scratch at contents that continue the row of tiles (`Carry`), the other
    scratch at some contents, and the generator register at some state. -/
def Phi (c : Dev nD) (n : ℕ) : sProp (MT nD τ sig Unit (Elt Ideal) ℕ (UR sig nD τ) ℕ) :=
  iprop((∃ xs0 xs1 xs2 xs3 xs4 xs5, ⌜Carry m c n xs0 xs1 xs2 xs3 xs4 xs5⌝ ∗ owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5 ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

/-- The launch's data: the arrays as the launch finds them; after a point each input's buffer at its block and each
    output's at the block of the layer’s results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => blk19 m c t
    | ⟨20, _⟩ => blk20 m c t
    | ⟨21, _⟩ => blk21 m c t
    | ⟨22, _⟩ => blk22 m c t
    | ⟨23, _⟩ => blk23 m c t
    | ⟨24, _⟩ => blk24 m c t
    | ⟨25, _⟩ => blk25 m c t
    | ⟨26, _⟩ => blk26 m c t
    | ⟨27, _⟩ => blk27 m c t
    | ⟨28, _⟩ => blk28 m c t
    | ⟨_ + 29, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = blk19 m c t := by dsimp only [dats]
theorem after_20 (c : Dev nD) (t : Fin cfg0.N) : (dats m 0 c).after 20 t = blk20 m c t := by dsimp only [dats]
theorem after_21 (c : Dev nD) (t : Fin cfg0.N) : (dats m 0 c).after 21 t = blk21 m c t := by dsimp only [dats]
theorem after_22 (c : Dev nD) (t : Fin cfg0.N) : (dats m 0 c).after 22 t = blk22 m c t := by dsimp only [dats]
theorem after_23 (c : Dev nD) (t : Fin cfg0.N) : (dats m 0 c).after 23 t = blk23 m c t := by dsimp only [dats]
theorem after_24 (c : Dev nD) (t : Fin cfg0.N) : (dats m 0 c).after 24 t = blk24 m c t := by dsimp only [dats]
theorem after_25 (c : Dev nD) (t : Fin cfg0.N) : (dats m 0 c).after 25 t = blk25 m c t := by dsimp only [dats]
theorem after_26 (c : Dev nD) (t : Fin cfg0.N) : (dats m 0 c).after 26 t = blk26 m c t := by dsimp only [dats]
theorem after_27 (c : Dev nD) (t : Fin cfg0.N) : (dats m 0 c).after 27 t = blk27 m c t := by dsimp only [dats]
theorem after_28 (c : Dev nD) (t : Fin cfg0.N) : (dats m 0 c).after 28 t = blk28 m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d

/-- What every point's program ends with. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t)
    ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ owns (c : Thread nD τ) (ms0_22 t) fullShare ((dats m 0 c).after 22 t) ∗ owns (c : Thread nD τ) (ms0_23 t) fullShare ((dats m 0 c).after 23 t) ∗ owns (c : Thread nD τ) (ms0_24 t) fullShare ((dats m 0 c).after 24 t) ∗ owns (c : Thread nD τ) (ms0_25 t) fullShare ((dats m 0 c).after 25 t) ∗ owns (c : Thread nD τ) (ms0_26 t) fullShare ((dats m 0 c).after 26 t) ∗ owns (c : Thread nD τ) (ms0_27 t) fullShare ((dats m 0 c).after 27 t) ∗ owns (c : Thread nD τ) (ms0_28 t) fullShare ((dats m 0 c).after 28 t))

/-- What every point's program starts with. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d))
    ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)) ∗ (∃ d, owns (c : Thread nD τ) (ms0_26 t) fullShare ((dats m 0 c).before 26 t d)) ∗ (∃ d, owns (c : Thread nD τ) (ms0_27 t) fullShare ((dats m 0 c).before 27 t d)) ∗ (∃ d, owns (c : Thread nD τ) (ms0_28 t) fullShare ((dats m 0 c).before 28 t d)))

set_option maxHeartbeats 28800000 in
/-- The program after the opening, at any point, from carried scratch `xs0 … xs5`. -/
theorem sound_rest (c : Dev nD) (t : Fin cfg0.N) (xs0 : Vec Ideal S4x640x128 .bf16) (xs1 : Vec Ideal S4x640x128 .bf16) (xs2 : Vec Ideal S4x640x128 .bf16) (xs3 : Vec Ideal S4x640x128 .bf16) (xs4 : Vec Ideal S536x512 .f32) (xs5 : Vec Ideal S4x536x128 .f32) (hS : Stage m c t.val xs0 xs1 xs2 xs3 xs4 xs5) :
    iprop((owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5 ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)
        ∗ (dats m 0 c).owesAt () t.castSucc
        ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t)
        ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗ (∃ d, owns (c : Thread nD τ) (ms0_28 t) fullShare d))
      ⊢ wp frame (wpE (defs₀ (F := Ideal)) Variants.none c none) Set.univ (rest (F := Ideal) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)) (fun _ => bodyPost m c t) := by
  unfold bodyPost
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28,
    show (dats m 0 c).Φ t.succ = Phi m c (t.val + 1) from rfl]
  iintro ⟨⟨HS0, HS1, HS2, HS3, HS4, HS5, HS6, HS7, HS8, HS9⟩, Hg, Ho, H0, H1, H2, H3, H4, H5, H6, H7, H8, H9, H10, H11, H12, H13, H14, H15, H16, H17, H18, H19, H20, H21, H22, H23, H24, H25, H26, H27, H28⟩
  iapply ((run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%es0, HS0⟩, ⟨%es1, HS1⟩, ⟨%es2, HS2⟩, ⟨%es3, HS3⟩, ⟨%es4, HS4⟩, HS5, ⟨%fT6, HS6⟩, ⟨%fT7, HS7⟩, ⟨%fT8, HS8⟩, ⟨%fT9, HS9⟩⟩
  isplitl [HS0 HS1 HS2 HS3 HS4 HS5 HS6 HS7 HS8 HS9 Hg]
  · unfold Phi
    isplitr [Hg]
    swap; · iexact Hg
    iexists (scM0_0.view.read (Elt Ideal) (scM0_0.view.writes (Elt Ideal) es0 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.1))
    iexists (scM0_1.view.read (Elt Ideal) (scM0_1.view.writes (Elt Ideal) es1 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.1))
    iexists (scM0_2.view.read (Elt Ideal) (scM0_2.view.writes (Elt Ideal) es2 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.1))
    iexists (scM0_3.view.read (Elt Ideal) (scM0_3.view.writes (Elt Ideal) es3 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.1))
    iexists (scM0_4.view.read (Elt Ideal) (scM0_4.view.writes (Elt Ideal) es4 (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.1))
    iexists (scM0_5.view.read (Elt Ideal) (scM0_5.view.writes (Elt Ideal) ((Memref.isWhole_whole _ : scM0_5.IsWhole).unread xs5) (run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.2.1))
    isplitr
    · ipureintro; exact carry m c t xs0 xs1 xs2 xs3 xs4 xs5 hS es0 es1 es2 es3 es4
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    isplitl [HS3]
    · unfold owns; iexists _; isplitr
      swap; · iexact HS3
      ipureintro; rfl
    isplitl [HS4]
    · unfold owns; iexists _; isplitr
      swap; · iexact HS4
      ipureintro; rfl
    isplitl [HS5]
    · unfold owns; iexists _; isplitr
      swap; · iexact HS5
      ipureintro; rfl
    isplitl [HS6]
    · iexists _; unfold owns; iexists _; isplitr
      swap; · iexact HS6
      ipureintro; rfl
    isplitl [HS7]
    · iexists _; unfold owns; iexists _; isplitr
      swap; · iexact HS7
      ipureintro; rfl
    isplitl [HS8]
    · iexists _; unfold owns; iexists _; isplitr
      swap; · iexact HS8
      ipureintro; rfl
    iexists _; unfold owns; iexists _; isplitr
    swap; · iexact HS9
    ipureintro; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact out19 m c t xs0 xs1 xs2 xs3 xs4 xs5 hS e19
  isplitl [H20]
  · unfold owns; iexists _; isplitr
    swap; · iexact H20
    ipureintro; exact out20 m c t xs0 xs1 xs2 xs3 xs4 xs5 hS e20
  isplitl [H21]
  · unfold owns; iexists _; isplitr
    swap; · iexact H21
    ipureintro; exact out21 m c t xs0 xs1 xs2 xs3 xs4 xs5 hS e21
  isplitl [H22]
  · unfold owns; iexists _; isplitr
    swap; · iexact H22
    ipureintro; exact out22 m c t xs0 xs1 xs2 xs3 xs4 xs5 hS e22
  isplitl [H23]
  · unfold owns; iexists _; isplitr
    swap; · iexact H23
    ipureintro; exact out23 m c t xs0 xs1 xs2 xs3 xs4 xs5 hS e23
  isplitl [H24]
  · unfold owns; iexists _; isplitr
    swap; · iexact H24
    ipureintro; exact out24 m c t xs0 xs1 xs2 xs3 xs4 xs5 hS e24
  isplitl [H25]
  · unfold owns; iexists _; isplitr
    swap; · iexact H25
    ipureintro; exact out25 m c t xs0 xs1 xs2 xs3 xs4 xs5 hS e25
  isplitl [H26]
  · unfold owns; iexists _; isplitr
    swap; · iexact H26
    ipureintro; exact out26 m c t xs0 xs1 xs2 xs3 xs4 xs5 hS e26
  isplitl [H27]
  · unfold owns; iexists _; isplitr
    swap; · iexact H27
    ipureintro; exact out27 m c t xs0 xs1 xs2 xs3 xs4 xs5 hS e27
  unfold owns; iexists _; isplitr
  swap; · iexact H28
  ipureintro; exact out28 m c t xs0 xs1 xs2 xs3 xs4 xs5 hS e28

set_option maxHeartbeats 28800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyAt0
  simp only [before_0, before_1, before_2, before_3, before_4, before_5, before_6, before_7, before_8, before_9, before_10, before_11, before_12, before_13, before_14, before_15, before_16, before_17, before_18]
  rw [show (dats m 0 c).Φ t.castSucc = Phi m c t.val from rfl, Phi]
  by_cases h0 : t.val % 16 = 0
  · rw [body_first (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((first_iff t).mpr h0), wp_bind]
    iintro ⟨⟨⟨%xs0, %xs1, %xs2, %xs3, %xs4, %xs5, -, HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (opening_run (F := Ideal) c scM0_0 (Memref.isWhole_whole _) scM0_1 (Memref.isWhole_whole _) scM0_2 (Memref.isWhole_whole _) scM0_3 (Memref.isWhole_whole _) scM0_4 scM0_5 Set.univ _)
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iintro ⟨⟨%es0, HS0⟩, ⟨%es1, HS1⟩, ⟨%es2, HS2⟩, ⟨%es3, HS3⟩, ⟨%es4, HS4⟩, ⟨%es5, HS5⟩⟩
    iapply (sound_rest m c t (scM0_0.view.read (Elt Ideal) (scM0_0.view.writes (Elt Ideal) es0 (head0 (F := Ideal)))) (scM0_1.view.read (Elt Ideal) (scM0_1.view.writes (Elt Ideal) es1 (head1 (F := Ideal)))) (scM0_2.view.read (Elt Ideal) (scM0_2.view.writes (Elt Ideal) es2 (head2 (F := Ideal)))) (scM0_3.view.read (Elt Ideal) (scM0_3.view.writes (Elt Ideal) es3 (head3 (F := Ideal)))) (scM0_4.view.read (Elt Ideal) (scM0_4.view.writes (Elt Ideal) es4 (head4 (F := Ideal)))) (scM0_5.view.read (Elt Ideal) (scM0_5.view.writes (Elt Ideal) es5 (head5 (F := Ideal)))) (start_first m c t h0 es0 es1 es2 es3 es4 es5))
    isplitl [HS0 HS1 HS2 HS3 HS4 HS5 HS6 HS7 HS8 HS9]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]; · iexact HS6
      isplitl [HS7]; · iexact HS7
      isplitl [HS8]; · iexact HS8
      iexact HS9
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28
  · rw [body_later (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((first_iff t).mp h))]
    iintro ⟨⟨⟨%xs0, %xs1, %xs2, %xs3, %xs4, %xs5, %hC, HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (sound_rest m c t xs0 xs1 xs2 xs3 xs4 xs5 (start_later m c t h0 xs0 xs1 xs2 xs3 xs4 xs5 hC))
    isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

theorem defs_row (t : Fin cfg0.N) :
    defs₀ (F := Ideal) .tc cfg0.body (cfg0.bodyArgs t (cfg0.slots t)) = bodyAt0 t := by
  unfold defs₀; rw [Defs.onTc_tc]

set_option maxHeartbeats 28800000 in
theorem body_obligation (c : Dev nD) : BodyObligation (dats m 0 c) (defs₀ (F := Ideal)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, Phi, PhiA0_eq]
  iintro ⟨⟨⟨%xs0, HS0⟩, ⟨%xs1, HS1⟩, ⟨%xs2, HS2⟩, ⟨%xs3, HS3⟩, ⟨%xs4, HS4⟩, ⟨%xs5, HS5⟩, HS6, HS7, HS8, HS9⟩, Hg⟩
  isplitr [Hg]
  swap; · iexact Hg
  iexists xs0; iexists xs1; iexists xs2; iexists xs3; iexists xs4; iexists xs5
  isplitr
  · ipureintro; exact carry_first m c xs0 xs1 xs2 xs3 xs4 xs5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iexact HS9

theorem hout (c : Dev nD) : (dats m 0 c).Φ (Fin.last cfg0.N) ⊢ Pipeline.ΦA spec0 c := by
  rw [show (dats m 0 c).Φ (Fin.last cfg0.N) = Phi m c (Fin.last cfg0.N).val from rfl, Phi, PhiA0_eq]
  iintro ⟨⟨%xs0, %xs1, %xs2, %xs3, %xs4, %xs5, -, HS0, HS1, HS2, HS3, HS4, HS5, HS6, HS7, HS8, HS9⟩, Hg⟩
  isplitr [Hg]
  swap; · iexact Hg
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexact HS6
  isplitl [HS7]; · iexact HS7
  isplitl [HS8]; · iexact HS8
  iexact HS9

set_option backward.isDefEq.respectTransparency.types false in
/-- The launch: every run ends with the arrays at what the data says and every counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- Every run ends, leaves the arguments as they were, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_quiescent m ρ))

end Cert.Mixer

end
-- ==== Proof.Mixer.ArrRows.lean ====
/-
  The rows the mixer leaves.
-/
module

public import proofs.«01_k».proof.Proof.Mixer.Frame

@[expose] public section

set_option maxRecDepth 16384

noncomputable section

namespace Cert.Mixer

open Cert.Kernel3Ideal Cert.Kernel3Ideal.Gen
open Idealize.ShloMosaic Idealize.ShloMosaic.TcCoe

variable (m : (ℓ : Loc nD τ sig) → Buf (Elt Ideal) ℓ)

/-- The rows of the mixed prompt. -/
def mixed (c : Dev nD) : Vec Ideal S2x8192x1024 .f32 :=
  fun i => out2 (D m c) (i 0).val (i 1).val (i 2).val

theorem index_19 : ∀ t : Fin cfg0.N, win0_19.index t 0 = t.val / 16 ∧ win0_19.index t 1 = t.val % 16 ∧ win0_19.index t 2 = 0 := by
  decide +kernel

theorem emb_19_0 (t : Fin cfg0.N) (y : S1x512x1024.Idx) : ((win0_19.rect t).emb y 0).val = t.val / 16 * 1 + (y 0).val := by
  show win0_19.index t 0 * 1 + 1 * (y 0).val = _
  rw [(index_19 t).1]; omega

theorem emb_19_1 (t : Fin cfg0.N) (y : S1x512x1024.Idx) : ((win0_19.rect t).emb y 1).val = t.val % 16 * 512 + (y 1).val := by
  show win0_19.index t 1 * 512 + 1 * (y 1).val = _
  rw [(index_19 t).2.1]; omega

theorem emb_19_2 (t : Fin cfg0.N) (y : S1x512x1024.Idx) : ((win0_19.rect t).emb y 2).val = 0 * 1024 + (y 2).val := by
  show win0_19.index t 2 * 1024 + 1 * (y 2).val = _
  rw [(index_19 t).2.2]; omega

theorem flushed_19 (c : Dev nD) (t : Fin cfg0.N) (hf : (cfg0.win 19).flush t = true) :
    (dats m 0 c).flushed 19 t = ((cfg0.win 19).blk t).view.read (Elt Ideal) (mixed m c) := by
  show (cfg0.win 19).cut (grid0.coords t) ((dats m 0 c).after 19 t) = _
  rw [after_19]
  refine funext fun (y : S1x512x1024.Idx) => ?_
  show blk19 m c t y = mixed m c ((win0_19.rect t).emb y)
  have ht : t.val < 32 := lt_of_lt_of_eq t.isLt N_0
  have h0 : (y 0).val < 1 := (y 0).isLt
  have e0 := emb_19_0 t y
  have h1 : (y 1).val < 512 := (y 1).isLt
  have e1 := emb_19_1 t y
  have h2 : (y 2).val < 1024 := (y 2).isLt
  have e2 := emb_19_2 t y
  show out2 (D m c) (t.val / 16) (512 * (t.val % 16) + (y 1).val) (y 2).val
    = out2 (D m c) ((win0_19.rect t).emb y 0).val ((win0_19.rect t).emb y 1).val ((win0_19.rect t).emb y 2).val
  rw [show ((win0_19.rect t).emb y 0).val = t.val / 16 by omega, show ((win0_19.rect t).emb y 1).val = 512 * (t.val % 16) + (y 1).val by omega,
    show ((win0_19.rect t).emb y 2).val = (y 2).val by omega]

theorem cover_19 (i : S2x8192x1024.Idx) : ∃ t : Fin cfg0.N, (cfg0.win 19).flush t = true ∧ i ∈ ((cfg0.win 19).blk t).view.set := by
  have h0 : (i 0).val < 2 := (i 0).isLt
  have h1 : (i 1).val < 8192 := (i 1).isLt
  have h2 : (i 2).val < 1024 := (i 2).isLt
  let t : Fin cfg0.N := ⟨16 * (i 0).val + (i 1).val / 512, by have : cfg0.N = 32 := N_0; omega⟩
  have ht : t.val = 16 * (i 0).val + (i 1).val / 512 := rfl
  refine ⟨t, flush0_19 _, ?_⟩
  show i ∈ ((View.whole main_v32_0).slice (win0_19.rect t)).set
  rw [View.set_slice_whole, Rect.mem_set_unit]
  intro a
  match a with
  | ⟨0, _⟩ =>
    show win0_19.index t 0 * 1 ≤ (i 0).val ∧ (i 0).val < win0_19.index t 0 * 1 + 1
    rw [(index_19 t).1]; omega
  | ⟨1, _⟩ =>
    show win0_19.index t 1 * 512 ≤ (i 1).val ∧ (i 1).val < win0_19.index t 1 * 512 + 512
    rw [(index_19 t).2.1]; omega
  | ⟨2, _⟩ =>
    show win0_19.index t 2 * 1024 ≤ (i 2).val ∧ (i 2).val < win0_19.index t 2 * 1024 + 1024
    rw [(index_19 t).2.2]; omega

theorem arr_19 (c : Dev nD) : (dats m 0 c).arrAt 19 cfg0.N = mixed m c :=
  (dats m 0 c).arrAt_eq_of_cover 19 (mixed m c) (flushed_19 m c) cover_19

end Cert.Mixer

end
-- ==== Proof.Mixer.ArrEnds.lean ====
/-
  The last keys, values and mixed rows the mixer leaves.
-/
module

public import proofs.«01_k».proof.Proof.Mixer.Frame

@[expose] public section

set_option maxRecDepth 16384

noncomputable section

namespace Cert.Mixer

open Cert.Kernel3Ideal Cert.Kernel3Ideal.Gen
open Idealize.ShloMosaic Idealize.ShloMosaic.TcCoe

variable (m : (ℓ : Loc nD τ sig) → Buf (Elt Ideal) ℓ)

/-- The last 128 keys of each prompt. -/
def lastKeys (c : Dev nD) : Vec Ideal S2x256x128 .f32 :=
  fun i => k (D m c) (i 0).val (8064 + (i 2).val) (i 1).val

theorem index_20 : ∀ t : Fin cfg0.N, win0_20.index t 0 = t.val / 16 ∧ win0_20.index t 1 = 0 ∧ win0_20.index t 2 = 0 := by
  decide +kernel

theorem emb_20_0 (t : Fin cfg0.N) (y : S1x256x128.Idx) : ((win0_20.rect t).emb y 0).val = t.val / 16 * 1 + (y 0).val := by
  show win0_20.index t 0 * 1 + 1 * (y 0).val = _
  rw [(index_20 t).1]; omega

theorem emb_20_1 (t : Fin cfg0.N) (y : S1x256x128.Idx) : ((win0_20.rect t).emb y 1).val = 0 * 256 + (y 1).val := by
  show win0_20.index t 1 * 256 + 1 * (y 1).val = _
  rw [(index_20 t).2.1]; omega

theorem emb_20_2 (t : Fin cfg0.N) (y : S1x256x128.Idx) : ((win0_20.rect t).emb y 2).val = 0 * 128 + (y 2).val := by
  show win0_20.index t 2 * 128 + 1 * (y 2).val = _
  rw [(index_20 t).2.2]; omega

theorem flushed_20 (c : Dev nD) (t : Fin cfg0.N) (hf : (cfg0.win 20).flush t = true) :
    (dats m 0 c).flushed 20 t = ((cfg0.win 20).blk t).view.read (Elt Ideal) (lastKeys m c) := by
  show (cfg0.win 20).cut (grid0.coords t) ((dats m 0 c).after 20 t) = _
  rw [after_20]
  refine funext fun (y : S1x256x128.Idx) => ?_
  show blk20 m c t y = lastKeys m c ((win0_20.rect t).emb y)
  have ht : t.val < 32 := lt_of_lt_of_eq t.isLt N_0
  have h0 : (y 0).val < 1 := (y 0).isLt
  have e0 := emb_20_0 t y
  have h1 : (y 1).val < 256 := (y 1).isLt
  have e1 := emb_20_1 t y
  have h2 : (y 2).val < 128 := (y 2).isLt
  have e2 := emb_20_2 t y
  have hl := (flush0_20 t).1 hf
  show k (D m c) (t.val / 16) (512 * (t.val % 16) + 384 + (y 2).val) (y 1).val
    = k (D m c) ((win0_20.rect t).emb y 0).val (8064 + ((win0_20.rect t).emb y 2).val) ((win0_20.rect t).emb y 1).val
  rw [show ((win0_20.rect t).emb y 0).val = t.val / 16 by omega, show 8064 + ((win0_20.rect t).emb y 2).val = 512 * (t.val % 16) + 384 + (y 2).val by omega,
    show ((win0_20.rect t).emb y 1).val = (y 1).val by omega]

theorem cover_20 (i : S2x256x128.Idx) : ∃ t : Fin cfg0.N, (cfg0.win 20).flush t = true ∧ i ∈ ((cfg0.win 20).blk t).view.set := by
  have h0 : (i 0).val < 2 := (i 0).isLt
  have h1 : (i 1).val < 256 := (i 1).isLt
  have h2 : (i 2).val < 128 := (i 2).isLt
  let t : Fin cfg0.N := ⟨16 * (i 0).val + 15, by have : cfg0.N = 32 := N_0; omega⟩
  have ht : t.val = 16 * (i 0).val + 15 := rfl
  refine ⟨t, (flush0_20 _).2 (by show (16 * (i 0).val + 15) % 16 = 15; omega), ?_⟩
  show i ∈ ((View.whole main_v32_1).slice (win0_20.rect t)).set
  rw [View.set_slice_whole, Rect.mem_set_unit]
  intro a
  match a with
  | ⟨0, _⟩ =>
    show win0_20.index t 0 * 1 ≤ (i 0).val ∧ (i 0).val < win0_20.index t 0 * 1 + 1
    rw [(index_20 t).1]; omega
  | ⟨1, _⟩ =>
    show win0_20.index t 1 * 256 ≤ (i 1).val ∧ (i 1).val < win0_20.index t 1 * 256 + 256
    rw [(index_20 t).2.1]; omega
  | ⟨2, _⟩ =>
    show win0_20.index t 2 * 128 ≤ (i 2).val ∧ (i 2).val < win0_20.index t 2 * 128 + 128
    rw [(index_20 t).2.2]; omega

theorem arr_20 (c : Dev nD) : (dats m 0 c).arrAt 20 cfg0.N = lastKeys m c :=
  (dats m 0 c).arrAt_eq_of_cover 20 (lastKeys m c) (flushed_20 m c) cover_20

/-- The last 128 values of each prompt. -/
def lastVals (c : Dev nD) : Vec Ideal S2x256x128 .f32 :=
  fun i => v (D m c) (i 0).val (8064 + (i 2).val) (i 1).val

theorem index_21 : ∀ t : Fin cfg0.N, win0_21.index t 0 = t.val / 16 ∧ win0_21.index t 1 = 0 ∧ win0_21.index t 2 = 0 := by
  decide +kernel

theorem emb_21_0 (t : Fin cfg0.N) (y : S1x256x128.Idx) : ((win0_21.rect t).emb y 0).val = t.val / 16 * 1 + (y 0).val := by
  show win0_21.index t 0 * 1 + 1 * (y 0).val = _
  rw [(index_21 t).1]; omega

theorem emb_21_1 (t : Fin cfg0.N) (y : S1x256x128.Idx) : ((win0_21.rect t).emb y 1).val = 0 * 256 + (y 1).val := by
  show win0_21.index t 1 * 256 + 1 * (y 1).val = _
  rw [(index_21 t).2.1]; omega

theorem emb_21_2 (t : Fin cfg0.N) (y : S1x256x128.Idx) : ((win0_21.rect t).emb y 2).val = 0 * 128 + (y 2).val := by
  show win0_21.index t 2 * 128 + 1 * (y 2).val = _
  rw [(index_21 t).2.2]; omega

theorem flushed_21 (c : Dev nD) (t : Fin cfg0.N) (hf : (cfg0.win 21).flush t = true) :
    (dats m 0 c).flushed 21 t = ((cfg0.win 21).blk t).view.read (Elt Ideal) (lastVals m c) := by
  show (cfg0.win 21).cut (grid0.coords t) ((dats m 0 c).after 21 t) = _
  rw [after_21]
  refine funext fun (y : S1x256x128.Idx) => ?_
  show blk21 m c t y = lastVals m c ((win0_21.rect t).emb y)
  have ht : t.val < 32 := lt_of_lt_of_eq t.isLt N_0
  have h0 : (y 0).val < 1 := (y 0).isLt
  have e0 := emb_21_0 t y
  have h1 : (y 1).val < 256 := (y 1).isLt
  have e1 := emb_21_1 t y
  have h2 : (y 2).val < 128 := (y 2).isLt
  have e2 := emb_21_2 t y
  have hl := (flush0_21 t).1 hf
  show v (D m c) (t.val / 16) (512 * (t.val % 16) + 384 + (y 2).val) (y 1).val
    = v (D m c) ((win0_21.rect t).emb y 0).val (8064 + ((win0_21.rect t).emb y 2).val) ((win0_21.rect t).emb y 1).val
  rw [show ((win0_21.rect t).emb y 0).val = t.val / 16 by omega, show 8064 + ((win0_21.rect t).emb y 2).val = 512 * (t.val % 16) + 384 + (y 2).val by omega,
    show ((win0_21.rect t).emb y 1).val = (y 1).val by omega]

theorem cover_21 (i : S2x256x128.Idx) : ∃ t : Fin cfg0.N, (cfg0.win 21).flush t = true ∧ i ∈ ((cfg0.win 21).blk t).view.set := by
  have h0 : (i 0).val < 2 := (i 0).isLt
  have h1 : (i 1).val < 256 := (i 1).isLt
  have h2 : (i 2).val < 128 := (i 2).isLt
  let t : Fin cfg0.N := ⟨16 * (i 0).val + 15, by have : cfg0.N = 32 := N_0; omega⟩
  have ht : t.val = 16 * (i 0).val + 15 := rfl
  refine ⟨t, (flush0_21 _).2 (by show (16 * (i 0).val + 15) % 16 = 15; omega), ?_⟩
  show i ∈ ((View.whole main_v32_2).slice (win0_21.rect t)).set
  rw [View.set_slice_whole, Rect.mem_set_unit]
  intro a
  match a with
  | ⟨0, _⟩ =>
    show win0_21.index t 0 * 1 ≤ (i 0).val ∧ (i 0).val < win0_21.index t 0 * 1 + 1
    rw [(index_21 t).1]; omega
  | ⟨1, _⟩ =>
    show win0_21.index t 1 * 256 ≤ (i 1).val ∧ (i 1).val < win0_21.index t 1 * 256 + 256
    rw [(index_21 t).2.1]; omega
  | ⟨2, _⟩ =>
    show win0_21.index t 2 * 128 ≤ (i 2).val ∧ (i 2).val < win0_21.index t 2 * 128 + 128
    rw [(index_21 t).2.2]; omega

theorem arr_21 (c : Dev nD) : (dats m 0 c).arrAt 21 cfg0.N = lastVals m c :=
  (dats m 0 c).arrAt_eq_of_cover 21 (lastVals m c) (flushed_21 m c) cover_21

/-- The last 15 mixed rows of each prompt. -/
def state (c : Dev nD) : Vec Ideal S2x15x512 .f32 :=
  fun i => ext (D m c) (i 0).val (8201 + (i 1).val) (i 2).val

theorem index_22 : ∀ t : Fin cfg0.N, win0_22.index t 0 = t.val / 16 ∧ win0_22.index t 1 = 0 ∧ win0_22.index t 2 = 0 := by
  decide +kernel

theorem emb_22_0 (t : Fin cfg0.N) (y : S1x15x512.Idx) : ((win0_22.rect t).emb y 0).val = t.val / 16 * 1 + (y 0).val := by
  show win0_22.index t 0 * 1 + 1 * (y 0).val = _
  rw [(index_22 t).1]; omega

theorem emb_22_1 (t : Fin cfg0.N) (y : S1x15x512.Idx) : ((win0_22.rect t).emb y 1).val = 0 * 15 + (y 1).val := by
  show win0_22.index t 1 * 15 + 1 * (y 1).val = _
  rw [(index_22 t).2.1]; omega

theorem emb_22_2 (t : Fin cfg0.N) (y : S1x15x512.Idx) : ((win0_22.rect t).emb y 2).val = 0 * 512 + (y 2).val := by
  show win0_22.index t 2 * 512 + 1 * (y 2).val = _
  rw [(index_22 t).2.2]; omega

theorem flushed_22 (c : Dev nD) (t : Fin cfg0.N) (hf : (cfg0.win 22).flush t = true) :
    (dats m 0 c).flushed 22 t = ((cfg0.win 22).blk t).view.read (Elt Ideal) (state m c) := by
  show (cfg0.win 22).cut (grid0.coords t) ((dats m 0 c).after 22 t) = _
  rw [after_22]
  refine funext fun (y : S1x15x512.Idx) => ?_
  show blk22 m c t y = state m c ((win0_22.rect t).emb y)
  have ht : t.val < 32 := lt_of_lt_of_eq t.isLt N_0
  have h0 : (y 0).val < 1 := (y 0).isLt
  have e0 := emb_22_0 t y
  have h1 : (y 1).val < 15 := (y 1).isLt
  have e1 := emb_22_1 t y
  have h2 : (y 2).val < 512 := (y 2).isLt
  have e2 := emb_22_2 t y
  have hl := (flush0_22 t).1 hf
  show ext (D m c) (t.val / 16) (512 * (t.val % 16) + 521 + (y 1).val) (y 2).val
    = ext (D m c) ((win0_22.rect t).emb y 0).val (8201 + ((win0_22.rect t).emb y 1).val) ((win0_22.rect t).emb y 2).val
  rw [show ((win0_22.rect t).emb y 0).val = t.val / 16 by omega, show 8201 + ((win0_22.rect t).emb y 1).val = 512 * (t.val % 16) + 521 + (y 1).val by omega,
    show ((win0_22.rect t).emb y 2).val = (y 2).val by omega]

theorem cover_22 (i : S2x15x512.Idx) : ∃ t : Fin cfg0.N, (cfg0.win 22).flush t = true ∧ i ∈ ((cfg0.win 22).blk t).view.set := by
  have h0 : (i 0).val < 2 := (i 0).isLt
  have h1 : (i 1).val < 15 := (i 1).isLt
  have h2 : (i 2).val < 512 := (i 2).isLt
  let t : Fin cfg0.N := ⟨16 * (i 0).val + 15, by have : cfg0.N = 32 := N_0; omega⟩
  have ht : t.val = 16 * (i 0).val + 15 := rfl
  refine ⟨t, (flush0_22 _).2 (by show (16 * (i 0).val + 15) % 16 = 15; omega), ?_⟩
  show i ∈ ((View.whole main_v32_3).slice (win0_22.rect t)).set
  rw [View.set_slice_whole, Rect.mem_set_unit]
  intro a
  match a with
  | ⟨0, _⟩ =>
    show win0_22.index t 0 * 1 ≤ (i 0).val ∧ (i 0).val < win0_22.index t 0 * 1 + 1
    rw [(index_22 t).1]; omega
  | ⟨1, _⟩ =>
    show win0_22.index t 1 * 15 ≤ (i 1).val ∧ (i 1).val < win0_22.index t 1 * 15 + 15
    rw [(index_22 t).2.1]; omega
  | ⟨2, _⟩ =>
    show win0_22.index t 2 * 512 ≤ (i 2).val ∧ (i 2).val < win0_22.index t 2 * 512 + 512
    rw [(index_22 t).2.2]; omega

theorem arr_22 (c : Dev nD) : (dats m 0 c).arrAt 22 cfg0.N = state m c :=
  (dats m 0 c).arrAt_eq_of_cover 22 (state m c) (flushed_22 m c) cover_22

end Cert.Mixer

end
-- ==== Proof.Mixer.ArrShift.lean ====
/-
  The caches the mixer leaves, shifted by one place.
-/
module

public import proofs.«01_k».proof.Proof.Mixer.Frame

@[expose] public section

set_option maxRecDepth 16384

noncomputable section

namespace Cert.Mixer

open Cert.Kernel3Ideal Cert.Kernel3Ideal.Gen
open Idealize.ShloMosaic Idealize.ShloMosaic.TcCoe

variable (m : (ℓ : Loc nD τ sig) → Buf (Elt Ideal) ℓ)

/-- The caches of keys, one step on. -/
def nextKeys (c : Dev nD) : Vec Ideal S128x256x128 .f32 :=
  fun i => if (i 2).val = 127 then m (c, Proc.tc.devRef main_arg9) (ix2 (i 1 : Fin 256) (i 0 : Fin 128))
    else m (c, Proc.tc.devRef main_arg11) (ix3 (i 0 : Fin 128) (i 1 : Fin 256) (⟨((i 2).val + 1) % 128, Nat.mod_lt _ (by decide)⟩ : Fin 128))

theorem index_23 : ∀ t : Fin cfg0.N, win0_23.index t 0 = t.val ∧ win0_23.index t 1 = 0 ∧ win0_23.index t 2 = 0 := by
  decide +kernel

theorem emb_23_0 (t : Fin cfg0.N) (y : S4x256x128.Idx) : ((win0_23.rect t).emb y 0).val = t.val * 4 + (y 0).val := by
  show win0_23.index t 0 * 4 + 1 * (y 0).val = _
  rw [(index_23 t).1]; omega

theorem emb_23_1 (t : Fin cfg0.N) (y : S4x256x128.Idx) : ((win0_23.rect t).emb y 1).val = 0 * 256 + (y 1).val := by
  show win0_23.index t 1 * 256 + 1 * (y 1).val = _
  rw [(index_23 t).2.1]; omega

theorem emb_23_2 (t : Fin cfg0.N) (y : S4x256x128.Idx) : ((win0_23.rect t).emb y 2).val = 0 * 128 + (y 2).val := by
  show win0_23.index t 2 * 128 + 1 * (y 2).val = _
  rw [(index_23 t).2.2]; omega

theorem index_13 : ∀ t : Fin cfg0.N, win0_13.index t 0 = t.val ∧ win0_13.index t 1 = 0 ∧ win0_13.index t 2 = 0 := by
  decide +kernel

theorem blk_11 (c : Dev nD) (t : Fin cfg0.N) (y : S256x128.Idx) : iblk m c 11 t y = m (c, Proc.tc.devRef main_arg9) y := by
  rw [← show V m c main_arg9 = m (c, Proc.tc.devRef main_arg9) from V_main_arg9 m c]
  show V m c main_arg9 ((win0_11.rect t).emb y) = _
  congr 1
  funext a
  apply Fin.ext
  match a with
  | ⟨0, _⟩ =>
    show win0_11.index t 0 * 256 + 1 * (y 0).val = (y 0).val
    rw [(index_const t).2.2.2.2.2.2.2.2.1]; omega
  | ⟨1, _⟩ =>
    show win0_11.index t 1 * 128 + 1 * (y 1).val = (y 1).val
    rw [(index_const t).2.2.2.2.2.2.2.2.1]; omega

theorem blk_13 (c : Dev nD) (t : Fin cfg0.N) (y : S4x256x128.Idx) :
    iblk m c 13 t y = m (c, Proc.tc.devRef main_arg11) (ix3 (⟨(4 * t.val + (y 0).val) % 128, Nat.mod_lt _ (by decide)⟩ : Fin 128) (y 1 : Fin 256) (y 2 : Fin 128)) := by
  rw [← show V m c main_arg11 = m (c, Proc.tc.devRef main_arg11) from V_main_arg11 m c]
  show V m c main_arg11 ((win0_13.rect t).emb y) = _
  have ht : t.val < 32 := lt_of_lt_of_eq t.isLt N_0
  have hy : (y 0).val < 4 := (y 0).isLt
  congr 1
  funext a
  apply Fin.ext
  match a with
  | ⟨0, _⟩ =>
    show win0_13.index t 0 * 4 + 1 * (y 0).val = (4 * t.val + (y 0).val) % 128
    rw [(index_13 t).1]; omega
  | ⟨1, _⟩ =>
    show win0_13.index t 1 * 256 + 1 * (y 1).val = (y 1).val
    rw [(index_13 t).2.1]; omega
  | ⟨2, _⟩ =>
    show win0_13.index t 2 * 128 + 1 * (y 2).val = (y 2).val
    rw [(index_13 t).2.2]; omega

theorem flushed_23 (c : Dev nD) (t : Fin cfg0.N) (hf : (cfg0.win 23).flush t = true) :
    (dats m 0 c).flushed 23 t = ((cfg0.win 23).blk t).view.read (Elt Ideal) (nextKeys m c) := by
  show (cfg0.win 23).cut (grid0.coords t) ((dats m 0 c).after 23 t) = _
  rw [after_23]
  refine funext fun (y : S4x256x128.Idx) => ?_
  show blk23 m c t y = nextKeys m c ((win0_23.rect t).emb y)
  have ht : t.val < 32 := lt_of_lt_of_eq t.isLt N_0
  have h0 : (y 0).val < 4 := (y 0).isLt
  have e0 := emb_23_0 t y
  have h1 : (y 1).val < 256 := (y 1).isLt
  have e1 := emb_23_1 t y
  have h2 : (y 2).val < 128 := (y 2).isLt
  have e2 := emb_23_2 t y
  show shifted (iblk m c 11 t) (iblk m c 13 t) t.val y = _
  unfold shifted nextKeys
  by_cases h : (y 2).val = 127
  · rw [if_pos h, if_pos (by omega)]
    refine (blk_11 m c t _).trans (congrArg _ (funext fun a => Fin.ext ?_))
    match a with
    | ⟨0, _⟩ =>
      show (y 1).val = ((win0_23.rect t).emb y 1).val
      omega
    | ⟨1, _⟩ =>
      show (4 * t.val + (y 0).val) % 128 = ((win0_23.rect t).emb y 0).val
      omega
  · rw [if_neg h, if_neg (by omega)]
    refine (blk_13 m c t _).trans (congrArg _ (funext fun a => Fin.ext ?_))
    match a with
    | ⟨0, _⟩ =>
      show (4 * t.val + (y 0).val) % 128 = ((win0_23.rect t).emb y 0).val
      omega
    | ⟨1, _⟩ =>
      show (y 1).val = ((win0_23.rect t).emb y 1).val
      omega
    | ⟨2, _⟩ =>
      show ((y 2).val + 1) % 128 = (((win0_23.rect t).emb y 2).val + 1) % 128
      omega

theorem cover_23 (i : S128x256x128.Idx) : ∃ t : Fin cfg0.N, (cfg0.win 23).flush t = true ∧ i ∈ ((cfg0.win 23).blk t).view.set := by
  have h0 : (i 0).val < 128 := (i 0).isLt
  have h1 : (i 1).val < 256 := (i 1).isLt
  have h2 : (i 2).val < 128 := (i 2).isLt
  let t : Fin cfg0.N := ⟨(i 0).val / 4, by have : cfg0.N = 32 := N_0; omega⟩
  have ht : t.val = (i 0).val / 4 := rfl
  refine ⟨t, flush0_23 _, ?_⟩
  show i ∈ ((View.whole main_v32_4).slice (win0_23.rect t)).set
  rw [View.set_slice_whole, Rect.mem_set_unit]
  intro a
  match a with
  | ⟨0, _⟩ =>
    show win0_23.index t 0 * 4 ≤ (i 0).val ∧ (i 0).val < win0_23.index t 0 * 4 + 4
    rw [(index_23 t).1]; omega
  | ⟨1, _⟩ =>
    show win0_23.index t 1 * 256 ≤ (i 1).val ∧ (i 1).val < win0_23.index t 1 * 256 + 256
    rw [(index_23 t).2.1]; omega
  | ⟨2, _⟩ =>
    show win0_23.index t 2 * 128 ≤ (i 2).val ∧ (i 2).val < win0_23.index t 2 * 128 + 128
    rw [(index_23 t).2.2]; omega

theorem arr_23 (c : Dev nD) : (dats m 0 c).arrAt 23 cfg0.N = nextKeys m c :=
  (dats m 0 c).arrAt_eq_of_cover 23 (nextKeys m c) (flushed_23 m c) cover_23

/-- The caches of values, one step on. -/
def nextVals (c : Dev nD) : Vec Ideal S128x256x128 .f32 :=
  fun i => if (i 2).val = 127 then m (c, Proc.tc.devRef main_arg10) (ix2 (i 1 : Fin 256) (i 0 : Fin 128))
    else m (c, Proc.tc.devRef main_arg12) (ix3 (i 0 : Fin 128) (i 1 : Fin 256) (⟨((i 2).val + 1) % 128, Nat.mod_lt _ (by decide)⟩ : Fin 128))

theorem index_24 : ∀ t : Fin cfg0.N, win0_24.index t 0 = t.val ∧ win0_24.index t 1 = 0 ∧ win0_24.index t 2 = 0 := by
  decide +kernel

theorem emb_24_0 (t : Fin cfg0.N) (y : S4x256x128.Idx) : ((win0_24.rect t).emb y 0).val = t.val * 4 + (y 0).val := by
  show win0_24.index t 0 * 4 + 1 * (y 0).val = _
  rw [(index_24 t).1]; omega

theorem emb_24_1 (t : Fin cfg0.N) (y : S4x256x128.Idx) : ((win0_24.rect t).emb y 1).val = 0 * 256 + (y 1).val := by
  show win0_24.index t 1 * 256 + 1 * (y 1).val = _
  rw [(index_24 t).2.1]; omega

theorem emb_24_2 (t : Fin cfg0.N) (y : S4x256x128.Idx) : ((win0_24.rect t).emb y 2).val = 0 * 128 + (y 2).val := by
  show win0_24.index t 2 * 128 + 1 * (y 2).val = _
  rw [(index_24 t).2.2]; omega

theorem index_14 : ∀ t : Fin cfg0.N, win0_14.index t 0 = t.val ∧ win0_14.index t 1 = 0 ∧ win0_14.index t 2 = 0 := by
  decide +kernel

theorem blk_12 (c : Dev nD) (t : Fin cfg0.N) (y : S256x128.Idx) : iblk m c 12 t y = m (c, Proc.tc.devRef main_arg10) y := by
  rw [← show V m c main_arg10 = m (c, Proc.tc.devRef main_arg10) from V_main_arg10 m c]
  show V m c main_arg10 ((win0_12.rect t).emb y) = _
  congr 1
  funext a
  apply Fin.ext
  match a with
  | ⟨0, _⟩ =>
    show win0_12.index t 0 * 256 + 1 * (y 0).val = (y 0).val
    rw [(index_const t).2.2.2.2.2.2.2.2.2]; omega
  | ⟨1, _⟩ =>
    show win0_12.index t 1 * 128 + 1 * (y 1).val = (y 1).val
    rw [(index_const t).2.2.2.2.2.2.2.2.2]; omega

theorem blk_14 (c : Dev nD) (t : Fin cfg0.N) (y : S4x256x128.Idx) :
    iblk m c 14 t y = m (c, Proc.tc.devRef main_arg12) (ix3 (⟨(4 * t.val + (y 0).val) % 128, Nat.mod_lt _ (by decide)⟩ : Fin 128) (y 1 : Fin 256) (y 2 : Fin 128)) := by
  rw [← show V m c main_arg12 = m (c, Proc.tc.devRef main_arg12) from V_main_arg12 m c]
  show V m c main_arg12 ((win0_14.rect t).emb y) = _
  have ht : t.val < 32 := lt_of_lt_of_eq t.isLt N_0
  have hy : (y 0).val < 4 := (y 0).isLt
  congr 1
  funext a
  apply Fin.ext
  match a with
  | ⟨0, _⟩ =>
    show win0_14.index t 0 * 4 + 1 * (y 0).val = (4 * t.val + (y 0).val) % 128
    rw [(index_14 t).1]; omega
  | ⟨1, _⟩ =>
    show win0_14.index t 1 * 256 + 1 * (y 1).val = (y 1).val
    rw [(index_14 t).2.1]; omega
  | ⟨2, _⟩ =>
    show win0_14.index t 2 * 128 + 1 * (y 2).val = (y 2).val
    rw [(index_14 t).2.2]; omega

theorem flushed_24 (c : Dev nD) (t : Fin cfg0.N) (hf : (cfg0.win 24).flush t = true) :
    (dats m 0 c).flushed 24 t = ((cfg0.win 24).blk t).view.read (Elt Ideal) (nextVals m c) := by
  show (cfg0.win 24).cut (grid0.coords t) ((dats m 0 c).after 24 t) = _
  rw [after_24]
  refine funext fun (y : S4x256x128.Idx) => ?_
  show blk24 m c t y = nextVals m c ((win0_24.rect t).emb y)
  have ht : t.val < 32 := lt_of_lt_of_eq t.isLt N_0
  have h0 : (y 0).val < 4 := (y 0).isLt
  have e0 := emb_24_0 t y
  have h1 : (y 1).val < 256 := (y 1).isLt
  have e1 := emb_24_1 t y
  have h2 : (y 2).val < 128 := (y 2).isLt
  have e2 := emb_24_2 t y
  show shifted (iblk m c 12 t) (iblk m c 14 t) t.val y = _
  unfold shifted nextVals
  by_cases h : (y 2).val = 127
  · rw [if_pos h, if_pos (by omega)]
    refine (blk_12 m c t _).trans (congrArg _ (funext fun a => Fin.ext ?_))
    match a with
    | ⟨0, _⟩ =>
      show (y 1).val = ((win0_24.rect t).emb y 1).val
      omega
    | ⟨1, _⟩ =>
      show (4 * t.val + (y 0).val) % 128 = ((win0_24.rect t).emb y 0).val
      omega
  · rw [if_neg h, if_neg (by omega)]
    refine (blk_14 m c t _).trans (congrArg _ (funext fun a => Fin.ext ?_))
    match a with
    | ⟨0, _⟩ =>
      show (4 * t.val + (y 0).val) % 128 = ((win0_24.rect t).emb y 0).val
      omega
    | ⟨1, _⟩ =>
      show (y 1).val = ((win0_24.rect t).emb y 1).val
      omega
    | ⟨2, _⟩ =>
      show ((y 2).val + 1) % 128 = (((win0_24.rect t).emb y 2).val + 1) % 128
      omega

theorem cover_24 (i : S128x256x128.Idx) : ∃ t : Fin cfg0.N, (cfg0.win 24).flush t = true ∧ i ∈ ((cfg0.win 24).blk t).view.set := by
  have h0 : (i 0).val < 128 := (i 0).isLt
  have h1 : (i 1).val < 256 := (i 1).isLt
  have h2 : (i 2).val < 128 := (i 2).isLt
  let t : Fin cfg0.N := ⟨(i 0).val / 4, by have : cfg0.N = 32 := N_0; omega⟩
  have ht : t.val = (i 0).val / 4 := rfl
  refine ⟨t, flush0_24 _, ?_⟩
  show i ∈ ((View.whole main_v32_5).slice (win0_24.rect t)).set
  rw [View.set_slice_whole, Rect.mem_set_unit]
  intro a
  match a with
  | ⟨0, _⟩ =>
    show win0_24.index t 0 * 4 ≤ (i 0).val ∧ (i 0).val < win0_24.index t 0 * 4 + 4
    rw [(index_24 t).1]; omega
  | ⟨1, _⟩ =>
    show win0_24.index t 1 * 256 ≤ (i 1).val ∧ (i 1).val < win0_24.index t 1 * 256 + 256
    rw [(index_24 t).2.1]; omega
  | ⟨2, _⟩ =>
    show win0_24.index t 2 * 128 ≤ (i 2).val ∧ (i 2).val < win0_24.index t 2 * 128 + 128
    rw [(index_24 t).2.2]; omega

theorem arr_24 (c : Dev nD) : (dats m 0 c).arrAt 24 cfg0.N = nextVals m c :=
  (dats m 0 c).arrAt_eq_of_cover 24 (nextVals m c) (flushed_24 m c) cover_24

end Cert.Mixer

end
-- ==== Proof.Mixer.ArrCopies.lean ====
/-
  The weights the mixer hands on in a narrower type.
-/
module

public import proofs.«01_k».proof.Proof.Mixer.Frame

@[expose] public section

set_option maxRecDepth 16384

noncomputable section

namespace Cert.Mixer

open Cert.Kernel3Ideal Cert.Kernel3Ideal.Gen
open Idealize.ShloMosaic Idealize.ShloMosaic.TcCoe

variable (m : (ℓ : Loc nD τ sig) → Buf (Elt Ideal) ℓ)

/-- The weights of argument 13. -/
def copied13 (c : Dev nD) : Vec Ideal S1024x5632 .bf16 :=
  fun i => m (c, Proc.tc.devRef main_arg13) i

theorem index_25 : ∀ t : Fin cfg0.N, win0_25.index t 0 = t.val ∧ win0_25.index t 1 = 0 := by
  decide +kernel

theorem emb_25_0 (t : Fin cfg0.N) (y : S32x5632.Idx) : ((win0_25.rect t).emb y 0).val = t.val * 32 + (y 0).val := by
  show win0_25.index t 0 * 32 + 1 * (y 0).val = _
  rw [(index_25 t).1]; omega

theorem emb_25_1 (t : Fin cfg0.N) (y : S32x5632.Idx) : ((win0_25.rect t).emb y 1).val = 0 * 5632 + (y 1).val := by
  show win0_25.index t 1 * 5632 + 1 * (y 1).val = _
  rw [(index_25 t).2]; omega

theorem index_15 : ∀ t : Fin cfg0.N, win0_15.index t 0 = t.val ∧ win0_15.index t 1 = 0 := by
  decide +kernel

theorem flushed_25 (c : Dev nD) (t : Fin cfg0.N) (hf : (cfg0.win 25).flush t = true) :
    (dats m 0 c).flushed 25 t = ((cfg0.win 25).blk t).view.read (Elt Ideal) (copied13 m c) := by
  show (cfg0.win 25).cut (grid0.coords t) ((dats m 0 c).after 25 t) = _
  rw [after_25]
  refine funext fun (y : S32x5632.Idx) => ?_
  show blk25 m c t y = copied13 m c ((win0_25.rect t).emb y)
  have ht : t.val < 32 := lt_of_lt_of_eq t.isLt N_0
  have h0 : (y 0).val < 32 := (y 0).isLt
  have e0 := emb_25_0 t y
  have h1 : (y 1).val < 5632 := (y 1).isLt
  have e1 := emb_25_1 t y
  show V m c main_arg13 ((win0_15.rect t).emb y) = m (c, Proc.tc.devRef main_arg13) ((win0_25.rect t).emb y)
  refine (congrFun (V_main_arg13 m c) _).trans (congrArg _ (funext fun a => Fin.ext ?_))
  match a with
  | ⟨0, _⟩ =>
    show win0_15.index t 0 * 32 + 1 * (y 0).val = ((win0_25.rect t).emb y 0).val
    rw [(index_15 t).1]; omega
  | ⟨1, _⟩ =>
    show win0_15.index t 1 * 5632 + 1 * (y 1).val = ((win0_25.rect t).emb y 1).val
    rw [(index_15 t).2]; omega

theorem cover_25 (i : S1024x5632.Idx) : ∃ t : Fin cfg0.N, (cfg0.win 25).flush t = true ∧ i ∈ ((cfg0.win 25).blk t).view.set := by
  have h0 : (i 0).val < 1024 := (i 0).isLt
  have h1 : (i 1).val < 5632 := (i 1).isLt
  let t : Fin cfg0.N := ⟨(i 0).val / 32, by have : cfg0.N = 32 := N_0; omega⟩
  have ht : t.val = (i 0).val / 32 := rfl
  refine ⟨t, flush0_25 _, ?_⟩
  show i ∈ ((View.whole main_v32_6).slice (win0_25.rect t)).set
  rw [View.set_slice_whole, Rect.mem_set_unit]
  intro a
  match a with
  | ⟨0, _⟩ =>
    show win0_25.index t 0 * 32 ≤ (i 0).val ∧ (i 0).val < win0_25.index t 0 * 32 + 32
    rw [(index_25 t).1]; omega
  | ⟨1, _⟩ =>
    show win0_25.index t 1 * 5632 ≤ (i 1).val ∧ (i 1).val < win0_25.index t 1 * 5632 + 5632
    rw [(index_25 t).2]; omega

theorem arr_25 (c : Dev nD) : (dats m 0 c).arrAt 25 cfg0.N = copied13 m c :=
  (dats m 0 c).arrAt_eq_of_cover 25 (copied13 m c) (flushed_25 m c) cover_25

/-- The weights of argument 14. -/
def copied14 (c : Dev nD) : Vec Ideal S2816x1024 .bf16 :=
  fun i => m (c, Proc.tc.devRef main_arg14) i

theorem index_26 : ∀ t : Fin cfg0.N, win0_26.index t 0 = min t.val 21 ∧ win0_26.index t 1 = 0 := by
  decide +kernel

theorem emb_26_0 (t : Fin cfg0.N) (y : S128x1024.Idx) : ((win0_26.rect t).emb y 0).val = min t.val 21 * 128 + (y 0).val := by
  show win0_26.index t 0 * 128 + 1 * (y 0).val = _
  rw [(index_26 t).1]; omega

theorem emb_26_1 (t : Fin cfg0.N) (y : S128x1024.Idx) : ((win0_26.rect t).emb y 1).val = 0 * 1024 + (y 1).val := by
  show win0_26.index t 1 * 1024 + 1 * (y 1).val = _
  rw [(index_26 t).2]; omega

theorem index_16 : ∀ t : Fin cfg0.N, win0_16.index t 0 = min t.val 21 ∧ win0_16.index t 1 = 0 := by
  decide +kernel

theorem flushed_26 (c : Dev nD) (t : Fin cfg0.N) (hf : (cfg0.win 26).flush t = true) :
    (dats m 0 c).flushed 26 t = ((cfg0.win 26).blk t).view.read (Elt Ideal) (copied14 m c) := by
  show (cfg0.win 26).cut (grid0.coords t) ((dats m 0 c).after 26 t) = _
  rw [after_26]
  refine funext fun (y : S128x1024.Idx) => ?_
  show blk26 m c t y = copied14 m c ((win0_26.rect t).emb y)
  have ht : t.val < 32 := lt_of_lt_of_eq t.isLt N_0
  have h0 : (y 0).val < 128 := (y 0).isLt
  have e0 := emb_26_0 t y
  have h1 : (y 1).val < 1024 := (y 1).isLt
  have e1 := emb_26_1 t y
  show V m c main_arg14 ((win0_16.rect t).emb y) = m (c, Proc.tc.devRef main_arg14) ((win0_26.rect t).emb y)
  refine (congrFun (V_main_arg14 m c) _).trans (congrArg _ (funext fun a => Fin.ext ?_))
  match a with
  | ⟨0, _⟩ =>
    show win0_16.index t 0 * 128 + 1 * (y 0).val = ((win0_26.rect t).emb y 0).val
    rw [(index_16 t).1]; omega
  | ⟨1, _⟩ =>
    show win0_16.index t 1 * 1024 + 1 * (y 1).val = ((win0_26.rect t).emb y 1).val
    rw [(index_16 t).2]; omega

theorem visit_26 : ∀ n : Fin 22, ∃ t : Fin cfg0.N, (cfg0.win 26).flush t = true ∧ win0_26.index t 0 = n.val ∧ win0_26.index t 1 = 0 := by
  decide +kernel

theorem cover_26 (i : S2816x1024.Idx) : ∃ t : Fin cfg0.N, (cfg0.win 26).flush t = true ∧ i ∈ ((cfg0.win 26).blk t).view.set := by
  have h0 : (i 0).val < 2816 := (i 0).isLt
  have h1 : (i 1).val < 1024 := (i 1).isLt
  obtain ⟨t, hf, hi, hj⟩ := visit_26 ⟨(i 0).val / 128, by omega⟩
  have hi : win0_26.index t 0 = (i 0).val / 128 := hi
  refine ⟨t, hf, ?_⟩
  show i ∈ ((View.whole main_v32_7).slice (win0_26.rect t)).set
  rw [View.set_slice_whole, Rect.mem_set_unit]
  intro a
  match a with
  | ⟨0, _⟩ =>
    show win0_26.index t 0 * 128 ≤ (i 0).val ∧ (i 0).val < win0_26.index t 0 * 128 + 128
    rw [hi]; omega
  | ⟨1, _⟩ =>
    show win0_26.index t 1 * 1024 ≤ (i 1).val ∧ (i 1).val < win0_26.index t 1 * 1024 + 1024
    rw [hj]; omega

theorem arr_26 (c : Dev nD) : (dats m 0 c).arrAt 26 cfg0.N = copied14 m c :=
  (dats m 0 c).arrAt_eq_of_cover 26 (copied14 m c) (flushed_26 m c) cover_26

/-- The weights of argument 15. -/
def copied15 (c : Dev nD) : Vec Ideal S256x1024 .bf16 :=
  fun i => m (c, Proc.tc.devRef main_arg15) i

theorem index_27 : ∀ t : Fin cfg0.N, win0_27.index t 0 = min t.val 15 ∧ win0_27.index t 1 = 0 := by
  decide +kernel

theorem emb_27_0 (t : Fin cfg0.N) (y : S16x1024.Idx) : ((win0_27.rect t).emb y 0).val = min t.val 15 * 16 + (y 0).val := by
  show win0_27.index t 0 * 16 + 1 * (y 0).val = _
  rw [(index_27 t).1]; omega

theorem emb_27_1 (t : Fin cfg0.N) (y : S16x1024.Idx) : ((win0_27.rect t).emb y 1).val = 0 * 1024 + (y 1).val := by
  show win0_27.index t 1 * 1024 + 1 * (y 1).val = _
  rw [(index_27 t).2]; omega

theorem index_17 : ∀ t : Fin cfg0.N, win0_17.index t 0 = min t.val 15 ∧ win0_17.index t 1 = 0 := by
  decide +kernel

theorem flushed_27 (c : Dev nD) (t : Fin cfg0.N) (hf : (cfg0.win 27).flush t = true) :
    (dats m 0 c).flushed 27 t = ((cfg0.win 27).blk t).view.read (Elt Ideal) (copied15 m c) := by
  show (cfg0.win 27).cut (grid0.coords t) ((dats m 0 c).after 27 t) = _
  rw [after_27]
  refine funext fun (y : S16x1024.Idx) => ?_
  show blk27 m c t y = copied15 m c ((win0_27.rect t).emb y)
  have ht : t.val < 32 := lt_of_lt_of_eq t.isLt N_0
  have h0 : (y 0).val < 16 := (y 0).isLt
  have e0 := emb_27_0 t y
  have h1 : (y 1).val < 1024 := (y 1).isLt
  have e1 := emb_27_1 t y
  show V m c main_arg15 ((win0_17.rect t).emb y) = m (c, Proc.tc.devRef main_arg15) ((win0_27.rect t).emb y)
  refine (congrFun (V_main_arg15 m c) _).trans (congrArg _ (funext fun a => Fin.ext ?_))
  match a with
  | ⟨0, _⟩ =>
    show win0_17.index t 0 * 16 + 1 * (y 0).val = ((win0_27.rect t).emb y 0).val
    rw [(index_17 t).1]; omega
  | ⟨1, _⟩ =>
    show win0_17.index t 1 * 1024 + 1 * (y 1).val = ((win0_27.rect t).emb y 1).val
    rw [(index_17 t).2]; omega

theorem visit_27 : ∀ n : Fin 16, ∃ t : Fin cfg0.N, (cfg0.win 27).flush t = true ∧ win0_27.index t 0 = n.val ∧ win0_27.index t 1 = 0 := by
  decide +kernel

theorem cover_27 (i : S256x1024.Idx) : ∃ t : Fin cfg0.N, (cfg0.win 27).flush t = true ∧ i ∈ ((cfg0.win 27).blk t).view.set := by
  have h0 : (i 0).val < 256 := (i 0).isLt
  have h1 : (i 1).val < 1024 := (i 1).isLt
  obtain ⟨t, hf, hi, hj⟩ := visit_27 ⟨(i 0).val / 16, by omega⟩
  have hi : win0_27.index t 0 = (i 0).val / 16 := hi
  refine ⟨t, hf, ?_⟩
  show i ∈ ((View.whole main_v32_8).slice (win0_27.rect t)).set
  rw [View.set_slice_whole, Rect.mem_set_unit]
  intro a
  match a with
  | ⟨0, _⟩ =>
    show win0_27.index t 0 * 16 ≤ (i 0).val ∧ (i 0).val < win0_27.index t 0 * 16 + 16
    rw [hi]; omega
  | ⟨1, _⟩ =>
    show win0_27.index t 1 * 1024 ≤ (i 1).val ∧ (i 1).val < win0_27.index t 1 * 1024 + 1024
    rw [hj]; omega

theorem arr_27 (c : Dev nD) : (dats m 0 c).arrAt 27 cfg0.N = copied15 m c :=
  (dats m 0 c).arrAt_eq_of_cover 27 (copied15 m c) (flushed_27 m c) cover_27

/-- The weights of argument 16. -/
def copied16 (c : Dev nD) : Vec Ideal S1024x1024 .bf16 :=
  fun i => m (c, Proc.tc.devRef main_arg16) i

theorem index_28 : ∀ t : Fin cfg0.N, win0_28.index t 0 = t.val ∧ win0_28.index t 1 = 0 := by
  decide +kernel

theorem emb_28_0 (t : Fin cfg0.N) (y : S32x1024.Idx) : ((win0_28.rect t).emb y 0).val = t.val * 32 + (y 0).val := by
  show win0_28.index t 0 * 32 + 1 * (y 0).val = _
  rw [(index_28 t).1]; omega

theorem emb_28_1 (t : Fin cfg0.N) (y : S32x1024.Idx) : ((win0_28.rect t).emb y 1).val = 0 * 1024 + (y 1).val := by
  show win0_28.index t 1 * 1024 + 1 * (y 1).val = _
  rw [(index_28 t).2]; omega

theorem index_18 : ∀ t : Fin cfg0.N, win0_18.index t 0 = t.val ∧ win0_18.index t 1 = 0 := by
  decide +kernel

theorem flushed_28 (c : Dev nD) (t : Fin cfg0.N) (hf : (cfg0.win 28).flush t = true) :
    (dats m 0 c).flushed 28 t = ((cfg0.win 28).blk t).view.read (Elt Ideal) (copied16 m c) := by
  show (cfg0.win 28).cut (grid0.coords t) ((dats m 0 c).after 28 t) = _
  rw [after_28]
  refine funext fun (y : S32x1024.Idx) => ?_
  show blk28 m c t y = copied16 m c ((win0_28.rect t).emb y)
  have ht : t.val < 32 := lt_of_lt_of_eq t.isLt N_0
  have h0 : (y 0).val < 32 := (y 0).isLt
  have e0 := emb_28_0 t y
  have h1 : (y 1).val < 1024 := (y 1).isLt
  have e1 := emb_28_1 t y
  show V m c main_arg16 ((win0_18.rect t).emb y) = m (c, Proc.tc.devRef main_arg16) ((win0_28.rect t).emb y)
  refine (congrFun (V_main_arg16 m c) _).trans (congrArg _ (funext fun a => Fin.ext ?_))
  match a with
  | ⟨0, _⟩ =>
    show win0_18.index t 0 * 32 + 1 * (y 0).val = ((win0_28.rect t).emb y 0).val
    rw [(index_18 t).1]; omega
  | ⟨1, _⟩ =>
    show win0_18.index t 1 * 1024 + 1 * (y 1).val = ((win0_28.rect t).emb y 1).val
    rw [(index_18 t).2]; omega

theorem cover_28 (i : S1024x1024.Idx) : ∃ t : Fin cfg0.N, (cfg0.win 28).flush t = true ∧ i ∈ ((cfg0.win 28).blk t).view.set := by
  have h0 : (i 0).val < 1024 := (i 0).isLt
  have h1 : (i 1).val < 1024 := (i 1).isLt
  let t : Fin cfg0.N := ⟨(i 0).val / 32, by have : cfg0.N = 32 := N_0; omega⟩
  have ht : t.val = (i 0).val / 32 := rfl
  refine ⟨t, flush0_28 _, ?_⟩
  show i ∈ ((View.whole main_v32_9).slice (win0_28.rect t)).set
  rw [View.set_slice_whole, Rect.mem_set_unit]
  intro a
  match a with
  | ⟨0, _⟩ =>
    show win0_28.index t 0 * 32 ≤ (i 0).val ∧ (i 0).val < win0_28.index t 0 * 32 + 32
    rw [(index_28 t).1]; omega
  | ⟨1, _⟩ =>
    show win0_28.index t 1 * 1024 ≤ (i 1).val ∧ (i 1).val < win0_28.index t 1 * 1024 + 1024
    rw [(index_28 t).2]; omega

theorem arr_28 (c : Dev nD) : (dats m 0 c).arrAt 28 cfg0.N = copied16 m c :=
  (dats m 0 c).arrAt_eq_of_cover 28 (copied16 m c) (flushed_28 m c) cover_28

end Cert.Mixer

end
-- ==== Proof.Mixer.Results.lean ====
/-
  What every run of the mixer's call leaves in its ten results.
-/
module

public import proofs.«01_k».proof.Proof.Mixer.ArrRows
public import proofs.«01_k».proof.Proof.Mixer.ArrEnds
public import proofs.«01_k».proof.Proof.Mixer.ArrShift
public import proofs.«01_k».proof.Proof.Mixer.ArrCopies
public import Idealize.ShloMosaic.Lib.Claim

@[expose] public section

set_option maxRecDepth 16384
set_option maxHeartbeats 4000000

noncomputable section

namespace Cert.Mixer

open Idealize.ShloMosaic Idealize.ShloMosaic.TcCoe Idealize.SL.Sem

/-- What every run of the kernel leaves. -/
theorem run_results (m : (ℓ : Loc Cert.Kernel3Ideal.nD Cert.Kernel3Ideal.τ Cert.Kernel3Ideal.sig) → Buf (Elt Ideal) ℓ)
    (g : Dev Cert.Kernel3Ideal.nD → PrngReg) :
    θ_run Cert.Kernel3Ideal.defs (onTc (τ := Cert.Kernel3Ideal.τ) (Cert.Kernel3Ideal.main (F := Ideal)))
      ⟨m, fun _ => 0, g⟩ (fun r => ∀ c : Dev Cert.Kernel3Ideal.nD,
        r.2.mem (c.tc.loc Cert.Kernel3Ideal.main_v32_0) = mixed m c
        ∧ r.2.mem (c.tc.loc Cert.Kernel3Ideal.main_v32_1) = lastKeys m c
        ∧ r.2.mem (c.tc.loc Cert.Kernel3Ideal.main_v32_2) = lastVals m c
        ∧ r.2.mem (c.tc.loc Cert.Kernel3Ideal.main_v32_3) = state m c
        ∧ r.2.mem (c.tc.loc Cert.Kernel3Ideal.main_v32_4) = nextKeys m c
        ∧ r.2.mem (c.tc.loc Cert.Kernel3Ideal.main_v32_5) = nextVals m c
        ∧ r.2.mem (c.tc.loc Cert.Kernel3Ideal.main_v32_6) = copied13 m c
        ∧ r.2.mem (c.tc.loc Cert.Kernel3Ideal.main_v32_7) = copied14 m c
        ∧ r.2.mem (c.tc.loc Cert.Kernel3Ideal.main_v32_8) = copied15 m c
        ∧ r.2.mem (c.tc.loc Cert.Kernel3Ideal.main_v32_9) = copied16 m c) :=
  (θ_run Cert.Kernel3Ideal.defs _ _).mono
    (fun _ h c => by
      have a := (h c).1
      have e19 := (a 19).trans (arr_19 m c)
      have e20 := (a 20).trans (arr_20 m c)
      have e21 := (a 21).trans (arr_21 m c)
      have e22 := (a 22).trans (arr_22 m c)
      have e23 := (a 23).trans (arr_23 m c)
      have e24 := (a 24).trans (arr_24 m c)
      have e25 := (a 25).trans (arr_25 m c)
      have e26 := (a 26).trans (arr_26 m c)
      have e27 := (a 27).trans (arr_27 m c)
      have e28 := (a 28).trans (arr_28 m c)
      exact ⟨e19, e20, e21, e22, e23, e24, e25, e26, e27, e28⟩)
    (run_main m g)

end Cert.Mixer

end
-- ==== Proof.Mixer.RefBase.lean ====
/-
  The mixer's reference, read at an index: the projections of the normed rows, the angles, and the keys.
-/
module

public import proofs.«01_k».proof.Proof.Gen.Reference3Ideal.Run
public import proofs.«01_k».proof.Proof.Mixer.Layer
public import proofs.«01_k».proof.Proof.Mixer.Entries
public import Idealize.ShloMosaic.Lib.Pointwise

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- The entries of the reference's arguments. -/
def R : Data :=
  entries (X (Proc.devRef .tc main_arg0)) (X (Proc.devRef .tc main_arg1)) (X (Proc.devRef .tc main_arg2)) (X (Proc.devRef .tc main_arg3))
    (X (Proc.devRef .tc main_arg4)) (X (Proc.devRef .tc main_arg5)) (X (Proc.devRef .tc main_arg6)) (X (Proc.devRef .tc main_arg7))
    (X (Proc.devRef .tc main_arg8))

theorem ref_z (b : Fin 2) (p : Fin 8192) (n : Fin 4096) : res_main_v16 X (ix3 b p n) = z (R X) b.val p.val n.val := by
  unfold res_main_v16 R entries z
  generalize X (Proc.devRef .tc main_arg0) = x
  generalize X (Proc.devRef .tc main_arg1) = g
  generalize X (Proc.devRef .tc main_arg2) = w
  pointwise []
  show @Eq EReal _ _
  refine Finset.sum_congr rfl fun j _ => ?_
  simp only [idx_val]
  rfl

theorem ref_u (b : Fin 2) (p : Fin 8192) (n : Fin 512) : res_main_v17 X (ix3 b p n) = u (R X) b.val p.val n.val := by
  have h := ref_z X b p ⟨n.val, by omega⟩
  unfold res_main_v17
  generalize res_main_v16 X = Z at h ⊢
  pointwise []
  exact h

theorem ref_v (b : Fin 2) (p : Fin 8192) (n : Fin 256) : res_main_v20 X (ix3 b p n) = v (R X) b.val p.val n.val := by
  have h := ref_z X b p ⟨1792 + n.val, by omega⟩
  unfold res_main_v20
  generalize res_main_v16 X = Z at h ⊢
  pointwise []
  exact h

theorem ref_angle (p : Fin 8192) (e : Fin 8) : res_main_v39 X (ix2 p e) = angle p.val e.val := by
  unfold res_main_v39 res_main_v0
  pointwise []
  rfl

theorem ref_angle' (p : Fin 8192) (e : Fin 8) : res_main_v74 X (ix2 p e) = angle p.val e.val := ref_angle X p e

theorem ref_cos (p : Fin 8192) (e : Fin 8) : res_main_v41 X (ix4 0 p 0 e) = (R X).cos p.val e.val := by
  have h := ref_angle X p e
  unfold res_main_v41
  generalize res_main_v39 X = Z at h ⊢
  pointwise []
  rw [h]
  rfl

theorem ref_sin (p : Fin 8192) (e : Fin 8) : res_main_v43 X (ix4 0 p 0 e) = (R X).sin p.val e.val := by
  have h := ref_angle X p e
  unfold res_main_v43
  generalize res_main_v39 X = Z at h ⊢
  pointwise []
  rw [h]
  rfl

theorem ref_cos' (p : Fin 8192) (e : Fin 8) : res_main_v76 X (ix4 0 p 0 e) = (R X).cos p.val e.val := ref_cos X p e
theorem ref_sin' (p : Fin 8192) (e : Fin 8) : res_main_v78 X (ix4 0 p 0 e) = (R X).sin p.val e.val := ref_sin X p e

/-- The keys before the rotation. -/
theorem ref_k0 (b : Fin 2) (p : Fin 8192) (h : Fin 4) (d : Fin 64) :
    res_main_v58 X (ix4 b p h d) = z (R X) b.val p.val (1536 + (64 * h.val + d.val)) := by
  have e := ref_z X b p ⟨1536 + (64 * h.val + d.val), by omega⟩
  unfold res_main_v58
  generalize res_main_v16 X = Z at e ⊢
  refine Eq.trans ?_ e
  pointwise []
  try (congr 2; ext; simp; omega)

/-- A row of heads rotated, at an index. -/
theorem rotated (D : Data) (f : ℕ → EReal) (p h d : ℕ) (hd : d < 64) : rope D f p (64 * h + d)
    = if d < 8 then f (64 * h + d) * D.cos p d - f (64 * h + (d + 8)) * D.sin p d
      else if d < 16 then f (64 * h + d) * D.cos p (d - 8) + f (64 * h + (d - 8)) * D.sin p (d - 8)
      else f (64 * h + d) := by
  unfold rope
  rw [show (64 * h + d) % 64 = d by omega]
  by_cases h1 : d < 8
  · rw [if_pos h1, if_pos h1]
    rfl
  · rw [if_neg h1, if_neg h1, show 64 * h + d - 8 = 64 * h + (d - 8) by omega]

theorem ref_k (b : Fin 2) (p : Fin 8192) (h : Fin 4) (d : Fin 64) :
    res_main_v92 X (ix4 b p h d) = k (R X) b.val p.val (64 * h.val + d.val) := by
  have e := fun d : Fin 64 => ref_k0 X b p h d
  have hc := ref_cos' X p
  have hs := ref_sin' X p
  unfold k
  rw [rotated _ _ _ _ _ d.isLt]
  unfold res_main_v92 res_main_v79 res_main_v80
  generalize res_main_v58 X = K at e ⊢
  generalize res_main_v76 X = C at hc ⊢
  generalize res_main_v78 X = S at hs ⊢
  generalize R X = D at e hc hs ⊢
  pointwise []
  by_cases h1 : d.val < 8
  · rw [if_pos h1]
    simp only [h1, dite_true]
    have e1 := e ⟨d.val, by omega⟩
    have e2 := e ⟨8 + d.val, by omega⟩
    have e3 := hc ⟨d.val, h1⟩
    have e4 := hs ⟨d.val, h1⟩
    dsimp only at e1 e2 e3 e4
    rw [show d.val + 8 = 8 + d.val by omega, ← e1, ← e2, ← e3, ← e4]
  · rw [if_neg h1]
    by_cases h2 : d.val < 16
    · rw [if_pos h2]
      have e1 := e d
      have e2 := e ⟨d.val - 8, by omega⟩
      have e3 := hc ⟨d.val - 8, by omega⟩
      have e4 := hs ⟨d.val - 8, by omega⟩
      dsimp only at e1 e2 e3 e4
      rw [← e1, ← e2, ← e3, ← e4, dif_neg h1]
      rw [dif_pos (by omega)]
      rw [show (⟨8 + (d.val - 8), by omega⟩ : Fin 64) = d from Fin.ext (by show 8 + (d.val - 8) = d.val; omega)]
    · rw [if_neg h2]
      rw [← e d, dif_neg h1]
      rw [dif_neg (by omega)]
      exact congrArg (fun d => K (ix4 b p h d)) (Fin.ext (by show 16 + (d.val - 8 - 8) = d.val; omega))

end Cert.Mixer

end
-- ==== Proof.Mixer.RefSoft.lean ====
/-
  The reference weighs 256 keys of which half are masked; the layer's text weighs the 128 that are left. Both averages are
  the same.
-/
module

public import proofs.«01_k».proof.Proof.Mixer.Soft

@[expose] public section

noncomputable section

namespace Cert.Mixer

open Idealize.ShloMosaic Cert.Attn

/-- The two places key `c` may stand in among 256. -/
def lo (c : Fin 128) : Fin 256 := ⟨c.val, by omega⟩
def hi (c : Fin 128) : Fin 256 := ⟨128 + c.val, by omega⟩

theorem sum_halves (f : Fin 256 → EReal) : ∑ i, f i = ∑ c, (f (lo c) + f (hi c)) := by
  rw [Finset.sum_add_distrib]
  exact Fin.sum_univ_add (a := 128) (b := 128) f

theorem lo_or_hi (i : Fin 256) : (∃ c, i = lo c) ∨ ∃ c, i = hi c := by
  by_cases h : i.val < 128
  · exact .inl ⟨⟨i.val, h⟩, rfl⟩
  · exact .inr ⟨⟨i.val - 128, by omega⟩, Fin.ext (by show i.val = 128 + (i.val - 128); omega)⟩

/-- What stands at the two places of a key. -/
def Placed (s w : Fin 256 → EReal) (t x : Fin 128 → EReal) (c : Fin 128) : Prop :=
  (s (lo c) = t c ∧ s (hi c) = ⊥ ∧ (t c = ⊥ ∨ w (lo c) = x c)) ∨ (s (lo c) = ⊥ ∧ s (hi c) = t c ∧ w (hi c) = x c)

theorem exp_bot (y : EReal) : Ideal.exp (⊥ - y) = 0 := by
  rw [EReal.bot_sub]
  rfl

theorem top_halves {s w : Fin 256 → EReal} {t x : Fin 128 → EReal} (h : ∀ c, Placed s w t x c) (sink : EReal) :
    top s sink = top t sink := by
  unfold top
  congr 1
  refine le_antisymm (Finset.sup_le fun i _ => ?_) (Finset.sup_le fun c _ => ?_)
  · rcases lo_or_hi i with ⟨c, rfl⟩ | ⟨c, rfl⟩ <;> rcases h c with ⟨a, b, -⟩ | ⟨a, b, -⟩
    · rw [a]; exact Finset.le_sup (f := t) (Finset.mem_univ c)
    · rw [a]; exact bot_le
    · rw [b]; exact bot_le
    · rw [b]; exact Finset.le_sup (f := t) (Finset.mem_univ c)
  · rcases h c with ⟨a, b, -⟩ | ⟨a, b, -⟩
    · rw [← a]; exact Finset.le_sup (f := s) (Finset.mem_univ _)
    · rw [← b]; exact Finset.le_sup (f := s) (Finset.mem_univ _)

theorem avg_halves {s w : Fin 256 → EReal} {t x : Fin 128 → EReal} (h : ∀ c, Placed s w t x c) (sink : EReal) :
    avg s sink w = avg t sink x := by
  unfold avg
  rw [top_halves h sink, sum_halves, sum_halves]
  congr 1
  · refine Finset.sum_congr rfl fun c _ => ?_
    rcases h c with ⟨a, b, e⟩ | ⟨a, b, e⟩
    · rw [a, b, exp_bot, zero_mul, add_zero]
      rcases e with e | e
      · rw [e, exp_bot, zero_mul, zero_mul]
      · rw [e]
    · rw [a, b, exp_bot, zero_mul, zero_add, e]
  · congr 1
    refine Finset.sum_congr rfl fun c _ => ?_
    rcases h c with ⟨a, b, -⟩ | ⟨a, b, -⟩
    · rw [a, b, exp_bot, add_zero]
    · rw [a, b, exp_bot, zero_add]

/-- The scores and, last, the sink. -/
def sunk (s : Fin 256 → EReal) (sink : EReal) (w : Fin 257) : EReal := if h : w.val < 256 then s ⟨w.val, h⟩ else sink

theorem sunk_castSucc (s : Fin 256 → EReal) (sink : EReal) (w : Fin 256) : sunk s sink w.castSucc = s w := by
  unfold sunk
  rw [dif_pos (show w.castSucc.val < 256 from w.isLt)]
  rfl

theorem sunk_last (s : Fin 256 → EReal) (sink : EReal) : sunk s sink (Fin.last 256) = sink := by
  unfold sunk
  rw [dif_neg (by simp)]

theorem max_sunk (s : Fin 256 → EReal) (sink : EReal) :
    max ⊥ (Finset.fold max ⊥ (sunk s sink) Finset.univ) = top s sink := by
  rw [max_eq_right bot_le, fold_succ, sunk_last, show (fun x : Fin 256 => sunk s sink x.castSucc) = s from
    funext (sunk_castSucc s sink)]
  rfl

/-- The softmax over scores and sink, its last weight dropped, as an average. -/
theorem soft_avg {s : Fin 256 → EReal} {sink : EReal} (hs : ∀ c, Low (s c)) (hk : Num sink) (v : Fin 256 → EReal) :
    ∑ x : Fin 256, Ideal.div (Ideal.exp (sunk s sink x.castSucc - max ⊥ (Finset.fold max ⊥ (sunk s sink) Finset.univ)))
      (∑ y, Ideal.exp (sunk s sink y - max ⊥ (Finset.fold max ⊥ (sunk s sink) Finset.univ))) * v x = avg s sink v := by
  have e : ∑ y, Ideal.exp (sunk s sink y - top s sink) = ∑ c, Ideal.exp (s c - top s sink) + Ideal.exp (sink - top s sink) := by
    rw [Fin.sum_univ_castSucc, sunk_last]
    simp only [sunk_castSucc]
  rw [max_sunk, e]
  simp only [sunk_castSucc]
  exact avg_divided hs hk v

end Cert.Mixer

end
-- ==== Proof.Mixer.RefQ.lean ====
/-
  The rotated queries of the mixer's reference, the keys' pairs of blocks, and the mask, read at an index.
-/
module

public import proofs.«01_k».proof.Proof.Mixer.RefBase
public import proofs.«01_k».proof.Proof.Mixer.RefSoft

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))
/-- The queries before the rotation. -/
theorem ref_q0 (b : Fin 2) (p : Fin 8192) (h : Fin 16) (d : Fin 64) :
    res_main_v23 X (ix4 b p h d) = z (R X) b.val p.val (512 + (64 * h.val + d.val)) := by
  have e := ref_z X b p ⟨512 + (64 * h.val + d.val), by omega⟩
  unfold res_main_v23
  generalize res_main_v16 X = Z at e ⊢
  refine Eq.trans ?_ e
  pointwise []
  try (congr 2; ext; simp; omega)

/-- The queries rotated. -/
def rq : FVec Ideal S2x8192x16x64 .f32 :=
  (concatenate S2x8192x16x64 3 [⟨S2x8192x16x8, ((subf (mulf (res_main_v44 X) (broadcastInDim S2x8192x16x8 ![0, 1, 2, 3]
      bcast_S1x8192x1x8_S2x8192x16x8_0_1_2_3 (res_main_v41 X))) (mulf (res_main_v45 X) (broadcastInDim S2x8192x16x8 ![0, 1, 2, 3]
      bcast_S1x8192x1x8_S2x8192x16x8_0_1_2_3 (res_main_v43 X)))) : (⟨S2x8192x16x8, .f32⟩ : BufTy).Contents (Elt Ideal))⟩,
      ⟨S2x8192x16x8, ((addf (mulf (res_main_v45 X) (broadcastInDim S2x8192x16x8 ![0, 1, 2, 3] bcast_S1x8192x1x8_S2x8192x16x8_0_1_2_3
      (res_main_v41 X))) (mulf (res_main_v44 X) (broadcastInDim S2x8192x16x8 ![0, 1, 2, 3] bcast_S1x8192x1x8_S2x8192x16x8_0_1_2_3
      (res_main_v43 X)))) : (⟨S2x8192x16x8, .f32⟩ : BufTy).Contents (Elt Ideal))⟩, ⟨S2x8192x16x48, ((extractStridedSlice S2x8192x16x48
      ![0, 0, 0, 16] (res_main_v23 X) slices_S2x8192x16x64_S2x8192x16x48_0_0_0_16) : (⟨S2x8192x16x48, .f32⟩ : BufTy).Contents (Elt
      Ideal))⟩] concatenates_S2x8192x16x8_S2x8192x16x8_S2x8192x16x48_S2x8192x16x64_d3 : (⟨S2x8192x16x64, .f32⟩ : BufTy).Contents (Elt
      Ideal))

theorem ref_q (b : Fin 2) (p : Fin 8192) (h : Fin 16) (d : Fin 64) :
    rq X (ix4 b p h d) = q (R X) b.val p.val (64 * h.val + d.val) := by
  have e := fun d : Fin 64 => ref_q0 X b p h d
  have hc := ref_cos X p
  have hs := ref_sin X p
  unfold q
  rw [rotated _ _ _ _ _ d.isLt]
  unfold rq res_main_v44 res_main_v45
  generalize res_main_v23 X = K at e ⊢
  generalize res_main_v41 X = C at hc ⊢
  generalize res_main_v43 X = S at hs ⊢
  generalize R X = D at e hc hs ⊢
  pointwise []
  by_cases h1 : d.val < 8
  · rw [if_pos h1]
    simp only [h1, dite_true]
    have e1 := e ⟨d.val, by omega⟩
    have e2 := e ⟨8 + d.val, by omega⟩
    have e3 := hc ⟨d.val, h1⟩
    have e4 := hs ⟨d.val, h1⟩
    dsimp only at e1 e2 e3 e4
    rw [show d.val + 8 = 8 + d.val by omega, ← e1, ← e2, ← e3, ← e4]
  · rw [if_neg h1]
    by_cases h2 : d.val < 16
    · rw [if_pos h2]
      have e1 := e d
      have e2 := e ⟨d.val - 8, by omega⟩
      have e3 := hc ⟨d.val - 8, by omega⟩
      have e4 := hs ⟨d.val - 8, by omega⟩
      dsimp only at e1 e2 e3 e4
      rw [← e1, ← e2, ← e3, ← e4, dif_neg h1]
      rw [dif_pos (by omega)]
      rw [show (⟨8 + (d.val - 8), by omega⟩ : Fin 64) = d from Fin.ext (by show 8 + (d.val - 8) = d.val; omega)]
    · rw [if_neg h2]
      rw [← e d, dif_neg h1]
      rw [dif_neg (by omega)]
      exact congrArg (fun d => K (ix4 b p h d)) (Fin.ext (by show 16 + (d.val - 8 - 8) = d.val; omega))

/-- The rows of the block before and of the own block, one after the other. -/
def pair (K : FVec Ideal S2x64x128x4x64 .f32) : FVec Ideal S2x64x256x4x64 .f32 :=
  (concatenate S2x64x256x4x64 2 [⟨S2x64x128x4x64, (concatenate S2x64x128x4x64 1 [⟨S2x1x128x4x64, (broadcastInDim S2x1x128x4x64 ![]
      bcast_S_S2x1x128x4x64 (constant S_ .f32 0x00000000#32))⟩, ⟨S2x63x128x4x64, (extractStridedSlice S2x63x128x4x64 ![0, 0, 0, 0, 0]
      K slices_S2x64x128x4x64_S2x63x128x4x64_0_0_0_0_0)⟩] concatenates_S2x1x128x4x64_S2x63x128x4x64_S2x64x128x4x64_d1)⟩,
      ⟨S2x64x128x4x64, K⟩] concatenates_S2x64x128x4x64_S2x64x128x4x64_S2x64x256x4x64_d2)

theorem pair_lo (K : FVec Ideal S2x64x128x4x64 .f32) (b : Fin 2) (n : Fin 64) (c : Fin 128) (h : Fin 4) (d : Fin 64) (h0 : 0 < n.val) :
    pair K (ix5 b n (lo c) h d) = K (ix5 b ⟨n.val - 1, by omega⟩ c h d) := by
  unfold lo
  pointwise [pair]
  rw [dif_neg (by omega)]

theorem pair_hi (K : FVec Ideal S2x64x128x4x64 .f32) (b : Fin 2) (n : Fin 64) (c : Fin 128) (h : Fin 4) (d : Fin 64) :
    pair K (ix5 b n (hi c) h d) = K (ix5 b n c h d) := by
  unfold hi
  pointwise [pair]

/-- Which keys a query sees. -/
def rmask : IVec S64x128x256 1 :=
  (andi (broadcastInDim S64x128x256 ![0, 1, 2] bcast_S1x128x256_S64x128x256_0_1_2 (andi (broadcastInDim S1x128x256 ![1, 2]
      bcast_S128x256_S1x128x256_1_2 (cmpi .sge (res_main_v225 X) (broadcastInDim S128x256 ![] bcast_S_S128x256 (constantI S_ 32
      0#32)))) (broadcastInDim S1x128x256 ![1, 2] bcast_S128x256_S1x128x256_1_2 (cmpi .slt (res_main_v225 X) (broadcastInDim S128x256
      ![] bcast_S_S128x256 (constantI S_ 32 128#32)))))) (broadcastInDim S64x128x256 ![0, 1, 2] bcast_S64x1x256_S64x128x256_0_1_2
      (cmpi .sge (addi (broadcastInDim S64x1x256 ![0, 1, 2] bcast_S64x1x1_S64x1x256_0_1_2 (muli (subi (broadcastInDim S64x1x1 ![0]
      bcast_S64_S64x1x1_0 (iotaInDim S64 32 0)) (broadcastInDim S64x1x1 ![] bcast_S_S64x1x1 (constantI S_ 32 1#32))) (broadcastInDim
      S64x1x1 ![] bcast_S_S64x1x1 (constantI S_ 32 128#32)))) (broadcastInDim S64x1x256 ![0, 1, 2] bcast_S1x1x256_S64x1x256_0_1_2
      (broadcastInDim S1x1x256 ![1, 2] bcast_S1x256_S1x1x256_1_2 (res_main_v220 X)))) (broadcastInDim S64x1x256 ![] bcast_S_S64x1x256
      (constantI S_ 32 0#32)))))

theorem word_after : ∀ (q : Fin 128) (s : Fin 256), IntOp.cmpi CmpIPredicate.sge (IntOp.subi (IntOp.addi (BitVec.ofNat 32 q.val) 128#32) (BitVec.ofNat 32 s.val)) 0#32
    = if s.val ≤ q.val + 128 then 1#1 else 0#1 := by
  decide +kernel

theorem word_before : ∀ (q : Fin 128) (s : Fin 256), IntOp.cmpi CmpIPredicate.slt (IntOp.subi (IntOp.addi (BitVec.ofNat 32 q.val) 128#32) (BitVec.ofNat 32 s.val)) 128#32
    = if q.val < s.val then 1#1 else 0#1 := by
  decide +kernel

theorem word_first : ∀ (n : Fin 64) (s : Fin 256), IntOp.cmpi CmpIPredicate.sge (IntOp.addi (IntOp.muli (IntOp.subi (BitVec.ofNat 32 n.val) 1#32) 128#32) (BitVec.ofNat 32 s.val)) 0#32
    = if 0 < n.val ∨ 128 ≤ s.val then 1#1 else 0#1 := by
  decide +kernel

theorem rmask_at (n : Fin 64) (q : Fin 128) (s : Fin 256) :
    rmask X (ix3 n q s) = if s.val ≤ q.val + 128 ∧ q.val < s.val ∧ (0 < n.val ∨ 128 ≤ s.val) then 1#1 else 0#1 := by
  pointwise [rmask, res_main_v225, res_main_v220]
  rw [word_after, word_before, word_first]
  by_cases h1 : s.val ≤ q.val + 128 <;> by_cases h2 : q.val < s.val <;> by_cases h3 : 0 < n.val ∨ 128 ≤ s.val <;>
    simp only [h1, h2, h3, and_self, and_true, true_and, and_false, false_and, if_true, if_false] <;> rfl

/-- The scores before the mask. -/
def rscore (K : FVec Ideal S2x64x256x4x64 .f32) (Q : FVec Ideal S2x8192x16x64 .f32) : FVec Ideal S2x64x4x4x128x256 .f32 :=
  (mulf (transpose S2x64x4x4x128x256 [0, 1, 2, 5, 4, 3] (Host.dotGeneral
      dot_S2x64x256x4x64_S2x64x128x4x4x64_S2x64x4x256x128x4_4_5_2_24_013_013 none K (shapeCast _ (Q)
      shapeCasts_S2x8192x16x64_S2x64x128x4x4x64)) transposes_S2x64x4x256x128x4_S2x64x4x4x128x256_0_1_2_5_4_3) (broadcastInDim
      S2x64x4x4x128x256 ![] bcast_S_S2x64x4x4x128x256 (constant S_ .f32 0x3E000000#32)))

theorem eighth : Ideal.ofBits .f32 0x3E000000#32 = ((1 / 8 : ℝ) : EReal) := by
  simp [Ideal.ofBits, Ideal.ieee, -EReal.coe_mul]
  norm_num [Nat.shiftRight_eq_div_pow]

theorem rscore_at (K : FVec Ideal S2x64x256x4x64 .f32) (Q : FVec Ideal S2x8192x16x64 .f32) (b : Fin 2) (n : Fin 64) (k g : Fin 4) (q : Fin 128) (s : Fin 256) :
    rscore K Q (ix6 b n k g q s) = (∑ d : Fin 64, Q (ix4 b ⟨n.val * 128 + q.val, by omega⟩ ⟨k.val * 4 + g.val, by omega⟩ d) * K (ix5 b n s k d)) * ((1 / 8 : ℝ) : EReal) := by
  pointwise [rscore]
  rw [eighth]
  congr 1
  refine Finset.sum_congr rfl fun d _ => ?_
  rw [mul_comm]

end Cert.Mixer

end
-- ==== Proof.Mixer.RefSunk.lean ====
/-
  The masked scores with the sink, in the mixer's reference, and its averages of values, read at an index.
-/
module

public import proofs.«01_k».proof.Proof.Mixer.RefBase
public import proofs.«01_k».proof.Proof.Mixer.RefSoft

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- The masked scores and the sink. -/
def rsunk (S : FVec Ideal S2x64x4x4x128x256 .f32) (M : IVec S64x128x256 1) (a : FVec Ideal S16 .f32) : FVec Ideal S2x64x4x4x128x257 .f32 :=
  concatenate S2x64x4x4x128x257 5 [⟨S2x64x4x4x128x256, (select (broadcastInDim S2x64x4x4x128x256 ![1, 2, 3, 4, 5]
      bcast_S64x1x1x128x256_S2x64x4x4x128x256_1_2_3_4_5 (broadcastInDim S64x1x1x128x256 ![0, 3, 4]
      bcast_S64x128x256_S64x1x1x128x256_0_3_4 M)) S (broadcastInDim S2x64x4x4x128x256 ![] bcast_S_S2x64x4x4x128x256 (id (constant S_
      .f32 0xFF800000#32))))⟩, ⟨S2x64x4x4x128x1, (broadcastInDim S2x64x4x4x128x1 ![2, 3, 4, 5] bcast_S4x4x1x1_S2x64x4x4x128x1_2_3_4_5
      (broadcastInDim S4x4x1x1 ![0, 1] bcast_S4x4_S4x4x1x1_0_1 (shapeCast _ a shapeCasts_S16_S4x4)))⟩]
      concatenates_S2x64x4x4x128x256_S2x64x4x4x128x1_S2x64x4x4x128x257_d5

theorem rsunk_at (S : FVec Ideal S2x64x4x4x128x256 .f32) (M : IVec S64x128x256 1) (a : FVec Ideal S16 .f32) (b : Fin 2) (n : Fin 64) (k g : Fin 4) (q : Fin 128) (w : Fin 257) :
    rsunk S M a (ix6 b n k g q w)
      = sunk (fun s => Scalar.select (M (ix3 n q s)) (S (ix6 b n k g q s)) (⊥ : EReal)) (a (ix1 ⟨k.val * 4 + g.val, by omega⟩)) w := by
  unfold sunk
  rw [← Attn.neg_inf]
  pointwise [rsunk]
  rfl

/-- The averages, a row's heads side by side. -/
def ratt (K : FVec Ideal S2x64x256x4x64 .f32) (P : FVec Ideal S2x64x4x4x128x256 .f32) : FVec Ideal S2x8192x1024 .f32 :=
  (shapeCast _ (transpose S2x64x128x4x4x64 [0, 1, 5, 2, 4, 3] (Host.dotGeneral
      dot_S2x64x256x4x64_S2x64x4x4x128x256_S2x64x4x64x4x128_2_5_4_34_013_012 none K P)
      transposes_S2x64x4x64x4x128_S2x64x128x4x4x64_0_1_5_2_4_3) shapeCasts_S2x64x128x4x4x64_S2x8192x1024)

theorem ratt_at (K : FVec Ideal S2x64x256x4x64 .f32) (P : FVec Ideal S2x64x4x4x128x256 .f32) (b : Fin 2) (p : Fin 8192) (n : Fin 1024) : ratt K P (ix3 b p n)
    = ∑ s : Fin 256, P (ix6 b ⟨p.val / 128, by omega⟩ ⟨n.val / 256, by omega⟩ ⟨n.val / 64 % 4, by omega⟩ ⟨p.val % 128, by omega⟩ s)
        * K (ix5 b ⟨p.val / 128, by omega⟩ s ⟨n.val / 256, by omega⟩ ⟨n.val % 64, by omega⟩) := by
  pointwise [ratt]
  refine Finset.sum_congr rfl fun s _ => ?_
  rw [mul_comm]

end Cert.Mixer

end
-- ==== Proof.Mixer.RefLast.lean ====
/-
  The sum and the largest over the last of six coordinates.
-/
module

public import proofs.«01_k».proof.Proof.Mixer.RefBase
public import proofs.«01_k».proof.Proof.Mixer.RefSoft

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

section Last
variable {n0 n1 n2 n3 n4 n5 : ℕ}

/-- The places that lose their last coordinate to one place. -/
theorem fiber6 (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ w : Fin n5, ix6 a b c d e w = i := by
  constructor
  · intro r
    refine ⟨i 5, ?_⟩
    funext x; apply Fin.ext
    match x with
    | ⟨0, _⟩ => exact (congrArg Fin.val (congrFun r 0)).symm
    | ⟨1, _⟩ => exact (congrArg Fin.val (congrFun r 1)).symm
    | ⟨2, _⟩ => exact (congrArg Fin.val (congrFun r 2)).symm
    | ⟨3, _⟩ => exact (congrArg Fin.val (congrFun r 3)).symm
    | ⟨4, _⟩ => exact (congrArg Fin.val (congrFun r 4)).symm
    | ⟨5, _⟩ => rfl
  · rintro ⟨w, rfl⟩
    funext x
    apply Fin.ext
    match x with
    | ⟨0, _⟩ => rfl
    | ⟨1, _⟩ => rfl
    | ⟨2, _⟩ => rfl
    | ⟨3, _⟩ => rfl
    | ⟨4, _⟩ => rfl

theorem sum6 (h : (⟨6, ![n0, n1, n2, n3, n4, n5]⟩ : Shape).ReducesTo [5] ⟨5, ![n0, n1, n2, n3, n4]⟩) (a : Fin n0) (b : Fin n1) (c : Fin n2) (d : Fin n3) (e : Fin n4)
    (v : FVec Ideal (⟨6, ![n0, n1, n2, n3, n4, n5]⟩ : Shape) .f32) (hu : 0 < S_.numel) :
    Host.reduceAdd v (constant (F := Ideal) S_ .f32 0x00000000#32) h hu (ix5 a b c d e) = ∑ w, v (ix6 a b c d e w) := by
  rw [Host.reduceAdd_apply]
  show Ideal.ofBits .f32 0x00000000#32 + _ = _
  rw [Ideal.ofBits_zero_f32, zero_add]
  exact Finset.sum_filter_eq_sum_of_fiber _ (fun w : Fin n5 => ix6 a b c d e w) (fun _ _ e => congrFun e 5) (fiber6 h a b c d e) v

theorem fold6 (h : (⟨6, ![n0, n1, n2, n3, n4, n5]⟩ : Shape).ReducesTo [5] ⟨5, ![n0, n1, n2, n3, n4]⟩) (a : Fin n0) (b : Fin n1) (c : Fin n2) (d : Fin n3) (e : Fin n4)
    (v : FVec Ideal (⟨6, ![n0, n1, n2, n3, n4, n5]⟩ : Shape) .f32) (hu : 0 < S_.numel) :
    Host.reduce FloatOps.maximumf v (constant (F := Ideal) S_ .f32 0xFF800000#32) h hu (ix5 a b c d e) = Finset.fold max ⊥ (fun w => v (ix6 a b c d e w)) Finset.univ := by
  pointwise []
  rw [Attn.neg_inf]
  exact Finset.fold_filter_eq_fold_of_fiber max _ (fun w : Fin n5 => ix6 a b c d e w) (fun _ _ e => congrFun e 5) (fiber6 h a b c d e) ⊥ v

end Last

end Cert.Mixer

end
-- ==== Proof.Mixer.RefExp.lean ====
/-
  The exponentials of the softmax of the mixer's reference, read at an index.
-/
module

public import proofs.«01_k».proof.Proof.Mixer.RefBase
public import proofs.«01_k».proof.Proof.Mixer.RefLast

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- The largest of the scores. -/
def rtop (s : FVec Ideal S2x64x4x4x128x257 .f32) : FVec Ideal S2x64x4x4x128 .f32 :=
  Host.reduce FloatOps.maximumf s (constant S_ .f32 0xFF800000#32) reducesTo_S2x64x4x4x128x257_S2x64x4x4x128_d5 h_S_

theorem rtop_at (s : FVec Ideal S2x64x4x4x128x257 .f32) (b : Fin 2) (n : Fin 64) (k g : Fin 4) (q : Fin 128) :
    rtop s (ix5 b n k g q) = Finset.fold max ⊥ (fun w => s (ix6 b n k g q w)) Finset.univ := by
  unfold rtop
  exact fold6 _ b n k g q s _

/-- The exponentials of the scores less the largest. -/
def rexp (s : FVec Ideal S2x64x4x4x128x257 .f32) (T : FVec Ideal S2x64x4x4x128 .f32) : FVec Ideal S2x64x4x4x128x257 .f32 :=
  Host.exp (subf s (broadcastInDim S2x64x4x4x128x257 ![0, 1, 2, 3, 4, 5] bcast_S2x64x4x4x128x1_S2x64x4x4x128x257_0_1_2_3_4_5
      (broadcastInDim S2x64x4x4x128x1 ![0, 1, 2, 3, 4] bcast_S2x64x4x4x128_S2x64x4x4x128x1_0_1_2_3_4 (maximumf (broadcastInDim
      S2x64x4x4x128 ![] bcast_S_S2x64x4x4x128 (constant S_ .f32 0xFF800000#32)) T))))

theorem rexp_at (s : FVec Ideal S2x64x4x4x128x257 .f32) (T : FVec Ideal S2x64x4x4x128 .f32) (b : Fin 2) (n : Fin 64) (k g : Fin 4) (q : Fin 128) (w : Fin 257) :
    rexp s T (ix6 b n k g q w) = Ideal.exp (s (ix6 b n k g q w) - max ⊥ (T (ix5 b n k g q))) := by
  rw [← Attn.neg_inf]
  pointwise [rexp]

end Cert.Mixer

end
-- ==== Proof.Mixer.RefWeight.lean ====
/-
  The weights of the softmax of the mixer's reference, read at an index.
-/
module

public import proofs.«01_k».proof.Proof.Mixer.RefBase
public import proofs.«01_k».proof.Proof.Mixer.RefLast

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- The weights of the keys. -/
def rweight (e : FVec Ideal S2x64x4x4x128x257 .f32) : FVec Ideal S2x64x4x4x128x256 .f32 :=
  (extractStridedSlice S2x64x4x4x128x256 ![0, 0, 0, 0, 0, 0] (Host.divf e (broadcastInDim S2x64x4x4x128x257 ![0, 1, 2, 3, 4, 5]
      bcast_S2x64x4x4x128x1_S2x64x4x4x128x257_0_1_2_3_4_5 (broadcastInDim S2x64x4x4x128x1 ![0, 1, 2, 3, 4]
      bcast_S2x64x4x4x128_S2x64x4x4x128x1_0_1_2_3_4 (Host.reduceAdd e (constant S_ .f32 0x00000000#32)
      reducesTo_S2x64x4x4x128x257_S2x64x4x4x128_d5 h_S_)))) slices_S2x64x4x4x128x257_S2x64x4x4x128x256_0_0_0_0_0_0)

theorem rweight_at (e : FVec Ideal S2x64x4x4x128x257 .f32) (b : Fin 2) (n : Fin 64) (k g : Fin 4) (q : Fin 128) (s : Fin 256) : rweight e (ix6 b n k g q s)
    = Ideal.div (e (ix6 b n k g q s.castSucc)) (∑ w, e (ix6 b n k g q w)) := by
  rw [← sum6 reducesTo_S2x64x4x4x128x257_S2x64x4x4x128_d5 b n k g q e h_S_]
  unfold rweight
  generalize Host.reduceAdd e (constant (F := Ideal) S_ .f32 0x00000000#32) reducesTo_S2x64x4x4x128x257_S2x64x4x4x128_d5 h_S_ = T
  pointwise []
  rfl

end Cert.Mixer

end
-- ==== Proof.Mixer.RefHeads.lean ====
/-
  The attention of the mixer's reference is the layer's.
-/
module

public import proofs.«01_k».proof.Proof.Mixer.RefQ
public import proofs.«01_k».proof.Proof.Mixer.RefSunk
public import proofs.«01_k».proof.Proof.Mixer.RefExp
public import proofs.«01_k».proof.Proof.Mixer.RefWeight

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

theorem blocks_k (b : Fin 2) (n : Fin 64) (c : Fin 128) (h : Fin 4) (d : Fin 64) :
    res_main_v205 X (ix5 b n c h d) = k (R X) b.val (n.val * 128 + c.val) (64 * h.val + d.val) := by
  have e : res_main_v205 X (ix5 b n c h d) = res_main_v92 X (ix4 b ⟨n.val * 128 + c.val, by omega⟩ h d) := by
    unfold res_main_v205
    generalize res_main_v92 X = K
    pointwise []
  rw [e, ref_k]

theorem blocks_v (b : Fin 2) (n : Fin 64) (c : Fin 128) (h : Fin 4) (d : Fin 64) :
    res_main_v206 X (ix5 b n c h d) = v (R X) b.val (n.val * 128 + c.val) (64 * h.val + d.val) := by
  have e : res_main_v206 X (ix5 b n c h d) = res_main_v20 X (ix3 b ⟨n.val * 128 + c.val, by omega⟩ ⟨h.val * 64 + d.val, by omega⟩) := by
    unfold res_main_v206
    generalize res_main_v20 X = K
    pointwise []
  rw [e, ref_v]
  congr 1
  show h.val * 64 + d.val = _
  omega

/-- The scores of the query of row `p` and head `4 m + g`. -/
def cells (b : Fin 2) (p : Fin 8192) (m g : Fin 4) (s : Fin 256) : EReal :=
  rscore (pair (res_main_v205 X)) (rq X) (ix6 b ⟨p.val / 128, by omega⟩ m g ⟨p.val % 128, by omega⟩ s)

/-- The same where they are seen. -/
def seen (b : Fin 2) (p : Fin 8192) (m g : Fin 4) (s : Fin 256) : EReal :=
  Scalar.select (rmask X (ix3 ⟨p.val / 128, by omega⟩ ⟨p.val % 128, by omega⟩ s)) (cells X b p m g s) (⊥ : EReal)

/-- The values. -/
def vals (b : Fin 2) (p : Fin 8192) (m : Fin 4) (d : Fin 64) (s : Fin 256) : EReal :=
  pair (res_main_v206 X) (ix5 b ⟨p.val / 128, by omega⟩ s m d)

theorem cells_lo (b : Fin 2) (p : Fin 8192) (m g : Fin 4) (c : Fin 128) (hc : Prev p.val c.val) (hp : 128 ≤ p.val) :
    cells X b p m g (lo c) = raw (R X) b.val p.val (4 * m.val + g.val) c.val * ((1 / 8 : ℝ) : EReal) := by
  unfold cells raw key
  rw [rscore_at, if_pos hc]
  congr 1
  refine Finset.sum_congr rfl fun d _ => ?_
  rw [pair_lo _ _ _ _ _ _ (by show 0 < p.val / 128; omega), blocks_k, ref_q]
  show q (R X) b.val (p.val / 128 * 128 + p.val % 128) (64 * (m.val * 4 + g.val) + d.val) * k (R X) b.val ((p.val / 128 - 1) * 128 + c.val) (64 * m.val + d.val) = _
  rw [show p.val / 128 * 128 + p.val % 128 = p.val by omega, show 64 * (m.val * 4 + g.val) = 64 * (4 * m.val + g.val) by omega,
    show (p.val / 128 - 1) * 128 + c.val = p.val - p.val % 128 + c.val - 128 by omega, show (4 * m.val + g.val) / 4 = m.val by omega]

theorem cells_hi (b : Fin 2) (p : Fin 8192) (m g : Fin 4) (c : Fin 128) (hc : ¬Prev p.val c.val) :
    cells X b p m g (hi c) = raw (R X) b.val p.val (4 * m.val + g.val) c.val * ((1 / 8 : ℝ) : EReal) := by
  unfold cells raw key
  rw [rscore_at, if_neg hc]
  congr 1
  refine Finset.sum_congr rfl fun d _ => ?_
  rw [pair_hi, blocks_k, ref_q]
  show q (R X) b.val (p.val / 128 * 128 + p.val % 128) (64 * (m.val * 4 + g.val) + d.val) * k (R X) b.val (p.val / 128 * 128 + c.val) (64 * m.val + d.val) = _
  rw [show p.val / 128 * 128 + p.val % 128 = p.val by omega, show 64 * (m.val * 4 + g.val) = 64 * (4 * m.val + g.val) by omega,
    show p.val / 128 * 128 + c.val = p.val - p.val % 128 + c.val by omega, show (4 * m.val + g.val) / 4 = m.val by omega]

theorem sel_pos {P : Prop} [Decidable P] (h : P) (x y : EReal) : Scalar.select (if P then 1#1 else 0#1) x y = x := by
  rw [if_pos h]
  rfl

theorem sel_neg {P : Prop} [Decidable P] (h : ¬P) (x y : EReal) : Scalar.select (if P then 1#1 else 0#1) x y = y := by
  rw [if_neg h]
  rfl

theorem placed (b : Fin 2) (p : Fin 8192) (m g : Fin 4) (d : Fin 64) (c : Fin 128) :
    Placed (seen X b p m g) (vals X b p m d) (fun c => score (R X) b.val p.val (4 * m.val + g.val) c.val)
      (fun c => v (R X) b.val (key p.val c.val) (64 * m.val + d.val)) c := by
  unfold Placed
  beta_reduce
  by_cases hc : Prev p.val c.val
  · have hc' : p.val % 128 < c.val := hc
    have h2 : seen X b p m g (hi c) = ⊥ := by
      unfold seen
      rw [rmask_at]
      exact sel_neg (fun h => by have h1 : 128 + c.val ≤ p.val % 128 + 128 := h.1; omega) _ _
    refine .inl ⟨?_, h2, ?_⟩
    · unfold seen score
      rw [rmask_at]
      by_cases hp : 128 ≤ p.val
      · rw [if_neg (fun h : Dead p.val c.val => by have := h.2; omega), ← cells_lo X b p m g c hc hp]
        exact sel_pos ⟨by show c.val ≤ p.val % 128 + 128; omega, hc', .inl (by show 0 < p.val / 128; omega)⟩ _ _
      · rw [if_pos (show Dead p.val c.val from ⟨hc, by omega⟩)]
        refine sel_neg (fun h => ?_) _ _
        rcases h.2.2 with h1 | h1
        · have h1 : 0 < p.val / 128 := h1
          omega
        · have h1 : 128 ≤ c.val := h1
          omega
    · by_cases hp : 128 ≤ p.val
      · right
        unfold vals key
        rw [if_pos hc, pair_lo _ _ _ _ _ _ (by show 0 < p.val / 128; omega), blocks_v]
        show v (R X) b.val ((p.val / 128 - 1) * 128 + c.val) (64 * m.val + d.val) = _
        rw [show (p.val / 128 - 1) * 128 + c.val = p.val - p.val % 128 + c.val - 128 by omega]
      · left
        unfold score
        rw [if_pos (show Dead p.val c.val from ⟨hc, by omega⟩)]
  · have hc' : ¬p.val % 128 < c.val := hc
    refine .inr ⟨?_, ?_, ?_⟩
    · unfold seen
      rw [rmask_at]
      exact sel_neg (fun h => hc' h.2.1) _ _
    · unfold seen score
      rw [rmask_at, if_neg (fun h : Dead p.val c.val => hc h.1), ← cells_hi X b p m g c hc]
      exact sel_pos ⟨by show 128 + c.val ≤ p.val % 128 + 128; omega, by show p.val % 128 < 128 + c.val; omega, .inr (by show 128 ≤ 128 + c.val; omega)⟩ _ _
    · unfold vals key
      rw [if_neg hc, pair_hi, blocks_v]
      show v (R X) b.val (p.val / 128 * 128 + c.val) (64 * m.val + d.val) = _
      rw [show p.val / 128 * 128 + c.val = p.val - p.val % 128 + c.val by omega]

theorem seen_low (b : Fin 2) (p : Fin 8192) (m g : Fin 4) (low : ∀ c : Fin 128, Low (score (R X) b.val p.val (4 * m.val + g.val) c.val)) (s : Fin 256) :
    Low (seen X b p m g s) := by
  rcases lo_or_hi s with ⟨c, rfl⟩ | ⟨c, rfl⟩
  · rcases placed X b p m g 0 c with h | h
    · rw [h.1]; exact low c
    · rw [h.1]; exact .inl rfl
  · rcases placed X b p m g 0 c with h | h
    · rw [h.2.1]; exact .inl rfl
    · rw [h.2.1]; exact low c

/-- The masked scores of a query, and its sink. -/
theorem ref_sunk (b : Fin 2) (p : Fin 8192) (m g : Fin 4) (w : Fin 257) :
    res_main_v257 X (ix6 b ⟨p.val / 128, by omega⟩ m g ⟨p.val % 128, by omega⟩ w)
      = sunk (seen X b p m g) (X (Proc.devRef .tc main_arg5) (ix1 ⟨m.val * 4 + g.val, by omega⟩)) w := by
  have e : res_main_v257 X = rsunk (rscore (pair (res_main_v205 X)) (rq X)) (rmask X) (X (Proc.devRef .tc main_arg5)) := rfl
  rw [e, rsunk_at]
  rfl

theorem ref_exp : res_main_v264 X = rexp (res_main_v257 X) (rtop (res_main_v257 X)) := rfl

theorem ref_att (b : Fin 2) (p : Fin 8192) (n : Fin 1024) (low : ∀ c : Fin 128, Low (score (R X) b.val p.val (n.val / 64) c.val))
    (hk : Attn.Num ((R X).sink (n.val / 64))) :
    ratt (pair (res_main_v206 X)) (rweight (res_main_v264 X)) (ix3 b p n) = att (R X) b.val p.val n.val := by
  have hn : 4 * (n.val / 256) + n.val / 64 % 4 = n.val / 64 := by omega
  have es : X (Proc.devRef .tc main_arg5) (ix1 (⟨n.val / 256 * 4 + n.val / 64 % 4, by omega⟩ : Fin 16)) = (R X).sink (n.val / 64) := by
    unfold R entries
    show _ = X (Proc.devRef .tc main_arg5) (ix1 (idx 16 (n.val / 64)))
    congr 2
    apply Fin.ext
    have h : (idx 16 (n.val / 64)).val = n.val / 64 := congrArg Fin.val (idx_val (⟨n.val / 64, by omega⟩ : Fin 16))
    rw [h]
    show n.val / 256 * 4 + n.val / 64 % 4 = _
    omega
  have t := fun w => ref_sunk X b p (⟨n.val / 256, by omega⟩ : Fin 4) (⟨n.val / 64 % 4, by omega⟩ : Fin 4) w
  have pl := placed X b p (⟨n.val / 256, by omega⟩ : Fin 4) (⟨n.val / 64 % 4, by omega⟩ : Fin 4) (⟨n.val % 64, by omega⟩ : Fin 64)
  have sl := seen_low X b p (⟨n.val / 256, by omega⟩ : Fin 4) (⟨n.val / 64 % 4, by omega⟩ : Fin 4) (by
    show ∀ c : Fin 128, Low (score (R X) b.val p.val (4 * (n.val / 256) + n.val / 64 % 4) c.val)
    rw [hn]; exact low)
  have vv : ∀ s : Fin 256, pair (res_main_v206 X) (ix5 b (⟨p.val / 128, by omega⟩ : Fin 64) s (⟨n.val / 256, by omega⟩ : Fin 4) (⟨n.val % 64, by omega⟩ : Fin 64))
      = vals X b p (⟨n.val / 256, by omega⟩ : Fin 4) (⟨n.val % 64, by omega⟩ : Fin 64) s := fun _ => rfl
  rw [ratt_at, ref_exp]
  simp only [rweight_at, rexp_at, rtop_at, t, es, vv]
  refine (soft_avg sl hk _).trans ((avg_halves pl _).trans ?_)
  unfold att
  show avg (fun c : Fin 128 => score (R X) b.val p.val (4 * (n.val / 256) + n.val / 64 % 4) c.val) _ (fun c : Fin 128 => v (R X) b.val (key p.val c.val) (64 * (n.val / 256) + n.val % 64)) = _
  rw [hn, show n.val / 256 = n.val / 64 / 4 by omega]

end Cert.Mixer

end
-- ==== Proof.Mixer.RefMean.lean ====
/-
  The means of the pooling in the mixer's reference, read at an index.
-/
module

public import proofs.«01_k».proof.Proof.Mixer.RefBase
public import proofs.«01_k».proof.Proof.Mixer.RefSoft

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- The rows before the first, and the rows: the values the means are of. -/
theorem ref_ext (b : Fin 2) (P : ℕ) (hP : P < 8207) (n : Fin 512) : res_main_v96 X (ix3 b ⟨P, hP⟩ n) = ext (R X) b.val (P + 9) n.val := by
  unfold res_main_v96 ext
  by_cases h : P < 15
  · rw [if_pos (by omega)]
    pointwise []
    rw [dif_pos h]
  · rw [if_neg (by omega)]
    pointwise []
    rw [dif_neg h, ref_u]
    congr 1

theorem rows_2 : ∀ p : Fin 8192, (IntOp.minsi 2#32 (IntOp.addi (BitVec.ofNat 32 p.val) 1#32)).toInt = ((min 2 (p.val + 1) : ℕ) : ℤ) := by
  decide +kernel

/-- The sums over 2 rows. -/
def sums2 (E : FVec Ideal S2x8207x512 .f32) : FVec Ideal S2x8192x128 .f32 :=
  addf (addf (broadcastInDim S2x8192x128 ![] bcast_S_S2x8192x128 (constant S_ .f32 0x00000000#32)) (extractStridedSlice S2x8192x128
      ![0, 15, 0] E slices_S2x8207x512_S2x8192x128_0_15_0)) (extractStridedSlice S2x8192x128 ![0, 14, 0] E
      slices_S2x8207x512_S2x8192x128_0_14_0)

/-- The numbers of rows. -/
def nums2 : FVec Ideal S2x8192x128 .f32 :=
  broadcastInDim S2x8192x128 ![0, 1, 2] bcast_S1x8192x1_S2x8192x128_0_1_2 (broadcastInDim S1x8192x1 ![1] bcast_S8192_S1x8192x1_1
      (sitofp .f32 (minsi (broadcastInDim S8192 ![] bcast_S_S8192 (constantI S_ 32 2#32)) (addi (iotaInDim S8192 32 0) (broadcastInDim
      S8192 ![] bcast_S_S8192 (constantI S_ 32 1#32))))))

theorem sums2_at (E : FVec Ideal S2x8207x512 .f32) (b : Fin 2) (p : Fin 8192) (n : Fin 128) : sums2 E (ix3 b p n)
    = ∑ j : Fin 2, E (ix3 b ⟨(15 - j.val) + p.val, by omega⟩ ⟨0 + n.val, by omega⟩) := by
  pointwise [sums2]
  simp only [Fin.sum_univ_castSucc, Fin.sum_univ_zero, zero_add, Fin.val_castSucc, Fin.val_last]

theorem nums2_at (b : Fin 2) (p : Fin 8192) (n : Fin 128) : nums2 (ix3 b p n) = (((min 2 (p.val + 1) : ℕ) : ℝ) : EReal) := by
  have e : nums2 (ix3 b p n) = (((IntOp.minsi 2#32 (IntOp.addi (BitVec.ofNat 32 p.val) 1#32)).toInt : ℝ) : EReal) := by
    pointwise [nums2]
    all_goals rfl
  rw [e, rows_2 p]
  push_cast
  rfl

theorem rows_4 : ∀ p : Fin 8192, (IntOp.minsi 4#32 (IntOp.addi (BitVec.ofNat 32 p.val) 1#32)).toInt = ((min 4 (p.val + 1) : ℕ) : ℤ) := by
  decide +kernel

/-- The sums over 4 rows. -/
def sums4 (E : FVec Ideal S2x8207x512 .f32) : FVec Ideal S2x8192x128 .f32 :=
  addf (addf (addf (addf (broadcastInDim S2x8192x128 ![] bcast_S_S2x8192x128 (constant S_ .f32 0x00000000#32)) (extractStridedSlice
      S2x8192x128 ![0, 15, 128] E slices_S2x8207x512_S2x8192x128_0_15_128)) (extractStridedSlice S2x8192x128 ![0, 14, 128] E
      slices_S2x8207x512_S2x8192x128_0_14_128)) (extractStridedSlice S2x8192x128 ![0, 13, 128] E
      slices_S2x8207x512_S2x8192x128_0_13_128)) (extractStridedSlice S2x8192x128 ![0, 12, 128] E
      slices_S2x8207x512_S2x8192x128_0_12_128)

/-- The numbers of rows. -/
def nums4 : FVec Ideal S2x8192x128 .f32 :=
  broadcastInDim S2x8192x128 ![0, 1, 2] bcast_S1x8192x1_S2x8192x128_0_1_2 (broadcastInDim S1x8192x1 ![1] bcast_S8192_S1x8192x1_1
      (sitofp .f32 (minsi (broadcastInDim S8192 ![] bcast_S_S8192 (constantI S_ 32 4#32)) (addi (iotaInDim S8192 32 0) (broadcastInDim
      S8192 ![] bcast_S_S8192 (constantI S_ 32 1#32))))))

theorem sums4_at (E : FVec Ideal S2x8207x512 .f32) (b : Fin 2) (p : Fin 8192) (n : Fin 128) : sums4 E (ix3 b p n)
    = ∑ j : Fin 4, E (ix3 b ⟨(15 - j.val) + p.val, by omega⟩ ⟨128 + n.val, by omega⟩) := by
  pointwise [sums4]
  simp only [Fin.sum_univ_castSucc, Fin.sum_univ_zero, zero_add, Fin.val_castSucc, Fin.val_last]

theorem nums4_at (b : Fin 2) (p : Fin 8192) (n : Fin 128) : nums4 (ix3 b p n) = (((min 4 (p.val + 1) : ℕ) : ℝ) : EReal) := by
  have e : nums4 (ix3 b p n) = (((IntOp.minsi 4#32 (IntOp.addi (BitVec.ofNat 32 p.val) 1#32)).toInt : ℝ) : EReal) := by
    pointwise [nums4]
    all_goals rfl
  rw [e, rows_4 p]
  push_cast
  rfl

theorem rows_8 : ∀ p : Fin 8192, (IntOp.minsi 8#32 (IntOp.addi (BitVec.ofNat 32 p.val) 1#32)).toInt = ((min 8 (p.val + 1) : ℕ) : ℤ) := by
  decide +kernel

/-- The sums over 8 rows. -/
def sums8 (E : FVec Ideal S2x8207x512 .f32) : FVec Ideal S2x8192x128 .f32 :=
  addf (addf (addf (addf (addf (addf (addf (addf (broadcastInDim S2x8192x128 ![] bcast_S_S2x8192x128 (constant S_ .f32
      0x00000000#32)) (extractStridedSlice S2x8192x128 ![0, 15, 256] E slices_S2x8207x512_S2x8192x128_0_15_256)) (extractStridedSlice
      S2x8192x128 ![0, 14, 256] E slices_S2x8207x512_S2x8192x128_0_14_256)) (extractStridedSlice S2x8192x128 ![0, 13, 256] E
      slices_S2x8207x512_S2x8192x128_0_13_256)) (extractStridedSlice S2x8192x128 ![0, 12, 256] E
      slices_S2x8207x512_S2x8192x128_0_12_256)) (extractStridedSlice S2x8192x128 ![0, 11, 256] E
      slices_S2x8207x512_S2x8192x128_0_11_256)) (extractStridedSlice S2x8192x128 ![0, 10, 256] E
      slices_S2x8207x512_S2x8192x128_0_10_256)) (extractStridedSlice S2x8192x128 ![0, 9, 256] E slices_S2x8207x512_S2x8192x128_0_9_256))
      (extractStridedSlice S2x8192x128 ![0, 8, 256] E slices_S2x8207x512_S2x8192x128_0_8_256)

/-- The numbers of rows. -/
def nums8 : FVec Ideal S2x8192x128 .f32 :=
  broadcastInDim S2x8192x128 ![0, 1, 2] bcast_S1x8192x1_S2x8192x128_0_1_2 (broadcastInDim S1x8192x1 ![1] bcast_S8192_S1x8192x1_1
      (sitofp .f32 (minsi (broadcastInDim S8192 ![] bcast_S_S8192 (constantI S_ 32 8#32)) (addi (iotaInDim S8192 32 0) (broadcastInDim
      S8192 ![] bcast_S_S8192 (constantI S_ 32 1#32))))))

theorem sums8_at (E : FVec Ideal S2x8207x512 .f32) (b : Fin 2) (p : Fin 8192) (n : Fin 128) : sums8 E (ix3 b p n)
    = ∑ j : Fin 8, E (ix3 b ⟨(15 - j.val) + p.val, by omega⟩ ⟨256 + n.val, by omega⟩) := by
  pointwise [sums8]
  simp only [Fin.sum_univ_castSucc, Fin.sum_univ_zero, zero_add, Fin.val_castSucc, Fin.val_last]

theorem nums8_at (b : Fin 2) (p : Fin 8192) (n : Fin 128) : nums8 (ix3 b p n) = (((min 8 (p.val + 1) : ℕ) : ℝ) : EReal) := by
  have e : nums8 (ix3 b p n) = (((IntOp.minsi 8#32 (IntOp.addi (BitVec.ofNat 32 p.val) 1#32)).toInt : ℝ) : EReal) := by
    pointwise [nums8]
    all_goals rfl
  rw [e, rows_8 p]
  push_cast
  rfl

theorem rows_16 : ∀ p : Fin 8192, (IntOp.minsi 16#32 (IntOp.addi (BitVec.ofNat 32 p.val) 1#32)).toInt = ((min 16 (p.val + 1) : ℕ) : ℤ) := by
  decide +kernel

/-- The sums over 16 rows. -/
def sums16 (E : FVec Ideal S2x8207x512 .f32) : FVec Ideal S2x8192x128 .f32 :=
  addf (addf (addf (addf (addf (addf (addf (addf (addf (addf (addf (addf (addf (addf (addf (addf (broadcastInDim S2x8192x128 ![]
      bcast_S_S2x8192x128 (constant S_ .f32 0x00000000#32)) (extractStridedSlice S2x8192x128 ![0, 15, 384] E
      slices_S2x8207x512_S2x8192x128_0_15_384)) (extractStridedSlice S2x8192x128 ![0, 14, 384] E
      slices_S2x8207x512_S2x8192x128_0_14_384)) (extractStridedSlice S2x8192x128 ![0, 13, 384] E
      slices_S2x8207x512_S2x8192x128_0_13_384)) (extractStridedSlice S2x8192x128 ![0, 12, 384] E
      slices_S2x8207x512_S2x8192x128_0_12_384)) (extractStridedSlice S2x8192x128 ![0, 11, 384] E
      slices_S2x8207x512_S2x8192x128_0_11_384)) (extractStridedSlice S2x8192x128 ![0, 10, 384] E
      slices_S2x8207x512_S2x8192x128_0_10_384)) (extractStridedSlice S2x8192x128 ![0, 9, 384] E slices_S2x8207x512_S2x8192x128_0_9_384))
      (extractStridedSlice S2x8192x128 ![0, 8, 384] E slices_S2x8207x512_S2x8192x128_0_8_384)) (extractStridedSlice S2x8192x128 ![0, 7,
      384] E slices_S2x8207x512_S2x8192x128_0_7_384)) (extractStridedSlice S2x8192x128 ![0, 6, 384] E
      slices_S2x8207x512_S2x8192x128_0_6_384)) (extractStridedSlice S2x8192x128 ![0, 5, 384] E slices_S2x8207x512_S2x8192x128_0_5_384))
      (extractStridedSlice S2x8192x128 ![0, 4, 384] E slices_S2x8207x512_S2x8192x128_0_4_384)) (extractStridedSlice S2x8192x128 ![0, 3,
      384] E slices_S2x8207x512_S2x8192x128_0_3_384)) (extractStridedSlice S2x8192x128 ![0, 2, 384] E
      slices_S2x8207x512_S2x8192x128_0_2_384)) (extractStridedSlice S2x8192x128 ![0, 1, 384] E slices_S2x8207x512_S2x8192x128_0_1_384))
      (extractStridedSlice S2x8192x128 ![0, 0, 384] E slices_S2x8207x512_S2x8192x128_0_0_384)

/-- The numbers of rows. -/
def nums16 : FVec Ideal S2x8192x128 .f32 :=
  broadcastInDim S2x8192x128 ![0, 1, 2] bcast_S1x8192x1_S2x8192x128_0_1_2 (broadcastInDim S1x8192x1 ![1] bcast_S8192_S1x8192x1_1
      (sitofp .f32 (minsi (broadcastInDim S8192 ![] bcast_S_S8192 (constantI S_ 32 16#32)) (addi (iotaInDim S8192 32 0) (broadcastInDim
      S8192 ![] bcast_S_S8192 (constantI S_ 32 1#32))))))

theorem sums16_at (E : FVec Ideal S2x8207x512 .f32) (b : Fin 2) (p : Fin 8192) (n : Fin 128) : sums16 E (ix3 b p n)
    = ∑ j : Fin 16, E (ix3 b ⟨(15 - j.val) + p.val, by omega⟩ ⟨384 + n.val, by omega⟩) := by
  pointwise [sums16]
  simp only [Fin.sum_univ_castSucc, Fin.sum_univ_zero, zero_add, Fin.val_castSucc, Fin.val_last]
  simp only [Nat.reduceSub, Nat.zero_add]

theorem nums16_at (b : Fin 2) (p : Fin 8192) (n : Fin 128) : nums16 (ix3 b p n) = (((min 16 (p.val + 1) : ℕ) : ℝ) : EReal) := by
  have e : nums16 (ix3 b p n) = (((IntOp.minsi 16#32 (IntOp.addi (BitVec.ofNat 32 p.val) 1#32)).toInt : ℝ) : EReal) := by
    pointwise [nums16]
    all_goals rfl
  rw [e, rows_16 p]
  push_cast
  rfl

/-- The means, the four groups side by side. -/
def means (E : FVec Ideal S2x8207x512 .f32) : FVec Ideal S2x8192x512 .f32 :=
  concatenate S2x8192x512 2 [⟨S2x8192x128, (Host.divf (sums2 E) nums2 : (⟨S2x8192x128, .f32⟩ : BufTy).Contents (Elt Ideal))⟩,
      ⟨S2x8192x128, (Host.divf (sums4 E) nums4 : (⟨S2x8192x128, .f32⟩ : BufTy).Contents (Elt Ideal))⟩,
      ⟨S2x8192x128, (Host.divf (sums8 E) nums8 : (⟨S2x8192x128, .f32⟩ : BufTy).Contents (Elt Ideal))⟩,
      ⟨S2x8192x128, (Host.divf (sums16 E) nums16 : (⟨S2x8192x128, .f32⟩ : BufTy).Contents (Elt Ideal))⟩] concatenates_S2x8192x128_S2x8192x128_S2x8192x128_S2x8192x128_S2x8192x512_d2

theorem ref_means : res_main_v193 X = means (res_main_v96 X) := rfl

theorem means_2 (E : FVec Ideal S2x8207x512 .f32) (b : Fin 2) (p : Fin 8192) (c : Fin 128) : means E (ix3 b p ⟨0 + c.val, by omega⟩)
    = Ideal.div (sums2 E (ix3 b p c)) (nums2 (ix3 b p c)) := by
  unfold means
  generalize sums2 E = s
  generalize nums2 = d
  pointwise []

theorem mean_2 (b : Fin 2) (p : Fin 8192) (c : Fin 128) : res_main_v193 X (ix3 b p ⟨0 + c.val, by omega⟩)
    = Ideal.div (∑ j ∈ Finset.range 2, ext (R X) b.val (p.val + 24 - j) (0 + c.val)) (((min 2 (p.val + 1) : ℕ) : ℝ) : EReal) := by
  rw [ref_means, means_2, nums2_at, sums2_at, Finset.sum_range]
  congr 1
  refine Finset.sum_congr rfl fun j _ => ?_
  rw [ref_ext]
  congr 1
  have := j.isLt
  omega

theorem means_4 (E : FVec Ideal S2x8207x512 .f32) (b : Fin 2) (p : Fin 8192) (c : Fin 128) : means E (ix3 b p ⟨128 + c.val, by omega⟩)
    = Ideal.div (sums4 E (ix3 b p c)) (nums4 (ix3 b p c)) := by
  unfold means
  generalize sums4 E = s
  generalize nums4 = d
  pointwise []

theorem mean_4 (b : Fin 2) (p : Fin 8192) (c : Fin 128) : res_main_v193 X (ix3 b p ⟨128 + c.val, by omega⟩)
    = Ideal.div (∑ j ∈ Finset.range 4, ext (R X) b.val (p.val + 24 - j) (128 + c.val)) (((min 4 (p.val + 1) : ℕ) : ℝ) : EReal) := by
  rw [ref_means, means_4, nums4_at, sums4_at, Finset.sum_range]
  congr 1
  refine Finset.sum_congr rfl fun j _ => ?_
  rw [ref_ext]
  congr 1
  have := j.isLt
  omega

theorem means_8 (E : FVec Ideal S2x8207x512 .f32) (b : Fin 2) (p : Fin 8192) (c : Fin 128) : means E (ix3 b p ⟨256 + c.val, by omega⟩)
    = Ideal.div (sums8 E (ix3 b p c)) (nums8 (ix3 b p c)) := by
  unfold means
  generalize sums8 E = s
  generalize nums8 = d
  pointwise []
  rw [dif_neg (by omega), dif_neg (by omega), dif_pos (by omega)]
  congr 3 <;> first | rfl | (apply Fin.ext; simp; try omega)

theorem mean_8 (b : Fin 2) (p : Fin 8192) (c : Fin 128) : res_main_v193 X (ix3 b p ⟨256 + c.val, by omega⟩)
    = Ideal.div (∑ j ∈ Finset.range 8, ext (R X) b.val (p.val + 24 - j) (256 + c.val)) (((min 8 (p.val + 1) : ℕ) : ℝ) : EReal) := by
  rw [ref_means, means_8, nums8_at, sums8_at, Finset.sum_range]
  congr 1
  refine Finset.sum_congr rfl fun j _ => ?_
  rw [ref_ext]
  congr 1
  have := j.isLt
  omega

theorem means_16 (E : FVec Ideal S2x8207x512 .f32) (b : Fin 2) (p : Fin 8192) (c : Fin 128) : means E (ix3 b p ⟨384 + c.val, by omega⟩)
    = Ideal.div (sums16 E (ix3 b p c)) (nums16 (ix3 b p c)) := by
  unfold means
  generalize sums16 E = s
  generalize nums16 = d
  pointwise []
  rw [dif_neg (by omega), dif_neg (by omega), dif_neg (by omega)]
  congr 3 <;> first | rfl | (apply Fin.ext; simp; try omega)

theorem mean_16 (b : Fin 2) (p : Fin 8192) (c : Fin 128) : res_main_v193 X (ix3 b p ⟨384 + c.val, by omega⟩)
    = Ideal.div (∑ j ∈ Finset.range 16, ext (R X) b.val (p.val + 24 - j) (384 + c.val)) (((min 16 (p.val + 1) : ℕ) : ℝ) : EReal) := by
  rw [ref_means, means_16, nums16_at, sums16_at, Finset.sum_range]
  congr 1
  refine Finset.sum_congr rfl fun j _ => ?_
  rw [ref_ext]
  congr 1
  have := j.isLt
  omega

end Cert.Mixer

end
-- ==== Proof.Mixer.RefRow.lean ====
/-
  The pooled rows, the gates, and the rows the mixer's reference gives back, are the layer's.
-/
module

public import proofs.«01_k».proof.Proof.Mixer.RefBase
public import proofs.«01_k».proof.Proof.Mixer.RefSoft

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- The pooled rows. -/
def rpool (w : FVec Ideal S4x128x128 .bf16) (M U : FVec Ideal S2x8192x512 .f32) (a : FVec Ideal S1x512 .f32) : FVec Ideal S2x8192x512 .f32 :=
  (mulf (shapeCast _ (transpose S2x8192x4x128 [2, 3, 0, 1] (Host.dotGeneral
      dot_S4x128x128_S2x8192x4x128_S4x128x2x8192_1_3_2_01_0_2 none (extf .f32 w bitsLt_bf16_f32) (shapeCast _ (subf M U)
      shapeCasts_S2x8192x512_S2x8192x4x128)) transposes_S4x128x2x8192_S2x8192x4x128_2_3_0_1) shapeCasts_S2x8192x4x128_S2x8192x512)
      (broadcastInDim S2x8192x512 ![0, 1, 2] bcast_S1x1x512_S2x8192x512_0_1_2 (broadcastInDim S1x1x512 ![2] bcast_S512_S1x1x512_2
      (shapeCast _ a shapeCasts_S1x512_S512))))

theorem rpool_at (w : FVec Ideal S4x128x128 .bf16) (M U : FVec Ideal S2x8192x512 .f32) (a : FVec Ideal S1x512 .f32) (b : Fin 2) (p : Fin 8192) (n : Fin 512) :
    rpool w M U a (ix3 b p n) = (∑ c : Fin 128, (M (ix3 b p ⟨n.val / 128 * 128 + c.val, by omega⟩) - U (ix3 b p ⟨n.val / 128 * 128 + c.val, by omega⟩))
      * w (ix3 ⟨n.val / 128, by omega⟩ c ⟨n.val % 128, by omega⟩)) * a (ix2 0 n) := by
  pointwise [rpool]
  congr 1
  refine Finset.sum_congr rfl fun c _ => ?_
  rw [mul_comm]

/-- The gates of the pooled rows, -/
def rgate (Z : FVec Ideal S2x8192x4096 .f32) : FVec Ideal S2x8192x1024 .f32 :=
  (Host.divf (broadcastInDim S2x8192x1024 ![] bcast_S_S2x8192x1024 (constant S_ .f32 0x3F800000#32)) (addf (broadcastInDim
      S2x8192x1024 ![] bcast_S_S2x8192x1024 (constant S_ .f32 0x3F800000#32)) (Host.exp (Host.negf (extractStridedSlice S2x8192x1024
      ![0, 0, 2048] Z slices_S2x8192x4096_S2x8192x1024_0_0_2048)))))

/-- and of the attention. -/
def rgate' (Z : FVec Ideal S2x8192x4096 .f32) : FVec Ideal S2x8192x1024 .f32 :=
  (Host.divf (broadcastInDim S2x8192x1024 ![] bcast_S_S2x8192x1024 (constant S_ .f32 0x3F800000#32)) (addf (broadcastInDim
      S2x8192x1024 ![] bcast_S_S2x8192x1024 (constant S_ .f32 0x3F800000#32)) (Host.exp (Host.negf (extractStridedSlice S2x8192x1024
      ![0, 0, 3072] Z slices_S2x8192x4096_S2x8192x1024_0_0_3072)))))

theorem rgate_at (Z : FVec Ideal S2x8192x4096 .f32) (b : Fin 2) (p : Fin 8192) (n : Fin 1024) :
    rgate Z (ix3 b p n) = Ideal.logistic (Z (ix3 b p ⟨2048 + n.val, by omega⟩)) := by
  unfold Ideal.logistic
  rw [← Ideal.ofBits_one_f32]
  pointwise [rgate]

theorem rgate'_at (Z : FVec Ideal S2x8192x4096 .f32) (b : Fin 2) (p : Fin 8192) (n : Fin 1024) :
    rgate' Z (ix3 b p n) = Ideal.logistic (Z (ix3 b p ⟨3072 + n.val, by omega⟩)) := by
  unfold Ideal.logistic
  rw [← Ideal.ofBits_one_f32]
  pointwise [rgate']

/-- The rows given back. -/
def rout (x : FVec Ideal S2x8192x1024 .f32) (g : FVec Ideal S2x8192x1024 .f32) (P : FVec Ideal S2x8192x512 .f32) (h T : FVec Ideal S2x8192x1024 .f32) (wp : FVec Ideal S512x1024 .bf16) (wa wo : FVec Ideal S1024x1024 .bf16) : FVec Ideal S2x8192x1024 .f32 :=
  addf x (Host.dotGeneral dot_S2x8192x1024_S1024x1024_S2x8192x1024_2_0_01_1_n_n none (addf (mulf g (Host.dotGeneral
      dot_S2x8192x512_S512x1024_S2x8192x1024_2_0_01_1_n_n none P (extf .f32 wp bitsLt_bf16_f32))) (mulf h (Host.dotGeneral
      dot_S2x8192x1024_S1024x1024_S2x8192x1024_2_0_01_1_n_n none T (extf .f32 wa bitsLt_bf16_f32)))) (extf .f32 wo bitsLt_bf16_f32))

theorem rout_at (x : FVec Ideal S2x8192x1024 .f32) (g : FVec Ideal S2x8192x1024 .f32) (P : FVec Ideal S2x8192x512 .f32) (h T : FVec Ideal S2x8192x1024 .f32) (wp : FVec Ideal S512x1024 .bf16) (wa wo : FVec Ideal S1024x1024 .bf16) (b : Fin 2) (p : Fin 8192) (l : Fin 1024) :
    rout x g P h T wp wa wo (ix3 b p l) = x (ix3 b p l) + ∑ j : Fin 1024, (g (ix3 b p j) * (∑ i : Fin 512, P (ix3 b p i) * wp (ix2 i j))
      + h (ix3 b p j) * ∑ i : Fin 1024, T (ix3 b p i) * wa (ix2 i j)) * wo (ix2 j l) := by
  pointwise [rout]

end Cert.Mixer

end
-- ==== Proof.Mixer.RefOut.lean ====
/-
  The rows the mixer's reference gives back are the layer's.
-/
module

public import proofs.«01_k».proof.Proof.Mixer.RefHeads
public import proofs.«01_k».proof.Proof.Mixer.RefMean
public import proofs.«01_k».proof.Proof.Mixer.RefRow

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

/-- A row's mean over its column's window. -/
theorem ref_mean (b : Fin 2) (p : Fin 8192) (n : Fin 512) : res_main_v193 X (ix3 b p n)
    = Ideal.div (∑ j ∈ Finset.range (width n.val), ext (R X) b.val (p.val + 24 - j) n.val) (((min (width n.val) (p.val + 1) : ℕ) : ℝ) : EReal) := by
  have hn : n.val / 128 = 0 ∨ n.val / 128 = 1 ∨ n.val / 128 = 2 ∨ n.val / 128 = 3 := by omega
  unfold width
  rcases hn with h | h | h | h
  · have e := mean_2 X b p ⟨n.val - 0, by omega⟩
    have i : (⟨0 + (n.val - 0), by omega⟩ : Fin 512) = n := Fin.ext (by show 0 + (n.val - 0) = n.val; omega)
    rw [h, ← i]
    exact e
  · have e := mean_4 X b p ⟨n.val - 128, by omega⟩
    have i : (⟨128 + (n.val - 128), by omega⟩ : Fin 512) = n := Fin.ext (by show 128 + (n.val - 128) = n.val; omega)
    rw [h, ← i]
    exact e
  · have e := mean_8 X b p ⟨n.val - 256, by omega⟩
    have i : (⟨256 + (n.val - 256), by omega⟩ : Fin 512) = n := Fin.ext (by show 256 + (n.val - 256) = n.val; omega)
    rw [h, ← i]
    exact e
  · have e := mean_16 X b p ⟨n.val - 384, by omega⟩
    have i : (⟨384 + (n.val - 384), by omega⟩ : Fin 512) = n := Fin.ext (by show 384 + (n.val - 384) = n.val; omega)
    rw [h, ← i]
    exact e

theorem ref_pool (b : Fin 2) (p : Fin 8192) (n : Fin 512) :
    rpool (X (Proc.devRef .tc main_arg3)) (res_main_v193 X) (res_main_v17 X) (X (Proc.devRef .tc main_arg4)) (ix3 b p n) = pooled (R X) b.val p.val n.val := by
  rw [rpool_at]
  unfold pooled centred
  have ea : (R X).ps n.val = X (Proc.devRef .tc main_arg4) (ix2 0 n) := by
    unfold R entries
    show X (Proc.devRef .tc main_arg4) (ix2 0 (idx 512 n.val)) = _
    rw [idx_val]
  rw [ea]
  congr 1
  refine Finset.sum_congr rfl fun c _ => ?_
  rw [ref_mean, ref_u]
  have ew : (R X).gw (n.val / 128) c.val (n.val % 128) = X (Proc.devRef .tc main_arg3) (ix3 (⟨n.val / 128, by omega⟩ : Fin 4) c (⟨n.val % 128, by omega⟩ : Fin 128)) := by
    unfold R entries
    show X (Proc.devRef .tc main_arg3) (ix3 (idx 4 (n.val / 128)) (idx 128 c.val) (idx 128 (n.val % 128))) = _
    rw [idx_val c, show idx 4 (n.val / 128) = ⟨n.val / 128, by omega⟩ from idx_val (⟨n.val / 128, by omega⟩ : Fin 4),
      show idx 128 (n.val % 128) = ⟨n.val % 128, by omega⟩ from idx_val (⟨n.val % 128, by omega⟩ : Fin 128)]
  rw [ew]
  show (Ideal.div (∑ j ∈ Finset.range (width (n.val / 128 * 128 + c.val)), ext (R X) b.val (p.val + 24 - j) (n.val / 128 * 128 + c.val))
    (((min (width (n.val / 128 * 128 + c.val)) (p.val + 1) : ℕ) : ℝ) : EReal) - u (R X) b.val p.val (n.val / 128 * 128 + c.val)) * _ = _
  rw [Nat.mul_comm (n.val / 128) 128]

theorem ref_gate (b : Fin 2) (p : Fin 8192) (j : Fin 1024) : rgate (res_main_v16 X) (ix3 b p j) = gate (R X) b.val p.val j.val := by
  rw [rgate_at, ref_z]
  rfl

theorem ref_gate' (b : Fin 2) (p : Fin 8192) (j : Fin 1024) : rgate' (res_main_v16 X) (ix3 b p j) = gate (R X) b.val p.val (1024 + j.val) := by
  rw [rgate'_at, ref_z]
  unfold gate
  show Ideal.logistic (z (R X) b.val p.val (3072 + j.val)) = _
  rw [show 2048 + (1024 + j.val) = 3072 + j.val by omega]

/-- The rows given back, by their pieces. -/
def rh1 : FVec Ideal S2x8192x1024 .f32 :=
  rout (X (Proc.devRef .tc main_arg0)) (rgate (res_main_v16 X))
    (rpool (X (Proc.devRef .tc main_arg3)) (res_main_v193 X) (res_main_v17 X) (X (Proc.devRef .tc main_arg4)))
    (rgate' (res_main_v16 X)) (ratt (pair (res_main_v206 X)) (rweight (res_main_v264 X)))
    (X (Proc.devRef .tc main_arg6)) (X (Proc.devRef .tc main_arg7)) (X (Proc.devRef .tc main_arg8))

theorem ref_out (low : ∀ (b : Fin 2) (p : Fin 8192) (h : Fin 16) (c : Fin 128), Low (score (R X) b.val p.val h.val c.val))
    (hk : ∀ h : Fin 16, Attn.Num ((R X).sink h.val)) (b : Fin 2) (p : Fin 8192) (l : Fin 1024) :
    rh1 X (ix3 b p l) = out (R X) b.val p.val l.val := by
  have ex : (R X).x b.val p.val l.val = X (Proc.devRef .tc main_arg0) (ix3 b p l) := by
    unfold R entries
    show X (Proc.devRef .tc main_arg0) (ix3 (idx 2 b.val) (idx 8192 p.val) (idx 1024 l.val)) = _
    rw [idx_val, idx_val, idx_val]
  have ep : ∀ (i : Fin 512) (j : Fin 1024), (R X).wpb i.val j.val = X (Proc.devRef .tc main_arg6) (ix2 i j) := fun i j => by
    unfold R entries
    show X (Proc.devRef .tc main_arg6) (ix2 (idx 512 i.val) (idx 1024 j.val)) = _
    rw [idx_val, idx_val]
  have ea : ∀ (i : Fin 1024) (j : Fin 1024), (R X).wab i.val j.val = X (Proc.devRef .tc main_arg7) (ix2 i j) := fun i j => by
    unfold R entries
    show X (Proc.devRef .tc main_arg7) (ix2 (idx 1024 i.val) (idx 1024 j.val)) = _
    rw [idx_val, idx_val]
  have eo : ∀ (i : Fin 1024) (j : Fin 1024), (R X).wout i.val j.val = X (Proc.devRef .tc main_arg8) (ix2 i j) := fun i j => by
    unfold R entries
    show X (Proc.devRef .tc main_arg8) (ix2 (idx 1024 i.val) (idx 1024 j.val)) = _
    rw [idx_val, idx_val]
  have et : ∀ i : Fin 1024, ratt (pair (res_main_v206 X)) (rweight (res_main_v264 X)) (ix3 b p i) = att (R X) b.val p.val i.val := fun i =>
    ref_att X b p i (fun c => low b p ⟨i.val / 64, by omega⟩ c) (hk ⟨i.val / 64, by omega⟩)
  unfold rh1
  rw [rout_at]
  unfold out merged
  simp only [ex, ep, ea, eo, et, ref_pool, ref_gate, ref_gate']

end Cert.Mixer

end
-- ==== Proof.Mixer.RefRows.lean ====
/-
  The rows the mixer's reference gives back are put together from their pieces.
-/
module

public import proofs.«01_k».proof.Proof.Mixer.RefOut

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

theorem ref_h1 (X : Valuation τ sig (Elt Ideal)) : addf (X (Proc.devRef .tc main_arg0)) (Host.dotGeneral dot_S2x8192x1024_S1024x1024_S2x8192x1024_2_0_01_1_n_n none (addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 2048] (res_main_v16 X) slices_S2x8192x4096_S2x8192x1024_0_0_2048))))) (Host.dotGeneral dot_S2x8192x512_S512x1024_S2x8192x1024_2_0_01_1_n_n none (mulf (shapeCast _ (transpose S2x8192x4x128 [2, 3, 0, 1] (Host.dotGeneral dot_S4x128x128_S2x8192x4x128_S4x128x2x8192_1_3_2_01_0_2 none (extf .f32 (X (Proc.devRef .tc main_arg3)) bitsLt_bf16_f32) (shapeCast _ (subf (φ := .f32) (res_main_v193 X) (res_main_v17 X)) shapeCasts_S2x8192x512_S2x8192x4x128)) transposes_S4x128x2x8192_S2x8192x4x128_2_3_0_1) shapeCasts_S2x8192x4x128_S2x8192x512) (broadcastInDim S2x8192x512 ![0, 1, 2] bcast_S1x1x512_S2x8192x512_0_1_2 (broadcastInDim S1x1x512 ![2] bcast_S512_S1x1x512_2 (shapeCast _ (X (Proc.devRef .tc main_arg4)) shapeCasts_S1x512_S512)))) (extf .f32 (X (Proc.devRef .tc main_arg6)) bitsLt_bf16_f32))) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 3072] (res_main_v16 X) slices_S2x8192x4096_S2x8192x1024_0_0_3072))))) (Host.dotGeneral dot_S2x8192x1024_S1024x1024_S2x8192x1024_2_0_01_1_n_n none (shapeCast _ (transpose S2x64x128x4x4x64 [0, 1, 5, 2, 4, 3] (Host.dotGeneral dot_S2x64x256x4x64_S2x64x4x4x128x256_S2x64x4x64x4x128_2_5_4_34_013_012 none (concatenate S2x64x256x4x64 2 [⟨S2x64x128x4x64, (concatenate S2x64x128x4x64 1 [⟨S2x1x128x4x64, (broadcastInDim S2x1x128x4x64 ![] bcast_S_S2x1x128x4x64 (constant S_ .f32 0x00000000#32))⟩, ⟨S2x63x128x4x64, (extractStridedSlice S2x63x128x4x64 ![0, 0, 0, 0, 0] (res_main_v206 X) slices_S2x64x128x4x64_S2x63x128x4x64_0_0_0_0_0)⟩] concatenates_S2x1x128x4x64_S2x63x128x4x64_S2x64x128x4x64_d1)⟩, ⟨S2x64x128x4x64, (res_main_v206 X)⟩] concatenates_S2x64x128x4x64_S2x64x128x4x64_S2x64x256x4x64_d2) (extractStridedSlice S2x64x4x4x128x256 ![0, 0, 0, 0, 0, 0] (Host.divf (res_main_v264 X) (broadcastInDim S2x64x4x4x128x257 ![0, 1, 2, 3, 4, 5] bcast_S2x64x4x4x128x1_S2x64x4x4x128x257_0_1_2_3_4_5 (broadcastInDim S2x64x4x4x128x1 ![0, 1, 2, 3, 4] bcast_S2x64x4x4x128_S2x64x4x4x128x1_0_1_2_3_4 (Host.reduceAdd (res_main_v264 X) (constant S_ .f32 0x00000000#32) reducesTo_S2x64x4x4x128x257_S2x64x4x4x128_d5 h_S_)))) slices_S2x64x4x4x128x257_S2x64x4x4x128x256_0_0_0_0_0_0)) transposes_S2x64x4x64x4x128_S2x64x128x4x4x64_0_1_5_2_4_3) shapeCasts_S2x64x128x4x4x64_S2x8192x1024) (extf .f32 (X (Proc.devRef .tc main_arg7)) bitsLt_bf16_f32)))) (extf .f32 (X (Proc.devRef .tc main_arg8)) bitsLt_bf16_f32)) = rh1 X := rfl

end Cert.Mixer

end
-- ==== Proof.Mixer.RefEnds.lean ====
/-
  The mixer's reference, read at an index: the last keys, values and mixed rows, and the caches one step on.
-/
module

public import proofs.«01_k».proof.Proof.Mixer.RefMean

@[expose] public section

set_option maxRecDepth 16384

noncomputable section

namespace Cert.Mixer

open Cert.Reference3Ideal Cert.Reference3Ideal.Gen Cert.Reference3Ideal.Value Idealize.ShloMosaic Idealize.ShloMosaic.TcCoe Idealize.ShloMosaic.StableHlo

variable (X : Valuation τ sig (Elt Ideal))

theorem ref_ix3_congr {a b c : ℕ} {i i' : Fin a} {j j' : Fin b} {k k' : Fin c} (hi : i = i') (hj : j = j') (hk : k = k') :
    ix3 i j k = ix3 i' j' k' := by
  rw [hi, hj, hk]

theorem ref_flat_at (K : FVec Ideal S2x8192x4x64 .f32) (b : Fin 2) (p : Fin 8192) (n : Fin 256) :
    shapeCast S2x8192x256 K shapeCasts_S2x8192x4x64_S2x8192x256 (ix3 b p n) = K (ix4 b p ⟨n.val / 64, by omega⟩ ⟨n.val % 64, by omega⟩) := by
  pointwise []

theorem ref_tail_at (C : FVec Ideal S2x8192x256 .f32) (b : Fin 2) (n : Fin 256) (s : Fin 128) :
    transpose S2x256x128 [0, 2, 1] (extractStridedSlice S2x128x256 ![0, 8064, 0] C slices_S2x8192x256_S2x128x256_0_8064_0)
      transposes_S2x128x256_S2x256x128_0_2_1 (ix3 b n s) = C (ix3 b ⟨8064 + s.val, by omega⟩ n) := by
  pointwise []

theorem ref_lastKeys (b : Fin 2) (n : Fin 256) (s : Fin 128) : (transpose S2x256x128 [0, 2, 1] (extractStridedSlice S2x128x256 ![0, 8064, 0] (shapeCast _ (res_main_v92 X) shapeCasts_S2x8192x4x64_S2x8192x256) slices_S2x8192x256_S2x128x256_0_8064_0) transposes_S2x128x256_S2x256x128_0_2_1) (ix3 b n s)
    = k (R X) b.val (8064 + s.val) n.val := by
  have hs := s.isLt
  have hn := n.isLt
  have hd : 64 * (n.val / 64) + n.val % 64 = n.val := by omega
  exact (ref_tail_at _ b n s).trans ((ref_flat_at (res_main_v92 X) b ⟨8064 + s.val, by omega⟩ n).trans
    ((ref_k X b ⟨8064 + s.val, by omega⟩ ⟨n.val / 64, by omega⟩ ⟨n.val % 64, by omega⟩).trans
      (congrArg (k (R X) b.val (8064 + s.val)) hd)))

theorem ref_lastVals (b : Fin 2) (n : Fin 256) (s : Fin 128) : (transpose S2x256x128 [0, 2, 1] (extractStridedSlice S2x128x256 ![0, 8064, 0] (res_main_v20 X) slices_S2x8192x256_S2x128x256_0_8064_0) transposes_S2x128x256_S2x256x128_0_2_1) (ix3 b n s)
    = v (R X) b.val (8064 + s.val) n.val := by
  have hs := s.isLt
  have e := ref_v X b ⟨8064 + s.val, by omega⟩ n
  dsimp only at e
  rw [← e]
  generalize res_main_v20 X = K
  pointwise []

theorem ref_state (b : Fin 2) (s : Fin 15) (n : Fin 512) : (extractStridedSlice S2x15x512 ![0, 8192, 0] (res_main_v96 X) slices_S2x8207x512_S2x15x512_0_8192_0) (ix3 b s n)
    = ext (R X) b.val (8201 + s.val) n.val := by
  have hs := s.isLt
  have e := ref_ext X b (8192 + s.val) (by omega) n
  rw [show 8192 + s.val + 9 = 8201 + s.val by omega] at e
  rw [← e]
  generalize res_main_v96 X = K
  pointwise []

theorem ref_nextKeys (a : Fin 128) (b : Fin 256) (s : Fin 128) : (concatenate S128x256x128 2 [⟨S128x256x127, (extractStridedSlice S128x256x127 ![0, 0, 1] (X (Proc.devRef .tc main_arg11)) slices_S128x256x128_S128x256x127_0_0_1)⟩, ⟨S128x256x1, (broadcastInDim S128x256x1 ![0, 1] bcast_S128x256_S128x256x1_0_1 (transpose S128x256 [1, 0] (X (Proc.devRef .tc main_arg9)) transposes_S256x128_S128x256_1_0))⟩] concatenates_S128x256x127_S128x256x1_S128x256x128_d2) (ix3 a b s)
    = if s.val = 127 then X (Proc.devRef .tc main_arg9) (ix2 b a) else X (Proc.devRef .tc main_arg11) (ix3 a b (⟨(s.val + 1) % 128, Nat.mod_lt _ (by decide)⟩ : Fin 128)) := by
  generalize X (Proc.devRef .tc main_arg9) = x
  generalize X (Proc.devRef .tc main_arg11) = z
  have hs := s.isLt
  by_cases h : s.val = 127
  · rw [if_pos h]
    pointwise []
    rw [dif_neg (by omega)]
  · rw [if_neg h]
    pointwise []
    rw [dif_pos (by omega)]
    refine congrArg z (ref_ix3_congr rfl rfl (Fin.ext ?_))
    show 1 + s.val = (s.val + 1) % 128
    omega

theorem ref_nextVals (a : Fin 128) (b : Fin 256) (s : Fin 128) : (concatenate S128x256x128 2 [⟨S128x256x127, (extractStridedSlice S128x256x127 ![0, 0, 1] (X (Proc.devRef .tc main_arg12)) slices_S128x256x128_S128x256x127_0_0_1)⟩, ⟨S128x256x1, (broadcastInDim S128x256x1 ![0, 1] bcast_S128x256_S128x256x1_0_1 (transpose S128x256 [1, 0] (X (Proc.devRef .tc main_arg10)) transposes_S256x128_S128x256_1_0))⟩] concatenates_S128x256x127_S128x256x1_S128x256x128_d2) (ix3 a b s)
    = if s.val = 127 then X (Proc.devRef .tc main_arg10) (ix2 b a) else X (Proc.devRef .tc main_arg12) (ix3 a b (⟨(s.val + 1) % 128, Nat.mod_lt _ (by decide)⟩ : Fin 128)) := by
  generalize X (Proc.devRef .tc main_arg10) = x
  generalize X (Proc.devRef .tc main_arg12) = z
  have hs := s.isLt
  by_cases h : s.val = 127
  · rw [if_pos h]
    pointwise []
    rw [dif_neg (by omega)]
  · rw [if_neg h]
    pointwise []
    rw [dif_pos (by omega)]
    refine congrArg z (ref_ix3_congr rfl rfl (Fin.ext ?_))
    show 1 + s.val = (s.val + 1) % 128
    omega

end Cert.Mixer

end
-- ==== Proof.Mixer.Finite.lean ====
/-
  Where the activations, the norm's scale, the input projection and the sinks are finite numbers, every score of the mixer's
  attention is a number, or the infinity below where there is no key.
-/
module

public import proofs.«01_k».proof.Proof.Mixer.Entries
public import proofs.«01_k».proof.Proof.Mixer.Soft

@[expose] public section

noncomputable section

namespace Cert.Mixer

open Idealize.ShloMosaic Idealize.ShloMosaic.TcCoe Cert.Attn

theorem num_mul {x y : EReal} (hx : Num x) (hy : Num y) : Num (x * y) := by
  obtain ⟨a, rfl⟩ := hx.lift
  obtain ⟨b, rfl⟩ := hy.lift
  rw [← EReal.coe_mul]
  exact Num.coe _

theorem num_add {x y : EReal} (hx : Num x) (hy : Num y) : Num (x + y) := by
  obtain ⟨a, rfl⟩ := hx.lift
  obtain ⟨b, rfl⟩ := hy.lift
  rw [← EReal.coe_add]
  exact Num.coe _

theorem num_neg {x : EReal} (hx : Num x) : Num (-x) := by
  obtain ⟨a, rfl⟩ := hx.lift
  rw [← EReal.coe_neg]
  exact Num.coe _

theorem num_sub {x y : EReal} (hx : Num x) (hy : Num y) : Num (x - y) := by
  obtain ⟨a, rfl⟩ := hx.lift
  obtain ⟨b, rfl⟩ := hy.lift
  rw [← EReal.coe_sub]
  exact Num.coe _

theorem num_div {x : EReal} (hx : Num x) {r : ℝ} (hr : r ≠ 0) : Num (Ideal.div x (r : EReal)) := by
  rw [Ideal.div_coe hr]
  exact num_mul hx (Num.coe _)

theorem num_cos {x : EReal} (hx : Num x) : Num (Ideal.cos x) := by
  obtain ⟨a, rfl⟩ := hx.lift
  exact Num.coe _

theorem num_sin {x : EReal} (hx : Num x) : Num (Ideal.sin x) := by
  obtain ⟨a, rfl⟩ := hx.lift
  exact Num.coe _

theorem num_pow {x y : EReal} (hx : Num x) (hy : Num y) : Num (Ideal.pow x y) := by
  obtain ⟨a, rfl⟩ := hx.lift
  obtain ⟨b, rfl⟩ := hy.lift
  rw [Ideal.pow_coe_coe]
  exact Num.coe _

/-! ## The constants -/

theorem c1024 : ∃ r : ℝ, 0 < r ∧ Ideal.ofBits .f32 0x44800000#32 = (r : EReal) := by
  simp only [Ideal.ofBits, Ideal.ieee]
  rw [if_neg (by decide), if_neg (by decide), if_neg (by decide)]
  refine ⟨_, ?_, rfl⟩
  norm_num
  positivity

theorem ceps : ∃ r : ℝ, 0 < r ∧ Ideal.ofBits .f32 0x358637BD#32 = (r : EReal) := by
  simp only [Ideal.ofBits, Ideal.ieee]
  rw [if_neg (by decide), if_neg (by decide), if_neg (by decide)]
  refine ⟨_, ?_, rfl⟩
  norm_num
  positivity

theorem cbase : ∃ r : ℝ, 0 < r ∧ Ideal.ofBits .f32 0x48F42400#32 = (r : EReal) := by
  simp only [Ideal.ofBits, Ideal.ieee]
  rw [if_neg (by decide), if_neg (by decide), if_neg (by decide)]
  refine ⟨_, ?_, rfl⟩
  norm_num
  positivity

theorem ctwo : ∃ r : ℝ, 0 < r ∧ Ideal.ofBits .f32 0x40000000#32 = (r : EReal) := by
  simp only [Ideal.ofBits, Ideal.ieee]
  rw [if_neg (by decide), if_neg (by decide), if_neg (by decide)]
  refine ⟨_, ?_, rfl⟩
  norm_num
  positivity

theorem c16 : ∃ r : ℝ, 0 < r ∧ Ideal.ofBits .f32 0x41800000#32 = (r : EReal) := by
  simp only [Ideal.ofBits, Ideal.ieee]
  rw [if_neg (by decide), if_neg (by decide), if_neg (by decide)]
  refine ⟨_, ?_, rfl⟩
  norm_num
  positivity

theorem num_int (w : BitVec 32) : Num (FloatOps.sitofp (F := Ideal) .f32 w) := Num.coe (w.toInt : ℝ)

theorem num_angle (p e : ℕ) : Num (angle p e) := by
  obtain ⟨a, -, ha⟩ := cbase
  obtain ⟨b, -, hb⟩ := ctwo
  obtain ⟨d, hd, hd'⟩ := c16
  unfold angle
  rw [ha, hb, hd']
  exact num_mul (num_int _) (num_pow (Num.coe _) (num_neg (num_div (num_mul (Num.coe _) (num_int _)) hd.ne')))

/-! ## The rows -/

theorem num_rms {x g : Fin 1024 → EReal} (hx : ∀ k, Num (x k)) (hg : ∀ k, Num (g k)) (l : Fin 1024) : Num (Ffn.rms x g l) := by
  obtain ⟨a, ha, ha'⟩ := c1024
  obtain ⟨e, he, he'⟩ := ceps
  choose r hr using fun k => (hx k).lift
  have hs : ∑ k, x k * x k = ((∑ k, r k * r k : ℝ) : EReal) := by
    rw [coe_sum]
    exact Finset.sum_congr rfl fun k _ => by rw [hr k, EReal.coe_mul]
  have h0 : 0 ≤ ∑ k, r k * r k := Finset.sum_nonneg fun k _ => mul_self_nonneg (r k)
  have hp : 0 < (∑ k, r k * r k) * (1 / a) + e := by positivity
  unfold Ffn.rms
  rw [hs, ha', he', Ideal.div_coe ha.ne', ← EReal.coe_mul, ← EReal.coe_add, Ideal.rsqrt_coe, if_neg (not_lt.2 hp.le), if_neg hp.ne']
  exact num_mul (num_mul (hx l) (Num.coe _)) (hg l)

/-- The entries the scores depend on are numbers. -/
structure Finite (D : Data) : Prop where
  x : ∀ b p l, Num (D.x b p l)
  ln1 : ∀ l, Num (D.ln1 l)
  w : ∀ j n, Num (D.w j n)
  sink : ∀ h, Num (D.sink h)
  cos : ∀ p e, Num (D.cos p e)
  sin : ∀ p e, Num (D.sin p e)

variable {D : Data} (h : Finite D)
include h

theorem num_z (b p n : ℕ) : Num (z D b p n) :=
  Num.sum_mul (fun j => num_rms (fun j => h.x b p j) (fun j => h.ln1 j) j) (fun j => h.w j n)

theorem num_rope {f : ℕ → EReal} (hf : ∀ n, Num (f n)) (p n : ℕ) : Num (rope D f p n) := by
  unfold rope
  split_ifs
  · exact num_sub (num_mul (hf _) (h.cos _ _)) (num_mul (hf _) (h.sin _ _))
  · exact num_add (num_mul (hf _) (h.cos _ _)) (num_mul (hf _) (h.sin _ _))
  · exact hf _

theorem low_score (b p hd c : ℕ) : Low (score D b p hd c) := by
  unfold score
  split_ifs
  · exact .inl rfl
  · exact .inr (num_mul (Num.sum_mul (fun d => num_rope h (fun n => num_z h b _ _) _ _) fun d => num_rope h (fun n => num_z h b _ _) _ _) (Num.coe _))

end Cert.Mixer

end
-- ==== Proof.Mixer.Pre.lean ====
/-
  The precondition of the mixer's claim, read at an index: the activations, the norm's scale, the input projection and the
  sinks are finite numbers.
-/
module

public import proofs.«01_k».proof.Defs
public import proofs.«01_k».proof.Proof.Mixer.Finite
public import proofs.«01_k».proof.Proof.Mixer.Blocks
public import proofs.«01_k».proof.Proof.Gen.Pre_finite_inputs
public import proofs.«01_k».proof.Proof.Gen.Kernel3Ideal
public import Idealize.ShloMosaic.Lib.Pointwise

@[expose] public section

noncomputable section

namespace Cert.Mixer

open Idealize.ShloMosaic Idealize.ShloMosaic.TcCoe Cert.Kernel3Ideal Cert.Attn

/-- A magnitude below infinity is that of a finite number. -/
theorem finite_of_lt {x : EReal} (h : FloatOps.cmpf (F := Ideal) (φ := .f32) .olt (max x (-x)) (Ideal.ofBits .f32 0x7F800000#32) = 1#1) :
    Num x := by
  have hi : Ideal.ofBits .f32 0x7F800000#32 = ⊤ := by simp [Ideal.ofBits, Ideal.ieee]
  rw [hi] at h
  constructor
  · rintro rfl
    simp [FloatOps.cmpf, Ideal.cmp] at h
  · rintro rfl
    simp [FloatOps.cmpf, Ideal.cmp] at h

variable {m : (ℓ : Loc nD τ sig) → Buf (Elt Ideal) ℓ}

theorem pre_x (h : Cert.Pre_Kernel3Ideal_finite_inputs m) (c : Dev nD) (b : Fin 2) (p : Fin 8192) (l : Fin 1024) :
    Num (m (c, Proc.tc.devRef main_arg0) (ix3 b p l)) := by
  have := congrFun (h c).1 (ix3 b p l)
  refine finite_of_lt ?_
  refine Eq.trans ?_ this
  unfold Cert.Pre_finite_inputs.fn
  pointwise []
  rfl

theorem pre_ln (h : Cert.Pre_Kernel3Ideal_finite_inputs m) (c : Dev nD) (l : Fin 1024) :
    Num (m (c, Proc.tc.devRef main_arg1) (ix2 0 l)) := by
  have := congrFun (h c).2.1 (ix2 0 l)
  refine finite_of_lt ?_
  refine Eq.trans ?_ this
  unfold Cert.Pre_finite_inputs.fn
  pointwise []
  rfl

theorem pre_w (h : Cert.Pre_Kernel3Ideal_finite_inputs m) (c : Dev nD) (j : Fin 1024) (n : Fin 4096) :
    Num (m (c, Proc.tc.devRef main_arg2) (ix2 j n)) := by
  have := congrFun (h c).2.2.1 (ix2 j n)
  refine finite_of_lt ?_
  refine Eq.trans ?_ this
  unfold Cert.Pre_finite_inputs.fn
  pointwise []
  rfl

theorem pre_sink (h : Cert.Pre_Kernel3Ideal_finite_inputs m) (c : Dev nD) (k : Fin 16) :
    Num (m (c, Proc.tc.devRef main_arg5) (ix1 k)) := by
  have := congrFun (h c).2.2.2 (ix1 k)
  refine finite_of_lt ?_
  refine Eq.trans ?_ this
  unfold Cert.Pre_finite_inputs.fn
  pointwise []
  rfl

theorem finite (h : Cert.Pre_Kernel3Ideal_finite_inputs m) (c : Dev nD) : Finite (D m c) where
  x b p l := pre_x h c _ _ _
  ln1 l := pre_ln h c _
  w j n := pre_w h c _ _
  sink k := pre_sink h c _
  cos p e := num_cos (num_angle p e)
  sin p e := num_sin (num_angle p e)

end Cert.Mixer

end
-- ==== Proof.Mixer.Claim.lean ====
/-
  The claim about the mixer's call: the kernel's rows, last keys, values and mixed rows, shifted caches and cast weights and the
  reference's are the same functions of arguments that agree, the entries the scores depend on being finite numbers.
-/
module

public import proofs.«01_k».proof.Defs
public import proofs.«01_k».proof.Proof.Mixer.Results
public import proofs.«01_k».proof.Proof.Mixer.RefRows
public import proofs.«01_k».proof.Proof.Mixer.RefEnds
public import proofs.«01_k».proof.Proof.Mixer.Pre
public import Idealize.ShloMosaic.Lib.Claim

@[expose] public section

noncomputable section

namespace Cert.Mixer

open Idealize.ShloMosaic Idealize.ShloMosaic.TcCoe Idealize.SL.Sem

/-- With finite scores the average in the scaled scores is the average in the scores. -/
theorem out2_eq {D : Data} (h : Finite D) (b p l : ℕ) : out2 D b p l = out D b p l := by
  have e : ∀ n, att2 D b p n = att D b p n := fun n => att2_eq D b p n (fun c => low_score h b p (n / 64) c.val) (h.sink _)
  unfold out2
  simp only [e]
  rfl

set_option maxHeartbeats 4000000 in
theorem algebraic : Cert.algebraic_Kernel3Ideal_Reference3Ideal_pre_finite_inputs := by
  intro m g m' g' hpre hagree
  refine ⟨fun c => mixed m c, fun c => lastKeys m c, fun c => lastVals m c, fun c => state m c, fun c => nextKeys m c,
    fun c => nextVals m c, fun c => copied13 m c, fun c => copied14 m c, fun c => copied15 m c, fun c => copied16 m c, ?_, ?_⟩
  · exact (θ_run Cert.Kernel3Ideal.defs _ _).mono
      (fun _ h c => ⟨(h.1 c).1, (h.1 c).2.1, (h.1 c).2.2.1, (h.1 c).2.2.2.1, (h.1 c).2.2.2.2.1, (h.1 c).2.2.2.2.2.1,
        (h.1 c).2.2.2.2.2.2.1, (h.1 c).2.2.2.2.2.2.2.1, (h.1 c).2.2.2.2.2.2.2.2.1, (h.1 c).2.2.2.2.2.2.2.2.2, h.2 c⟩)
      (θ_run_and (run_results m g) (unchanged m g))
  · refine (θ_run Cert.Reference3Ideal.defs _ _).mono (fun _ h c => ?_) (Cert.Reference3Ideal.Value.run m' g')
    obtain ⟨a0, a1, a2, a3, a4, a5, a6, a7, a8, a9, a10, a11, a12, a13, a14, a15, a16⟩ := hagree c
    obtain ⟨r0, r1, r2, r3, r4, r5, r6, r7, r8, r9, rest⟩ := h c
    have hf := finite hpre c
    have hR : R (StableHlo.launchContents m' c) = D m c := by
      show entries (m' (c.tc.loc Cert.Reference3Ideal.main_arg0)) (m' (c.tc.loc Cert.Reference3Ideal.main_arg1)) (m' (c.tc.loc Cert.Reference3Ideal.main_arg2))
        (m' (c.tc.loc Cert.Reference3Ideal.main_arg3)) (m' (c.tc.loc Cert.Reference3Ideal.main_arg4)) (m' (c.tc.loc Cert.Reference3Ideal.main_arg5))
        (m' (c.tc.loc Cert.Reference3Ideal.main_arg6)) (m' (c.tc.loc Cert.Reference3Ideal.main_arg7)) (m' (c.tc.loc Cert.Reference3Ideal.main_arg8)) = _
      rw [a0, a1, a2, a3, a4, a5, a6, a7, a8]
      rfl
    refine ⟨r0.trans ?_, r1.trans ?_, r2.trans ?_, r3.trans ?_, r4.trans ?_, r5.trans ?_, r6.trans ?_, r7.trans ?_, r8.trans ?_,
      r9.trans ?_, rest⟩
    · refine (ref_h1 _).trans ?_
      refine funext fun (i : Cert.Reference3Ideal.S2x8192x1024.Idx) => ?_
      conv_lhs => rw [eq_ix3 i]
      refine (ref_out _ (fun b p h c => ?_) (fun h => ?_) (i 0) (i 1) (i 2)).trans ?_
      · rw [hR]; exact low_score hf _ _ _ _
      · rw [hR]; exact hf.sink _
      · rw [hR]; exact (out2_eq hf _ _ _).symm
    · refine funext fun (i : Cert.Reference3Ideal.S2x256x128.Idx) => ?_
      conv_lhs => rw [eq_ix3 i]
      refine (ref_lastKeys _ (i 0) (i 1) (i 2)).trans ?_
      rw [hR]; rfl
    · refine funext fun (i : Cert.Reference3Ideal.S2x256x128.Idx) => ?_
      conv_lhs => rw [eq_ix3 i]
      refine (ref_lastVals _ (i 0) (i 1) (i 2)).trans ?_
      rw [hR]; rfl
    · refine funext fun (i : Cert.Reference3Ideal.S2x15x512.Idx) => ?_
      conv_lhs => rw [eq_ix3 i]
      refine (ref_state _ (i 0) (i 1) (i 2)).trans ?_
      rw [hR]; rfl
    · refine funext fun (i : Cert.Reference3Ideal.S128x256x128.Idx) => ?_
      conv_lhs => rw [eq_ix3 i]
      refine (ref_nextKeys _ (i 0) (i 1) (i 2)).trans ?_
      show (if (i 2).val = 127 then m' (c.tc.loc Cert.Reference3Ideal.main_arg9) _ else m' (c.tc.loc Cert.Reference3Ideal.main_arg11) _) = _
      rw [a9, a11]; rfl
    · refine funext fun (i : Cert.Reference3Ideal.S128x256x128.Idx) => ?_
      conv_lhs => rw [eq_ix3 i]
      refine (ref_nextVals _ (i 0) (i 1) (i 2)).trans ?_
      show (if (i 2).val = 127 then m' (c.tc.loc Cert.Reference3Ideal.main_arg10) _ else m' (c.tc.loc Cert.Reference3Ideal.main_arg12) _) = _
      rw [a10, a12]; rfl
    · exact funext fun i => congrFun a13 i
    · exact funext fun i => congrFun a14 i
    · exact funext fun i => congrFun a15 i
    · exact funext fun i => congrFun a16 i

end Cert.Mixer

end
-- ==== Proof.MixerBits.Frame.lean ====
module

public import proofs.«01_k».proof.Proof.MixerBits.Open
public import proofs.«01_k».proof.Proof.MixerBits.Run
public import Idealize.ShloMosaic.Lib.Claim

@[expose] public section

/-!
# The launch

The whole launch, point by point: what the buffers hold before and after each point, that the body takes the one to the
other, and what every run of the program therefore ends with.
-/

set_option maxRecDepth 16384

noncomputable section

namespace Cert.MixerBits

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The invariant before every point: each scratch at some contents, and the generator register at some state. -/
def Phi (c : Dev nD) (_ : ℕ) : sProp (MT nD τ sig Unit (Elt F) ℕ (UR sig nD τ) ℕ) := Pipeline.ΦA spec0 c

/-- The outputs, of which nothing is stated. -/
def forgets : Fin 29 → Bool := fun w => w.val == 19 || w.val == 20 || w.val == 21 || w.val == 22 || w.val == 23 || w.val == 24 || w.val == 25 || w.val == 26 || w.val == 27 || w.val == 28

/-- The launch's data: the arrays as the launch finds them; after a point each input's buffer at its block and each
    output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ t := Phi c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d

/-- What every point's program ends with. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t)
    ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗ (∃ d, owns (c : Thread nD τ) (ms0_28 t) fullShare d))

/-- What every point's program starts with. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d))
    ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗ (∃ d, owns (c : Thread nD τ) (ms0_28 t) fullShare d))

set_option maxHeartbeats 28800000 in
/-- The program after the opening, at any point, from carried scratch `xs0 … xs5`. -/
theorem sound_rest (c : Dev nD) (t : Fin cfg0.N) (xs0 : Vec F S4x640x128 .bf16) (xs1 : Vec F S4x640x128 .bf16) (xs2 : Vec F S4x640x128 .bf16) (xs3 : Vec F S4x640x128 .bf16) (xs4 : Vec F S536x512 .f32) (xs5 : Vec F S4x536x128 .f32) :
    iprop((owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5 ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)
        ∗ (dats m 0 c).owesAt () t.castSucc
        ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t)
        ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗ (∃ d, owns (c : Thread nD τ) (ms0_28 t) fullShare d))
      ⊢ wp frame (wpE (defs₀ (F := F)) Variants.none c none) Set.univ (rest (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)) (fun _ => bodyPost m c t) := by
  unfold bodyPost
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18,
    show (dats m 0 c).Φ t.succ = Phi c (t.val + 1) from rfl, Phi, PhiA0_eq]
  iintro ⟨⟨HS0, HS1, HS2, HS3, HS4, HS5, HS6, HS7, HS8, HS9⟩, Hg, Ho, H0, H1, H2, H3, H4, H5, H6, H7, H8, H9, H10, H11, H12, H13, H14, H15, H16, H17, H18, H19, H20, H21, H22, H23, H24, H25, H26, H27, H28⟩
  iapply ((run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1 xs2 xs3 xs4 xs5).2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%es0, HS0⟩, ⟨%es1, HS1⟩, ⟨%es2, HS2⟩, ⟨%es3, HS3⟩, ⟨%es4, HS4⟩, HS5, ⟨%fT6, HS6⟩, ⟨%fT7, HS7⟩, ⟨%fT8, HS8⟩, ⟨%fT9, HS9⟩⟩
  isplitl [HS0 HS1 HS2 HS3 HS4 HS5 HS6 HS7 HS8 HS9 Hg]
  · isplitr [Hg]
    swap; · iexact Hg
    isplitl [HS0]
    · iexists _; unfold owns; iexists _; isplitr
      swap; · iexact HS0
      ipureintro; rfl
    isplitl [HS1]
    · iexists _; unfold owns; iexists _; isplitr
      swap; · iexact HS1
      ipureintro; rfl
    isplitl [HS2]
    · iexists _; unfold owns; iexists _; isplitr
      swap; · iexact HS2
      ipureintro; rfl
    isplitl [HS3]
    · iexists _; unfold owns; iexists _; isplitr
      swap; · iexact HS3
      ipureintro; rfl
    isplitl [HS4]
    · iexists _; unfold owns; iexists _; isplitr
      swap; · iexact HS4
      ipureintro; rfl
    isplitl [HS5]
    · iexists _; unfold owns; iexists _; isplitr
      swap; · iexact HS5
      ipureintro; rfl
    isplitl [HS6]
    · iexists _; unfold owns; iexists _; isplitr
      swap; · iexact HS6
      ipureintro; rfl
    isplitl [HS7]
    · iexists _; unfold owns; iexists _; isplitr
      swap; · iexact HS7
      ipureintro; rfl
    isplitl [HS8]
    · iexists _; unfold owns; iexists _; isplitr
      swap; · iexact HS8
      ipureintro; rfl
    iexists _; unfold owns; iexists _; isplitr
    swap; · iexact HS9
    ipureintro; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists _; unfold owns; iexists _; isplitr
    swap; · iexact H19
    ipureintro; rfl
  isplitl [H20]
  · iexists _; unfold owns; iexists _; isplitr
    swap; · iexact H20
    ipureintro; rfl
  isplitl [H21]
  · iexists _; unfold owns; iexists _; isplitr
    swap; · iexact H21
    ipureintro; rfl
  isplitl [H22]
  · iexists _; unfold owns; iexists _; isplitr
    swap; · iexact H22
    ipureintro; rfl
  isplitl [H23]
  · iexists _; unfold owns; iexists _; isplitr
    swap; · iexact H23
    ipureintro; rfl
  isplitl [H24]
  · iexists _; unfold owns; iexists _; isplitr
    swap; · iexact H24
    ipureintro; rfl
  isplitl [H25]
  · iexists _; unfold owns; iexists _; isplitr
    swap; · iexact H25
    ipureintro; rfl
  isplitl [H26]
  · iexists _; unfold owns; iexists _; isplitr
    swap; · iexact H26
    ipureintro; rfl
  isplitl [H27]
  · iexists _; unfold owns; iexists _; isplitr
    swap; · iexact H27
    ipureintro; rfl
  iexists _; unfold owns; iexists _; isplitr
  swap; · iexact H28
  ipureintro; rfl

set_option maxHeartbeats 28800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10, before_11, before_12, before_13, before_14, before_15, before_16, before_17, before_18]
  rw [show (dats m 0 c).Φ t.castSucc = Phi c t.val from rfl, Phi, PhiA0_eq]
  by_cases h0 : t.val % 16 = 0
  · rw [body_first (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((first_iff t).mpr h0), wp_bind]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (opening_run (F := F) c scM0_0 (Memref.isWhole_whole _) scM0_1 (Memref.isWhole_whole _) scM0_2 (Memref.isWhole_whole _) scM0_3 (Memref.isWhole_whole _) scM0_4 scM0_5 Set.univ _)
    isplitl [HS0]; · iexact HS0
    isplitl [HS1]; · iexact HS1
    isplitl [HS2]; · iexact HS2
    isplitl [HS3]; · iexact HS3
    isplitl [HS4]; · iexact HS4
    isplitl [HS5]; · iexact HS5
    iintro ⟨⟨%es0, HS0⟩, ⟨%es1, HS1⟩, ⟨%es2, HS2⟩, ⟨%es3, HS3⟩, ⟨%es4, HS4⟩, ⟨%es5, HS5⟩⟩
    iapply (sound_rest m c t (scM0_0.view.read (Elt F) (scM0_0.view.writes (Elt F) es0 (head0 (F := F)))) (scM0_1.view.read (Elt F) (scM0_1.view.writes (Elt F) es1 (head1 (F := F)))) (scM0_2.view.read (Elt F) (scM0_2.view.writes (Elt F) es2 (head2 (F := F)))) (scM0_3.view.read (Elt F) (scM0_3.view.writes (Elt F) es3 (head3 (F := F)))) (scM0_4.view.read (Elt F) (scM0_4.view.writes (Elt F) es4 (head4 (F := F)))) (scM0_5.view.read (Elt F) (scM0_5.view.writes (Elt F) es5 (head5 (F := F)))))
    isplitl [HS0 HS1 HS2 HS3 HS4 HS5 HS6 HS7 HS8 HS9]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      isplitl [HS4]
      · unfold owns; iexists _; isplitr
        swap; · iexact HS4
        ipureintro; rfl
      isplitl [HS5]
      · unfold owns; iexists _; isplitr
        swap; · iexact HS5
        ipureintro; rfl
      isplitl [HS6]; · iexact HS6
      isplitl [HS7]; · iexact HS7
      isplitl [HS8]; · iexact HS8
      iexact HS9
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28
  · rw [body_later (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((first_iff t).mp h))]
    iintro ⟨⟨⟨⟨%xs0, HS0⟩, ⟨%xs1, HS1⟩, ⟨%xs2, HS2⟩, ⟨%xs3, HS3⟩, ⟨%xs4, HS4⟩, ⟨%xs5, HS5⟩, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (sound_rest m c t xs0 xs1 xs2 xs3 xs4 xs5)
    isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

theorem defs_row (t : Fin cfg0.N) :
    defs₀ (F := F) .tc cfg0.body (cfg0.bodyArgs t (cfg0.slots t)) = bodyAt0 t := by
  unfold defs₀; rw [Defs.onTc_tc]

set_option maxHeartbeats 28800000 in
theorem body_obligation (c : Dev nD) : BodyObligation (dats m 0 c) (defs₀ (F := F)) Variants.none () Set.univ forgets := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Phi c 0 from rfl, Phi]

theorem hout (c : Dev nD) : (dats m 0 c).Φ (Fin.last cfg0.N) ⊢ Pipeline.ΦA spec0 c := by
  rw [show (dats m 0 c).Φ (Fin.last cfg0.N) = Phi c (Fin.last cfg0.N).val from rfl, Phi]

set_option backward.isDefEq.respectTransparency.types false in
/-- The launch: every run ends with the arrays at what the data says and every counter at zero. -/
theorem run_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets) (V m)) :=
  (θ_run defs _ _).mono (fun _ h => h.1) (run_quiescent m ρ)

/-- The array of an input window holds at the end what it held when the pipeline was entered. -/
theorem kept (c : Dev nD) (w : Fin 29) (hw : forgets w = false ∧ w.val < 19) (X : Buf (Elt F) ((cfg0.win w).arr.view.loc (c.tc : Thread nD τ)))
    (h : ((dats m 0 c).toRForget forgets).ArrAt w cfg0.N X) : X = (dats m 0 c).A w :=
  (((dats m 0 c).toRForget_arrAt_iff hw.1 _ X).mp h).trans ((dats m 0 c).arrAt_in w ((by decide : ∀ v : Fin 29, v.val < 19 → (cfg0.win v).isOut = false) w hw.2) _)

set_option maxHeartbeats 8000000 in
/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(kept m c 1 (by decide) _ ((h c).1 1)).trans ((A_eq m c 1).trans (V_main_arg0 m c)),
      (kept m c 4 (by decide) _ ((h c).1 4)).trans ((A_eq m c 4).trans (V_main_arg1 m c)),
      (kept m c 5 (by decide) _ ((h c).1 5)).trans ((A_eq m c 5).trans (V_main_arg2 m c)),
      (kept m c 6 (by decide) _ ((h c).1 6)).trans ((A_eq m c 6).trans (V_main_arg3 m c)),
      (kept m c 7 (by decide) _ ((h c).1 7)).trans ((A_eq m c 7).trans (V_main_arg4 m c)),
      (kept m c 0 (by decide) _ ((h c).1 0)).trans ((A_eq m c 0).trans (V_main_arg5 m c)),
      (kept m c 8 (by decide) _ ((h c).1 8)).trans ((A_eq m c 8).trans (V_main_arg6 m c)),
      (kept m c 9 (by decide) _ ((h c).1 9)).trans ((A_eq m c 9).trans (V_main_arg7 m c)),
      (kept m c 10 (by decide) _ ((h c).1 10)).trans ((A_eq m c 10).trans (V_main_arg8 m c)),
      (kept m c 11 (by decide) _ ((h c).1 11)).trans ((A_eq m c 11).trans (V_main_arg9 m c)),
      (kept m c 12 (by decide) _ ((h c).1 12)).trans ((A_eq m c 12).trans (V_main_arg10 m c)),
      (kept m c 13 (by decide) _ ((h c).1 13)).trans ((A_eq m c 13).trans (V_main_arg11 m c)),
      (kept m c 14 (by decide) _ ((h c).1 14)).trans ((A_eq m c 14).trans (V_main_arg12 m c)),
      (kept m c 15 (by decide) _ ((h c).1 15)).trans ((A_eq m c 15).trans (V_main_arg13 m c)),
      (kept m c 16 (by decide) _ ((h c).1 16)).trans ((A_eq m c 16).trans (V_main_arg14 m c)),
      (kept m c 17 (by decide) _ ((h c).1 17)).trans ((A_eq m c 17).trans (V_main_arg15 m c)),
      (kept m c 18 (by decide) _ ((h c).1 18)).trans ((A_eq m c 18).trans (V_main_arg16 m c))⟩) (run_main m ρ)

/-- Every run ends, leaves the arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_quiescent m ρ))

end Cert.MixerBits

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_inputs
public import proofs.«01_k».proof.Proof.Gen.ReferenceIdeal.Run
public import proofs.«01_k».proof.Proof.Gen.Reference2Ideal.Run
public import proofs.«01_k».proof.Proof.Gen.Reference3Ideal.Run
public import proofs.«01_k».proof.Proof.Ffn.Claim
public import proofs.«01_k».proof.Proof.Attn.Claim
public import proofs.«01_k».proof.Proof.Mixer.Claim
public import proofs.«01_k».proof.Proof.MixerBits.Frame
public import Idealize.ShloMosaic.Adequacy
public import Idealize.ShloMosaic.Init

@[expose] public section

noncomputable section

namespace Cert.Proof

open Idealize.ShloMosaic Idealize.SL.Sem Cert.Kernel

/-- The references declare no semaphore, and their runs leave their arguments as they were. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

theorem frame_reference_pre : Cert.quiescent_ReferenceIdeal_pre_finite_scores := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ)

theorem frame_reference3_pre : Cert.quiescent_Reference3Ideal_pre_finite_inputs := fun m ρ _ =>
  (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ)

/-- The mixer's named constants are the constants the names stand for. -/
theorem preserves3 : Cert.preserves_Kernel3_Kernel3Ideal :=
  ⟨IdealRules.named_const.statement Cert.Kernel3Ideal.κ "qk_scale" .f32 0x3E38AA3B#32 (((1 / 8) * (Real.log 2)⁻¹ : ℝ) : EReal) rfl,
    IdealRules.named_const.statement Cert.Kernel3Ideal.κ "masked" .f32 0xF149F2CA#32 ⊥ rfl,
    IdealRules.named_const.statement Cert.Kernel3Ideal.κ "log2e" .f32 0x3FB8AA3B#32 (((Real.log 2)⁻¹ : ℝ) : EReal) rfl⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Attn.preFacts, Cert.Pre_finite_inputs.Gen.facts,
    fun m ρ _ => Cert.Kernel.Gen.frame m ρ, fun m ρ _ => Cert.KernelIdeal.Gen.frame m ρ,
    fun m ρ _ => Cert.KernelIdeal.Gen.frame m ρ, frame_reference, frame_reference_pre,
    fun m ρ _ => Cert.Kernel2.Gen.frame m ρ, fun m ρ _ => Cert.Kernel2Ideal.Gen.frame m ρ, frame_reference2,
    fun m ρ _ => Cert.MixerBits.frame m ρ, fun m ρ _ => Cert.Mixer.frame m ρ, fun m ρ _ => Cert.Mixer.frame m ρ,
    frame_reference3, frame_reference3_pre,
    trivial, Cert.Attn.algebraic, trivial, Cert.Ffn.algebraic, preserves3, Cert.Mixer.algebraic⟩

end Cert.Proof

end
